-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_ok [hPre_attn_ok : Cert.Pre_attn_ok.Facts] (m : (ℓ : Loc Cert.AttnIdeal.nD Cert.AttnIdeal.τ Cert.AttnIdeal.sig) → Buf (Elt Ideal) ℓ) : Prop :=
  ∀ c : Dev Cert.AttnIdeal.nD,
    (Cert.Pre_attn_ok.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_ok [hPre_attn_ok : Cert.Pre_attn_ok.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_ok.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_moe_ok [hPre_moe_ok : Cert.Pre_moe_ok.Facts] (m : (ℓ : Loc Cert.MoeIdeal.nD Cert.MoeIdeal.τ Cert.MoeIdeal.sig) → Buf (Elt Ideal) ℓ) : Prop :=
  ∀ c : Dev Cert.MoeIdeal.nD,
    (Cert.Pre_moe_ok.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_ok [hPre_moe_ok : Cert.Pre_moe_ok.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_ok.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Past (m : (ℓ : Loc Cert.Past.nD Cert.Past.τ Cert.Past.sig) → Buf (Elt Bits) ℓ) : Prop :=
  True

def Pre_PastIdeal (m : (ℓ : Loc Cert.PastIdeal.nD Cert.PastIdeal.τ Cert.PastIdeal.sig) → Buf (Elt Ideal) ℓ) : Prop :=
  True

def Pre_PastRefIdeal (m : (ℓ : Loc Cert.PastRefIdeal.nD Cert.PastRefIdeal.τ Cert.PastRefIdeal.sig) → Buf (Elt Ideal) ℓ) : Prop :=
  True

def Pre_Dsa (m : (ℓ : Loc Cert.Dsa.nD Cert.Dsa.τ Cert.Dsa.sig) → Buf (Elt Bits) ℓ) : Prop :=
  True

def Pre_DsaIdeal (m : (ℓ : Loc Cert.DsaIdeal.nD Cert.DsaIdeal.τ Cert.DsaIdeal.sig) → Buf (Elt Ideal) ℓ) : Prop :=
  True

def Pre_DsaIdeal_dsa_ok [hPre_dsa_ok : Cert.Pre_dsa_ok.Facts] (m : (ℓ : Loc Cert.DsaIdeal.nD Cert.DsaIdeal.τ Cert.DsaIdeal.sig) → Buf (Elt Ideal) ℓ) : Prop :=
  ∀ c : Dev Cert.DsaIdeal.nD,
    (Cert.Pre_dsa_ok.fn (F := Ideal) (m ((c.tc : Thread Cert.DsaIdeal.nD Cert.DsaIdeal.τ).loc Cert.DsaIdeal.main_arg0))) = (fun _ => 1#1)

def Pre_DsaRefIdeal (m : (ℓ : Loc Cert.DsaRefIdeal.nD Cert.DsaRefIdeal.τ Cert.DsaRefIdeal.sig) → Buf (Elt Ideal) ℓ) : Prop :=
  True

def Pre_DsaRefIdeal_dsa_ok [hPre_dsa_ok : Cert.Pre_dsa_ok.Facts] (m : (ℓ : Loc Cert.DsaRefIdeal.nD Cert.DsaRefIdeal.τ Cert.DsaRefIdeal.sig) → Buf (Elt Ideal) ℓ) : Prop :=
  ∀ c : Dev Cert.DsaRefIdeal.nD,
    (Cert.Pre_dsa_ok.fn (F := Ideal) (m ((c.tc : Thread Cert.DsaRefIdeal.nD Cert.DsaRefIdeal.τ).loc Cert.DsaRefIdeal.main_arg0))) = (fun _ => 1#1)

def Pre_DsaPrompt (m : (ℓ : Loc Cert.DsaPrompt.nD Cert.DsaPrompt.τ Cert.DsaPrompt.sig) → Buf (Elt Bits) ℓ) : Prop :=
  True

def Pre_DsaPromptIdeal (m : (ℓ : Loc Cert.DsaPromptIdeal.nD Cert.DsaPromptIdeal.τ Cert.DsaPromptIdeal.sig) → Buf (Elt Ideal) ℓ) : Prop :=
  True

def Pre_DsaPromptIdeal_dsa_prompt_ok [hPre_dsa_prompt_ok : Cert.Pre_dsa_prompt_ok.Facts] (m : (ℓ : Loc Cert.DsaPromptIdeal.nD Cert.DsaPromptIdeal.τ Cert.DsaPromptIdeal.sig) → Buf (Elt Ideal) ℓ) : Prop :=
  ∀ c : Dev Cert.DsaPromptIdeal.nD,
    (Cert.Pre_dsa_prompt_ok.fn (F := Ideal) (m ((c.tc : Thread Cert.DsaPromptIdeal.nD Cert.DsaPromptIdeal.τ).loc Cert.DsaPromptIdeal.main_arg0))) = (fun _ => 1#1)

def Pre_DsaPromptRefIdeal (m : (ℓ : Loc Cert.DsaPromptRefIdeal.nD Cert.DsaPromptRefIdeal.τ Cert.DsaPromptRefIdeal.sig) → Buf (Elt Ideal) ℓ) : Prop :=
  True

def Pre_DsaPromptRefIdeal_dsa_prompt_ok [hPre_dsa_prompt_ok : Cert.Pre_dsa_prompt_ok.Facts] (m : (ℓ : Loc Cert.DsaPromptRefIdeal.nD Cert.DsaPromptRefIdeal.τ Cert.DsaPromptRefIdeal.sig) → Buf (Elt Ideal) ℓ) : Prop :=
  ∀ c : Dev Cert.DsaPromptRefIdeal.nD,
    (Cert.Pre_dsa_prompt_ok.fn (F := Ideal) (m ((c.tc : Thread Cert.DsaPromptRefIdeal.nD Cert.DsaPromptRefIdeal.τ).loc Cert.DsaPromptRefIdeal.main_arg0))) = (fun _ => 1#1)

def Pre_PrepPrompt (m : (ℓ : Loc Cert.PrepPrompt.nD Cert.PrepPrompt.τ Cert.PrepPrompt.sig) → Buf (Elt Bits) ℓ) : Prop :=
  True

def Pre_PrepPromptIdeal (m : (ℓ : Loc Cert.PrepPromptIdeal.nD Cert.PrepPromptIdeal.τ Cert.PrepPromptIdeal.sig) → Buf (Elt Ideal) ℓ) : Prop :=
  True

def Pre_PrepPromptRefIdeal (m : (ℓ : Loc Cert.PrepPromptRefIdeal.nD Cert.PrepPromptRefIdeal.τ Cert.PrepPromptRefIdeal.sig) → Buf (Elt Ideal) ℓ) : Prop :=
  True

def Pre_ProjPrompt (m : (ℓ : Loc Cert.ProjPrompt.nD Cert.ProjPrompt.τ Cert.ProjPrompt.sig) → Buf (Elt Bits) ℓ) : Prop :=
  True

def Pre_ProjPromptIdeal (m : (ℓ : Loc Cert.ProjPromptIdeal.nD Cert.ProjPromptIdeal.τ Cert.ProjPromptIdeal.sig) → Buf (Elt Ideal) ℓ) : Prop :=
  True

def Pre_ProjPromptRefIdeal (m : (ℓ : Loc Cert.ProjPromptRefIdeal.nD Cert.ProjPromptRefIdeal.τ Cert.ProjPromptRefIdeal.sig) → Buf (Elt Ideal) ℓ) : Prop :=
  True

def Pre_MoePrompt (m : (ℓ : Loc Cert.MoePrompt.nD Cert.MoePrompt.τ Cert.MoePrompt.sig) → Buf (Elt Bits) ℓ) : Prop :=
  True

def Pre_MoePromptIdeal (m : (ℓ : Loc Cert.MoePromptIdeal.nD Cert.MoePromptIdeal.τ Cert.MoePromptIdeal.sig) → Buf (Elt Ideal) ℓ) : Prop :=
  True

def Pre_MoePromptIdeal_moe_prompt_ok [hPre_moe_prompt_ok : Cert.Pre_moe_prompt_ok.Facts] (m : (ℓ : Loc Cert.MoePromptIdeal.nD Cert.MoePromptIdeal.τ Cert.MoePromptIdeal.sig) → Buf (Elt Ideal) ℓ) : Prop :=
  ∀ c : Dev Cert.MoePromptIdeal.nD,
    (Cert.Pre_moe_prompt_ok.fn (F := Ideal) (m ((c.tc : Thread Cert.MoePromptIdeal.nD Cert.MoePromptIdeal.τ).loc Cert.MoePromptIdeal.main_arg0)) (m ((c.tc : Thread Cert.MoePromptIdeal.nD Cert.MoePromptIdeal.τ).loc Cert.MoePromptIdeal.main_arg1)) (m ((c.tc : Thread Cert.MoePromptIdeal.nD Cert.MoePromptIdeal.τ).loc Cert.MoePromptIdeal.main_arg2)) (m ((c.tc : Thread Cert.MoePromptIdeal.nD Cert.MoePromptIdeal.τ).loc Cert.MoePromptIdeal.main_arg3)) (m ((c.tc : Thread Cert.MoePromptIdeal.nD Cert.MoePromptIdeal.τ).loc Cert.MoePromptIdeal.main_arg4)) (m ((c.tc : Thread Cert.MoePromptIdeal.nD Cert.MoePromptIdeal.τ).loc Cert.MoePromptIdeal.main_arg5)) (m ((c.tc : Thread Cert.MoePromptIdeal.nD Cert.MoePromptIdeal.τ).loc Cert.MoePromptIdeal.main_arg6))) = (fun _ => 1#1)

def Pre_MoePromptRefIdeal (m : (ℓ : Loc Cert.MoePromptRefIdeal.nD Cert.MoePromptRefIdeal.τ Cert.MoePromptRefIdeal.sig) → Buf (Elt Ideal) ℓ) : Prop :=
  True

def Pre_MoePromptRefIdeal_moe_prompt_ok [hPre_moe_prompt_ok : Cert.Pre_moe_prompt_ok.Facts] (m : (ℓ : Loc Cert.MoePromptRefIdeal.nD Cert.MoePromptRefIdeal.τ Cert.MoePromptRefIdeal.sig) → Buf (Elt Ideal) ℓ) : Prop :=
  ∀ c : Dev Cert.MoePromptRefIdeal.nD,
    (Cert.Pre_moe_prompt_ok.fn (F := Ideal) (m ((c.tc : Thread Cert.MoePromptRefIdeal.nD Cert.MoePromptRefIdeal.τ).loc Cert.MoePromptRefIdeal.main_arg0)) (m ((c.tc : Thread Cert.MoePromptRefIdeal.nD Cert.MoePromptRefIdeal.τ).loc Cert.MoePromptRefIdeal.main_arg1)) (m ((c.tc : Thread Cert.MoePromptRefIdeal.nD Cert.MoePromptRefIdeal.τ).loc Cert.MoePromptRefIdeal.main_arg2)) (m ((c.tc : Thread Cert.MoePromptRefIdeal.nD Cert.MoePromptRefIdeal.τ).loc Cert.MoePromptRefIdeal.main_arg3)) (m ((c.tc : Thread Cert.MoePromptRefIdeal.nD Cert.MoePromptRefIdeal.τ).loc Cert.MoePromptRefIdeal.main_arg4)) (m ((c.tc : Thread Cert.MoePromptRefIdeal.nD Cert.MoePromptRefIdeal.τ).loc Cert.MoePromptRefIdeal.main_arg5)) (m ((c.tc : Thread Cert.MoePromptRefIdeal.nD Cert.MoePromptRefIdeal.τ).loc Cert.MoePromptRefIdeal.main_arg6))) = (fun _ => 1#1)

def Pre_OutPrompt (m : (ℓ : Loc Cert.OutPrompt.nD Cert.OutPrompt.τ Cert.OutPrompt.sig) → Buf (Elt Bits) ℓ) : Prop :=
  True

def Pre_OutPromptIdeal (m : (ℓ : Loc Cert.OutPromptIdeal.nD Cert.OutPromptIdeal.τ Cert.OutPromptIdeal.sig) → Buf (Elt Ideal) ℓ) : Prop :=
  True

def Pre_OutPromptRefIdeal (m : (ℓ : Loc Cert.OutPromptRefIdeal.nD Cert.OutPromptRefIdeal.τ Cert.OutPromptRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_ok [hAttnIdeal : Cert.AttnIdeal.Facts] [hPre_attn_ok : Cert.Pre_attn_ok.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_ok m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_ok [hAttnRefIdeal : Cert.AttnRefIdeal.Facts] [hPre_attn_ok : Cert.Pre_attn_ok.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_ok m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_moe_ok [hMoeIdeal : Cert.MoeIdeal.Facts] [hPre_moe_ok : Cert.Pre_moe_ok.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_moe_ok m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_moe_ok [hMoeRefIdeal : Cert.MoeRefIdeal.Facts] [hPre_moe_ok : Cert.Pre_moe_ok.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_ok m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_Past [hPast : Cert.Past.Facts] : Prop :=
  ∀ (m : (ℓ : Loc Cert.Past.nD Cert.Past.τ Cert.Past.sig) → Buf (Elt Bits) ℓ) (g : Dev Cert.Past.nD → PrngReg), Pre_Past m →
    θ_run (Cert.Past.defs (F := Bits)) (onTc (τ := Cert.Past.τ) (Cert.Past.main (F := Bits))) ⟨m, fun _ => 0, g⟩ (fun r => (∀ c : Dev Cert.Past.nD,
      r.2.mem ((c.tc : Thread Cert.Past.nD Cert.Past.τ).loc Cert.Past.main_arg0) = m ((c.tc : Thread Cert.Past.nD Cert.Past.τ).loc Cert.Past.main_arg0)
      ∧ r.2.mem ((c.tc : Thread Cert.Past.nD Cert.Past.τ).loc Cert.Past.main_arg1) = m ((c.tc : Thread Cert.Past.nD Cert.Past.τ).loc Cert.Past.main_arg1)
      ∧ r.2.mem ((c.tc : Thread Cert.Past.nD Cert.Past.τ).loc Cert.Past.main_arg2) = m ((c.tc : Thread Cert.Past.nD Cert.Past.τ).loc Cert.Past.main_arg2))
      ∧ r.2.sem = fun _ => 0)

def quiescent_PastIdeal [hPastIdeal : Cert.PastIdeal.Facts] : Prop :=
  ∀ (m : (ℓ : Loc Cert.PastIdeal.nD Cert.PastIdeal.τ Cert.PastIdeal.sig) → Buf (Elt Ideal) ℓ) (g : Dev Cert.PastIdeal.nD → PrngReg), Pre_PastIdeal m →
    θ_run (Cert.PastIdeal.defs (F := Ideal)) (onTc (τ := Cert.PastIdeal.τ) (Cert.PastIdeal.main (F := Ideal))) ⟨m, fun _ => 0, g⟩ (fun r => (∀ c : Dev Cert.PastIdeal.nD,
      r.2.mem ((c.tc : Thread Cert.PastIdeal.nD Cert.PastIdeal.τ).loc Cert.PastIdeal.main_arg0) = m ((c.tc : Thread Cert.PastIdeal.nD Cert.PastIdeal.τ).loc Cert.PastIdeal.main_arg0)
      ∧ r.2.mem ((c.tc : Thread Cert.PastIdeal.nD Cert.PastIdeal.τ).loc Cert.PastIdeal.main_arg1) = m ((c.tc : Thread Cert.PastIdeal.nD Cert.PastIdeal.τ).loc Cert.PastIdeal.main_arg1)
      ∧ r.2.mem ((c.tc : Thread Cert.PastIdeal.nD Cert.PastIdeal.τ).loc Cert.PastIdeal.main_arg2) = m ((c.tc : Thread Cert.PastIdeal.nD Cert.PastIdeal.τ).loc Cert.PastIdeal.main_arg2))
      ∧ r.2.sem = fun _ => 0)

def quiescent_PastRefIdeal [hPastRefIdeal : Cert.PastRefIdeal.Facts] : Prop :=
  ∀ (m : (ℓ : Loc Cert.PastRefIdeal.nD Cert.PastRefIdeal.τ Cert.PastRefIdeal.sig) → Buf (Elt Ideal) ℓ) (g : Dev Cert.PastRefIdeal.nD → PrngReg), Pre_PastRefIdeal m →
    θ_run (Cert.PastRefIdeal.defs (F := Ideal)) (onTc (τ := Cert.PastRefIdeal.τ) (Cert.PastRefIdeal.main (F := Ideal))) ⟨m, fun _ => 0, g⟩ (fun r => (∀ c : Dev Cert.PastRefIdeal.nD,
      r.2.mem ((c.tc : Thread Cert.PastRefIdeal.nD Cert.PastRefIdeal.τ).loc Cert.PastRefIdeal.main_arg0) = m ((c.tc : Thread Cert.PastRefIdeal.nD Cert.PastRefIdeal.τ).loc Cert.PastRefIdeal.main_arg0)
      ∧ r.2.mem ((c.tc : Thread Cert.PastRefIdeal.nD Cert.PastRefIdeal.τ).loc Cert.PastRefIdeal.main_arg1) = m ((c.tc : Thread Cert.PastRefIdeal.nD Cert.PastRefIdeal.τ).loc Cert.PastRefIdeal.main_arg1)
      ∧ r.2.mem ((c.tc : Thread Cert.PastRefIdeal.nD Cert.PastRefIdeal.τ).loc Cert.PastRefIdeal.main_arg2) = m ((c.tc : Thread Cert.PastRefIdeal.nD Cert.PastRefIdeal.τ).loc Cert.PastRefIdeal.main_arg2))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0))
      ∧ r.2.sem = fun _ => 0)

def quiescent_DsaIdeal [hDsaIdeal : Cert.DsaIdeal.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0))
      ∧ r.2.sem = fun _ => 0)

def quiescent_DsaIdeal_pre_dsa_ok [hDsaIdeal : Cert.DsaIdeal.Facts] [hPre_dsa_ok : Cert.Pre_dsa_ok.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal_dsa_ok m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0))
      ∧ r.2.sem = fun _ => 0)

def quiescent_DsaRefIdeal [hDsaRefIdeal : Cert.DsaRefIdeal.Facts] : Prop :=
  ∀ (m : (ℓ : Loc Cert.DsaRefIdeal.nD Cert.DsaRefIdeal.τ Cert.DsaRefIdeal.sig) → Buf (Elt Ideal) ℓ) (g : Dev Cert.DsaRefIdeal.nD → PrngReg), Pre_DsaRefIdeal m →
    θ_run (Cert.DsaRefIdeal.defs (F := Ideal)) (onTc (τ := Cert.DsaRefIdeal.τ) (Cert.DsaRefIdeal.main (F := Ideal))) ⟨m, fun _ => 0, g⟩ (fun r => (∀ c : Dev Cert.DsaRefIdeal.nD,
      r.2.mem ((c.tc : Thread Cert.DsaRefIdeal.nD Cert.DsaRefIdeal.τ).loc Cert.DsaRefIdeal.main_arg0) = m ((c.tc : Thread Cert.DsaRefIdeal.nD Cert.DsaRefIdeal.τ).loc Cert.DsaRefIdeal.main_arg0))
      ∧ r.2.sem = fun _ => 0)

def quiescent_DsaRefIdeal_pre_dsa_ok [hDsaRefIdeal : Cert.DsaRefIdeal.Facts] [hPre_dsa_ok : Cert.Pre_dsa_ok.Facts] : Prop :=
  ∀ (m : (ℓ : Loc Cert.DsaRefIdeal.nD Cert.DsaRefIdeal.τ Cert.DsaRefIdeal.sig) → Buf (Elt Ideal) ℓ) (g : Dev Cert.DsaRefIdeal.nD → PrngReg), Pre_DsaRefIdeal_dsa_ok m →
    θ_run (Cert.DsaRefIdeal.defs (F := Ideal)) (onTc (τ := Cert.DsaRefIdeal.τ) (Cert.DsaRefIdeal.main (F := Ideal))) ⟨m, fun _ => 0, g⟩ (fun r => (∀ c : Dev Cert.DsaRefIdeal.nD,
      r.2.mem ((c.tc : Thread Cert.DsaRefIdeal.nD Cert.DsaRefIdeal.τ).loc Cert.DsaRefIdeal.main_arg0) = m ((c.tc : Thread Cert.DsaRefIdeal.nD Cert.DsaRefIdeal.τ).loc Cert.DsaRefIdeal.main_arg0))
      ∧ r.2.sem = fun _ => 0)

def quiescent_DsaPrompt [hDsaPrompt : Cert.DsaPrompt.Facts] : Prop :=
  ∀ (m : (ℓ : Loc Cert.DsaPrompt.nD Cert.DsaPrompt.τ Cert.DsaPrompt.sig) → Buf (Elt Bits) ℓ) (g : Dev Cert.DsaPrompt.nD → PrngReg), Pre_DsaPrompt m →
    θ_run (Cert.DsaPrompt.defs (F := Bits)) (onTc (τ := Cert.DsaPrompt.τ) (Cert.DsaPrompt.main (F := Bits))) ⟨m, fun _ => 0, g⟩ (fun r => (∀ c : Dev Cert.DsaPrompt.nD,
      r.2.mem ((c.tc : Thread Cert.DsaPrompt.nD Cert.DsaPrompt.τ).loc Cert.DsaPrompt.main_arg0) = m ((c.tc : Thread Cert.DsaPrompt.nD Cert.DsaPrompt.τ).loc Cert.DsaPrompt.main_arg0))
      ∧ r.2.sem = fun _ => 0)

def quiescent_DsaPromptIdeal [hDsaPromptIdeal : Cert.DsaPromptIdeal.Facts] : Prop :=
  ∀ (m : (ℓ : Loc Cert.DsaPromptIdeal.nD Cert.DsaPromptIdeal.τ Cert.DsaPromptIdeal.sig) → Buf (Elt Ideal) ℓ) (g : Dev Cert.DsaPromptIdeal.nD → PrngReg), Pre_DsaPromptIdeal m →
    θ_run (Cert.DsaPromptIdeal.defs (F := Ideal)) (onTc (τ := Cert.DsaPromptIdeal.τ) (Cert.DsaPromptIdeal.main (F := Ideal))) ⟨m, fun _ => 0, g⟩ (fun r => (∀ c : Dev Cert.DsaPromptIdeal.nD,
      r.2.mem ((c.tc : Thread Cert.DsaPromptIdeal.nD Cert.DsaPromptIdeal.τ).loc Cert.DsaPromptIdeal.main_arg0) = m ((c.tc : Thread Cert.DsaPromptIdeal.nD Cert.DsaPromptIdeal.τ).loc Cert.DsaPromptIdeal.main_arg0))
      ∧ r.2.sem = fun _ => 0)

def quiescent_DsaPromptIdeal_pre_dsa_prompt_ok [hDsaPromptIdeal : Cert.DsaPromptIdeal.Facts] [hPre_dsa_prompt_ok : Cert.Pre_dsa_prompt_ok.Facts] : Prop :=
  ∀ (m : (ℓ : Loc Cert.DsaPromptIdeal.nD Cert.DsaPromptIdeal.τ Cert.DsaPromptIdeal.sig) → Buf (Elt Ideal) ℓ) (g : Dev Cert.DsaPromptIdeal.nD → PrngReg), Pre_DsaPromptIdeal_dsa_prompt_ok m →
    θ_run (Cert.DsaPromptIdeal.defs (F := Ideal)) (onTc (τ := Cert.DsaPromptIdeal.τ) (Cert.DsaPromptIdeal.main (F := Ideal))) ⟨m, fun _ => 0, g⟩ (fun r => (∀ c : Dev Cert.DsaPromptIdeal.nD,
      r.2.mem ((c.tc : Thread Cert.DsaPromptIdeal.nD Cert.DsaPromptIdeal.τ).loc Cert.DsaPromptIdeal.main_arg0) = m ((c.tc : Thread Cert.DsaPromptIdeal.nD Cert.DsaPromptIdeal.τ).loc Cert.DsaPromptIdeal.main_arg0))
      ∧ r.2.sem = fun _ => 0)

def quiescent_DsaPromptRefIdeal [hDsaPromptRefIdeal : Cert.DsaPromptRefIdeal.Facts] : Prop :=
  ∀ (m : (ℓ : Loc Cert.DsaPromptRefIdeal.nD Cert.DsaPromptRefIdeal.τ Cert.DsaPromptRefIdeal.sig) → Buf (Elt Ideal) ℓ) (g : Dev Cert.DsaPromptRefIdeal.nD → PrngReg), Pre_DsaPromptRefIdeal m →
    θ_run (Cert.DsaPromptRefIdeal.defs (F := Ideal)) (onTc (τ := Cert.DsaPromptRefIdeal.τ) (Cert.DsaPromptRefIdeal.main (F := Ideal))) ⟨m, fun _ => 0, g⟩ (fun r => (∀ c : Dev Cert.DsaPromptRefIdeal.nD,
      r.2.mem ((c.tc : Thread Cert.DsaPromptRefIdeal.nD Cert.DsaPromptRefIdeal.τ).loc Cert.DsaPromptRefIdeal.main_arg0) = m ((c.tc : Thread Cert.DsaPromptRefIdeal.nD Cert.DsaPromptRefIdeal.τ).loc Cert.DsaPromptRefIdeal.main_arg0))
      ∧ r.2.sem = fun _ => 0)

def quiescent_DsaPromptRefIdeal_pre_dsa_prompt_ok [hDsaPromptRefIdeal : Cert.DsaPromptRefIdeal.Facts] [hPre_dsa_prompt_ok : Cert.Pre_dsa_prompt_ok.Facts] : Prop :=
  ∀ (m : (ℓ : Loc Cert.DsaPromptRefIdeal.nD Cert.DsaPromptRefIdeal.τ Cert.DsaPromptRefIdeal.sig) → Buf (Elt Ideal) ℓ) (g : Dev Cert.DsaPromptRefIdeal.nD → PrngReg), Pre_DsaPromptRefIdeal_dsa_prompt_ok m →
    θ_run (Cert.DsaPromptRefIdeal.defs (F := Ideal)) (onTc (τ := Cert.DsaPromptRefIdeal.τ) (Cert.DsaPromptRefIdeal.main (F := Ideal))) ⟨m, fun _ => 0, g⟩ (fun r => (∀ c : Dev Cert.DsaPromptRefIdeal.nD,
      r.2.mem ((c.tc : Thread Cert.DsaPromptRefIdeal.nD Cert.DsaPromptRefIdeal.τ).loc Cert.DsaPromptRefIdeal.main_arg0) = m ((c.tc : Thread Cert.DsaPromptRefIdeal.nD Cert.DsaPromptRefIdeal.τ).loc Cert.DsaPromptRefIdeal.main_arg0))
      ∧ r.2.sem = fun _ => 0)

def quiescent_PrepPrompt [hPrepPrompt : Cert.PrepPrompt.Facts] : Prop :=
  ∀ (m : (ℓ : Loc Cert.PrepPrompt.nD Cert.PrepPrompt.τ Cert.PrepPrompt.sig) → Buf (Elt Bits) ℓ) (g : Dev Cert.PrepPrompt.nD → PrngReg), Pre_PrepPrompt m →
    θ_run (Cert.PrepPrompt.defs (F := Bits)) (onTc (τ := Cert.PrepPrompt.τ) (Cert.PrepPrompt.main (F := Bits))) ⟨m, fun _ => 0, g⟩ (fun r => (∀ c : Dev Cert.PrepPrompt.nD,
      r.2.mem ((c.tc : Thread Cert.PrepPrompt.nD Cert.PrepPrompt.τ).loc Cert.PrepPrompt.main_arg0) = m ((c.tc : Thread Cert.PrepPrompt.nD Cert.PrepPrompt.τ).loc Cert.PrepPrompt.main_arg0)
      ∧ r.2.mem ((c.tc : Thread Cert.PrepPrompt.nD Cert.PrepPrompt.τ).loc Cert.PrepPrompt.main_arg1) = m ((c.tc : Thread Cert.PrepPrompt.nD Cert.PrepPrompt.τ).loc Cert.PrepPrompt.main_arg1)
      ∧ r.2.mem ((c.tc : Thread Cert.PrepPrompt.nD Cert.PrepPrompt.τ).loc Cert.PrepPrompt.main_arg2) = m ((c.tc : Thread Cert.PrepPrompt.nD Cert.PrepPrompt.τ).loc Cert.PrepPrompt.main_arg2)
      ∧ r.2.mem ((c.tc : Thread Cert.PrepPrompt.nD Cert.PrepPrompt.τ).loc Cert.PrepPrompt.main_arg3) = m ((c.tc : Thread Cert.PrepPrompt.nD Cert.PrepPrompt.τ).loc Cert.PrepPrompt.main_arg3)
      ∧ r.2.mem ((c.tc : Thread Cert.PrepPrompt.nD Cert.PrepPrompt.τ).loc Cert.PrepPrompt.main_arg4) = m ((c.tc : Thread Cert.PrepPrompt.nD Cert.PrepPrompt.τ).loc Cert.PrepPrompt.main_arg4))
      ∧ r.2.sem = fun _ => 0)

def quiescent_PrepPromptIdeal [hPrepPromptIdeal : Cert.PrepPromptIdeal.Facts] : Prop :=
  ∀ (m : (ℓ : Loc Cert.PrepPromptIdeal.nD Cert.PrepPromptIdeal.τ Cert.PrepPromptIdeal.sig) → Buf (Elt Ideal) ℓ) (g : Dev Cert.PrepPromptIdeal.nD → PrngReg), Pre_PrepPromptIdeal m →
    θ_run (Cert.PrepPromptIdeal.defs (F := Ideal)) (onTc (τ := Cert.PrepPromptIdeal.τ) (Cert.PrepPromptIdeal.main (F := Ideal))) ⟨m, fun _ => 0, g⟩ (fun r => (∀ c : Dev Cert.PrepPromptIdeal.nD,
      r.2.mem ((c.tc : Thread Cert.PrepPromptIdeal.nD Cert.PrepPromptIdeal.τ).loc Cert.PrepPromptIdeal.main_arg0) = m ((c.tc : Thread Cert.PrepPromptIdeal.nD Cert.PrepPromptIdeal.τ).loc Cert.PrepPromptIdeal.main_arg0)
      ∧ r.2.mem ((c.tc : Thread Cert.PrepPromptIdeal.nD Cert.PrepPromptIdeal.τ).loc Cert.PrepPromptIdeal.main_arg1) = m ((c.tc : Thread Cert.PrepPromptIdeal.nD Cert.PrepPromptIdeal.τ).loc Cert.PrepPromptIdeal.main_arg1)
      ∧ r.2.mem ((c.tc : Thread Cert.PrepPromptIdeal.nD Cert.PrepPromptIdeal.τ).loc Cert.PrepPromptIdeal.main_arg2) = m ((c.tc : Thread Cert.PrepPromptIdeal.nD Cert.PrepPromptIdeal.τ).loc Cert.PrepPromptIdeal.main_arg2)
      ∧ r.2.mem ((c.tc : Thread Cert.PrepPromptIdeal.nD Cert.PrepPromptIdeal.τ).loc Cert.PrepPromptIdeal.main_arg3) = m ((c.tc : Thread Cert.PrepPromptIdeal.nD Cert.PrepPromptIdeal.τ).loc Cert.PrepPromptIdeal.main_arg3)
      ∧ r.2.mem ((c.tc : Thread Cert.PrepPromptIdeal.nD Cert.PrepPromptIdeal.τ).loc Cert.PrepPromptIdeal.main_arg4) = m ((c.tc : Thread Cert.PrepPromptIdeal.nD Cert.PrepPromptIdeal.τ).loc Cert.PrepPromptIdeal.main_arg4))
      ∧ r.2.sem = fun _ => 0)

def quiescent_PrepPromptRefIdeal [hPrepPromptRefIdeal : Cert.PrepPromptRefIdeal.Facts] : Prop :=
  ∀ (m : (ℓ : Loc Cert.PrepPromptRefIdeal.nD Cert.PrepPromptRefIdeal.τ Cert.PrepPromptRefIdeal.sig) → Buf (Elt Ideal) ℓ) (g : Dev Cert.PrepPromptRefIdeal.nD → PrngReg), Pre_PrepPromptRefIdeal m →
    θ_run (Cert.PrepPromptRefIdeal.defs (F := Ideal)) (onTc (τ := Cert.PrepPromptRefIdeal.τ) (Cert.PrepPromptRefIdeal.main (F := Ideal))) ⟨m, fun _ => 0, g⟩ (fun r => (∀ c : Dev Cert.PrepPromptRefIdeal.nD,
      r.2.mem ((c.tc : Thread Cert.PrepPromptRefIdeal.nD Cert.PrepPromptRefIdeal.τ).loc Cert.PrepPromptRefIdeal.main_arg0) = m ((c.tc : Thread Cert.PrepPromptRefIdeal.nD Cert.PrepPromptRefIdeal.τ).loc Cert.PrepPromptRefIdeal.main_arg0)
      ∧ r.2.mem ((c.tc : Thread Cert.PrepPromptRefIdeal.nD Cert.PrepPromptRefIdeal.τ).loc Cert.PrepPromptRefIdeal.main_arg1) = m ((c.tc : Thread Cert.PrepPromptRefIdeal.nD Cert.PrepPromptRefIdeal.τ).loc Cert.PrepPromptRefIdeal.main_arg1)
      ∧ r.2.mem ((c.tc : Thread Cert.PrepPromptRefIdeal.nD Cert.PrepPromptRefIdeal.τ).loc Cert.PrepPromptRefIdeal.main_arg2) = m ((c.tc : Thread Cert.PrepPromptRefIdeal.nD Cert.PrepPromptRefIdeal.τ).loc Cert.PrepPromptRefIdeal.main_arg2)
      ∧ r.2.mem ((c.tc : Thread Cert.PrepPromptRefIdeal.nD Cert.PrepPromptRefIdeal.τ).loc Cert.PrepPromptRefIdeal.main_arg3) = m ((c.tc : Thread Cert.PrepPromptRefIdeal.nD Cert.PrepPromptRefIdeal.τ).loc Cert.PrepPromptRefIdeal.main_arg3)
      ∧ r.2.mem ((c.tc : Thread Cert.PrepPromptRefIdeal.nD Cert.PrepPromptRefIdeal.τ).loc Cert.PrepPromptRefIdeal.main_arg4) = m ((c.tc : Thread Cert.PrepPromptRefIdeal.nD Cert.PrepPromptRefIdeal.τ).loc Cert.PrepPromptRefIdeal.main_arg4))
      ∧ r.2.sem = fun _ => 0)

def quiescent_ProjPrompt [hProjPrompt : Cert.ProjPrompt.Facts] : Prop :=
  ∀ (m : (ℓ : Loc Cert.ProjPrompt.nD Cert.ProjPrompt.τ Cert.ProjPrompt.sig) → Buf (Elt Bits) ℓ) (g : Dev Cert.ProjPrompt.nD → PrngReg), Pre_ProjPrompt m →
    θ_run (Cert.ProjPrompt.defs (F := Bits)) (onTc (τ := Cert.ProjPrompt.τ) (Cert.ProjPrompt.main (F := Bits))) ⟨m, fun _ => 0, g⟩ (fun r => (∀ c : Dev Cert.ProjPrompt.nD,
      r.2.mem ((c.tc : Thread Cert.ProjPrompt.nD Cert.ProjPrompt.τ).loc Cert.ProjPrompt.main_arg0) = m ((c.tc : Thread Cert.ProjPrompt.nD Cert.ProjPrompt.τ).loc Cert.ProjPrompt.main_arg0)
      ∧ r.2.mem ((c.tc : Thread Cert.ProjPrompt.nD Cert.ProjPrompt.τ).loc Cert.ProjPrompt.main_arg1) = m ((c.tc : Thread Cert.ProjPrompt.nD Cert.ProjPrompt.τ).loc Cert.ProjPrompt.main_arg1))
      ∧ r.2.sem = fun _ => 0)

def quiescent_ProjPromptIdeal [hProjPromptIdeal : Cert.ProjPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg), Pre_ProjPromptIdeal m →
    θ_run (Cert.ProjPromptIdeal.defs (F := Ideal)) (onTc (τ := Cert.ProjPromptIdeal.τ) (Cert.ProjPromptIdeal.main (F := Ideal))) ⟨m, fun _ => 0, g⟩ (fun r => (∀ c : Dev Cert.ProjPromptIdeal.nD,
      r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
      ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1))
      ∧ r.2.sem = fun _ => 0)

def quiescent_ProjPromptRefIdeal [hProjPromptRefIdeal : Cert.ProjPromptRefIdeal.Facts] : Prop :=
  ∀ (m : (ℓ : Loc Cert.ProjPromptRefIdeal.nD Cert.ProjPromptRefIdeal.τ Cert.ProjPromptRefIdeal.sig) → Buf (Elt Ideal) ℓ) (g : Dev Cert.ProjPromptRefIdeal.nD → PrngReg), Pre_ProjPromptRefIdeal m →
    θ_run (Cert.ProjPromptRefIdeal.defs (F := Ideal)) (onTc (τ := Cert.ProjPromptRefIdeal.τ) (Cert.ProjPromptRefIdeal.main (F := Ideal))) ⟨m, fun _ => 0, g⟩ (fun r => (∀ c : Dev Cert.ProjPromptRefIdeal.nD,
      r.2.mem ((c.tc : Thread Cert.ProjPromptRefIdeal.nD Cert.ProjPromptRefIdeal.τ).loc Cert.ProjPromptRefIdeal.main_arg0) = m ((c.tc : Thread Cert.ProjPromptRefIdeal.nD Cert.ProjPromptRefIdeal.τ).loc Cert.ProjPromptRefIdeal.main_arg0)
      ∧ r.2.mem ((c.tc : Thread Cert.ProjPromptRefIdeal.nD Cert.ProjPromptRefIdeal.τ).loc Cert.ProjPromptRefIdeal.main_arg1) = m ((c.tc : Thread Cert.ProjPromptRefIdeal.nD Cert.ProjPromptRefIdeal.τ).loc Cert.ProjPromptRefIdeal.main_arg1))
      ∧ r.2.sem = fun _ => 0)

def quiescent_MoePrompt [hMoePrompt : Cert.MoePrompt.Facts] : Prop :=
  ∀ (m : (ℓ : Loc Cert.MoePrompt.nD Cert.MoePrompt.τ Cert.MoePrompt.sig) → Buf (Elt Bits) ℓ) (g : Dev Cert.MoePrompt.nD → PrngReg), Pre_MoePrompt m →
    θ_run (Cert.MoePrompt.defs (F := Bits)) (onTc (τ := Cert.MoePrompt.τ) (Cert.MoePrompt.main (F := Bits))) ⟨m, fun _ => 0, g⟩ (fun r => (∀ c : Dev Cert.MoePrompt.nD,
      r.2.mem ((c.tc : Thread Cert.MoePrompt.nD Cert.MoePrompt.τ).loc Cert.MoePrompt.main_arg0) = m ((c.tc : Thread Cert.MoePrompt.nD Cert.MoePrompt.τ).loc Cert.MoePrompt.main_arg0)
      ∧ r.2.mem ((c.tc : Thread Cert.MoePrompt.nD Cert.MoePrompt.τ).loc Cert.MoePrompt.main_arg1) = m ((c.tc : Thread Cert.MoePrompt.nD Cert.MoePrompt.τ).loc Cert.MoePrompt.main_arg1)
      ∧ r.2.mem ((c.tc : Thread Cert.MoePrompt.nD Cert.MoePrompt.τ).loc Cert.MoePrompt.main_arg2) = m ((c.tc : Thread Cert.MoePrompt.nD Cert.MoePrompt.τ).loc Cert.MoePrompt.main_arg2)
      ∧ r.2.mem ((c.tc : Thread Cert.MoePrompt.nD Cert.MoePrompt.τ).loc Cert.MoePrompt.main_arg3) = m ((c.tc : Thread Cert.MoePrompt.nD Cert.MoePrompt.τ).loc Cert.MoePrompt.main_arg3)
      ∧ r.2.mem ((c.tc : Thread Cert.MoePrompt.nD Cert.MoePrompt.τ).loc Cert.MoePrompt.main_arg4) = m ((c.tc : Thread Cert.MoePrompt.nD Cert.MoePrompt.τ).loc Cert.MoePrompt.main_arg4)
      ∧ r.2.mem ((c.tc : Thread Cert.MoePrompt.nD Cert.MoePrompt.τ).loc Cert.MoePrompt.main_arg5) = m ((c.tc : Thread Cert.MoePrompt.nD Cert.MoePrompt.τ).loc Cert.MoePrompt.main_arg5)
      ∧ r.2.mem ((c.tc : Thread Cert.MoePrompt.nD Cert.MoePrompt.τ).loc Cert.MoePrompt.main_arg6) = m ((c.tc : Thread Cert.MoePrompt.nD Cert.MoePrompt.τ).loc Cert.MoePrompt.main_arg6))
      ∧ r.2.sem = fun _ => 0)

def quiescent_MoePromptIdeal [hMoePromptIdeal : Cert.MoePromptIdeal.Facts] : Prop :=
  ∀ (m : (ℓ : Loc Cert.MoePromptIdeal.nD Cert.MoePromptIdeal.τ Cert.MoePromptIdeal.sig) → Buf (Elt Ideal) ℓ) (g : Dev Cert.MoePromptIdeal.nD → PrngReg), Pre_MoePromptIdeal m →
    θ_run (Cert.MoePromptIdeal.defs (F := Ideal)) (onTc (τ := Cert.MoePromptIdeal.τ) (Cert.MoePromptIdeal.main (F := Ideal))) ⟨m, fun _ => 0, g⟩ (fun r => (∀ c : Dev Cert.MoePromptIdeal.nD,
      r.2.mem ((c.tc : Thread Cert.MoePromptIdeal.nD Cert.MoePromptIdeal.τ).loc Cert.MoePromptIdeal.main_arg0) = m ((c.tc : Thread Cert.MoePromptIdeal.nD Cert.MoePromptIdeal.τ).loc Cert.MoePromptIdeal.main_arg0)
      ∧ r.2.mem ((c.tc : Thread Cert.MoePromptIdeal.nD Cert.MoePromptIdeal.τ).loc Cert.MoePromptIdeal.main_arg1) = m ((c.tc : Thread Cert.MoePromptIdeal.nD Cert.MoePromptIdeal.τ).loc Cert.MoePromptIdeal.main_arg1)
      ∧ r.2.mem ((c.tc : Thread Cert.MoePromptIdeal.nD Cert.MoePromptIdeal.τ).loc Cert.MoePromptIdeal.main_arg2) = m ((c.tc : Thread Cert.MoePromptIdeal.nD Cert.MoePromptIdeal.τ).loc Cert.MoePromptIdeal.main_arg2)
      ∧ r.2.mem ((c.tc : Thread Cert.MoePromptIdeal.nD Cert.MoePromptIdeal.τ).loc Cert.MoePromptIdeal.main_arg3) = m ((c.tc : Thread Cert.MoePromptIdeal.nD Cert.MoePromptIdeal.τ).loc Cert.MoePromptIdeal.main_arg3)
      ∧ r.2.mem ((c.tc : Thread Cert.MoePromptIdeal.nD Cert.MoePromptIdeal.τ).loc Cert.MoePromptIdeal.main_arg4) = m ((c.tc : Thread Cert.MoePromptIdeal.nD Cert.MoePromptIdeal.τ).loc Cert.MoePromptIdeal.main_arg4)
      ∧ r.2.mem ((c.tc : Thread Cert.MoePromptIdeal.nD Cert.MoePromptIdeal.τ).loc Cert.MoePromptIdeal.main_arg5) = m ((c.tc : Thread Cert.MoePromptIdeal.nD Cert.MoePromptIdeal.τ).loc Cert.MoePromptIdeal.main_arg5)
      ∧ r.2.mem ((c.tc : Thread Cert.MoePromptIdeal.nD Cert.MoePromptIdeal.τ).loc Cert.MoePromptIdeal.main_arg6) = m ((c.tc : Thread Cert.MoePromptIdeal.nD Cert.MoePromptIdeal.τ).loc Cert.MoePromptIdeal.main_arg6))
      ∧ r.2.sem = fun _ => 0)

def quiescent_MoePromptIdeal_pre_moe_prompt_ok [hMoePromptIdeal : Cert.MoePromptIdeal.Facts] [hPre_moe_prompt_ok : Cert.Pre_moe_prompt_ok.Facts] : Prop :=
  ∀ (m : (ℓ : Loc Cert.MoePromptIdeal.nD Cert.MoePromptIdeal.τ Cert.MoePromptIdeal.sig) → Buf (Elt Ideal) ℓ) (g : Dev Cert.MoePromptIdeal.nD → PrngReg), Pre_MoePromptIdeal_moe_prompt_ok m →
    θ_run (Cert.MoePromptIdeal.defs (F := Ideal)) (onTc (τ := Cert.MoePromptIdeal.τ) (Cert.MoePromptIdeal.main (F := Ideal))) ⟨m, fun _ => 0, g⟩ (fun r => (∀ c : Dev Cert.MoePromptIdeal.nD,
      r.2.mem ((c.tc : Thread Cert.MoePromptIdeal.nD Cert.MoePromptIdeal.τ).loc Cert.MoePromptIdeal.main_arg0) = m ((c.tc : Thread Cert.MoePromptIdeal.nD Cert.MoePromptIdeal.τ).loc Cert.MoePromptIdeal.main_arg0)
      ∧ r.2.mem ((c.tc : Thread Cert.MoePromptIdeal.nD Cert.MoePromptIdeal.τ).loc Cert.MoePromptIdeal.main_arg1) = m ((c.tc : Thread Cert.MoePromptIdeal.nD Cert.MoePromptIdeal.τ).loc Cert.MoePromptIdeal.main_arg1)
      ∧ r.2.mem ((c.tc : Thread Cert.MoePromptIdeal.nD Cert.MoePromptIdeal.τ).loc Cert.MoePromptIdeal.main_arg2) = m ((c.tc : Thread Cert.MoePromptIdeal.nD Cert.MoePromptIdeal.τ).loc Cert.MoePromptIdeal.main_arg2)
      ∧ r.2.mem ((c.tc : Thread Cert.MoePromptIdeal.nD Cert.MoePromptIdeal.τ).loc Cert.MoePromptIdeal.main_arg3) = m ((c.tc : Thread Cert.MoePromptIdeal.nD Cert.MoePromptIdeal.τ).loc Cert.MoePromptIdeal.main_arg3)
      ∧ r.2.mem ((c.tc : Thread Cert.MoePromptIdeal.nD Cert.MoePromptIdeal.τ).loc Cert.MoePromptIdeal.main_arg4) = m ((c.tc : Thread Cert.MoePromptIdeal.nD Cert.MoePromptIdeal.τ).loc Cert.MoePromptIdeal.main_arg4)
      ∧ r.2.mem ((c.tc : Thread Cert.MoePromptIdeal.nD Cert.MoePromptIdeal.τ).loc Cert.MoePromptIdeal.main_arg5) = m ((c.tc : Thread Cert.MoePromptIdeal.nD Cert.MoePromptIdeal.τ).loc Cert.MoePromptIdeal.main_arg5)
      ∧ r.2.mem ((c.tc : Thread Cert.MoePromptIdeal.nD Cert.MoePromptIdeal.τ).loc Cert.MoePromptIdeal.main_arg6) = m ((c.tc : Thread Cert.MoePromptIdeal.nD Cert.MoePromptIdeal.τ).loc Cert.MoePromptIdeal.main_arg6))
      ∧ r.2.sem = fun _ => 0)

def quiescent_MoePromptRefIdeal [hMoePromptRefIdeal : Cert.MoePromptRefIdeal.Facts] : Prop :=
  ∀ (m : (ℓ : Loc Cert.MoePromptRefIdeal.nD Cert.MoePromptRefIdeal.τ Cert.MoePromptRefIdeal.sig) → Buf (Elt Ideal) ℓ) (g : Dev Cert.MoePromptRefIdeal.nD → PrngReg), Pre_MoePromptRefIdeal m →
    θ_run (Cert.MoePromptRefIdeal.defs (F := Ideal)) (onTc (τ := Cert.MoePromptRefIdeal.τ) (Cert.MoePromptRefIdeal.main (F := Ideal))) ⟨m, fun _ => 0, g⟩ (fun r => (∀ c : Dev Cert.MoePromptRefIdeal.nD,
      r.2.mem ((c.tc : Thread Cert.MoePromptRefIdeal.nD Cert.MoePromptRefIdeal.τ).loc Cert.MoePromptRefIdeal.main_arg0) = m ((c.tc : Thread Cert.MoePromptRefIdeal.nD Cert.MoePromptRefIdeal.τ).loc Cert.MoePromptRefIdeal.main_arg0)
      ∧ r.2.mem ((c.tc : Thread Cert.MoePromptRefIdeal.nD Cert.MoePromptRefIdeal.τ).loc Cert.MoePromptRefIdeal.main_arg1) = m ((c.tc : Thread Cert.MoePromptRefIdeal.nD Cert.MoePromptRefIdeal.τ).loc Cert.MoePromptRefIdeal.main_arg1)
      ∧ r.2.mem ((c.tc : Thread Cert.MoePromptRefIdeal.nD Cert.MoePromptRefIdeal.τ).loc Cert.MoePromptRefIdeal.main_arg2) = m ((c.tc : Thread Cert.MoePromptRefIdeal.nD Cert.MoePromptRefIdeal.τ).loc Cert.MoePromptRefIdeal.main_arg2)
      ∧ r.2.mem ((c.tc : Thread Cert.MoePromptRefIdeal.nD Cert.MoePromptRefIdeal.τ).loc Cert.MoePromptRefIdeal.main_arg3) = m ((c.tc : Thread Cert.MoePromptRefIdeal.nD Cert.MoePromptRefIdeal.τ).loc Cert.MoePromptRefIdeal.main_arg3)
      ∧ r.2.mem ((c.tc : Thread Cert.MoePromptRefIdeal.nD Cert.MoePromptRefIdeal.τ).loc Cert.MoePromptRefIdeal.main_arg4) = m ((c.tc : Thread Cert.MoePromptRefIdeal.nD Cert.MoePromptRefIdeal.τ).loc Cert.MoePromptRefIdeal.main_arg4)
      ∧ r.2.mem ((c.tc : Thread Cert.MoePromptRefIdeal.nD Cert.MoePromptRefIdeal.τ).loc Cert.MoePromptRefIdeal.main_arg5) = m ((c.tc : Thread Cert.MoePromptRefIdeal.nD Cert.MoePromptRefIdeal.τ).loc Cert.MoePromptRefIdeal.main_arg5)
      ∧ r.2.mem ((c.tc : Thread Cert.MoePromptRefIdeal.nD Cert.MoePromptRefIdeal.τ).loc Cert.MoePromptRefIdeal.main_arg6) = m ((c.tc : Thread Cert.MoePromptRefIdeal.nD Cert.MoePromptRefIdeal.τ).loc Cert.MoePromptRefIdeal.main_arg6))
      ∧ r.2.sem = fun _ => 0)

def quiescent_MoePromptRefIdeal_pre_moe_prompt_ok [hMoePromptRefIdeal : Cert.MoePromptRefIdeal.Facts] [hPre_moe_prompt_ok : Cert.Pre_moe_prompt_ok.Facts] : Prop :=
  ∀ (m : (ℓ : Loc Cert.MoePromptRefIdeal.nD Cert.MoePromptRefIdeal.τ Cert.MoePromptRefIdeal.sig) → Buf (Elt Ideal) ℓ) (g : Dev Cert.MoePromptRefIdeal.nD → PrngReg), Pre_MoePromptRefIdeal_moe_prompt_ok m →
    θ_run (Cert.MoePromptRefIdeal.defs (F := Ideal)) (onTc (τ := Cert.MoePromptRefIdeal.τ) (Cert.MoePromptRefIdeal.main (F := Ideal))) ⟨m, fun _ => 0, g⟩ (fun r => (∀ c : Dev Cert.MoePromptRefIdeal.nD,
      r.2.mem ((c.tc : Thread Cert.MoePromptRefIdeal.nD Cert.MoePromptRefIdeal.τ).loc Cert.MoePromptRefIdeal.main_arg0) = m ((c.tc : Thread Cert.MoePromptRefIdeal.nD Cert.MoePromptRefIdeal.τ).loc Cert.MoePromptRefIdeal.main_arg0)
      ∧ r.2.mem ((c.tc : Thread Cert.MoePromptRefIdeal.nD Cert.MoePromptRefIdeal.τ).loc Cert.MoePromptRefIdeal.main_arg1) = m ((c.tc : Thread Cert.MoePromptRefIdeal.nD Cert.MoePromptRefIdeal.τ).loc Cert.MoePromptRefIdeal.main_arg1)
      ∧ r.2.mem ((c.tc : Thread Cert.MoePromptRefIdeal.nD Cert.MoePromptRefIdeal.τ).loc Cert.MoePromptRefIdeal.main_arg2) = m ((c.tc : Thread Cert.MoePromptRefIdeal.nD Cert.MoePromptRefIdeal.τ).loc Cert.MoePromptRefIdeal.main_arg2)
      ∧ r.2.mem ((c.tc : Thread Cert.MoePromptRefIdeal.nD Cert.MoePromptRefIdeal.τ).loc Cert.MoePromptRefIdeal.main_arg3) = m ((c.tc : Thread Cert.MoePromptRefIdeal.nD Cert.MoePromptRefIdeal.τ).loc Cert.MoePromptRefIdeal.main_arg3)
      ∧ r.2.mem ((c.tc : Thread Cert.MoePromptRefIdeal.nD Cert.MoePromptRefIdeal.τ).loc Cert.MoePromptRefIdeal.main_arg4) = m ((c.tc : Thread Cert.MoePromptRefIdeal.nD Cert.MoePromptRefIdeal.τ).loc Cert.MoePromptRefIdeal.main_arg4)
      ∧ r.2.mem ((c.tc : Thread Cert.MoePromptRefIdeal.nD Cert.MoePromptRefIdeal.τ).loc Cert.MoePromptRefIdeal.main_arg5) = m ((c.tc : Thread Cert.MoePromptRefIdeal.nD Cert.MoePromptRefIdeal.τ).loc Cert.MoePromptRefIdeal.main_arg5)
      ∧ r.2.mem ((c.tc : Thread Cert.MoePromptRefIdeal.nD Cert.MoePromptRefIdeal.τ).loc Cert.MoePromptRefIdeal.main_arg6) = m ((c.tc : Thread Cert.MoePromptRefIdeal.nD Cert.MoePromptRefIdeal.τ).loc Cert.MoePromptRefIdeal.main_arg6))
      ∧ r.2.sem = fun _ => 0)

def quiescent_OutPrompt [hOutPrompt : Cert.OutPrompt.Facts] : Prop :=
  ∀ (m : (ℓ : Loc Cert.OutPrompt.nD Cert.OutPrompt.τ Cert.OutPrompt.sig) → Buf (Elt Bits) ℓ) (g : Dev Cert.OutPrompt.nD → PrngReg), Pre_OutPrompt m →
    θ_run (Cert.OutPrompt.defs (F := Bits)) (onTc (τ := Cert.OutPrompt.τ) (Cert.OutPrompt.main (F := Bits))) ⟨m, fun _ => 0, g⟩ (fun r => (∀ c : Dev Cert.OutPrompt.nD,
      r.2.mem ((c.tc : Thread Cert.OutPrompt.nD Cert.OutPrompt.τ).loc Cert.OutPrompt.main_arg0) = m ((c.tc : Thread Cert.OutPrompt.nD Cert.OutPrompt.τ).loc Cert.OutPrompt.main_arg0)
      ∧ r.2.mem ((c.tc : Thread Cert.OutPrompt.nD Cert.OutPrompt.τ).loc Cert.OutPrompt.main_arg1) = m ((c.tc : Thread Cert.OutPrompt.nD Cert.OutPrompt.τ).loc Cert.OutPrompt.main_arg1)
      ∧ r.2.mem ((c.tc : Thread Cert.OutPrompt.nD Cert.OutPrompt.τ).loc Cert.OutPrompt.main_arg2) = m ((c.tc : Thread Cert.OutPrompt.nD Cert.OutPrompt.τ).loc Cert.OutPrompt.main_arg2)
      ∧ r.2.mem ((c.tc : Thread Cert.OutPrompt.nD Cert.OutPrompt.τ).loc Cert.OutPrompt.main_arg3) = m ((c.tc : Thread Cert.OutPrompt.nD Cert.OutPrompt.τ).loc Cert.OutPrompt.main_arg3)
      ∧ r.2.mem ((c.tc : Thread Cert.OutPrompt.nD Cert.OutPrompt.τ).loc Cert.OutPrompt.main_arg4) = m ((c.tc : Thread Cert.OutPrompt.nD Cert.OutPrompt.τ).loc Cert.OutPrompt.main_arg4)
      ∧ r.2.mem ((c.tc : Thread Cert.OutPrompt.nD Cert.OutPrompt.τ).loc Cert.OutPrompt.main_arg5) = m ((c.tc : Thread Cert.OutPrompt.nD Cert.OutPrompt.τ).loc Cert.OutPrompt.main_arg5)
      ∧ r.2.mem ((c.tc : Thread Cert.OutPrompt.nD Cert.OutPrompt.τ).loc Cert.OutPrompt.main_arg6) = m ((c.tc : Thread Cert.OutPrompt.nD Cert.OutPrompt.τ).loc Cert.OutPrompt.main_arg6))
      ∧ r.2.sem = fun _ => 0)

def quiescent_OutPromptIdeal [hOutPromptIdeal : Cert.OutPromptIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg), Pre_OutPromptIdeal m →
    θ_run (Cert.OutPromptIdeal.defs (F := Ideal)) (onTc (τ := Cert.OutPromptIdeal.τ) (Cert.OutPromptIdeal.main (F := Ideal))) ⟨m, fun _ => 0, g⟩ (fun r => (∀ c : Dev Cert.OutPromptIdeal.nD,
      r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
      ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
      ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
      ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3)
      ∧ r.2.mem ((c.tc : Thread Cert.OutPromptIdeal.nD Cert.OutPromptIdeal.τ).loc Cert.OutPromptIdeal.main_arg4) = m ((c.tc : Thread Cert.OutPromptIdeal.nD Cert.OutPromptIdeal.τ).loc Cert.OutPromptIdeal.main_arg4)
      ∧ r.2.mem ((c.tc : Thread Cert.OutPromptIdeal.nD Cert.OutPromptIdeal.τ).loc Cert.OutPromptIdeal.main_arg5) = m ((c.tc : Thread Cert.OutPromptIdeal.nD Cert.OutPromptIdeal.τ).loc Cert.OutPromptIdeal.main_arg5)
      ∧ r.2.mem ((c.tc : Thread Cert.OutPromptIdeal.nD Cert.OutPromptIdeal.τ).loc Cert.OutPromptIdeal.main_arg6) = m ((c.tc : Thread Cert.OutPromptIdeal.nD Cert.OutPromptIdeal.τ).loc Cert.OutPromptIdeal.main_arg6))
      ∧ r.2.sem = fun _ => 0)

def quiescent_OutPromptRefIdeal [hOutPromptRefIdeal : Cert.OutPromptRefIdeal.Facts] : Prop :=
  ∀ (m : (ℓ : Loc Cert.OutPromptRefIdeal.nD Cert.OutPromptRefIdeal.τ Cert.OutPromptRefIdeal.sig) → Buf (Elt Ideal) ℓ) (g : Dev Cert.OutPromptRefIdeal.nD → PrngReg), Pre_OutPromptRefIdeal m →
    θ_run (Cert.OutPromptRefIdeal.defs (F := Ideal)) (onTc (τ := Cert.OutPromptRefIdeal.τ) (Cert.OutPromptRefIdeal.main (F := Ideal))) ⟨m, fun _ => 0, g⟩ (fun r => (∀ c : Dev Cert.OutPromptRefIdeal.nD,
      r.2.mem ((c.tc : Thread Cert.OutPromptRefIdeal.nD Cert.OutPromptRefIdeal.τ).loc Cert.OutPromptRefIdeal.main_arg0) = m ((c.tc : Thread Cert.OutPromptRefIdeal.nD Cert.OutPromptRefIdeal.τ).loc Cert.OutPromptRefIdeal.main_arg0)
      ∧ r.2.mem ((c.tc : Thread Cert.OutPromptRefIdeal.nD Cert.OutPromptRefIdeal.τ).loc Cert.OutPromptRefIdeal.main_arg1) = m ((c.tc : Thread Cert.OutPromptRefIdeal.nD Cert.OutPromptRefIdeal.τ).loc Cert.OutPromptRefIdeal.main_arg1)
      ∧ r.2.mem ((c.tc : Thread Cert.OutPromptRefIdeal.nD Cert.OutPromptRefIdeal.τ).loc Cert.OutPromptRefIdeal.main_arg2) = m ((c.tc : Thread Cert.OutPromptRefIdeal.nD Cert.OutPromptRefIdeal.τ).loc Cert.OutPromptRefIdeal.main_arg2)
      ∧ r.2.mem ((c.tc : Thread Cert.OutPromptRefIdeal.nD Cert.OutPromptRefIdeal.τ).loc Cert.OutPromptRefIdeal.main_arg3) = m ((c.tc : Thread Cert.OutPromptRefIdeal.nD Cert.OutPromptRefIdeal.τ).loc Cert.OutPromptRefIdeal.main_arg3)
      ∧ r.2.mem ((c.tc : Thread Cert.OutPromptRefIdeal.nD Cert.OutPromptRefIdeal.τ).loc Cert.OutPromptRefIdeal.main_arg4) = m ((c.tc : Thread Cert.OutPromptRefIdeal.nD Cert.OutPromptRefIdeal.τ).loc Cert.OutPromptRefIdeal.main_arg4)
      ∧ r.2.mem ((c.tc : Thread Cert.OutPromptRefIdeal.nD Cert.OutPromptRefIdeal.τ).loc Cert.OutPromptRefIdeal.main_arg5) = m ((c.tc : Thread Cert.OutPromptRefIdeal.nD Cert.OutPromptRefIdeal.τ).loc Cert.OutPromptRefIdeal.main_arg5)
      ∧ r.2.mem ((c.tc : Thread Cert.OutPromptRefIdeal.nD Cert.OutPromptRefIdeal.τ).loc Cert.OutPromptRefIdeal.main_arg6) = m ((c.tc : Thread Cert.OutPromptRefIdeal.nD Cert.OutPromptRefIdeal.τ).loc Cert.OutPromptRefIdeal.main_arg6))
      ∧ r.2.sem = fun _ => 0)

def preserves_Attn_AttnIdeal : Prop :=
  True

def algebraic_AttnIdeal_AttnRefIdeal_pre_attn_ok [hAttnIdeal : Cert.AttnIdeal.Facts] [hAttnRefIdeal : Cert.AttnRefIdeal.Facts] [hPre_attn_ok : Cert.Pre_attn_ok.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_ok m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Moe_MoeIdeal : Prop :=
  True

def algebraic_MoeIdeal_MoeRefIdeal_pre_moe_ok [hMoeIdeal : Cert.MoeIdeal.Facts] [hMoeRefIdeal : Cert.MoeRefIdeal.Facts] [hPre_moe_ok : Cert.Pre_moe_ok.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_moe_ok m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v39) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v20_0)) (v1 : (c : Dev Cert.ProjIdeal.nD) → Buf (Elt Ideal) ((c.tc : Thread Cert.ProjIdeal.nD Cert.ProjIdeal.τ).loc Cert.ProjIdeal.main_v20_1)) (v2 : (c : Dev Cert.ProjIdeal.nD) → Buf (Elt Ideal) ((c.tc : Thread Cert.ProjIdeal.nD Cert.ProjIdeal.τ).loc Cert.ProjIdeal.main_v20_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20_0) = v0 c
          ∧ r.2.mem ((c.tc : Thread Cert.ProjIdeal.nD Cert.ProjIdeal.τ).loc Cert.ProjIdeal.main_v20_1) = v1 c
          ∧ r.2.mem ((c.tc : Thread Cert.ProjIdeal.nD Cert.ProjIdeal.τ).loc Cert.ProjIdeal.main_v20_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_v11) = v1 c
          ∧ r.2.mem ((c.tc : Thread Cert.ProjRefIdeal.nD Cert.ProjRefIdeal.τ).loc Cert.ProjRefIdeal.main_v3) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v67_0)) (v1 : (c : Dev Cert.PrepIdeal.nD) → Buf (Elt Ideal) ((c.tc : Thread Cert.PrepIdeal.nD Cert.PrepIdeal.τ).loc Cert.PrepIdeal.main_v67_1)) (v2 : (c : Dev Cert.PrepIdeal.nD) → Buf (Elt Ideal) ((c.tc : Thread Cert.PrepIdeal.nD Cert.PrepIdeal.τ).loc Cert.PrepIdeal.main_v67_2)) (v3 : (c : Dev Cert.PrepIdeal.nD) → Buf (Elt Ideal) ((c.tc : Thread Cert.PrepIdeal.nD Cert.PrepIdeal.τ).loc Cert.PrepIdeal.main_v67_3)) (v4 : (c : Dev Cert.PrepIdeal.nD) → Buf (Elt Ideal) ((c.tc : Thread Cert.PrepIdeal.nD Cert.PrepIdeal.τ).loc Cert.PrepIdeal.main_v67_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v67_0) = v0 c
          ∧ r.2.mem ((c.tc : Thread Cert.PrepIdeal.nD Cert.PrepIdeal.τ).loc Cert.PrepIdeal.main_v67_1) = v1 c
          ∧ r.2.mem ((c.tc : Thread Cert.PrepIdeal.nD Cert.PrepIdeal.τ).loc Cert.PrepIdeal.main_v67_2) = v2 c
          ∧ r.2.mem ((c.tc : Thread Cert.PrepIdeal.nD Cert.PrepIdeal.τ).loc Cert.PrepIdeal.main_v67_3) = v3 c
          ∧ r.2.mem ((c.tc : Thread Cert.PrepIdeal.nD Cert.PrepIdeal.τ).loc Cert.PrepIdeal.main_v67_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v107) = v0 c
          ∧ r.2.mem ((c.tc : Thread Cert.PrepRefIdeal.nD Cert.PrepRefIdeal.τ).loc Cert.PrepRefIdeal.main_v109) = v1 c
          ∧ r.2.mem ((c.tc : Thread Cert.PrepRefIdeal.nD Cert.PrepRefIdeal.τ).loc Cert.PrepRefIdeal.main_v112) = v2 c
          ∧ r.2.mem ((c.tc : Thread Cert.PrepRefIdeal.nD Cert.PrepRefIdeal.τ).loc Cert.PrepRefIdeal.main_v67) = v3 c
          ∧ r.2.mem ((c.tc : Thread Cert.PrepRefIdeal.nD Cert.PrepRefIdeal.τ).loc Cert.PrepRefIdeal.main_v113) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_Past_PastIdeal : Prop :=
  True

def algebraic_PastIdeal_PastRefIdeal [hPastIdeal : Cert.PastIdeal.Facts] [hPastRefIdeal : Cert.PastRefIdeal.Facts] : Prop :=
  ∀ (m : (ℓ : Loc Cert.PastIdeal.nD Cert.PastIdeal.τ Cert.PastIdeal.sig) → Buf (Elt Ideal) ℓ) (g : Dev Cert.PastIdeal.nD → PrngReg)
    (m' : (ℓ : Loc Cert.PastRefIdeal.nD Cert.PastRefIdeal.τ Cert.PastRefIdeal.sig) → Buf (Elt Ideal) ℓ) (g' : Dev Cert.PastRefIdeal.nD → PrngReg), Pre_PastIdeal m →
    (∀ c : Dev Cert.PastIdeal.nD,
      m' ((c.tc : Thread Cert.PastRefIdeal.nD Cert.PastRefIdeal.τ).loc Cert.PastRefIdeal.main_arg0) = m ((c.tc : Thread Cert.PastIdeal.nD Cert.PastIdeal.τ).loc Cert.PastIdeal.main_arg0)
      ∧ m' ((c.tc : Thread Cert.PastRefIdeal.nD Cert.PastRefIdeal.τ).loc Cert.PastRefIdeal.main_arg1) = m ((c.tc : Thread Cert.PastIdeal.nD Cert.PastIdeal.τ).loc Cert.PastIdeal.main_arg1)
      ∧ m' ((c.tc : Thread Cert.PastRefIdeal.nD Cert.PastRefIdeal.τ).loc Cert.PastRefIdeal.main_arg2) = m ((c.tc : Thread Cert.PastIdeal.nD Cert.PastIdeal.τ).loc Cert.PastIdeal.main_arg2)) →
    ∃ (v0 : (c : Dev Cert.PastIdeal.nD) → Buf (Elt Ideal) ((c.tc : Thread Cert.PastIdeal.nD Cert.PastIdeal.τ).loc Cert.PastIdeal.main_v8_0)) (v1 : (c : Dev Cert.PastIdeal.nD) → Buf (Elt Ideal) ((c.tc : Thread Cert.PastIdeal.nD Cert.PastIdeal.τ).loc Cert.PastIdeal.main_v8_1)),
      θ_run (Cert.PastIdeal.defs (F := Ideal)) (onTc (τ := Cert.PastIdeal.τ) (Cert.PastIdeal.main (F := Ideal))) ⟨m, fun _ => 0, g⟩ (fun r => ∀ c : Dev Cert.PastIdeal.nD,
          r.2.mem ((c.tc : Thread Cert.PastIdeal.nD Cert.PastIdeal.τ).loc Cert.PastIdeal.main_v8_0) = v0 c
          ∧ r.2.mem ((c.tc : Thread Cert.PastIdeal.nD Cert.PastIdeal.τ).loc Cert.PastIdeal.main_v8_1) = v1 c
          ∧ r.2.mem ((c.tc : Thread Cert.PastIdeal.nD Cert.PastIdeal.τ).loc Cert.PastIdeal.main_arg0) = m ((c.tc : Thread Cert.PastIdeal.nD Cert.PastIdeal.τ).loc Cert.PastIdeal.main_arg0)
          ∧ r.2.mem ((c.tc : Thread Cert.PastIdeal.nD Cert.PastIdeal.τ).loc Cert.PastIdeal.main_arg1) = m ((c.tc : Thread Cert.PastIdeal.nD Cert.PastIdeal.τ).loc Cert.PastIdeal.main_arg1)
          ∧ r.2.mem ((c.tc : Thread Cert.PastIdeal.nD Cert.PastIdeal.τ).loc Cert.PastIdeal.main_arg2) = m ((c.tc : Thread Cert.PastIdeal.nD Cert.PastIdeal.τ).loc Cert.PastIdeal.main_arg2))
      ∧ θ_run (Cert.PastRefIdeal.defs (F := Ideal)) (onTc (τ := Cert.PastRefIdeal.τ) (Cert.PastRefIdeal.main (F := Ideal))) ⟨m', fun _ => 0, g'⟩ (fun r => ∀ c : Dev Cert.PastRefIdeal.nD,
          r.2.mem ((c.tc : Thread Cert.PastRefIdeal.nD Cert.PastRefIdeal.τ).loc Cert.PastRefIdeal.main_v7) = v0 c
          ∧ r.2.mem ((c.tc : Thread Cert.PastRefIdeal.nD Cert.PastRefIdeal.τ).loc Cert.PastRefIdeal.main_v10) = v1 c
          ∧ r.2.mem ((c.tc : Thread Cert.PastRefIdeal.nD Cert.PastRefIdeal.τ).loc Cert.PastRefIdeal.main_arg0) = m' ((c.tc : Thread Cert.PastRefIdeal.nD Cert.PastRefIdeal.τ).loc Cert.PastRefIdeal.main_arg0)
          ∧ r.2.mem ((c.tc : Thread Cert.PastRefIdeal.nD Cert.PastRefIdeal.τ).loc Cert.PastRefIdeal.main_arg1) = m' ((c.tc : Thread Cert.PastRefIdeal.nD Cert.PastRefIdeal.τ).loc Cert.PastRefIdeal.main_arg1)
          ∧ r.2.mem ((c.tc : Thread Cert.PastRefIdeal.nD Cert.PastRefIdeal.τ).loc Cert.PastRefIdeal.main_arg2) = m' ((c.tc : Thread Cert.PastRefIdeal.nD Cert.PastRefIdeal.τ).loc Cert.PastRefIdeal.main_arg2))

def preserves_Dsa_DsaIdeal : Prop :=
  True

def algebraic_DsaIdeal_DsaRefIdeal_pre_dsa_ok [hDsaIdeal : Cert.DsaIdeal.Facts] [hDsaRefIdeal : Cert.DsaRefIdeal.Facts] [hPre_dsa_ok : Cert.Pre_dsa_ok.Facts] : Prop :=
  ∀ (m : (ℓ : Loc Cert.DsaIdeal.nD Cert.DsaIdeal.τ Cert.DsaIdeal.sig) → Buf (Elt Ideal) ℓ) (g : Dev Cert.DsaIdeal.nD → PrngReg)
    (m' : (ℓ : Loc Cert.DsaRefIdeal.nD Cert.DsaRefIdeal.τ Cert.DsaRefIdeal.sig) → Buf (Elt Ideal) ℓ) (g' : Dev Cert.DsaRefIdeal.nD → PrngReg), Pre_DsaIdeal_dsa_ok m →
    (∀ c : Dev Cert.DsaIdeal.nD,
      m' ((c.tc : Thread Cert.DsaRefIdeal.nD Cert.DsaRefIdeal.τ).loc Cert.DsaRefIdeal.main_arg0) = m ((c.tc : Thread Cert.DsaIdeal.nD Cert.DsaIdeal.τ).loc Cert.DsaIdeal.main_arg0)) →
    ∃ (v0 : (c : Dev Cert.DsaIdeal.nD) → Buf (Elt Ideal) ((c.tc : Thread Cert.DsaIdeal.nD Cert.DsaIdeal.τ).loc Cert.DsaIdeal.main_v120_0)) (v1 : (c : Dev Cert.DsaIdeal.nD) → Buf (Elt Ideal) ((c.tc : Thread Cert.DsaIdeal.nD Cert.DsaIdeal.τ).loc Cert.DsaIdeal.main_v120_1)) (v2 : (c : Dev Cert.DsaIdeal.nD) → Buf (Elt Ideal) ((c.tc : Thread Cert.DsaIdeal.nD Cert.DsaIdeal.τ).loc Cert.DsaIdeal.main_v120_2)) (v3 : (c : Dev Cert.DsaIdeal.nD) → Buf (Elt Ideal) ((c.tc : Thread Cert.DsaIdeal.nD Cert.DsaIdeal.τ).loc Cert.DsaIdeal.main_v120_3)) (v4 : (c : Dev Cert.DsaIdeal.nD) → Buf (Elt Ideal) ((c.tc : Thread Cert.DsaIdeal.nD Cert.DsaIdeal.τ).loc Cert.DsaIdeal.main_v120_4)) (v5 : (c : Dev Cert.DsaIdeal.nD) → Buf (Elt Ideal) ((c.tc : Thread Cert.DsaIdeal.nD Cert.DsaIdeal.τ).loc Cert.DsaIdeal.main_v120_5)) (v6 : (c : Dev Cert.DsaIdeal.nD) → Buf (Elt Ideal) ((c.tc : Thread Cert.DsaIdeal.nD Cert.DsaIdeal.τ).loc Cert.DsaIdeal.main_v120_6)) (v7 : (c : Dev Cert.DsaIdeal.nD) → Buf (Elt Ideal) ((c.tc : Thread Cert.DsaIdeal.nD Cert.DsaIdeal.τ).loc Cert.DsaIdeal.main_v120_7)) (v8 : (c : Dev Cert.DsaIdeal.nD) → Buf (Elt Ideal) ((c.tc : Thread Cert.DsaIdeal.nD Cert.DsaIdeal.τ).loc Cert.DsaIdeal.main_v120_8)),
      θ_run (Cert.DsaIdeal.defs (F := Ideal)) (onTc (τ := Cert.DsaIdeal.τ) (Cert.DsaIdeal.main (F := Ideal))) ⟨m, fun _ => 0, g⟩ (fun r => ∀ c : Dev Cert.DsaIdeal.nD,
          r.2.mem ((c.tc : Thread Cert.DsaIdeal.nD Cert.DsaIdeal.τ).loc Cert.DsaIdeal.main_v120_0) = v0 c
          ∧ r.2.mem ((c.tc : Thread Cert.DsaIdeal.nD Cert.DsaIdeal.τ).loc Cert.DsaIdeal.main_v120_1) = v1 c
          ∧ r.2.mem ((c.tc : Thread Cert.DsaIdeal.nD Cert.DsaIdeal.τ).loc Cert.DsaIdeal.main_v120_2) = v2 c
          ∧ r.2.mem ((c.tc : Thread Cert.DsaIdeal.nD Cert.DsaIdeal.τ).loc Cert.DsaIdeal.main_v120_3) = v3 c
          ∧ r.2.mem ((c.tc : Thread Cert.DsaIdeal.nD Cert.DsaIdeal.τ).loc Cert.DsaIdeal.main_v120_4) = v4 c
          ∧ r.2.mem ((c.tc : Thread Cert.DsaIdeal.nD Cert.DsaIdeal.τ).loc Cert.DsaIdeal.main_v120_5) = v5 c
          ∧ r.2.mem ((c.tc : Thread Cert.DsaIdeal.nD Cert.DsaIdeal.τ).loc Cert.DsaIdeal.main_v120_6) = v6 c
          ∧ r.2.mem ((c.tc : Thread Cert.DsaIdeal.nD Cert.DsaIdeal.τ).loc Cert.DsaIdeal.main_v120_7) = v7 c
          ∧ r.2.mem ((c.tc : Thread Cert.DsaIdeal.nD Cert.DsaIdeal.τ).loc Cert.DsaIdeal.main_v120_8) = v8 c
          ∧ r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0))
      ∧ θ_run (Cert.DsaRefIdeal.defs (F := Ideal)) (onTc (τ := Cert.DsaRefIdeal.τ) (Cert.DsaRefIdeal.main (F := Ideal))) ⟨m', fun _ => 0, g'⟩ (fun r => ∀ c : Dev Cert.DsaRefIdeal.nD,
          r.2.mem ((c.tc : Thread Cert.DsaRefIdeal.nD Cert.DsaRefIdeal.τ).loc Cert.DsaRefIdeal.main_v147) = v0 c
          ∧ r.2.mem ((c.tc : Thread Cert.DsaRefIdeal.nD Cert.DsaRefIdeal.τ).loc Cert.DsaRefIdeal.main_v149) = v1 c
          ∧ r.2.mem ((c.tc : Thread Cert.DsaRefIdeal.nD Cert.DsaRefIdeal.τ).loc Cert.DsaRefIdeal.main_v151) = v2 c
          ∧ r.2.mem ((c.tc : Thread Cert.DsaRefIdeal.nD Cert.DsaRefIdeal.τ).loc Cert.DsaRefIdeal.main_v152) = v3 c
          ∧ r.2.mem ((c.tc : Thread Cert.DsaRefIdeal.nD Cert.DsaRefIdeal.τ).loc Cert.DsaRefIdeal.main_v141) = v4 c
          ∧ r.2.mem ((c.tc : Thread Cert.DsaRefIdeal.nD Cert.DsaRefIdeal.τ).loc Cert.DsaRefIdeal.main_v145) = v5 c
          ∧ r.2.mem ((c.tc : Thread Cert.DsaRefIdeal.nD Cert.DsaRefIdeal.τ).loc Cert.DsaRefIdeal.main_v153) = v6 c
          ∧ r.2.mem ((c.tc : Thread Cert.DsaRefIdeal.nD Cert.DsaRefIdeal.τ).loc Cert.DsaRefIdeal.main_v154) = v7 c
          ∧ r.2.mem ((c.tc : Thread Cert.DsaRefIdeal.nD Cert.DsaRefIdeal.τ).loc Cert.DsaRefIdeal.main_v141) = v8 c
          ∧ r.2.mem ((c.tc : Thread Cert.DsaRefIdeal.nD Cert.DsaRefIdeal.τ).loc Cert.DsaRefIdeal.main_arg0) = m' ((c.tc : Thread Cert.DsaRefIdeal.nD Cert.DsaRefIdeal.τ).loc Cert.DsaRefIdeal.main_arg0))

def preserves_DsaPrompt_DsaPromptIdeal : Prop :=
  True

def algebraic_DsaPromptIdeal_DsaPromptRefIdeal_pre_dsa_prompt_ok [hDsaPromptIdeal : Cert.DsaPromptIdeal.Facts] [hDsaPromptRefIdeal : Cert.DsaPromptRefIdeal.Facts] [hPre_dsa_prompt_ok : Cert.Pre_dsa_prompt_ok.Facts] : Prop :=
  ∀ (m : (ℓ : Loc Cert.DsaPromptIdeal.nD Cert.DsaPromptIdeal.τ Cert.DsaPromptIdeal.sig) → Buf (Elt Ideal) ℓ) (g : Dev Cert.DsaPromptIdeal.nD → PrngReg)
    (m' : (ℓ : Loc Cert.DsaPromptRefIdeal.nD Cert.DsaPromptRefIdeal.τ Cert.DsaPromptRefIdeal.sig) → Buf (Elt Ideal) ℓ) (g' : Dev Cert.DsaPromptRefIdeal.nD → PrngReg), Pre_DsaPromptIdeal_dsa_prompt_ok m →
    (∀ c : Dev Cert.DsaPromptIdeal.nD,
      m' ((c.tc : Thread Cert.DsaPromptRefIdeal.nD Cert.DsaPromptRefIdeal.τ).loc Cert.DsaPromptRefIdeal.main_arg0) = m ((c.tc : Thread Cert.DsaPromptIdeal.nD Cert.DsaPromptIdeal.τ).loc Cert.DsaPromptIdeal.main_arg0)) →
    ∃ (v0 : (c : Dev Cert.DsaPromptIdeal.nD) → Buf (Elt Ideal) ((c.tc : Thread Cert.DsaPromptIdeal.nD Cert.DsaPromptIdeal.τ).loc Cert.DsaPromptIdeal.main_v120_0)) (v1 : (c : Dev Cert.DsaPromptIdeal.nD) → Buf (Elt Ideal) ((c.tc : Thread Cert.DsaPromptIdeal.nD Cert.DsaPromptIdeal.τ).loc Cert.DsaPromptIdeal.main_v120_1)) (v2 : (c : Dev Cert.DsaPromptIdeal.nD) → Buf (Elt Ideal) ((c.tc : Thread Cert.DsaPromptIdeal.nD Cert.DsaPromptIdeal.τ).loc Cert.DsaPromptIdeal.main_v120_2)) (v3 : (c : Dev Cert.DsaPromptIdeal.nD) → Buf (Elt Ideal) ((c.tc : Thread Cert.DsaPromptIdeal.nD Cert.DsaPromptIdeal.τ).loc Cert.DsaPromptIdeal.main_v120_3)) (v4 : (c : Dev Cert.DsaPromptIdeal.nD) → Buf (Elt Ideal) ((c.tc : Thread Cert.DsaPromptIdeal.nD Cert.DsaPromptIdeal.τ).loc Cert.DsaPromptIdeal.main_v120_4)) (v5 : (c : Dev Cert.DsaPromptIdeal.nD) → Buf (Elt Ideal) ((c.tc : Thread Cert.DsaPromptIdeal.nD Cert.DsaPromptIdeal.τ).loc Cert.DsaPromptIdeal.main_v120_5)) (v6 : (c : Dev Cert.DsaPromptIdeal.nD) → Buf (Elt Ideal) ((c.tc : Thread Cert.DsaPromptIdeal.nD Cert.DsaPromptIdeal.τ).loc Cert.DsaPromptIdeal.main_v120_6)) (v7 : (c : Dev Cert.DsaPromptIdeal.nD) → Buf (Elt Ideal) ((c.tc : Thread Cert.DsaPromptIdeal.nD Cert.DsaPromptIdeal.τ).loc Cert.DsaPromptIdeal.main_v120_7)) (v8 : (c : Dev Cert.DsaPromptIdeal.nD) → Buf (Elt Ideal) ((c.tc : Thread Cert.DsaPromptIdeal.nD Cert.DsaPromptIdeal.τ).loc Cert.DsaPromptIdeal.main_v120_8)),
      θ_run (Cert.DsaPromptIdeal.defs (F := Ideal)) (onTc (τ := Cert.DsaPromptIdeal.τ) (Cert.DsaPromptIdeal.main (F := Ideal))) ⟨m, fun _ => 0, g⟩ (fun r => ∀ c : Dev Cert.DsaPromptIdeal.nD,
          r.2.mem ((c.tc : Thread Cert.DsaPromptIdeal.nD Cert.DsaPromptIdeal.τ).loc Cert.DsaPromptIdeal.main_v120_0) = v0 c
          ∧ r.2.mem ((c.tc : Thread Cert.DsaPromptIdeal.nD Cert.DsaPromptIdeal.τ).loc Cert.DsaPromptIdeal.main_v120_1) = v1 c
          ∧ r.2.mem ((c.tc : Thread Cert.DsaPromptIdeal.nD Cert.DsaPromptIdeal.τ).loc Cert.DsaPromptIdeal.main_v120_2) = v2 c
          ∧ r.2.mem ((c.tc : Thread Cert.DsaPromptIdeal.nD Cert.DsaPromptIdeal.τ).loc Cert.DsaPromptIdeal.main_v120_3) = v3 c
          ∧ r.2.mem ((c.tc : Thread Cert.DsaPromptIdeal.nD Cert.DsaPromptIdeal.τ).loc Cert.DsaPromptIdeal.main_v120_4) = v4 c
          ∧ r.2.mem ((c.tc : Thread Cert.DsaPromptIdeal.nD Cert.DsaPromptIdeal.τ).loc Cert.DsaPromptIdeal.main_v120_5) = v5 c
          ∧ r.2.mem ((c.tc : Thread Cert.DsaPromptIdeal.nD Cert.DsaPromptIdeal.τ).loc Cert.DsaPromptIdeal.main_v120_6) = v6 c
          ∧ r.2.mem ((c.tc : Thread Cert.DsaPromptIdeal.nD Cert.DsaPromptIdeal.τ).loc Cert.DsaPromptIdeal.main_v120_7) = v7 c
          ∧ r.2.mem ((c.tc : Thread Cert.DsaPromptIdeal.nD Cert.DsaPromptIdeal.τ).loc Cert.DsaPromptIdeal.main_v120_8) = v8 c
          ∧ r.2.mem ((c.tc : Thread Cert.DsaPromptIdeal.nD Cert.DsaPromptIdeal.τ).loc Cert.DsaPromptIdeal.main_arg0) = m ((c.tc : Thread Cert.DsaPromptIdeal.nD Cert.DsaPromptIdeal.τ).loc Cert.DsaPromptIdeal.main_arg0))
      ∧ θ_run (Cert.DsaPromptRefIdeal.defs (F := Ideal)) (onTc (τ := Cert.DsaPromptRefIdeal.τ) (Cert.DsaPromptRefIdeal.main (F := Ideal))) ⟨m', fun _ => 0, g'⟩ (fun r => ∀ c : Dev Cert.DsaPromptRefIdeal.nD,
          r.2.mem ((c.tc : Thread Cert.DsaPromptRefIdeal.nD Cert.DsaPromptRefIdeal.τ).loc Cert.DsaPromptRefIdeal.main_v155) = v0 c
          ∧ r.2.mem ((c.tc : Thread Cert.DsaPromptRefIdeal.nD Cert.DsaPromptRefIdeal.τ).loc Cert.DsaPromptRefIdeal.main_v156) = v1 c
          ∧ r.2.mem ((c.tc : Thread Cert.DsaPromptRefIdeal.nD Cert.DsaPromptRefIdeal.τ).loc Cert.DsaPromptRefIdeal.main_v157) = v2 c
          ∧ r.2.mem ((c.tc : Thread Cert.DsaPromptRefIdeal.nD Cert.DsaPromptRefIdeal.τ).loc Cert.DsaPromptRefIdeal.main_v158) = v3 c
          ∧ r.2.mem ((c.tc : Thread Cert.DsaPromptRefIdeal.nD Cert.DsaPromptRefIdeal.τ).loc Cert.DsaPromptRefIdeal.main_v159) = v4 c
          ∧ r.2.mem ((c.tc : Thread Cert.DsaPromptRefIdeal.nD Cert.DsaPromptRefIdeal.τ).loc Cert.DsaPromptRefIdeal.main_v145) = v5 c
          ∧ r.2.mem ((c.tc : Thread Cert.DsaPromptRefIdeal.nD Cert.DsaPromptRefIdeal.τ).loc Cert.DsaPromptRefIdeal.main_v153) = v6 c
          ∧ r.2.mem ((c.tc : Thread Cert.DsaPromptRefIdeal.nD Cert.DsaPromptRefIdeal.τ).loc Cert.DsaPromptRefIdeal.main_v154) = v7 c
          ∧ r.2.mem ((c.tc : Thread Cert.DsaPromptRefIdeal.nD Cert.DsaPromptRefIdeal.τ).loc Cert.DsaPromptRefIdeal.main_v141) = v8 c
          ∧ r.2.mem ((c.tc : Thread Cert.DsaPromptRefIdeal.nD Cert.DsaPromptRefIdeal.τ).loc Cert.DsaPromptRefIdeal.main_arg0) = m' ((c.tc : Thread Cert.DsaPromptRefIdeal.nD Cert.DsaPromptRefIdeal.τ).loc Cert.DsaPromptRefIdeal.main_arg0))

def preserves_PrepPrompt_PrepPromptIdeal : Prop :=
  True

def algebraic_PrepPromptIdeal_PrepPromptRefIdeal [hPrepPromptIdeal : Cert.PrepPromptIdeal.Facts] [hPrepPromptRefIdeal : Cert.PrepPromptRefIdeal.Facts] : Prop :=
  ∀ (m : (ℓ : Loc Cert.PrepPromptIdeal.nD Cert.PrepPromptIdeal.τ Cert.PrepPromptIdeal.sig) → Buf (Elt Ideal) ℓ) (g : Dev Cert.PrepPromptIdeal.nD → PrngReg)
    (m' : (ℓ : Loc Cert.PrepPromptRefIdeal.nD Cert.PrepPromptRefIdeal.τ Cert.PrepPromptRefIdeal.sig) → Buf (Elt Ideal) ℓ) (g' : Dev Cert.PrepPromptRefIdeal.nD → PrngReg), Pre_PrepPromptIdeal m →
    (∀ c : Dev Cert.PrepPromptIdeal.nD,
      m' ((c.tc : Thread Cert.PrepPromptRefIdeal.nD Cert.PrepPromptRefIdeal.τ).loc Cert.PrepPromptRefIdeal.main_arg0) = m ((c.tc : Thread Cert.PrepPromptIdeal.nD Cert.PrepPromptIdeal.τ).loc Cert.PrepPromptIdeal.main_arg0)
      ∧ m' ((c.tc : Thread Cert.PrepPromptRefIdeal.nD Cert.PrepPromptRefIdeal.τ).loc Cert.PrepPromptRefIdeal.main_arg1) = m ((c.tc : Thread Cert.PrepPromptIdeal.nD Cert.PrepPromptIdeal.τ).loc Cert.PrepPromptIdeal.main_arg1)
      ∧ m' ((c.tc : Thread Cert.PrepPromptRefIdeal.nD Cert.PrepPromptRefIdeal.τ).loc Cert.PrepPromptRefIdeal.main_arg2) = m ((c.tc : Thread Cert.PrepPromptIdeal.nD Cert.PrepPromptIdeal.τ).loc Cert.PrepPromptIdeal.main_arg2)
      ∧ m' ((c.tc : Thread Cert.PrepPromptRefIdeal.nD Cert.PrepPromptRefIdeal.τ).loc Cert.PrepPromptRefIdeal.main_arg3) = m ((c.tc : Thread Cert.PrepPromptIdeal.nD Cert.PrepPromptIdeal.τ).loc Cert.PrepPromptIdeal.main_arg3)
      ∧ m' ((c.tc : Thread Cert.PrepPromptRefIdeal.nD Cert.PrepPromptRefIdeal.τ).loc Cert.PrepPromptRefIdeal.main_arg4) = m ((c.tc : Thread Cert.PrepPromptIdeal.nD Cert.PrepPromptIdeal.τ).loc Cert.PrepPromptIdeal.main_arg4)) →
    ∃ (v0 : (c : Dev Cert.PrepPromptIdeal.nD) → Buf (Elt Ideal) ((c.tc : Thread Cert.PrepPromptIdeal.nD Cert.PrepPromptIdeal.τ).loc Cert.PrepPromptIdeal.main_v70_0)) (v1 : (c : Dev Cert.PrepPromptIdeal.nD) → Buf (Elt Ideal) ((c.tc : Thread Cert.PrepPromptIdeal.nD Cert.PrepPromptIdeal.τ).loc Cert.PrepPromptIdeal.main_v70_1)) (v2 : (c : Dev Cert.PrepPromptIdeal.nD) → Buf (Elt Ideal) ((c.tc : Thread Cert.PrepPromptIdeal.nD Cert.PrepPromptIdeal.τ).loc Cert.PrepPromptIdeal.main_v70_2)) (v3 : (c : Dev Cert.PrepPromptIdeal.nD) → Buf (Elt Ideal) ((c.tc : Thread Cert.PrepPromptIdeal.nD Cert.PrepPromptIdeal.τ).loc Cert.PrepPromptIdeal.main_v70_3)) (v4 : (c : Dev Cert.PrepPromptIdeal.nD) → Buf (Elt Ideal) ((c.tc : Thread Cert.PrepPromptIdeal.nD Cert.PrepPromptIdeal.τ).loc Cert.PrepPromptIdeal.main_v70_4)),
      θ_run (Cert.PrepPromptIdeal.defs (F := Ideal)) (onTc (τ := Cert.PrepPromptIdeal.τ) (Cert.PrepPromptIdeal.main (F := Ideal))) ⟨m, fun _ => 0, g⟩ (fun r => ∀ c : Dev Cert.PrepPromptIdeal.nD,
          r.2.mem ((c.tc : Thread Cert.PrepPromptIdeal.nD Cert.PrepPromptIdeal.τ).loc Cert.PrepPromptIdeal.main_v70_0) = v0 c
          ∧ r.2.mem ((c.tc : Thread Cert.PrepPromptIdeal.nD Cert.PrepPromptIdeal.τ).loc Cert.PrepPromptIdeal.main_v70_1) = v1 c
          ∧ r.2.mem ((c.tc : Thread Cert.PrepPromptIdeal.nD Cert.PrepPromptIdeal.τ).loc Cert.PrepPromptIdeal.main_v70_2) = v2 c
          ∧ r.2.mem ((c.tc : Thread Cert.PrepPromptIdeal.nD Cert.PrepPromptIdeal.τ).loc Cert.PrepPromptIdeal.main_v70_3) = v3 c
          ∧ r.2.mem ((c.tc : Thread Cert.PrepPromptIdeal.nD Cert.PrepPromptIdeal.τ).loc Cert.PrepPromptIdeal.main_v70_4) = v4 c
          ∧ r.2.mem ((c.tc : Thread Cert.PrepPromptIdeal.nD Cert.PrepPromptIdeal.τ).loc Cert.PrepPromptIdeal.main_arg0) = m ((c.tc : Thread Cert.PrepPromptIdeal.nD Cert.PrepPromptIdeal.τ).loc Cert.PrepPromptIdeal.main_arg0)
          ∧ r.2.mem ((c.tc : Thread Cert.PrepPromptIdeal.nD Cert.PrepPromptIdeal.τ).loc Cert.PrepPromptIdeal.main_arg1) = m ((c.tc : Thread Cert.PrepPromptIdeal.nD Cert.PrepPromptIdeal.τ).loc Cert.PrepPromptIdeal.main_arg1)
          ∧ r.2.mem ((c.tc : Thread Cert.PrepPromptIdeal.nD Cert.PrepPromptIdeal.τ).loc Cert.PrepPromptIdeal.main_arg2) = m ((c.tc : Thread Cert.PrepPromptIdeal.nD Cert.PrepPromptIdeal.τ).loc Cert.PrepPromptIdeal.main_arg2)
          ∧ r.2.mem ((c.tc : Thread Cert.PrepPromptIdeal.nD Cert.PrepPromptIdeal.τ).loc Cert.PrepPromptIdeal.main_arg3) = m ((c.tc : Thread Cert.PrepPromptIdeal.nD Cert.PrepPromptIdeal.τ).loc Cert.PrepPromptIdeal.main_arg3)
          ∧ r.2.mem ((c.tc : Thread Cert.PrepPromptIdeal.nD Cert.PrepPromptIdeal.τ).loc Cert.PrepPromptIdeal.main_arg4) = m ((c.tc : Thread Cert.PrepPromptIdeal.nD Cert.PrepPromptIdeal.τ).loc Cert.PrepPromptIdeal.main_arg4))
      ∧ θ_run (Cert.PrepPromptRefIdeal.defs (F := Ideal)) (onTc (τ := Cert.PrepPromptRefIdeal.τ) (Cert.PrepPromptRefIdeal.main (F := Ideal))) ⟨m', fun _ => 0, g'⟩ (fun r => ∀ c : Dev Cert.PrepPromptRefIdeal.nD,
          r.2.mem ((c.tc : Thread Cert.PrepPromptRefIdeal.nD Cert.PrepPromptRefIdeal.τ).loc Cert.PrepPromptRefIdeal.main_v114) = v0 c
          ∧ r.2.mem ((c.tc : Thread Cert.PrepPromptRefIdeal.nD Cert.PrepPromptRefIdeal.τ).loc Cert.PrepPromptRefIdeal.main_v115) = v1 c
          ∧ r.2.mem ((c.tc : Thread Cert.PrepPromptRefIdeal.nD Cert.PrepPromptRefIdeal.τ).loc Cert.PrepPromptRefIdeal.main_v116) = v2 c
          ∧ r.2.mem ((c.tc : Thread Cert.PrepPromptRefIdeal.nD Cert.PrepPromptRefIdeal.τ).loc Cert.PrepPromptRefIdeal.main_v67) = v3 c
          ∧ r.2.mem ((c.tc : Thread Cert.PrepPromptRefIdeal.nD Cert.PrepPromptRefIdeal.τ).loc Cert.PrepPromptRefIdeal.main_v113) = v4 c
          ∧ r.2.mem ((c.tc : Thread Cert.PrepPromptRefIdeal.nD Cert.PrepPromptRefIdeal.τ).loc Cert.PrepPromptRefIdeal.main_arg0) = m' ((c.tc : Thread Cert.PrepPromptRefIdeal.nD Cert.PrepPromptRefIdeal.τ).loc Cert.PrepPromptRefIdeal.main_arg0)
          ∧ r.2.mem ((c.tc : Thread Cert.PrepPromptRefIdeal.nD Cert.PrepPromptRefIdeal.τ).loc Cert.PrepPromptRefIdeal.main_arg1) = m' ((c.tc : Thread Cert.PrepPromptRefIdeal.nD Cert.PrepPromptRefIdeal.τ).loc Cert.PrepPromptRefIdeal.main_arg1)
          ∧ r.2.mem ((c.tc : Thread Cert.PrepPromptRefIdeal.nD Cert.PrepPromptRefIdeal.τ).loc Cert.PrepPromptRefIdeal.main_arg2) = m' ((c.tc : Thread Cert.PrepPromptRefIdeal.nD Cert.PrepPromptRefIdeal.τ).loc Cert.PrepPromptRefIdeal.main_arg2)
          ∧ r.2.mem ((c.tc : Thread Cert.PrepPromptRefIdeal.nD Cert.PrepPromptRefIdeal.τ).loc Cert.PrepPromptRefIdeal.main_arg3) = m' ((c.tc : Thread Cert.PrepPromptRefIdeal.nD Cert.PrepPromptRefIdeal.τ).loc Cert.PrepPromptRefIdeal.main_arg3)
          ∧ r.2.mem ((c.tc : Thread Cert.PrepPromptRefIdeal.nD Cert.PrepPromptRefIdeal.τ).loc Cert.PrepPromptRefIdeal.main_arg4) = m' ((c.tc : Thread Cert.PrepPromptRefIdeal.nD Cert.PrepPromptRefIdeal.τ).loc Cert.PrepPromptRefIdeal.main_arg4))

def preserves_ProjPrompt_ProjPromptIdeal : Prop :=
  True

def algebraic_ProjPromptIdeal_ProjPromptRefIdeal [hProjPromptIdeal : Cert.ProjPromptIdeal.Facts] [hProjPromptRefIdeal : Cert.ProjPromptRefIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg)
    (m' : (ℓ : Loc Cert.ProjPromptRefIdeal.nD Cert.ProjPromptRefIdeal.τ Cert.ProjPromptRefIdeal.sig) → Buf (Elt Ideal) ℓ) (g' : Dev Cert.ProjPromptRefIdeal.nD → PrngReg), Pre_ProjPromptIdeal m →
    (∀ c : Dev Cert.ProjPromptIdeal.nD,
      m' ((c.tc : Thread Cert.ProjPromptRefIdeal.nD Cert.ProjPromptRefIdeal.τ).loc Cert.ProjPromptRefIdeal.main_arg0) = m ((c.tc : Thread Cert.ProjPromptIdeal.nD Cert.ProjPromptIdeal.τ).loc Cert.ProjPromptIdeal.main_arg0)
      ∧ m' ((c.tc : Thread Cert.ProjPromptRefIdeal.nD Cert.ProjPromptRefIdeal.τ).loc Cert.ProjPromptRefIdeal.main_arg1) = m ((c.tc : Thread Cert.ProjPromptIdeal.nD Cert.ProjPromptIdeal.τ).loc Cert.ProjPromptIdeal.main_arg1)) →
    ∃ (v0 : (c : Dev Cert.ProjPromptIdeal.nD) → Buf (Elt Ideal) ((c.tc : Thread Cert.ProjPromptIdeal.nD Cert.ProjPromptIdeal.τ).loc Cert.ProjPromptIdeal.main_v23_0)) (v1 : (c : Dev Cert.ProjPromptIdeal.nD) → Buf (Elt Ideal) ((c.tc : Thread Cert.ProjPromptIdeal.nD Cert.ProjPromptIdeal.τ).loc Cert.ProjPromptIdeal.main_v23_1)) (v2 : (c : Dev Cert.ProjPromptIdeal.nD) → Buf (Elt Ideal) ((c.tc : Thread Cert.ProjPromptIdeal.nD Cert.ProjPromptIdeal.τ).loc Cert.ProjPromptIdeal.main_v23_2)),
      θ_run (Cert.ProjPromptIdeal.defs (F := Ideal)) (onTc (τ := Cert.ProjPromptIdeal.τ) (Cert.ProjPromptIdeal.main (F := Ideal))) ⟨m, fun _ => 0, g⟩ (fun r => ∀ c : Dev Cert.ProjPromptIdeal.nD,
          r.2.mem ((c.tc : Thread Cert.ProjPromptIdeal.nD Cert.ProjPromptIdeal.τ).loc Cert.ProjPromptIdeal.main_v23_0) = v0 c
          ∧ r.2.mem ((c.tc : Thread Cert.ProjPromptIdeal.nD Cert.ProjPromptIdeal.τ).loc Cert.ProjPromptIdeal.main_v23_1) = v1 c
          ∧ r.2.mem ((c.tc : Thread Cert.ProjPromptIdeal.nD Cert.ProjPromptIdeal.τ).loc Cert.ProjPromptIdeal.main_v23_2) = v2 c
          ∧ r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
          ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1))
      ∧ θ_run (Cert.ProjPromptRefIdeal.defs (F := Ideal)) (onTc (τ := Cert.ProjPromptRefIdeal.τ) (Cert.ProjPromptRefIdeal.main (F := Ideal))) ⟨m', fun _ => 0, g'⟩ (fun r => ∀ c : Dev Cert.ProjPromptRefIdeal.nD,
          r.2.mem ((c.tc : Thread Cert.ProjPromptRefIdeal.nD Cert.ProjPromptRefIdeal.τ).loc Cert.ProjPromptRefIdeal.main_v4) = v0 c
          ∧ r.2.mem ((c.tc : Thread Cert.ProjPromptRefIdeal.nD Cert.ProjPromptRefIdeal.τ).loc Cert.ProjPromptRefIdeal.main_v11) = v1 c
          ∧ r.2.mem ((c.tc : Thread Cert.ProjPromptRefIdeal.nD Cert.ProjPromptRefIdeal.τ).loc Cert.ProjPromptRefIdeal.main_v3) = v2 c
          ∧ r.2.mem ((c.tc : Thread Cert.ProjPromptRefIdeal.nD Cert.ProjPromptRefIdeal.τ).loc Cert.ProjPromptRefIdeal.main_arg0) = m' ((c.tc : Thread Cert.ProjPromptRefIdeal.nD Cert.ProjPromptRefIdeal.τ).loc Cert.ProjPromptRefIdeal.main_arg0)
          ∧ r.2.mem ((c.tc : Thread Cert.ProjPromptRefIdeal.nD Cert.ProjPromptRefIdeal.τ).loc Cert.ProjPromptRefIdeal.main_arg1) = m' ((c.tc : Thread Cert.ProjPromptRefIdeal.nD Cert.ProjPromptRefIdeal.τ).loc Cert.ProjPromptRefIdeal.main_arg1))

def preserves_MoePrompt_MoePromptIdeal : Prop :=
  True

def algebraic_MoePromptIdeal_MoePromptRefIdeal_pre_moe_prompt_ok [hMoePromptIdeal : Cert.MoePromptIdeal.Facts] [hMoePromptRefIdeal : Cert.MoePromptRefIdeal.Facts] [hPre_moe_prompt_ok : Cert.Pre_moe_prompt_ok.Facts] : Prop :=
  ∀ (m : (ℓ : Loc Cert.MoePromptIdeal.nD Cert.MoePromptIdeal.τ Cert.MoePromptIdeal.sig) → Buf (Elt Ideal) ℓ) (g : Dev Cert.MoePromptIdeal.nD → PrngReg)
    (m' : (ℓ : Loc Cert.MoePromptRefIdeal.nD Cert.MoePromptRefIdeal.τ Cert.MoePromptRefIdeal.sig) → Buf (Elt Ideal) ℓ) (g' : Dev Cert.MoePromptRefIdeal.nD → PrngReg), Pre_MoePromptIdeal_moe_prompt_ok m →
    (∀ c : Dev Cert.MoePromptIdeal.nD,
      m' ((c.tc : Thread Cert.MoePromptRefIdeal.nD Cert.MoePromptRefIdeal.τ).loc Cert.MoePromptRefIdeal.main_arg0) = m ((c.tc : Thread Cert.MoePromptIdeal.nD Cert.MoePromptIdeal.τ).loc Cert.MoePromptIdeal.main_arg0)
      ∧ m' ((c.tc : Thread Cert.MoePromptRefIdeal.nD Cert.MoePromptRefIdeal.τ).loc Cert.MoePromptRefIdeal.main_arg1) = m ((c.tc : Thread Cert.MoePromptIdeal.nD Cert.MoePromptIdeal.τ).loc Cert.MoePromptIdeal.main_arg1)
      ∧ m' ((c.tc : Thread Cert.MoePromptRefIdeal.nD Cert.MoePromptRefIdeal.τ).loc Cert.MoePromptRefIdeal.main_arg2) = m ((c.tc : Thread Cert.MoePromptIdeal.nD Cert.MoePromptIdeal.τ).loc Cert.MoePromptIdeal.main_arg2)
      ∧ m' ((c.tc : Thread Cert.MoePromptRefIdeal.nD Cert.MoePromptRefIdeal.τ).loc Cert.MoePromptRefIdeal.main_arg3) = m ((c.tc : Thread Cert.MoePromptIdeal.nD Cert.MoePromptIdeal.τ).loc Cert.MoePromptIdeal.main_arg3)
      ∧ m' ((c.tc : Thread Cert.MoePromptRefIdeal.nD Cert.MoePromptRefIdeal.τ).loc Cert.MoePromptRefIdeal.main_arg4) = m ((c.tc : Thread Cert.MoePromptIdeal.nD Cert.MoePromptIdeal.τ).loc Cert.MoePromptIdeal.main_arg4)
      ∧ m' ((c.tc : Thread Cert.MoePromptRefIdeal.nD Cert.MoePromptRefIdeal.τ).loc Cert.MoePromptRefIdeal.main_arg5) = m ((c.tc : Thread Cert.MoePromptIdeal.nD Cert.MoePromptIdeal.τ).loc Cert.MoePromptIdeal.main_arg5)
      ∧ m' ((c.tc : Thread Cert.MoePromptRefIdeal.nD Cert.MoePromptRefIdeal.τ).loc Cert.MoePromptRefIdeal.main_arg6) = m ((c.tc : Thread Cert.MoePromptIdeal.nD Cert.MoePromptIdeal.τ).loc Cert.MoePromptIdeal.main_arg6)) →
    ∃ (v0 : (c : Dev Cert.MoePromptIdeal.nD) → Buf (Elt Ideal) ((c.tc : Thread Cert.MoePromptIdeal.nD Cert.MoePromptIdeal.τ).loc Cert.MoePromptIdeal.main_v5)),
      θ_run (Cert.MoePromptIdeal.defs (F := Ideal)) (onTc (τ := Cert.MoePromptIdeal.τ) (Cert.MoePromptIdeal.main (F := Ideal))) ⟨m, fun _ => 0, g⟩ (fun r => ∀ c : Dev Cert.MoePromptIdeal.nD,
          r.2.mem ((c.tc : Thread Cert.MoePromptIdeal.nD Cert.MoePromptIdeal.τ).loc Cert.MoePromptIdeal.main_v5) = v0 c
          ∧ r.2.mem ((c.tc : Thread Cert.MoePromptIdeal.nD Cert.MoePromptIdeal.τ).loc Cert.MoePromptIdeal.main_arg0) = m ((c.tc : Thread Cert.MoePromptIdeal.nD Cert.MoePromptIdeal.τ).loc Cert.MoePromptIdeal.main_arg0)
          ∧ r.2.mem ((c.tc : Thread Cert.MoePromptIdeal.nD Cert.MoePromptIdeal.τ).loc Cert.MoePromptIdeal.main_arg1) = m ((c.tc : Thread Cert.MoePromptIdeal.nD Cert.MoePromptIdeal.τ).loc Cert.MoePromptIdeal.main_arg1)
          ∧ r.2.mem ((c.tc : Thread Cert.MoePromptIdeal.nD Cert.MoePromptIdeal.τ).loc Cert.MoePromptIdeal.main_arg2) = m ((c.tc : Thread Cert.MoePromptIdeal.nD Cert.MoePromptIdeal.τ).loc Cert.MoePromptIdeal.main_arg2)
          ∧ r.2.mem ((c.tc : Thread Cert.MoePromptIdeal.nD Cert.MoePromptIdeal.τ).loc Cert.MoePromptIdeal.main_arg3) = m ((c.tc : Thread Cert.MoePromptIdeal.nD Cert.MoePromptIdeal.τ).loc Cert.MoePromptIdeal.main_arg3)
          ∧ r.2.mem ((c.tc : Thread Cert.MoePromptIdeal.nD Cert.MoePromptIdeal.τ).loc Cert.MoePromptIdeal.main_arg4) = m ((c.tc : Thread Cert.MoePromptIdeal.nD Cert.MoePromptIdeal.τ).loc Cert.MoePromptIdeal.main_arg4)
          ∧ r.2.mem ((c.tc : Thread Cert.MoePromptIdeal.nD Cert.MoePromptIdeal.τ).loc Cert.MoePromptIdeal.main_arg5) = m ((c.tc : Thread Cert.MoePromptIdeal.nD Cert.MoePromptIdeal.τ).loc Cert.MoePromptIdeal.main_arg5)
          ∧ r.2.mem ((c.tc : Thread Cert.MoePromptIdeal.nD Cert.MoePromptIdeal.τ).loc Cert.MoePromptIdeal.main_arg6) = m ((c.tc : Thread Cert.MoePromptIdeal.nD Cert.MoePromptIdeal.τ).loc Cert.MoePromptIdeal.main_arg6))
      ∧ θ_run (Cert.MoePromptRefIdeal.defs (F := Ideal)) (onTc (τ := Cert.MoePromptRefIdeal.τ) (Cert.MoePromptRefIdeal.main (F := Ideal))) ⟨m', fun _ => 0, g'⟩ (fun r => ∀ c : Dev Cert.MoePromptRefIdeal.nD,
          r.2.mem ((c.tc : Thread Cert.MoePromptRefIdeal.nD Cert.MoePromptRefIdeal.τ).loc Cert.MoePromptRefIdeal.main_v49) = v0 c
          ∧ r.2.mem ((c.tc : Thread Cert.MoePromptRefIdeal.nD Cert.MoePromptRefIdeal.τ).loc Cert.MoePromptRefIdeal.main_arg0) = m' ((c.tc : Thread Cert.MoePromptRefIdeal.nD Cert.MoePromptRefIdeal.τ).loc Cert.MoePromptRefIdeal.main_arg0)
          ∧ r.2.mem ((c.tc : Thread Cert.MoePromptRefIdeal.nD Cert.MoePromptRefIdeal.τ).loc Cert.MoePromptRefIdeal.main_arg1) = m' ((c.tc : Thread Cert.MoePromptRefIdeal.nD Cert.MoePromptRefIdeal.τ).loc Cert.MoePromptRefIdeal.main_arg1)
          ∧ r.2.mem ((c.tc : Thread Cert.MoePromptRefIdeal.nD Cert.MoePromptRefIdeal.τ).loc Cert.MoePromptRefIdeal.main_arg2) = m' ((c.tc : Thread Cert.MoePromptRefIdeal.nD Cert.MoePromptRefIdeal.τ).loc Cert.MoePromptRefIdeal.main_arg2)
          ∧ r.2.mem ((c.tc : Thread Cert.MoePromptRefIdeal.nD Cert.MoePromptRefIdeal.τ).loc Cert.MoePromptRefIdeal.main_arg3) = m' ((c.tc : Thread Cert.MoePromptRefIdeal.nD Cert.MoePromptRefIdeal.τ).loc Cert.MoePromptRefIdeal.main_arg3)
          ∧ r.2.mem ((c.tc : Thread Cert.MoePromptRefIdeal.nD Cert.MoePromptRefIdeal.τ).loc Cert.MoePromptRefIdeal.main_arg4) = m' ((c.tc : Thread Cert.MoePromptRefIdeal.nD Cert.MoePromptRefIdeal.τ).loc Cert.MoePromptRefIdeal.main_arg4)
          ∧ r.2.mem ((c.tc : Thread Cert.MoePromptRefIdeal.nD Cert.MoePromptRefIdeal.τ).loc Cert.MoePromptRefIdeal.main_arg5) = m' ((c.tc : Thread Cert.MoePromptRefIdeal.nD Cert.MoePromptRefIdeal.τ).loc Cert.MoePromptRefIdeal.main_arg5)
          ∧ r.2.mem ((c.tc : Thread Cert.MoePromptRefIdeal.nD Cert.MoePromptRefIdeal.τ).loc Cert.MoePromptRefIdeal.main_arg6) = m' ((c.tc : Thread Cert.MoePromptRefIdeal.nD Cert.MoePromptRefIdeal.τ).loc Cert.MoePromptRefIdeal.main_arg6))

def preserves_OutPrompt_OutPromptIdeal : Prop :=
  True

def algebraic_OutPromptIdeal_OutPromptRefIdeal [hOutPromptIdeal : Cert.OutPromptIdeal.Facts] [hOutPromptRefIdeal : Cert.OutPromptRefIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg)
    (m' : (ℓ : Loc Cert.OutPromptRefIdeal.nD Cert.OutPromptRefIdeal.τ Cert.OutPromptRefIdeal.sig) → Buf (Elt Ideal) ℓ) (g' : Dev Cert.OutPromptRefIdeal.nD → PrngReg), Pre_OutPromptIdeal m →
    (∀ c : Dev Cert.OutPromptIdeal.nD,
      m' ((c.tc : Thread Cert.OutPromptRefIdeal.nD Cert.OutPromptRefIdeal.τ).loc Cert.OutPromptRefIdeal.main_arg0) = m ((c.tc : Thread Cert.OutPromptIdeal.nD Cert.OutPromptIdeal.τ).loc Cert.OutPromptIdeal.main_arg0)
      ∧ m' ((c.tc : Thread Cert.OutPromptRefIdeal.nD Cert.OutPromptRefIdeal.τ).loc Cert.OutPromptRefIdeal.main_arg1) = m ((c.tc : Thread Cert.OutPromptIdeal.nD Cert.OutPromptIdeal.τ).loc Cert.OutPromptIdeal.main_arg1)
      ∧ m' ((c.tc : Thread Cert.OutPromptRefIdeal.nD Cert.OutPromptRefIdeal.τ).loc Cert.OutPromptRefIdeal.main_arg2) = m ((c.tc : Thread Cert.OutPromptIdeal.nD Cert.OutPromptIdeal.τ).loc Cert.OutPromptIdeal.main_arg2)
      ∧ m' ((c.tc : Thread Cert.OutPromptRefIdeal.nD Cert.OutPromptRefIdeal.τ).loc Cert.OutPromptRefIdeal.main_arg3) = m ((c.tc : Thread Cert.OutPromptIdeal.nD Cert.OutPromptIdeal.τ).loc Cert.OutPromptIdeal.main_arg3)
      ∧ m' ((c.tc : Thread Cert.OutPromptRefIdeal.nD Cert.OutPromptRefIdeal.τ).loc Cert.OutPromptRefIdeal.main_arg4) = m ((c.tc : Thread Cert.OutPromptIdeal.nD Cert.OutPromptIdeal.τ).loc Cert.OutPromptIdeal.main_arg4)
      ∧ m' ((c.tc : Thread Cert.OutPromptRefIdeal.nD Cert.OutPromptRefIdeal.τ).loc Cert.OutPromptRefIdeal.main_arg5) = m ((c.tc : Thread Cert.OutPromptIdeal.nD Cert.OutPromptIdeal.τ).loc Cert.OutPromptIdeal.main_arg5)
      ∧ m' ((c.tc : Thread Cert.OutPromptRefIdeal.nD Cert.OutPromptRefIdeal.τ).loc Cert.OutPromptRefIdeal.main_arg6) = m ((c.tc : Thread Cert.OutPromptIdeal.nD Cert.OutPromptIdeal.τ).loc Cert.OutPromptIdeal.main_arg6)) →
    ∃ (v0 : (c : Dev Cert.OutPromptIdeal.nD) → Buf (Elt Ideal) ((c.tc : Thread Cert.OutPromptIdeal.nD Cert.OutPromptIdeal.τ).loc Cert.OutPromptIdeal.main_v8)),
      θ_run (Cert.OutPromptIdeal.defs (F := Ideal)) (onTc (τ := Cert.OutPromptIdeal.τ) (Cert.OutPromptIdeal.main (F := Ideal))) ⟨m, fun _ => 0, g⟩ (fun r => ∀ c : Dev Cert.OutPromptIdeal.nD,
          r.2.mem ((c.tc : Thread Cert.OutPromptIdeal.nD Cert.OutPromptIdeal.τ).loc Cert.OutPromptIdeal.main_v8) = v0 c
          ∧ r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
          ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
          ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
          ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3)
          ∧ r.2.mem ((c.tc : Thread Cert.OutPromptIdeal.nD Cert.OutPromptIdeal.τ).loc Cert.OutPromptIdeal.main_arg4) = m ((c.tc : Thread Cert.OutPromptIdeal.nD Cert.OutPromptIdeal.τ).loc Cert.OutPromptIdeal.main_arg4)
          ∧ r.2.mem ((c.tc : Thread Cert.OutPromptIdeal.nD Cert.OutPromptIdeal.τ).loc Cert.OutPromptIdeal.main_arg5) = m ((c.tc : Thread Cert.OutPromptIdeal.nD Cert.OutPromptIdeal.τ).loc Cert.OutPromptIdeal.main_arg5)
          ∧ r.2.mem ((c.tc : Thread Cert.OutPromptIdeal.nD Cert.OutPromptIdeal.τ).loc Cert.OutPromptIdeal.main_arg6) = m ((c.tc : Thread Cert.OutPromptIdeal.nD Cert.OutPromptIdeal.τ).loc Cert.OutPromptIdeal.main_arg6))
      ∧ θ_run (Cert.OutPromptRefIdeal.defs (F := Ideal)) (onTc (τ := Cert.OutPromptRefIdeal.τ) (Cert.OutPromptRefIdeal.main (F := Ideal))) ⟨m', fun _ => 0, g'⟩ (fun r => ∀ c : Dev Cert.OutPromptRefIdeal.nD,
          r.2.mem ((c.tc : Thread Cert.OutPromptRefIdeal.nD Cert.OutPromptRefIdeal.τ).loc Cert.OutPromptRefIdeal.main_v38) = v0 c
          ∧ r.2.mem ((c.tc : Thread Cert.OutPromptRefIdeal.nD Cert.OutPromptRefIdeal.τ).loc Cert.OutPromptRefIdeal.main_arg0) = m' ((c.tc : Thread Cert.OutPromptRefIdeal.nD Cert.OutPromptRefIdeal.τ).loc Cert.OutPromptRefIdeal.main_arg0)
          ∧ r.2.mem ((c.tc : Thread Cert.OutPromptRefIdeal.nD Cert.OutPromptRefIdeal.τ).loc Cert.OutPromptRefIdeal.main_arg1) = m' ((c.tc : Thread Cert.OutPromptRefIdeal.nD Cert.OutPromptRefIdeal.τ).loc Cert.OutPromptRefIdeal.main_arg1)
          ∧ r.2.mem ((c.tc : Thread Cert.OutPromptRefIdeal.nD Cert.OutPromptRefIdeal.τ).loc Cert.OutPromptRefIdeal.main_arg2) = m' ((c.tc : Thread Cert.OutPromptRefIdeal.nD Cert.OutPromptRefIdeal.τ).loc Cert.OutPromptRefIdeal.main_arg2)
          ∧ r.2.mem ((c.tc : Thread Cert.OutPromptRefIdeal.nD Cert.OutPromptRefIdeal.τ).loc Cert.OutPromptRefIdeal.main_arg3) = m' ((c.tc : Thread Cert.OutPromptRefIdeal.nD Cert.OutPromptRefIdeal.τ).loc Cert.OutPromptRefIdeal.main_arg3)
          ∧ r.2.mem ((c.tc : Thread Cert.OutPromptRefIdeal.nD Cert.OutPromptRefIdeal.τ).loc Cert.OutPromptRefIdeal.main_arg4) = m' ((c.tc : Thread Cert.OutPromptRefIdeal.nD Cert.OutPromptRefIdeal.τ).loc Cert.OutPromptRefIdeal.main_arg4)
          ∧ r.2.mem ((c.tc : Thread Cert.OutPromptRefIdeal.nD Cert.OutPromptRefIdeal.τ).loc Cert.OutPromptRefIdeal.main_arg5) = m' ((c.tc : Thread Cert.OutPromptRefIdeal.nD Cert.OutPromptRefIdeal.τ).loc Cert.OutPromptRefIdeal.main_arg5)
          ∧ r.2.mem ((c.tc : Thread Cert.OutPromptRefIdeal.nD Cert.OutPromptRefIdeal.τ).loc Cert.OutPromptRefIdeal.main_arg6) = m' ((c.tc : Thread Cert.OutPromptRefIdeal.nD Cert.OutPromptRefIdeal.τ).loc Cert.OutPromptRefIdeal.main_arg6))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hPrep : Cert.Prep.Facts) (hPrepIdeal : Cert.PrepIdeal.Facts) (hPrepRefIdeal : Cert.PrepRefIdeal.Facts) (hPast : Cert.Past.Facts) (hPastIdeal : Cert.PastIdeal.Facts) (hPastRefIdeal : Cert.PastRefIdeal.Facts) (hDsa : Cert.Dsa.Facts) (hDsaIdeal : Cert.DsaIdeal.Facts) (hDsaRefIdeal : Cert.DsaRefIdeal.Facts) (hDsaPrompt : Cert.DsaPrompt.Facts) (hDsaPromptIdeal : Cert.DsaPromptIdeal.Facts) (hDsaPromptRefIdeal : Cert.DsaPromptRefIdeal.Facts) (hPrepPrompt : Cert.PrepPrompt.Facts) (hPrepPromptIdeal : Cert.PrepPromptIdeal.Facts) (hPrepPromptRefIdeal : Cert.PrepPromptRefIdeal.Facts) (hProjPrompt : Cert.ProjPrompt.Facts) (hProjPromptIdeal : Cert.ProjPromptIdeal.Facts) (hProjPromptRefIdeal : Cert.ProjPromptRefIdeal.Facts) (hMoePrompt : Cert.MoePrompt.Facts) (hMoePromptIdeal : Cert.MoePromptIdeal.Facts) (hMoePromptRefIdeal : Cert.MoePromptRefIdeal.Facts) (hOutPrompt : Cert.OutPrompt.Facts) (hOutPromptIdeal : Cert.OutPromptIdeal.Facts) (hOutPromptRefIdeal : Cert.OutPromptRefIdeal.Facts) (hPre_attn_ok : Cert.Pre_attn_ok.Facts) (hPre_moe_ok : Cert.Pre_moe_ok.Facts) (hPre_dsa_ok : Cert.Pre_dsa_ok.Facts) (hPre_dsa_prompt_ok : Cert.Pre_dsa_prompt_ok.Facts) (hPre_moe_prompt_ok : Cert.Pre_moe_prompt_ok.Facts),
    quiescent_Attn (hAttn := hAttn)
    ∧ quiescent_AttnIdeal (hAttnIdeal := hAttnIdeal)
    ∧ quiescent_AttnIdeal_pre_attn_ok (hAttnIdeal := hAttnIdeal) (hPre_attn_ok := hPre_attn_ok)
    ∧ quiescent_AttnRefIdeal (hAttnRefIdeal := hAttnRefIdeal)
    ∧ quiescent_AttnRefIdeal_pre_attn_ok (hAttnRefIdeal := hAttnRefIdeal) (hPre_attn_ok := hPre_attn_ok)
    ∧ quiescent_Moe (hMoe := hMoe)
    ∧ quiescent_MoeIdeal (hMoeIdeal := hMoeIdeal)
    ∧ quiescent_MoeIdeal_pre_moe_ok (hMoeIdeal := hMoeIdeal) (hPre_moe_ok := hPre_moe_ok)
    ∧ quiescent_MoeRefIdeal (hMoeRefIdeal := hMoeRefIdeal)
    ∧ quiescent_MoeRefIdeal_pre_moe_ok (hMoeRefIdeal := hMoeRefIdeal) (hPre_moe_ok := hPre_moe_ok)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Prep (hPrep := hPrep)
    ∧ quiescent_PrepIdeal (hPrepIdeal := hPrepIdeal)
    ∧ quiescent_PrepRefIdeal (hPrepRefIdeal := hPrepRefIdeal)
    ∧ quiescent_Past (hPast := hPast)
    ∧ quiescent_PastIdeal (hPastIdeal := hPastIdeal)
    ∧ quiescent_PastRefIdeal (hPastRefIdeal := hPastRefIdeal)
    ∧ quiescent_Dsa (hDsa := hDsa)
    ∧ quiescent_DsaIdeal (hDsaIdeal := hDsaIdeal)
    ∧ quiescent_DsaIdeal_pre_dsa_ok (hDsaIdeal := hDsaIdeal) (hPre_dsa_ok := hPre_dsa_ok)
    ∧ quiescent_DsaRefIdeal (hDsaRefIdeal := hDsaRefIdeal)
    ∧ quiescent_DsaRefIdeal_pre_dsa_ok (hDsaRefIdeal := hDsaRefIdeal) (hPre_dsa_ok := hPre_dsa_ok)
    ∧ quiescent_DsaPrompt (hDsaPrompt := hDsaPrompt)
    ∧ quiescent_DsaPromptIdeal (hDsaPromptIdeal := hDsaPromptIdeal)
    ∧ quiescent_DsaPromptIdeal_pre_dsa_prompt_ok (hDsaPromptIdeal := hDsaPromptIdeal) (hPre_dsa_prompt_ok := hPre_dsa_prompt_ok)
    ∧ quiescent_DsaPromptRefIdeal (hDsaPromptRefIdeal := hDsaPromptRefIdeal)
    ∧ quiescent_DsaPromptRefIdeal_pre_dsa_prompt_ok (hDsaPromptRefIdeal := hDsaPromptRefIdeal) (hPre_dsa_prompt_ok := hPre_dsa_prompt_ok)
    ∧ quiescent_PrepPrompt (hPrepPrompt := hPrepPrompt)
    ∧ quiescent_PrepPromptIdeal (hPrepPromptIdeal := hPrepPromptIdeal)
    ∧ quiescent_PrepPromptRefIdeal (hPrepPromptRefIdeal := hPrepPromptRefIdeal)
    ∧ quiescent_ProjPrompt (hProjPrompt := hProjPrompt)
    ∧ quiescent_ProjPromptIdeal (hProjPromptIdeal := hProjPromptIdeal)
    ∧ quiescent_ProjPromptRefIdeal (hProjPromptRefIdeal := hProjPromptRefIdeal)
    ∧ quiescent_MoePrompt (hMoePrompt := hMoePrompt)
    ∧ quiescent_MoePromptIdeal (hMoePromptIdeal := hMoePromptIdeal)
    ∧ quiescent_MoePromptIdeal_pre_moe_prompt_ok (hMoePromptIdeal := hMoePromptIdeal) (hPre_moe_prompt_ok := hPre_moe_prompt_ok)
    ∧ quiescent_MoePromptRefIdeal (hMoePromptRefIdeal := hMoePromptRefIdeal)
    ∧ quiescent_MoePromptRefIdeal_pre_moe_prompt_ok (hMoePromptRefIdeal := hMoePromptRefIdeal) (hPre_moe_prompt_ok := hPre_moe_prompt_ok)
    ∧ quiescent_OutPrompt (hOutPrompt := hOutPrompt)
    ∧ quiescent_OutPromptIdeal (hOutPromptIdeal := hOutPromptIdeal)
    ∧ quiescent_OutPromptRefIdeal (hOutPromptRefIdeal := hOutPromptRefIdeal)
    ∧ preserves_Attn_AttnIdeal
    ∧ algebraic_AttnIdeal_AttnRefIdeal_pre_attn_ok (hAttnIdeal := hAttnIdeal) (hAttnRefIdeal := hAttnRefIdeal) (hPre_attn_ok := hPre_attn_ok)
    ∧ preserves_Moe_MoeIdeal
    ∧ algebraic_MoeIdeal_MoeRefIdeal_pre_moe_ok (hMoeIdeal := hMoeIdeal) (hMoeRefIdeal := hMoeRefIdeal) (hPre_moe_ok := hPre_moe_ok)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Prep_PrepIdeal
    ∧ algebraic_PrepIdeal_PrepRefIdeal (hPrepIdeal := hPrepIdeal) (hPrepRefIdeal := hPrepRefIdeal)
    ∧ preserves_Past_PastIdeal
    ∧ algebraic_PastIdeal_PastRefIdeal (hPastIdeal := hPastIdeal) (hPastRefIdeal := hPastRefIdeal)
    ∧ preserves_Dsa_DsaIdeal
    ∧ algebraic_DsaIdeal_DsaRefIdeal_pre_dsa_ok (hDsaIdeal := hDsaIdeal) (hDsaRefIdeal := hDsaRefIdeal) (hPre_dsa_ok := hPre_dsa_ok)
    ∧ preserves_DsaPrompt_DsaPromptIdeal
    ∧ algebraic_DsaPromptIdeal_DsaPromptRefIdeal_pre_dsa_prompt_ok (hDsaPromptIdeal := hDsaPromptIdeal) (hDsaPromptRefIdeal := hDsaPromptRefIdeal) (hPre_dsa_prompt_ok := hPre_dsa_prompt_ok)
    ∧ preserves_PrepPrompt_PrepPromptIdeal
    ∧ algebraic_PrepPromptIdeal_PrepPromptRefIdeal (hPrepPromptIdeal := hPrepPromptIdeal) (hPrepPromptRefIdeal := hPrepPromptRefIdeal)
    ∧ preserves_ProjPrompt_ProjPromptIdeal
    ∧ algebraic_ProjPromptIdeal_ProjPromptRefIdeal (hProjPromptIdeal := hProjPromptIdeal) (hProjPromptRefIdeal := hProjPromptRefIdeal)
    ∧ preserves_MoePrompt_MoePromptIdeal
    ∧ algebraic_MoePromptIdeal_MoePromptRefIdeal_pre_moe_prompt_ok (hMoePromptIdeal := hMoePromptIdeal) (hMoePromptRefIdeal := hMoePromptRefIdeal) (hPre_moe_prompt_ok := hPre_moe_prompt_ok)
    ∧ preserves_OutPrompt_OutPromptIdeal
    ∧ algebraic_OutPromptIdeal_OutPromptRefIdeal (hOutPromptIdeal := hOutPromptIdeal) (hOutPromptRefIdeal := hOutPromptRefIdeal)
-- ==== Pre_attn_ok.lean ====
abbrev S16x4x32x128 : Shape := ⟨4, ![16, 4, 32, 128]⟩
abbrev S16x4x4096x128 : Shape := ⟨4, ![16, 4, 4096, 128]⟩
abbrev S_ : Shape := ⟨0, ![]⟩
abbrev S16x4x4096x64 : Shape := ⟨4, ![16, 4, 4096, 64]⟩
abbrev S16x4x32x64 : Shape := ⟨4, ![16, 4, 32, 64]⟩

class Facts : Prop where
  bcast_S_S16x4x32x128 : S_.BroadcastsInDim S16x4x32x128 (![] : Fin 0 → Fin S16x4x32x128.rank)
  reducesTo_S16x4x32x128_S_d0_1_2_3 : S16x4x32x128.ReducesTo [0, 1, 2, 3] S_
  h_S_ : 0 < S_.numel
  bcast_S_S16x4x4096x128 : S_.BroadcastsInDim S16x4x4096x128 (![] : Fin 0 → Fin S16x4x4096x128.rank)
  reducesTo_S16x4x4096x128_S_d0_1_2_3 : S16x4x4096x128.ReducesTo [0, 1, 2, 3] S_
  slices_S16x4x4096x128_S16x4x4096x64_0_0_0_64 : S16x4x4096x128.Slices ![0, 0, 0, 64] S16x4x4096x64
  bcast_S_S16x4x4096x64 : S_.BroadcastsInDim S16x4x4096x64 (![] : Fin 0 → Fin S16x4x4096x64.rank)
  reducesTo_S16x4x4096x64_S_d0_1_2_3 : S16x4x4096x64.ReducesTo [0, 1, 2, 3] S_
  slices_S16x4x32x128_S16x4x32x64_0_0_0_64 : S16x4x32x128.Slices ![0, 0, 0, 64] S16x4x32x64
  bcast_S_S16x4x32x64 : S_.BroadcastsInDim S16x4x32x64 (![] : Fin 0 → Fin S16x4x32x64.rank)
  reducesTo_S16x4x32x64_S_d0_1_2_3 : S16x4x32x64.ReducesTo [0, 1, 2, 3] S_

variable [Facts]

def fn_part1 {F : FTy → Type} [FloatOps F] (main_arg4 : FVec F S16x4x32x128 .f32) (main_v13 : IVec S_ 1) (main_v16 : IVec S16x4x4096x64 1) : IVec S_ 1 :=
  let main_c_5 : IVec S_ 1 := constantI S_ 1 1#1
  let main_v17 : IVec S_ 1 := (fun x v => Host.reduce IntOp.andi x v reducesTo_S16x4x4096x64_S_d0_1_2_3 h_S_) main_v16 main_c_5
  let main_v18 : IVec S_ 1 := andi main_v13 main_v17
  let main_v19 : FVec F S16x4x32x64 .f32 := (extractStridedSlice S16x4x32x64 ![0, 0, 0, 64] · slices_S16x4x32x128_S16x4x32x64_0_0_0_64) main_arg4
  let main_cst_6 : FVec F S_ .f32 := constant S_ .f32 0x00000000#32
  let main_v20 : FVec F S16x4x32x64 .f32 := broadcastInDim S16x4x32x64 ![] bcast_S_S16x4x32x64 main_cst_6
  let main_v21 : IVec S16x4x32x64 1 := cmpf .oeq main_v19 main_v20
  let main_c_7 : IVec S_ 1 := constantI S_ 1 1#1
  let main_v22 : IVec S_ 1 := (fun x v => Host.reduce IntOp.andi x v reducesTo_S16x4x32x64_S_d0_1_2_3 h_S_) main_v21 main_c_7
  let main_v23 : IVec S_ 1 := andi main_v18 main_v22
  main_v23

def fn {F : FTy → Type} [FloatOps F] (main_arg0 : FVec F S16x4x32x128 .f32) (main_arg1 : FVec F S16x4x4096x128 .f32) (main_arg2 : FVec F S16x4x4096x128 .f32) (main_arg3 : FVec F S16x4x32x128 .f32) (main_arg4 : FVec F S16x4x32x128 .f32) : IVec S_ 1 :=
  let main_v0 : FVec F S16x4x32x128 .f32 := Host.absf main_arg0
  let main_cst : FVec F S_ .f32 := constant S_ .f32 0x7F800000#32
  let main_v1 : FVec F S16x4x32x128 .f32 := broadcastInDim S16x4x32x128 ![] bcast_S_S16x4x32x128 main_cst
  let main_v2 : IVec S16x4x32x128 1 := cmpf .olt main_v0 main_v1
  let main_c : IVec S_ 1 := constantI S_ 1 1#1
  let main_v3 : IVec S_ 1 := (fun x v => Host.reduce IntOp.andi x v reducesTo_S16x4x32x128_S_d0_1_2_3 h_S_) main_v2 main_c
  let main_v4 : FVec F S16x4x4096x128 .f32 := Host.absf main_arg1
  let main_cst_0 : FVec F S_ .f32 := constant S_ .f32 0x7F800000#32
  let main_v5 : FVec F S16x4x4096x128 .f32 := broadcastInDim S16x4x4096x128 ![] bcast_S_S16x4x4096x128 main_cst_0
  let main_v6 : IVec S16x4x4096x128 1 := cmpf .olt main_v4 main_v5
  let main_c_1 : IVec S_ 1 := constantI S_ 1 1#1
  let main_v7 : IVec S_ 1 := (fun x v => Host.reduce IntOp.andi x v reducesTo_S16x4x4096x128_S_d0_1_2_3 h_S_) main_v6 main_c_1
  let main_v8 : IVec S_ 1 := andi main_v3 main_v7
  let main_v9 : FVec F S16x4x32x128 .f32 := Host.absf main_arg3
  let main_cst_2 : FVec F S_ .f32 := constant S_ .f32 0x7F800000#32
  let main_v10 : FVec F S16x4x32x128 .f32 := broadcastInDim S16x4x32x128 ![] bcast_S_S16x4x32x128 main_cst_2
  let main_v11 : IVec S16x4x32x128 1 := cmpf .olt main_v9 main_v10
  let main_c_3 : IVec S_ 1 := constantI S_ 1 1#1
  let main_v12 : IVec S_ 1 := (fun x v => Host.reduce IntOp.andi x v reducesTo_S16x4x32x128_S_d0_1_2_3 h_S_) main_v11 main_c_3
  let main_v13 : IVec S_ 1 := andi main_v8 main_v12
  let main_v14 : FVec F S16x4x4096x64 .f32 := (extractStridedSlice S16x4x4096x64 ![0, 0, 0, 64] · slices_S16x4x4096x128_S16x4x4096x64_0_0_0_64) main_arg2
  let main_cst_4 : FVec F S_ .f32 := constant S_ .f32 0x00000000#32
  let main_v15 : FVec F S16x4x4096x64 .f32 := broadcastInDim S16x4x4096x64 ![] bcast_S_S16x4x4096x64 main_cst_4
  let main_v16 : IVec S16x4x4096x64 1 := cmpf .oeq main_v14 main_v15
  fn_part1 (F := F) main_arg4 main_v13 main_v16
-- ==== Pre_dsa_ok.lean ====
abbrev S16x32x1920 : Shape := ⟨3, ![16, 32, 1920]⟩
abbrev S16x32x512 : Shape := ⟨3, ![16, 32, 512]⟩
abbrev S16x32x4x128 : Shape := ⟨4, ![16, 32, 4, 128]⟩
abbrev S16x32x4x64 : Shape := ⟨4, ![16, 32, 4, 64]⟩
abbrev S_ : Shape := ⟨0, ![]⟩

class Facts : Prop where
  slices_S16x32x1920_S16x32x512_0_0_1024 : S16x32x1920.Slices ![0, 0, 1024] S16x32x512
  shapeCasts_S16x32x512_S16x32x4x128 : S16x32x512.ShapeCasts S16x32x4x128
  slices_S16x32x4x128_S16x32x4x64_0_0_0_64 : S16x32x4x128.Slices ![0, 0, 0, 64] S16x32x4x64
  bcast_S_S16x32x4x64 : S_.BroadcastsInDim S16x32x4x64 (![] : Fin 0 → Fin S16x32x4x64.rank)
  reducesTo_S16x32x4x64_S_d0_1_2_3 : S16x32x4x64.ReducesTo [0, 1, 2, 3] S_
  h_S_ : 0 < S_.numel

variable [Facts]

def fn {F : FTy → Type} [FloatOps F] (main_arg0 : FVec F S16x32x1920 .f32) : IVec S_ 1 :=
  let main_v0 : FVec F S16x32x512 .f32 := (extractStridedSlice S16x32x512 ![0, 0, 1024] · slices_S16x32x1920_S16x32x512_0_0_1024) main_arg0
  let main_v1 : FVec F S16x32x4x128 .f32 := shapeCast S16x32x4x128 main_v0 shapeCasts_S16x32x512_S16x32x4x128
  let main_v2 : FVec F S16x32x4x64 .f32 := (extractStridedSlice S16x32x4x64 ![0, 0, 0, 64] · slices_S16x32x4x128_S16x32x4x64_0_0_0_64) main_v1
  let main_cst : FVec F S_ .f32 := constant S_ .f32 0x00000000#32
  let main_v3 : FVec F S16x32x4x64 .f32 := broadcastInDim S16x32x4x64 ![] bcast_S_S16x32x4x64 main_cst
  let main_v4 : IVec S16x32x4x64 1 := cmpf .oeq main_v2 main_v3
  let main_c : IVec S_ 1 := constantI S_ 1 1#1
  let main_v5 : IVec S_ 1 := (fun x v => Host.reduce IntOp.andi x v reducesTo_S16x32x4x64_S_d0_1_2_3 h_S_) main_v4 main_c
  main_v5
-- ==== Pre_dsa_prompt_ok.lean ====
abbrev S16x4352x1920 : Shape := ⟨3, ![16, 4352, 1920]⟩
abbrev S16x4352x512 : Shape := ⟨3, ![16, 4352, 512]⟩
abbrev S16x4352x4x128 : Shape := ⟨4, ![16, 4352, 4, 128]⟩
abbrev S16x4352x4x64 : Shape := ⟨4, ![16, 4352, 4, 64]⟩
abbrev S_ : Shape := ⟨0, ![]⟩

class Facts : Prop where
  slices_S16x4352x1920_S16x4352x512_0_0_1024 : S16x4352x1920.Slices ![0, 0, 1024] S16x4352x512
  shapeCasts_S16x4352x512_S16x4352x4x128 : S16x4352x512.ShapeCasts S16x4352x4x128
  slices_S16x4352x4x128_S16x4352x4x64_0_0_0_64 : S16x4352x4x128.Slices ![0, 0, 0, 64] S16x4352x4x64
  bcast_S_S16x4352x4x64 : S_.BroadcastsInDim S16x4352x4x64 (![] : Fin 0 → Fin S16x4352x4x64.rank)
  reducesTo_S16x4352x4x64_S_d0_1_2_3 : S16x4352x4x64.ReducesTo [0, 1, 2, 3] S_
  h_S_ : 0 < S_.numel

variable [Facts]

def fn {F : FTy → Type} [FloatOps F] (main_arg0 : FVec F S16x4352x1920 .f32) : IVec S_ 1 :=
  let main_v0 : FVec F S16x4352x512 .f32 := (extractStridedSlice S16x4352x512 ![0, 0, 1024] · slices_S16x4352x1920_S16x4352x512_0_0_1024) main_arg0
  let main_v1 : FVec F S16x4352x4x128 .f32 := shapeCast S16x4352x4x128 main_v0 shapeCasts_S16x4352x512_S16x4352x4x128
  let main_v2 : FVec F S16x4352x4x64 .f32 := (extractStridedSlice S16x4352x4x64 ![0, 0, 0, 64] · slices_S16x4352x4x128_S16x4352x4x64_0_0_0_64) main_v1
  let main_cst : FVec F S_ .f32 := constant S_ .f32 0x00000000#32
  let main_v3 : FVec F S16x4352x4x64 .f32 := broadcastInDim S16x4352x4x64 ![] bcast_S_S16x4352x4x64 main_cst
  let main_v4 : IVec S16x4352x4x64 1 := cmpf .oeq main_v2 main_v3
  let main_c : IVec S_ 1 := constantI S_ 1 1#1
  let main_v5 : IVec S_ 1 := (fun x v => Host.reduce IntOp.andi x v reducesTo_S16x4352x4x64_S_d0_1_2_3 h_S_) main_v4 main_c
  main_v5
-- ==== Pre_moe_ok.lean ====
abbrev S512x1024 : Shape := ⟨2, ![512, 1024]⟩
abbrev S512x128 : Shape := ⟨2, ![512, 128]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x1024 .f32) (main_arg1 : FVec F S512x128 .f32) (main_arg2 : FVec F S16x1024x256 .f32) (main_arg3 : FVec F S16x1024x256 .f32) (main_arg4 : FVec F S16x256x1024 .f32) (main_arg5 : FVec F S1024 .f32) (main_arg6 : FVec F S1024 .f32) : IVec S_ 1 :=
  let main_cst : FVec F S_ .f32 := constant S_ .f32 0x00000000#32
  let main_v0 : FVec F S512x128 .f32 := broadcastInDim S512x128 ![] bcast_S_S512x128 main_cst
  let main_v1 : IVec S512x128 1 := cmpf .oge main_arg1 main_v0
  let main_cst_0 : FVec F S_ .f32 := constant S_ .f32 0x7F800000#32
  let main_v2 : FVec F S512x128 .f32 := broadcastInDim S512x128 ![] bcast_S_S512x128 main_cst_0
  let main_v3 : IVec S512x128 1 := cmpf .olt main_arg1 main_v2
  let main_v4 : IVec S512x128 1 := andi main_v1 main_v3
  let main_c : IVec S_ 1 := constantI S_ 1 1#1
  let main_v5 : IVec S_ 1 := (fun x v => Host.reduce IntOp.andi x v reducesTo_S512x128_S_d0_1 h_S_) main_v4 main_c
  main_v5
-- ==== Pre_moe_prompt_ok.lean ====
abbrev S69632x1024 : Shape := ⟨2, ![69632, 1024]⟩
abbrev S69632x128 : Shape := ⟨2, ![69632, 128]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S69632x128 : S_.BroadcastsInDim S69632x128 (![] : Fin 0 → Fin S69632x128.rank)
  reducesTo_S69632x128_S_d0_1 : S69632x128.ReducesTo [0, 1] S_
  h_S_ : 0 < S_.numel

variable [Facts]

def fn {F : FTy → Type} [FloatOps F] (main_arg0 : FVec F S69632x1024 .f32) (main_arg1 : FVec F S69632x128 .f32) (main_arg2 : FVec F S16x1024x256 .f32) (main_arg3 : FVec F S16x1024x256 .f32) (main_arg4 : FVec F S16x256x1024 .f32) (main_arg5 : FVec F S1024 .f32) (main_arg6 : FVec F S1024 .f32) : IVec S_ 1 :=
  let main_cst : FVec F S_ .f32 := constant S_ .f32 0x00000000#32
  let main_v0 : FVec F S69632x128 .f32 := broadcastInDim S69632x128 ![] bcast_S_S69632x128 main_cst
  let main_v1 : IVec S69632x128 1 := cmpf .oge main_arg1 main_v0
  let main_cst_0 : FVec F S_ .f32 := constant S_ .f32 0x7F800000#32
  let main_v2 : FVec F S69632x128 .f32 := broadcastInDim S69632x128 ![] bcast_S_S69632x128 main_cst_0
  let main_v3 : IVec S69632x128 1 := cmpf .olt main_arg1 main_v2
  let main_v4 : IVec S69632x128 1 := andi main_v1 main_v3
  let main_c : IVec S_ 1 := constantI S_ 1 1#1
  let main_v5 : IVec S_ 1 := (fun x v => Host.reduce IntOp.andi x v reducesTo_S69632x128_S_d0_1 h_S_) main_v4 main_c
  main_v5
-- ==== Attn.lean ====
abbrev S16x4x32x128 : Shape := ⟨4, ![16, 4, 32, 128]⟩
abbrev S16x4x4096x128 : Shape := ⟨4, ![16, 4, 4096, 128]⟩
abbrev S16x32x256 : Shape := ⟨3, ![16, 32, 256]⟩
abbrev S1x4x32x128 : Shape := ⟨4, ![1, 4, 32, 128]⟩
abbrev S1x4x4096x128 : Shape := ⟨4, ![1, 4, 4096, 128]⟩
abbrev S1x32x256 : Shape := ⟨3, ![1, 32, 256]⟩
abbrev S1x1x32x128 : Shape := ⟨4, ![1, 1, 32, 128]⟩
abbrev S32x128 : Shape := ⟨2, ![32, 128]⟩
abbrev S32x1 : Shape := ⟨2, ![32, 1]⟩
abbrev S1x1x256x128 : Shape := ⟨4, ![1, 1, 256, 128]⟩
abbrev S256x128 : Shape := ⟨2, ![256, 128]⟩
abbrev S32x256 : Shape := ⟨2, ![32, 256]⟩
abbrev S32 : Shape := ⟨1, ![32]⟩
abbrev S32x32 : Shape := ⟨2, ![32, 32]⟩

abbrev nBuf : Space → Nat
  | .hbm => 6
  | .vmem => 12
  | .smem => 0
  | _ => 0

abbrev bufTy : (tb : Table) → Fin (tcTables nBuf tb) → BufTy
  | .hbm, ⟨0, _⟩ => ⟨S16x4x32x128, .f32⟩
  | .hbm, ⟨1, _⟩ => ⟨S16x4x4096x128, .f32⟩
  | .hbm, ⟨2, _⟩ => ⟨S16x4x4096x128, .f32⟩
  | .hbm, ⟨3, _⟩ => ⟨S16x4x32x128, .f32⟩
  | .hbm, ⟨4, _⟩ => ⟨S16x4x32x128, .f32⟩
  | .hbm, ⟨5, _⟩ => ⟨S16x32x256, .f32⟩
  | .local _ .vmem, ⟨0, _⟩ => ⟨S1x4x32x128, .f32⟩
  | .local _ .vmem, ⟨1, _⟩ => ⟨S1x4x32x128, .f32⟩
  | .local _ .vmem, ⟨2, _⟩ => ⟨S1x4x4096x128, .f32⟩
  | .local _ .vmem, ⟨3, _⟩ => ⟨S1x4x4096x128, .f32⟩
  | .local _ .vmem, ⟨4, _⟩ => ⟨S1x4x4096x128, .f32⟩
  | .local _ .vmem, ⟨5, _⟩ => ⟨S1x4x4096x128, .f32⟩
  | .local _ .vmem, ⟨6, _⟩ => ⟨S1x4x32x128, .f32⟩
  | .local _ .vmem, ⟨7, _⟩ => ⟨S1x4x32x128, .f32⟩
  | .local _ .vmem, ⟨8, _⟩ => ⟨S1x4x32x128, .f32⟩
  | .local _ .vmem, ⟨9, _⟩ => ⟨S1x4x32x128, .f32⟩
  | .local _ .vmem, ⟨10, _⟩ => ⟨S1x32x256, .f32⟩
  | .local _ .vmem, ⟨11, _⟩ => ⟨S1x32x256, .f32⟩
  | _, _ => ⟨S16x4x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v144 : BitVec 32 := Scalar.muli arg8 c256_i32
  v144
def k0_off1 (k0_t1 : Fin k0_t1_loop.trips) : Fin 4 → Nat :=
  let c0_91 : Index := 0#32
  let c0_92 : Index := 0#32
  let c0_i32 : BitVec 32 := 0#32
  let c1_i32 : BitVec 32 := 1#32
  let arg8 : BitVec 32 := Scf.iv c0_i32 c1_i32 k0_t1
  let c256_i32 : BitVec 32 := 256#32
  let v144 : BitVec 32 := Scalar.muli arg8 c256_i32
  let v145 : BitVec 32 := v144
  let v146 : Index := Scalar.indexCast v145
  let c0_93 : Index := 0#32
  ![0, 0, v146.toNat, 0]
def k0_mult2 : BitVec 32 :=
  let c0_i32_6 : BitVec 32 := 0#32
  let c32_i32 : BitVec 32 := 32#32
  let v7 : BitVec 32 := Scalar.muli c0_i32_6 c32_i32
  v7
def k0_off2 : Fin 4 → Nat :=
  let c0_7 : Index := 0#32
  let c0_8 : Index := 0#32
  let c0_i32_6 : BitVec 32 := 0#32
  let c32_i32 : BitVec 32 := 32#32
  let v7 : BitVec 32 := Scalar.muli c0_i32_6 c32_i32
  let v8 : BitVec 32 := v7
  let v9 : Index := Scalar.indexCast v8
  let c0_9 : Index := 0#32
  ![0, 0, v9.toNat, 0]
@[reducible] def k0_t2_loop : Scf.Loop 32 :=
  let c0_i32_24 : BitVec 32 := 0#32
  let c16_i32_25 : BitVec 32 := 16#32
  let v39 : BitVec 32 := Scalar.addi c0_i32_24 c16_i32_25
  let c1_i32_26 : BitVec 32 := 1#32
  ⟨c0_i32_24, v39, c1_i32_26⟩
def k0_mult3 (k0_t2 : Fin k0_t2_loop.trips) : BitVec 32 :=
  let c0_i32_24 : BitVec 32 := 0#32
  let c1_i32_26 : BitVec 32 := 1#32
  let arg8 : BitVec 32 := Scf.iv c0_i32_24 c1_i32_26 k0_t2
  let c256_i32 : BitVec 32 := 256#32
  let v144 : BitVec 32 := Scalar.muli arg8 c256_i32
  v144
def k0_off3 (k0_t2 : Fin k0_t2_loop.trips) : Fin 4 → Nat :=
  let c0_91 : Index := 0#32
  let c1_92 : Index := 1#32
  let c0_i32_24 : BitVec 32 := 0#32
  let c1_i32_26 : BitVec 32 := 1#32
  let arg8 : BitVec 32 := Scf.iv c0_i32_24 c1_i32_26 k0_t2
  let c256_i32 : BitVec 32 := 256#32
  let v144 : BitVec 32 := Scalar.muli arg8 c256_i32
  let v145 : BitVec 32 := v144
  let v146 : Index := Scalar.indexCast v145
  let c0_93 : Index := 0#32
  ![0, 1, v146.toNat, 0]
def k0_mult4 : BitVec 32 :=
  let c0_i32_28 : BitVec 32 := 0#32
  let c32_i32_29 : BitVec 32 := 32#32
  let v41 : BitVec 32 := Scalar.muli c0_i32_28 c32_i32_29
  v41
def k0_off4 : Fin 4 → Nat :=
  let c0_30 : Index := 0#32
  let c1_31 : Index := 1#32
  let c0_i32_28 : BitVec 32 := 0#32
  let c32_i32_29 : BitVec 32 := 32#32
  let v41 : BitVec 32 := Scalar.muli c0_i32_28 c32_i32_29
  let v42 : BitVec 32 := v41
  let v43 : Index := Scalar.indexCast v42
  let c0_32 : Index := 0#32
  ![0, 1, v43.toNat, 0]
@[reducible] def k0_t3_loop : Scf.Loop 32 :=
  let c0_i32_47 : BitVec 32 := 0#32
  let c16_i32_48 : BitVec 32 := 16#32
  let v73 : BitVec 32 := Scalar.addi c0_i32_47 c16_i32_48
  let c1_i32_49 : BitVec 32 := 1#32
  ⟨c0_i32_47, v73, c1_i32_49⟩
def k0_mult5 (k0_t3 : Fin k0_t3_loop.trips) : BitVec 32 :=
  let c0_i32_47 : BitVec 32 := 0#32
  let c1_i32_49 : BitVec 32 := 1#32
  let arg8 : BitVec 32 := Scf.iv c0_i32_47 c1_i32_49 k0_t3
  let c256_i32 : BitVec 32 := 256#32
  let v144 : BitVec 32 := Scalar.muli arg8 c256_i32
  v144
def k0_off5 (k0_t3 : Fin k0_t3_loop.trips) : Fin 4 → Nat :=
  let c0_91 : Index := 0#32
  let c2_92 : Index := 2#32
  let c0_i32_47 : BitVec 32 := 0#32
  let c1_i32_49 : BitVec 32 := 1#32
  let arg8 : BitVec 32 := Scf.iv c0_i32_47 c1_i32_49 k0_t3
  let c256_i32 : BitVec 32 := 256#32
  let v144 : BitVec 32 := Scalar.muli arg8 c256_i32
  let v145 : BitVec 32 := v144
  let v146 : Index := Scalar.indexCast v145
  let c0_93 : Index := 0#32
  ![0, 2, v146.toNat, 0]
def k0_mult6 : BitVec 32 :=
  let c0_i32_51 : BitVec 32 := 0#32
  let c32_i32_52 : BitVec 32 := 32#32
  let v75 : BitVec 32 := Scalar.muli c0_i32_51 c32_i32_52
  v75
def k0_off6 : Fin 4 → Nat :=
  let c0_53 : Index := 0#32
  let c2_54 : Index := 2#32
  let c0_i32_51 : BitVec 32 := 0#32
  let c32_i32_52 : BitVec 32 := 32#32
  let v75 : BitVec 32 := Scalar.muli c0_i32_51 c32_i32_52
  let v76 : BitVec 32 := v75
  let v77 : Index := Scalar.indexCast v76
  let c0_55 : Index := 0#32
  ![0, 2, v77.toNat, 0]
@[reducible] def k0_t4_loop : Scf.Loop 32 :=
  let c0_i32_70 : BitVec 32 := 0#32
  let c16_i32_71 : BitVec 32 := 16#32
  let v107 : BitVec 32 := Scalar.addi c0_i32_70 c16_i32_71
  let c1_i32_72 : BitVec 32 := 1#32
  ⟨c0_i32_70, v107, c1_i32_72⟩
def k0_mult7 (k0_t4 : Fin k0_t4_loop.trips) : BitVec 32 :=
  let c0_i32_70 : BitVec 32 := 0#32
  let c1_i32_72 : BitVec 32 := 1#32
  let arg8 : BitVec 32 := Scf.iv c0_i32_70 c1_i32_72 k0_t4
  let c256_i32 : BitVec 32 := 256#32
  let v144 : BitVec 32 := Scalar.muli arg8 c256_i32
  v144
def k0_off7 (k0_t4 : Fin k0_t4_loop.trips) : Fin 4 → Nat :=
  let c0_91 : Index := 0#32
  let c3_92 : Index := 3#32
  let c0_i32_70 : BitVec 32 := 0#32
  let c1_i32_72 : BitVec 32 := 1#32
  let arg8 : BitVec 32 := Scf.iv c0_i32_70 c1_i32_72 k0_t4
  let c256_i32 : BitVec 32 := 256#32
  let v144 : BitVec 32 := Scalar.muli arg8 c256_i32
  let v145 : BitVec 32 := v144
  let v146 : Index := Scalar.indexCast v145
  let c0_93 : Index := 0#32
  ![0, 3, v146.toNat, 0]
def k0_mult8 : BitVec 32 :=
  let c0_i32_74 : BitVec 32 := 0#32
  let c32_i32_75 : BitVec 32 := 32#32
  let v109 : BitVec 32 := Scalar.muli c0_i32_74 c32_i32_75
  v109
def k0_off8 : Fin 4 → Nat :=
  let c0_76 : Index := 0#32
  let c3_77 : Index := 3#32
  let c0_i32_74 : BitVec 32 := 0#32
  let c32_i32_75 : BitVec 32 := 32#32
  let v109 : BitVec 32 := Scalar.muli c0_i32_74 c32_i32_75
  let v110 : BitVec 32 := v109
  let v111 : Index := Scalar.indexCast v110
  let c0_78 : Index := 0#32
  ![0, 3, v111.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16x4x32x128 : Shape := ⟨4, ![16, 4, 32, 128]⟩
abbrev S16x4x4096x128 : Shape := ⟨4, ![16, 4, 4096, 128]⟩
abbrev S32 : Shape := ⟨1, ![32]⟩
abbrev S_ : Shape := ⟨0, ![]⟩
abbrev S4128 : Shape := ⟨1, ![4128]⟩
abbrev S16x4x4128x128 : Shape := ⟨4, ![16, 4, 4128, 128]⟩
abbrev S16x4x4128x64 : Shape := ⟨4, ![16, 4, 4128, 64]⟩
abbrev S16x4x32x4128 : Shape := ⟨4, ![16, 4, 32, 4128]⟩
abbrev S1x4128 : Shape := ⟨2, ![1, 4128]⟩
abbrev S32x1 : Shape := ⟨2, ![32, 1]⟩
abbrev S32x4128 : Shape := ⟨2, ![32, 4128]⟩
abbrev S16x4x32 : Shape := ⟨3, ![16, 4, 32]⟩
abbrev S16x4x32x1 : Shape := ⟨4, ![16, 4, 32, 1]⟩
abbrev S16x4x64x32 : Shape := ⟨4, ![16, 4, 64, 32]⟩
abbrev S16x32x4x64 : Shape := ⟨4, ![16, 32, 4, 64]⟩
abbrev S16x32x256 : Shape := ⟨3, ![16, 32, 256]⟩

abbrev nBuf : Space → Nat
  | .hbm => 77
  | .vmem => 0
  | .smem => 0
  | _ => 0

abbrev bufTy : (tb : Table) → Fin (tcTables nBuf tb) → BufTy
  | .hbm, ⟨0, _⟩ => ⟨S16x4x32x128, .f32⟩
  | .hbm, ⟨1, _⟩ => ⟨S16x4x4096x128, .f32⟩
  | .hbm, ⟨2, _⟩ => ⟨S16x4x4096x128, .f32⟩
  | .hbm, ⟨3, _⟩ => ⟨S16x4x32x128, .f32⟩
  | .hbm, ⟨4, _⟩ => ⟨S16x4x32x128, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S4128, .i32⟩
  | .hbm, ⟨28, _⟩ => ⟨S_, .i32⟩
  | .hbm, ⟨29, _⟩ => ⟨S_, .i32⟩
  | .hbm, ⟨30, _⟩ => ⟨S4128, .i32⟩
  | .hbm, ⟨31, _⟩ => ⟨S4128, .i32⟩
  | .hbm, ⟨32, _⟩ => ⟨S4128, .i32⟩
  | .hbm, ⟨33, _⟩ => ⟨S_, .i32⟩
  | .hbm, ⟨34, _⟩ => ⟨S4128, .i32⟩
  | .hbm, ⟨35, _⟩ => ⟨S4128, .i1⟩
  | .hbm, ⟨36, _⟩ => ⟨S4128, .i32⟩
  | .hbm, ⟨37, _⟩ => ⟨S4128, .i32⟩
  | .hbm, ⟨38, _⟩ => ⟨S_, .i32⟩
  | .hbm, ⟨39, _⟩ => ⟨S4128, .i32⟩
  | .hbm, ⟨40, _⟩ => ⟨S4128, .i1⟩
  | .hbm, ⟨41, _⟩ => ⟨S4128, .i1⟩
  | .hbm, ⟨42, _⟩ => ⟨S_, .i32⟩
  | .hbm, ⟨43, _⟩ => ⟨S4128, .i32⟩
  | .hbm, ⟨44, _⟩ => ⟨S4128, .i32⟩
  | .hbm, ⟨45, _⟩ => ⟨S4128, .i32⟩
  | .hbm, ⟨46, _⟩ => ⟨S16x4x4128x128, .f32⟩
  | .hbm, ⟨47, _⟩ => ⟨S16x4x4128x128, .f32⟩
  | .hbm, ⟨48, _⟩ => ⟨S16x4x4128x64, .f32⟩
  | .hbm, ⟨49, _⟩ => ⟨S16x4x32x4128, .f32⟩
  | .hbm, ⟨50, _⟩ => ⟨S1x4128, .i32⟩
  | .hbm, ⟨51, _⟩ => ⟨S32x1, .i32⟩
  | .hbm, ⟨52, _⟩ => ⟨S32x4128, .i32⟩
  | .hbm, ⟨53, _⟩ => ⟨S32x4128, .i32⟩
  | .hbm, ⟨54, _⟩ => ⟨S32x4128, .i1⟩
  | .hbm, ⟨55, _⟩ => ⟨S_, .f32⟩
  | .hbm, ⟨56, _⟩ => ⟨S_, .f32⟩
  | .hbm, ⟨57, _⟩ => ⟨S16x4x32x4128, .i1⟩
  | .hbm, ⟨58, _⟩ => ⟨S16x4x32x4128, .f32⟩
  | .hbm, ⟨59, _⟩ => ⟨S16x4x32x4128, .f32⟩
  | .hbm, ⟨60, _⟩ => ⟨S_, .f32⟩
  | .hbm, ⟨61, _⟩ => ⟨S16x4x32, .f32⟩
  | .hbm, ⟨62, _⟩ => ⟨S_, .f32⟩
  | .hbm, ⟨63, _⟩ => ⟨S16x4x32, .f32⟩
  | .hbm, ⟨64, _⟩ => ⟨S16x4x32, .f32⟩
  | .hbm, ⟨65, _⟩ => ⟨S16x4x32x1, .f32⟩
  | .hbm, ⟨66, _⟩ => ⟨S16x4x32x4128, .f32⟩
  | .hbm, ⟨67, _⟩ => ⟨S16x4x32x4128, .f32⟩
  | .hbm, ⟨68, _⟩ => ⟨S16x4x32x4128, .f32⟩
  | .hbm, ⟨69, _⟩ => ⟨S_, .f32⟩
  | .hbm, ⟨70, _⟩ => ⟨S16x4x32, .f32⟩
  | .hbm, ⟨71, _⟩ => ⟨S16x4x32x1, .f32⟩
  | .hbm, ⟨72, _⟩ => ⟨S16x4x32x4128, .f32⟩
  | .hbm, ⟨73, _⟩ => ⟨S16x4x32x4128, .f32⟩
  | .hbm, ⟨74, _⟩ => ⟨S16x4x64x32, .f32⟩
  | .hbm, ⟨75, _⟩ => ⟨S16x32x4x64, .f32⟩
  | .hbm, ⟨76, _⟩ => ⟨S16x32x256, .f32⟩
  | _, _ => ⟨S16x4x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_cst_3 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩

abbrev nD : Nat := 1
abbrev τ : Topo := Topo.v7x

variable {F : FTy → Type} [FloatOps F]
-- ==== Moe.lean ====
abbrev S512x1024 : Shape := ⟨2, ![512, 1024]⟩
abbrev S512x128 : Shape := ⟨2, ![512, 128]⟩
abbrev S16x1024x256 : Shape := ⟨3, ![16, 1024, 256]⟩
abbrev S16x256x1024 : Shape := ⟨3, ![16, 256, 1024]⟩
abbrev S1024 : Shape := ⟨1, ![1024]⟩
abbrev S16x1024x512 : Shape := ⟨3, ![16, 1024, 512]⟩
abbrev S1x1024 : Shape := ⟨2, ![1, 1024]⟩
abbrev S1x1024x512 : Shape := ⟨3, ![1, 1024, 512]⟩
abbrev S1x256x1024 : Shape := ⟨3, ![1, 256, 1024]⟩
abbrev S1024x512 : Shape := ⟨2, ![1024, 512]⟩
abbrev S512x512 : Shape := ⟨2, ![512, 512]⟩
abbrev S512x256 : Shape := ⟨2, ![512, 256]⟩
abbrev S1x128 : Shape := ⟨2, ![1, 128]⟩
abbrev S512 : Shape := ⟨1, ![512]⟩
abbrev S512x1 : Shape := ⟨2, ![512, 1]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S512x128, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024, .f32⟩
  | .hbm, ⟨6, _⟩ => ⟨S1024, .f32⟩
  | .hbm, ⟨7, _⟩ => ⟨S16x1024x512, .f32⟩
  | .hbm, ⟨8, _⟩ => ⟨S1x1024, .f32⟩
  | .hbm, ⟨9, _⟩ => ⟨S1x1024, .f32⟩
  | .hbm, ⟨10, _⟩ => ⟨S512x1024, .f32⟩
  | .local _ .vmem, ⟨0, _⟩ => ⟨S512x1024, .f32⟩
  | .local _ .vmem, ⟨1, _⟩ => ⟨S512x128, .f32⟩
  | .local _ .vmem, ⟨2, _⟩ => ⟨S1x1024x512, .f32⟩
  | .local _ .vmem, ⟨3, _⟩ => ⟨S1x1024x512, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== MoeRefIdeal.lean ====
abbrev S512x1024 : Shape := ⟨2, ![512, 1024]⟩
abbrev S512x128 : Shape := ⟨2, ![512, 128]⟩
abbrev S16x1024x256 : Shape := ⟨3, ![16, 1024, 256]⟩
abbrev S16x256x1024 : Shape := ⟨3, ![16, 256, 1024]⟩
abbrev S1024 : Shape := ⟨1, ![1024]⟩
abbrev S16x256x512 : Shape := ⟨3, ![16, 256, 512]⟩
abbrev S16x512x256 : Shape := ⟨3, ![16, 512, 256]⟩
abbrev S_ : Shape := ⟨0, ![]⟩
abbrev S16x512x1024 : Shape := ⟨3, ![16, 512, 1024]⟩
abbrev S512x16 : Shape := ⟨2, ![512, 16]⟩
abbrev S16x512 : Shape := ⟨2, ![16, 512]⟩
abbrev S16x512x1 : Shape := ⟨3, ![16, 512, 1]⟩
abbrev S512 : Shape := ⟨1, ![512]⟩
abbrev S512x1 : Shape := ⟨2, ![512, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x128, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024, .f32⟩
  | .hbm, ⟨6, _⟩ => ⟨S1024, .f32⟩
  | .hbm, ⟨7, _⟩ => ⟨S16x256x512, .f32⟩
  | .hbm, ⟨8, _⟩ => ⟨S16x512x256, .f32⟩
  | .hbm, ⟨9, _⟩ => ⟨S16x256x512, .f32⟩
  | .hbm, ⟨10, _⟩ => ⟨S16x512x256, .f32⟩
  | .hbm, ⟨11, _⟩ => ⟨S16x512x256, .f32⟩
  | .hbm, ⟨12, _⟩ => ⟨S16x512x256, .f32⟩
  | .hbm, ⟨13, _⟩ => ⟨S_, .f32⟩
  | .hbm, ⟨14, _⟩ => ⟨S16x512x256, .f32⟩
  | .hbm, ⟨15, _⟩ => ⟨S16x512x256, .f32⟩
  | .hbm, ⟨16, _⟩ => ⟨S_, .f32⟩
  | .hbm, ⟨17, _⟩ => ⟨S16x512x256, .f32⟩
  | .hbm, ⟨18, _⟩ => ⟨S16x512x256, .f32⟩
  | .hbm, ⟨19, _⟩ => ⟨S16x512x256, .f32⟩
  | .hbm, ⟨20, _⟩ => ⟨S16x512x256, .f32⟩
  | .hbm, ⟨21, _⟩ => ⟨S16x512x1024, .f32⟩
  | .hbm, ⟨22, _⟩ => ⟨S512x16, .f32⟩
  | .hbm, ⟨23, _⟩ => ⟨S16x512, .f32⟩
  | .hbm, ⟨24, _⟩ => ⟨S16x512x1, .f32⟩
  | .hbm, ⟨25, _⟩ => ⟨S16x512x1024, .f32⟩
  | .hbm, ⟨26, _⟩ => ⟨S16x512x1024, .f32⟩
  | .hbm, ⟨27, _⟩ => ⟨S_, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x1, .f32⟩
  | .hbm, ⟨54, _⟩ => ⟨S512x1024, .f32⟩
  | .hbm, ⟨55, _⟩ => ⟨S512x1024, .f32⟩
  | .hbm, ⟨56, _⟩ => ⟨S1x1024, .f32⟩
  | .hbm, ⟨57, _⟩ => ⟨S512x1024, .f32⟩
  | .hbm, ⟨58, _⟩ => ⟨S512x1024, .f32⟩
  | .hbm, ⟨59, _⟩ => ⟨S1x1024, .f32⟩
  | .hbm, ⟨60, _⟩ => ⟨S512x1024, .f32⟩
  | .hbm, ⟨61, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proj.lean ====
abbrev S512x1024 : Shape := ⟨2, ![512, 1024]⟩
abbrev S1024x3144 : Shape := ⟨2, ![1024, 3144]⟩
abbrev S1024x416 : Shape := ⟨2, ![1024, 416]⟩
abbrev S1024x1064 : Shape := ⟨2, ![1024, 1064]⟩
abbrev S1024x1664 : Shape := ⟨2, ![1024, 1664]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x40 : Shape := ⟨2, ![1024, 40]⟩
abbrev S1024x128 : Shape := ⟨2, ![1024, 128]⟩
abbrev S1024x1920 : Shape := ⟨2, ![1024, 1920]⟩
abbrev S512x512 : Shape := ⟨2, ![512, 512]⟩
abbrev S512x1920 : Shape := ⟨2, ![512, 1920]⟩
abbrev S512x1664 : Shape := ⟨2, ![512, 1664]⟩
abbrev S128x1024 : Shape := ⟨2, ![128, 1024]⟩
abbrev S128x512 : Shape := ⟨2, ![128, 512]⟩
abbrev S128x1920 : Shape := ⟨2, ![128, 1920]⟩
abbrev S128x1664 : Shape := ⟨2, ![128, 1664]⟩

abbrev nBuf : Space → Nat
  | .hbm => 35
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S1024x3144, .f32⟩
  | .hbm, ⟨2, _⟩ => ⟨S1024x416, .f32⟩
  | .hbm, ⟨3, _⟩ => ⟨S1024x1064, .f32⟩
  | .hbm, ⟨4, _⟩ => ⟨S1024x1664, .f32⟩
  | .hbm, ⟨5, _⟩ => ⟨S1024x256, .f32⟩
  | .hbm, ⟨6, _⟩ => ⟨S1024x4x64, .f32⟩
  | .hbm, ⟨7, _⟩ => ⟨S_, .i32⟩
  | .hbm, ⟨8, _⟩ => ⟨S_, .f32⟩
  | .hbm, ⟨9, _⟩ => ⟨S1024x4x128, .f32⟩
  | .hbm, ⟨10, _⟩ => ⟨S1024x512, .f32⟩
  | .hbm, ⟨11, _⟩ => ⟨S1024x256, .f32⟩
  | .hbm, ⟨12, _⟩ => ⟨S1024x4x64, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1024x256, .f32⟩
  | .hbm, ⟨18, _⟩ => ⟨S1024x4x64, .f32⟩
  | .hbm, ⟨19, _⟩ => ⟨S_, .i32⟩
  | .hbm, ⟨20, _⟩ => ⟨S_, .f32⟩
  | .hbm, ⟨21, _⟩ => ⟨S1024x4x128, .f32⟩
  | .hbm, ⟨22, _⟩ => ⟨S1024x512, .f32⟩
  | .hbm, ⟨23, _⟩ => ⟨S1024x256, .f32⟩
  | .hbm, ⟨24, _⟩ => ⟨S1024x40, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1920, .f32⟩
  | .hbm, ⟨29, _⟩ => ⟨S_, .i32⟩
  | .hbm, ⟨30, _⟩ => ⟨S_, .f32⟩
  | .hbm, ⟨31, _⟩ => ⟨S1024x512, .f32⟩
  | .hbm, ⟨32, _⟩ => ⟨S512x512, .f32⟩
  | .hbm, ⟨33, _⟩ => ⟨S512x1920, .f32⟩
  | .hbm, ⟨34, _⟩ => ⟨S512x1664, .f32⟩
  | .local _ .vmem, ⟨0, _⟩ => ⟨S128x1024, .f32⟩
  | .local _ .vmem, ⟨1, _⟩ => ⟨S128x1024, .f32⟩
  | .local _ .vmem, ⟨2, _⟩ => ⟨S1024x512, .f32⟩
  | .local _ .vmem, ⟨3, _⟩ => ⟨S1024x1920, .f32⟩
  | .local _ .vmem, ⟨4, _⟩ => ⟨S1024x1664, .f32⟩
  | .local _ .vmem, ⟨5, _⟩ => ⟨S128x512, .f32⟩
  | .local _ .vmem, ⟨6, _⟩ => ⟨S128x512, .f32⟩
  | .local _ .vmem, ⟨7, _⟩ => ⟨S128x1920, .f32⟩
  | .local _ .vmem, ⟨8, _⟩ => ⟨S128x1920, .f32⟩
  | .local _ .vmem, ⟨9, _⟩ => ⟨S128x1664, .f32⟩
  | .local _ .vmem, ⟨10, _⟩ => ⟨S128x1664, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call2_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call3_v0 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call4_v0 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S512x1024 : Shape := ⟨2, ![512, 1024]⟩
abbrev S1024x3144 : Shape := ⟨2, ![1024, 3144]⟩
abbrev S512x3144 : Shape := ⟨2, ![512, 3144]⟩
abbrev S512x416 : Shape := ⟨2, ![512, 416]⟩
abbrev S512x1064 : Shape := ⟨2, ![512, 1064]⟩
abbrev S512x1664 : Shape := ⟨2, ![512, 1664]⟩
abbrev S_ : Shape := ⟨0, ![]⟩
abbrev S512x512 : Shape := ⟨2, ![512, 512]⟩
abbrev S512x768 : Shape := ⟨2, ![512, 768]⟩
abbrev S512x12x64 : Shape := ⟨3, ![512, 12, 64]⟩
abbrev S512x12x128 : Shape := ⟨3, ![512, 12, 128]⟩
abbrev S512x1536 : Shape := ⟨2, ![512, 1536]⟩
abbrev S512x296 : Shape := ⟨2, ![512, 296]⟩
abbrev S512x384 : Shape := ⟨2, ![512, 384]⟩
abbrev S512x1920 : Shape := ⟨2, ![512, 1920]⟩

abbrev nBuf : Space → Nat
  | .hbm => 20
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x3144, .f32⟩
  | .hbm, ⟨2, _⟩ => ⟨S512x3144, .f32⟩
  | .hbm, ⟨3, _⟩ => ⟨S512x416, .f32⟩
  | .hbm, ⟨4, _⟩ => ⟨S512x1064, .f32⟩
  | .hbm, ⟨5, _⟩ => ⟨S512x1664, .f32⟩
  | .hbm, ⟨6, _⟩ => ⟨S_, .i32⟩
  | .hbm, ⟨7, _⟩ => ⟨S_, .f32⟩
  | .hbm, ⟨8, _⟩ => ⟨S512x512, .f32⟩
  | .hbm, ⟨9, _⟩ => ⟨S512x768, .f32⟩
  | .hbm, ⟨10, _⟩ => ⟨S512x12x64, .f32⟩
  | .hbm, ⟨11, _⟩ => ⟨S_, .i32⟩
  | .hbm, ⟨12, _⟩ => ⟨S_, .f32⟩
  | .hbm, ⟨13, _⟩ => ⟨S512x12x128, .f32⟩
  | .hbm, ⟨14, _⟩ => ⟨S512x1536, .f32⟩
  | .hbm, ⟨15, _⟩ => ⟨S512x296, .f32⟩
  | .hbm, ⟨16, _⟩ => ⟨S_, .i32⟩
  | .hbm, ⟨17, _⟩ => ⟨S_, .f32⟩
  | .hbm, ⟨18, _⟩ => ⟨S512x384, .f32⟩
  | .hbm, ⟨19, _⟩ => ⟨S512x1920, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Out.lean ====
abbrev S512x256 : Shape := ⟨2, ![512, 256]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S128x256 : Shape := ⟨2, ![128, 256]⟩
abbrev S128x512 : Shape := ⟨2, ![128, 512]⟩
abbrev S128x1024 : Shape := ⟨2, ![128, 1024]⟩
abbrev S128 : Shape := ⟨1, ![128]⟩
abbrev S128x1 : Shape := ⟨2, ![128, 1]⟩

abbrev nBuf : Space → Nat
  | .hbm => 13
  | .vmem => 15
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x512, .f32⟩
  | .hbm, ⟨3, _⟩ => ⟨S512x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S256x1024, .f32⟩
  | .hbm, ⟨9, _⟩ => ⟨S512x1024, .f32⟩
  | .hbm, ⟨10, _⟩ => ⟨S1x1024, .f32⟩
  | .hbm, ⟨11, _⟩ => ⟨S1x1024, .f32⟩
  | .hbm, ⟨12, _⟩ => ⟨S512x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S512x256 : Shape := ⟨2, ![512, 256]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x512, .f32⟩
  | .hbm, ⟨3, _⟩ => ⟨S512x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S512x1024, .f32⟩
  | .hbm, ⟨35, _⟩ => ⟨S512x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S1x1024, .f32⟩
  | .hbm, ⟨40, _⟩ => ⟨S512x1024, .f32⟩
  | .hbm, ⟨41, _⟩ => ⟨S512x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Prep.lean ====
abbrev S16x32x512 : Shape := ⟨3, ![16, 32, 512]⟩
abbrev S256 : Shape := ⟨1, ![256]⟩
abbrev S128 : Shape := ⟨1, ![128]⟩
abbrev S256x384 : Shape := ⟨2, ![256, 384]⟩
abbrev S128x512 : Shape := ⟨2, ![128, 512]⟩
abbrev S32 : Shape := ⟨1, ![32]⟩
abbrev S_ : Shape := ⟨0, ![]⟩
abbrev S32x1 : Shape := ⟨2, ![32, 1]⟩
abbrev S32x64 : Shape := ⟨2, ![32, 64]⟩
abbrev S16 : Shape := ⟨1, ![16]⟩
abbrev S1x16 : Shape := ⟨2, ![1, 16]⟩
abbrev S32x16 : Shape := ⟨2, ![32, 16]⟩
abbrev S32x32 : Shape := ⟨2, ![32, 32]⟩
abbrev S32x128 : Shape := ⟨2, ![32, 128]⟩
abbrev S1x32x128 : Shape := ⟨3, ![1, 32, 128]⟩
abbrev S3x32x128 : Shape := ⟨3, ![3, 32, 128]⟩
abbrev S32x96 : Shape := ⟨2, ![32, 96]⟩
abbrev S256x4x96 : Shape := ⟨3, ![256, 4, 96]⟩
abbrev S128x4x128 : Shape := ⟨3, ![128, 4, 128]⟩
abbrev S1x256 : Shape := ⟨2, ![1, 256]⟩
abbrev S1x128 : Shape := ⟨2, ![1, 128]⟩
abbrev S256x4x128 : Shape := ⟨3, ![256, 4, 128]⟩
abbrev S256x512 : Shape := ⟨2, ![256, 512]⟩
abbrev S128x4x64 : Shape := ⟨3, ![128, 4, 64]⟩
abbrev S16x4x32x128 : Shape := ⟨4, ![16, 4, 32, 128]⟩
abbrev S16x32x128 : Shape := ⟨3, ![16, 32, 128]⟩
abbrev S16x32x32 : Shape := ⟨3, ![16, 32, 32]⟩
abbrev S1x32x512 : Shape := ⟨3, ![1, 32, 512]⟩
abbrev S1x4x32x128 : Shape := ⟨4, ![1, 4, 32, 128]⟩
abbrev S1x32x32 : Shape := ⟨3, ![1, 32, 32]⟩
abbrev S32x512 : Shape := ⟨2, ![32, 512]⟩
abbrev S32x256 : Shape := ⟨2, ![32, 256]⟩
abbrev S1x1x32x128 : Shape := ⟨4, ![1, 1, 32, 128]⟩

abbrev nBuf : Space → Nat
  | .hbm => 96
  | .vmem => 19
  | .smem => 0
  | _ => 0

abbrev bufTy : (tb : Table) → Fin (tcTables nBuf tb) → BufTy
  | .hbm, ⟨0, _⟩ => ⟨S16x32x512, .f32⟩
  | .hbm, ⟨1, _⟩ => ⟨S256, .f32⟩
  | .hbm, ⟨2, _⟩ => ⟨S128, .f32⟩
  | .hbm, ⟨3, _⟩ => ⟨S256x384, .f32⟩
  | .hbm, ⟨4, _⟩ => ⟨S128x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x64, .f32⟩
  | .hbm, ⟨13, _⟩ => ⟨S_, .f32⟩
  | .hbm, ⟨14, _⟩ => ⟨S32x64, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S1x16, .f32⟩
  | .hbm, ⟨24, _⟩ => ⟨S32x16, .f32⟩
  | .hbm, ⟨25, _⟩ => ⟨S32x16, .f32⟩
  | .hbm, ⟨26, _⟩ => ⟨S32x16, .f32⟩
  | .hbm, ⟨27, _⟩ => ⟨S32x16, .f32⟩
  | .hbm, ⟨28, _⟩ => ⟨S32x16, .f32⟩
  | .hbm, ⟨29, _⟩ => ⟨S_, .f32⟩
  | .hbm, ⟨30, _⟩ => ⟨S32x16, .f32⟩
  | .hbm, ⟨31, _⟩ => ⟨S32x16, .f32⟩
  | .hbm, ⟨32, _⟩ => ⟨S_, .f32⟩
  | .hbm, ⟨33, _⟩ => ⟨S32x32, .f32⟩
  | .hbm, ⟨34, _⟩ => ⟨S_, .f32⟩
  | .hbm, ⟨35, _⟩ => ⟨S32x32, .f32⟩
  | .hbm, ⟨36, _⟩ => ⟨S32x128, .f32⟩
  | .hbm, ⟨37, _⟩ => ⟨S32x128, .f32⟩
  | .hbm, ⟨38, _⟩ => ⟨S32x128, .f32⟩
  | .hbm, ⟨39, _⟩ => ⟨S1x32x128, .f32⟩
  | .hbm, ⟨40, _⟩ => ⟨S1x32x128, .f32⟩
  | .hbm, ⟨41, _⟩ => ⟨S1x32x128, .f32⟩
  | .hbm, ⟨42, _⟩ => ⟨S3x32x128, .f32⟩
  | .hbm, ⟨43, _⟩ => ⟨S32, .f32⟩
  | .hbm, ⟨44, _⟩ => ⟨S32x1, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S1x16, .f32⟩
  | .hbm, ⟨54, _⟩ => ⟨S32x16, .f32⟩
  | .hbm, ⟨55, _⟩ => ⟨S32x16, .f32⟩
  | .hbm, ⟨56, _⟩ => ⟨S32x16, .f32⟩
  | .hbm, ⟨57, _⟩ => ⟨S32x16, .f32⟩
  | .hbm, ⟨58, _⟩ => ⟨S32x16, .f32⟩
  | .hbm, ⟨59, _⟩ => ⟨S_, .f32⟩
  | .hbm, ⟨60, _⟩ => ⟨S32x16, .f32⟩
  | .hbm, ⟨61, _⟩ => ⟨S32x16, .f32⟩
  | .hbm, ⟨62, _⟩ => ⟨S_, .f32⟩
  | .hbm, ⟨63, _⟩ => ⟨S32x96, .f32⟩
  | .hbm, ⟨64, _⟩ => ⟨S_, .f32⟩
  | .hbm, ⟨65, _⟩ => ⟨S32x96, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S1x32x128, .f32⟩
  | .hbm, ⟨70, _⟩ => ⟨S1x32x128, .f32⟩
  | .hbm, ⟨71, _⟩ => ⟨S1x32x128, .f32⟩
  | .hbm, ⟨72, _⟩ => ⟨S3x32x128, .f32⟩
  | .hbm, ⟨73, _⟩ => ⟨S256x4x96, .f32⟩
  | .hbm, ⟨74, _⟩ => ⟨S128x4x128, .f32⟩
  | .hbm, ⟨75, _⟩ => ⟨S1x256, .f32⟩
  | .hbm, ⟨76, _⟩ => ⟨S1x128, .f32⟩
  | .hbm, ⟨77, _⟩ => ⟨S_, .i32⟩
  | .hbm, ⟨78, _⟩ => ⟨S_, .f32⟩
  | .hbm, ⟨79, _⟩ => ⟨S256x4x128, .f32⟩
  | .hbm, ⟨80, _⟩ => ⟨S256x512, .f32⟩
  | .hbm, ⟨81, _⟩ => ⟨S128x4x64, .f32⟩
  | .hbm, ⟨82, _⟩ => ⟨S_, .i32⟩
  | .hbm, ⟨83, _⟩ => ⟨S_, .f32⟩
  | .hbm, ⟨84, _⟩ => ⟨S128x4x128, .f32⟩
  | .hbm, ⟨85, _⟩ => ⟨S128x512, .f32⟩
  | .hbm, ⟨86, _⟩ => ⟨S128x4x64, .f32⟩
  | .hbm, ⟨87, _⟩ => ⟨S_, .i32⟩
  | .hbm, ⟨88, _⟩ => ⟨S_, .f32⟩
  | .hbm, ⟨89, _⟩ => ⟨S128x4x128, .f32⟩
  | .hbm, ⟨90, _⟩ => ⟨S128x512, .f32⟩
  | .hbm, ⟨91, _⟩ => ⟨S16x4x32x128, .f32⟩
  | .hbm, ⟨92, _⟩ => ⟨S16x4x32x128, .f32⟩
  | .hbm, ⟨93, _⟩ => ⟨S16x4x32x128, .f32⟩
  | .hbm, ⟨94, _⟩ => ⟨S16x32x128, .f32⟩
  | .hbm, ⟨95, _⟩ => ⟨S16x32x32, .f32⟩
  | .local _ .vmem, ⟨0, _⟩ => ⟨S1x32x512, .f32⟩
  | .local _ .vmem, ⟨1, _⟩ => ⟨S1x32x512, .f32⟩
  | .local _ .vmem, ⟨2, _⟩ => ⟨S3x32x128, .f32⟩
  | .local _ .vmem, ⟨3, _⟩ => ⟨S3x32x128, .f32⟩
  | .local _ .vmem, ⟨4, _⟩ => ⟨S1x256, .f32⟩
  | .local _ .vmem, ⟨5, _⟩ => ⟨S1x128, .f32⟩
  | .local _ .vmem, ⟨6, _⟩ => ⟨S256x512, .f32⟩
  | .local _ .vmem, ⟨7, _⟩ => ⟨S128x512, .f32⟩
  | .local _ .vmem, ⟨8, _⟩ => ⟨S128x512, .f32⟩
  | .local _ .vmem, ⟨9, _⟩ => ⟨S1x4x32x128, .f32⟩
  | .local _ .vmem, ⟨10, _⟩ => ⟨S1x4x32x128, .f32⟩
  | .local _ .vmem, ⟨11, _⟩ => ⟨S1x4x32x128, .f32⟩
  | .local _ .vmem, ⟨12, _⟩ => ⟨S1x4x32x128, .f32⟩
  | .local _ .vmem, ⟨13, _⟩ => ⟨S1x4x32x128, .f32⟩
  | .local _ .vmem, ⟨14, _⟩ => ⟨S1x4x32x128, .f32⟩
  | .local _ .vmem, ⟨15, _⟩ => ⟨S1x32x128, .f32⟩
  | .local _ .vmem, ⟨16, _⟩ => ⟨S1x32x128, .f32⟩
  | .local _ .vmem, ⟨17, _⟩ => ⟨S1x32x32, .f32⟩
  | .local _ .vmem, ⟨18, _⟩ => ⟨S1x32x32, .f32⟩
  | _, _ => ⟨S16x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_11 : Ref sig .tc := ⟨.hbm, 77, rfl⟩
abbrev main_call0_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_call1_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_call2_v0 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev main_v67_3 : Ref sig .tc := ⟨.hbm, 94, rfl⟩
abbrev main_v67_4 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S3x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PrepRefIdeal.lean ====
abbrev S16x32x512 : Shape := ⟨3, ![16, 32, 512]⟩
abbrev S256 : Shape := ⟨1, ![256]⟩
abbrev S128 : Shape := ⟨1, ![128]⟩
abbrev S256x384 : Shape := ⟨2, ![256, 384]⟩
abbrev S128x512 : Shape := ⟨2, ![128, 512]⟩
abbrev S16x32x256 : Shape := ⟨3, ![16, 32, 256]⟩
abbrev S16x32x128 : Shape := ⟨3, ![16, 32, 128]⟩
abbrev S16x32x32 : Shape := ⟨3, ![16, 32, 32]⟩
abbrev S_ : Shape := ⟨0, ![]⟩
abbrev S16x32 : Shape := ⟨2, ![16, 32]⟩
abbrev S16x32x1 : Shape := ⟨3, ![16, 32, 1]⟩
abbrev S1x1x256 : Shape := ⟨3, ![1, 1, 256]⟩
abbrev S16x32x384 : Shape := ⟨3, ![16, 32, 384]⟩
abbrev S16x32x4x96 : Shape := ⟨4, ![16, 32, 4, 96]⟩
abbrev S16x32x4x64 : Shape := ⟨4, ![16, 32, 4, 64]⟩
abbrev S16x32x4x32 : Shape := ⟨4, ![16, 32, 4, 32]⟩
abbrev S16 : Shape := ⟨1, ![16]⟩
abbrev S32 : Shape := ⟨1, ![32]⟩
abbrev S32x1 : Shape := ⟨2, ![32, 1]⟩
abbrev S1x16 : Shape := ⟨2, ![1, 16]⟩
abbrev S32x16 : Shape := ⟨2, ![32, 16]⟩
abbrev S1x32x1x16 : Shape := ⟨4, ![1, 32, 1, 16]⟩
abbrev S16x32x4x16 : Shape := ⟨4, ![16, 32, 4, 16]⟩
abbrev S1x1x128 : Shape := ⟨3, ![1, 1, 128]⟩
abbrev S16x32x1x32 : Shape := ⟨4, ![16, 32, 1, 32]⟩
abbrev S16x32x1x16 : Shape := ⟨4, ![16, 32, 1, 16]⟩
abbrev S16x32x4x128 : Shape := ⟨4, ![16, 32, 4, 128]⟩
abbrev S16x4x32x96 : Shape := ⟨4, ![16, 4, 32, 96]⟩
abbrev S16x4x32x128 : Shape := ⟨4, ![16, 4, 32, 128]⟩
abbrev S16x4x32x64 : Shape := ⟨4, ![16, 4, 32, 64]⟩

abbrev nBuf : Space → Nat
  | .hbm => 138
  | .vmem => 0
  | .smem => 0
  | _ => 0

abbrev hbmTy0_0 (i : Nat) : BufTy := match i % 128 with
  | 0 => ⟨S16x32x512, .f32⟩
  | 1 => ⟨S256, .f32⟩
  | 2 => ⟨S128, .f32⟩
  | 3 => ⟨S256x384, .f32⟩
  | 4 => ⟨S128x512, .f32⟩
  | 5 => ⟨S16x32x256, .f32⟩
  | 6 => ⟨S16x32x128, .f32⟩
  | 7 => ⟨S16x32x32, .f32⟩
  | 8 => ⟨S16x32x256, .f32⟩
  | 9 => ⟨S_, .f32⟩
  | 10 => ⟨S16x32, .f32⟩
  | 11 => ⟨S16x32x1, .f32⟩
  | 12 => ⟨S_, .f32⟩
  | 13 => ⟨S16x32x1, .f32⟩
  | 14 => ⟨S16x32x1, .f32⟩
  | 15 => ⟨S_, .f32⟩
  | 16 => ⟨S16x32x1, .f32⟩
  | 17 => ⟨S16x32x1, .f32⟩
  | 18 => ⟨S16x32x1, .f32⟩
  | 19 => ⟨S16x32x256, .f32⟩
  | 20 => ⟨S16x32x256, .f32⟩
  | 21 => ⟨S1x1x256, .f32⟩
  | 22 => ⟨S16x32x256, .f32⟩
  | 23 => ⟨S16x32x256, .f32⟩
  | 24 => ⟨S16x32x384, .f32⟩
  | 25 => ⟨S16x32x4x96, .f32⟩
  | 26 => ⟨S16x32x4x64, .f32⟩
  | 27 => ⟨S16x32x4x32, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S32, .i32⟩
  | 37 => ⟨S_, .i32⟩
  | 38 => ⟨S32, .i32⟩
  | 39 => ⟨S32, .i32⟩
  | 40 => ⟨S32, .f32⟩
  | 41 => ⟨S32x1, .f32⟩
  | 42 => ⟨S1x16, .f32⟩
  | 43 => ⟨S32x16, .f32⟩
  | 44 => ⟨S32x16, .f32⟩
  | 45 => ⟨S32x16, .f32⟩
  | 46 => ⟨S32x16, .f32⟩
  | 47 => ⟨S1x32x1x16, .f32⟩
  | 48 => ⟨S32x16, .f32⟩
  | 49 => ⟨S1x32x1x16, .f32⟩
  | 50 => ⟨S16x32x4x16, .f32⟩
  | 51 => ⟨S16x32x4x16, .f32⟩
  | 52 => ⟨S16x32x4x16, .f32⟩
  | 53 => ⟨S16x32x4x16, .f32⟩
  | 54 => ⟨S16x32x4x16, .f32⟩
  | 55 => ⟨S16x32x4x16, .f32⟩
  | 56 => ⟨S16x32x4x16, .f32⟩
  | 57 => ⟨S16x32x4x16, .f32⟩
  | 58 => ⟨S16x32x4x16, .f32⟩
  | 59 => ⟨S16x32x4x16, .f32⟩
  | 60 => ⟨S16x32x4x16, .f32⟩
  | 61 => ⟨S16x32x4x16, .f32⟩
  | 62 => ⟨S16x32x4x32, .f32⟩
  | 63 => ⟨S16x32x4x96, .f32⟩
  | 64 => ⟨S_, .f32⟩
  | 65 => ⟨S16x32x4x96, .f32⟩
  | 66 => ⟨S16x32x4x96, .f32⟩
  | 67 => ⟨S16x32x128, .f32⟩
  | 68 => ⟨S_, .f32⟩
  | 69 => ⟨S16x32, .f32⟩
  | 70 => ⟨S16x32x1, .f32⟩
  | 71 => ⟨S_, .f32⟩
  | 72 => ⟨S16x32x1, .f32⟩
  | 73 => ⟨S16x32x1, .f32⟩
  | 74 => ⟨S_, .f32⟩
  | 75 => ⟨S16x32x1, .f32⟩
  | 76 => ⟨S16x32x1, .f32⟩
  | 77 => ⟨S16x32x1, .f32⟩
  | 78 => ⟨S16x32x128, .f32⟩
  | 79 => ⟨S16x32x128, .f32⟩
  | 80 => ⟨S1x1x128, .f32⟩
  | 81 => ⟨S16x32x128, .f32⟩
  | 82 => ⟨S16x32x128, .f32⟩
  | 83 => ⟨S16x32x1x32, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S32, .i32⟩
  | 93 => ⟨S_, .i32⟩
  | 94 => ⟨S32, .i32⟩
  | 95 => ⟨S32, .i32⟩
  | 96 => ⟨S32, .f32⟩
  | 97 => ⟨S32x1, .f32⟩
  | 98 => ⟨S1x16, .f32⟩
  | 99 => ⟨S32x16, .f32⟩
  | 100 => ⟨S32x16, .f32⟩
  | 101 => ⟨S32x16, .f32⟩
  | 102 => ⟨S32x16, .f32⟩
  | 103 => ⟨S1x32x1x16, .f32⟩
  | 104 => ⟨S32x16, .f32⟩
  | 105 => ⟨S1x32x1x16, .f32⟩
  | 106 => ⟨S16x32x1x16, .f32⟩
  | 107 => ⟨S16x32x1x16, .f32⟩
  | 108 => ⟨S16x32x1x16, .f32⟩
  | 109 => ⟨S16x32x1x16, .f32⟩
  | 110 => ⟨S16x32x1x16, .f32⟩
  | 111 => ⟨S16x32x1x16, .f32⟩
  | 112 => ⟨S16x32x1x16, .f32⟩
  | 113 => ⟨S16x32x1x16, .f32⟩
  | 114 => ⟨S16x32x1x16, .f32⟩
  | 115 => ⟨S16x32x1x16, .f32⟩
  | 116 => ⟨S16x32x1x16, .f32⟩
  | 117 => ⟨S16x32x1x16, .f32⟩
  | 118 => ⟨S16x32x1x32, .f32⟩
  | 119 => ⟨S16x32x512, .f32⟩
  | 120 => ⟨S16x32x4x128, .f32⟩
  | 121 => ⟨S16x32x4x64, .f32⟩
  | 122 => ⟨S16x32x4x32, .f32⟩
  | 123 => ⟨S16x32x4x96, .f32⟩
  | 124 => ⟨S16x4x32x96, .f32⟩
  | 125 => ⟨S_, .i32⟩
  | 126 => ⟨S_, .f32⟩
  | 127 => ⟨S16x4x32x128, .f32⟩
  | _ => ⟨S16x32x512, .f32⟩

abbrev hbmTy0_1 (i : Nat) : BufTy := match i % 128 with
  | 0 => ⟨S16x4x32x96, .f32⟩
  | 1 => ⟨S_, .i32⟩
  | 2 => ⟨S_, .f32⟩
  | 3 => ⟨S16x4x32x128, .f32⟩
  | 4 => ⟨S16x32x4x64, .f32⟩
  | 5 => ⟨S16x4x32x64, .f32⟩
  | 6 => ⟨S_, .i32⟩
  | 7 => ⟨S_, .f32⟩
  | 8 => ⟨S16x4x32x128, .f32⟩
  | 9 => ⟨S16x32x32, .f32⟩
  | _ => ⟨S16x32x512, .f32⟩

abbrev hbmTy (i : Nat) : BufTy := match i / 128 with
  | 0 => hbmTy0_0 i
  | 1 => hbmTy0_1 i
  | _ => ⟨S16x32x512, .f32⟩

abbrev bufTy : (tb : Table) → Fin (tcTables nBuf tb) → BufTy
  | .hbm, ⟨i, _⟩ => hbmTy i
  | _, _ => ⟨S16x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_c_11 : Ref sig .tc := ⟨.hbm, 125, rfl⟩
abbrev main_call0_v0 : Ref sig .tc := ⟨.hbm, 126, rfl⟩
abbrev main_v107 : Ref sig .tc := ⟨.hbm, 127, rfl⟩
abbrev main_v108 : Ref sig .tc := ⟨.hbm, 128, rfl⟩
abbrev main_c_12 : Ref sig .tc := ⟨.hbm, 129, rfl⟩
abbrev main_call1_v0 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_13 : Ref sig .tc := ⟨.hbm, 134, rfl⟩
abbrev main_call2_v0 : Ref sig .tc := ⟨.hbm, 135, rfl⟩
abbrev main_v112 : Ref sig .tc := ⟨.hbm, 136, rfl⟩
abbrev main_v113 : Ref sig .tc := ⟨.hbm, 137, rfl⟩

abbrev nD : Nat := 1
abbrev τ : Topo := Topo.v7x

variable {F : FTy → Type} [FloatOps F]
-- ==== Past.lean ====
abbrev S16x4096x128 : Shape := ⟨3, ![16, 4096, 128]⟩
abbrev S16x4096x32 : Shape := ⟨3, ![16, 4096, 32]⟩
abbrev S128x512 : Shape := ⟨2, ![128, 512]⟩
abbrev S128x4x128 : Shape := ⟨3, ![128, 4, 128]⟩
abbrev S_ : Shape := ⟨0, ![]⟩
abbrev S128x4x64 : Shape := ⟨3, ![128, 4, 64]⟩
abbrev S16x4x4096x128 : Shape := ⟨4, ![16, 4, 4096, 128]⟩
abbrev S1x512x128 : Shape := ⟨3, ![1, 512, 128]⟩
abbrev S1x4x512x128 : Shape := ⟨4, ![1, 4, 512, 128]⟩
abbrev S512x128 : Shape := ⟨2, ![512, 128]⟩
abbrev S512x512 : Shape := ⟨2, ![512, 512]⟩
abbrev S1x1x512x128 : Shape := ⟨4, ![1, 1, 512, 128]⟩

abbrev nBuf : Space → Nat
  | .hbm => 19
  | .vmem => 10
  | .smem => 0
  | _ => 0

abbrev bufTy : (tb : Table) → Fin (tcTables nBuf tb) → BufTy
  | .hbm, ⟨0, _⟩ => ⟨S16x4096x128, .f32⟩
  | .hbm, ⟨1, _⟩ => ⟨S16x4096x32, .f32⟩
  | .hbm, ⟨2, _⟩ => ⟨S128x512, .f32⟩
  | .hbm, ⟨3, _⟩ => ⟨S128x4x128, .f32⟩
  | .hbm, ⟨4, _⟩ => ⟨S_, .i32⟩
  | .hbm, ⟨5, _⟩ => ⟨S_, .f32⟩
  | .hbm, ⟨6, _⟩ => ⟨S16x4096x128, .f32⟩
  | .hbm, ⟨7, _⟩ => ⟨S128x4x64, .f32⟩
  | .hbm, ⟨8, _⟩ => ⟨S_, .i32⟩
  | .hbm, ⟨9, _⟩ => ⟨S_, .f32⟩
  | .hbm, ⟨10, _⟩ => ⟨S128x4x128, .f32⟩
  | .hbm, ⟨11, _⟩ => ⟨S128x512, .f32⟩
  | .hbm, ⟨12, _⟩ => ⟨S128x4x64, .f32⟩
  | .hbm, ⟨13, _⟩ => ⟨S_, .i32⟩
  | .hbm, ⟨14, _⟩ => ⟨S_, .f32⟩
  | .hbm, ⟨15, _⟩ => ⟨S128x4x128, .f32⟩
  | .hbm, ⟨16, _⟩ => ⟨S128x512, .f32⟩
  | .hbm, ⟨17, _⟩ => ⟨S16x4x4096x128, .f32⟩
  | .hbm, ⟨18, _⟩ => ⟨S16x4x4096x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S128x512, .f32⟩
  | .local _ .vmem, ⟨5, _⟩ => ⟨S128x512, .f32⟩
  | .local _ .vmem, ⟨6, _⟩ => ⟨S1x4x512x128, .f32⟩
  | .local _ .vmem, ⟨7, _⟩ => ⟨S1x4x512x128, .f32⟩
  | .local _ .vmem, ⟨8, _⟩ => ⟨S1x4x512x128, .f32⟩
  | .local _ .vmem, ⟨9, _⟩ => ⟨S1x4x512x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PastRefIdeal.lean ====
abbrev S16x4096x128 : Shape := ⟨3, ![16, 4096, 128]⟩
abbrev S16x4096x32 : Shape := ⟨3, ![16, 4096, 32]⟩
abbrev S128x512 : Shape := ⟨2, ![128, 512]⟩
abbrev S16x4096x512 : Shape := ⟨3, ![16, 4096, 512]⟩
abbrev S16x4096x4x128 : Shape := ⟨4, ![16, 4096, 4, 128]⟩
abbrev S16x4096x4x64 : Shape := ⟨4, ![16, 4096, 4, 64]⟩
abbrev S16x4096x1x32 : Shape := ⟨4, ![16, 4096, 1, 32]⟩
abbrev S16x4096x4x32 : Shape := ⟨4, ![16, 4096, 4, 32]⟩
abbrev S16x4096x4x96 : Shape := ⟨4, ![16, 4096, 4, 96]⟩
abbrev S16x4x4096x96 : Shape := ⟨4, ![16, 4, 4096, 96]⟩
abbrev S_ : Shape := ⟨0, ![]⟩
abbrev S16x4x4096x128 : Shape := ⟨4, ![16, 4, 4096, 128]⟩
abbrev S16x4x4096x64 : Shape := ⟨4, ![16, 4, 4096, 64]⟩

abbrev nBuf : Space → Nat
  | .hbm => 18
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096x32, .f32⟩
  | .hbm, ⟨2, _⟩ => ⟨S128x512, .f32⟩
  | .hbm, ⟨3, _⟩ => ⟨S16x4096x512, .f32⟩
  | .hbm, ⟨4, _⟩ => ⟨S16x4096x4x128, .f32⟩
  | .hbm, ⟨5, _⟩ => ⟨S16x4096x4x64, .f32⟩
  | .hbm, ⟨6, _⟩ => ⟨S16x4096x1x32, .f32⟩
  | .hbm, ⟨7, _⟩ => ⟨S16x4096x4x32, .f32⟩
  | .hbm, ⟨8, _⟩ => ⟨S16x4096x4x96, .f32⟩
  | .hbm, ⟨9, _⟩ => ⟨S16x4x4096x96, .f32⟩
  | .hbm, ⟨10, _⟩ => ⟨S_, .i32⟩
  | .hbm, ⟨11, _⟩ => ⟨S_, .f32⟩
  | .hbm, ⟨12, _⟩ => ⟨S16x4x4096x128, .f32⟩
  | .hbm, ⟨13, _⟩ => ⟨S16x4096x4x64, .f32⟩
  | .hbm, ⟨14, _⟩ => ⟨S16x4x4096x64, .f32⟩
  | .hbm, ⟨15, _⟩ => ⟨S_, .i32⟩
  | .hbm, ⟨16, _⟩ => ⟨S_, .f32⟩
  | .hbm, ⟨17, _⟩ => ⟨S16x4x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Dsa.lean ====
abbrev S16x32x1920 : Shape := ⟨3, ![16, 32, 1920]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S32x128 : Shape := ⟨2, ![32, 128]⟩
abbrev S1x32x128 : Shape := ⟨3, ![1, 32, 128]⟩
abbrev S3x32x128 : Shape := ⟨3, ![3, 32, 128]⟩
abbrev S16 : Shape := ⟨1, ![16]⟩
abbrev S1x16 : Shape := ⟨2, ![1, 16]⟩
abbrev S32x16 : Shape := ⟨2, ![32, 16]⟩
abbrev S32x8 : Shape := ⟨2, ![32, 8]⟩
abbrev S32x88 : Shape := ⟨2, ![32, 88]⟩
abbrev S16x4x32x128 : Shape := ⟨4, ![16, 4, 32, 128]⟩
abbrev S16x8x32x32 : Shape := ⟨4, ![16, 8, 32, 32]⟩
abbrev S16x32x32 : Shape := ⟨3, ![16, 32, 32]⟩
abbrev S16x32x128 : Shape := ⟨3, ![16, 32, 128]⟩
abbrev S16x32x256 : Shape := ⟨3, ![16, 32, 256]⟩
abbrev S1x32x1920 : Shape := ⟨3, ![1, 32, 1920]⟩
abbrev S1x4x32x128 : Shape := ⟨4, ![1, 4, 32, 128]⟩
abbrev S1x8x32x32 : Shape := ⟨4, ![1, 8, 32, 32]⟩
abbrev S1x32x32 : Shape := ⟨3, ![1, 32, 32]⟩
abbrev S1x32x256 : Shape := ⟨3, ![1, 32, 256]⟩
abbrev S32x1920 : Shape := ⟨2, ![32, 1920]⟩
abbrev S32x512 : Shape := ⟨2, ![32, 512]⟩
abbrev S32x256 : Shape := ⟨2, ![32, 256]⟩
abbrev S1x1x32x128 : Shape := ⟨4, ![1, 1, 32, 128]⟩
abbrev S1x1x32x32 : Shape := ⟨4, ![1, 1, 32, 32]⟩

abbrev nBuf : Space → Nat
  | .hbm => 155
  | .vmem => 23
  | .smem => 0
  | _ => 0

abbrev hbmTy0_0 (i : Nat) : BufTy := match i % 128 with
  | 0 => ⟨S16x32x1920, .f32⟩
  | 1 => ⟨S32, .i32⟩
  | 2 => ⟨S_, .i32⟩
  | 3 => ⟨S32, .i32⟩
  | 4 => ⟨S32, .i32⟩
  | 5 => ⟨S32, .f32⟩
  | 6 => ⟨S32x1, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S1x32, .f32⟩
  | 16 => ⟨S32x32, .f32⟩
  | 17 => ⟨S32x32, .f32⟩
  | 18 => ⟨S32x32, .f32⟩
  | 19 => ⟨S32x32, .f32⟩
  | 20 => ⟨S32x32, .f32⟩
  | 21 => ⟨S_, .f32⟩
  | 22 => ⟨S32x32, .f32⟩
  | 23 => ⟨S32x32, .f32⟩
  | 24 => ⟨S_, .f32⟩
  | 25 => ⟨S32x64, .f32⟩
  | 26 => ⟨S_, .f32⟩
  | 27 => ⟨S32x64, .f32⟩
  | 28 => ⟨S32x128, .f32⟩
  | 29 => ⟨S32x128, .f32⟩
  | 30 => ⟨S32x128, .f32⟩
  | 31 => ⟨S1x32x128, .f32⟩
  | 32 => ⟨S1x32x128, .f32⟩
  | 33 => ⟨S1x32x128, .f32⟩
  | 34 => ⟨S3x32x128, .f32⟩
  | 35 => ⟨S32, .f32⟩
  | 36 => ⟨S32x1, .f32⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S1x16, .f32⟩
  | 46 => ⟨S32x16, .f32⟩
  | 47 => ⟨S32x16, .f32⟩
  | 48 => ⟨S32x16, .f32⟩
  | 49 => ⟨S32x16, .f32⟩
  | 50 => ⟨S32x16, .f32⟩
  | 51 => ⟨S_, .f32⟩
  | 52 => ⟨S32x16, .f32⟩
  | 53 => ⟨S32x16, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S1x16, .f32⟩
  | 63 => ⟨S32x16, .f32⟩
  | 64 => ⟨S32x16, .f32⟩
  | 65 => ⟨S32x16, .f32⟩
  | 66 => ⟨S32x16, .f32⟩
  | 67 => ⟨S32x16, .f32⟩
  | 68 => ⟨S_, .f32⟩
  | 69 => ⟨S32x16, .f32⟩
  | 70 => ⟨S32x16, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S1x16, .f32⟩
  | 80 => ⟨S32x16, .f32⟩
  | 81 => ⟨S32x16, .f32⟩
  | 82 => ⟨S32x16, .f32⟩
  | 83 => ⟨S32x16, .f32⟩
  | 84 => ⟨S32x16, .f32⟩
  | 85 => ⟨S_, .f32⟩
  | 86 => ⟨S32x16, .f32⟩
  | 87 => ⟨S32x16, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S1x16, .f32⟩
  | 97 => ⟨S32x16, .f32⟩
  | 98 => ⟨S32x16, .f32⟩
  | 99 => ⟨S32x16, .f32⟩
  | 100 => ⟨S32x16, .f32⟩
  | 101 => ⟨S32x16, .f32⟩
  | 102 => ⟨S_, .f32⟩
  | 103 => ⟨S32x16, .f32⟩
  | 104 => ⟨S32x16, .f32⟩
  | 105 => ⟨S32x128, .f32⟩
  | 106 => ⟨S32x128, .f32⟩
  | 107 => ⟨S32x128, .f32⟩
  | 108 => ⟨S1x32x128, .f32⟩
  | 109 => ⟨S1x32x128, .f32⟩
  | 110 => ⟨S1x32x128, .f32⟩
  | 111 => ⟨S3x32x128, .f32⟩
  | 112 => ⟨S32, .f32⟩
  | 113 => ⟨S32x1, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S1x16, .f32⟩
  | 123 => ⟨S32x16, .f32⟩
  | 124 => ⟨S32x16, .f32⟩
  | 125 => ⟨S32x16, .f32⟩
  | 126 => ⟨S32x16, .f32⟩
  | 127 => ⟨S32x16, .f32⟩
  | _ => ⟨S16x32x1920, .f32⟩

abbrev hbmTy0_1 (i : Nat) : BufTy := match i % 128 with
  | 0 => ⟨S_, .f32⟩
  | 1 => ⟨S32x16, .f32⟩
  | 2 => ⟨S32x16, .f32⟩
  | 3 => ⟨S_, .f32⟩
  | 4 => ⟨S32x8, .f32⟩
  | 5 => ⟨S_, .f32⟩
  | 6 => ⟨S32x8, .f32⟩
  | 7 => ⟨S_, .f32⟩
  | 8 => ⟨S32x88, .f32⟩
  | 9 => ⟨S_, .f32⟩
  | 10 => ⟨S32x88, .f32⟩
  | 11 => ⟨S32x128, .f32⟩
  | 12 => ⟨S32x128, .f32⟩
  | 13 => ⟨S32x128, .f32⟩
  | 14 => ⟨S1x32x128, .f32⟩
  | 15 => ⟨S1x32x128, .f32⟩
  | 16 => ⟨S1x32x128, .f32⟩
  | 17 => ⟨S3x32x128, .f32⟩
  | 18 => ⟨S16x4x32x128, .f32⟩
  | 19 => ⟨S16x4x32x128, .f32⟩
  | 20 => ⟨S16x4x32x128, .f32⟩
  | 21 => ⟨S16x8x32x32, .f32⟩
  | 22 => ⟨S16x32x32, .f32⟩
  | 23 => ⟨S16x32x128, .f32⟩
  | 24 => ⟨S16x32x256, .f32⟩
  | 25 => ⟨S16x32x256, .f32⟩
  | 26 => ⟨S16x32x32, .f32⟩
  | _ => ⟨S16x32x1920, .f32⟩

abbrev hbmTy (i : Nat) : BufTy := match i / 128 with
  | 0 => hbmTy0_0 i
  | 1 => hbmTy0_1 i
  | _ => ⟨S16x32x1920, .f32⟩

abbrev bufTy : (tb : Table) → Fin (tcTables nBuf tb) → BufTy
  | .hbm, ⟨i, _⟩ => hbmTy i
  | .local _ .vmem, ⟨0, _⟩ => ⟨S1x32x1920, .f32⟩
  | .local _ .vmem, ⟨1, _⟩ => ⟨S1x32x1920, .f32⟩
  | .local _ .vmem, ⟨2, _⟩ => ⟨S3x32x128, .f32⟩
  | .local _ .vmem, ⟨3, _⟩ => ⟨S3x32x128, .f32⟩
  | .local _ .vmem, ⟨4, _⟩ => ⟨S3x32x128, .f32⟩
  | .local _ .vmem, ⟨5, _⟩ => ⟨S1x4x32x128, .f32⟩
  | .local _ .vmem, ⟨6, _⟩ => ⟨S1x4x32x128, .f32⟩
  | .local _ .vmem, ⟨7, _⟩ => ⟨S1x4x32x128, .f32⟩
  | .local _ .vmem, ⟨8, _⟩ => ⟨S1x4x32x128, .f32⟩
  | .local _ .vmem, ⟨9, _⟩ => ⟨S1x4x32x128, .f32⟩
  | .local _ .vmem, ⟨10, _⟩ => ⟨S1x4x32x128, .f32⟩
  | .local _ .vmem, ⟨11, _⟩ => ⟨S1x8x32x32, .f32⟩
  | .local _ .vmem, ⟨12, _⟩ => ⟨S1x8x32x32, .f32⟩
  | .local _ .vmem, ⟨13, _⟩ => ⟨S1x32x32, .f32⟩
  | .local _ .vmem, ⟨14, _⟩ => ⟨S1x32x32, .f32⟩
  | .local _ .vmem, ⟨15, _⟩ => ⟨S1x32x128, .f32⟩
  | .local _ .vmem, ⟨16, _⟩ => ⟨S1x32x128, .f32⟩
  | .local _ .vmem, ⟨17, _⟩ => ⟨S1x32x256, .f32⟩
  | .local _ .vmem, ⟨18, _⟩ => ⟨S1x32x256, .f32⟩
  | .local _ .vmem, ⟨19, _⟩ => ⟨S1x32x256, .f32⟩
  | .local _ .vmem, ⟨20, _⟩ => ⟨S1x32x256, .f32⟩
  | .local _ .vmem, ⟨21, _⟩ => ⟨S1x32x32, .f32⟩
  | .local _ .vmem, ⟨22, _⟩ => ⟨S1x32x32, .f32⟩
  | _, _ => ⟨S16x32x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_9 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_10 : Ref sig .tc := ⟨.hbm, 73, rfl⟩
abbrev main_v60 : Ref sig .tc := ⟨.hbm, 74, rfl⟩
abbrev main_v61 : Ref sig .tc := ⟨.hbm, 75, rfl⟩
abbrev main_cst_11 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_12 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_13 : Ref sig .tc := ⟨.hbm, 90, rfl⟩
abbrev main_v74 : Ref sig .tc := ⟨.hbm, 91, rfl⟩
abbrev main_v75 : Ref sig .tc := ⟨.hbm, 92, rfl⟩
abbrev main_cst_14 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_15 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_16 : Ref sig .tc := ⟨.hbm, 116, rfl⟩
abbrev main_v97 : Ref sig .tc := ⟨.hbm, 117, rfl⟩
abbrev main_v98 : Ref sig .tc := ⟨.hbm, 118, rfl⟩
abbrev main_cst_17 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_18 : Ref sig .tc := ⟨.hbm, 128, rfl⟩
abbrev main_v107 : Ref sig .tc := ⟨.hbm, 129, rfl⟩
abbrev main_v108 : Ref sig .tc := ⟨.hbm, 130, rfl⟩
abbrev main_cst_19 : Ref sig .tc := ⟨.hbm, 131, rfl⟩
abbrev main_v109 : Ref sig .tc := ⟨.hbm, 132, rfl⟩
abbrev main_cst_20 : Ref sig .tc := ⟨.hbm, 133, rfl⟩
abbrev main_v110 : Ref sig .tc := ⟨.hbm, 134, rfl⟩
abbrev main_cst_21 : Ref sig .tc := ⟨.hbm, 135, rfl⟩
abbrev main_v111 : Ref sig .tc := ⟨.hbm, 136, rfl⟩
abbrev main_cst_22 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120_0 : Ref sig .tc := ⟨.hbm, 146, rfl⟩
abbrev main_v120_1 : Ref sig .tc := ⟨.hbm, 147, rfl⟩
abbrev main_v120_2 : Ref sig .tc := ⟨.hbm, 148, rfl⟩
abbrev main_v120_3 : Ref sig .tc := ⟨.hbm, 149, rfl⟩
abbrev main_v120_4 : Ref sig .tc := ⟨.hbm, 150, rfl⟩
abbrev main_v120_5 : Ref sig .tc := ⟨.hbm, 151, rfl⟩
abbrev main_v120_6 : Ref sig .tc := ⟨.hbm, 152, rfl⟩
abbrev main_v120_7 : Ref sig .tc := ⟨.hbm, 153, rfl⟩
abbrev main_v120_8 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S3x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S3x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1x4x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x32x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== DsaRefIdeal.lean ====
abbrev S16x32x1920 : Shape := ⟨3, ![16, 32, 1920]⟩
abbrev S16x32x1536 : Shape := ⟨3, ![16, 32, 1536]⟩
abbrev S16x32x12x128 : Shape := ⟨4, ![16, 32, 12, 128]⟩
abbrev S16x32x12x64 : Shape := ⟨4, ![16, 32, 12, 64]⟩
abbrev S16x32x256 : Shape := ⟨3, ![16, 32, 256]⟩
abbrev S16x32x32 : Shape := ⟨3, ![16, 32, 32]⟩
abbrev S16x32x8 : Shape := ⟨3, ![16, 32, 8]⟩
abbrev S16x32x4x64 : Shape := ⟨4, ![16, 32, 4, 64]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S1x32x1x32 : Shape := ⟨4, ![1, 32, 1, 32]⟩
abbrev S16x32x4x32 : Shape := ⟨4, ![16, 32, 4, 32]⟩
abbrev S16x32x8x32 : Shape := ⟨4, ![16, 32, 8, 32]⟩
abbrev S16 : Shape := ⟨1, ![16]⟩
abbrev S1x16 : Shape := ⟨2, ![1, 16]⟩
abbrev S32x16 : Shape := ⟨2, ![32, 16]⟩
abbrev S1x32x1x16 : Shape := ⟨4, ![1, 32, 1, 16]⟩
abbrev S16x32x8x16 : Shape := ⟨4, ![16, 32, 8, 16]⟩
abbrev S16x32x1x32 : Shape := ⟨4, ![16, 32, 1, 32]⟩
abbrev S16x32x1x16 : Shape := ⟨4, ![16, 32, 1, 16]⟩
abbrev S16x32x40 : Shape := ⟨3, ![16, 32, 40]⟩
abbrev S16x32x128 : Shape := ⟨3, ![16, 32, 128]⟩
abbrev S16x4x32x64 : Shape := ⟨4, ![16, 4, 32, 64]⟩
abbrev S16x4x32x128 : Shape := ⟨4, ![16, 4, 32, 128]⟩
abbrev S16x8x32x32 : Shape := ⟨4, ![16, 8, 32, 32]⟩

abbrev nBuf : Space → Nat
  | .hbm => 178
  | .vmem => 0
  | .smem => 0
  | _ => 0

abbrev hbmTy0_0 (i : Nat) : BufTy := match i % 128 with
  | 0 => ⟨S16x32x1920, .f32⟩
  | 1 => ⟨S16x32x1536, .f32⟩
  | 2 => ⟨S16x32x12x128, .f32⟩
  | 3 => ⟨S16x32x12x64, .f32⟩
  | 4 => ⟨S16x32x256, .f32⟩
  | 5 => ⟨S16x32x32, .f32⟩
  | 6 => ⟨S16x32x8, .f32⟩
  | 7 => ⟨S16x32x4x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .i32⟩
  | 17 => ⟨S_, .i32⟩
  | 18 => ⟨S32, .i32⟩
  | 19 => ⟨S32, .i32⟩
  | 20 => ⟨S32, .f32⟩
  | 21 => ⟨S32x1, .f32⟩
  | 22 => ⟨S1x32, .f32⟩
  | 23 => ⟨S32x32, .f32⟩
  | 24 => ⟨S32x32, .f32⟩
  | 25 => ⟨S32x32, .f32⟩
  | 26 => ⟨S32x32, .f32⟩
  | 27 => ⟨S1x32x1x32, .f32⟩
  | 28 => ⟨S32x32, .f32⟩
  | 29 => ⟨S1x32x1x32, .f32⟩
  | 30 => ⟨S16x32x4x32, .f32⟩
  | 31 => ⟨S16x32x4x32, .f32⟩
  | 32 => ⟨S16x32x4x32, .f32⟩
  | 33 => ⟨S16x32x4x32, .f32⟩
  | 34 => ⟨S16x32x4x32, .f32⟩
  | 35 => ⟨S16x32x4x32, .f32⟩
  | 36 => ⟨S16x32x4x32, .f32⟩
  | 37 => ⟨S16x32x4x32, .f32⟩
  | 38 => ⟨S16x32x4x32, .f32⟩
  | 39 => ⟨S16x32x4x32, .f32⟩
  | 40 => ⟨S16x32x4x32, .f32⟩
  | 41 => ⟨S16x32x4x32, .f32⟩
  | 42 => ⟨S16x32x4x64, .f32⟩
  | 43 => ⟨S_, .f32⟩
  | 44 => ⟨S16x32x4x64, .f32⟩
  | 45 => ⟨S16x32x4x64, .f32⟩
  | 46 => ⟨S16x32x4x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .i32⟩
  | 56 => ⟨S_, .i32⟩
  | 57 => ⟨S32, .i32⟩
  | 58 => ⟨S32, .i32⟩
  | 59 => ⟨S32, .f32⟩
  | 60 => ⟨S32x1, .f32⟩
  | 61 => ⟨S1x32, .f32⟩
  | 62 => ⟨S32x32, .f32⟩
  | 63 => ⟨S32x32, .f32⟩
  | 64 => ⟨S32x32, .f32⟩
  | 65 => ⟨S32x32, .f32⟩
  | 66 => ⟨S1x32x1x32, .f32⟩
  | 67 => ⟨S32x32, .f32⟩
  | 68 => ⟨S1x32x1x32, .f32⟩
  | 69 => ⟨S16x32x4x32, .f32⟩
  | 70 => ⟨S16x32x4x32, .f32⟩
  | 71 => ⟨S16x32x4x32, .f32⟩
  | 72 => ⟨S16x32x4x32, .f32⟩
  | 73 => ⟨S16x32x4x32, .f32⟩
  | 74 => ⟨S16x32x4x32, .f32⟩
  | 75 => ⟨S16x32x4x32, .f32⟩
  | 76 => ⟨S16x32x4x32, .f32⟩
  | 77 => ⟨S16x32x4x32, .f32⟩
  | 78 => ⟨S16x32x4x32, .f32⟩
  | 79 => ⟨S16x32x4x32, .f32⟩
  | 80 => ⟨S16x32x4x32, .f32⟩
  | 81 => ⟨S16x32x4x64, .f32⟩
  | 82 => ⟨S16x32x4x64, .f32⟩
  | 83 => ⟨S16x32x8x32, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S32, .i32⟩
  | 93 => ⟨S_, .i32⟩
  | 94 => ⟨S32, .i32⟩
  | 95 => ⟨S32, .i32⟩
  | 96 => ⟨S32, .f32⟩
  | 97 => ⟨S32x1, .f32⟩
  | 98 => ⟨S1x16, .f32⟩
  | 99 => ⟨S32x16, .f32⟩
  | 100 => ⟨S32x16, .f32⟩
  | 101 => ⟨S32x16, .f32⟩
  | 102 => ⟨S32x16, .f32⟩
  | 103 => ⟨S1x32x1x16, .f32⟩
  | 104 => ⟨S32x16, .f32⟩
  | 105 => ⟨S1x32x1x16, .f32⟩
  | 106 => ⟨S16x32x8x16, .f32⟩
  | 107 => ⟨S16x32x8x16, .f32⟩
  | 108 => ⟨S16x32x8x16, .f32⟩
  | 109 => ⟨S16x32x8x16, .f32⟩
  | 110 => ⟨S16x32x8x16, .f32⟩
  | 111 => ⟨S16x32x8x16, .f32⟩
  | 112 => ⟨S16x32x8x16, .f32⟩
  | 113 => ⟨S16x32x8x16, .f32⟩
  | 114 => ⟨S16x32x8x16, .f32⟩
  | 115 => ⟨S16x32x8x16, .f32⟩
  | 116 => ⟨S16x32x8x16, .f32⟩
  | 117 => ⟨S16x32x8x16, .f32⟩
  | 118 => ⟨S16x32x8x32, .f32⟩
  | 119 => ⟨S16x32x1x32, .f32⟩
  | 120 => ⟨S16, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S16x32x1920, .f32⟩

abbrev hbmTy0_1 (i : Nat) : BufTy := match i % 128 with
  | 0 => ⟨S32, .i32⟩
  | 1 => ⟨S_, .i32⟩
  | 2 => ⟨S32, .i32⟩
  | 3 => ⟨S32, .i32⟩
  | 4 => ⟨S32, .f32⟩
  | 5 => ⟨S32x1, .f32⟩
  | 6 => ⟨S1x16, .f32⟩
  | 7 => ⟨S32x16, .f32⟩
  | 8 => ⟨S32x16, .f32⟩
  | 9 => ⟨S32x16, .f32⟩
  | 10 => ⟨S32x16, .f32⟩
  | 11 => ⟨S1x32x1x16, .f32⟩
  | 12 => ⟨S32x16, .f32⟩
  | 13 => ⟨S1x32x1x16, .f32⟩
  | 14 => ⟨S16x32x1x16, .f32⟩
  | 15 => ⟨S16x32x1x16, .f32⟩
  | 16 => ⟨S16x32x1x16, .f32⟩
  | 17 => ⟨S16x32x1x16, .f32⟩
  | 18 => ⟨S16x32x1x16, .f32⟩
  | 19 => ⟨S16x32x1x16, .f32⟩
  | 20 => ⟨S16x32x1x16, .f32⟩
  | 21 => ⟨S16x32x1x16, .f32⟩
  | 22 => ⟨S16x32x1x16, .f32⟩
  | 23 => ⟨S16x32x1x16, .f32⟩
  | 24 => ⟨S16x32x1x16, .f32⟩
  | 25 => ⟨S16x32x1x16, .f32⟩
  | 26 => ⟨S16x32x1x32, .f32⟩
  | 27 => ⟨S16x32x32, .f32⟩
  | 28 => ⟨S16x32x40, .f32⟩
  | 29 => ⟨S_, .i32⟩
  | 30 => ⟨S_, .f32⟩
  | 31 => ⟨S16x32x128, .f32⟩
  | 32 => ⟨S_, .f32⟩
  | 33 => ⟨S16x32x128, .f32⟩
  | 34 => ⟨S16x32x128, .f32⟩
  | 35 => ⟨S16x4x32x64, .f32⟩
  | 36 => ⟨S_, .i32⟩
  | 37 => ⟨S_, .f32⟩
  | 38 => ⟨S16x4x32x128, .f32⟩
  | 39 => ⟨S16x4x32x64, .f32⟩
  | 40 => ⟨S_, .i32⟩
  | 41 => ⟨S_, .f32⟩
  | 42 => ⟨S16x4x32x128, .f32⟩
  | 43 => ⟨S16x4x32x64, .f32⟩
  | 44 => ⟨S_, .i32⟩
  | 45 => ⟨S_, .f32⟩
  | 46 => ⟨S16x4x32x128, .f32⟩
  | 47 => ⟨S16x8x32x32, .f32⟩
  | 48 => ⟨S16x32x256, .f32⟩
  | 49 => ⟨S16x32x256, .f32⟩
  | _ => ⟨S16x32x1920, .f32⟩

abbrev hbmTy (i : Nat) : BufTy := match i / 128 with
  | 0 => hbmTy0_0 i
  | 1 => hbmTy0_1 i
  | _ => ⟨S16x32x1920, .f32⟩

abbrev bufTy : (tb : Table) → Fin (tcTables nBuf tb) → BufTy
  | .hbm, ⟨i, _⟩ => hbmTy i
  | _, _ => ⟨S16x32x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_cst_6 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_c_7 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_cst_8 : Ref sig .tc := ⟨.hbm, 122, rfl⟩
abbrev main_v111 : Ref sig .tc := ⟨.hbm, 123, rfl⟩
abbrev main_v112 : Ref sig .tc := ⟨.hbm, 124, rfl⟩
abbrev main_cst_9 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_c_10 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_c_11 : Ref sig .tc := ⟨.hbm, 157, rfl⟩
abbrev main_call0_v0 : Ref sig .tc := ⟨.hbm, 158, rfl⟩
abbrev main_v143 : Ref sig .tc := ⟨.hbm, 159, rfl⟩
abbrev main_cst_12 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_c_13 : Ref sig .tc := ⟨.hbm, 164, rfl⟩
abbrev main_call1_v0 : Ref sig .tc := ⟨.hbm, 165, rfl⟩
abbrev main_v147 : Ref sig .tc := ⟨.hbm, 166, rfl⟩
abbrev main_v148 : Ref sig .tc := ⟨.hbm, 167, rfl⟩
abbrev main_c_14 : Ref sig .tc := ⟨.hbm, 168, rfl⟩
abbrev main_call2_v0 : Ref sig .tc := ⟨.hbm, 169, rfl⟩
abbrev main_v149 : Ref sig .tc := ⟨.hbm, 170, rfl⟩
abbrev main_v150 : Ref sig .tc := ⟨.hbm, 171, rfl⟩
abbrev main_c_15 : Ref sig .tc := ⟨.hbm, 172, rfl⟩
abbrev main_call3_v0 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩

abbrev nD : Nat := 1
abbrev τ : Topo := Topo.v7x

variable {F : FTy → Type} [FloatOps F]
-- ==== DsaPrompt.lean ====
abbrev S16x4352x1920 : Shape := ⟨3, ![16, 4352, 1920]⟩
abbrev S4352 : Shape := ⟨1, ![4352]⟩
abbrev S_ : Shape := ⟨0, ![]⟩
abbrev S4352x1 : Shape := ⟨2, ![4352, 1]⟩
abbrev S32 : Shape := ⟨1, ![32]⟩
abbrev S1x32 : Shape := ⟨2, ![1, 32]⟩
abbrev S4352x32 : Shape := ⟨2, ![4352, 32]⟩
abbrev S4352x64 : Shape := ⟨2, ![4352, 64]⟩
abbrev S4352x128 : Shape := ⟨2, ![4352, 128]⟩
abbrev S1x4352x128 : Shape := ⟨3, ![1, 4352, 128]⟩
abbrev S3x4352x128 : Shape := ⟨3, ![3, 4352, 128]⟩
abbrev S16 : Shape := ⟨1, ![16]⟩
abbrev S1x16 : Shape := ⟨2, ![1, 16]⟩
abbrev S4352x16 : Shape := ⟨2, ![4352, 16]⟩
abbrev S4352x8 : Shape := ⟨2, ![4352, 8]⟩
abbrev S4352x88 : Shape := ⟨2, ![4352, 88]⟩
abbrev S16x4x4352x128 : Shape := ⟨4, ![16, 4, 4352, 128]⟩
abbrev S16x8x4352x32 : Shape := ⟨4, ![16, 8, 4352, 32]⟩
abbrev S16x4352x32 : Shape := ⟨3, ![16, 4352, 32]⟩
abbrev S16x4352x128 : Shape := ⟨3, ![16, 4352, 128]⟩
abbrev S16x4352x256 : Shape := ⟨3, ![16, 4352, 256]⟩
abbrev S1x256x1920 : Shape := ⟨3, ![1, 256, 1920]⟩
abbrev S3x256x128 : Shape := ⟨3, ![3, 256, 128]⟩
abbrev S1x4x256x128 : Shape := ⟨4, ![1, 4, 256, 128]⟩
abbrev S1x8x256x32 : Shape := ⟨4, ![1, 8, 256, 32]⟩
abbrev S1x256x32 : Shape := ⟨3, ![1, 256, 32]⟩
abbrev S1x256x128 : Shape := ⟨3, ![1, 256, 128]⟩
abbrev S1x256x256 : Shape := ⟨3, ![1, 256, 256]⟩
abbrev S256x1920 : Shape := ⟨2, ![256, 1920]⟩
abbrev S256x512 : Shape := ⟨2, ![256, 512]⟩
abbrev S256x128 : Shape := ⟨2, ![256, 128]⟩
abbrev S256x256 : Shape := ⟨2, ![256, 256]⟩
abbrev S1x1x256x128 : Shape := ⟨4, ![1, 1, 256, 128]⟩
abbrev S256x32 : Shape := ⟨2, ![256, 32]⟩
abbrev S1x1x256x32 : Shape := ⟨4, ![1, 1, 256, 32]⟩

abbrev nBuf : Space → Nat
  | .hbm => 155
  | .vmem => 26
  | .smem => 0
  | _ => 0

abbrev hbmTy0_0 (i : Nat) : BufTy := match i % 128 with
  | 0 => ⟨S16x4352x1920, .f32⟩
  | 1 => ⟨S4352, .i32⟩
  | 2 => ⟨S_, .i32⟩
  | 3 => ⟨S4352, .i32⟩
  | 4 => ⟨S4352, .i32⟩
  | 5 => ⟨S4352, .f32⟩
  | 6 => ⟨S4352x1, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S1x32, .f32⟩
  | 16 => ⟨S4352x32, .f32⟩
  | 17 => ⟨S4352x32, .f32⟩
  | 18 => ⟨S4352x32, .f32⟩
  | 19 => ⟨S4352x32, .f32⟩
  | 20 => ⟨S4352x32, .f32⟩
  | 21 => ⟨S_, .f32⟩
  | 22 => ⟨S4352x32, .f32⟩
  | 23 => ⟨S4352x32, .f32⟩
  | 24 => ⟨S_, .f32⟩
  | 25 => ⟨S4352x64, .f32⟩
  | 26 => ⟨S_, .f32⟩
  | 27 => ⟨S4352x64, .f32⟩
  | 28 => ⟨S4352x128, .f32⟩
  | 29 => ⟨S4352x128, .f32⟩
  | 30 => ⟨S4352x128, .f32⟩
  | 31 => ⟨S1x4352x128, .f32⟩
  | 32 => ⟨S1x4352x128, .f32⟩
  | 33 => ⟨S1x4352x128, .f32⟩
  | 34 => ⟨S3x4352x128, .f32⟩
  | 35 => ⟨S4352, .f32⟩
  | 36 => ⟨S4352x1, .f32⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S1x16, .f32⟩
  | 46 => ⟨S4352x16, .f32⟩
  | 47 => ⟨S4352x16, .f32⟩
  | 48 => ⟨S4352x16, .f32⟩
  | 49 => ⟨S4352x16, .f32⟩
  | 50 => ⟨S4352x16, .f32⟩
  | 51 => ⟨S_, .f32⟩
  | 52 => ⟨S4352x16, .f32⟩
  | 53 => ⟨S4352x16, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S1x16, .f32⟩
  | 63 => ⟨S4352x16, .f32⟩
  | 64 => ⟨S4352x16, .f32⟩
  | 65 => ⟨S4352x16, .f32⟩
  | 66 => ⟨S4352x16, .f32⟩
  | 67 => ⟨S4352x16, .f32⟩
  | 68 => ⟨S_, .f32⟩
  | 69 => ⟨S4352x16, .f32⟩
  | 70 => ⟨S4352x16, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S1x16, .f32⟩
  | 80 => ⟨S4352x16, .f32⟩
  | 81 => ⟨S4352x16, .f32⟩
  | 82 => ⟨S4352x16, .f32⟩
  | 83 => ⟨S4352x16, .f32⟩
  | 84 => ⟨S4352x16, .f32⟩
  | 85 => ⟨S_, .f32⟩
  | 86 => ⟨S4352x16, .f32⟩
  | 87 => ⟨S4352x16, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S1x16, .f32⟩
  | 97 => ⟨S4352x16, .f32⟩
  | 98 => ⟨S4352x16, .f32⟩
  | 99 => ⟨S4352x16, .f32⟩
  | 100 => ⟨S4352x16, .f32⟩
  | 101 => ⟨S4352x16, .f32⟩
  | 102 => ⟨S_, .f32⟩
  | 103 => ⟨S4352x16, .f32⟩
  | 104 => ⟨S4352x16, .f32⟩
  | 105 => ⟨S4352x128, .f32⟩
  | 106 => ⟨S4352x128, .f32⟩
  | 107 => ⟨S4352x128, .f32⟩
  | 108 => ⟨S1x4352x128, .f32⟩
  | 109 => ⟨S1x4352x128, .f32⟩
  | 110 => ⟨S1x4352x128, .f32⟩
  | 111 => ⟨S3x4352x128, .f32⟩
  | 112 => ⟨S4352, .f32⟩
  | 113 => ⟨S4352x1, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S1x16, .f32⟩
  | 123 => ⟨S4352x16, .f32⟩
  | 124 => ⟨S4352x16, .f32⟩
  | 125 => ⟨S4352x16, .f32⟩
  | 126 => ⟨S4352x16, .f32⟩
  | 127 => ⟨S4352x16, .f32⟩
  | _ => ⟨S16x4352x1920, .f32⟩

abbrev hbmTy0_1 (i : Nat) : BufTy := match i % 128 with
  | 0 => ⟨S_, .f32⟩
  | 1 => ⟨S4352x16, .f32⟩
  | 2 => ⟨S4352x16, .f32⟩
  | 3 => ⟨S_, .f32⟩
  | 4 => ⟨S4352x8, .f32⟩
  | 5 => ⟨S_, .f32⟩
  | 6 => ⟨S4352x8, .f32⟩
  | 7 => ⟨S_, .f32⟩
  | 8 => ⟨S4352x88, .f32⟩
  | 9 => ⟨S_, .f32⟩
  | 10 => ⟨S4352x88, .f32⟩
  | 11 => ⟨S4352x128, .f32⟩
  | 12 => ⟨S4352x128, .f32⟩
  | 13 => ⟨S4352x128, .f32⟩
  | 14 => ⟨S1x4352x128, .f32⟩
  | 15 => ⟨S1x4352x128, .f32⟩
  | 16 => ⟨S1x4352x128, .f32⟩
  | 17 => ⟨S3x4352x128, .f32⟩
  | 18 => ⟨S16x4x4352x128, .bf16⟩
  | 19 => ⟨S16x4x4352x128, .bf16⟩
  | 20 => ⟨S16x4x4352x128, .bf16⟩
  | 21 => ⟨S16x8x4352x32, .bf16⟩
  | 22 => ⟨S16x4352x32, .bf16⟩
  | 23 => ⟨S16x4352x128, .f32⟩
  | 24 => ⟨S16x4352x256, .f32⟩
  | 25 => ⟨S16x4352x256, .f32⟩
  | 26 => ⟨S16x4352x32, .f32⟩
  | _ => ⟨S16x4352x1920, .f32⟩

abbrev hbmTy (i : Nat) : BufTy := match i / 128 with
  | 0 => hbmTy0_0 i
  | 1 => hbmTy0_1 i
  | _ => ⟨S16x4352x1920, .f32⟩

abbrev bufTy : (tb : Table) → Fin (tcTables nBuf tb) → BufTy
  | .hbm, ⟨i, _⟩ => hbmTy i
  | .local _ .vmem, ⟨0, _⟩ => ⟨S1x256x1920, .f32⟩
  | .local _ .vmem, ⟨1, _⟩ => ⟨S1x256x1920, .f32⟩
  | .local _ .vmem, ⟨2, _⟩ => ⟨S3x256x128, .f32⟩
  | .local _ .vmem, ⟨3, _⟩ => ⟨S3x256x128, .f32⟩
  | .local _ .vmem, ⟨4, _⟩ => ⟨S3x256x128, .f32⟩
  | .local _ .vmem, ⟨5, _⟩ => ⟨S3x256x128, .f32⟩
  | .local _ .vmem, ⟨6, _⟩ => ⟨S3x256x128, .f32⟩
  | .local _ .vmem, ⟨7, _⟩ => ⟨S3x256x128, .f32⟩
  | .local _ .vmem, ⟨8, _⟩ => ⟨S1x4x256x128, .bf16⟩
  | .local _ .vmem, ⟨9, _⟩ => ⟨S1x4x256x128, .bf16⟩
  | .local _ .vmem, ⟨10, _⟩ => ⟨S1x4x256x128, .bf16⟩
  | .local _ .vmem, ⟨11, _⟩ => ⟨S1x4x256x128, .bf16⟩
  | .local _ .vmem, ⟨12, _⟩ => ⟨S1x4x256x128, .bf16⟩
  | .local _ .vmem, ⟨13, _⟩ => ⟨S1x4x256x128, .bf16⟩
  | .local _ .vmem, ⟨14, _⟩ => ⟨S1x8x256x32, .bf16⟩
  | .local _ .vmem, ⟨15, _⟩ => ⟨S1x8x256x32, .bf16⟩
  | .local _ .vmem, ⟨16, _⟩ => ⟨S1x256x32, .bf16⟩
  | .local _ .vmem, ⟨17, _⟩ => ⟨S1x256x32, .bf16⟩
  | .local _ .vmem, ⟨18, _⟩ => ⟨S1x256x128, .f32⟩
  | .local _ .vmem, ⟨19, _⟩ => ⟨S1x256x128, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x32, .f32⟩
  | .local _ .vmem, ⟨25, _⟩ => ⟨S1x256x32, .f32⟩
  | _, _ => ⟨S16x4352x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_9 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_10 : Ref sig .tc := ⟨.hbm, 73, rfl⟩
abbrev main_v60 : Ref sig .tc := ⟨.hbm, 74, rfl⟩
abbrev main_v61 : Ref sig .tc := ⟨.hbm, 75, rfl⟩
abbrev main_cst_11 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_12 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_13 : Ref sig .tc := ⟨.hbm, 90, rfl⟩
abbrev main_v74 : Ref sig .tc := ⟨.hbm, 91, rfl⟩
abbrev main_v75 : Ref sig .tc := ⟨.hbm, 92, rfl⟩
abbrev main_cst_14 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_15 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_16 : Ref sig .tc := ⟨.hbm, 116, rfl⟩
abbrev main_v97 : Ref sig .tc := ⟨.hbm, 117, rfl⟩
abbrev main_v98 : Ref sig .tc := ⟨.hbm, 118, rfl⟩
abbrev main_cst_17 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_18 : Ref sig .tc := ⟨.hbm, 128, rfl⟩
abbrev main_v107 : Ref sig .tc := ⟨.hbm, 129, rfl⟩
abbrev main_v108 : Ref sig .tc := ⟨.hbm, 130, rfl⟩
abbrev main_cst_19 : Ref sig .tc := ⟨.hbm, 131, rfl⟩
abbrev main_v109 : Ref sig .tc := ⟨.hbm, 132, rfl⟩
abbrev main_cst_20 : Ref sig .tc := ⟨.hbm, 133, rfl⟩
abbrev main_v110 : Ref sig .tc := ⟨.hbm, 134, rfl⟩
abbrev main_cst_21 : Ref sig .tc := ⟨.hbm, 135, rfl⟩
abbrev main_v111 : Ref sig .tc := ⟨.hbm, 136, rfl⟩
abbrev main_cst_22 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120_0 : Ref sig .tc := ⟨.hbm, 146, rfl⟩
abbrev main_v120_1 : Ref sig .tc := ⟨.hbm, 147, rfl⟩
abbrev main_v120_2 : Ref sig .tc := ⟨.hbm, 148, rfl⟩
abbrev main_v120_3 : Ref sig .tc := ⟨.hbm, 149, rfl⟩
abbrev main_v120_4 : Ref sig .tc := ⟨.hbm, 150, rfl⟩
abbrev main_v120_5 : Ref sig .tc := ⟨.hbm, 151, rfl⟩
abbrev main_v120_6 : Ref sig .tc := ⟨.hbm, 152, rfl⟩
abbrev main_v120_7 : Ref sig .tc := ⟨.hbm, 153, rfl⟩
abbrev main_v120_8 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== DsaPromptRefIdeal.lean ====
abbrev S16x4352x1920 : Shape := ⟨3, ![16, 4352, 1920]⟩
abbrev S16x4352x1536 : Shape := ⟨3, ![16, 4352, 1536]⟩
abbrev S16x4352x12x128 : Shape := ⟨4, ![16, 4352, 12, 128]⟩
abbrev S16x4352x12x64 : Shape := ⟨4, ![16, 4352, 12, 64]⟩
abbrev S16x4352x256 : Shape := ⟨3, ![16, 4352, 256]⟩
abbrev S16x4352x32 : Shape := ⟨3, ![16, 4352, 32]⟩
abbrev S16x4352x8 : Shape := ⟨3, ![16, 4352, 8]⟩
abbrev S16x4352x4x64 : Shape := ⟨4, ![16, 4352, 4, 64]⟩
abbrev S32 : Shape := ⟨1, ![32]⟩
abbrev S_ : Shape := ⟨0, ![]⟩
abbrev S4352 : Shape := ⟨1, ![4352]⟩
abbrev S4352x1 : Shape := ⟨2, ![4352, 1]⟩
abbrev S1x32 : Shape := ⟨2, ![1, 32]⟩
abbrev S4352x32 : Shape := ⟨2, ![4352, 32]⟩
abbrev S1x4352x1x32 : Shape := ⟨4, ![1, 4352, 1, 32]⟩
abbrev S16x4352x4x32 : Shape := ⟨4, ![16, 4352, 4, 32]⟩
abbrev S16x4352x8x32 : Shape := ⟨4, ![16, 4352, 8, 32]⟩
abbrev S16 : Shape := ⟨1, ![16]⟩
abbrev S1x16 : Shape := ⟨2, ![1, 16]⟩
abbrev S4352x16 : Shape := ⟨2, ![4352, 16]⟩
abbrev S1x4352x1x16 : Shape := ⟨4, ![1, 4352, 1, 16]⟩
abbrev S16x4352x8x16 : Shape := ⟨4, ![16, 4352, 8, 16]⟩
abbrev S16x4352x1x32 : Shape := ⟨4, ![16, 4352, 1, 32]⟩
abbrev S16x4352x1x16 : Shape := ⟨4, ![16, 4352, 1, 16]⟩
abbrev S16x4352x40 : Shape := ⟨3, ![16, 4352, 40]⟩
abbrev S16x4352x128 : Shape := ⟨3, ![16, 4352, 128]⟩
abbrev S16x4x4352x64 : Shape := ⟨4, ![16, 4, 4352, 64]⟩
abbrev S16x4x4352x128 : Shape := ⟨4, ![16, 4, 4352, 128]⟩
abbrev S16x8x4352x32 : Shape := ⟨4, ![16, 8, 4352, 32]⟩

abbrev nBuf : Space → Nat
  | .hbm => 183
  | .vmem => 0
  | .smem => 0
  | _ => 0

abbrev hbmTy0_0 (i : Nat) : BufTy := match i % 128 with
  | 0 => ⟨S16x4352x1920, .f32⟩
  | 1 => ⟨S16x4352x1536, .f32⟩
  | 2 => ⟨S16x4352x12x128, .f32⟩
  | 3 => ⟨S16x4352x12x64, .f32⟩
  | 4 => ⟨S16x4352x256, .f32⟩
  | 5 => ⟨S16x4352x32, .f32⟩
  | 6 => ⟨S16x4352x8, .f32⟩
  | 7 => ⟨S16x4352x4x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4352, .i32⟩
  | 17 => ⟨S_, .i32⟩
  | 18 => ⟨S4352, .i32⟩
  | 19 => ⟨S4352, .i32⟩
  | 20 => ⟨S4352, .f32⟩
  | 21 => ⟨S4352x1, .f32⟩
  | 22 => ⟨S1x32, .f32⟩
  | 23 => ⟨S4352x32, .f32⟩
  | 24 => ⟨S4352x32, .f32⟩
  | 25 => ⟨S4352x32, .f32⟩
  | 26 => ⟨S4352x32, .f32⟩
  | 27 => ⟨S1x4352x1x32, .f32⟩
  | 28 => ⟨S4352x32, .f32⟩
  | 29 => ⟨S1x4352x1x32, .f32⟩
  | 30 => ⟨S16x4352x4x32, .f32⟩
  | 31 => ⟨S16x4352x4x32, .f32⟩
  | 32 => ⟨S16x4352x4x32, .f32⟩
  | 33 => ⟨S16x4352x4x32, .f32⟩
  | 34 => ⟨S16x4352x4x32, .f32⟩
  | 35 => ⟨S16x4352x4x32, .f32⟩
  | 36 => ⟨S16x4352x4x32, .f32⟩
  | 37 => ⟨S16x4352x4x32, .f32⟩
  | 38 => ⟨S16x4352x4x32, .f32⟩
  | 39 => ⟨S16x4352x4x32, .f32⟩
  | 40 => ⟨S16x4352x4x32, .f32⟩
  | 41 => ⟨S16x4352x4x32, .f32⟩
  | 42 => ⟨S16x4352x4x64, .f32⟩
  | 43 => ⟨S_, .f32⟩
  | 44 => ⟨S16x4352x4x64, .f32⟩
  | 45 => ⟨S16x4352x4x64, .f32⟩
  | 46 => ⟨S16x4352x4x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S4352, .i32⟩
  | 56 => ⟨S_, .i32⟩
  | 57 => ⟨S4352, .i32⟩
  | 58 => ⟨S4352, .i32⟩
  | 59 => ⟨S4352, .f32⟩
  | 60 => ⟨S4352x1, .f32⟩
  | 61 => ⟨S1x32, .f32⟩
  | 62 => ⟨S4352x32, .f32⟩
  | 63 => ⟨S4352x32, .f32⟩
  | 64 => ⟨S4352x32, .f32⟩
  | 65 => ⟨S4352x32, .f32⟩
  | 66 => ⟨S1x4352x1x32, .f32⟩
  | 67 => ⟨S4352x32, .f32⟩
  | 68 => ⟨S1x4352x1x32, .f32⟩
  | 69 => ⟨S16x4352x4x32, .f32⟩
  | 70 => ⟨S16x4352x4x32, .f32⟩
  | 71 => ⟨S16x4352x4x32, .f32⟩
  | 72 => ⟨S16x4352x4x32, .f32⟩
  | 73 => ⟨S16x4352x4x32, .f32⟩
  | 74 => ⟨S16x4352x4x32, .f32⟩
  | 75 => ⟨S16x4352x4x32, .f32⟩
  | 76 => ⟨S16x4352x4x32, .f32⟩
  | 77 => ⟨S16x4352x4x32, .f32⟩
  | 78 => ⟨S16x4352x4x32, .f32⟩
  | 79 => ⟨S16x4352x4x32, .f32⟩
  | 80 => ⟨S16x4352x4x32, .f32⟩
  | 81 => ⟨S16x4352x4x64, .f32⟩
  | 82 => ⟨S16x4352x4x64, .f32⟩
  | 83 => ⟨S16x4352x8x32, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S4352, .i32⟩
  | 93 => ⟨S_, .i32⟩
  | 94 => ⟨S4352, .i32⟩
  | 95 => ⟨S4352, .i32⟩
  | 96 => ⟨S4352, .f32⟩
  | 97 => ⟨S4352x1, .f32⟩
  | 98 => ⟨S1x16, .f32⟩
  | 99 => ⟨S4352x16, .f32⟩
  | 100 => ⟨S4352x16, .f32⟩
  | 101 => ⟨S4352x16, .f32⟩
  | 102 => ⟨S4352x16, .f32⟩
  | 103 => ⟨S1x4352x1x16, .f32⟩
  | 104 => ⟨S4352x16, .f32⟩
  | 105 => ⟨S1x4352x1x16, .f32⟩
  | 106 => ⟨S16x4352x8x16, .f32⟩
  | 107 => ⟨S16x4352x8x16, .f32⟩
  | 108 => ⟨S16x4352x8x16, .f32⟩
  | 109 => ⟨S16x4352x8x16, .f32⟩
  | 110 => ⟨S16x4352x8x16, .f32⟩
  | 111 => ⟨S16x4352x8x16, .f32⟩
  | 112 => ⟨S16x4352x8x16, .f32⟩
  | 113 => ⟨S16x4352x8x16, .f32⟩
  | 114 => ⟨S16x4352x8x16, .f32⟩
  | 115 => ⟨S16x4352x8x16, .f32⟩
  | 116 => ⟨S16x4352x8x16, .f32⟩
  | 117 => ⟨S16x4352x8x16, .f32⟩
  | 118 => ⟨S16x4352x8x32, .f32⟩
  | 119 => ⟨S16x4352x1x32, .f32⟩
  | 120 => ⟨S16, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S16x4352x1920, .f32⟩

abbrev hbmTy0_1 (i : Nat) : BufTy := match i % 128 with
  | 0 => ⟨S4352, .i32⟩
  | 1 => ⟨S_, .i32⟩
  | 2 => ⟨S4352, .i32⟩
  | 3 => ⟨S4352, .i32⟩
  | 4 => ⟨S4352, .f32⟩
  | 5 => ⟨S4352x1, .f32⟩
  | 6 => ⟨S1x16, .f32⟩
  | 7 => ⟨S4352x16, .f32⟩
  | 8 => ⟨S4352x16, .f32⟩
  | 9 => ⟨S4352x16, .f32⟩
  | 10 => ⟨S4352x16, .f32⟩
  | 11 => ⟨S1x4352x1x16, .f32⟩
  | 12 => ⟨S4352x16, .f32⟩
  | 13 => ⟨S1x4352x1x16, .f32⟩
  | 14 => ⟨S16x4352x1x16, .f32⟩
  | 15 => ⟨S16x4352x1x16, .f32⟩
  | 16 => ⟨S16x4352x1x16, .f32⟩
  | 17 => ⟨S16x4352x1x16, .f32⟩
  | 18 => ⟨S16x4352x1x16, .f32⟩
  | 19 => ⟨S16x4352x1x16, .f32⟩
  | 20 => ⟨S16x4352x1x16, .f32⟩
  | 21 => ⟨S16x4352x1x16, .f32⟩
  | 22 => ⟨S16x4352x1x16, .f32⟩
  | 23 => ⟨S16x4352x1x16, .f32⟩
  | 24 => ⟨S16x4352x1x16, .f32⟩
  | 25 => ⟨S16x4352x1x16, .f32⟩
  | 26 => ⟨S16x4352x1x32, .f32⟩
  | 27 => ⟨S16x4352x32, .f32⟩
  | 28 => ⟨S16x4352x40, .f32⟩
  | 29 => ⟨S_, .i32⟩
  | 30 => ⟨S_, .f32⟩
  | 31 => ⟨S16x4352x128, .f32⟩
  | 32 => ⟨S_, .f32⟩
  | 33 => ⟨S16x4352x128, .f32⟩
  | 34 => ⟨S16x4352x128, .f32⟩
  | 35 => ⟨S16x4x4352x64, .f32⟩
  | 36 => ⟨S_, .i32⟩
  | 37 => ⟨S_, .f32⟩
  | 38 => ⟨S16x4x4352x128, .f32⟩
  | 39 => ⟨S16x4x4352x64, .f32⟩
  | 40 => ⟨S_, .i32⟩
  | 41 => ⟨S_, .f32⟩
  | 42 => ⟨S16x4x4352x128, .f32⟩
  | 43 => ⟨S16x4x4352x64, .f32⟩
  | 44 => ⟨S_, .i32⟩
  | 45 => ⟨S_, .f32⟩
  | 46 => ⟨S16x4x4352x128, .f32⟩
  | 47 => ⟨S16x8x4352x32, .f32⟩
  | 48 => ⟨S16x4352x256, .f32⟩
  | 49 => ⟨S16x4352x256, .f32⟩
  | 50 => ⟨S16x4x4352x128, .bf16⟩
  | 51 => ⟨S16x4x4352x128, .bf16⟩
  | 52 => ⟨S16x4x4352x128, .bf16⟩
  | 53 => ⟨S16x8x4352x32, .bf16⟩
  | 54 => ⟨S16x4352x32, .bf16⟩
  | _ => ⟨S16x4352x1920, .f32⟩

abbrev hbmTy (i : Nat) : BufTy := match i / 128 with
  | 0 => hbmTy0_0 i
  | 1 => hbmTy0_1 i
  | _ => ⟨S16x4352x1920, .f32⟩

abbrev bufTy : (tb : Table) → Fin (tcTables nBuf tb) → BufTy
  | .hbm, ⟨i, _⟩ => hbmTy i
  | _, _ => ⟨S16x4352x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_c_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_cst_6 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_c_7 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_cst_8 : Ref sig .tc := ⟨.hbm, 122, rfl⟩
abbrev main_v111 : Ref sig .tc := ⟨.hbm, 123, rfl⟩
abbrev main_v112 : Ref sig .tc := ⟨.hbm, 124, rfl⟩
abbrev main_cst_9 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_c_10 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_c_11 : Ref sig .tc := ⟨.hbm, 157, rfl⟩
abbrev main_call0_v0 : Ref sig .tc := ⟨.hbm, 158, rfl⟩
abbrev main_v143 : Ref sig .tc := ⟨.hbm, 159, rfl⟩
abbrev main_cst_12 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_c_13 : Ref sig .tc := ⟨.hbm, 164, rfl⟩
abbrev main_call1_v0 : Ref sig .tc := ⟨.hbm, 165, rfl⟩
abbrev main_v147 : Ref sig .tc := ⟨.hbm, 166, rfl⟩
abbrev main_v148 : Ref sig .tc := ⟨.hbm, 167, rfl⟩
abbrev main_c_14 : Ref sig .tc := ⟨.hbm, 168, rfl⟩
abbrev main_call2_v0 : Ref sig .tc := ⟨.hbm, 169, rfl⟩
abbrev main_v149 : Ref sig .tc := ⟨.hbm, 170, rfl⟩
abbrev main_v150 : Ref sig .tc := ⟨.hbm, 171, rfl⟩
abbrev main_c_15 : Ref sig .tc := ⟨.hbm, 172, rfl⟩
abbrev main_call3_v0 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩

abbrev nD : Nat := 1
abbrev τ : Topo := Topo.v7x

variable {F : FTy → Type} [FloatOps F]
-- ==== PrepPrompt.lean ====
abbrev S16x4352x512 : Shape := ⟨3, ![16, 4352, 512]⟩
abbrev S256 : Shape := ⟨1, ![256]⟩
abbrev S128 : Shape := ⟨1, ![128]⟩
abbrev S256x384 : Shape := ⟨2, ![256, 384]⟩
abbrev S128x512 : Shape := ⟨2, ![128, 512]⟩
abbrev S4352 : Shape := ⟨1, ![4352]⟩
abbrev S_ : Shape := ⟨0, ![]⟩
abbrev S4352x1 : Shape := ⟨2, ![4352, 1]⟩
abbrev S4352x64 : Shape := ⟨2, ![4352, 64]⟩
abbrev S16 : Shape := ⟨1, ![16]⟩
abbrev S1x16 : Shape := ⟨2, ![1, 16]⟩
abbrev S4352x16 : Shape := ⟨2, ![4352, 16]⟩
abbrev S4352x32 : Shape := ⟨2, ![4352, 32]⟩
abbrev S4352x128 : Shape := ⟨2, ![4352, 128]⟩
abbrev S1x4352x128 : Shape := ⟨3, ![1, 4352, 128]⟩
abbrev S3x4352x128 : Shape := ⟨3, ![3, 4352, 128]⟩
abbrev S4352x96 : Shape := ⟨2, ![4352, 96]⟩
abbrev S256x4x96 : Shape := ⟨3, ![256, 4, 96]⟩
abbrev S128x4x128 : Shape := ⟨3, ![128, 4, 128]⟩
abbrev S1x256 : Shape := ⟨2, ![1, 256]⟩
abbrev S1x128 : Shape := ⟨2, ![1, 128]⟩
abbrev S256x4x128 : Shape := ⟨3, ![256, 4, 128]⟩
abbrev S256x512 : Shape := ⟨2, ![256, 512]⟩
abbrev S128x4x64 : Shape := ⟨3, ![128, 4, 64]⟩
abbrev S16x4x4352x128 : Shape := ⟨4, ![16, 4, 4352, 128]⟩
abbrev S16x4352x128 : Shape := ⟨3, ![16, 4352, 128]⟩
abbrev S16x4352x32 : Shape := ⟨3, ![16, 4352, 32]⟩
abbrev S1x256x512 : Shape := ⟨3, ![1, 256, 512]⟩
abbrev S3x256x128 : Shape := ⟨3, ![3, 256, 128]⟩
abbrev S1x4x256x128 : Shape := ⟨4, ![1, 4, 256, 128]⟩
abbrev S1x256x128 : Shape := ⟨3, ![1, 256, 128]⟩
abbrev S1x256x32 : Shape := ⟨3, ![1, 256, 32]⟩
abbrev S256x256 : Shape := ⟨2, ![256, 256]⟩
abbrev S256x1 : Shape := ⟨2, ![256, 1]⟩
abbrev S256x128 : Shape := ⟨2, ![256, 128]⟩
abbrev S256x32 : Shape := ⟨2, ![256, 32]⟩
abbrev S1x1x256x128 : Shape := ⟨4, ![1, 1, 256, 128]⟩

abbrev nBuf : Space → Nat
  | .hbm => 99
  | .vmem => 21
  | .smem => 0
  | _ => 0

abbrev bufTy : (tb : Table) → Fin (tcTables nBuf tb) → BufTy
  | .hbm, ⟨0, _⟩ => ⟨S16x4352x512, .f32⟩
  | .hbm, ⟨1, _⟩ => ⟨S256, .f32⟩
  | .hbm, ⟨2, _⟩ => ⟨S128, .f32⟩
  | .hbm, ⟨3, _⟩ => ⟨S256x384, .f32⟩
  | .hbm, ⟨4, _⟩ => ⟨S128x512, .f32⟩
  | .hbm, ⟨5, _⟩ => ⟨S4352, .i32⟩
  | .hbm, ⟨6, _⟩ => ⟨S_, .i32⟩
  | .hbm, ⟨7, _⟩ => ⟨S4352, .i32⟩
  | .hbm, ⟨8, _⟩ => ⟨S4352, .i32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x64, .f32⟩
  | .hbm, ⟨13, _⟩ => ⟨S_, .f32⟩
  | .hbm, ⟨14, _⟩ => ⟨S4352x64, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S1x16, .f32⟩
  | .hbm, ⟨24, _⟩ => ⟨S4352x16, .f32⟩
  | .hbm, ⟨25, _⟩ => ⟨S4352x16, .f32⟩
  | .hbm, ⟨26, _⟩ => ⟨S4352x16, .f32⟩
  | .hbm, ⟨27, _⟩ => ⟨S4352x16, .f32⟩
  | .hbm, ⟨28, _⟩ => ⟨S4352x16, .f32⟩
  | .hbm, ⟨29, _⟩ => ⟨S_, .f32⟩
  | .hbm, ⟨30, _⟩ => ⟨S4352x16, .f32⟩
  | .hbm, ⟨31, _⟩ => ⟨S4352x16, .f32⟩
  | .hbm, ⟨32, _⟩ => ⟨S_, .f32⟩
  | .hbm, ⟨33, _⟩ => ⟨S4352x32, .f32⟩
  | .hbm, ⟨34, _⟩ => ⟨S_, .f32⟩
  | .hbm, ⟨35, _⟩ => ⟨S4352x32, .f32⟩
  | .hbm, ⟨36, _⟩ => ⟨S4352x128, .f32⟩
  | .hbm, ⟨37, _⟩ => ⟨S4352x128, .f32⟩
  | .hbm, ⟨38, _⟩ => ⟨S4352x128, .f32⟩
  | .hbm, ⟨39, _⟩ => ⟨S1x4352x128, .f32⟩
  | .hbm, ⟨40, _⟩ => ⟨S1x4352x128, .f32⟩
  | .hbm, ⟨41, _⟩ => ⟨S1x4352x128, .f32⟩
  | .hbm, ⟨42, _⟩ => ⟨S3x4352x128, .f32⟩
  | .hbm, ⟨43, _⟩ => ⟨S4352, .f32⟩
  | .hbm, ⟨44, _⟩ => ⟨S4352x1, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S1x16, .f32⟩
  | .hbm, ⟨54, _⟩ => ⟨S4352x16, .f32⟩
  | .hbm, ⟨55, _⟩ => ⟨S4352x16, .f32⟩
  | .hbm, ⟨56, _⟩ => ⟨S4352x16, .f32⟩
  | .hbm, ⟨57, _⟩ => ⟨S4352x16, .f32⟩
  | .hbm, ⟨58, _⟩ => ⟨S4352x16, .f32⟩
  | .hbm, ⟨59, _⟩ => ⟨S_, .f32⟩
  | .hbm, ⟨60, _⟩ => ⟨S4352x16, .f32⟩
  | .hbm, ⟨61, _⟩ => ⟨S4352x16, .f32⟩
  | .hbm, ⟨62, _⟩ => ⟨S_, .f32⟩
  | .hbm, ⟨63, _⟩ => ⟨S4352x96, .f32⟩
  | .hbm, ⟨64, _⟩ => ⟨S_, .f32⟩
  | .hbm, ⟨65, _⟩ => ⟨S4352x96, .f32⟩
  | .hbm, ⟨66, _⟩ => ⟨S4352x128, .f32⟩
  | .hbm, ⟨67, _⟩ => ⟨S4352x128, .f32⟩
  | .hbm, ⟨68, _⟩ => ⟨S4352x128, .f32⟩
  | .hbm, ⟨69, _⟩ => ⟨S1x4352x128, .f32⟩
  | .hbm, ⟨70, _⟩ => ⟨S1x4352x128, .f32⟩
  | .hbm, ⟨71, _⟩ => ⟨S1x4352x128, .f32⟩
  | .hbm, ⟨72, _⟩ => ⟨S3x4352x128, .f32⟩
  | .hbm, ⟨73, _⟩ => ⟨S256x4x96, .f32⟩
  | .hbm, ⟨74, _⟩ => ⟨S128x4x128, .f32⟩
  | .hbm, ⟨75, _⟩ => ⟨S1x256, .f32⟩
  | .hbm, ⟨76, _⟩ => ⟨S1x128, .f32⟩
  | .hbm, ⟨77, _⟩ => ⟨S_, .i32⟩
  | .hbm, ⟨78, _⟩ => ⟨S_, .f32⟩
  | .hbm, ⟨79, _⟩ => ⟨S256x4x128, .f32⟩
  | .hbm, ⟨80, _⟩ => ⟨S256x512, .f32⟩
  | .hbm, ⟨81, _⟩ => ⟨S256x512, .bf16⟩
  | .hbm, ⟨82, _⟩ => ⟨S128x4x64, .f32⟩
  | .hbm, ⟨83, _⟩ => ⟨S_, .i32⟩
  | .hbm, ⟨84, _⟩ => ⟨S_, .f32⟩
  | .hbm, ⟨85, _⟩ => ⟨S128x4x128, .f32⟩
  | .hbm, ⟨86, _⟩ => ⟨S128x512, .f32⟩
  | .hbm, ⟨87, _⟩ => ⟨S128x512, .bf16⟩
  | .hbm, ⟨88, _⟩ => ⟨S128x4x64, .f32⟩
  | .hbm, ⟨89, _⟩ => ⟨S_, .i32⟩
  | .hbm, ⟨90, _⟩ => ⟨S_, .f32⟩
  | .hbm, ⟨91, _⟩ => ⟨S128x4x128, .f32⟩
  | .hbm, ⟨92, _⟩ => ⟨S128x512, .f32⟩
  | .hbm, ⟨93, _⟩ => ⟨S128x512, .bf16⟩
  | .hbm, ⟨94, _⟩ => ⟨S16x4x4352x128, .bf16⟩
  | .hbm, ⟨95, _⟩ => ⟨S16x4x4352x128, .bf16⟩
  | .hbm, ⟨96, _⟩ => ⟨S16x4x4352x128, .bf16⟩
  | .hbm, ⟨97, _⟩ => ⟨S16x4352x128, .f32⟩
  | .hbm, ⟨98, _⟩ => ⟨S16x4352x32, .f32⟩
  | .local _ .vmem, ⟨0, _⟩ => ⟨S1x256x512, .f32⟩
  | .local _ .vmem, ⟨1, _⟩ => ⟨S1x256x512, .f32⟩
  | .local _ .vmem, ⟨2, _⟩ => ⟨S3x256x128, .f32⟩
  | .local _ .vmem, ⟨3, _⟩ => ⟨S3x256x128, .f32⟩
  | .local _ .vmem, ⟨4, _⟩ => ⟨S3x256x128, .f32⟩
  | .local _ .vmem, ⟨5, _⟩ => ⟨S3x256x128, .f32⟩
  | .local _ .vmem, ⟨6, _⟩ => ⟨S1x256, .f32⟩
  | .local _ .vmem, ⟨7, _⟩ => ⟨S1x128, .f32⟩
  | .local _ .vmem, ⟨8, _⟩ => ⟨S256x512, .bf16⟩
  | .local _ .vmem, ⟨9, _⟩ => ⟨S128x512, .bf16⟩
  | .local _ .vmem, ⟨10, _⟩ => ⟨S128x512, .bf16⟩
  | .local _ .vmem, ⟨11, _⟩ => ⟨S1x4x256x128, .bf16⟩
  | .local _ .vmem, ⟨12, _⟩ => ⟨S1x4x256x128, .bf16⟩
  | .local _ .vmem, ⟨13, _⟩ => ⟨S1x4x256x128, .bf16⟩
  | .local _ .vmem, ⟨14, _⟩ => ⟨S1x4x256x128, .bf16⟩
  | .local _ .vmem, ⟨15, _⟩ => ⟨S1x4x256x128, .bf16⟩
  | .local _ .vmem, ⟨16, _⟩ => ⟨S1x4x256x128, .bf16⟩
  | .local _ .vmem, ⟨17, _⟩ => ⟨S1x256x128, .f32⟩
  | .local _ .vmem, ⟨18, _⟩ => ⟨S1x256x128, .f32⟩
  | .local _ .vmem, ⟨19, _⟩ => ⟨S1x256x32, .f32⟩
  | .local _ .vmem, ⟨20, _⟩ => ⟨S1x256x32, .f32⟩
  | _, _ => ⟨S16x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_11 : Ref sig .tc := ⟨.hbm, 77, rfl⟩
abbrev main_call0_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_call1_v0 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_call2_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70_0 : Ref sig .tc := ⟨.hbm, 94, rfl⟩
abbrev main_v70_1 : Ref sig .tc := ⟨.hbm, 95, rfl⟩
abbrev main_v70_2 : Ref sig .tc := ⟨.hbm, 96, rfl⟩
abbrev main_v70_3 : Ref sig .tc := ⟨.hbm, 97, rfl⟩
abbrev main_v70_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PrepPromptRefIdeal.lean ====
abbrev S16x4352x512 : Shape := ⟨3, ![16, 4352, 512]⟩
abbrev S256 : Shape := ⟨1, ![256]⟩
abbrev S128 : Shape := ⟨1, ![128]⟩
abbrev S256x384 : Shape := ⟨2, ![256, 384]⟩
abbrev S128x512 : Shape := ⟨2, ![128, 512]⟩
abbrev S16x4352x256 : Shape := ⟨3, ![16, 4352, 256]⟩
abbrev S16x4352x128 : Shape := ⟨3, ![16, 4352, 128]⟩
abbrev S16x4352x32 : Shape := ⟨3, ![16, 4352, 32]⟩
abbrev S_ : Shape := ⟨0, ![]⟩
abbrev S16x4352 : Shape := ⟨2, ![16, 4352]⟩
abbrev S16x4352x1 : Shape := ⟨3, ![16, 4352, 1]⟩
abbrev S1x1x256 : Shape := ⟨3, ![1, 1, 256]⟩
abbrev S16x4352x384 : Shape := ⟨3, ![16, 4352, 384]⟩
abbrev S16x4352x4x96 : Shape := ⟨4, ![16, 4352, 4, 96]⟩
abbrev S16x4352x4x64 : Shape := ⟨4, ![16, 4352, 4, 64]⟩
abbrev S16x4352x4x32 : Shape := ⟨4, ![16, 4352, 4, 32]⟩
abbrev S16 : Shape := ⟨1, ![16]⟩
abbrev S4352 : Shape := ⟨1, ![4352]⟩
abbrev S4352x1 : Shape := ⟨2, ![4352, 1]⟩
abbrev S1x16 : Shape := ⟨2, ![1, 16]⟩
abbrev S4352x16 : Shape := ⟨2, ![4352, 16]⟩
abbrev S1x4352x1x16 : Shape := ⟨4, ![1, 4352, 1, 16]⟩
abbrev S16x4352x4x16 : Shape := ⟨4, ![16, 4352, 4, 16]⟩
abbrev S1x1x128 : Shape := ⟨3, ![1, 1, 128]⟩
abbrev S16x4352x1x32 : Shape := ⟨4, ![16, 4352, 1, 32]⟩
abbrev S16x4352x1x16 : Shape := ⟨4, ![16, 4352, 1, 16]⟩
abbrev S16x4352x4x128 : Shape := ⟨4, ![16, 4352, 4, 128]⟩
abbrev S16x4x4352x96 : Shape := ⟨4, ![16, 4, 4352, 96]⟩
abbrev S16x4x4352x128 : Shape := ⟨4, ![16, 4, 4352, 128]⟩
abbrev S16x4x4352x64 : Shape := ⟨4, ![16, 4, 4352, 64]⟩

abbrev nBuf : Space → Nat
  | .hbm => 141
  | .vmem => 0
  | .smem => 0
  | _ => 0

abbrev hbmTy0_0 (i : Nat) : BufTy := match i % 128 with
  | 0 => ⟨S16x4352x512, .f32⟩
  | 1 => ⟨S256, .f32⟩
  | 2 => ⟨S128, .f32⟩
  | 3 => ⟨S256x384, .f32⟩
  | 4 => ⟨S128x512, .f32⟩
  | 5 => ⟨S16x4352x256, .f32⟩
  | 6 => ⟨S16x4352x128, .f32⟩
  | 7 => ⟨S16x4352x32, .f32⟩
  | 8 => ⟨S16x4352x256, .f32⟩
  | 9 => ⟨S_, .f32⟩
  | 10 => ⟨S16x4352, .f32⟩
  | 11 => ⟨S16x4352x1, .f32⟩
  | 12 => ⟨S_, .f32⟩
  | 13 => ⟨S16x4352x1, .f32⟩
  | 14 => ⟨S16x4352x1, .f32⟩
  | 15 => ⟨S_, .f32⟩
  | 16 => ⟨S16x4352x1, .f32⟩
  | 17 => ⟨S16x4352x1, .f32⟩
  | 18 => ⟨S16x4352x1, .f32⟩
  | 19 => ⟨S16x4352x256, .f32⟩
  | 20 => ⟨S16x4352x256, .f32⟩
  | 21 => ⟨S1x1x256, .f32⟩
  | 22 => ⟨S16x4352x256, .f32⟩
  | 23 => ⟨S16x4352x256, .f32⟩
  | 24 => ⟨S16x4352x384, .f32⟩
  | 25 => ⟨S16x4352x4x96, .f32⟩
  | 26 => ⟨S16x4352x4x64, .f32⟩
  | 27 => ⟨S16x4352x4x32, .f32⟩
  | 28 => ⟨S16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S4352, .i32⟩
  | 37 => ⟨S_, .i32⟩
  | 38 => ⟨S4352, .i32⟩
  | 39 => ⟨S4352, .i32⟩
  | 40 => ⟨S4352, .f32⟩
  | 41 => ⟨S4352x1, .f32⟩
  | 42 => ⟨S1x16, .f32⟩
  | 43 => ⟨S4352x16, .f32⟩
  | 44 => ⟨S4352x16, .f32⟩
  | 45 => ⟨S4352x16, .f32⟩
  | 46 => ⟨S4352x16, .f32⟩
  | 47 => ⟨S1x4352x1x16, .f32⟩
  | 48 => ⟨S4352x16, .f32⟩
  | 49 => ⟨S1x4352x1x16, .f32⟩
  | 50 => ⟨S16x4352x4x16, .f32⟩
  | 51 => ⟨S16x4352x4x16, .f32⟩
  | 52 => ⟨S16x4352x4x16, .f32⟩
  | 53 => ⟨S16x4352x4x16, .f32⟩
  | 54 => ⟨S16x4352x4x16, .f32⟩
  | 55 => ⟨S16x4352x4x16, .f32⟩
  | 56 => ⟨S16x4352x4x16, .f32⟩
  | 57 => ⟨S16x4352x4x16, .f32⟩
  | 58 => ⟨S16x4352x4x16, .f32⟩
  | 59 => ⟨S16x4352x4x16, .f32⟩
  | 60 => ⟨S16x4352x4x16, .f32⟩
  | 61 => ⟨S16x4352x4x16, .f32⟩
  | 62 => ⟨S16x4352x4x32, .f32⟩
  | 63 => ⟨S16x4352x4x96, .f32⟩
  | 64 => ⟨S_, .f32⟩
  | 65 => ⟨S16x4352x4x96, .f32⟩
  | 66 => ⟨S16x4352x4x96, .f32⟩
  | 67 => ⟨S16x4352x128, .f32⟩
  | 68 => ⟨S_, .f32⟩
  | 69 => ⟨S16x4352, .f32⟩
  | 70 => ⟨S16x4352x1, .f32⟩
  | 71 => ⟨S_, .f32⟩
  | 72 => ⟨S16x4352x1, .f32⟩
  | 73 => ⟨S16x4352x1, .f32⟩
  | 74 => ⟨S_, .f32⟩
  | 75 => ⟨S16x4352x1, .f32⟩
  | 76 => ⟨S16x4352x1, .f32⟩
  | 77 => ⟨S16x4352x1, .f32⟩
  | 78 => ⟨S16x4352x128, .f32⟩
  | 79 => ⟨S16x4352x128, .f32⟩
  | 80 => ⟨S1x1x128, .f32⟩
  | 81 => ⟨S16x4352x128, .f32⟩
  | 82 => ⟨S16x4352x128, .f32⟩
  | 83 => ⟨S16x4352x1x32, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S4352, .i32⟩
  | 93 => ⟨S_, .i32⟩
  | 94 => ⟨S4352, .i32⟩
  | 95 => ⟨S4352, .i32⟩
  | 96 => ⟨S4352, .f32⟩
  | 97 => ⟨S4352x1, .f32⟩
  | 98 => ⟨S1x16, .f32⟩
  | 99 => ⟨S4352x16, .f32⟩
  | 100 => ⟨S4352x16, .f32⟩
  | 101 => ⟨S4352x16, .f32⟩
  | 102 => ⟨S4352x16, .f32⟩
  | 103 => ⟨S1x4352x1x16, .f32⟩
  | 104 => ⟨S4352x16, .f32⟩
  | 105 => ⟨S1x4352x1x16, .f32⟩
  | 106 => ⟨S16x4352x1x16, .f32⟩
  | 107 => ⟨S16x4352x1x16, .f32⟩
  | 108 => ⟨S16x4352x1x16, .f32⟩
  | 109 => ⟨S16x4352x1x16, .f32⟩
  | 110 => ⟨S16x4352x1x16, .f32⟩
  | 111 => ⟨S16x4352x1x16, .f32⟩
  | 112 => ⟨S16x4352x1x16, .f32⟩
  | 113 => ⟨S16x4352x1x16, .f32⟩
  | 114 => ⟨S16x4352x1x16, .f32⟩
  | 115 => ⟨S16x4352x1x16, .f32⟩
  | 116 => ⟨S16x4352x1x16, .f32⟩
  | 117 => ⟨S16x4352x1x16, .f32⟩
  | 118 => ⟨S16x4352x1x32, .f32⟩
  | 119 => ⟨S16x4352x512, .f32⟩
  | 120 => ⟨S16x4352x4x128, .f32⟩
  | 121 => ⟨S16x4352x4x64, .f32⟩
  | 122 => ⟨S16x4352x4x32, .f32⟩
  | 123 => ⟨S16x4352x4x96, .f32⟩
  | 124 => ⟨S16x4x4352x96, .f32⟩
  | 125 => ⟨S_, .i32⟩
  | 126 => ⟨S_, .f32⟩
  | 127 => ⟨S16x4x4352x128, .f32⟩
  | _ => ⟨S16x4352x512, .f32⟩

abbrev hbmTy0_1 (i : Nat) : BufTy := match i % 128 with
  | 0 => ⟨S16x4x4352x96, .f32⟩
  | 1 => ⟨S_, .i32⟩
  | 2 => ⟨S_, .f32⟩
  | 3 => ⟨S16x4x4352x128, .f32⟩
  | 4 => ⟨S16x4352x4x64, .f32⟩
  | 5 => ⟨S16x4x4352x64, .f32⟩
  | 6 => ⟨S_, .i32⟩
  | 7 => ⟨S_, .f32⟩
  | 8 => ⟨S16x4x4352x128, .f32⟩
  | 9 => ⟨S16x4352x32, .f32⟩
  | 10 => ⟨S16x4x4352x128, .bf16⟩
  | 11 => ⟨S16x4x4352x128, .bf16⟩
  | 12 => ⟨S16x4x4352x128, .bf16⟩
  | _ => ⟨S16x4352x512, .f32⟩

abbrev hbmTy (i : Nat) : BufTy := match i / 128 with
  | 0 => hbmTy0_0 i
  | 1 => hbmTy0_1 i
  | _ => ⟨S16x4352x512, .f32⟩

abbrev bufTy : (tb : Table) → Fin (tcTables nBuf tb) → BufTy
  | .hbm, ⟨i, _⟩ => hbmTy i
  | _, _ => ⟨S16x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_c_11 : Ref sig .tc := ⟨.hbm, 125, rfl⟩
abbrev main_call0_v0 : Ref sig .tc := ⟨.hbm, 126, rfl⟩
abbrev main_v107 : Ref sig .tc := ⟨.hbm, 127, rfl⟩
abbrev main_v108 : Ref sig .tc := ⟨.hbm, 128, rfl⟩
abbrev main_c_12 : Ref sig .tc := ⟨.hbm, 129, rfl⟩
abbrev main_call1_v0 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_13 : Ref sig .tc := ⟨.hbm, 134, rfl⟩
abbrev main_call2_v0 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩

abbrev nD : Nat := 1
abbrev τ : Topo := Topo.v7x

variable {F : FTy → Type} [FloatOps F]
-- ==== ProjPrompt.lean ====
abbrev S69632x1024 : Shape := ⟨2, ![69632, 1024]⟩
abbrev S1024x3144 : Shape := ⟨2, ![1024, 3144]⟩
abbrev S1024x416 : Shape := ⟨2, ![1024, 416]⟩
abbrev S1024x1064 : Shape := ⟨2, ![1024, 1064]⟩
abbrev S1024x1664 : Shape := ⟨2, ![1024, 1664]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x40 : Shape := ⟨2, ![1024, 40]⟩
abbrev S1024x128 : Shape := ⟨2, ![1024, 128]⟩
abbrev S1024x1920 : Shape := ⟨2, ![1024, 1920]⟩
abbrev S69632x512 : Shape := ⟨2, ![69632, 512]⟩
abbrev S69632x1920 : Shape := ⟨2, ![69632, 1920]⟩
abbrev S69632x1664 : Shape := ⟨2, ![69632, 1664]⟩
abbrev S272x1024 : Shape := ⟨2, ![272, 1024]⟩
abbrev S272x512 : Shape := ⟨2, ![272, 512]⟩
abbrev S272x1920 : Shape := ⟨2, ![272, 1920]⟩
abbrev S272x1664 : Shape := ⟨2, ![272, 1664]⟩

abbrev nBuf : Space → Nat
  | .hbm => 38
  | .vmem => 11
  | .smem => 0
  | _ => 0

abbrev bufTy : (tb : Table) → Fin (tcTables nBuf tb) → BufTy
  | .hbm, ⟨0, _⟩ => ⟨S69632x1024, .f32⟩
  | .hbm, ⟨1, _⟩ => ⟨S1024x3144, .f32⟩
  | .hbm, ⟨2, _⟩ => ⟨S1024x416, .f32⟩
  | .hbm, ⟨3, _⟩ => ⟨S1024x1064, .f32⟩
  | .hbm, ⟨4, _⟩ => ⟨S1024x1664, .f32⟩
  | .hbm, ⟨5, _⟩ => ⟨S1024x256, .f32⟩
  | .hbm, ⟨6, _⟩ => ⟨S1024x4x64, .f32⟩
  | .hbm, ⟨7, _⟩ => ⟨S_, .i32⟩
  | .hbm, ⟨8, _⟩ => ⟨S_, .f32⟩
  | .hbm, ⟨9, _⟩ => ⟨S1024x4x128, .f32⟩
  | .hbm, ⟨10, _⟩ => ⟨S1024x512, .f32⟩
  | .hbm, ⟨11, _⟩ => ⟨S1024x256, .f32⟩
  | .hbm, ⟨12, _⟩ => ⟨S1024x4x64, .f32⟩
  | .hbm, ⟨13, _⟩ => ⟨S_, .i32⟩
  | .hbm, ⟨14, _⟩ => ⟨S_, .f32⟩
  | .hbm, ⟨15, _⟩ => ⟨S1024x4x128, .f32⟩
  | .hbm, ⟨16, _⟩ => ⟨S1024x512, .f32⟩
  | .hbm, ⟨17, _⟩ => ⟨S1024x256, .f32⟩
  | .hbm, ⟨18, _⟩ => ⟨S1024x4x64, .f32⟩
  | .hbm, ⟨19, _⟩ => ⟨S_, .i32⟩
  | .hbm, ⟨20, _⟩ => ⟨S_, .f32⟩
  | .hbm, ⟨21, _⟩ => ⟨S1024x4x128, .f32⟩
  | .hbm, ⟨22, _⟩ => ⟨S1024x512, .f32⟩
  | .hbm, ⟨23, _⟩ => ⟨S1024x256, .f32⟩
  | .hbm, ⟨24, _⟩ => ⟨S1024x40, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1920, .f32⟩
  | .hbm, ⟨29, _⟩ => ⟨S_, .i32⟩
  | .hbm, ⟨30, _⟩ => ⟨S_, .f32⟩
  | .hbm, ⟨31, _⟩ => ⟨S1024x512, .f32⟩
  | .hbm, ⟨32, _⟩ => ⟨S1024x512, .bf16⟩
  | .hbm, ⟨33, _⟩ => ⟨S1024x1920, .bf16⟩
  | .hbm, ⟨34, _⟩ => ⟨S1024x1664, .bf16⟩
  | .hbm, ⟨35, _⟩ => ⟨S69632x512, .f32⟩
  | .hbm, ⟨36, _⟩ => ⟨S69632x1920, .f32⟩
  | .hbm, ⟨37, _⟩ => ⟨S69632x1664, .f32⟩
  | .local _ .vmem, ⟨0, _⟩ => ⟨S272x1024, .f32⟩
  | .local _ .vmem, ⟨1, _⟩ => ⟨S272x1024, .f32⟩
  | .local _ .vmem, ⟨2, _⟩ => ⟨S1024x512, .bf16⟩
  | .local _ .vmem, ⟨3, _⟩ => ⟨S1024x1920, .bf16⟩
  | .local _ .vmem, ⟨4, _⟩ => ⟨S1024x1664, .bf16⟩
  | .local _ .vmem, ⟨5, _⟩ => ⟨S272x512, .f32⟩
  | .local _ .vmem, ⟨6, _⟩ => ⟨S272x512, .f32⟩
  | .local _ .vmem, ⟨7, _⟩ => ⟨S272x1920, .f32⟩
  | .local _ .vmem, ⟨8, _⟩ => ⟨S272x1920, .f32⟩
  | .local _ .vmem, ⟨9, _⟩ => ⟨S272x1664, .f32⟩
  | .local _ .vmem, ⟨10, _⟩ => ⟨S272x1664, .f32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call2_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call3_v0 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call4_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjPromptRefIdeal.lean ====
abbrev S69632x1024 : Shape := ⟨2, ![69632, 1024]⟩
abbrev S1024x3144 : Shape := ⟨2, ![1024, 3144]⟩
abbrev S69632x3144 : Shape := ⟨2, ![69632, 3144]⟩
abbrev S69632x416 : Shape := ⟨2, ![69632, 416]⟩
abbrev S69632x1064 : Shape := ⟨2, ![69632, 1064]⟩
abbrev S69632x1664 : Shape := ⟨2, ![69632, 1664]⟩
abbrev S_ : Shape := ⟨0, ![]⟩
abbrev S69632x512 : Shape := ⟨2, ![69632, 512]⟩
abbrev S69632x768 : Shape := ⟨2, ![69632, 768]⟩
abbrev S69632x12x64 : Shape := ⟨3, ![69632, 12, 64]⟩
abbrev S69632x12x128 : Shape := ⟨3, ![69632, 12, 128]⟩
abbrev S69632x1536 : Shape := ⟨2, ![69632, 1536]⟩
abbrev S69632x296 : Shape := ⟨2, ![69632, 296]⟩
abbrev S69632x384 : Shape := ⟨2, ![69632, 384]⟩
abbrev S69632x1920 : Shape := ⟨2, ![69632, 1920]⟩

abbrev nBuf : Space → Nat
  | .hbm => 20
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S1024x3144, .f32⟩
  | .hbm, ⟨2, _⟩ => ⟨S69632x3144, .f32⟩
  | .hbm, ⟨3, _⟩ => ⟨S69632x416, .f32⟩
  | .hbm, ⟨4, _⟩ => ⟨S69632x1064, .f32⟩
  | .hbm, ⟨5, _⟩ => ⟨S69632x1664, .f32⟩
  | .hbm, ⟨6, _⟩ => ⟨S_, .i32⟩
  | .hbm, ⟨7, _⟩ => ⟨S_, .f32⟩
  | .hbm, ⟨8, _⟩ => ⟨S69632x512, .f32⟩
  | .hbm, ⟨9, _⟩ => ⟨S69632x768, .f32⟩
  | .hbm, ⟨10, _⟩ => ⟨S69632x12x64, .f32⟩
  | .hbm, ⟨11, _⟩ => ⟨S_, .i32⟩
  | .hbm, ⟨12, _⟩ => ⟨S_, .f32⟩
  | .hbm, ⟨13, _⟩ => ⟨S69632x12x128, .f32⟩
  | .hbm, ⟨14, _⟩ => ⟨S69632x1536, .f32⟩
  | .hbm, ⟨15, _⟩ => ⟨S69632x296, .f32⟩
  | .hbm, ⟨16, _⟩ => ⟨S_, .i32⟩
  | .hbm, ⟨17, _⟩ => ⟨S_, .f32⟩
  | .hbm, ⟨18, _⟩ => ⟨S69632x384, .f32⟩
  | .hbm, ⟨19, _⟩ => ⟨S69632x1920, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== MoePrompt.lean ====
abbrev S69632x1024 : Shape := ⟨2, ![69632, 1024]⟩
abbrev S69632x128 : Shape := ⟨2, ![69632, 128]⟩
abbrev S16x1024x256 : Shape := ⟨3, ![16, 1024, 256]⟩
abbrev S16x256x1024 : Shape := ⟨3, ![16, 256, 1024]⟩
abbrev S1024 : Shape := ⟨1, ![1024]⟩
abbrev S16x1024x512 : Shape := ⟨3, ![16, 1024, 512]⟩
abbrev S1x1024 : Shape := ⟨2, ![1, 1024]⟩
abbrev S1088x1024 : Shape := ⟨2, ![1088, 1024]⟩
abbrev S1088x128 : Shape := ⟨2, ![1088, 128]⟩
abbrev S1x1024x512 : Shape := ⟨3, ![1, 1024, 512]⟩
abbrev S1x256x1024 : Shape := ⟨3, ![1, 256, 1024]⟩
abbrev S1024x512 : Shape := ⟨2, ![1024, 512]⟩
abbrev S1088x512 : Shape := ⟨2, ![1088, 512]⟩
abbrev S1088x256 : Shape := ⟨2, ![1088, 256]⟩
abbrev S1x128 : Shape := ⟨2, ![1, 128]⟩
abbrev S1088 : Shape := ⟨1, ![1088]⟩
abbrev S1088x1 : Shape := ⟨2, ![1088, 1]⟩
abbrev S256x1024 : Shape := ⟨2, ![256, 1024]⟩

abbrev nBuf : Space → Nat
  | .hbm => 13
  | .vmem => 14
  | .smem => 0
  | _ => 0

abbrev bufTy : (tb : Table) → Fin (tcTables nBuf tb) → BufTy
  | .hbm, ⟨0, _⟩ => ⟨S69632x1024, .f32⟩
  | .hbm, ⟨1, _⟩ => ⟨S69632x128, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024, .f32⟩
  | .hbm, ⟨6, _⟩ => ⟨S1024, .f32⟩
  | .hbm, ⟨7, _⟩ => ⟨S16x1024x512, .f32⟩
  | .hbm, ⟨8, _⟩ => ⟨S16x1024x512, .bf16⟩
  | .hbm, ⟨9, _⟩ => ⟨S16x256x1024, .bf16⟩
  | .hbm, ⟨10, _⟩ => ⟨S1x1024, .f32⟩
  | .hbm, ⟨11, _⟩ => ⟨S1x1024, .f32⟩
  | .hbm, ⟨12, _⟩ => ⟨S69632x1024, .f32⟩
  | .local _ .vmem, ⟨0, _⟩ => ⟨S1088x1024, .f32⟩
  | .local _ .vmem, ⟨1, _⟩ => ⟨S1088x1024, .f32⟩
  | .local _ .vmem, ⟨2, _⟩ => ⟨S1088x128, .f32⟩
  | .local _ .vmem, ⟨3, _⟩ => ⟨S1088x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .f32⟩
  | .local _ .vmem, ⟨13, _⟩ => ⟨S1088x1024, .bf16⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoePromptRefIdeal.lean ====
abbrev S69632x1024 : Shape := ⟨2, ![69632, 1024]⟩
abbrev S69632x128 : Shape := ⟨2, ![69632, 128]⟩
abbrev S16x1024x256 : Shape := ⟨3, ![16, 1024, 256]⟩
abbrev S16x256x1024 : Shape := ⟨3, ![16, 256, 1024]⟩
abbrev S1024 : Shape := ⟨1, ![1024]⟩
abbrev S16x256x69632 : Shape := ⟨3, ![16, 256, 69632]⟩
abbrev S16x69632x256 : Shape := ⟨3, ![16, 69632, 256]⟩
abbrev S_ : Shape := ⟨0, ![]⟩
abbrev S16x69632x1024 : Shape := ⟨3, ![16, 69632, 1024]⟩
abbrev S69632x16 : Shape := ⟨2, ![69632, 16]⟩
abbrev S16x69632 : Shape := ⟨2, ![16, 69632]⟩
abbrev S16x69632x1 : Shape := ⟨3, ![16, 69632, 1]⟩
abbrev S69632 : Shape := ⟨1, ![69632]⟩
abbrev S69632x1 : Shape := ⟨2, ![69632, 1]⟩
abbrev S1x1024 : Shape := ⟨2, ![1, 1024]⟩
abbrev S4352 : Shape := ⟨1, ![4352]⟩
abbrev S1x4352x1 : Shape := ⟨3, ![1, 4352, 1]⟩
abbrev S16x4352x1024 : Shape := ⟨3, ![16, 4352, 1024]⟩

abbrev nBuf : Space → Nat
  | .hbm => 78
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S69632x128, .f32⟩
  | .hbm, ⟨2, _⟩ => ⟨S16x1024x256, .f32⟩
  | .hbm, ⟨3, _⟩ => ⟨S16x1024x256, .f32⟩
  | .hbm, ⟨4, _⟩ => ⟨S16x256x1024, .f32⟩
  | .hbm, ⟨5, _⟩ => ⟨S1024, .f32⟩
  | .hbm, ⟨6, _⟩ => ⟨S1024, .f32⟩
  | .hbm, ⟨7, _⟩ => ⟨S16x256x69632, .f32⟩
  | .hbm, ⟨8, _⟩ => ⟨S16x69632x256, .f32⟩
  | .hbm, ⟨9, _⟩ => ⟨S16x256x69632, .f32⟩
  | .hbm, ⟨10, _⟩ => ⟨S16x69632x256, .f32⟩
  | .hbm, ⟨11, _⟩ => ⟨S16x69632x256, .f32⟩
  | .hbm, ⟨12, _⟩ => ⟨S16x69632x256, .f32⟩
  | .hbm, ⟨13, _⟩ => ⟨S_, .f32⟩
  | .hbm, ⟨14, _⟩ => ⟨S16x69632x256, .f32⟩
  | .hbm, ⟨15, _⟩ => ⟨S16x69632x256, .f32⟩
  | .hbm, ⟨16, _⟩ => ⟨S_, .f32⟩
  | .hbm, ⟨17, _⟩ => ⟨S16x69632x256, .f32⟩
  | .hbm, ⟨18, _⟩ => ⟨S16x69632x256, .f32⟩
  | .hbm, ⟨19, _⟩ => ⟨S16x69632x256, .f32⟩
  | .hbm, ⟨20, _⟩ => ⟨S16x69632x256, .f32⟩
  | .hbm, ⟨21, _⟩ => ⟨S16x69632x1024, .f32⟩
  | .hbm, ⟨22, _⟩ => ⟨S69632x16, .f32⟩
  | .hbm, ⟨23, _⟩ => ⟨S16x69632, .f32⟩
  | .hbm, ⟨24, _⟩ => ⟨S16x69632x1, .f32⟩
  | .hbm, ⟨25, _⟩ => ⟨S16x69632x1024, .f32⟩
  | .hbm, ⟨26, _⟩ => ⟨S16x69632x1024, .f32⟩
  | .hbm, ⟨27, _⟩ => ⟨S_, .f32⟩
  | .hbm, ⟨28, _⟩ => ⟨S69632x1024, .f32⟩
  | .hbm, ⟨29, _⟩ => ⟨S_, .f32⟩
  | .hbm, ⟨30, _⟩ => ⟨S69632x1024, .f32⟩
  | .hbm, ⟨31, _⟩ => ⟨S69632x1024, .f32⟩
  | .hbm, ⟨32, _⟩ => ⟨S69632x1024, .f32⟩
  | .hbm, ⟨33, _⟩ => ⟨S_, .f32⟩
  | .hbm, ⟨34, _⟩ => ⟨S69632, .f32⟩
  | .hbm, ⟨35, _⟩ => ⟨S69632x1, .f32⟩
  | .hbm, ⟨36, _⟩ => ⟨S_, .f32⟩
  | .hbm, ⟨37, _⟩ => ⟨S69632x1, .f32⟩
  | .hbm, ⟨38, _⟩ => ⟨S69632x1, .f32⟩
  | .hbm, ⟨39, _⟩ => ⟨S69632x1024, .f32⟩
  | .hbm, ⟨40, _⟩ => ⟨S69632x1024, .f32⟩
  | .hbm, ⟨41, _⟩ => ⟨S69632x1024, .f32⟩
  | .hbm, ⟨42, _⟩ => ⟨S_, .f32⟩
  | .hbm, ⟨43, _⟩ => ⟨S69632, .f32⟩
  | .hbm, ⟨44, _⟩ => ⟨S69632x1, .f32⟩
  | .hbm, ⟨45, _⟩ => ⟨S_, .f32⟩
  | .hbm, ⟨46, _⟩ => ⟨S69632x1, .f32⟩
  | .hbm, ⟨47, _⟩ => ⟨S69632x1, .f32⟩
  | .hbm, ⟨48, _⟩ => ⟨S69632x1024, .f32⟩
  | .hbm, ⟨49, _⟩ => ⟨S69632x1024, .f32⟩
  | .hbm, ⟨50, _⟩ => ⟨S_, .f32⟩
  | .hbm, ⟨51, _⟩ => ⟨S69632x1, .f32⟩
  | .hbm, ⟨52, _⟩ => ⟨S69632x1, .f32⟩
  | .hbm, ⟨53, _⟩ => ⟨S69632x1, .f32⟩
  | .hbm, ⟨54, _⟩ => ⟨S69632x1024, .f32⟩
  | .hbm, ⟨55, _⟩ => ⟨S69632x1024, .f32⟩
  | .hbm, ⟨56, _⟩ => ⟨S1x1024, .f32⟩
  | .hbm, ⟨57, _⟩ => ⟨S69632x1024, .f32⟩
  | .hbm, ⟨58, _⟩ => ⟨S69632x1024, .f32⟩
  | .hbm, ⟨59, _⟩ => ⟨S1x1024, .f32⟩
  | .hbm, ⟨60, _⟩ => ⟨S69632x1024, .f32⟩
  | .hbm, ⟨61, _⟩ => ⟨S69632x1024, .f32⟩
  | .hbm, ⟨62, _⟩ => ⟨S4352, .i32⟩
  | .hbm, ⟨63, _⟩ => ⟨S_, .i32⟩
  | .hbm, ⟨64, _⟩ => ⟨S4352, .i32⟩
  | .hbm, ⟨65, _⟩ => ⟨S4352, .i1⟩
  | .hbm, ⟨66, _⟩ => ⟨S_, .i32⟩
  | .hbm, ⟨67, _⟩ => ⟨S4352, .i32⟩
  | .hbm, ⟨68, _⟩ => ⟨S4352, .i1⟩
  | .hbm, ⟨69, _⟩ => ⟨S4352, .i1⟩
  | .hbm, ⟨70, _⟩ => ⟨S1x4352x1, .i1⟩
  | .hbm, ⟨71, _⟩ => ⟨S16x4352x1024, .f32⟩
  | .hbm, ⟨72, _⟩ => ⟨S_, .f32⟩
  | .hbm, ⟨73, _⟩ => ⟨S_, .f32⟩
  | .hbm, ⟨74, _⟩ => ⟨S16x4352x1024, .i1⟩
  | .hbm, ⟨75, _⟩ => ⟨S16x4352x1024, .f32⟩
  | .hbm, ⟨76, _⟩ => ⟨S16x4352x1024, .f32⟩
  | .hbm, ⟨77, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== OutPrompt.lean ====
abbrev S69632x256 : Shape := ⟨2, ![69632, 256]⟩
abbrev S69632x512 : Shape := ⟨2, ![69632, 512]⟩
abbrev S69632x1024 : Shape := ⟨2, ![69632, 1024]⟩
abbrev S1024x1024 : Shape := ⟨2, ![1024, 1024]⟩
abbrev S1024 : Shape := ⟨1, ![1024]⟩
abbrev S256x1024 : Shape := ⟨2, ![256, 1024]⟩
abbrev S512x1024 : Shape := ⟨2, ![512, 1024]⟩
abbrev S1x1024 : Shape := ⟨2, ![1, 1024]⟩
abbrev S272x256 : Shape := ⟨2, ![272, 256]⟩
abbrev S272x512 : Shape := ⟨2, ![272, 512]⟩
abbrev S272x1024 : Shape := ⟨2, ![272, 1024]⟩
abbrev S272 : Shape := ⟨1, ![272]⟩
abbrev S272x1 : Shape := ⟨2, ![272, 1]⟩

abbrev nBuf : Space → Nat
  | .hbm => 16
  | .vmem => 15
  | .smem => 0
  | _ => 0

abbrev bufTy : (tb : Table) → Fin (tcTables nBuf tb) → BufTy
  | .hbm, ⟨0, _⟩ => ⟨S69632x256, .f32⟩
  | .hbm, ⟨1, _⟩ => ⟨S69632x256, .f32⟩
  | .hbm, ⟨2, _⟩ => ⟨S69632x512, .f32⟩
  | .hbm, ⟨3, _⟩ => ⟨S69632x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S256x1024, .bf16⟩
  | .hbm, ⟨9, _⟩ => ⟨S256x1024, .f32⟩
  | .hbm, ⟨10, _⟩ => ⟨S256x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S1x1024, .f32⟩
  | .hbm, ⟨15, _⟩ => ⟨S69632x1024, .f32⟩
  | .local _ .vmem, ⟨0, _⟩ => ⟨S272x256, .f32⟩
  | .local _ .vmem, ⟨1, _⟩ => ⟨S272x256, .f32⟩
  | .local _ .vmem, ⟨2, _⟩ => ⟨S272x256, .f32⟩
  | .local _ .vmem, ⟨3, _⟩ => ⟨S272x256, .f32⟩
  | .local _ .vmem, ⟨4, _⟩ => ⟨S272x512, .f32⟩
  | .local _ .vmem, ⟨5, _⟩ => ⟨S272x512, .f32⟩
  | .local _ .vmem, ⟨6, _⟩ => ⟨S272x1024, .f32⟩
  | .local _ .vmem, ⟨7, _⟩ => ⟨S272x1024, .f32⟩
  | .local _ .vmem, ⟨8, _⟩ => ⟨S256x1024, .bf16⟩
  | .local _ .vmem, ⟨9, _⟩ => ⟨S256x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S272x1024, .f32⟩
  | .local _ .vmem, ⟨14, _⟩ => ⟨S272x1024, .f32⟩
  | _, _ => ⟨S69632x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S272x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutPromptRefIdeal.lean ====
abbrev S69632x256 : Shape := ⟨2, ![69632, 256]⟩
abbrev S69632x512 : Shape := ⟨2, ![69632, 512]⟩
abbrev S69632x1024 : Shape := ⟨2, ![69632, 1024]⟩
abbrev S1024x1024 : Shape := ⟨2, ![1024, 1024]⟩
abbrev S1024 : Shape := ⟨1, ![1024]⟩
abbrev S_ : Shape := ⟨0, ![]⟩
abbrev S69632 : Shape := ⟨1, ![69632]⟩
abbrev S69632x1 : Shape := ⟨2, ![69632, 1]⟩
abbrev S1x1024 : Shape := ⟨2, ![1, 1024]⟩
abbrev S4352 : Shape := ⟨1, ![4352]⟩
abbrev S1x4352x1 : Shape := ⟨3, ![1, 4352, 1]⟩
abbrev S16x4352x1024 : Shape := ⟨3, ![16, 4352, 1024]⟩

abbrev nBuf : Space → Nat
  | .hbm => 58
  | .vmem => 0
  | .smem => 0
  | _ => 0

abbrev bufTy : (tb : Table) → Fin (tcTables nBuf tb) → BufTy
  | .hbm, ⟨0, _⟩ => ⟨S69632x256, .f32⟩
  | .hbm, ⟨1, _⟩ => ⟨S69632x256, .f32⟩
  | .hbm, ⟨2, _⟩ => ⟨S69632x512, .f32⟩
  | .hbm, ⟨3, _⟩ => ⟨S69632x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S69632x1024, .f32⟩
  | .hbm, ⟨8, _⟩ => ⟨S69632x1024, .f32⟩
  | .hbm, ⟨9, _⟩ => ⟨S_, .f32⟩
  | .hbm, ⟨10, _⟩ => ⟨S69632x1024, .f32⟩
  | .hbm, ⟨11, _⟩ => ⟨S69632x1024, .f32⟩
  | .hbm, ⟨12, _⟩ => ⟨S69632x1024, .f32⟩
  | .hbm, ⟨13, _⟩ => ⟨S_, .f32⟩
  | .hbm, ⟨14, _⟩ => ⟨S69632, .f32⟩
  | .hbm, ⟨15, _⟩ => ⟨S69632x1, .f32⟩
  | .hbm, ⟨16, _⟩ => ⟨S_, .f32⟩
  | .hbm, ⟨17, _⟩ => ⟨S69632x1, .f32⟩
  | .hbm, ⟨18, _⟩ => ⟨S69632x1, .f32⟩
  | .hbm, ⟨19, _⟩ => ⟨S69632x1024, .f32⟩
  | .hbm, ⟨20, _⟩ => ⟨S69632x1024, .f32⟩
  | .hbm, ⟨21, _⟩ => ⟨S69632x1024, .f32⟩
  | .hbm, ⟨22, _⟩ => ⟨S_, .f32⟩
  | .hbm, ⟨23, _⟩ => ⟨S69632, .f32⟩
  | .hbm, ⟨24, _⟩ => ⟨S69632x1, .f32⟩
  | .hbm, ⟨25, _⟩ => ⟨S_, .f32⟩
  | .hbm, ⟨26, _⟩ => ⟨S69632x1, .f32⟩
  | .hbm, ⟨27, _⟩ => ⟨S69632x1, .f32⟩
  | .hbm, ⟨28, _⟩ => ⟨S69632x1024, .f32⟩
  | .hbm, ⟨29, _⟩ => ⟨S69632x1024, .f32⟩
  | .hbm, ⟨30, _⟩ => ⟨S_, .f32⟩
  | .hbm, ⟨31, _⟩ => ⟨S69632x1, .f32⟩
  | .hbm, ⟨32, _⟩ => ⟨S69632x1, .f32⟩
  | .hbm, ⟨33, _⟩ => ⟨S69632x1, .f32⟩
  | .hbm, ⟨34, _⟩ => ⟨S69632x1024, .f32⟩
  | .hbm, ⟨35, _⟩ => ⟨S69632x1024, .f32⟩
  | .hbm, ⟨36, _⟩ => ⟨S1x1024, .f32⟩
  | .hbm, ⟨37, _⟩ => ⟨S69632x1024, .f32⟩
  | .hbm, ⟨38, _⟩ => ⟨S69632x1024, .f32⟩
  | .hbm, ⟨39, _⟩ => ⟨S1x1024, .f32⟩
  | .hbm, ⟨40, _⟩ => ⟨S69632x1024, .f32⟩
  | .hbm, ⟨41, _⟩ => ⟨S69632x1024, .f32⟩
  | .hbm, ⟨42, _⟩ => ⟨S4352, .i32⟩
  | .hbm, ⟨43, _⟩ => ⟨S_, .i32⟩
  | .hbm, ⟨44, _⟩ => ⟨S4352, .i32⟩
  | .hbm, ⟨45, _⟩ => ⟨S4352, .i1⟩
  | .hbm, ⟨46, _⟩ => ⟨S_, .i32⟩
  | .hbm, ⟨47, _⟩ => ⟨S4352, .i32⟩
  | .hbm, ⟨48, _⟩ => ⟨S4352, .i1⟩
  | .hbm, ⟨49, _⟩ => ⟨S4352, .i1⟩
  | .hbm, ⟨50, _⟩ => ⟨S1x4352x1, .i1⟩
  | .hbm, ⟨51, _⟩ => ⟨S16x4352x1024, .f32⟩
  | .hbm, ⟨52, _⟩ => ⟨S_, .f32⟩
  | .hbm, ⟨53, _⟩ => ⟨S_, .f32⟩
  | .hbm, ⟨54, _⟩ => ⟨S16x4352x1024, .i1⟩
  | .hbm, ⟨55, _⟩ => ⟨S16x4352x1024, .f32⟩
  | .hbm, ⟨56, _⟩ => ⟨S16x4352x1024, .f32⟩
  | .hbm, ⟨57, _⟩ => ⟨S69632x1024, .f32⟩
  | _, _ => ⟨S69632x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.Soft.lean ====
/- A softmax-weighted sum taken tile by tile with a running maximum, against the same sum taken at once, on extended
   reals: the scores are real numbers, the values are any extended reals. -/
module

public import Idealize.ShloMosaic.Lib.Pipeline.ValueKit
public import Idealize.ShloMosaic.Lib.Pointwise

@[expose] public section

noncomputable section

namespace Soft

open Idealize.ShloMosaic

/-- A factor that is real and not negative goes inside a sum over a range. -/
theorem mul_sum_range (a : ℝ) (h0 : 0 ≤ a) (n : ℕ) (f : ℕ → EReal) :
    (a : EReal) * ∑ i ∈ Finset.range n, f i = ∑ i ∈ Finset.range n, (a : EReal) * f i := by
  induction n with
  | zero => simp
  | succ n ih =>
    rw [Finset.sum_range_succ, Finset.sum_range_succ, EReal.left_distrib_of_nonneg_of_ne_top (EReal.coe_nonneg.2 h0) (EReal.coe_ne_top a), ih]

/-- A sum of real numbers, as an extended real. -/
theorem coe_sum (n : ℕ) (f : ℕ → ℝ) : ((∑ i ∈ Finset.range n, f i : ℝ) : EReal) = ∑ i ∈ Finset.range n, (f i : EReal) := by
  induction n with
  | zero => simp
  | succ n ih => rw [Finset.sum_range_succ, Finset.sum_range_succ, EReal.coe_add, ih]

/-- What is carried after `n` keys: a real `M` near the scores, the sum of the exponentials of the scores less `M`, and
    the values' sum weighted by them. -/
def Inv (s : ℕ → ℝ) (v : ℕ → EReal) (n : ℕ) (m l a : EReal) : Prop :=
  ∃ M : ℝ, m = M ∧ l = ∑ j ∈ Finset.range n, ((Real.exp (s j - M) : ℝ) : EReal)
    ∧ a = ∑ j ∈ Finset.range n, ((Real.exp (s j - M) : ℝ) : EReal) * v j

/-- Before any key. -/
theorem inv_zero (s : ℕ → ℝ) (v : ℕ → EReal) (M : ℝ) : Inv s v 0 M 0 0 := ⟨M, rfl, by simp, by simp⟩

/-- The maximum of real numbers and a real number is real. -/
theorem fold_max_real {t : ℕ} (M : ℝ) (f : Fin t → EReal) (h : ∀ x, ∃ r : ℝ, f x = r) :
    ∃ r : ℝ, max (M : EReal) (Finset.univ.fold max ⊥ f) = r := by
  have key : ∀ S : Finset (Fin t), ∃ r : ℝ, max (M : EReal) (S.fold max ⊥ f) = r := by
    intro S
    induction S using Finset.induction_on with
    | empty => exact ⟨M, by simp⟩
    | insert x S hx ih =>
      obtain ⟨r, hr⟩ := ih
      obtain ⟨q, hq⟩ := h x
      refine ⟨max q r, ?_⟩
      rw [Finset.fold_insert hx, hq, max_left_comm, hr]
      exact (EReal.coe_strictMono.monotone.map_max (a := q) (b := r)).symm
  exact key Finset.univ

/-- One tile: the maximum is raised, what was summed is scaled down, the tile's terms are added. -/
theorem inv_step (s : ℕ → ℝ) (v : ℕ → EReal) (n t : ℕ) (m l a : EReal) (hI : Inv s v n m l a) (f : Fin t → EReal) (w : Fin t → EReal)
    (hf : ∀ x : Fin t, f x = (s (n + x.val) : EReal)) (hw : ∀ x : Fin t, w x = v (n + x.val)) (m' l' a' : EReal)
    (hm : m' = max m (Finset.univ.fold max ⊥ f))
    (hl : l' = Ideal.exp (m - m') * l + ∑ x : Fin t, Ideal.exp (f x - m'))
    (ha : a' = Ideal.exp (m - m') * a + ∑ x : Fin t, Ideal.exp (f x - m') * w x) : Inv s v (n + t) m' l' a' := by
  obtain ⟨M, hM, hL, hA⟩ := hI
  obtain ⟨M', hM'⟩ := fold_max_real M f fun x => ⟨_, hf x⟩
  have e : m' = (M' : EReal) := by rw [hm, hM, hM']
  have hx : ∀ x : Fin t, Ideal.exp (f x - m') = ((Real.exp (s (n + x.val) - M') : ℝ) : EReal) := fun x => by
    rw [hf x, e, ← EReal.coe_sub, Ideal.exp_coe]
  have hα : Ideal.exp (m - m') = ((Real.exp (M - M') : ℝ) : EReal) := by rw [hM, e, ← EReal.coe_sub, Ideal.exp_coe]
  have hp : ∀ j, Real.exp (M - M') * Real.exp (s j - M) = Real.exp (s j - M') := fun j => by
    rw [← Real.exp_add]; congr 1; ring
  refine ⟨M', e, ?_, ?_⟩
  · rw [hl, hα, hL, mul_sum_range _ (Real.exp_pos _).le, Finset.sum_range_add]
    congr 1
    · exact Finset.sum_congr rfl fun j _ => by rw [← EReal.coe_mul, hp]
    · rw [Finset.sum_range]; exact Finset.sum_congr rfl fun x _ => hx x
  · rw [ha, hα, hA, mul_sum_range _ (Real.exp_pos _).le, Finset.sum_range_add]
    congr 1
    · exact Finset.sum_congr rfl fun j _ => by rw [← mul_assoc, ← EReal.coe_mul, hp]
    · rw [Finset.sum_range]; exact Finset.sum_congr rfl fun x _ => by rw [hx x, hw x]

/-- The weighted sum the softmax stands for. -/
def soft (s : ℕ → ℝ) (v : ℕ → EReal) (n : ℕ) : EReal :=
  ∑ j ∈ Finset.range n, ((Real.exp (s j) / ∑ i ∈ Finset.range n, Real.exp (s i) : ℝ) : EReal) * v j

/-- The ratio of one weight does not depend on what was taken off the scores. -/
theorem ratio (s : ℕ → ℝ) (n : ℕ) (M : ℝ) (j : ℕ) :
    Real.exp (s j - M) / ∑ i ∈ Finset.range n, Real.exp (s i - M) = Real.exp (s j) / ∑ i ∈ Finset.range n, Real.exp (s i) := by
  have h : ∀ i, Real.exp (s i - M) = Real.exp (s i) * Real.exp (-M) := fun i => by rw [← Real.exp_add]; congr 1
  simp only [h]
  rw [← Finset.sum_mul, mul_div_mul_right _ _ (Real.exp_ne_zero _)]

/-- The sum of the exponentials is positive. -/
theorem sum_pos (s : ℕ → ℝ) (n : ℕ) (hn : 0 < n) (M : ℝ) : 0 < ∑ i ∈ Finset.range n, Real.exp (s i - M) :=
  Finset.sum_pos (fun i _ => Real.exp_pos _) ⟨0, Finset.mem_range.2 hn⟩

/-- What is carried, divided at the end, is the softmax-weighted sum. -/
theorem inv_div (s : ℕ → ℝ) (v : ℕ → EReal) (n : ℕ) (hn : 0 < n) (m l a : EReal) (hI : Inv s v n m l a) : Ideal.div a l = soft s v n := by
  obtain ⟨M, -, hL, hA⟩ := hI
  have hpos := sum_pos s n hn M
  rw [hL, ← coe_sum, Ideal.div_coe hpos.ne', hA, mul_comm, mul_sum_range _ (one_div_pos.2 hpos).le]
  unfold soft
  refine Finset.sum_congr rfl fun j _ => ?_
  rw [← mul_assoc, ← EReal.coe_mul, ← ratio s n M j]
  congr 2
  ring

/-- The reference's softmax, divided weight by weight, is the softmax-weighted sum. -/
theorem ref_soft (s : ℕ → ℝ) (v : ℕ → EReal) (n : ℕ) (hn : 0 < n) (m : EReal) (M : ℝ) (hM : m = M) (f w : Fin n → EReal)
    (hf : ∀ x : Fin n, f x = (s x.val : EReal)) (hw : ∀ x : Fin n, w x = v x.val) :
    (∑ x : Fin n, Ideal.div (Ideal.exp (f x - m)) (∑ y : Fin n, Ideal.exp (f y - m)) * w x) = soft s v n := by
  have hx : ∀ x : Fin n, Ideal.exp (f x - m) = ((Real.exp (s x.val - M) : ℝ) : EReal) := fun x => by
    rw [hf x, hM, ← EReal.coe_sub, Ideal.exp_coe]
  have hpos := sum_pos s n hn M
  have hS : (∑ y : Fin n, Ideal.exp (f y - m)) = ((∑ i ∈ Finset.range n, Real.exp (s i - M) : ℝ) : EReal) := by
    rw [coe_sum, Finset.sum_range]; exact Finset.sum_congr rfl fun x _ => hx x
  unfold soft
  rw [Finset.sum_range]
  refine Finset.sum_congr rfl fun x _ => ?_
  rw [hS, hx x, hw x, Ideal.div_coe hpos.ne', ← EReal.coe_mul, ← ratio s n M x.val]
  congr 2
  ring

/-- A sum of products of finite numbers is real. -/
theorem dot_real {n : ℕ} (f g : Fin n → EReal) (hf : ∀ x, f x ≠ ⊥ ∧ f x ≠ ⊤) (hg : ∀ x, g x ≠ ⊥ ∧ g x ≠ ⊤) :
    ((∑ x, f x * g x).toReal : EReal) = ∑ x, f x * g x := by
  have : ∃ r : ℝ, ∑ x, f x * g x = r := by
    have key : ∀ S : Finset (Fin n), ∃ r : ℝ, ∑ x ∈ S, f x * g x = r := by
      intro S
      induction S using Finset.induction_on with
      | empty => exact ⟨0, by simp⟩
      | insert x S hx ih =>
        obtain ⟨r, hr⟩ := ih
        refine ⟨(f x).toReal * (g x).toReal + r, ?_⟩
        rw [Finset.sum_insert hx, hr, EReal.coe_add, EReal.coe_mul, EReal.coe_toReal (hf x).2 (hf x).1, EReal.coe_toReal (hg x).2 (hg x).1]
    exact key Finset.univ
  obtain ⟨r, hr⟩ := this
  rw [hr, EReal.toReal_coe]

end Soft

end
-- ==== Proof.AttnR.lean ====
/- The attention's reference, read at an index: the softmax-weighted sum of the values over all the keys. -/
module

public import proofs.«01_k».proof.Proof.Gen.AttnRefIdeal.Run
public import proofs.«01_k».proof.Proof.Soft
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnRefIdeal.Value

open Cert.AttnRefIdeal Cert.AttnRefIdeal.Gen

/-- The chunk of each key's position. -/
def ck : IVec S4128 32 :=
  select (andi (cmpi .ne (signi (iotaInDim S4128 32 0)) (broadcastInDim S4128 ![] bcast_S_S4128 (signi (id (constantI S_ 32 64#32))))) (cmpi .ne (Host.remsi (iotaInDim S4128 32 0) (broadcastInDim S4128 ![] bcast_S_S4128 (id (constantI S_ 32 64#32)))) (broadcastInDim S4128 ![] bcast_S_S4128 (constantI S_ 32 0#32)))) (subi (Host.divsi (iotaInDim S4128 32 0) (broadcastInDim S4128 ![] bcast_S_S4128 (id (constantI S_ 32 64#32)))) (broadcastInDim S4128 ![] bcast_S_S4128 (constantI S_ 32 1#32))) (Host.divsi (iotaInDim S4128 32 0) (broadcastInDim S4128 ![] bcast_S_S4128 (id (constantI S_ 32 64#32))))

/-- The chunk of each query's position. -/
def cq : IVec S32 32 :=
  select (andi (cmpi .ne (signi (addi (broadcastInDim S32 ![] bcast_S_S32 (constantI S_ 32 4096#32)) (iotaInDim S32 32 0))) (broadcastInDim S32 ![] bcast_S_S32 (signi (id (constantI S_ 32 64#32))))) (cmpi .ne (Host.remsi (addi (broadcastInDim S32 ![] bcast_S_S32 (constantI S_ 32 4096#32)) (iotaInDim S32 32 0)) (broadcastInDim S32 ![] bcast_S_S32 (id (constantI S_ 32 64#32)))) (broadcastInDim S32 ![] bcast_S_S32 (constantI S_ 32 0#32)))) (subi (Host.divsi (addi (broadcastInDim S32 ![] bcast_S_S32 (constantI S_ 32 4096#32)) (iotaInDim S32 32 0)) (broadcastInDim S32 ![] bcast_S_S32 (id (constantI S_ 32 64#32)))) (broadcastInDim S32 ![] bcast_S_S32 (constantI S_ 32 1#32))) (Host.divsi (addi (broadcastInDim S32 ![] bcast_S_S32 (constantI S_ 32 4096#32)) (iotaInDim S32 32 0)) (broadcastInDim S32 ![] bcast_S_S32 (id (constantI S_ 32 64#32))))

/-- The scores, the ones a query may not see replaced. -/
def refS (Q : FVec Ideal S16x4x32x128 .f32) (A : FVec Ideal S16x4x4096x128 .f32) (C : FVec Ideal S16x4x32x128 .f32) : FVec Ideal S16x4x32x4128 .f32 :=
  select (broadcastInDim S16x4x32x4128 ![2, 3] bcast_S32x4128_S16x4x32x4128_2_3 (cmpi .sle (broadcastInDim S32x4128 ![0, 1] bcast_S1x4128_S32x4128_0_1 (broadcastInDim S1x4128 ![1] bcast_S4128_S1x4128_1 ck)) (broadcastInDim S32x4128 ![0, 1] bcast_S32x1_S32x4128_0_1 (broadcastInDim S32x1 ![0] bcast_S32_S32x1_0 cq)))) (Host.dotGeneral dot_S16x4x32x128_S16x4x4128x128_S16x4x32x4128_3_3_2_2_01_01 none Q (concatenate S16x4x4128x128 2 [⟨S16x4x4096x128, A⟩, ⟨S16x4x32x128, C⟩] concatenates_S16x4x4096x128_S16x4x32x128_S16x4x4128x128_d2)) (broadcastInDim S16x4x32x4128 ![] bcast_S_S16x4x32x4128 (id (constant S_ .f32 0xF149F2CA#32)))

/-- Each row's maximum. -/
def refM (S : FVec Ideal S16x4x32x4128 .f32) : FVec Ideal S16x4x32 .f32 :=
  Host.reduce FloatOps.maximumf S (constant S_ .f32 0xFF800000#32) reducesTo_S16x4x32x4128_S16x4x32_d3 h_S_

/-- The exponentials of the scores less each row's maximum. -/
def refE (S : FVec Ideal S16x4x32x4128 .f32) : FVec Ideal S16x4x32x4128 .f32 :=
  Host.exp (subf S (broadcastInDim S16x4x32x4128 ![0, 1, 2, 3] bcast_S16x4x32x1_S16x4x32x4128_0_1_2_3 (broadcastInDim S16x4x32x1 ![0, 1, 2] bcast_S16x4x32_S16x4x32x1_0_1_2 (maximumf (broadcastInDim S16x4x32 ![] bcast_S_S16x4x32 (constant S_ .f32 0xFF800000#32)) (refM S)))))

/-- The reference's result. -/
def refO (Q : FVec Ideal S16x4x32x128 .f32) (A B : FVec Ideal S16x4x4096x128 .f32) (C D : FVec Ideal S16x4x32x128 .f32) : FVec Ideal S16x32x256 .f32 :=
  shapeCast _ (transpose S16x32x4x64 [0, 3, 1, 2] (Host.dotGeneral dot_S16x4x4128x64_S16x4x32x4128_S16x4x64x32_2_3_3_2_01_01 none (extractStridedSlice S16x4x4128x64 ![0, 0, 0, 0] (concatenate S16x4x4128x128 2 [⟨S16x4x4096x128, B⟩, ⟨S16x4x32x128, D⟩] concatenates_S16x4x4096x128_S16x4x32x128_S16x4x4128x128_d2) slices_S16x4x4128x128_S16x4x4128x64_0_0_0_0) (Host.divf (refE (refS Q A C)) (broadcastInDim S16x4x32x4128 ![0, 1, 2, 3] bcast_S16x4x32x1_S16x4x32x4128_0_1_2_3 (broadcastInDim S16x4x32x1 ![0, 1, 2] bcast_S16x4x32_S16x4x32x1_0_1_2 (Host.reduceAdd (refE (refS Q A C)) (constant S_ .f32 0x00000000#32) reducesTo_S16x4x32x4128_S16x4x32_d3 h_S_))))) transposes_S16x4x64x32_S16x32x4x64_0_3_1_2) shapeCasts_S16x32x4x64_S16x32x256

/-- The reference's printed result, named. -/
theorem ref_eq (m : (ℓ : Loc nD τ sig) → Buf (Elt Ideal) ℓ) (c : Dev nD) :
    res_main_v29 m c = refO (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4)) := rfl

set_option maxRecDepth 100000 in
/-- Every query is in chunk 64. -/
theorem cq_eq : ∀ q : Fin 32, cq (ix1 q) = 64#32 := by decide +kernel

set_option maxRecDepth 100000 in
/-- Every key is in chunk 64 or an earlier one. -/
theorem ck_le : ∀ k : Fin 4128, IntOp.cmpi .sle (ck (ix1 k)) 64#32 = 1#1 := by decide +kernel

/-- A key (or a value) by its number: the past ones first, then the new ones. -/
def ky (A : FVec Ideal S16x4x4096x128 .f32) (C : FVec Ideal S16x4x32x128 .f32) (b : Fin 16) (h : Fin 4) (j : ℕ) (d : Fin 128) : EReal :=
  if hj : j < 4096 then A (ix4 b h ⟨j, hj⟩ d) else C (ix4 b h ⟨(j - 4096) % 32, Nat.mod_lt _ (by decide)⟩ d)

/-- The score of a query and a key. -/
def sc (Q : FVec Ideal S16x4x32x128 .f32) (A : FVec Ideal S16x4x4096x128 .f32) (C : FVec Ideal S16x4x32x128 .f32) (b : Fin 16) (h : Fin 4) (q : Fin 32) (j : ℕ) : EReal :=
  ∑ d : Fin 128, (Q (ix4 b h q d) : EReal) * ky A C b h j d

/-- Every key is seen: the scores are the products. -/
theorem refS_at (Q : FVec Ideal S16x4x32x128 .f32) (A : FVec Ideal S16x4x4096x128 .f32) (C : FVec Ideal S16x4x32x128 .f32) (b : Fin 16) (h : Fin 4) (q : Fin 32) (k : Fin 4128) :
    (refS Q A C (ix4 b h q k) : EReal) = sc Q A C b h q k.val := by
  have h1 := cq_eq q
  have h2 := ck_le k
  pointwise [refS, sc, ky]
  rw [h1, h2]
  refine (if_pos rfl).trans ?_
  refine Finset.sum_congr rfl fun x _ => Ideal.mul_congr rfl ?_
  have hk : (k.val - 4096) % 32 = k.val - 4096 := Nat.mod_eq_of_lt (by omega)
  simp only [hk]

/-- The host's maximum along the last dimension of a rank-four array is the fold over that coordinate. -/
theorem red_gen {n0 n1 n2 n3 : ℕ} {t u : Shape} (h : (⟨4, ![n0, n1, n2, n3]⟩ : Shape).ReducesTo [3] t) (S : FVec Ideal ⟨4, ![n0, n1, n2, n3]⟩ .f32) (c : FVec Ideal u .f32) (hu) (j : t.Idx) :
   (Host.reduce (FloatOps.maximumf (F := Ideal) (φ := .f32)) S c h hu j : EReal) = Finset.univ.fold max (c (Shape.Idx.first hu)) fun y : Fin n3 => (S (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ y) : EReal) := by
  rw [Host.reduce_eq_fold, h.fold_fiber_r4_a3]
  rfl

/-- A row's maximum is the fold of the maximum over all the keys. -/
theorem refM_at (S : FVec Ideal S16x4x32x4128 .f32) (b : Fin 16) (h : Fin 4) (q : Fin 32) :
    (refM S (ix3 b h q) : EReal) = Finset.univ.fold max (Ideal.ofBits .f32 0xFF800000#32) fun y : Fin 4128 => (S (ix4 b h q y) : EReal) :=
  red_gen reducesTo_S16x4x32x4128_S16x4x32_d3 S _ _ _

/-- The exponentials of the scores less given numbers. -/
def refX (S : FVec Ideal S16x4x32x4128 .f32) (M : FVec Ideal S16x4x32 .f32) : FVec Ideal S16x4x32x4128 .f32 :=
  Host.exp (subf S (broadcastInDim S16x4x32x4128 ![0, 1, 2, 3] bcast_S16x4x32x1_S16x4x32x4128_0_1_2_3 (broadcastInDim S16x4x32x1 ![0, 1, 2] bcast_S16x4x32_S16x4x32x1_0_1_2 (maximumf (broadcastInDim S16x4x32 ![] bcast_S_S16x4x32 (constant S_ .f32 0xFF800000#32)) M))))

/-- The reference's exponentials take off each row's maximum. -/
theorem refE_eq (S : FVec Ideal S16x4x32x4128 .f32) : refE S = refX S (refM S) := rfl

/-- The exponential of a score less a given number. -/
theorem refX_at (S : FVec Ideal S16x4x32x4128 .f32) (M : FVec Ideal S16x4x32 .f32) (b : Fin 16) (h : Fin 4) (q : Fin 32) (k : Fin 4128) :
    (refX S M (ix4 b h q k) : EReal) = Ideal.exp ((S (ix4 b h q k) : EReal) - max (Ideal.ofBits .f32 0xFF800000#32) (M (ix3 b h q) : EReal)) := by
  pointwise [refX]

/-- The word of the reference's least number is minus infinity. -/
theorem ninf : Ideal.ofBits .f32 0xFF800000#32 = ⊥ := by simp [Ideal.ofBits, Ideal.ieee]

/-- The word of the kernel's first maximum is a real number. -/
theorem low_real : ∃ r : ℝ, Ideal.ofBits .f32 0xF149F2CA#32 = r := by
  refine ⟨-(13234890 * 2 ^ 76), ?_⟩
  simp [Ideal.ofBits, Ideal.ieee]

/-- The maximum of real numbers, of at least one, is real. -/
theorem fold_real {t : ℕ} (ht : 0 < t) (f : Fin t → EReal) (h : ∀ x, ∃ r : ℝ, f x = r) :
    ∃ r : ℝ, Finset.univ.fold max ⊥ f = r := by
  obtain ⟨a, ha⟩ := h ⟨0, ht⟩
  obtain ⟨r, hr⟩ := Soft.fold_max_real a f h
  refine ⟨r, hr ▸ (max_eq_right ?_).symm⟩
  rw [← ha]
  exact Finset.le_fold_max (f ⟨0, ht⟩) |>.2 (.inr ⟨_, Finset.mem_univ _, le_rfl⟩)

/-- A sum of products over the past keys and over the new ones is one over all the keys. -/
theorem join (f : Fin 4128 → EReal) (g : Fin 4096 → EReal) (k : Fin 32 → EReal) (hg : ∀ x : Fin 4096, g x = f ⟨x.val, by omega⟩)
    (hk : ∀ x : Fin 32, k x = f ⟨4096 + x.val, by omega⟩) : ∑ x, g x + ∑ x, k x = ∑ x, f x := by
  rw [show (∑ x, f x) = _ from Fin.sum_univ_add (a := 4096) (b := 32) f]
  exact Ideal.add_congr (Finset.sum_congr rfl fun x _ => hg x) (Finset.sum_congr rfl fun x _ => hk x)

set_option maxHeartbeats 1000000 in
/-- The reference's result at an index, before the maximum is dropped. -/
theorem refO_dot (Q : FVec Ideal S16x4x32x128 .f32) (A B : FVec Ideal S16x4x4096x128 .f32) (C D : FVec Ideal S16x4x32x128 .f32)
    (b : Fin 16) (q : Fin 32) (x : Fin 256) : (refO Q A B C D (ix3 b q x) : EReal)
     = ∑ k : Fin 4128, Ideal.div (refE (refS Q A C) (ix4 b ⟨x.val / 64, by omega⟩ q k)) (∑ j : Fin 4128, refE (refS Q A C) (ix4 b ⟨x.val / 64, by omega⟩ q j))
         * ky B D b ⟨x.val / 64, by omega⟩ k.val ⟨x.val % 64, by omega⟩ := by
  generalize hE : refE (refS Q A C) = E
  unfold refO
  rw [hE]
  pointwise
  refine join _ _ _ (fun y => ?_) (fun y => ?_)
  · refine (mul_comm _ _).trans (Ideal.mul_congr rfl ?_)
    unfold ky
    rw [dif_pos (show y.val < 4096 from y.isLt)]
  · refine (mul_comm _ _).trans (Ideal.mul_congr rfl ?_)
    unfold ky
    have e : (4096 + y.val - 4096) % 32 = y.val := by omega
    rw [dif_neg (by simp)]
    simp only [e]

/-- A key (or a value) is a finite number where the arrays hold finite numbers. -/
theorem ky_fin (A : FVec Ideal S16x4x4096x128 .f32) (C : FVec Ideal S16x4x32x128 .f32)
    (hA : ∀ i, (A i : EReal) ≠ ⊥ ∧ (A i : EReal) ≠ ⊤) (hC : ∀ i, (C i : EReal) ≠ ⊥ ∧ (C i : EReal) ≠ ⊤) (b : Fin 16) (h : Fin 4) (j : ℕ) (d : Fin 128) :
    ky A C b h j d ≠ ⊥ ∧ ky A C b h j d ≠ ⊤ := by
  unfold ky
  split
  · exact hA _
  · exact hC _

/-- A score of finite numbers is a real number. -/
theorem sc_real (Q : FVec Ideal S16x4x32x128 .f32) (A : FVec Ideal S16x4x4096x128 .f32) (C : FVec Ideal S16x4x32x128 .f32)
    (hQ : ∀ i, (Q i : EReal) ≠ ⊥ ∧ (Q i : EReal) ≠ ⊤)
    (hA : ∀ i, (A i : EReal) ≠ ⊥ ∧ (A i : EReal) ≠ ⊤) (hC : ∀ i, (C i : EReal) ≠ ⊥ ∧ (C i : EReal) ≠ ⊤) (b : Fin 16) (h : Fin 4) (q : Fin 32) (j : ℕ) :
    (((sc Q A C b h q j).toReal : ℝ) : EReal) = sc Q A C b h q j :=
  Soft.dot_real _ _ (fun _ => hQ _) (fun _ => ky_fin A C hA hC _ _ _ _)

/-- The reference's result at an index: the softmax of the scores, weighting the values. -/
theorem refO_soft (Q : FVec Ideal S16x4x32x128 .f32) (A B : FVec Ideal S16x4x4096x128 .f32) (C D : FVec Ideal S16x4x32x128 .f32)
    (hQ : ∀ i, (Q i : EReal) ≠ ⊥ ∧ (Q i : EReal) ≠ ⊤)
    (hA : ∀ i, (A i : EReal) ≠ ⊥ ∧ (A i : EReal) ≠ ⊤) (hC : ∀ i, (C i : EReal) ≠ ⊥ ∧ (C i : EReal) ≠ ⊤)
    (b : Fin 16) (q : Fin 32) (x : Fin 256) : (refO Q A B C D (ix3 b q x) : EReal)
     = Soft.soft (fun j => (sc Q A C b ⟨x.val / 64, by omega⟩ q j).toReal) (fun j => ky B D b ⟨x.val / 64, by omega⟩ j ⟨x.val % 64, by omega⟩) 4128 := by
  have hs : ∀ k : Fin 4128, (refS Q A C (ix4 b ⟨x.val / 64, by omega⟩ q k) : EReal) = (((sc Q A C b ⟨x.val / 64, by omega⟩ q k.val).toReal : ℝ) : EReal) :=
    fun k => (refS_at Q A C b _ q k).trans (sc_real Q A C hQ hA hC b _ q k.val).symm
  obtain ⟨M, hM⟩ := fold_real (by decide) (fun k : Fin 4128 => (refS Q A C (ix4 b ⟨x.val / 64, by omega⟩ q k) : EReal)) fun k => ⟨_, hs k⟩
  have hm : (refM (refS Q A C) (ix3 b ⟨x.val / 64, by omega⟩ q) : EReal) = M := by
    rw [refM_at, ninf]
    exact hM
  rw [refO_dot]
  simp only [refE_eq, refX_at, ninf, bot_le, max_eq_right]
  exact Soft.ref_soft _ _ 4128 (by decide) _ M hm _ _ hs fun _ => rfl

end Cert.AttnRefIdeal.Value
end
-- ==== Proof.AttnP.lean ====
/- The attention kernel's pieces, read at an index, and what its loop carries at a row and a lane. -/
module

public import proofs.«01_k».proof.Proof.Gen.AttnIdeal.Skeleton
public import proofs.«01_k».proof.Proof.Gen.AttnIdeal.Loops
public import proofs.«01_k».proof.Proof.AttnR
public import Idealize.ShloMosaic.Lib.WholeRead
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen
open Cert.AttnRefIdeal.Value (ninf low_real)

/-- The scores of a tile: queries times keys. -/
theorem pay6_at (v0 : FVec Ideal S1x1x32x128 .f32) (K : FVec Ideal S1x1x256x128 .f32) (r : Fin 32) (j : Fin 256) :
    (k0_pay6 (F := Ideal) v0 K (ix2 r j) : EReal) = ∑ d : Fin 128, (v0 (ix4 0 0 r d) : EReal) * K (ix4 0 0 j d) := by
  pointwise [k0_pay6, k0_pay2]

/-- The new maximum of a row. -/
theorem pay7_at (v0 : FVec Ideal S1x1x32x128 .f32) (m : FVec Ideal S32x1 .f32) (K : FVec Ideal S1x1x256x128 .f32) (r : Fin 32) :
    (k0_pay7 (F := Ideal) v0 m K (ix2 r 0) : EReal) = max (m (ix2 r 0) : EReal) (Finset.univ.fold max ⊥ fun j : Fin 256 => (k0_pay6 (F := Ideal) v0 K (ix2 r j) : EReal)) := by
  unfold k0_pay7
  generalize k0_pay6 (F := Ideal) v0 K = S
  rw [← ninf]
  pointwise

/-- The factor a row's earlier sums are scaled by. -/
theorem pay8_at (v0 : FVec Ideal S1x1x32x128 .f32) (m : FVec Ideal S32x1 .f32) (K : FVec Ideal S1x1x256x128 .f32) (r : Fin 32) :
    (k0_pay8 (F := Ideal) v0 m K (ix2 r 0) : EReal) = Ideal.exp ((m (ix2 r 0) : EReal) - k0_pay7 (F := Ideal) v0 m K (ix2 r 0)) := by
  unfold k0_pay8
  generalize k0_pay7 (F := Ideal) v0 m K = S
  pointwise

/-- The exponential of a score less its row's new maximum. -/
theorem pay9_at (v0 : FVec Ideal S1x1x32x128 .f32) (m : FVec Ideal S32x1 .f32) (K : FVec Ideal S1x1x256x128 .f32) (r : Fin 32) (j : Fin 256) :
    (k0_pay9 (F := Ideal) v0 m K (ix2 r j) : EReal) = Ideal.exp ((k0_pay6 (F := Ideal) v0 K (ix2 r j) : EReal) - k0_pay7 (F := Ideal) v0 m K (ix2 r 0)) := by
  unfold k0_pay9
  generalize k0_pay7 (F := Ideal) v0 m K = S
  generalize k0_pay6 (F := Ideal) v0 K = T
  pointwise

/-- A row's new sum of exponentials. -/
theorem pay10_at (v0 : FVec Ideal S1x1x32x128 .f32) (m l : FVec Ideal S32x1 .f32) (K : FVec Ideal S1x1x256x128 .f32) (r : Fin 32) :
    (k0_pay10 (F := Ideal) v0 m l K (ix2 r 0) : EReal)
      = (k0_pay8 (F := Ideal) v0 m K (ix2 r 0) : EReal) * l (ix2 r 0) + ∑ j : Fin 256, (k0_pay9 (F := Ideal) v0 m K (ix2 r j) : EReal) := by
  unfold k0_pay10
  generalize k0_pay8 (F := Ideal) v0 m K = S
  generalize k0_pay9 (F := Ideal) v0 m K = T
  pointwise

/-- A row's new weighted sum of the values, at a lane. -/
theorem pay11_at (v0 : FVec Ideal S1x1x32x128 .f32) (m : FVec Ideal S32x1 .f32) (a : FVec Ideal S32x128 .f32) (K V : FVec Ideal S1x1x256x128 .f32) (r : Fin 32) (d : Fin 128) :
    (k0_pay11 (F := Ideal) v0 m a K V (ix2 r d) : EReal)
      = (k0_pay8 (F := Ideal) v0 m K (ix2 r 0) : EReal) * a (ix2 r d) + ∑ j : Fin 256, (k0_pay9 (F := Ideal) v0 m K (ix2 r j) : EReal) * V (ix4 0 0 j d) := by
  unfold k0_pay11
  generalize k0_pay8 (F := Ideal) v0 m K = S
  generalize k0_pay9 (F := Ideal) v0 m K = T
  pointwise

/-- The tile of new keys and the division at the end, at a row and a lane. -/
theorem pay12_at (v0 : FVec Ideal S1x1x32x128 .f32) (m l : FVec Ideal S32x1 .f32) (a : FVec Ideal S32x128 .f32) (K V : FVec Ideal S1x1x32x128 .f32) (r : Fin 32) (d : Fin 128)
    (f : Fin 32 → EReal) (hf : f = fun j => ∑ d : Fin 128, (v0 (ix4 0 0 r d) : EReal) * K (ix4 0 0 j d)) :
    (k0_pay12 (F := Ideal) v0 m l a K V (ix2 r d) : EReal)
      = Ideal.div (Ideal.exp ((m (ix2 r 0) : EReal) - max (m (ix2 r 0) : EReal) (Finset.univ.fold max ⊥ f)) * a (ix2 r d)
            + ∑ j : Fin 32, Ideal.exp (f j - max (m (ix2 r 0) : EReal) (Finset.univ.fold max ⊥ f)) * V (ix4 0 0 j d))
          (Ideal.exp ((m (ix2 r 0) : EReal) - max (m (ix2 r 0) : EReal) (Finset.univ.fold max ⊥ f)) * l (ix2 r 0)
            + ∑ j : Fin 32, Ideal.exp (f j - max (m (ix2 r 0) : EReal) (Finset.univ.fold max ⊥ f))) := by
  rw [hf, ← ninf]
  pointwise [k0_pay12, k0_pay2]

/-- One tile of 256 keys moves what is carried on by 256 keys. -/
theorem inv_tile (s : ℕ → ℝ) (v : ℕ → EReal) (n : ℕ) (v0 : FVec Ideal S1x1x32x128 .f32) (m l : FVec Ideal S32x1 .f32) (a : FVec Ideal S32x128 .f32)
    (K V : FVec Ideal S1x1x256x128 .f32) (r : Fin 32) (d : Fin 128)
    (hf : ∀ j : Fin 256, ∑ d : Fin 128, (v0 (ix4 0 0 r d) : EReal) * K (ix4 0 0 j d) = (s (n + j.val) : EReal))
    (hw : ∀ j : Fin 256, (V (ix4 0 0 j d) : EReal) = v (n + j.val))
    (hI : Soft.Inv s v n (m (ix2 r 0)) (l (ix2 r 0)) (a (ix2 r d))) :
    Soft.Inv s v (n + 256) (k0_pay7 (F := Ideal) v0 m K (ix2 r 0)) (k0_pay10 (F := Ideal) v0 m l K (ix2 r 0)) (k0_pay11 (F := Ideal) v0 m a K V (ix2 r d)) := by
  refine Soft.inv_step s v n 256 _ _ _ hI (fun j => k0_pay6 (F := Ideal) v0 K (ix2 r j)) (fun j => V (ix4 0 0 j d))
    (fun j => (pay6_at v0 K r j).trans (hf j)) hw _ _ _ (pay7_at v0 m K r) ?_ ?_
  · rw [pay10_at, pay8_at]
    simp only [pay9_at]
  · rw [pay11_at, pay8_at]
    simp only [pay9_at]

/-- The last tile and the division give the softmax-weighted sum. -/
theorem inv_last (s : ℕ → ℝ) (v : ℕ → EReal) (n : ℕ) (v0 : FVec Ideal S1x1x32x128 .f32) (m l : FVec Ideal S32x1 .f32) (a : FVec Ideal S32x128 .f32)
    (K V : FVec Ideal S1x1x32x128 .f32) (r : Fin 32) (d : Fin 128)
    (hf : ∀ j : Fin 32, ∑ d : Fin 128, (v0 (ix4 0 0 r d) : EReal) * K (ix4 0 0 j d) = (s (n + j.val) : EReal))
    (hw : ∀ j : Fin 32, (V (ix4 0 0 j d) : EReal) = v (n + j.val))
    (hI : Soft.Inv s v n (m (ix2 r 0)) (l (ix2 r 0)) (a (ix2 r d))) :
    (k0_pay12 (F := Ideal) v0 m l a K V (ix2 r d) : EReal) = Soft.soft s v (n + 32) := by
  rw [pay12_at v0 m l a K V r d _ rfl]
  exact Soft.inv_div s v (n + 32) (by omega) _ _ _
    (Soft.inv_step s v n 32 _ _ _ hI _ (fun j => V (ix4 0 0 j d)) hf hw _ _ _ rfl rfl rfl)

/-- The two heads of a pair, side by side in lanes: the second's are rolled by 64. -/
theorem pay45_at (A B : FVec Ideal S32x128 .f32) (r : Fin 32) (x : Fin 128) :
    (k0_pay45 (F := Ideal) A B (ix2 r x) : EReal) = (A (ix2 r x) : EReal) + B (ix2 r ⟨(x.val + 64) % 128, Nat.mod_lt _ (by decide)⟩) := by
  pointwise [k0_pay45]
  exact Ideal.add_congr rfl (congrArg B (congrArg (ix2 r) (Fin.ext (by change (x.val + 128 - 64) % 128 = (x.val + 64) % 128; omega))))

/-- The second pair is combined as the first, its second head's end as the others'. -/
theorem pay46_eq (A : FVec Ideal S32x128 .f32) (v0 : FVec Ideal S1x1x32x128 .f32) (m l : FVec Ideal S32x1 .f32) (a : FVec Ideal S32x128 .f32) (K V : FVec Ideal S1x1x32x128 .f32) :
    k0_pay46 (F := Ideal) A v0 m l a K V = k0_pay45 (F := Ideal) A (k0_pay12 (F := Ideal) v0 m l a K V) := rfl

/-- The two pairs side by side. -/
theorem pay1_at (A B : FVec Ideal S32x128 .f32) (r : Fin 32) (x : Fin 256) :
    (k0_pay1 (F := Ideal) A B (ix3 0 r x) : EReal) = if h : x.val < 128 then (A (ix2 r ⟨x.val, h⟩) : EReal) else B (ix2 r ⟨x.val - 128, by omega⟩) := by
  pointwise [k0_pay1]

/-- The `n`-th tile of 256 rows of a head's block. -/
def tile (K : FVec Ideal S1x4x4096x128 .f32) (h : Fin 4) (n : ℕ) : FVec Ideal S1x1x256x128 .f32 :=
  fun i => K (ix4 0 h ⟨(256 * n + (i 2).val) % 4096, Nat.mod_lt _ (by decide)⟩ ⟨(i 3).val, (i 3).isLt⟩)

/-- What a head's loop carries after `n` tiles. -/
def hd (v0 : FVec Ideal S1x1x32x128 .f32) (K V : FVec Ideal S1x4x4096x128 .f32) (h : Fin 4) : ℕ → FVec Ideal S32x1 .f32 × FVec Ideal S32x1 .f32 × FVec Ideal S32x128 .f32
  | 0 => (k0_pay3 (F := Ideal), k0_pay4 (F := Ideal), k0_pay5 (F := Ideal))
  | n + 1 => (k0_pay7 (F := Ideal) v0 (hd v0 K V h n).1 (tile K h n), k0_pay10 (F := Ideal) v0 (hd v0 K V h n).1 (hd v0 K V h n).2.1 (tile K h n),
      k0_pay11 (F := Ideal) v0 (hd v0 K V h n).1 (hd v0 K V h n).2.2 (tile K h n) (tile V h n))

/-- What a head's loop carries, at a row and a lane: the sums over the first `256 n` keys. -/
theorem hd_inv (s : ℕ → ℝ) (v : ℕ → EReal) (v0 : FVec Ideal S1x1x32x128 .f32) (K V : FVec Ideal S1x4x4096x128 .f32) (h : Fin 4) (r : Fin 32) (d : Fin 128)
    (hf : ∀ j : Fin 4096, ∑ d : Fin 128, (v0 (ix4 0 0 r d) : EReal) * K (ix4 0 h j d) = (s j.val : EReal))
    (hw : ∀ j : Fin 4096, (V (ix4 0 h j d) : EReal) = v j.val) (n : ℕ) (hn : n ≤ 16) :
    Soft.Inv s v (256 * n) ((hd v0 K V h n).1 (ix2 r 0)) ((hd v0 K V h n).2.1 (ix2 r 0)) ((hd v0 K V h n).2.2 (ix2 r d)) := by
  induction n with
  | zero =>
    obtain ⟨M, hM⟩ := low_real
    have e : (k0_pay3 (F := Ideal) (ix2 r 0) : EReal) = M := hM
    have e4 : (k0_pay4 (F := Ideal) (ix2 r 0) : EReal) = 0 := Ideal.ofBits_zero_f32
    have e5 : (k0_pay5 (F := Ideal) (ix2 r d) : EReal) = 0 := Ideal.ofBits_zero_f32
    show Soft.Inv s v 0 (k0_pay3 (F := Ideal) (ix2 r 0)) (k0_pay4 (F := Ideal) (ix2 r 0)) (k0_pay5 (F := Ideal) (ix2 r d))
    rw [e, e4, e5]
    exact Soft.inv_zero s v M
  | succ n ih =>
    have e : ∀ j : Fin 256, (256 * n + j.val) % 4096 = 256 * n + j.val := fun j => Nat.mod_eq_of_lt (by omega)
    refine inv_tile s v (256 * n) v0 _ _ _ (tile K h n) (tile V h n) r d (fun j => ?_) (fun j => ?_) (ih (by omega))
    · exact (hf ⟨(256 * n + j.val) % 4096, Nat.mod_lt _ (by decide)⟩).trans (by simp only [e])
    · exact (hw ⟨(256 * n + j.val) % 4096, Nat.mod_lt _ (by decide)⟩).trans (by simp only [e])

/-- A head's end: the softmax-weighted sum over the past keys and the new ones. -/
theorem hd_end (s : ℕ → ℝ) (v : ℕ → EReal) (v0 : FVec Ideal S1x1x32x128 .f32) (K V : FVec Ideal S1x4x4096x128 .f32) (KN VN : FVec Ideal S1x1x32x128 .f32)
    (h : Fin 4) (r : Fin 32) (d : Fin 128)
    (hf : ∀ j : Fin 4096, ∑ d : Fin 128, (v0 (ix4 0 0 r d) : EReal) * K (ix4 0 h j d) = (s j.val : EReal))
    (hw : ∀ j : Fin 4096, (V (ix4 0 h j d) : EReal) = v j.val)
    (hf' : ∀ j : Fin 32, ∑ d : Fin 128, (v0 (ix4 0 0 r d) : EReal) * KN (ix4 0 0 j d) = (s (4096 + j.val) : EReal))
    (hw' : ∀ j : Fin 32, (VN (ix4 0 0 j d) : EReal) = v (4096 + j.val)) :
    (k0_pay12 (F := Ideal) v0 (hd v0 K V h 16).1 (hd v0 K V h 16).2.1 (hd v0 K V h 16).2.2 KN VN (ix2 r d) : EReal) = Soft.soft s v 4128 :=
  inv_last s v 4096 v0 _ _ _ KN VN r d hf' hw' (hd_inv s v v0 K V h r d hf hw 16 le_rfl)

/-- A load of 256 rows of a head's block reads the tile. -/
theorem rd_tile {m : Memref sig .tc .vmem S1x4x4096x128 .f32} (hm : m.IsWhole) (K : FVec Ideal S1x4x4096x128 .f32) (h : Fin 4) (n : ℕ) (hn : n < 16)
    (off : Fin S1x4x4096x128.rank → ℕ) (hoff : off = ![0, h.val, 256 * n, 0]) (inb : ∀ a, off a + ![1, 1, 256, 128] a ≤ S1x4x4096x128.size a) :
    View.readAt (Elt Ideal) m.view (Rect.unit (s := S1x4x4096x128) off ![1, 1, 256, 128] inb).toLoadRect (hm.unread K) = tile K h n := by
  subst hoff
  funext i
  refine (Memref.IsWhole.readAt_unread (Val := Elt Ideal) hm K (Rect.unit (s := S1x4x4096x128) ![0, h.val, 256 * n, 0] ![1, 1, 256, 128] inb).toLoadRect i).trans ?_
  refine congrArg K ?_
  have h0 : (i 0).val < 1 := (i 0).isLt
  have h1 : (i 1).val < 1 := (i 1).isLt
  have h2 : (i 2).val < 256 := (i 2).isLt
  funext a
  fin_cases a
  · exact Fin.ext (show 0 + 1 * (i 0).val = 0 by omega)
  · exact Fin.ext (show h.val + 1 * (i 1).val = h.val by omega)
  · exact Fin.ext (show 256 * n + 1 * (i 2).val = (256 * n + (i 2).val) % 4096 by omega)
  · exact Fin.ext (show 0 + 1 * (i 3).val = (i 3).val by omega)

section States

variable (𝒱 : Variants) (c : Dev nD) (bd : Option 𝒱.V) (i : grid0.Coords) (arg2 : Memref sig .tc .vmem S1x4x32x128 .f32) (harg2 : arg2.IsWhole)
  (arg3 : Memref sig .tc .vmem S1x4x4096x128 .f32) (harg3 : arg3.IsWhole) (arg4 : Memref sig .tc .vmem S1x4x4096x128 .f32) (harg4 : arg4.IsWhole)
  (arg5 : Memref sig .tc .vmem S1x4x32x128 .f32) (harg5 : arg5.IsWhole) (arg6 : Memref sig .tc .vmem S1x4x32x128 .f32) (harg6 : arg6.IsWhole)
  (arg7 : Memref sig .tc .vmem S1x32x256 .f32) (harg7 : arg7.IsWhole) (v33 v67 v101 : FVec Ideal S32x128 .f32) (v0 : Vec Ideal S1x1x32x128 .f32) (K V : FVec Ideal S1x4x4096x128 .f32)

/-- What the first head's loop carries. -/
theorem st1_eq (n : ℕ) (hn : n ≤ 16) :
    st_k0_t1 (F := Ideal) 𝒱 c bd i arg2 harg2 arg3 harg3 arg4 harg4 arg5 harg5 arg6 harg6 arg7 harg7 v0 (harg3.unread K) (harg4.unread V) (k0_pay3 (F := Ideal), k0_pay4 (F := Ideal), k0_pay5 (F := Ideal)) n = hd v0 K V 0 n := by
  induction n with
  | zero => rfl
  | succ n ih =>
    have ht : n < k0_t1_loop.trips := Nat.lt_of_lt_of_le (by omega : n < 16) (by decide +kernel)
    refine (st_k0_t1_succ (F := Ideal) 𝒱 c bd i arg2 harg2 arg3 harg3 arg4 harg4 arg5 harg5 arg6 harg6 arg7 harg7 v0 (harg3.unread K) (harg4.unread V) _ ⟨n, ht⟩).trans ?_
    rw [show st_k0_t1 (F := Ideal) 𝒱 c bd i arg2 harg2 arg3 harg3 arg4 harg4 arg5 harg5 arg6 harg6 arg7 harg7 v0 (harg3.unread K) (harg4.unread V) (k0_pay3 (F := Ideal), k0_pay4 (F := Ideal), k0_pay5 (F := Ideal)) (⟨n, ht⟩ : Fin k0_t1_loop.trips).val = hd v0 K V 0 n from ih (by omega)]
    unfold tripR_k0_t1 trip_k0_t1
    dsimp only
    rw [rd_tile harg3 K 0 n (by omega) _ (k0_off1_eq ⟨n, ht⟩), rd_tile harg4 V 0 n (by omega) _ (k0_off1_eq ⟨n, ht⟩)]
    rfl

/-- What the second head's loop carries. -/
theorem st2_eq (n : ℕ) (hn : n ≤ 16) :
    st_k0_t2 (F := Ideal) 𝒱 c bd i arg2 harg2 arg3 harg3 arg4 harg4 arg5 harg5 arg6 harg6 arg7 harg7 v0 (harg3.unread K) (harg4.unread V) (k0_pay14 (F := Ideal), k0_pay15 (F := Ideal), k0_pay16 (F := Ideal)) n = hd v0 K V 1 n := by
  induction n with
  | zero => rfl
  | succ n ih =>
    have ht : n < k0_t2_loop.trips := Nat.lt_of_lt_of_le (by omega : n < 16) (by decide +kernel)
    refine (st_k0_t2_succ (F := Ideal) 𝒱 c bd i arg2 harg2 arg3 harg3 arg4 harg4 arg5 harg5 arg6 harg6 arg7 harg7 v0 (harg3.unread K) (harg4.unread V) _ ⟨n, ht⟩).trans ?_
    rw [show st_k0_t2 (F := Ideal) 𝒱 c bd i arg2 harg2 arg3 harg3 arg4 harg4 arg5 harg5 arg6 harg6 arg7 harg7 v0 (harg3.unread K) (harg4.unread V) (k0_pay14 (F := Ideal), k0_pay15 (F := Ideal), k0_pay16 (F := Ideal)) (⟨n, ht⟩ : Fin k0_t2_loop.trips).val = hd v0 K V 1 n from ih (by omega)]
    unfold tripR_k0_t2 trip_k0_t2
    dsimp only
    rw [rd_tile harg3 K 1 n (by omega) _ (k0_off3_eq ⟨n, ht⟩), rd_tile harg4 V 1 n (by omega) _ (k0_off3_eq ⟨n, ht⟩)]
    rfl

/-- What the third head's loop carries. -/
theorem st3_eq (n : ℕ) (hn : n ≤ 16) :
    st_k0_t3 (F := Ideal) 𝒱 c bd i arg2 harg2 arg3 harg3 arg4 harg4 arg5 harg5 arg6 harg6 arg7 harg7 v0 (harg3.unread K) (harg4.unread V) (k0_pay25 (F := Ideal), k0_pay26 (F := Ideal), k0_pay27 (F := Ideal)) n = hd v0 K V 2 n := by
  induction n with
  | zero => rfl
  | succ n ih =>
    have ht : n < k0_t3_loop.trips := Nat.lt_of_lt_of_le (by omega : n < 16) (by decide +kernel)
    refine (st_k0_t3_succ (F := Ideal) 𝒱 c bd i arg2 harg2 arg3 harg3 arg4 harg4 arg5 harg5 arg6 harg6 arg7 harg7 v0 (harg3.unread K) (harg4.unread V) _ ⟨n, ht⟩).trans ?_
    rw [show st_k0_t3 (F := Ideal) 𝒱 c bd i arg2 harg2 arg3 harg3 arg4 harg4 arg5 harg5 arg6 harg6 arg7 harg7 v0 (harg3.unread K) (harg4.unread V) (k0_pay25 (F := Ideal), k0_pay26 (F := Ideal), k0_pay27 (F := Ideal)) (⟨n, ht⟩ : Fin k0_t3_loop.trips).val = hd v0 K V 2 n from ih (by omega)]
    unfold tripR_k0_t3 trip_k0_t3
    dsimp only
    rw [rd_tile harg3 K 2 n (by omega) _ (k0_off5_eq ⟨n, ht⟩), rd_tile harg4 V 2 n (by omega) _ (k0_off5_eq ⟨n, ht⟩)]
    rfl

/-- What the fourth head's loop carries. -/
theorem st4_eq (n : ℕ) (hn : n ≤ 16) :
    st_k0_t4 (F := Ideal) 𝒱 c bd i arg2 harg2 arg3 harg3 arg4 harg4 arg5 harg5 arg6 harg6 arg7 harg7 v33 v67 v101 v0 (harg3.unread K) (harg4.unread V) (k0_pay36 (F := Ideal), k0_pay37 (F := Ideal), k0_pay38 (F := Ideal)) n = hd v0 K V 3 n := by
  induction n with
  | zero => rfl
  | succ n ih =>
    have ht : n < k0_t4_loop.trips := Nat.lt_of_lt_of_le (by omega : n < 16) (by decide +kernel)
    refine (st_k0_t4_succ (F := Ideal) 𝒱 c bd i arg2 harg2 arg3 harg3 arg4 harg4 arg5 harg5 arg6 harg6 arg7 harg7 v33 v67 v101 v0 (harg3.unread K) (harg4.unread V) _ ⟨n, ht⟩).trans ?_
    rw [show st_k0_t4 (F := Ideal) 𝒱 c bd i arg2 harg2 arg3 harg3 arg4 harg4 arg5 harg5 arg6 harg6 arg7 harg7 v33 v67 v101 v0 (harg3.unread K) (harg4.unread V) (k0_pay36 (F := Ideal), k0_pay37 (F := Ideal), k0_pay38 (F := Ideal)) (⟨n, ht⟩ : Fin k0_t4_loop.trips).val = hd v0 K V 3 n from ih (by omega)]
    unfold tripR_k0_t4 trip_k0_t4
    dsimp only
    rw [rd_tile harg3 K 3 n (by omega) _ (k0_off7_eq ⟨n, ht⟩), rd_tile harg4 V 3 n (by omega) _ (k0_off7_eq ⟨n, ht⟩)]
    rfl

end States

/-- The four heads' lanes put together: 64 of each, where the upper 64 of each head are zero. -/
theorem comb (E0 E1 E2 E3 : FVec Ideal S32x128 .f32) (G : Fin 4 → Fin 128 → EReal) (r : Fin 32)
    (h0 : ∀ d, (E0 (ix2 r d) : EReal) = G 0 d) (h1 : ∀ d, (E1 (ix2 r d) : EReal) = G 1 d) (h2 : ∀ d, (E2 (ix2 r d) : EReal) = G 2 d)
    (h3 : ∀ d, (E3 (ix2 r d) : EReal) = G 3 d) (hz : ∀ h (d : Fin 128), 64 ≤ d.val → G h d = 0) (x : Fin 256) :
    (k0_pay1 (F := Ideal) (k0_pay45 (F := Ideal) E0 E1) (k0_pay45 (F := Ideal) E2 E3) (ix3 0 r x) : EReal) = G ⟨x.val / 64, by omega⟩ ⟨x.val % 64, by omega⟩ := by
  rw [pay1_at]
  split
  · rename_i h
    rw [pay45_at, h0, h1]
    by_cases hx : x.val < 64
    · rw [hz 1 _ (by simp only []; omega), add_zero]
      exact congrArg₂ G (Fin.ext (by change 0 = x.val / 64; omega)) (Fin.ext (by change x.val = x.val % 64; omega))
    · rw [hz 0 _ (by simp only []; omega), zero_add]
      exact congrArg₂ G (Fin.ext (by change 1 = x.val / 64; omega)) (Fin.ext (by change (x.val + 64) % 128 = x.val % 64; omega))
  · rename_i h
    rw [pay45_at, h2, h3]
    by_cases hx : x.val < 192
    · rw [hz 3 _ (by simp only []; omega), add_zero]
      exact congrArg₂ G (Fin.ext (by change 2 = x.val / 64; omega)) (Fin.ext (by change x.val - 128 = x.val % 64; omega))
    · rw [hz 2 _ (by simp only []; omega), zero_add]
      exact congrArg₂ G (Fin.ext (by change 3 = x.val / 64; omega)) (Fin.ext (by change (x.val - 128 + 64) % 128 = x.val % 64; omega))

/-- The softmax-weighted sum of zeros is zero. -/
theorem soft_zero (s : ℕ → ℝ) (v : ℕ → EReal) (n : ℕ) (hv : ∀ j, v j = 0) : Soft.soft s v n = 0 := by
  unfold Soft.soft
  exact Finset.sum_eq_zero fun j _ => by rw [hv, mul_zero]

end Cert.AttnIdeal.Value

end
-- ==== Proof.AttnV.lean ====
/- The attention call: its blocks, and its result as the softmax-weighted sum of the values. -/
module

public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal.Run
public import proofs.«01_k».proof.Proof.AttnP
public import Idealize.ShloMosaic.Lib.ReduceAll
public import proofs.«01_k».proof.Proof.Gen.Pre_attn_ok
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen
open Cert.AttnRefIdeal.Value (sc ky refO refO_soft ky_fin sc_real)

variable (m : (ℓ : Loc nD τ sig) → Buf (Elt Ideal) ℓ)

/-- A number whose absolute value is below infinity is finite. -/
theorem fin_of_abs (x : EReal) (h : Ideal.cmp .olt (max x (-x)) (Ideal.ofBits .f32 0x7F800000#32) = 1) : x ≠ ⊥ ∧ x ≠ ⊤ := by
  rw [Ideal.cmp_olt_eq_one] at h
  have h' := ne_top_of_lt h
  constructor
  · rintro rfl
    exact h' (by simp)
  · rintro rfl
    exact h' (by simp)

/-- The precondition: queries and keys are finite, the upper lanes of the values zero. -/
theorem ok (Q : FVec Ideal S16x4x32x128 .f32) (A B : FVec Ideal S16x4x4096x128 .f32) (C D : FVec Ideal S16x4x32x128 .f32)
    [Cert.Pre_attn_ok.Facts] (h : Cert.Pre_attn_ok.fn (F := Ideal) Q A B C D = fun _ => 1#1) :
    (∀ i, (Q i : EReal) ≠ ⊥ ∧ (Q i : EReal) ≠ ⊤) ∧ (∀ i, (A i : EReal) ≠ ⊥ ∧ (A i : EReal) ≠ ⊤) ∧ (∀ i, (C i : EReal) ≠ ⊥ ∧ (C i : EReal) ≠ ⊤)
      ∧ (∀ (b : Fin 16) (h : Fin 4) (j : Fin 4096) (d : Fin 64), (B (ix4 b h j ⟨64 + d.val, by omega⟩) : EReal) = 0)
      ∧ (∀ (b : Fin 16) (h : Fin 4) (j : Fin 32) (d : Fin 64), (D (ix4 b h j ⟨64 + d.val, by omega⟩) : EReal) = 0) := by
  have h' := congrFun h ix0
  unfold Cert.Pre_attn_ok.fn Cert.Pre_attn_ok.fn_part1 at h'
  obtain ⟨h4, e5⟩ := IntOp.andi_eq_one.1 h'
  obtain ⟨h3, e4⟩ := IntOp.andi_eq_one.1 h4
  obtain ⟨h2, e3⟩ := IntOp.andi_eq_one.1 h3
  obtain ⟨e1, e2⟩ := IntOp.andi_eq_one.1 h2
  refine ⟨fun i => fin_of_abs _ (Host.reduce_andi_all _ _ _ _ _ e1 i), fun i => fin_of_abs _ (Host.reduce_andi_all _ _ _ _ _ e2 i),
    fun i => fin_of_abs _ (Host.reduce_andi_all _ _ _ _ _ e3 i), fun b h j d => ?_, fun b h j d => ?_⟩
  · have e := Host.reduce_andi_all _ _ _ _ _ e4 (ix4 b h j d)
    have e' : Ideal.cmp .oeq (B (ix4 b h j ⟨64 + d.val, by omega⟩)) (Ideal.ofBits .f32 0x00000000#32) = 1 := by
      refine Eq.trans ?_ e
      pointwise
    rw [Ideal.cmp_oeq_eq_one, Ideal.ofBits_zero_f32] at e'
    exact e'
  · have e := Host.reduce_andi_all _ _ _ _ _ e5 (ix4 b h j d)
    have e' : Ideal.cmp .oeq (D (ix4 b h j ⟨64 + d.val, by omega⟩)) (Ideal.ofBits .f32 0x00000000#32) = 1 := by
      refine Eq.trans ?_ e
      pointwise
    rw [Ideal.cmp_oeq_eq_one, Ideal.ofBits_zero_f32] at e'
    exact e'

/-- The queries, as launched. -/
abbrev argQ (c : Dev nD) : FVec Ideal S16x4x32x128 .f32 := m ((c : Thread nD τ).loc main_arg0)

/-- The past keys, as launched. -/
abbrev argA (c : Dev nD) : FVec Ideal S16x4x4096x128 .f32 := m ((c : Thread nD τ).loc main_arg1)

/-- The past values, as launched. -/
abbrev argB (c : Dev nD) : FVec Ideal S16x4x4096x128 .f32 := m ((c : Thread nD τ).loc main_arg2)

/-- The new keys, as launched. -/
abbrev argC (c : Dev nD) : FVec Ideal S16x4x32x128 .f32 := m ((c : Thread nD τ).loc main_arg3)

/-- The new values, as launched. -/
abbrev argD (c : Dev nD) : FVec Ideal S16x4x32x128 .f32 := m ((c : Thread nD τ).loc main_arg4)

/-- The index maps: one batch element. -/
theorem idx : ∀ t : Fin cfg0.N, win0_0.index t = ![t.val, 0, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![t.val, 0, 0] :=
  (by decide +kernel : ∀ t : Fin grid0.N, _)

/-- The call's result: the reference's at the launched arrays. -/
def ref (c : Dev nD) : FVec Ideal S16x32x256 .f32 := refO (argQ m c) (argA m c) (argB m c) (argC m c) (argD m c)

/-- The reference's printed result is this one of its own launched arrays. -/
theorem ref_eq (m' : (ℓ : Loc Cert.AttnRefIdeal.nD Cert.AttnRefIdeal.τ Cert.AttnRefIdeal.sig) → Buf (Elt Ideal) ℓ) (c : Dev Cert.AttnRefIdeal.nD) :
    Cert.AttnRefIdeal.Value.res_main_v29 m' c = refO (m' ((c.tc : Thread Cert.AttnRefIdeal.nD Cert.AttnRefIdeal.τ).loc Cert.AttnRefIdeal.main_arg0))
      (m' ((c.tc : Thread Cert.AttnRefIdeal.nD Cert.AttnRefIdeal.τ).loc Cert.AttnRefIdeal.main_arg1)) (m' ((c.tc : Thread Cert.AttnRefIdeal.nD Cert.AttnRefIdeal.τ).loc Cert.AttnRefIdeal.main_arg2))
      (m' ((c.tc : Thread Cert.AttnRefIdeal.nD Cert.AttnRefIdeal.τ).loc Cert.AttnRefIdeal.main_arg3)) (m' ((c.tc : Thread Cert.AttnRefIdeal.nD Cert.AttnRefIdeal.τ).loc Cert.AttnRefIdeal.main_arg4)) :=
  Cert.AttnRefIdeal.Value.ref_eq m' c

/-- A block of 32 rows, at an index. -/
theorem blk0 (c : Dev nD) (t : Fin cfg0.N) (ht : t.val < 16) (h : Fin 4) (r : Fin 32) (d : Fin 128) :
    (iblk m c 0 t (ix4 0 h r d) : EReal) = argQ m c (ix4 ⟨t.val, ht⟩ h r d) := by
  blk_ext [iblk, V, idx t]

/-- A block of the past keys, at an index. -/
theorem blk1 (c : Dev nD) (t : Fin cfg0.N) (ht : t.val < 16) (h : Fin 4) (r : Fin 4096) (d : Fin 128) :
    (iblk m c 1 t (ix4 0 h r d) : EReal) = argA m c (ix4 ⟨t.val, ht⟩ h r d) := by
  blk_ext [iblk, V, idx t]

/-- A block of the past values, at an index. -/
theorem blk2 (c : Dev nD) (t : Fin cfg0.N) (ht : t.val < 16) (h : Fin 4) (r : Fin 4096) (d : Fin 128) :
    (iblk m c 2 t (ix4 0 h r d) : EReal) = argB m c (ix4 ⟨t.val, ht⟩ h r d) := by
  blk_ext [iblk, V, idx t]

/-- A block of the new keys, at an index. -/
theorem blk3 (c : Dev nD) (t : Fin cfg0.N) (ht : t.val < 16) (h : Fin 4) (r : Fin 32) (d : Fin 128) :
    (iblk m c 3 t (ix4 0 h r d) : EReal) = argC m c (ix4 ⟨t.val, ht⟩ h r d) := by
  blk_ext [iblk, V, idx t]

/-- A block of the new values, at an index. -/
theorem blk4 (c : Dev nD) (t : Fin cfg0.N) (ht : t.val < 16) (h : Fin 4) (r : Fin 32) (d : Fin 128) :
    (iblk m c 4 t (ix4 0 h r d) : EReal) = argD m c (ix4 ⟨t.val, ht⟩ h r d) := by
  blk_ext [iblk, V, idx t]

/-- One head's rows of a block of 32 rows. -/
theorem ld_head (X : S1x4x32x128.Idx → Elt Ideal .f32) (h : Fin 4) (off : Fin S1x4x32x128.rank → ℕ) (hoff : off = ![0, h.val, 0, 0])
    (inb : ∀ a, off a + ![1, 1, 32, 128] a ≤ S1x4x32x128.size a) (r : Fin 32) (d : Fin 128) :
    (View.ld X (Rect.unit (s := S1x4x32x128) off ![1, 1, 32, 128] inb) (ix4 0 0 r d) : EReal) = X (ix4 0 h r d) := by
  subst hoff
  refine congrArg X (funext fun a => ?_)
  fin_cases a
  · exact Fin.ext (show 0 + 1 * 0 = 0 by omega)
  · exact Fin.ext (show h.val + 1 * 0 = h.val by omega)
  · exact Fin.ext (show 0 + 1 * r.val = r.val by omega)
  · exact Fin.ext (show 0 + 1 * d.val = d.val by omega)

/-- The past keys (or values) are the first by number. -/
theorem ky_past (A : FVec Ideal S16x4x4096x128 .f32) (C : FVec Ideal S16x4x32x128 .f32) (b : Fin 16) (h : Fin 4) (j : Fin 4096) (d : Fin 128) :
    ky A C b h j.val d = A (ix4 b h j d) := dif_pos j.isLt

/-- The new keys (or values) follow. -/
theorem ky_new (A : FVec Ideal S16x4x4096x128 .f32) (C : FVec Ideal S16x4x32x128 .f32) (b : Fin 16) (h : Fin 4) (j : Fin 32) (d : Fin 128) :
    ky A C b h (4096 + j.val) d = C (ix4 b h j d) := by
  have e : (4096 + j.val - 4096) % 32 = j.val := by omega
  unfold ky
  rw [dif_neg (by omega)]
  simp only [e]

/-- One head's end, of the arrays: the softmax of its scores, weighting its values. -/
theorem head_at (Q : FVec Ideal S16x4x32x128 .f32) (A B : FVec Ideal S16x4x4096x128 .f32) (C D : FVec Ideal S16x4x32x128 .f32)
    (hQ : ∀ i, (Q i : EReal) ≠ ⊥ ∧ (Q i : EReal) ≠ ⊤) (hA : ∀ i, (A i : EReal) ≠ ⊥ ∧ (A i : EReal) ≠ ⊤) (hC : ∀ i, (C i : EReal) ≠ ⊥ ∧ (C i : EReal) ≠ ⊤)
    (b : Fin 16) (h : Fin 4) (v0 : FVec Ideal S1x1x32x128 .f32) (K V : FVec Ideal S1x4x4096x128 .f32) (KN VN : FVec Ideal S1x1x32x128 .f32)
    (hq : ∀ r d, (v0 (ix4 0 0 r d) : EReal) = Q (ix4 b h r d)) (hK : ∀ j d, (K (ix4 0 h j d) : EReal) = A (ix4 b h j d)) (hV : ∀ j d, (V (ix4 0 h j d) : EReal) = B (ix4 b h j d))
    (hKN : ∀ j d, (KN (ix4 0 0 j d) : EReal) = C (ix4 b h j d)) (hVN : ∀ j d, (VN (ix4 0 0 j d) : EReal) = D (ix4 b h j d)) (r : Fin 32) (d : Fin 128) :
    (k0_pay12 (F := Ideal) v0 (hd v0 K V h 16).1 (hd v0 K V h 16).2.1 (hd v0 K V h 16).2.2 KN VN (ix2 r d) : EReal)
      = Soft.soft (fun j => (sc Q A C b h r j).toReal) (fun j => ky B D b h j d) 4128 := by
  refine hd_end _ _ v0 K V KN VN h r d (fun j => ?_) (fun j => ?_) (fun j => ?_) (fun j => ?_)
  · rw [sc_real Q A C hQ hA hC]
    unfold sc
    exact Finset.sum_congr rfl fun d _ => Ideal.mul_congr (hq r d) ((hK j d).trans (ky_past A C b h j d).symm)
  · exact (hV j d).trans (ky_past B D b h j d).symm
  · rw [sc_real Q A C hQ hA hC]
    unfold sc
    exact Finset.sum_congr rfl fun d _ => Ideal.mul_congr (hq r d) ((hKN j d).trans (ky_new A C b h j d).symm)
  · exact (hVN j d).trans (ky_new B D b h j d).symm

/-- The upper lanes of the values are zero. -/
theorem ky_zero (B : FVec Ideal S16x4x4096x128 .f32) (D : FVec Ideal S16x4x32x128 .f32)
    (hB : ∀ (b : Fin 16) (h : Fin 4) (j : Fin 4096) (d : Fin 64), (B (ix4 b h j ⟨64 + d.val, by omega⟩) : EReal) = 0)
    (hD : ∀ (b : Fin 16) (h : Fin 4) (j : Fin 32) (d : Fin 64), (D (ix4 b h j ⟨64 + d.val, by omega⟩) : EReal) = 0)
    (b : Fin 16) (h : Fin 4) (j : ℕ) (d : Fin 128) (hd : 64 ≤ d.val) : ky B D b h j d = 0 := by
  have e : d = ⟨64 + (⟨d.val - 64, by omega⟩ : Fin 64).val, by simp only []; omega⟩ := Fin.ext (by simp only []; omega)
  rw [e]
  unfold ky
  split
  · exact hB b h _ _
  · exact hD b h _ _

set_option maxHeartbeats 1000000 in
/-- The kernel's result is the reference's, where the precondition holds. -/
theorem final (c : Dev nD) [Cert.Pre_attn_ok.Facts]
    (hpre : Cert.Pre_attn_ok.fn (F := Ideal) (argQ m c) (argA m c) (argB m c) (argC m c) (argD m c) = fun _ => 1#1) :
    (dats m 0 c).arrAt 5 (cfgs 0).N = ref m c := by
  obtain ⟨hQ, hA, hC, hB, hD⟩ := ok _ _ _ _ _ hpre
  have e16 : Scf.trips 0#32 (Scalar.addi 0#32 16#32) 1#32 = 16 := by decide +kernel
  refine (dats m 0 c).arrAt_eq_of_covers 5 _ (by decide +kernel) fun t _ y => ?_
  have ht : t.val < 16 := lt_of_lt_of_eq t.isLt N_0
  blk_simp
  rw [after0_5]; unfold outsAt0; frame_out
  idx_vars y
  have e : ((cfg0.win 5).blk t).view.emb (ix3 y0 y1 y2) = ix3 ⟨t.val, ht⟩ y1 y2 := by blk_ext [idx t]
  rw [e]
  obtain rfl : y0 = 0 := Subsingleton.elim _ _
  refine Eq.trans ?_ (refO_soft (argQ m c) (argA m c) (argB m c) (argC m c) (argD m c) hQ hA hC ⟨t.val, ht⟩ y1 y2).symm
  simp only [pay46_eq]
  refine comb _ _ _ _ (fun h d => Soft.soft (fun j => (sc (argQ m c) (argA m c) (argC m c) ⟨t.val, ht⟩ h y1 j).toReal) (fun j => ky (argB m c) (argD m c) ⟨t.val, ht⟩ h j d) 4128) y1
    (fun d => ?_) (fun d => ?_) (fun d => ?_) (fun d => ?_)
    (fun h d hd => soft_zero _ _ _ fun j => ky_zero (argB m c) (argD m c) hB hD _ h j d hd) y2
  · rw [e16, st1_eq _ _ _ _ _ _ _ _ _ _ _ _ _ _ _ _ _ _ _ 16 le_rfl]
    exact head_at (argQ m c) (argA m c) (argB m c) (argC m c) (argD m c) hQ hA hC ⟨t.val, ht⟩ 0 _ _ _ _ _
      (fun r d => (ld_head _ 0 _ rfl _ r d).trans (blk0 m c t ht 0 r d)) (fun j d => blk1 m c t ht 0 j d) (fun j d => blk2 m c t ht 0 j d)
      (fun r d => (ld_head _ 0 _ k0_off2_eq _ r d).trans (blk3 m c t ht 0 r d)) (fun r d => (ld_head _ 0 _ k0_off2_eq _ r d).trans (blk4 m c t ht 0 r d)) y1 d
  · rw [e16, st2_eq _ _ _ _ _ _ _ _ _ _ _ _ _ _ _ _ _ _ _ 16 le_rfl]
    exact head_at (argQ m c) (argA m c) (argB m c) (argC m c) (argD m c) hQ hA hC ⟨t.val, ht⟩ 1 _ _ _ _ _
      (fun r d => (ld_head _ 1 _ rfl _ r d).trans (blk0 m c t ht 1 r d)) (fun j d => blk1 m c t ht 1 j d) (fun j d => blk2 m c t ht 1 j d)
      (fun r d => (ld_head _ 1 _ k0_off4_eq _ r d).trans (blk3 m c t ht 1 r d)) (fun r d => (ld_head _ 1 _ k0_off4_eq _ r d).trans (blk4 m c t ht 1 r d)) y1 d
  · rw [e16, st3_eq _ _ _ _ _ _ _ _ _ _ _ _ _ _ _ _ _ _ _ 16 le_rfl]
    exact head_at (argQ m c) (argA m c) (argB m c) (argC m c) (argD m c) hQ hA hC ⟨t.val, ht⟩ 2 _ _ _ _ _
      (fun r d => (ld_head _ 2 _ rfl _ r d).trans (blk0 m c t ht 2 r d)) (fun j d => blk1 m c t ht 2 j d) (fun j d => blk2 m c t ht 2 j d)
      (fun r d => (ld_head _ 2 _ k0_off6_eq _ r d).trans (blk3 m c t ht 2 r d)) (fun r d => (ld_head _ 2 _ k0_off6_eq _ r d).trans (blk4 m c t ht 2 r d)) y1 d
  · rw [e16, st4_eq _ _ _ _ _ _ _ _ _ _ _ _ _ _ _ _ _ _ _ _ _ _ 16 le_rfl]
    exact head_at (argQ m c) (argA m c) (argB m c) (argC m c) (argD m c) hQ hA hC ⟨t.val, ht⟩ 3 _ _ _ _ _
      (fun r d => (ld_head _ 3 _ rfl _ r d).trans (blk0 m c t ht 3 r d)) (fun j d => blk1 m c t ht 3 j d) (fun j d => blk2 m c t ht 3 j d)
      (fun r d => (ld_head _ 3 _ k0_off8_eq _ r d).trans (blk3 m c t ht 3 r d)) (fun r d => (ld_head _ 3 _ k0_off8_eq _ r d).trans (blk4 m c t ht 3 r d)) y1 d

end Cert.AttnIdeal.Value

end
-- ==== Proof.MoeV.lean ====
/- The mixture of experts and its layer norm: the accumulator sums the experts one by one, and the last point normalizes. -/
module

public import proofs.«01_k».proof.Proof.Gen.MoeIdeal.Value
public import proofs.«01_k».proof.Proof.Gen.MoeRefIdeal.Run
public import proofs.«01_k».proof.Pre_moe_ok
public import Idealize.ShloMosaic.Lib.ReduceAll
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeIdeal.Value

open Cert.MoeIdeal Cert.MoeIdeal.Gen

variable (m : (ℓ : Loc nD τ sig) → Buf (Elt Ideal) ℓ)

/-- The hidden projections of every token by every expert, by expert, token and lane. -/
def refU (U : FVec Ideal S16x1024x256 .f32) (X : FVec Ideal S512x1024 .f32) : FVec Ideal Cert.MoeRefIdeal.S16x512x256 .f32 :=
  transpose Cert.MoeRefIdeal.S16x512x256 [0, 2, 1] (Host.dotGeneral Cert.MoeRefIdeal.dot_S16x1024x256_S512x1024_S16x256x512_1_1_02_0_n_n none U X) Cert.MoeRefIdeal.Gen.transposes_S16x256x512_S16x512x256_0_2_1

/-- The logistic of an array, as the reference computes it. -/
def refS (H : FVec Ideal Cert.MoeRefIdeal.S16x512x256 .f32) : FVec Ideal Cert.MoeRefIdeal.S16x512x256 .f32 :=
  Host.divf (broadcastInDim Cert.MoeRefIdeal.S16x512x256 ![] Cert.MoeRefIdeal.Gen.bcast_S_S16x512x256 (constant Cert.MoeRefIdeal.S_ .f32 0x3F800000#32)) (addf (broadcastInDim Cert.MoeRefIdeal.S16x512x256 ![] Cert.MoeRefIdeal.Gen.bcast_S_S16x512x256 (constant Cert.MoeRefIdeal.S_ .f32 0x3F800000#32)) (Host.exp (Host.negf H)))

/-- The sum over the experts of the gated outputs. -/
def refY (X : FVec Ideal S512x1024 .f32) (D : FVec Ideal S512x128 .f32) (A B : FVec Ideal S16x1024x256 .f32) (W : FVec Ideal S16x256x1024 .f32) : FVec Ideal S512x1024 .f32 :=
  Host.reduceAdd (mulf (broadcastInDim Cert.MoeRefIdeal.S16x512x1024 ![0, 1, 2] Cert.MoeRefIdeal.Gen.bcast_S16x512x1_S16x512x1024_0_1_2 (broadcastInDim Cert.MoeRefIdeal.S16x512x1 ![0, 1] Cert.MoeRefIdeal.Gen.bcast_S16x512_S16x512x1_0_1 (transpose Cert.MoeRefIdeal.S16x512 [1, 0] (extractStridedSlice Cert.MoeRefIdeal.S512x16 ![0, 0] D Cert.MoeRefIdeal.Gen.slices_S512x128_S512x16_0_0) Cert.MoeRefIdeal.Gen.transposes_S512x16_S16x512_1_0))) (Host.dotGeneral Cert.MoeRefIdeal.dot_S16x512x256_S16x256x1024_S16x512x1024_2_1_1_2_0_0 none (mulf (mulf (refU A X) (refS (refU A X))) (refU B X)) W)) (constant Cert.MoeRefIdeal.S_ .f32 0x00000000#32) Cert.MoeRefIdeal.Gen.reducesTo_S16x512x1024_S512x1024_d0 Cert.MoeRefIdeal.Gen.h_S_

/-- What the reference normalizes. -/
def refZ (X Y : FVec Ideal S512x1024 .f32) : FVec Ideal S512x1024 .f32 :=
  addf (mulf (broadcastInDim Cert.MoeRefIdeal.S512x1024 ![] Cert.MoeRefIdeal.Gen.bcast_S_S512x1024 (constant Cert.MoeRefIdeal.S_ .f32 0x3FD744FD#32)) X) Y

/-- An array less its row means, as the reference computes it. -/
def refD (Z : FVec Ideal S512x1024 .f32) : FVec Ideal S512x1024 .f32 :=
  subf Z (broadcastInDim Cert.MoeRefIdeal.S512x1024 ![0, 1] Cert.MoeRefIdeal.Gen.bcast_S512x1_S512x1024_0_1 (Host.divf (broadcastInDim Cert.MoeRefIdeal.S512x1 ![0] Cert.MoeRefIdeal.Gen.bcast_S512_S512x1_0 (Host.reduceAdd Z (constant Cert.MoeRefIdeal.S_ .f32 0x00000000#32) Cert.MoeRefIdeal.Gen.reducesTo_S512x1024_S512_d1 Cert.MoeRefIdeal.Gen.h_S_)) (broadcastInDim Cert.MoeRefIdeal.S512x1 ![] Cert.MoeRefIdeal.Gen.bcast_S_S512x1 (constant Cert.MoeRefIdeal.S_ .f32 0x44800000#32))))

/-- The layer norm of centred rows `D`, as the reference computes it. -/
def refN (D : FVec Ideal S512x1024 .f32) (S B : FVec Ideal S1024 .f32) : FVec Ideal S512x1024 .f32 :=
  addf (mulf (mulf D (broadcastInDim Cert.MoeRefIdeal.S512x1024 ![0, 1] Cert.MoeRefIdeal.Gen.bcast_S512x1_S512x1024_0_1 (Host.rsqrt (addf (Host.divf (broadcastInDim Cert.MoeRefIdeal.S512x1 ![0] Cert.MoeRefIdeal.Gen.bcast_S512_S512x1_0 (Host.reduceAdd (mulf D D) (constant Cert.MoeRefIdeal.S_ .f32 0x00000000#32) Cert.MoeRefIdeal.Gen.reducesTo_S512x1024_S512_d1 Cert.MoeRefIdeal.Gen.h_S_)) (broadcastInDim Cert.MoeRefIdeal.S512x1 ![] Cert.MoeRefIdeal.Gen.bcast_S_S512x1 (constant Cert.MoeRefIdeal.S_ .f32 0x44800000#32))) (broadcastInDim Cert.MoeRefIdeal.S512x1 ![] Cert.MoeRefIdeal.Gen.bcast_S_S512x1 (constant Cert.MoeRefIdeal.S_ .f32 0x3727C5AC#32)))))) (broadcastInDim Cert.MoeRefIdeal.S512x1024 ![0, 1] Cert.MoeRefIdeal.Gen.bcast_S1x1024_S512x1024_0_1 (broadcastInDim Cert.MoeRefIdeal.S1x1024 ![1] Cert.MoeRefIdeal.Gen.bcast_S1024_S1x1024_1 S))) (broadcastInDim Cert.MoeRefIdeal.S512x1024 ![0, 1] Cert.MoeRefIdeal.Gen.bcast_S1x1024_S512x1024_0_1 (broadcastInDim Cert.MoeRefIdeal.S1x1024 ![1] Cert.MoeRefIdeal.Gen.bcast_S1024_S1x1024_1 B))

/-- The named result of the reference is these pieces. -/
theorem ref_eq (m' : (ℓ : Loc Cert.MoeRefIdeal.nD Cert.MoeRefIdeal.τ Cert.MoeRefIdeal.sig) → Buf (Elt Ideal) ℓ) (c : Dev Cert.MoeRefIdeal.nD) :
    Cert.MoeRefIdeal.Value.res_main_v39 m' c = refN (refD (refZ (m' ((c.tc : Thread Cert.MoeRefIdeal.nD Cert.MoeRefIdeal.τ).loc Cert.MoeRefIdeal.main_arg0)) (refY (m' ((c.tc : Thread Cert.MoeRefIdeal.nD Cert.MoeRefIdeal.τ).loc Cert.MoeRefIdeal.main_arg0)) (m' ((c.tc : Thread Cert.MoeRefIdeal.nD Cert.MoeRefIdeal.τ).loc Cert.MoeRefIdeal.main_arg1)) (m' ((c.tc : Thread Cert.MoeRefIdeal.nD Cert.MoeRefIdeal.τ).loc Cert.MoeRefIdeal.main_arg2)) (m' ((c.tc : Thread Cert.MoeRefIdeal.nD Cert.MoeRefIdeal.τ).loc Cert.MoeRefIdeal.main_arg3)) (m' ((c.tc : Thread Cert.MoeRefIdeal.nD Cert.MoeRefIdeal.τ).loc Cert.MoeRefIdeal.main_arg4)))))
      (m' ((c.tc : Thread Cert.MoeRefIdeal.nD Cert.MoeRefIdeal.τ).loc Cert.MoeRefIdeal.main_arg5)) (m' ((c.tc : Thread Cert.MoeRefIdeal.nD Cert.MoeRefIdeal.τ).loc Cert.MoeRefIdeal.main_arg6)) := rfl

/-- What the kernel normalizes, of its blocks. -/
def kerZ (X Y : FVec Ideal S512x1024 .f32) : FVec Ideal S512x1024 .f32 :=
  addf (mulf (broadcast S512x1024 (Scalar.ofBits .f32 0x3FD744FD#32 : Ideal .f32)) X) Y

/-- An array less its row means, as the kernel computes it. -/
def kerD (Z : FVec Ideal S512x1024 .f32) : FVec Ideal S512x1024 .f32 :=
  subf Z (broadcastTo S512x1024 (divf (shapeCast S512x1 (multiReduction .add [1] S512 Z 0x00000000#32 reduces_S512x1024_S512 (.inl rfl) rfl) shapeCasts_S512_S512x1) (broadcast S512x1 (Scalar.ofBits .f32 0x44800000#32 : Ideal .f32))) broadcasts_S512x1_S512x1024)

/-- The layer norm of centred rows `D`, as the kernel computes it. -/
def kerN (D : FVec Ideal S512x1024 .f32) (s b : FVec Ideal S1x1024 .f32) : FVec Ideal S512x1024 .f32 :=
  addf (mulf (mulf D (broadcastTo S512x1024 (rsqrt (addf (divf (shapeCast S512x1 (multiReduction .add [1] S512 (mulf D D) 0x00000000#32 reduces_S512x1024_S512 (.inl rfl) rfl) shapeCasts_S512_S512x1) (broadcast S512x1 (Scalar.ofBits .f32 0x44800000#32 : Ideal .f32))) (broadcast S512x1 (Scalar.ofBits .f32 0x3727C5AC#32 : Ideal .f32)))) broadcasts_S512x1_S512x1024)) (broadcastTo S512x1024 (shapeCast S1x1024 s shapeCasts_S1x1024_S1x1024) broadcasts_S1x1024_S512x1024)) (broadcastTo S512x1024 (shapeCast S1x1024 b shapeCasts_S1x1024_S1x1024) broadcasts_S1x1024_S512x1024)

/-- The kernel's last payload is these pieces. -/
theorem pay1_eq (X Y : FVec Ideal S512x1024 .f32) (s b : FVec Ideal S1x1024 .f32) : k0_pay1 X Y s b = kerN (kerD (kerZ X Y)) s b := rfl

/-- Centring a row is the same on both sides, where the rows agree. -/
theorem centred (Z Z' : FVec Ideal S512x1024 .f32) (r q : Fin 512)
    (h : ∀ j, (Z (ix2 r j) : EReal) = Z' (ix2 q j)) (k : Fin 1024) : (kerD Z (ix2 r k) : EReal) = refD Z' (ix2 q k) := by
  pointwise [kerD, refD]
  simp only [h]

/-- The layer norm of a row is the same on both sides, where the centred rows and the parameters agree. -/
theorem normed (D D' : FVec Ideal S512x1024 .f32) (s b : FVec Ideal S1x1024 .f32) (s' b' : FVec Ideal S1024 .f32) (r q : Fin 512)
    (h : ∀ j, (D (ix2 r j) : EReal) = D' (ix2 q j)) (hs : ∀ j : Fin 1024, (s (ix2 0 j) : EReal) = s' (ix1 j)) (hb : ∀ j : Fin 1024, (b (ix2 0 j) : EReal) = b' (ix1 j)) (k : Fin 1024) :
    (kerN D s b (ix2 r k) : EReal) = refN D' s' b' (ix2 q k) := by
  pointwise [kerN, refN]
  simp only [h, hs, hb]

/-- The index maps: the whole of the tokens, the gates and the norm's parameters; one expert's weights. -/
theorem idx : ∀ t : Fin cfg0.N, win0_0.index t = ![0, 0] ∧ win0_1.index t = ![0, 0] ∧ win0_2.index t = ![t.val, 0, 0]
    ∧ win0_3.index t = ![t.val, 0, 0] ∧ win0_4.index t = ![0, 0] ∧ win0_5.index t = ![0, 0] ∧ win0_6.index t = ![0, 0] :=
  (by decide +kernel : ∀ t : Fin grid0.N, _)

/-- One expert's term of one entry: its hidden lanes, gated, against its down weights. -/
def part (X : FVec Ideal S512x1024 .f32) (D : FVec Ideal S512x128 .f32) (A B : FVec Ideal S16x1024x256 .f32) (W : FVec Ideal S16x256x1024 .f32) (q : Fin 512) (k : Fin 1024) (e : Fin 16) : EReal :=
  ∑ f : Fin 256, (((∑ j : Fin 1024, (X (ix2 q j) : EReal) * A (ix3 e j f)) * Ideal.logistic (∑ j : Fin 1024, (X (ix2 q j) : EReal) * A (ix3 e j f)) * ∑ j : Fin 1024, (X (ix2 q j) : EReal) * B (ix3 e j f)) * D (ix2 q ⟨e, by omega⟩)) * W (ix3 e f k)

/-- A finite factor that is not negative moves into a sum. -/
theorem mul_sum_of_nonneg {n : ℕ} (g : EReal) (h0 : 0 ≤ g) (h1 : g ≠ ⊤) (f : Fin n → EReal) : g * ∑ i, f i = ∑ i, g * f i := by
  induction n with
  | zero => simp
  | succ n ih => rw [Fin.sum_univ_castSucc, Fin.sum_univ_castSucc, EReal.left_distrib_of_nonneg_of_ne_top h0 h1, ih]

/-- The reference's sum over the experts is the sum of these terms, where the gates are finite and not negative. -/
theorem refY_at (X : FVec Ideal S512x1024 .f32) (D : FVec Ideal S512x128 .f32) (A B : FVec Ideal S16x1024x256 .f32) (W : FVec Ideal S16x256x1024 .f32)
    (h0 : ∀ i j, (0 : EReal) ≤ D (ix2 i j)) (h1 : ∀ i j, (D (ix2 i j) : EReal) ≠ ⊤) (q : Fin 512) (k : Fin 1024) :
    (refY X D A B W (ix2 q k) : EReal) = ∑ e : Fin 16, part X D A B W q k e := by
  pointwise [refY, refU, refS]
  refine Finset.sum_congr rfl fun e _ => ?_
  rw [mul_sum_of_nonneg _ (h0 _ _) (h1 _ _)]
  unfold part
  refine Finset.sum_congr rfl fun f _ => ?_
  have ha : ∑ j : Fin 1024, (A (ix3 e j f) : EReal) * X (ix2 q j) = ∑ j : Fin 1024, (X (ix2 q j) : EReal) * A (ix3 e j f) :=
    Finset.sum_congr rfl fun j _ => mul_comm _ _
  have hb : ∑ j : Fin 1024, (B (ix3 e j f) : EReal) * X (ix2 q j) = ∑ j : Fin 1024, (X (ix2 q j) : EReal) * B (ix3 e j f) :=
    Finset.sum_congr rfl fun j _ => mul_comm _ _
  rw [ha, hb]
  show _ * (_ * Ideal.logistic _ * _ * _) = _
  rw [← mul_assoc]
  refine congrArg (· * _) (mul_comm _ _)

/-- Summing the gates' lanes with all but one masked leaves that lane. -/
theorem gate (e : ℕ) (he : e < 16) (f : Fin 128 → EReal) :
    (∑ l : Fin 128, (Scalar.select (IntOp.cmpi CmpIPredicate.eq (BitVec.ofNat 32 (l : ℕ)) (BitVec.ofNat 32 e)) (f l) 0 : EReal)) = f ⟨e, by omega⟩ := by
  rw [Finset.sum_eq_single (⟨e, by omega⟩ : Fin 128)]
  · simp [Scalar.select, IntOp.cmpi]
  · intro l _ hl
    have hne : BitVec.ofNat 32 (l : ℕ) ≠ BitVec.ofNat 32 e := by
      intro h
      have h' := congrArg BitVec.toNat h
      simp only [BitVec.toNat_ofNat] at h'
      exact hl (Fin.ext (by simp only []; omega))
    have hb : (BitVec.ofNat 32 (l : ℕ) == BitVec.ofNat 32 e) = false := beq_eq_false_iff_ne.2 hne
    simp [Scalar.select, IntOp.cmpi, hb]
  · intro h; exact absurd (Finset.mem_univ _) h

/-- The accumulating payload adds one expert's term. -/
theorem pay4_at (i : grid0.Coords) (X ACC : FVec Ideal S512x1024 .f32) (GU : FVec Ideal S1x1024x512 .f32) (DG : FVec Ideal S512x128 .f32) (WD : FVec Ideal S1x256x1024 .f32)
    (X' : FVec Ideal S512x1024 .f32) (D : FVec Ideal S512x128 .f32) (A B : FVec Ideal S16x1024x256 .f32) (W : FVec Ideal S16x256x1024 .f32) (e : Fin 16) (he : (i 1).val = e)
    (hX : ∀ q j, (X (ix2 q j) : EReal) = X' (ix2 q j)) (hD : ∀ q j, (DG (ix2 q j) : EReal) = D (ix2 q j))
    (hA : ∀ (j : Fin 1024) (f : Fin 256), (GU (ix3 0 j ⟨f, by omega⟩) : EReal) = A (ix3 e j f)) (hB : ∀ (j : Fin 1024) (f : Fin 256), (GU (ix3 0 j ⟨256 + f, by omega⟩) : EReal) = B (ix3 e j f))
    (hW : ∀ f k, (WD (ix3 0 f k) : EReal) = W (ix3 e f k)) (q : Fin 512) (k : Fin 1024) :
    (k0_pay4 (F := Ideal) i X GU DG ACC WD (ix2 q k) : EReal) = ACC (ix2 q k) + part X' D A B W q k e := by
  pointwise [k0_pay4]
  refine Ideal.add_congr rfl ?_
  unfold part
  refine Finset.sum_congr rfl fun f _ => ?_
  simp only [hX, hA, hB, hW, he]
  rw [gate e.val e.isLt fun l => DG (ix2 q l)]
  simp only [hD]

/-- The expert of a point is its number. -/
theorem coord : ∀ t : Fin cfg0.N, ((grid0.coords t) 1).val = t.val := (by decide +kernel : ∀ t : Fin grid0.N, _)

/-- The tokens, as launched. -/
abbrev argX (c : Dev nD) : FVec Ideal S512x1024 .f32 := m ((c : Thread nD τ).loc main_arg0)

/-- The gates, as launched. -/
abbrev argD (c : Dev nD) : FVec Ideal S512x128 .f32 := m ((c : Thread nD τ).loc main_arg1)

/-- The gate weights, as launched. -/
abbrev argA (c : Dev nD) : FVec Ideal S16x1024x256 .f32 := m ((c : Thread nD τ).loc main_arg2)

/-- The up weights, as launched. -/
abbrev argB (c : Dev nD) : FVec Ideal S16x1024x256 .f32 := m ((c : Thread nD τ).loc main_arg3)

/-- The down weights, as launched. -/
abbrev argW (c : Dev nD) : FVec Ideal S16x256x1024 .f32 := m ((c : Thread nD τ).loc main_arg4)

/-- The norm's scale, as launched. -/
abbrev argS (c : Dev nD) : FVec Ideal S1024 .f32 := m ((c : Thread nD τ).loc main_arg5)

/-- The norm's shift, as launched. -/
abbrev argG (c : Dev nD) : FVec Ideal S1024 .f32 := m ((c : Thread nD τ).loc main_arg6)

/-- The gate and up weights as the call finds them, joined. -/
theorem w0_eq (c : Dev nD) : V m c main_v0 = concatenate S16x1024x512 2 [⟨S16x1024x256, argA m c⟩, ⟨S16x1024x256, argB m c⟩] concatenates_S16x1024x256_S16x1024x256_S16x1024x512_d2 := by
  unfold V
  simp only [hostOps0, StableHlo.reshape]
  after_results <;> rfl

/-- A parameter of the norm as one row, as the call finds it. -/
theorem w1_eq (c : Dev nD) : V m c main_v1 = shapeCast S1x1024 (argS m c) shapeCasts_S1024_S1x1024 := by
  unfold V
  simp only [hostOps0, StableHlo.reshape]
  after_results <;> rfl

/-- A parameter of the norm as one row, as the call finds it. -/
theorem w2_eq (c : Dev nD) : V m c main_v2 = shapeCast S1x1024 (argG m c) shapeCasts_S1024_S1x1024 := by
  unfold V
  simp only [hostOps0, StableHlo.reshape]
  after_results <;> rfl

/-- The payload at a point's blocks adds that point's expert. -/
theorem step (c : Dev nD) (t : Fin cfg0.N) (X ACC : FVec Ideal S512x1024 .f32) (hX : ∀ q j, (X (ix2 q j) : EReal) = argX m c (ix2 q j)) (e : Fin 16) (he : t.val = e) (q : Fin 512) (k : Fin 1024) :
    (k0_pay4 (F := Ideal) (grid0.coords t) X (iblk m c 2 t) (iblk m c 1 t) ACC (iblk m c 3 t) (ix2 q k) : EReal)
      = ACC (ix2 q k) + part (argX m c) (argD m c) (argA m c) (argB m c) (argW m c) q k e := by
  have ht : t.val < 16 := lt_of_lt_of_eq t.isLt N_0
  have hee : e = ⟨t.val, ht⟩ := Fin.ext he.symm
  subst hee
  refine pay4_at _ _ _ _ _ _ _ _ _ _ _ _ (coord t) hX ?_ ?_ ?_ ?_ q k
  · exact fun q j => by blk_ext [iblk, V, idx t]
  · intro j f
    have e : (iblk m c 2 t (ix3 0 j ⟨f, by omega⟩) : EReal) = V m c main_v0 (ix3 ⟨t.val, ht⟩ j ⟨f, by omega⟩) := by blk_ext [iblk, idx t]
    rw [e, w0_eq]; pointwise
  · intro j f
    have e : (iblk m c 2 t (ix3 0 j ⟨256 + f, by omega⟩) : EReal) = V m c main_v0 (ix3 ⟨t.val, ht⟩ j ⟨256 + f, by omega⟩) := by blk_ext [iblk, idx t]
    rw [e, w0_eq]; pointwise
  · exact fun f k => by blk_ext [iblk, V, idx t]

/-- After the first point the second scratch holds the tokens. -/
theorem copy_first (c : Dev nD) (t : Fin cfg0.N) (h : t.val = 0) (q : Fin 512) (j : Fin 1024) : ((outsAt0 m c t.val t.isLt).2.2 (ix2 q j) : EReal) = argX m c (ix2 q j) := by
  refine Eq.trans (b := k0_pay2 (F := Ideal) (iblk m c 0 t) (ix2 q j)) ?_ ?_
  · rw [outsAt0_A m c t (by omega) (by omega)]; frame_out
  · pointwise [k0_pay2]
    blk_ext [iblk, V, idx t]

/-- After every point the second scratch holds the tokens. -/
theorem copy (c : Dev nD) : ∀ (n : ℕ) (h : n < cfg0.N) (q : Fin 512) (j : Fin 1024), ((outsAt0 m c n h).2.2 (ix2 q j) : EReal) = argX m c (ix2 q j) := by
  intro n
  induction n with
  | zero =>
    intro h q j
    exact copy_first m c ⟨0, h⟩ rfl q j
  | succ n ih =>
    intro h q j
    have hN : n + 1 < 16 := lt_of_lt_of_eq h N_0
    refine Eq.trans ?_ (ih (by omega) q j)
    by_cases h1 : (n + 1) % 16 = 15
    · rw [outsAt0_C m c ⟨n + 1, h⟩ (by simp only []; omega) h1]; rfl
    · rw [outsAt0_B m c ⟨n + 1, h⟩ (by simp only []; omega) h1]; rfl

/-- After the first point the accumulator holds the first expert's terms. -/
theorem accum_first (c : Dev nD) (t : Fin cfg0.N) (h : t.val = 0) (q : Fin 512) (k : Fin 1024) : ((outsAt0 m c t.val t.isLt).2.1 (ix2 q k) : EReal)
    = part (argX m c) (argD m c) (argA m c) (argB m c) (argW m c) q k 0 := by
  refine Eq.trans (b := (k0_pay4 (F := Ideal) (grid0.coords t) (k0_pay2 (iblk m c 0 t)) (iblk m c 2 t) (iblk m c 1 t) (k0_pay3 (F := Ideal)) (iblk m c 3 t) (ix2 q k) : EReal)) ?_ ?_
  · rw [outsAt0_A m c t (by omega) (by omega)]; frame_out
  · rw [step m c t _ _ (fun q j => by pointwise [k0_pay2]; blk_ext [iblk, V, idx t]) 0 h q k]
    have hz : (k0_pay3 (F := Ideal) (ix2 q k) : EReal) = 0 := by pointwise [k0_pay3]
    rw [hz, zero_add]

/-- After a point the accumulator holds the terms of the experts so far. -/
theorem accum (c : Dev nD) : ∀ (n : ℕ) (h : n < cfg0.N) (h' : n < 16) (q : Fin 512) (k : Fin 1024), ((outsAt0 m c n h).2.1 (ix2 q k) : EReal)
    = ∑ e : Fin (n + 1), part (argX m c) (argD m c) (argA m c) (argB m c) (argW m c) q k ⟨e, by omega⟩ := by
  intro n
  induction n with
  | zero =>
    intro h h' q k
    rw [accum_first m c ⟨0, h⟩ rfl q k, Fin.sum_univ_one]
    rfl
  | succ n ih =>
    intro h h' q k
    have hn : n < cfg0.N := by omega
    refine Eq.trans (b := (k0_pay4 (F := Ideal) (grid0.coords ⟨n + 1, h⟩) (outsAt0 m c n hn).2.2 (iblk m c 2 ⟨n + 1, h⟩) (iblk m c 1 ⟨n + 1, h⟩) (outsAt0 m c n hn).2.1 (iblk m c 3 ⟨n + 1, h⟩) (ix2 q k) : EReal)) ?_ ?_
    · by_cases h1 : (n + 1) % 16 = 15
      · rw [outsAt0_C m c ⟨n + 1, h⟩ (by simp only []; omega) h1]; frame_out
        simp only [read_unread_whole]; rfl
      · rw [outsAt0_B m c ⟨n + 1, h⟩ (by simp only []; omega) h1]; frame_out
        simp only [read_unread_whole]; rfl
    · rw [step m c ⟨n + 1, h⟩ _ _ (copy m c n hn) ⟨n + 1, h'⟩ rfl q k, ih hn (by omega) q k]
      exact (Fin.sum_univ_castSucc (fun e : Fin (n + 1 + 1) => part (argX m c) (argD m c) (argA m c) (argB m c) (argW m c) q k ⟨e, by omega⟩)).symm

/-- The reference's result of the launched arguments. -/
def ref (c : Dev nD) : FVec Ideal S512x1024 .f32 :=
  refN (refD (refZ (argX m c) (refY (argX m c) (argD m c) (argA m c) (argB m c) (argW m c)))) (argS m c) (argG m c)

/-- What the last point writes is the reference, where the gates are finite and not negative. -/
theorem point (c : Dev nD) (t : Fin cfg0.N) (h15 : t.val = 15) (h0 : ∀ i j, (0 : EReal) ≤ argD m c (ix2 i j)) (h1 : ∀ i j, (argD m c (ix2 i j) : EReal) ≠ ⊤) (q : Fin 512) (k : Fin 1024) :
    ((outsAt0 m c t.val t.isLt).1 (ix2 q k) : EReal) = ref m c (ix2 q k) := by
  have hs : ((outsAt0 m c t.val t.isLt).1 (ix2 q k) : EReal) = k0_pay1 (iblk m c 0 t) (outsAt0 m c t.val t.isLt).2.1 (iblk m c 4 t) (iblk m c 5 t) (ix2 q k) := by
    rw [outsAt0_C m c t (by omega) (by omega)]; frame_out
  rw [hs, pay1_eq]
  refine normed _ _ _ _ _ _ _ _ (fun j => centred _ _ _ _ (fun j => ?_) j) ?_ ?_ _
  · have hx : (iblk m c 0 t (ix2 q j) : EReal) = argX m c (ix2 q j) := by blk_ext [iblk, V, idx t]
    have hy : ((outsAt0 m c t.val t.isLt).2.1 (ix2 q j) : EReal) = refY (argX m c) (argD m c) (argA m c) (argB m c) (argW m c) (ix2 q j) := by
      rw [accum m c t.val t.isLt (by omega) q j, refY_at _ _ _ _ _ h0 h1]
      obtain ⟨n, hn⟩ := t
      obtain rfl : n = 15 := h15
      rfl
    pointwise [kerZ, refZ]
    exact Ideal.add_congr (Ideal.mul_congr rfl hx) hy
  · intro j
    have e : (iblk m c 4 t (ix2 0 j) : EReal) = V m c main_v1 (ix2 0 j) := by blk_ext [iblk, idx t]
    rw [e, w1_eq]; pointwise
  · intro j
    have e : (iblk m c 5 t (ix2 0 j) : EReal) = V m c main_v2 (ix2 0 j) := by blk_ext [iblk, idx t]
    rw [e, w2_eq]; pointwise

/-- The result after the run is the reference's, where the gates are finite and not negative. -/
theorem final (c : Dev nD) (h0 : ∀ i j, (0 : EReal) ≤ argD m c (ix2 i j)) (h1 : ∀ i j, (argD m c (ix2 i j) : EReal) ≠ ⊤) : (dats m 0 c).arrAt 6 (cfgs 0).N = ref m c := by
  refine (dats m 0 c).arrAt_eq_of_covers 6 _ (by decide +kernel) fun t hf y => ?_
  blk_simp
  have ht : t.val < 16 := lt_of_lt_of_eq t.isLt N_0
  have h15 : t.val = 15 := by have := (flush0_6 t).mp hf; omega
  idx_vars y
  have e : ((cfg0.win 6).blk t).view.emb (ix2 y0 y1) = ix2 y0 y1 := by blk_ext [idx t]
  rw [after0_6, e]
  exact point m c t h15 h0 h1 y0 y1

/-- The precondition says the gates are finite and not negative. -/
theorem gates (X : FVec Ideal S512x1024 .f32) (D : FVec Ideal S512x128 .f32) (A B : FVec Ideal S16x1024x256 .f32) (W : FVec Ideal S16x256x1024 .f32) (S G : FVec Ideal S1024 .f32)
    [Cert.Pre_moe_ok.Facts] (h : Cert.Pre_moe_ok.fn (F := Ideal) X D A B W S G = fun _ => 1#1) (i : Fin 512) (j : Fin 128) : (0 : EReal) ≤ D (ix2 i j) ∧ (D (ix2 i j) : EReal) ≠ ⊤ := by
  have h' := congrFun h ix0
  unfold Cert.Pre_moe_ok.fn at h'
  have h2 := Host.reduce_andi_all _ _ _ _ _ h' (ix2 i j)
  obtain ⟨ha, hb⟩ := IntOp.andi_eq_one.1 h2
  have ha' : Ideal.cmp .oge (D (ix2 i j)) (Ideal.ofBits .f32 0x00000000#32) = 1 := ha
  have hb' : Ideal.cmp .olt (D (ix2 i j)) (Ideal.ofBits .f32 0x7F800000#32) = 1 := hb
  rw [Ideal.cmp_oge_eq_one, Ideal.ofBits_zero_f32] at ha'
  rw [Ideal.cmp_olt_eq_one] at hb'
  exact ⟨ha', ne_top_of_lt hb'⟩

end Cert.MoeIdeal.Value

end
-- ==== Proof.ProjV.lean ====
/- The input projection: each of the three column groups the call writes is the group of the one product `x @ w_in`. -/
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The first column group of the reference's product, padded to 512 columns. -/
def refA (X : FVec Ideal S512x1024 .f32) (W : FVec Ideal S1024x3144 .f32) : FVec Ideal S512x512 .f32 :=
  pad Cert.ProjRefIdeal.S512x512 ![0, 0] ![0, 96] ![0, 0] (extractStridedSlice Cert.ProjRefIdeal.S512x416 ![0, 0] (Host.dotGeneral Cert.ProjRefIdeal.dot_S512x1024_S1024x3144_S512x3144_1_0_0_1_n_n none X W) Cert.ProjRefIdeal.Gen.slices_S512x3144_S512x416_0_0) (sitofp .f32 (constantI Cert.ProjRefIdeal.S_ 32 0#32)) Cert.ProjRefIdeal.Gen.pads_S512x416_S512x512_000_0960 Cert.ProjRefIdeal.Gen.h_S_

/-- The second column group of the reference's product: its heads padded to 128 columns each, the rest to 384. -/
def refB (X : FVec Ideal S512x1024 .f32) (W : FVec Ideal S1024x3144 .f32) : FVec Ideal S512x1920 .f32 :=
  concatenate Cert.ProjRefIdeal.S512x1920 1 [⟨Cert.ProjRefIdeal.S512x1536, (shapeCast _ (pad Cert.ProjRefIdeal.S512x12x128 ![0, 0, 0] ![0, 0, 64] ![0, 0, 0] (shapeCast _ (extractStridedSlice Cert.ProjRefIdeal.S512x768 ![0, 0] (extractStridedSlice Cert.ProjRefIdeal.S512x1064 ![0, 416] (Host.dotGeneral Cert.ProjRefIdeal.dot_S512x1024_S1024x3144_S512x3144_1_0_0_1_n_n none X W) Cert.ProjRefIdeal.Gen.slices_S512x3144_S512x1064_0_416) Cert.ProjRefIdeal.Gen.slices_S512x1064_S512x768_0_0) Cert.ProjRefIdeal.Gen.shapeCasts_S512x768_S512x12x64) (sitofp .f32 (constantI Cert.ProjRefIdeal.S_ 32 0#32)) Cert.ProjRefIdeal.Gen.pads_S512x12x64_S512x12x128_000_000_0640 Cert.ProjRefIdeal.Gen.h_S_) Cert.ProjRefIdeal.Gen.shapeCasts_S512x12x128_S512x1536)⟩, ⟨Cert.ProjRefIdeal.S512x384, (pad Cert.ProjRefIdeal.S512x384 ![0, 0] ![0, 88] ![0, 0] (extractStridedSlice Cert.ProjRefIdeal.S512x296 ![0, 768] (extractStridedSlice Cert.ProjRefIdeal.S512x1064 ![0, 416] (Host.dotGeneral Cert.ProjRefIdeal.dot_S512x1024_S1024x3144_S512x3144_1_0_0_1_n_n none X W) Cert.ProjRefIdeal.Gen.slices_S512x3144_S512x1064_0_416) Cert.ProjRefIdeal.Gen.slices_S512x1064_S512x296_0_768) (sitofp .f32 (constantI Cert.ProjRefIdeal.S_ 32 0#32)) Cert.ProjRefIdeal.Gen.pads_S512x296_S512x384_000_0880 Cert.ProjRefIdeal.Gen.h_S_)⟩] Cert.ProjRefIdeal.Gen.concatenates_S512x1536_S512x384_S512x1920_d1

/-- The third column group of the reference's product. -/
def refC (X : FVec Ideal S512x1024 .f32) (W : FVec Ideal S1024x3144 .f32) : FVec Ideal S512x1664 .f32 :=
  extractStridedSlice Cert.ProjRefIdeal.S512x1664 ![0, 1480] (Host.dotGeneral Cert.ProjRefIdeal.dot_S512x1024_S1024x3144_S512x3144_1_0_0_1_n_n none X W) Cert.ProjRefIdeal.Gen.slices_S512x3144_S512x1664_0_1480

/-- The index maps: a row block of the tokens, the whole of each weight. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The ideal value of the integer zero is zero. -/
theorem sitofp_zero : (FloatOps.sitofp FTy.f32 (0#32) : Ideal .f32) = (0 : EReal) := by
  show ((((0#32 : BitVec 32).toInt : ℤ) : ℝ) : EReal) = 0
  simp

/-- `w_in` as launched. -/
abbrev argW (c : Dev nD) : FVec Ideal S1024x3144 .f32 := m ((c : Thread nD τ).loc main_arg1)

/-- The tokens as launched. -/
abbrev argX (c : Dev nD) : FVec Ideal S512x1024 .f32 := m ((c : Thread nD τ).loc main_arg0)

/-- One 256-column group of the second segment of `w_in`, as four heads of 64 columns padded to 128. -/
def heads (o : ℕ) (h : S1024x1064.Slices ![0, o] S1024x256) (W : FVec Ideal S1024x3144 .f32) : FVec Ideal S1024x512 .f32 :=
  shapeCast S1024x512 (pad S1024x4x128 ![0, 0, 0] ![0, 0, 64] ![0, 0, 0] (shapeCast S1024x4x64 (extractStridedSlice S1024x256 ![0, o] (extractStridedSlice S1024x1064 ![0, 416] W slices_S1024x3144_S1024x1064_0_416) h) shapeCasts_S1024x256_S1024x4x64) (sitofp .f32 (constantI S_ 32 0#32)) pads_S1024x4x64_S1024x4x128_000_000_0640 h_S_) shapeCasts_S1024x4x128_S1024x512

/-- The first weight as the call finds it. -/
theorem wA_eq (c : Dev nD) : V m c main_v19 = pad S1024x512 ![0, 0] ![0, 96] ![0, 0] (extractStridedSlice S1024x416 ![0, 0] (argW m c) slices_S1024x3144_S1024x416_0_0) (sitofp .f32 (constantI S_ 32 0#32)) pads_S1024x416_S1024x512_000_0960 h_S_ := by
  unfold V
  simp only [hostOps0, hostOps0_1, hostOps0_2, hostOps0_3, hostOps0_4, hostOps0_5, hostOps0_6, hostOps0_7, hostOps0_8, hostOps0_9, List.flatten_cons, List.flatten_nil, List.cons_append, List.nil_append, List.append_nil, StableHlo.TRef.binary, StableHlo.TRef.unary, StableHlo.TRef.toBuf, StableHlo.TRef.ofBuf, cast_eq]
  after_results <;> rfl

/-- The third weight as the call finds it: the last columns of `w_in`. -/
theorem wC_eq (c : Dev nD) : V m c main_v2 = extractStridedSlice S1024x1664 ![0, 1480] (argW m c) slices_S1024x3144_S1024x1664_0_1480 := by
  unfold V
  simp only [hostOps0, hostOps0_1, hostOps0_2, hostOps0_3, hostOps0_4, hostOps0_5, hostOps0_6, hostOps0_7, hostOps0_8, hostOps0_9, List.flatten_cons, List.flatten_nil, List.cons_append, List.nil_append, List.append_nil, StableHlo.TRef.binary, StableHlo.TRef.unary, StableHlo.TRef.toBuf, StableHlo.TRef.ofBuf, cast_eq]
  after_results <;> rfl

/-- The second weight as the call finds it. -/
theorem wB_eq (c : Dev nD) : V m c main_v18 = concatenate S1024x1920 1 [⟨S1024x512, heads 0 slices_S1024x1064_S1024x256_0_0 (argW m c)⟩, ⟨S1024x512, heads 256 slices_S1024x1064_S1024x256_0_256 (argW m c)⟩, ⟨S1024x512, heads 512 slices_S1024x1064_S1024x256_0_512 (argW m c)⟩,
      ⟨S1024x256, extractStridedSlice S1024x256 ![0, 768] (extractStridedSlice S1024x1064 ![0, 416] (argW m c) slices_S1024x3144_S1024x1064_0_416) slices_S1024x1064_S1024x256_0_768⟩,
      ⟨S1024x128, pad S1024x128 ![0, 0] ![0, 88] ![0, 0] (extractStridedSlice S1024x40 ![0, 1024] (extractStridedSlice S1024x1064 ![0, 416] (argW m c) slices_S1024x3144_S1024x1064_0_416) slices_S1024x1064_S1024x40_0_1024) (sitofp .f32 (constantI S_ 32 0#32)) pads_S1024x40_S1024x128_000_0880 h_S_⟩]
      concatenates_S1024x512_S1024x512_S1024x512_S1024x256_S1024x128_S1024x1920_d1 := by
  unfold V
  simp only [hostOps0, hostOps0_1, hostOps0_2, hostOps0_3, hostOps0_4, hostOps0_5, hostOps0_6, hostOps0_7, hostOps0_8, hostOps0_9, List.flatten_cons, List.flatten_nil, List.cons_append, List.nil_append, List.append_nil, StableHlo.TRef.binary, StableHlo.TRef.unary, StableHlo.TRef.toBuf, StableHlo.TRef.ofBuf, cast_eq]
  after_results <;> rfl

/-- The first weight the call reads is the first 416 columns of `w_in`, padded with zeros. -/
theorem wA_at (c : Dev nD) (k : Fin 1024) (b : Fin 512) : (show EReal from V m c main_v19 (ix2 k b))
    = if h : (b : ℕ) < 416 then (argW m c (ix2 k ⟨b, by omega⟩)) else 0 := by
  rw [wA_eq]
  pointwise [sitofp_zero]

/-- The second weight the call reads: twelve heads of 64 columns, each padded to 128, then 296 columns padded to 384. -/
theorem wB_at (c : Dev nD) (k : Fin 1024) (b : Fin 1920) : (show EReal from V m c main_v18 (ix2 k b))
    = if h : (b : ℕ) < 1536 then (if h' : (b : ℕ) % 128 < 64 then (argW m c (ix2 k ⟨416 + (b / 128 * 64 + b % 128), by omega⟩)) else 0)
      else if h' : (b : ℕ) < 1832 then (argW m c (ix2 k ⟨b - 1536 + 1184, by omega⟩)) else 0 := by
  rw [wB_eq]
  pointwise [heads, sitofp_zero]
  (repeat' split) <;> first | rfl | (exfalso; omega) | (refine congrArg (fun z => argW m c (ix2 k z)) (Fin.ext ?_); simp only []; omega)

/-- The third weight the call reads is the last columns of `w_in`. -/
theorem wC_at (c : Dev nD) (k : Fin 1024) (b : Fin 1664) : (show EReal from V m c main_v2 (ix2 k b))
    = argW m c (ix2 k ⟨1480 + b, by omega⟩) := by
  rw [wC_eq]
  pointwise

/-- What a point writes of group A is the reference's group there. -/
theorem pointA (c : Dev nD) (t : Fin cfg0.N) (y) : k0_pay1 (iblk m c 0 t) (iblk m c 1 t) y
    = refA (argX m c) (argW m c) (((cfg0.win 4).blk t).view.emb y) := by
  have ht : t.val < 4 := lt_of_lt_of_eq t.isLt N_0
  idx_vars y
  have e : ((cfg0.win 4).blk t).view.emb (ix2 y0 y1) = ix2 ⟨t.val * 128 + y0, by omega⟩ y1 := by blk_ext [idx t]
  rw [e]
  pointwise [k0_pay1, refA]
  have hw : ∀ k : Fin 1024, (show EReal from iblk m c 1 t (ix2 k y1)) = V m c main_v19 (ix2 k y1) := fun k => by
    blk_ext [iblk, idx t]
  have hx : ∀ k : Fin 1024, (show EReal from iblk m c 0 t (ix2 y0 k)) = argX m c (ix2 ⟨t.val * 128 + y0, by omega⟩ k) := fun k => by
    blk_ext [iblk, V, idx t]
  have h0 : (t.val * 128 + (y0 : ℕ)) < 512 := by omega
  refine (Finset.sum_congr rfl fun k _ => Ideal.mul_congr (hx k) ((hw k).trans (wA_at m c k y1))).trans ?_
  by_cases h : (y1 : ℕ) < 416
  · simp only [dif_pos h, dif_pos (And.intro h0 h)]
  · simp only [dif_neg h, dif_neg (fun h' : _ ∧ _ => h h'.2), mul_zero, Finset.sum_const_zero, sitofp_zero]

/-- Group A after the run is the reference's. -/
theorem finalA (c : Dev nD) : (dats m 0 c).arrAt 4 (cfgs 0).N = refA (argX m c) (argW m c) := by
  refine (dats m 0 c).arrAt_eq_of_covers 4 _ (by decide +kernel) fun t _ y => ?_
  blk_simp
  rw [after0_4]; frame_out
  exact pointA m c t y

/-- What a point writes of group B is the reference's group there. -/
theorem pointB (c : Dev nD) (t : Fin cfg0.N) (y) : k0_pay2 (iblk m c 0 t) (iblk m c 2 t) y
    = refB (argX m c) (argW m c) (((cfg0.win 5).blk t).view.emb y) := by
  have ht : t.val < 4 := lt_of_lt_of_eq t.isLt N_0
  idx_vars y
  have e : ((cfg0.win 5).blk t).view.emb (ix2 y0 y1) = ix2 ⟨t.val * 128 + y0, by omega⟩ y1 := by blk_ext [idx t]
  rw [e]
  pointwise [k0_pay2, refB]
  have hw : ∀ k : Fin 1024, (show EReal from iblk m c 2 t (ix2 k y1)) = V m c main_v18 (ix2 k y1) := fun k => by
    blk_ext [iblk, idx t]
  have hx : ∀ k : Fin 1024, (show EReal from iblk m c 0 t (ix2 y0 k)) = argX m c (ix2 ⟨t.val * 128 + y0, by omega⟩ k) := fun k => by
    blk_ext [iblk, V, idx t]
  have h0 : (t.val * 128 + (y0 : ℕ)) < 512 := by omega
  refine (Finset.sum_congr rfl fun k _ => Ideal.mul_congr (hx k) ((hw k).trans (wB_at m c k y1))).trans ?_
  by_cases h : (y1 : ℕ) < 1536
  · have hd : (y1 : ℕ) / 128 < 12 := by omega
    by_cases h' : (y1 : ℕ) % 128 < 64
    · simp only [dif_pos h, dif_pos h', dif_pos (And.intro h0 (And.intro hd h'))]
    · simp only [dif_pos h, dif_neg h', dif_neg (fun q : _ ∧ _ ∧ _ => h' q.2.2), mul_zero, Finset.sum_const_zero, sitofp_zero]
  · by_cases h' : (y1 : ℕ) < 1832
    · have h2 : (y1 : ℕ) - 1536 < 296 := by omega
      simp only [dif_neg h, dif_pos h', dif_pos (And.intro h0 h2)]
      refine Finset.sum_congr rfl fun k _ => congrArg (fun z => _ * argW m c (ix2 k z)) (Fin.ext ?_)
      simp only []; omega
    · have h2 : ¬ (y1 : ℕ) - 1536 < 296 := by omega
      simp only [dif_neg h, dif_neg h', dif_neg (fun q : _ ∧ _ => h2 q.2), mul_zero, Finset.sum_const_zero, sitofp_zero]

/-- Group B after the run is the reference's. -/
theorem finalB (c : Dev nD) : (dats m 0 c).arrAt 5 (cfgs 0).N = refB (argX m c) (argW m c) := by
  refine (dats m 0 c).arrAt_eq_of_covers 5 _ (by decide +kernel) fun t _ y => ?_
  blk_simp
  rw [after0_5]; frame_out
  exact pointB m c t y

/-- What a point writes of group C is the reference's group there. -/
theorem pointC (c : Dev nD) (t : Fin cfg0.N) (y) : k0_pay3 (iblk m c 0 t) (iblk m c 3 t) y
    = refC (argX m c) (argW m c) (((cfg0.win 6).blk t).view.emb y) := by
  have ht : t.val < 4 := lt_of_lt_of_eq t.isLt N_0
  idx_vars y
  have e : ((cfg0.win 6).blk t).view.emb (ix2 y0 y1) = ix2 ⟨t.val * 128 + y0, by omega⟩ y1 := by blk_ext [idx t]
  rw [e]
  pointwise [k0_pay3, refC]
  have hw : ∀ k : Fin 1024, (show EReal from iblk m c 3 t (ix2 k y1)) = V m c main_v2 (ix2 k y1) := fun k => by
    blk_ext [iblk, idx t]
  have hx : ∀ k : Fin 1024, (show EReal from iblk m c 0 t (ix2 y0 k)) = argX m c (ix2 ⟨t.val * 128 + y0, by omega⟩ k) := fun k => by
    blk_ext [iblk, V, idx t]
  have h0 : (t.val * 128 + (y0 : ℕ)) < 512 := by omega
  refine (Finset.sum_congr rfl fun k _ => Ideal.mul_congr (hx k) ((hw k).trans (wC_at m c k y1))).trans ?_
  rfl

/-- Group C after the run is the reference's. -/
theorem finalC (c : Dev nD) : (dats m 0 c).arrAt 6 (cfgs 0).N = refC (argX m c) (argW m c) := by
  refine (dats m 0 c).arrAt_eq_of_covers 6 _ (by decide +kernel) fun t _ y => ?_
  blk_simp
  rw [after0_6]; frame_out
  exact pointC m c t y

end Cert.ProjIdeal.Value
-- ==== Proof.OutV.lean ====
/- The output projection and its layer norm: each row block is the reference's rows there. -/
module

public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- What the reference normalizes: the scaled residual and the product of the joined heads with the weight. -/
def refZ (A B : FVec Ideal S512x256 .f32) (C : FVec Ideal S512x512 .f32) (X : FVec Ideal S512x1024 .f32) (W : FVec Ideal S1024x1024 .f32) : FVec Ideal S512x1024 .f32 :=
  addf (mulf (broadcastInDim Cert.OutRefIdeal.S512x1024 ![] Cert.OutRefIdeal.Gen.bcast_S_S512x1024 (constant Cert.OutRefIdeal.S_ .f32 0x3FD744FD#32)) X) (Host.dotGeneral Cert.OutRefIdeal.dot_S512x1024_S1024x1024_S512x1024_1_0_0_1_n_n none (concatenate Cert.OutRefIdeal.S512x1024 1 [⟨Cert.OutRefIdeal.S512x256, A⟩, ⟨Cert.OutRefIdeal.S512x256, B⟩, ⟨Cert.OutRefIdeal.S512x512, C⟩] Cert.OutRefIdeal.Gen.concatenates_S512x256_S512x256_S512x512_S512x1024_d1) W)

/-- An array less its row means, as the reference computes it. -/
def refD (Z : FVec Ideal S512x1024 .f32) : FVec Ideal S512x1024 .f32 :=
  subf Z (broadcastInDim Cert.OutRefIdeal.S512x1024 ![0, 1] Cert.OutRefIdeal.Gen.bcast_S512x1_S512x1024_0_1 (Host.divf (broadcastInDim Cert.OutRefIdeal.S512x1 ![0] Cert.OutRefIdeal.Gen.bcast_S512_S512x1_0 (Host.reduceAdd Z (constant Cert.OutRefIdeal.S_ .f32 0x00000000#32) Cert.OutRefIdeal.Gen.reducesTo_S512x1024_S512_d1 Cert.OutRefIdeal.Gen.h_S_)) (broadcastInDim Cert.OutRefIdeal.S512x1 ![] Cert.OutRefIdeal.Gen.bcast_S_S512x1 (constant Cert.OutRefIdeal.S_ .f32 0x44800000#32))))

/-- The layer norm of centred rows `D`, as the reference computes it. -/
def refN (D : FVec Ideal S512x1024 .f32) (S B : FVec Ideal S1024 .f32) : FVec Ideal S512x1024 .f32 :=
  addf (mulf (mulf D (broadcastInDim Cert.OutRefIdeal.S512x1024 ![0, 1] Cert.OutRefIdeal.Gen.bcast_S512x1_S512x1024_0_1 (Host.rsqrt (addf (Host.divf (broadcastInDim Cert.OutRefIdeal.S512x1 ![0] Cert.OutRefIdeal.Gen.bcast_S512_S512x1_0 (Host.reduceAdd (mulf D D) (constant Cert.OutRefIdeal.S_ .f32 0x00000000#32) Cert.OutRefIdeal.Gen.reducesTo_S512x1024_S512_d1 Cert.OutRefIdeal.Gen.h_S_)) (broadcastInDim Cert.OutRefIdeal.S512x1 ![] Cert.OutRefIdeal.Gen.bcast_S_S512x1 (constant Cert.OutRefIdeal.S_ .f32 0x44800000#32))) (broadcastInDim Cert.OutRefIdeal.S512x1 ![] Cert.OutRefIdeal.Gen.bcast_S_S512x1 (constant Cert.OutRefIdeal.S_ .f32 0x3727C5AC#32)))))) (broadcastInDim Cert.OutRefIdeal.S512x1024 ![0, 1] Cert.OutRefIdeal.Gen.bcast_S1x1024_S512x1024_0_1 (broadcastInDim Cert.OutRefIdeal.S1x1024 ![1] Cert.OutRefIdeal.Gen.bcast_S1024_S1x1024_1 S))) (broadcastInDim Cert.OutRefIdeal.S512x1024 ![0, 1] Cert.OutRefIdeal.Gen.bcast_S1x1024_S512x1024_0_1 (broadcastInDim Cert.OutRefIdeal.S1x1024 ![1] Cert.OutRefIdeal.Gen.bcast_S1024_S1x1024_1 B))

/-- What the kernel normalizes, of its blocks. -/
def kerZ (P0 : FVec Ideal S128x256 .f32) (P1 : FVec Ideal S256x1024 .f32) (P2 : FVec Ideal S128x256 .f32) (P3 : FVec Ideal S256x1024 .f32) (P4 : FVec Ideal S128x512 .f32) (P5 : FVec Ideal S512x1024 .f32) (P6 : FVec Ideal S128x1024 .f32) : FVec Ideal S128x1024 .f32 :=
  addf (mulf (broadcast S128x1024 (Scalar.ofBits .f32 0x3FD744FD#32 : Ideal .f32)) P6) (addf (addf (matmul dot_S128x256_S256x1024_S128x1024_1_0_0_1_n_n (some .fp32) P0 (shapeCast S256x1024 P1 shapeCasts_S256x1024_S256x1024) (constant S128x1024 .f32 0x00000000#32)) (matmul dot_S128x256_S256x1024_S128x1024_1_0_0_1_n_n (some .fp32) P2 (shapeCast S256x1024 P3 shapeCasts_S256x1024_S256x1024) (constant S128x1024 .f32 0x00000000#32))) (matmul dot_S128x512_S512x1024_S128x1024_1_0_0_1_n_n (some .fp32) P4 (shapeCast S512x1024 P5 shapeCasts_S512x1024_S512x1024) (constant S128x1024 .f32 0x00000000#32)))

/-- An array less its row means, as the kernel computes it. -/
def kerD (Z : FVec Ideal S128x1024 .f32) : FVec Ideal S128x1024 .f32 :=
  subf Z (broadcastTo S128x1024 (divf (shapeCast S128x1 (multiReduction .add [1] S128 Z 0x00000000#32 reduces_S128x1024_S128 (.inl rfl) rfl) shapeCasts_S128_S128x1) (broadcast S128x1 (Scalar.ofBits .f32 0x44800000#32 : Ideal .f32))) broadcasts_S128x1_S128x1024)

/-- The mean of the squares of each row, as the kernel computes it. -/
def kerV (D : FVec Ideal S128x1024 .f32) : FVec Ideal S128x1 .f32 :=
  divf (shapeCast S128x1 (multiReduction .add [1] S128 (mulf D D) 0x00000000#32 reduces_S128x1024_S128 (.inl rfl) rfl) shapeCasts_S128_S128x1) (broadcast S128x1 (Scalar.ofBits .f32 0x44800000#32 : Ideal .f32))

/-- Centring a row is the same on both sides, where the rows agree. -/
theorem centred (Z : FVec Ideal S128x1024 .f32) (Z' : FVec Ideal S512x1024 .f32) (r : Fin 128) (q : Fin 512)
    (h : ∀ j, (Z (ix2 r j) : EReal) = Z' (ix2 q j)) (k : Fin 1024) : (kerD Z (ix2 r k) : EReal) = refD Z' (ix2 q k) := by
  pointwise [kerD, refD]
  simp only [h]

/-- The layer norm of a row is the same on both sides, where the centred rows and the parameters agree. -/
theorem normed (D : FVec Ideal S128x1024 .f32) (D' : FVec Ideal S512x1024 .f32) (s b : FVec Ideal S1x1024 .f32) (s' b' : FVec Ideal S1024 .f32) (r : Fin 128) (q : Fin 512)
    (h : ∀ j, (D (ix2 r j) : EReal) = D' (ix2 q j)) (hs : ∀ j : Fin 1024, (s (ix2 0 j) : EReal) = s' (ix1 j)) (hb : ∀ j : Fin 1024, (b (ix2 0 j) : EReal) = b' (ix1 j)) (k : Fin 1024) :
    (k0_pay1 (k0_pay2 s) (k0_pay3 b) D (kerV D) (ix2 r k) : EReal) = refN D' s' b' (ix2 q k) := by
  pointwise [k0_pay1, k0_pay2, k0_pay3, kerV, refN]
  simp only [h, hs, hb]

/-- A sum over 1024 as its first 256 terms, the next 256 and the last 512. -/
theorem sum_three (f : Fin 1024 → EReal) : ∑ x, f x = (∑ x : Fin 256, f ⟨x, by omega⟩ + ∑ x : Fin 256, f ⟨256 + x, by omega⟩) + ∑ x : Fin 512, f ⟨512 + x, by omega⟩ := by
  refine (Fin.sum_univ_add (a := 512) (b := 512) f).trans (Ideal.add_congr ?_ rfl)
  exact Fin.sum_univ_add (a := 256) (b := 256) fun i => f (Fin.castAdd 512 i)

/-- The products of a row: the three parts of the joined axis sum to the whole. -/
theorem summed (P0 : FVec Ideal S128x256 .f32) (P1 : FVec Ideal S256x1024 .f32) (P2 : FVec Ideal S128x256 .f32) (P3 : FVec Ideal S256x1024 .f32) (P4 : FVec Ideal S128x512 .f32) (P5 : FVec Ideal S512x1024 .f32) (P6 : FVec Ideal S128x1024 .f32)
    (A B : FVec Ideal S512x256 .f32) (C : FVec Ideal S512x512 .f32) (X : FVec Ideal S512x1024 .f32) (W : FVec Ideal S1024x1024 .f32) (r : Fin 128) (q : Fin 512)
    (h0 : ∀ j, (P0 (ix2 r j) : EReal) = A (ix2 q j)) (h2 : ∀ j, (P2 (ix2 r j) : EReal) = B (ix2 q j)) (h4 : ∀ j, (P4 (ix2 r j) : EReal) = C (ix2 q j)) (h6 : ∀ j, (P6 (ix2 r j) : EReal) = X (ix2 q j))
    (h1 : ∀ (i : Fin 256) (j : Fin 1024), (P1 (ix2 i j) : EReal) = W (ix2 ⟨i, by omega⟩ j)) (h3 : ∀ (i : Fin 256) (j : Fin 1024), (P3 (ix2 i j) : EReal) = W (ix2 ⟨256 + i, by omega⟩ j)) (h5 : ∀ (i : Fin 512) (j : Fin 1024), (P5 (ix2 i j) : EReal) = W (ix2 ⟨512 + i, by omega⟩ j))
    (k : Fin 1024) : (kerZ P0 P1 P2 P3 P4 P5 P6 (ix2 r k) : EReal) = refZ A B C X W (ix2 q k) := by
  pointwise [kerZ, refZ]
  simp only [h0, h1, h2, h3, h4, h5, h6]
  rw [sum_three]
  refine Ideal.add_congr rfl (Ideal.add_congr (Ideal.add_congr ?_ ?_) ?_)
  · refine Finset.sum_congr rfl fun x _ => ?_
    rw [dif_pos (show ((⟨x, by omega⟩ : Fin 1024) : ℕ) < 256 from x.isLt)]
  · refine Finset.sum_congr rfl fun x _ => ?_
    have a : ¬ ((⟨256 + x, by omega⟩ : Fin 1024) : ℕ) < 256 := by simp only []; omega
    have b : ((⟨256 + x, by omega⟩ : Fin 1024) : ℕ) - 256 < 256 := by simp only []; omega
    rw [dif_neg a, dif_pos b]
    refine congrArg (fun z => (B (ix2 q z) : EReal) * _) (Fin.ext ?_)
    simp only []; omega
  · refine Finset.sum_congr rfl fun x _ => ?_
    have a : ¬ ((⟨512 + x, by omega⟩ : Fin 1024) : ℕ) < 256 := by simp only []; omega
    have b : ¬ ((⟨512 + x, by omega⟩ : Fin 1024) : ℕ) - 256 < 256 := by simp only []; omega
    rw [dif_neg a, dif_neg b]
    refine congrArg (fun z => (C (ix2 q z) : EReal) * _) (Fin.ext ?_)
    simp only []; omega

/-- The index maps: a row block of the tokens, the whole of each weight. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- The first heads, as launched. -/
abbrev argA (c : Dev nD) : FVec Ideal S512x256 .f32 := m ((c : Thread nD τ).loc main_arg0)

/-- The second heads, as launched. -/
abbrev argB (c : Dev nD) : FVec Ideal S512x256 .f32 := m ((c : Thread nD τ).loc main_arg1)

/-- The third heads, as launched. -/
abbrev argC (c : Dev nD) : FVec Ideal S512x512 .f32 := m ((c : Thread nD τ).loc main_arg2)

/-- The residual, as launched. -/
abbrev argX (c : Dev nD) : FVec Ideal S512x1024 .f32 := m ((c : Thread nD τ).loc main_arg3)

/-- The weight, as launched. -/
abbrev argW (c : Dev nD) : FVec Ideal S1024x1024 .f32 := m ((c : Thread nD τ).loc main_arg4)

/-- The norm's scale, as launched. -/
abbrev argS (c : Dev nD) : FVec Ideal S1024 .f32 := m ((c : Thread nD τ).loc main_arg5)

/-- The norm's shift, as launched. -/
abbrev argG (c : Dev nD) : FVec Ideal S1024 .f32 := m ((c : Thread nD τ).loc main_arg6)

/-- The reference's result of the launched arguments. -/
def ref (c : Dev nD) : FVec Ideal S512x1024 .f32 :=
  refN (refD (refZ (argA m c) (argB m c) (argC m c) (argX m c) (argW m c))) (argS m c) (argG m c)

/-- The reference's printed result, named. -/
theorem ref_eq (m' : (ℓ : Loc Cert.OutRefIdeal.nD Cert.OutRefIdeal.τ Cert.OutRefIdeal.sig) → Buf (Elt Ideal) ℓ) (c : Dev Cert.OutRefIdeal.nD) :
    Cert.OutRefIdeal.Value.res_main_v28 m' c = refN (refD (refZ (m' ((c.tc : Thread Cert.OutRefIdeal.nD Cert.OutRefIdeal.τ).loc Cert.OutRefIdeal.main_arg0))
      (m' ((c.tc : Thread Cert.OutRefIdeal.nD Cert.OutRefIdeal.τ).loc Cert.OutRefIdeal.main_arg1))
      (m' ((c.tc : Thread Cert.OutRefIdeal.nD Cert.OutRefIdeal.τ).loc Cert.OutRefIdeal.main_arg2))
      (m' ((c.tc : Thread Cert.OutRefIdeal.nD Cert.OutRefIdeal.τ).loc Cert.OutRefIdeal.main_arg3))
      (m' ((c.tc : Thread Cert.OutRefIdeal.nD Cert.OutRefIdeal.τ).loc Cert.OutRefIdeal.main_arg4))))
      (m' ((c.tc : Thread Cert.OutRefIdeal.nD Cert.OutRefIdeal.τ).loc Cert.OutRefIdeal.main_arg5))
      (m' ((c.tc : Thread Cert.OutRefIdeal.nD Cert.OutRefIdeal.τ).loc Cert.OutRefIdeal.main_arg6)) := rfl

/-- The first rows of the weight, as the call finds them. -/
theorem w0_eq (c : Dev nD) : V m c main_v0 = extractStridedSlice S256x1024 ![0, 0] (argW m c) slices_S1024x1024_S256x1024_0_0 := by
  unfold V
  simp only [hostOps0, StableHlo.reshape]
  after_results <;> rfl

/-- The second rows of the weight, as the call finds them. -/
theorem w1_eq (c : Dev nD) : V m c main_v1 = extractStridedSlice S256x1024 ![256, 0] (argW m c) slices_S1024x1024_S256x1024_256_0 := by
  unfold V
  simp only [hostOps0, StableHlo.reshape]
  after_results <;> rfl

/-- The third rows of the weight, as the call finds them. -/
theorem w2_eq (c : Dev nD) : V m c main_v2 = extractStridedSlice S512x1024 ![512, 0] (argW m c) slices_S1024x1024_S512x1024_512_0 := by
  unfold V
  simp only [hostOps0, StableHlo.reshape]
  after_results <;> rfl

/-- A parameter of the norm as one row, as the call finds it. -/
theorem w3_eq (c : Dev nD) : V m c main_v3 = shapeCast S1x1024 (argS m c) shapeCasts_S1024_S1x1024 := by
  unfold V
  simp only [hostOps0, StableHlo.reshape]
  after_results <;> rfl

/-- A parameter of the norm as one row, as the call finds it. -/
theorem w4_eq (c : Dev nD) : V m c main_v4 = shapeCast S1x1024 (argG m c) shapeCasts_S1024_S1x1024 := by
  unfold V
  simp only [hostOps0, StableHlo.reshape]
  after_results <;> rfl

/-- What a point writes is the reference there. -/
theorem point (c : Dev nD) (t : Fin cfg0.N) (y) :
    k0_pay1 (k0_pay2 (iblk m c 7 t)) (k0_pay3 (iblk m c 8 t)) (kerD (kerZ (iblk m c 0 t) (iblk m c 4 t) (iblk m c 1 t) (iblk m c 5 t) (iblk m c 2 t) (iblk m c 6 t) (iblk m c 3 t))) (kerV (kerD (kerZ (iblk m c 0 t) (iblk m c 4 t) (iblk m c 1 t) (iblk m c 5 t) (iblk m c 2 t) (iblk m c 6 t) (iblk m c 3 t)))) y
    = ref m c (((cfg0.win 9).blk t).view.emb y) := by
  have ht : t.val < 4 := lt_of_lt_of_eq t.isLt N_0
  idx_vars y
  have e : ((cfg0.win 9).blk t).view.emb (ix2 y0 y1) = ix2 ⟨t.val * 128 + y0, by omega⟩ y1 := by blk_ext [idx t]
  rw [e]
  refine normed _ _ _ _ _ _ _ _ (fun j => centred _ _ _ _ (fun j => summed _ _ _ _ _ _ _ _ _ _ _ _ _ _ ?_ ?_ ?_ ?_ ?_ ?_ ?_ j) j) ?_ ?_ _
  · exact fun j => by blk_ext [iblk, V, idx t]
  · exact fun j => by blk_ext [iblk, V, idx t]
  · exact fun j => by blk_ext [iblk, V, idx t]
  · exact fun j => by blk_ext [iblk, V, idx t]
  · intro i j
    have e : (iblk m c 4 t (ix2 i j) : EReal) = V m c main_v0 (ix2 i j) := by blk_ext [iblk, idx t]
    rw [e, w0_eq]; pointwise
  · intro i j
    have e : (iblk m c 5 t (ix2 i j) : EReal) = V m c main_v1 (ix2 i j) := by blk_ext [iblk, idx t]
    rw [e, w1_eq]; pointwise
  · intro i j
    have e : (iblk m c 6 t (ix2 i j) : EReal) = V m c main_v2 (ix2 i j) := by blk_ext [iblk, idx t]
    rw [e, w2_eq]; pointwise
  · intro j
    have e : (iblk m c 7 t (ix2 0 j) : EReal) = V m c main_v3 (ix2 0 j) := by blk_ext [iblk, idx t]
    rw [e, w3_eq]; pointwise
  · intro j
    have e : (iblk m c 8 t (ix2 0 j) : EReal) = V m c main_v4 (ix2 0 j) := by blk_ext [iblk, idx t]
    rw [e, w4_eq]; pointwise

/-- The result after the run is the reference's. -/
theorem final (c : Dev nD) : (dats m 0 c).arrAt 9 (cfgs 0).N = ref m c := by
  refine (dats m 0 c).arrAt_eq_of_covers 9 _ (by decide +kernel) fun t _ y => ?_
  blk_simp
  rw [after0_9]; frame_out
  exact point m c t y

end Cert.OutIdeal.Value

end
-- ==== Proof.PrepT.lean ====
/- The preparation of the latent attention, the arrays the call reads: the tables of the rotation and the padded weights, at an index. -/
module

public import proofs.«01_k».proof.Proof.Gen.PrepIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen

variable (m : (ℓ : Loc nD τ sig) → Buf (Elt Ideal) ℓ)

/-- The run: every result array as the grid points left it, every argument as launched. -/
theorem run_blocks (g : Dev nD → PrngReg) : θ_run defs (onTc (τ := τ) (main (F := Ideal))) ⟨m, fun _ => 0, g⟩ fun r => ∀ c : Dev nD,
    r.2.mem ((c : Thread nD τ).loc main_v67_0) = (dats m 0 c).arrAt 8 cfg0.N
    ∧ r.2.mem ((c : Thread nD τ).loc main_v67_1) = (dats m 0 c).arrAt 9 cfg0.N
    ∧ r.2.mem ((c : Thread nD τ).loc main_v67_2) = (dats m 0 c).arrAt 10 cfg0.N
    ∧ r.2.mem ((c : Thread nD τ).loc main_v67_3) = (dats m 0 c).arrAt 11 cfg0.N
    ∧ r.2.mem ((c : Thread nD τ).loc main_v67_4) = (dats m 0 c).arrAt 12 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h.1 c).1 8, (h.1 c).1 9, (h.1 c).1 10, (h.1 c).1 11, (h.1 c).1 12, h.2 c⟩) (θ_run_and (run_main m g) (unchanged m g))

/-- Argument 0 as launched. -/
abbrev arg0 (c : Dev nD) : FVec Ideal S16x32x512 .f32 := m ((c : Thread nD τ).loc main_arg0)

/-- Argument 1 as launched. -/
abbrev arg1 (c : Dev nD) : FVec Ideal S256 .f32 := m ((c : Thread nD τ).loc main_arg1)

/-- Argument 2 as launched. -/
abbrev arg2 (c : Dev nD) : FVec Ideal S128 .f32 := m ((c : Thread nD τ).loc main_arg2)

/-- Argument 3 as launched. -/
abbrev arg3 (c : Dev nD) : FVec Ideal S256x384 .f32 := m ((c : Thread nD τ).loc main_arg3)

/-- Argument 4 as launched. -/
abbrev arg4 (c : Dev nD) : FVec Ideal S128x512 .f32 := m ((c : Thread nD τ).loc main_arg4)

/-- The angles: position times frequency. -/
def angA : FVec Ideal S32x16 .f32 := (mulf (broadcastInDim S32x16 ![0, 1] bcast_S32x1_S32x16_0_1 (broadcastInDim S32x1 ![0] bcast_S32_S32x1_0 (sitofp .f32 (addi (broadcastInDim S32 ![] bcast_S_S32 ((constantI S_ 32 4096#32))) ((iotaInDim S32 32 0)))))) (broadcastInDim S32x16 ![0, 1] bcast_S1x16_S32x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- Row 0 of the table of the queries. -/
def tabQ0 : FVec Ideal S32x128 .f32 := (concatenate S32x128 1 [⟨S32x64, (broadcastInDim S32x64 ![] bcast_S_S32x64 ((constant S_ .f32 0x3F800000#32)))⟩, ⟨S32x16, (Host.cos angA)⟩, ⟨S32x16, (Host.cos angA)⟩, ⟨S32x32, (broadcastInDim S32x32 ![] bcast_S_S32x32 ((constant S_ .f32 0x00000000#32)))⟩] concatenates_S32x64_S32x16_S32x16_S32x32_S32x128_d1)

/-- Row 1 of the table of the queries. -/
def tabQ1 : FVec Ideal S32x128 .f32 := (concatenate S32x128 1 [⟨S32x64, (broadcastInDim S32x64 ![] bcast_S_S32x64 ((constant S_ .f32 0x00000000#32)))⟩, ⟨S32x16, (Host.negf (Host.sin angA))⟩, ⟨S32x16, (broadcastInDim S32x16 ![] bcast_S_S32x16 ((constant S_ .f32 0x00000000#32)))⟩, ⟨S32x32, (broadcastInDim S32x32 ![] bcast_S_S32x32 ((constant S_ .f32 0x00000000#32)))⟩] concatenates_S32x64_S32x16_S32x16_S32x32_S32x128_d1)

/-- Row 2 of the table of the queries. -/
def tabQ2 : FVec Ideal S32x128 .f32 := (concatenate S32x128 1 [⟨S32x64, (broadcastInDim S32x64 ![] bcast_S_S32x64 ((constant S_ .f32 0x00000000#32)))⟩, ⟨S32x16, (broadcastInDim S32x16 ![] bcast_S_S32x16 ((constant S_ .f32 0x00000000#32)))⟩, ⟨S32x16, (Host.sin angA)⟩, ⟨S32x32, (broadcastInDim S32x32 ![] bcast_S_S32x32 ((constant S_ .f32 0x00000000#32)))⟩] concatenates_S32x64_S32x16_S32x16_S32x32_S32x128_d1)

/-- The table of the queries: cosines, negated sines, sines. -/
def tabQ : FVec Ideal S3x32x128 .f32 := (concatenate S3x32x128 0 [⟨S1x32x128, (broadcastInDim S1x32x128 ![1, 2] bcast_S32x128_S1x32x128_1_2 tabQ0)⟩, ⟨S1x32x128, (broadcastInDim S1x32x128 ![1, 2] bcast_S32x128_S1x32x128_1_2 tabQ1)⟩, ⟨S1x32x128, (broadcastInDim S1x32x128 ![1, 2] bcast_S32x128_S1x32x128_1_2 tabQ2)⟩] concatenates_S1x32x128_S1x32x128_S1x32x128_S3x32x128_d0)

/-- Row 0 of the table of the shared key. -/
def tabK0 : FVec Ideal S32x128 .f32 := (concatenate S32x128 1 [⟨S32x16, (Host.cos angA)⟩, ⟨S32x16, (Host.cos angA)⟩, ⟨S32x96, (broadcastInDim S32x96 ![] bcast_S_S32x96 ((constant S_ .f32 0x00000000#32)))⟩] concatenates_S32x16_S32x16_S32x96_S32x128_d1)

/-- Row 1 of the table of the shared key. -/
def tabK1 : FVec Ideal S32x128 .f32 := (concatenate S32x128 1 [⟨S32x16, (Host.negf (Host.sin angA))⟩, ⟨S32x16, (broadcastInDim S32x16 ![] bcast_S_S32x16 ((constant S_ .f32 0x00000000#32)))⟩, ⟨S32x96, (broadcastInDim S32x96 ![] bcast_S_S32x96 ((constant S_ .f32 0x00000000#32)))⟩] concatenates_S32x16_S32x16_S32x96_S32x128_d1)

/-- Row 2 of the table of the shared key. -/
def tabK2 : FVec Ideal S32x128 .f32 := (concatenate S32x128 1 [⟨S32x16, (broadcastInDim S32x16 ![] bcast_S_S32x16 ((constant S_ .f32 0x00000000#32)))⟩, ⟨S32x16, (Host.sin angA)⟩, ⟨S32x96, (broadcastInDim S32x96 ![] bcast_S_S32x96 ((constant S_ .f32 0x00000000#32)))⟩] concatenates_S32x16_S32x16_S32x96_S32x128_d1)

/-- The table of the shared key: cosines, negated sines, sines. -/
def tabK : FVec Ideal S3x32x128 .f32 := (concatenate S3x32x128 0 [⟨S1x32x128, (broadcastInDim S1x32x128 ![1, 2] bcast_S32x128_S1x32x128_1_2 tabK0)⟩, ⟨S1x32x128, (broadcastInDim S1x32x128 ![1, 2] bcast_S32x128_S1x32x128_1_2 tabK1)⟩, ⟨S1x32x128, (broadcastInDim S1x32x128 ![1, 2] bcast_S32x128_S1x32x128_1_2 tabK2)⟩] concatenates_S1x32x128_S1x32x128_S1x32x128_S3x32x128_d0)

/-- The first table the call reads. -/
theorem tq_eq (c : Dev nD) : V m c main_v29 = tabQ := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The second table the call reads. -/
theorem tk_eq (c : Dev nD) : V m c main_v54 = tabK := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The norm weights of the queries the call reads. -/
theorem g1_eq (c : Dev nD) : V m c main_v57 = (shapeCast _ (arg1 m c) shapeCasts_S256_S1x256) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The norm weights of the keys the call reads. -/
theorem g2_eq (c : Dev nD) : V m c main_v58 = (shapeCast _ (arg2 m c) shapeCasts_S128_S1x128) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The query weights the call reads. -/
theorem wq_eq (c : Dev nD) : V m c main_v60 = (shapeCast _ (pad S256x4x128 ![0, 0, 0] ![0, 0, 32] ![0, 0, 0] (shapeCast _ (arg3 m c) shapeCasts_S256x384_S256x4x96) (sitofp .f32 (constantI S_ 32 0#32)) pads_S256x4x96_S256x4x128_000_000_0320 h_S_) shapeCasts_S256x4x128_S256x512) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The key weights the call reads. -/
theorem wk_eq (c : Dev nD) : V m c main_v63 = (shapeCast _ (pad S128x4x128 ![0, 0, 0] ![0, 0, 64] ![0, 0, 0] (extractStridedSlice S128x4x64 ![0, 0, 0] (shapeCast _ (arg4 m c) shapeCasts_S128x512_S128x4x128) slices_S128x4x128_S128x4x64_0_0_0) (sitofp .f32 (constantI S_ 32 0#32)) pads_S128x4x64_S128x4x128_000_000_0640 h_S_) shapeCasts_S128x4x128_S128x512) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The value weights the call reads. -/
theorem wv_eq (c : Dev nD) : V m c main_v66 = (shapeCast _ (pad S128x4x128 ![0, 0, 0] ![0, 0, 64] ![0, 0, 0] (extractStridedSlice S128x4x64 ![0, 0, 64] (shapeCast _ (arg4 m c) shapeCasts_S128x512_S128x4x128) slices_S128x4x128_S128x4x64_0_0_64) (sitofp .f32 (constantI S_ 32 0#32)) pads_S128x4x64_S128x4x128_000_000_0640 h_S_) shapeCasts_S128x4x128_S128x512) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The first row of the query table is one on the unrotated lanes. -/
theorem tq0_lo (l : Fin 32) (d : Fin 128) (hd : (d : ℕ) < 64) : (show EReal from tabQ (ix3 0 l d)) = 1 := by
  pointwise [tabQ]
  pointwise [tabQ0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- It is the cosine on the first rotated half, -/
theorem tq0_a (l : Fin 32) (d : Fin 128) (e : Fin 16) (hd : (d : ℕ) = 64 + e) : (show EReal from tabQ (ix3 0 l d)) = Ideal.cos (angA (ix2 l e)) := by
  pointwise [tabQ]
  pointwise [tabQ0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and on the second. -/
theorem tq0_b (l : Fin 32) (d : Fin 128) (e : Fin 16) (hd : (d : ℕ) = 64 + 16 + e) : (show EReal from tabQ (ix3 0 l d)) = Ideal.cos (angA (ix2 l e)) := by
  pointwise [tabQ]
  pointwise [tabQ0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The second row is minus the sine on the first half -/
theorem tq1_a (l : Fin 32) (d : Fin 128) (e : Fin 16) (hd : (d : ℕ) = 64 + e) : (show EReal from tabQ (ix3 1 l d)) = -Ideal.sin (angA (ix2 l e)) := by
  pointwise [tabQ]
  pointwise [tabQ1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tq1_z (l : Fin 32) (d : Fin 128) (hd : (d : ℕ) < 64 ∨ 80 ≤ (d : ℕ)) : (show EReal from tabQ (ix3 1 l d)) = 0 := by
  pointwise [tabQ]
  pointwise [tabQ1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The third row is the sine on the second half -/
theorem tq2_b (l : Fin 32) (d : Fin 128) (e : Fin 16) (hd : (d : ℕ) = 64 + 16 + e) : (show EReal from tabQ (ix3 2 l d)) = Ideal.sin (angA (ix2 l e)) := by
  pointwise [tabQ]
  pointwise [tabQ2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tq2_z (l : Fin 32) (d : Fin 128) (hd : (d : ℕ) < 80 ∨ 96 ≤ (d : ℕ)) : (show EReal from tabQ (ix3 2 l d)) = 0 := by
  pointwise [tabQ]
  pointwise [tabQ2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The first row of the key table is the cosine on the first half, -/
theorem tk0_a (l : Fin 32) (d : Fin 128) (e : Fin 16) (hd : (d : ℕ) = e) : (show EReal from tabK (ix3 0 l d)) = Ideal.cos (angA (ix2 l e)) := by
  pointwise [tabK]
  pointwise [tabK0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- on the second half -/
theorem tk0_b (l : Fin 32) (d : Fin 128) (e : Fin 16) (hd : (d : ℕ) = 16 + e) : (show EReal from tabK (ix3 0 l d)) = Ideal.cos (angA (ix2 l e)) := by
  pointwise [tabK]
  pointwise [tabK0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero past it. -/
theorem tk0_z (l : Fin 32) (d : Fin 128) (hd : 32 ≤ (d : ℕ)) : (show EReal from tabK (ix3 0 l d)) = 0 := by
  pointwise [tabK]
  pointwise [tabK0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The second row is minus the sine on the first half -/
theorem tk1_a (l : Fin 32) (d : Fin 128) (e : Fin 16) (hd : (d : ℕ) = e) : (show EReal from tabK (ix3 1 l d)) = -Ideal.sin (angA (ix2 l e)) := by
  pointwise [tabK]
  pointwise [tabK1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tk1_z (l : Fin 32) (d : Fin 128) (hd : 16 ≤ (d : ℕ)) : (show EReal from tabK (ix3 1 l d)) = 0 := by
  pointwise [tabK]
  pointwise [tabK1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The third row is the sine on the second half -/
theorem tk2_b (l : Fin 32) (d : Fin 128) (e : Fin 16) (hd : (d : ℕ) = 16 + e) : (show EReal from tabK (ix3 2 l d)) = Ideal.sin (angA (ix2 l e)) := by
  pointwise [tabK]
  pointwise [tabK2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tk2_z (l : Fin 32) (d : Fin 128) (hd : (d : ℕ) < 16 ∨ 32 ≤ (d : ℕ)) : (show EReal from tabK (ix3 2 l d)) = 0 := by
  pointwise [tabK]
  pointwise [tabK2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The padded query weights: the column of a head, -/
theorem wq_in (c : Dev nD) (k : Fin 256) (n : Fin 512) (h : Fin 4) (j : Fin 96) (hn : (n : ℕ) = h * 128 + j) : (show EReal from V m c main_v60 (ix2 k n)) = arg3 m c (ix2 k ⟨(h : ℕ) * 96 + j, by omega⟩) := by
  rw [wq_eq]
  pointwise
  rw [dif_pos (by omega)]
  exact congrArg (fun x => arg3 m c (ix2 k x)) (Fin.ext (show (n : ℕ) / 128 * 96 + (n : ℕ) % 128 = h * 96 + j by omega))

/-- or zero past its lanes. -/
theorem wq_out (c : Dev nD) (k : Fin 256) (n : Fin 512) (hn : 96 ≤ (n : ℕ) % 128) : (show EReal from V m c main_v60 (ix2 k n)) = 0 := by
  rw [wq_eq]
  pointwise
  rw [dif_neg (by omega)]; exact sitofp_zero

/-- The padded key weights: the column of a head, -/
theorem wk_in (c : Dev nD) (k : Fin 128) (n : Fin 512) (hn : (n : ℕ) % 128 < 64) : (show EReal from V m c main_v63 (ix2 k n)) = arg4 m c (ix2 k n) := by
  rw [wk_eq]
  pointwise
  rw [dif_pos (by omega)]

/-- or zero past its lanes. -/
theorem wk_out (c : Dev nD) (k : Fin 128) (n : Fin 512) (hn : 64 ≤ (n : ℕ) % 128) : (show EReal from V m c main_v63 (ix2 k n)) = 0 := by
  rw [wk_eq]
  pointwise
  rw [dif_neg (by omega)]; exact sitofp_zero

/-- The padded value weights: the column of a head, -/
theorem wv_in (c : Dev nD) (k : Fin 128) (n : Fin 512) (h : Fin 4) (j : Fin 64) (hn : (n : ℕ) = h * 128 + j) : (show EReal from V m c main_v66 (ix2 k n)) = arg4 m c (ix2 k ⟨(h : ℕ) * 128 + (64 + j), by omega⟩) := by
  rw [wv_eq]
  pointwise
  rw [dif_pos (by omega)]
  exact congrArg (fun x => arg4 m c (ix2 k x)) (Fin.ext (show (n : ℕ) / 128 * 128 + (64 + (n : ℕ) % 128) = h * 128 + (64 + j) by omega))

/-- or zero past its lanes. -/
theorem wv_out (c : Dev nD) (k : Fin 128) (n : Fin 512) (hn : 64 ≤ (n : ℕ) % 128) : (show EReal from V m c main_v66 (ix2 k n)) = 0 := by
  rw [wv_eq]
  pointwise
  rw [dif_neg (by omega)]; exact sitofp_zero

/-- The norm weights as the call reads them. -/
theorem g1_at (c : Dev nD) (n : Fin 256) : V m c main_v57 (ix2 0 n) = arg1 m c (ix1 n) := by
  rw [g1_eq]
  pointwise

/-- The norm weights as the call reads them. -/
theorem g2_at (c : Dev nD) (n : Fin 128) : V m c main_v58 (ix2 0 n) = arg2 m c (ix1 n) := by
  rw [g2_eq]
  pointwise

end Cert.PrepIdeal.Value
-- ==== Proof.PrepR.lean ====
/- The preparation of the latent attention, the reference: its arrays at an index. -/
module

public import proofs.«01_k».proof.Proof.Gen.PrepRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepRefIdeal.R

open Cert.PrepRefIdeal Cert.PrepRefIdeal.Gen

variable (X : FVec Ideal S16x32x512 .f32) (g1 : FVec Ideal S256 .f32) (g2 : FVec Ideal S128 .f32) (w1 : FVec Ideal S256x384 .f32) (w2 : FVec Ideal S128x512 .f32)

/-- The angles: position times frequency. -/
def ang  : FVec Ideal S32x16 .f32 := (mulf (broadcastInDim S32x16 ![0, 1] bcast_S32x1_S32x16_0_1 (broadcastInDim S32x1 ![0] bcast_S32_S32x1_0 (sitofp .f32 (addi (broadcastInDim S32 ![] bcast_S_S32 ((constantI S_ 32 4096#32))) ((iotaInDim S32 32 0)))))) (broadcastInDim S32x16 ![0, 1] bcast_S1x16_S32x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- The normed query latent. -/
def qn (X : FVec Ideal S16x32x512 .f32) (g1 : FVec Ideal S256 .f32) : FVec Ideal S16x32x256 .f32 := (mulf (mulf (extractStridedSlice S16x32x256 ![0, 0, 0] X slices_S16x32x512_S16x32x256_0_0_0) (broadcastInDim S16x32x256 ![0, 1, 2] bcast_S16x32x1_S16x32x256_0_1_2 (Host.rsqrt (addf (Host.divf (broadcastInDim S16x32x1 ![0, 1] bcast_S16x32_S16x32x1_0_1 (Host.reduceAdd (mulf (extractStridedSlice S16x32x256 ![0, 0, 0] X slices_S16x32x512_S16x32x256_0_0_0) (extractStridedSlice S16x32x256 ![0, 0, 0] X slices_S16x32x512_S16x32x256_0_0_0)) ((constant S_ .f32 0x00000000#32)) reducesTo_S16x32x256_S16x32_d2 h_S_)) (broadcastInDim S16x32x1 ![] bcast_S_S16x32x1 ((constant S_ .f32 0x43800000#32)))) (broadcastInDim S16x32x1 ![] bcast_S_S16x32x1 ((constant S_ .f32 0x358637BD#32))))))) (broadcastInDim S16x32x256 ![0, 1, 2] bcast_S1x1x256_S16x32x256_0_1_2 (broadcastInDim S1x1x256 ![2] bcast_S256_S1x1x256_2 g1)))

/-- The queries by head, before the rotation. -/
def qh (X : FVec Ideal S16x32x512 .f32) (g1 : FVec Ideal S256 .f32) (w1 : FVec Ideal S256x384 .f32) : FVec Ideal S16x32x4x96 .f32 := (shapeCast _ (Host.dotGeneral dot_S16x32x256_S256x384_S16x32x384_2_0_01_1_n_n none (qn X g1) w1) shapeCasts_S16x32x384_S16x32x4x96)

/-- The normed key latent. -/
def cn (X : FVec Ideal S16x32x512 .f32) (g2 : FVec Ideal S128 .f32) : FVec Ideal S16x32x128 .f32 := (mulf (mulf (extractStridedSlice S16x32x128 ![0, 0, 256] X slices_S16x32x512_S16x32x128_0_0_256) (broadcastInDim S16x32x128 ![0, 1, 2] bcast_S16x32x1_S16x32x128_0_1_2 (Host.rsqrt (addf (Host.divf (broadcastInDim S16x32x1 ![0, 1] bcast_S16x32_S16x32x1_0_1 (Host.reduceAdd (mulf (extractStridedSlice S16x32x128 ![0, 0, 256] X slices_S16x32x512_S16x32x128_0_0_256) (extractStridedSlice S16x32x128 ![0, 0, 256] X slices_S16x32x512_S16x32x128_0_0_256)) ((constant S_ .f32 0x00000000#32)) reducesTo_S16x32x128_S16x32_d2 h_S_)) (broadcastInDim S16x32x1 ![] bcast_S_S16x32x1 ((constant S_ .f32 0x43000000#32)))) (broadcastInDim S16x32x1 ![] bcast_S_S16x32x1 ((constant S_ .f32 0x358637BD#32))))))) (broadcastInDim S16x32x128 ![0, 1, 2] bcast_S1x1x128_S16x32x128_0_1_2 (broadcastInDim S1x1x128 ![2] bcast_S128_S1x1x128_2 g2)))

/-- The rotated shared key. -/
def kr (X : FVec Ideal S16x32x512 .f32) : FVec Ideal S16x32x1x32 .f32 := (concatenate S16x32x1x32 3 [⟨S16x32x1x16, (subf (mulf (extractStridedSlice S16x32x1x16 ![0, 0, 0, 0] (broadcastInDim S16x32x1x32 ![0, 1, 3] bcast_S16x32x32_S16x32x1x32_0_1_3 (extractStridedSlice S16x32x32 ![0, 0, 384] X slices_S16x32x512_S16x32x32_0_0_384)) slices_S16x32x1x32_S16x32x1x16_0_0_0_0) (broadcastInDim S16x32x1x16 ![0, 1, 2, 3] bcast_S1x32x1x16_S16x32x1x16_0_1_2_3 (broadcastInDim S1x32x1x16 ![1, 3] bcast_S32x16_S1x32x1x16_1_3 (Host.cos ang)))) (mulf (extractStridedSlice S16x32x1x16 ![0, 0, 0, 16] (broadcastInDim S16x32x1x32 ![0, 1, 3] bcast_S16x32x32_S16x32x1x32_0_1_3 (extractStridedSlice S16x32x32 ![0, 0, 384] X slices_S16x32x512_S16x32x32_0_0_384)) slices_S16x32x1x32_S16x32x1x16_0_0_0_16) (broadcastInDim S16x32x1x16 ![0, 1, 2, 3] bcast_S1x32x1x16_S16x32x1x16_0_1_2_3 (broadcastInDim S1x32x1x16 ![1, 3] bcast_S32x16_S1x32x1x16_1_3 (Host.sin ang)))))⟩, ⟨S16x32x1x16, (addf (mulf (extractStridedSlice S16x32x1x16 ![0, 0, 0, 0] (broadcastInDim S16x32x1x32 ![0, 1, 3] bcast_S16x32x32_S16x32x1x32_0_1_3 (extractStridedSlice S16x32x32 ![0, 0, 384] X slices_S16x32x512_S16x32x32_0_0_384)) slices_S16x32x1x32_S16x32x1x16_0_0_0_0) (broadcastInDim S16x32x1x16 ![0, 1, 2, 3] bcast_S1x32x1x16_S16x32x1x16_0_1_2_3 (broadcastInDim S1x32x1x16 ![1, 3] bcast_S32x16_S1x32x1x16_1_3 (Host.sin ang)))) (mulf (extractStridedSlice S16x32x1x16 ![0, 0, 0, 16] (broadcastInDim S16x32x1x32 ![0, 1, 3] bcast_S16x32x32_S16x32x1x32_0_1_3 (extractStridedSlice S16x32x32 ![0, 0, 384] X slices_S16x32x512_S16x32x32_0_0_384)) slices_S16x32x1x32_S16x32x1x16_0_0_0_16) (broadcastInDim S16x32x1x16 ![0, 1, 2, 3] bcast_S1x32x1x16_S16x32x1x16_0_1_2_3 (broadcastInDim S1x32x1x16 ![1, 3] bcast_S32x16_S1x32x1x16_1_3 (Host.cos ang)))))⟩] concatenates_S16x32x1x16_S16x32x1x16_S16x32x1x32_d3)

/-- Keys and values by head. -/
def kv (X : FVec Ideal S16x32x512 .f32) (g2 : FVec Ideal S128 .f32) (w2 : FVec Ideal S128x512 .f32) : FVec Ideal S16x32x4x128 .f32 := (shapeCast _ (Host.dotGeneral dot_S16x32x128_S128x512_S16x32x512_2_0_01_1_n_n none (cn X g2) w2) shapeCasts_S16x32x512_S16x32x4x128)

/-- The queries the reference gives. -/
def ref0 (X : FVec Ideal S16x32x512 .f32) (g1 : FVec Ideal S256 .f32) (w1 : FVec Ideal S256x384 .f32) : FVec Ideal S16x4x32x128 .f32 := (pad S16x4x32x128 ![0, 0, 0, 0] ![0, 0, 0, 32] ![0, 0, 0, 0] (transpose S16x4x32x96 [0, 2, 1, 3] (mulf (concatenate S16x32x4x96 3 [⟨S16x32x4x64, (extractStridedSlice S16x32x4x64 ![0, 0, 0, 0] (qh X g1 w1) slices_S16x32x4x96_S16x32x4x64_0_0_0_0)⟩, ⟨S16x32x4x32, (concatenate S16x32x4x32 3 [⟨S16x32x4x16, (subf (mulf (extractStridedSlice S16x32x4x16 ![0, 0, 0, 0] (extractStridedSlice S16x32x4x32 ![0, 0, 0, 64] (qh X g1 w1) slices_S16x32x4x96_S16x32x4x32_0_0_0_64) slices_S16x32x4x32_S16x32x4x16_0_0_0_0) (broadcastInDim S16x32x4x16 ![0, 1, 2, 3] bcast_S1x32x1x16_S16x32x4x16_0_1_2_3 (broadcastInDim S1x32x1x16 ![1, 3] bcast_S32x16_S1x32x1x16_1_3 (Host.cos ang)))) (mulf (extractStridedSlice S16x32x4x16 ![0, 0, 0, 16] (extractStridedSlice S16x32x4x32 ![0, 0, 0, 64] (qh X g1 w1) slices_S16x32x4x96_S16x32x4x32_0_0_0_64) slices_S16x32x4x32_S16x32x4x16_0_0_0_16) (broadcastInDim S16x32x4x16 ![0, 1, 2, 3] bcast_S1x32x1x16_S16x32x4x16_0_1_2_3 (broadcastInDim S1x32x1x16 ![1, 3] bcast_S32x16_S1x32x1x16_1_3 (Host.sin ang)))))⟩, ⟨S16x32x4x16, (addf (mulf (extractStridedSlice S16x32x4x16 ![0, 0, 0, 0] (extractStridedSlice S16x32x4x32 ![0, 0, 0, 64] (qh X g1 w1) slices_S16x32x4x96_S16x32x4x32_0_0_0_64) slices_S16x32x4x32_S16x32x4x16_0_0_0_0) (broadcastInDim S16x32x4x16 ![0, 1, 2, 3] bcast_S1x32x1x16_S16x32x4x16_0_1_2_3 (broadcastInDim S1x32x1x16 ![1, 3] bcast_S32x16_S1x32x1x16_1_3 (Host.sin ang)))) (mulf (extractStridedSlice S16x32x4x16 ![0, 0, 0, 16] (extractStridedSlice S16x32x4x32 ![0, 0, 0, 64] (qh X g1 w1) slices_S16x32x4x96_S16x32x4x32_0_0_0_64) slices_S16x32x4x32_S16x32x4x16_0_0_0_16) (broadcastInDim S16x32x4x16 ![0, 1, 2, 3] bcast_S1x32x1x16_S16x32x4x16_0_1_2_3 (broadcastInDim S1x32x1x16 ![1, 3] bcast_S32x16_S1x32x1x16_1_3 (Host.cos ang)))))⟩] concatenates_S16x32x4x16_S16x32x4x16_S16x32x4x32_d3)⟩] concatenates_S16x32x4x64_S16x32x4x32_S16x32x4x96_d3) (broadcastInDim S16x32x4x96 ![] bcast_S_S16x32x4x96 ((constant S_ .f32 0x3DD105EC#32)))) transposes_S16x32x4x96_S16x4x32x96_0_2_1_3) (sitofp .f32 (constantI S_ 32 0#32)) pads_S16x4x32x96_S16x4x32x128_000_000_000_0320 h_S_)

/-- The keys the reference gives. -/
def ref1 (X : FVec Ideal S16x32x512 .f32) (g2 : FVec Ideal S128 .f32) (w2 : FVec Ideal S128x512 .f32) : FVec Ideal S16x4x32x128 .f32 := (pad S16x4x32x128 ![0, 0, 0, 0] ![0, 0, 0, 32] ![0, 0, 0, 0] (transpose S16x4x32x96 [0, 2, 1, 3] (concatenate S16x32x4x96 3 [⟨S16x32x4x64, (extractStridedSlice S16x32x4x64 ![0, 0, 0, 0] (kv X g2 w2) slices_S16x32x4x128_S16x32x4x64_0_0_0_0)⟩, ⟨S16x32x4x32, (broadcastInDim S16x32x4x32 ![0, 1, 2, 3] bcast_S16x32x1x32_S16x32x4x32_0_1_2_3 (kr X))⟩] concatenates_S16x32x4x64_S16x32x4x32_S16x32x4x96_d3) transposes_S16x32x4x96_S16x4x32x96_0_2_1_3) (sitofp .f32 (constantI S_ 32 0#32)) pads_S16x4x32x96_S16x4x32x128_000_000_000_0320 h_S_)

/-- The values the reference gives. -/
def ref2 (X : FVec Ideal S16x32x512 .f32) (g2 : FVec Ideal S128 .f32) (w2 : FVec Ideal S128x512 .f32) : FVec Ideal S16x4x32x128 .f32 := (pad S16x4x32x128 ![0, 0, 0, 0] ![0, 0, 0, 64] ![0, 0, 0, 0] (transpose S16x4x32x64 [0, 2, 1, 3] (extractStridedSlice S16x32x4x64 ![0, 0, 0, 64] (kv X g2 w2) slices_S16x32x4x128_S16x32x4x64_0_0_0_64) transposes_S16x32x4x64_S16x4x32x64_0_2_1_3) (sitofp .f32 (constantI S_ 32 0#32)) pads_S16x4x32x64_S16x4x32x128_000_000_000_0640 h_S_)

/-- The shared key the reference gives. -/
def ref4 (X : FVec Ideal S16x32x512 .f32) : FVec Ideal S16x32x32 .f32 := (shapeCast _ (kr X) shapeCasts_S16x32x1x32_S16x32x32)

/-- The scale of the queries. -/
abbrev sc : EReal := Ideal.ofBits FTy.f32 1037108716#32

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The normed query latent. -/
theorem qn_at (b : Fin 16) (l : Fin 32) (k : Fin 256) : (show EReal from qn X g1 (ix3 b l k)) = X (ix3 b l ⟨k, by omega⟩) * Ideal.rsqrt (Ideal.div (∑ x : Fin 256, X (ix3 b l ⟨x, by omega⟩) * X (ix3 b l ⟨x, by omega⟩)) (Ideal.ofBits FTy.f32 1132462080#32) + Ideal.ofBits FTy.f32 897988541#32) * g1 (ix1 k) := by
  pointwise [qn]

/-- A query lane: a dot product with a column of its head. -/
theorem qh_at (b : Fin 16) (l : Fin 32) (h : Fin 4) (k : Fin 96) : (show EReal from qh X g1 w1 (ix4 b l h k)) = ∑ x : Fin 256, qn X g1 (ix3 b l x) * w1 (ix2 x ⟨(h : ℕ) * 96 + k, by omega⟩) := by
  pointwise [qh]

/-- The normed key latent. -/
theorem cn_at (b : Fin 16) (l : Fin 32) (k : Fin 128) : (show EReal from cn X g2 (ix3 b l k)) = X (ix3 b l ⟨256 + k, by omega⟩) * Ideal.rsqrt (Ideal.div (∑ x : Fin 128, X (ix3 b l ⟨256 + x, by omega⟩) * X (ix3 b l ⟨256 + x, by omega⟩)) (Ideal.ofBits FTy.f32 1124073472#32) + Ideal.ofBits FTy.f32 897988541#32) * g2 (ix1 k) := by
  pointwise [cn]

/-- The first half of the rotated shared key. -/
theorem kr_lo (b : Fin 16) (l : Fin 32) (k : Fin 32) (e : Fin 16) (hk : (k : ℕ) = e) : (show EReal from kr X (ix4 b l 0 k)) = X (ix3 b l ⟨384 + e, by omega⟩) * Ideal.cos (ang (ix2 l e)) - X (ix3 b l ⟨384 + (16 + e), by omega⟩) * Ideal.sin (ang (ix2 l e)) := by
  pointwise [kr]
  rw [dif_pos (by omega)]
  simp only [hk, Fin.eta]

/-- The second half of the rotated shared key. -/
theorem kr_hi (b : Fin 16) (l : Fin 32) (k : Fin 32) (e : Fin 16) (hk : (k : ℕ) = 16 + e) : (show EReal from kr X (ix4 b l 0 k)) = X (ix3 b l ⟨384 + e, by omega⟩) * Ideal.sin (ang (ix2 l e)) + X (ix3 b l ⟨384 + (16 + e), by omega⟩) * Ideal.cos (ang (ix2 l e)) := by
  pointwise [kr]
  rw [dif_neg (by omega)]
  have hs : (k : ℕ) - 16 = e := by omega
  simp only [hs, Fin.eta]

/-- A key or value lane: a dot product with a column of its head. -/
theorem kv_at (b : Fin 16) (l : Fin 32) (h : Fin 4) (k : Fin 128) : (show EReal from kv X g2 w2 (ix4 b l h k)) = ∑ x : Fin 128, cn X g2 (ix3 b l x) * w2 (ix2 x ⟨(h : ℕ) * 128 + k, by omega⟩) := by
  pointwise [kv]

/-- An unrotated query lane. -/
theorem ref0_lo (b : Fin 16) (l : Fin 32) (h : Fin 4) (k : Fin 128) (hk : (k : ℕ) < 64) : (show EReal from ref0 X g1 w1 (ix4 b h l k)) = qh X g1 w1 (ix4 b l h ⟨k, by omega⟩) * sc := by
  pointwise [ref0]
  rw [dif_pos (by omega), dif_pos hk]

/-- The first half of the rotated query lanes. -/
theorem ref0_a (b : Fin 16) (l : Fin 32) (h : Fin 4) (k : Fin 128) (e : Fin 16) (hk : (k : ℕ) = 64 + e) : (show EReal from ref0 X g1 w1 (ix4 b h l k)) = (qh X g1 w1 (ix4 b l h ⟨64 + e, by omega⟩) * Ideal.cos (ang (ix2 l e)) - qh X g1 w1 (ix4 b l h ⟨64 + (16 + e), by omega⟩) * Ideal.sin (ang (ix2 l e))) * sc := by
  pointwise [ref0]
  rw [dif_pos (by omega), dif_neg (by omega), dif_pos (by omega)]
  have hs : (k : ℕ) - 64 = e := by omega
  simp only [hs, Fin.eta]

/-- The second half of the rotated query lanes. -/
theorem ref0_b (b : Fin 16) (l : Fin 32) (h : Fin 4) (k : Fin 128) (e : Fin 16) (hk : (k : ℕ) = 64 + 16 + e) : (show EReal from ref0 X g1 w1 (ix4 b h l k)) = (qh X g1 w1 (ix4 b l h ⟨64 + e, by omega⟩) * Ideal.sin (ang (ix2 l e)) + qh X g1 w1 (ix4 b l h ⟨64 + (16 + e), by omega⟩) * Ideal.cos (ang (ix2 l e))) * sc := by
  pointwise [ref0]
  rw [dif_pos (by omega), dif_neg (by omega), dif_neg (by omega)]
  have hs : (k : ℕ) - 64 - 16 = e := by omega
  simp only [hs, Fin.eta]

/-- The lanes past the query's. -/
theorem ref0_z (b : Fin 16) (l : Fin 32) (h : Fin 4) (k : Fin 128) (hk : 96 ≤ (k : ℕ)) : (show EReal from ref0 X g1 w1 (ix4 b h l k)) = 0 := by
  pointwise [ref0]
  rw [dif_neg (by omega)]
  exact sitofp_zero

/-- An unrotated key lane. -/
theorem ref1_lo (b : Fin 16) (l : Fin 32) (h : Fin 4) (k : Fin 128) (hk : (k : ℕ) < 64) : (show EReal from ref1 X g2 w2 (ix4 b h l k)) = kv X g2 w2 (ix4 b l h k) := by
  pointwise [ref1]
  rw [dif_pos (by omega), dif_pos hk]

/-- A lane of the shared rotated key. -/
theorem ref1_hi (b : Fin 16) (l : Fin 32) (h : Fin 4) (k : Fin 128) (e : Fin 32) (hk : (k : ℕ) = 64 + e) : (show EReal from ref1 X g2 w2 (ix4 b h l k)) = kr X (ix4 b l 0 e) := by
  pointwise [ref1]
  rw [dif_pos (by omega), dif_neg (by omega)]
  exact congrArg (fun x => kr X (ix4 b l 0 x)) (Fin.ext (show (k : ℕ) - 64 = e by omega))

/-- The lanes past the key's. -/
theorem ref1_z (b : Fin 16) (l : Fin 32) (h : Fin 4) (k : Fin 128) (hk : 96 ≤ (k : ℕ)) : (show EReal from ref1 X g2 w2 (ix4 b h l k)) = 0 := by
  pointwise [ref1]
  rw [dif_neg (by omega)]
  exact sitofp_zero

/-- A value lane. -/
theorem ref2_lo (b : Fin 16) (l : Fin 32) (h : Fin 4) (k : Fin 128) (hk : (k : ℕ) < 64) : (show EReal from ref2 X g2 w2 (ix4 b h l k)) = kv X g2 w2 (ix4 b l h ⟨64 + k, by omega⟩) := by
  pointwise [ref2]
  rw [dif_pos (by omega)]

/-- The lanes past the value's. -/
theorem ref2_z (b : Fin 16) (l : Fin 32) (h : Fin 4) (k : Fin 128) (hk : 64 ≤ (k : ℕ)) : (show EReal from ref2 X g2 w2 (ix4 b h l k)) = 0 := by
  pointwise [ref2]
  rw [dif_neg (by omega)]
  exact sitofp_zero

/-- The shared key given. -/
theorem ref4_at (b : Fin 16) (l : Fin 32) (k : Fin 32) : (show EReal from ref4 X (ix3 b l k)) = kr X (ix4 b l 0 k) := by
  pointwise [ref4]

/-- The angles: a position (from the past's length) times a frequency. -/
theorem ang_at (l : Fin 32) (d : Fin 16) : (show EReal from ang (ix2 l d)) = FloatOps.sitofp (F := Ideal) .f32 (IntOp.addi 4096#32 (BitVec.ofNat 32 l)) * Ideal.pow (Ideal.ofBits FTy.f32 1176256512#32) (Ideal.div (-FloatOps.sitofp (F := Ideal) .f32 (BitVec.ofNat 32 d)) (Ideal.ofBits FTy.f32 1098907648#32)) := by
  pointwise [ang]

end Cert.PrepRefIdeal.R
-- ==== Proof.PrepP.lean ====
/- The preparation of the latent attention: the arrays the kernel computes on the way, at an index. -/
module

public import proofs.«01_k».proof.Proof.PrepT
public import proofs.«01_k».proof.Proof.PrepR
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen

/-- A rotation of four heads: the lanes times the first row of a table, the lanes sixteen on times the second, the lanes sixteen back times the third. -/
def R4 (z : FVec Ideal S32x512 .f32) (a b c : FVec Ideal S1x32x128 .f32) : FVec Ideal S32x512 .f32 :=
  addf (addf (mulf z (concatenate S32x512 1 [⟨S32x128, shapeCast S32x128 a shapeCasts_S1x32x128_S32x128⟩, ⟨S32x128, shapeCast S32x128 a shapeCasts_S1x32x128_S32x128⟩, ⟨S32x128, shapeCast S32x128 a shapeCasts_S1x32x128_S32x128⟩, ⟨S32x128, shapeCast S32x128 a shapeCasts_S1x32x128_S32x128⟩] concatenates_S32x128_S32x128_S32x128_S32x128_S32x512_d1)) (mulf (dynamicRotate 1 496#32 none z rotates_S32x512_d1) (concatenate S32x512 1 [⟨S32x128, shapeCast S32x128 b shapeCasts_S1x32x128_S32x128⟩, ⟨S32x128, shapeCast S32x128 b shapeCasts_S1x32x128_S32x128⟩, ⟨S32x128, shapeCast S32x128 b shapeCasts_S1x32x128_S32x128⟩, ⟨S32x128, shapeCast S32x128 b shapeCasts_S1x32x128_S32x128⟩] concatenates_S32x128_S32x128_S32x128_S32x128_S32x512_d1))) (mulf (dynamicRotate 1 16#32 none z rotates_S32x512_d1) (concatenate S32x512 1 [⟨S32x128, shapeCast S32x128 c shapeCasts_S1x32x128_S32x128⟩, ⟨S32x128, shapeCast S32x128 c shapeCasts_S1x32x128_S32x128⟩, ⟨S32x128, shapeCast S32x128 c shapeCasts_S1x32x128_S32x128⟩, ⟨S32x128, shapeCast S32x128 c shapeCasts_S1x32x128_S32x128⟩] concatenates_S32x128_S32x128_S32x128_S32x128_S32x512_d1))

/-- The kernel's normed query latent. -/
def zq (x0 : Vec Ideal S1x32x512 .f32) (x3 : Vec Ideal S1x256 .f32) : FVec Ideal S32x256 .f32 :=
  have v2 : FVec Ideal S32x256 .f32 := extractStridedSlice S32x256 ![0, 0] (k0_pay2 (F := Ideal) x0) slices_S32x512_o0_0_S32x256
  mulf (mulf v2 (broadcastTo S32x256 (rsqrt (addf (divf (shapeCast S32x1 (multiReduction .add [1] S32 (mulf v2 v2) 0x00000000#32 reduces_S32x256_S32 (.inl rfl) rfl) shapeCasts_S32_S32x1) (broadcast S32x1 (Scalar.ofBits .f32 0x43800000#32))) (broadcast S32x1 (Scalar.ofBits .f32 0x358637BD#32)))) broadcasts_S32x1_S32x256)) (broadcastTo S32x256 (shapeCast S1x256 x3 shapeCasts_S1x256_S1x256) broadcasts_S1x256_S32x256)

/-- Its product with the padded query weights. -/
def mq (z : FVec Ideal S32x256 .f32) (w : Vec Ideal S256x512 .f32) : FVec Ideal S32x512 .f32 :=
  matmul dot_S32x256_S256x512_S32x512_1_0_0_1_n_n (some .fp32) z (shapeCast S256x512 w shapeCasts_S256x512_S256x512 : FVec Ideal S256x512 .f32) (constant S32x512 .f32 0x00000000#32)

/-- The rotated queries are the rotation of the product. -/
theorem pay3_eq (v0 : Vec Ideal S1x32x512 .f32) (v3 : Vec Ideal S1x256 .f32) (v17 : Vec Ideal S256x512 .f32) (v20 v23 v26 : Vec Ideal S1x32x128 .f32) : k0_pay3 (F := Ideal) v0 v3 v17 v20 v23 v26 = R4 (mq (zq v0 v3) v17) v20 v23 v26 := rfl

/-- The normed query latent at a lane. -/
theorem zq_at (x0 : Vec Ideal S1x32x512 .f32) (x3 : Vec Ideal S1x256 .f32) (l : Fin 32) (k : Fin 256) : (show EReal from zq x0 x3 (ix2 l k)) = x0 (ix3 0 l ⟨k, by omega⟩) * Ideal.rsqrt (Ideal.div (∑ x : Fin 256, x0 (ix3 0 l ⟨x, by omega⟩) * x0 (ix3 0 l ⟨x, by omega⟩)) (Ideal.ofBits FTy.f32 1132462080#32) + Ideal.ofBits FTy.f32 897988541#32) * x3 (ix2 0 k) := by
  pointwise [zq, k0_pay2]

/-- The product at a lane. -/
theorem mq_at (z : FVec Ideal S32x256 .f32) (w : Vec Ideal S256x512 .f32) (l : Fin 32) (k : Fin 512) : (show EReal from mq z w (ix2 l k)) = ∑ x : Fin 256, z (ix2 l x) * w (ix2 x k) := by
  pointwise [mq]

/-- The rotation at a lane of a head. -/
theorem R4_at (z : FVec Ideal S32x512 .f32) (a b c : FVec Ideal S1x32x128 .f32) (l : Fin 32) (h : Fin 4) (d : Fin 128) (k : Fin 512) (hk : (k : ℕ) = h * 128 + d) : (show EReal from R4 z a b c (ix2 l k)) = z (ix2 l k) * a (ix3 0 l d) + z (ix2 l ⟨((k : ℕ) + 512 - 496) % 512, by omega⟩) * b (ix3 0 l d) + z (ix2 l ⟨((k : ℕ) + 512 - 16) % 512, by omega⟩) * c (ix3 0 l d) := by
  pointwise [R4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The normed key latent at a lane. -/
theorem pay5_at (x0 : FVec Ideal S32x512 .f32) (x3 : Vec Ideal S1x128 .f32) (l : Fin 32) (k : Fin 128) : (show EReal from k0_pay5 (F := Ideal) x0 x3 (ix2 l k)) = x0 (ix2 l ⟨256 + k, by omega⟩) * Ideal.rsqrt (Ideal.div (∑ x : Fin 128, x0 (ix2 l ⟨256 + x, by omega⟩) * x0 (ix2 l ⟨256 + x, by omega⟩)) (Ideal.ofBits FTy.f32 1124073472#32) + Ideal.ofBits FTy.f32 897988541#32) * x3 (ix2 0 k) := by
  pointwise [k0_pay5]

/-- The rotated shared key at a lane. -/
theorem pay7_at (z : FVec Ideal S32x512 .f32) (a b c : Vec Ideal S1x32x128 .f32) (l : Fin 32) (k : Fin 128) : (show EReal from k0_pay7 (F := Ideal) z a b c (ix2 l k)) = z (ix2 l ⟨384 + k, by omega⟩) * a (ix3 0 l k) + z (ix2 l ⟨384 + ((k : ℕ) + 128 - 112) % 128, by omega⟩) * b (ix3 0 l k) + z (ix2 l ⟨384 + ((k : ℕ) + 128 - 16) % 128, by omega⟩) * c (ix3 0 l k) := by
  pointwise [k0_pay7]

/-- The values of a head at a lane. -/
theorem pay11_at (z : FVec Ideal S32x128 .f32) (w : Vec Ideal S128x512 .f32) (l : Fin 32) (k : Fin 512) : (show EReal from k0_pay11 (F := Ideal) z w (ix2 l k)) = ∑ x : Fin 128, z (ix2 l x) * w (ix2 x k) := by
  pointwise [k0_pay11]

/-- Four copies side by side. -/
def cat4 (r : FVec Ideal S32x128 .f32) : FVec Ideal S32x512 .f32 :=
  concatenate S32x512 1 [⟨S32x128, r⟩, ⟨S32x128, r⟩, ⟨S32x128, r⟩, ⟨S32x128, r⟩] concatenates_S32x128_S32x128_S32x128_S32x128_S32x512_d1

/-- Their entry at a lane of one of them. -/
theorem cat4_at (r : FVec Ideal S32x128 .f32) (l : Fin 32) (h : Fin 4) (d : Fin 128) (k : Fin 512) (hk : (k : ℕ) = h * 128 + d) : (show EReal from cat4 r (ix2 l k)) = r (ix2 l d) := by
  pointwise [cat4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The keys: the product plus four copies of the shared key. -/
theorem pay10_eq (z r : FVec Ideal S32x128 .f32) (w : Vec Ideal S128x512 .f32) : k0_pay10 (F := Ideal) z r w = addf (k0_pay11 (F := Ideal) z w) (cat4 (dynamicRotate 1 64#32 none r rotates_S32x128_d1)) := rfl

/-- The rotation of the shared key. -/
theorem rot_at (r : FVec Ideal S32x128 .f32) (l : Fin 32) (d : Fin 128) : (show EReal from dynamicRotate 1 64#32 none r rotates_S32x128_d1 (ix2 l d)) = r (ix2 l ⟨((d : ℕ) + 128 - 64) % 128, by omega⟩) := by
  pointwise

/-- The keys of a head at a lane: the product, plus the shared key sixty-four lanes on. -/
theorem pay10_at (z r : FVec Ideal S32x128 .f32) (w : Vec Ideal S128x512 .f32) (l : Fin 32) (h : Fin 4) (d : Fin 128) (k : Fin 512) (hk : (k : ℕ) = h * 128 + d) : (show EReal from k0_pay10 (F := Ideal) z r w (ix2 l k)) = (∑ x : Fin 128, z (ix2 l x) * w (ix2 x k)) + r (ix2 l ⟨((d : ℕ) + 128 - 64) % 128, by omega⟩) := by
  rw [pay10_eq]
  exact congrArg₂ (fun a b : EReal => a + b) (pay11_at z w l k) ((cat4_at _ l h d k hk).trans (rot_at r l d))

/-- The loads at an index. -/
theorem ld0_at (x : Vec Ideal S1x32x512 .f32) (l : Fin 32) (k : Fin 512) : (show EReal from View.ld x r0_0 (ix3 0 l k)) = x (ix3 0 l k) := by
  have e : r0_0.emb (ix3 0 l k) = ix3 0 l k := by blk_ext
  exact congrArg x e

/-- The same of the query norm weights. -/
theorem ld1_at (x : Vec Ideal S1x256 .f32) (k : Fin 256) : (show EReal from View.ld x r0_1 (ix2 0 k)) = x (ix2 0 k) := by
  have e : r0_1.emb (ix2 0 k) = ix2 0 k := by blk_ext
  exact congrArg x e

/-- The same of the query weights. -/
theorem ld2_at (x : Vec Ideal S256x512 .f32) (l : Fin 256) (k : Fin 512) : (show EReal from View.ld x r0_2 (ix2 l k)) = x (ix2 l k) := by
  have e : r0_2.emb (ix2 l k) = ix2 l k := by blk_ext
  exact congrArg x e

/-- The first row of a table. -/
theorem ld3_at (x : Vec Ideal S3x32x128 .f32) (l : Fin 32) (k : Fin 128) : (show EReal from View.ld x r0_3 (ix3 0 l k)) = x (ix3 0 l k) := by
  have e : r0_3.emb (ix3 0 l k) = ix3 0 l k := by blk_ext
  exact congrArg x e

/-- The second row of a table. -/
theorem ld4_at (x : Vec Ideal S3x32x128 .f32) (l : Fin 32) (k : Fin 128) : (show EReal from View.ld x r0_4 (ix3 0 l k)) = x (ix3 1 l k) := by
  have e : r0_4.emb (ix3 0 l k) = ix3 1 l k := by blk_ext
  exact congrArg x e

/-- The third row of a table. -/
theorem ld5_at (x : Vec Ideal S3x32x128 .f32) (l : Fin 32) (k : Fin 128) : (show EReal from View.ld x r0_5 (ix3 0 l k)) = x (ix3 2 l k) := by
  have e : r0_5.emb (ix3 0 l k) = ix3 2 l k := by blk_ext
  exact congrArg x e

/-- The key norm weights. -/
theorem ld6_at (x : Vec Ideal S1x128 .f32) (k : Fin 128) : (show EReal from View.ld x r0_6 (ix2 0 k)) = x (ix2 0 k) := by
  have e : r0_6.emb (ix2 0 k) = ix2 0 k := by blk_ext
  exact congrArg x e

/-- The key and value weights. -/
theorem ld9_at (x : Vec Ideal S128x512 .f32) (l : Fin 128) (k : Fin 512) : (show EReal from View.ld x r0_9 (ix2 l k)) = x (ix2 l k) := by
  have e : r0_9.emb (ix2 l k) = ix2 l k := by blk_ext
  exact congrArg x e

variable (m : (ℓ : Loc nD τ sig) → Buf (Elt Ideal) ℓ) (c : Dev nD) (t : Fin cfg0.N)

/-- Which block of its array each window has at a grid point. -/
theorem idx : ∀ t : Fin cfg0.N, win0_0.index t = ![t.val, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0] ∧ win0_7.index t = ![0, 0]
    ∧ win0_8.index t = ![t.val, 0, 0, 0] ∧ win0_9.index t = ![t.val, 0, 0, 0] ∧ win0_10.index t = ![t.val, 0, 0, 0]
    ∧ win0_11.index t = ![t.val, 0, 0] ∧ win0_12.index t = ![t.val, 0, 0] :=
  (by decide +kernel : ∀ t : Fin grid0.N, _)

/-- The stream a grid point works on. -/
abbrev st (t : Fin cfg0.N) : Fin 16 := ⟨t.val, lt_of_lt_of_eq t.isLt N_0⟩

/-- The input block at an index. -/
theorem b0 (l : Fin 32) (k : Fin 512) : (show EReal from iblk m c 0 t (ix3 0 l k)) = arg0 m c (ix3 (st t) l k) := by
  blk_ext [iblk, V, idx t]
/-- The query table as a block. -/
theorem b1 (r : Fin 3) (l : Fin 32) (k : Fin 128) : (show EReal from iblk m c 1 t (ix3 r l k)) = tabQ (ix3 r l k) := by
  rw [← tq_eq m c]; blk_ext [iblk, idx t]
/-- The key table as a block. -/
theorem b2 (r : Fin 3) (l : Fin 32) (k : Fin 128) : (show EReal from iblk m c 2 t (ix3 r l k)) = tabK (ix3 r l k) := by
  rw [← tk_eq m c]; blk_ext [iblk, idx t]
/-- The query norm weights as a block. -/
theorem b3 (k : Fin 256) : (show EReal from iblk m c 3 t (ix2 0 k)) = arg1 m c (ix1 k) := by
  rw [← g1_at m c]; blk_ext [iblk, idx t]
/-- The key norm weights as a block. -/
theorem b4 (k : Fin 128) : (show EReal from iblk m c 4 t (ix2 0 k)) = arg2 m c (ix1 k) := by
  rw [← g2_at m c]; blk_ext [iblk, idx t]
/-- The query weights as a block. -/
theorem b5 (l : Fin 256) (k : Fin 512) : (show EReal from iblk m c 5 t (ix2 l k)) = V m c main_v60 (ix2 l k) := by
  blk_ext [iblk, idx t]
/-- The key weights as a block. -/
theorem b6 (l : Fin 128) (k : Fin 512) : (show EReal from iblk m c 6 t (ix2 l k)) = V m c main_v63 (ix2 l k) := by
  blk_ext [iblk, idx t]
/-- The value weights as a block. -/
theorem b7 (l : Fin 128) (k : Fin 512) : (show EReal from iblk m c 7 t (ix2 l k)) = V m c main_v66 (ix2 l k) := by
  blk_ext [iblk, idx t]

end Cert.PrepIdeal.Value
-- ==== Proof.PrepV.lean ====
/- The preparation of the latent attention: the five arrays the call writes are the reference's. -/
module

public import proofs.«01_k».proof.Proof.PrepP
public import proofs.«01_k».proof.Proof.PrepR
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen

/-- The reference's angles are the kernel's. -/
theorem ang_eq (l : Fin 32) (e : Fin 16) : (show EReal from angA (ix2 l e)) = Cert.PrepRefIdeal.R.ang (ix2 l e) :=
  Eq.trans (by pointwise [angA]) (Cert.PrepRefIdeal.R.ang_at l e).symm

/-- The input block without its leading axis. -/
theorem pay2_at (v : Vec Ideal S1x32x512 .f32) (l : Fin 32) (k : Fin 512) : (show EReal from k0_pay2 (F := Ideal) v (ix2 l k)) = v (ix3 0 l k) := by
  pointwise [k0_pay2]

/-- The queries scaled. -/
theorem pay4_at (v : FVec Ideal S32x512 .f32) (l : Fin 32) (k : Fin 512) : (show EReal from k0_pay4 (F := Ideal) v (ix2 l k)) = v (ix2 l k) * Cert.PrepRefIdeal.R.sc := by
  pointwise [k0_pay4]

variable (m : (ℓ : Loc nD τ sig) → Buf (Elt Ideal) ℓ) (c : Dev nD) (t : Fin cfg0.N)

/-- The input a grid point loads. -/
theorem xE (l : Fin 32) (k : Fin 512) : (show EReal from View.ld (iblk m c 0 t) r0_0 (ix3 0 l k)) = arg0 m c (ix3 (st t) l k) :=
  (ld0_at _ l k).trans (b0 m c t l k)

/-- The kernel's normed query latent is the reference's. -/
theorem qnE (l : Fin 32) (k : Fin 256) : (show EReal from zq (View.ld (iblk m c 0 t) r0_0) (View.ld (iblk m c 3 t) r0_1) (ix2 l k)) = Cert.PrepRefIdeal.R.qn (arg0 m c) (arg1 m c) (ix3 (st t) l k) :=
  (zq_at _ _ l k).trans ((Ideal.mul_congr (Ideal.mul_congr (xE m c t l _) (congrArg (fun s : EReal => Ideal.rsqrt (Ideal.div s (Ideal.ofBits FTy.f32 1132462080#32) + Ideal.ofBits FTy.f32 897988541#32)) (Finset.sum_congr rfl fun x _ => Ideal.mul_congr (xE m c t l _) (xE m c t l _)))) ((ld1_at _ k).trans (b3 m c t k))).trans (Cert.PrepRefIdeal.R.qn_at _ _ (st t) l k).symm)

/-- The kernel's queries before the rotation. -/
abbrev zz : FVec Ideal S32x512 .f32 := mq (zq (View.ld (iblk m c 0 t) r0_0) (View.ld (iblk m c 3 t) r0_1)) (View.ld (iblk m c 5 t) r0_2)

/-- On the lanes of a head they are the reference's, -/
theorem zE_in (l : Fin 32) (n : Fin 512) (h : Fin 4) (j : Fin 96) (hn : (n : ℕ) = h * 128 + j) : (show EReal from zz m c t (ix2 l n)) = Cert.PrepRefIdeal.R.qh (arg0 m c) (arg1 m c) (arg3 m c) (ix4 (st t) l h j) :=
  (mq_at _ _ l n).trans ((Finset.sum_congr rfl fun x _ => Ideal.mul_congr (qnE m c t l x) ((ld2_at _ x n).trans ((b5 m c t x n).trans (wq_in m c x n h j hn)))).trans (Cert.PrepRefIdeal.R.qh_at _ _ _ (st t) l h j).symm)

/-- and past them zero. -/
theorem zE_out (l : Fin 32) (n : Fin 512) (hn : 96 ≤ (n : ℕ) % 128) : (show EReal from zz m c t (ix2 l n)) = 0 :=
  (mq_at _ _ l n).trans (Finset.sum_eq_zero fun x _ => (Ideal.mul_congr rfl ((ld2_at _ x n).trans ((b5 m c t x n).trans (wq_out m c x n hn)))).trans (mul_zero _))

/-- A sum of three products, term by term. -/
theorem three {a a' b b' d d' x x' y y' z z' : EReal} (h1 : a = a') (h2 : x = x') (h3 : b = b') (h4 : y = y') (h5 : d = d') (h6 : z = z') : a * x + b * y + d * z = a' * x' + b' * y' + d' * z' := by
  subst h1 h2 h3 h4 h5 h6; rfl

/-- The kernel's queries are the reference's. -/
theorem qE (l : Fin 32) (h : Fin 4) (d : Fin 128) (n : Fin 512) (hn : (n : ℕ) = h * 128 + d) :
    (show EReal from k0_pay26 (F := Ideal) (iblk m c 0 t) (iblk m c 1 t) (iblk m c 2 t) (iblk m c 3 t) (iblk m c 4 t) (iblk m c 5 t) (iblk m c 6 t) (iblk m c 7 t) (ix2 l n)) = Cert.PrepRefIdeal.R.ref0 (arg0 m c) (arg1 m c) (arg3 m c) (ix4 (st t) h l d) := by
  refine (pay4_at _ l n).trans (Eq.trans (congrArg (fun x : EReal => x * Cert.PrepRefIdeal.R.sc) (R4_at (zz m c t) (View.ld (iblk m c 1 t) r0_3) (View.ld (iblk m c 1 t) r0_4) (View.ld (iblk m c 1 t) r0_5) l h d n hn)) ?_)
  have hA := (ld3_at (iblk m c 1 t) l d).trans (b1 m c t 0 l d)
  have hB := (ld4_at (iblk m c 1 t) l d).trans (b1 m c t 1 l d)
  have hC := (ld5_at (iblk m c 1 t) l d).trans (b1 m c t 2 l d)
  have hd : (d : ℕ) < 128 := d.isLt
  have hh : (h : ℕ) < 4 := h.isLt
  rcases (by omega : (d : ℕ) < 64 ∨ (64 ≤ (d : ℕ) ∧ (d : ℕ) < 80) ∨ (80 ≤ (d : ℕ) ∧ (d : ℕ) < 96) ∨ 96 ≤ (d : ℕ)) with h1 | h1 | h1 | h1
  · refine Eq.trans (congrArg (fun x : EReal => x * Cert.PrepRefIdeal.R.sc) ?_) (Cert.PrepRefIdeal.R.ref0_lo _ _ _ (st t) l h d h1).symm
    refine (three (zE_in m c t l n h ⟨d, by omega⟩ hn) (hA.trans (tq0_lo l d h1)) rfl (hB.trans (tq1_z l d (by omega))) rfl (hC.trans (tq2_z l d (by omega)))).trans ?_
    simp only [mul_one, mul_zero, add_zero]
  · have e : (d : ℕ) = 64 + (⟨d - 64, by omega⟩ : Fin 16) := by show (d : ℕ) = 64 + (d - 64); omega
    refine Eq.trans (congrArg (fun x : EReal => x * Cert.PrepRefIdeal.R.sc) ?_) (Cert.PrepRefIdeal.R.ref0_a _ _ _ (st t) l h d _ e).symm
    refine (three (zE_in m c t l n h ⟨64 + (d - 64), by omega⟩ (by show (n : ℕ) = h * 128 + (64 + (d - 64)); omega)) (hA.trans ((tq0_a l d _ e).trans (congrArg Ideal.cos (ang_eq _ _)))) (zE_in m c t l _ h ⟨64 + (16 + (d - 64)), by omega⟩ (by show ((n : ℕ) + 512 - 496) % 512 = h * 128 + (64 + (16 + (d - 64))); omega)) (hB.trans ((tq1_a l d _ e).trans (congrArg (fun x => -Ideal.sin x) (ang_eq _ _)))) rfl (hC.trans (tq2_z l d (by omega)))).trans ?_
    rw [mul_zero, add_zero, sub_eq_add_neg, mul_neg]
  · have e : (d : ℕ) = 64 + 16 + (⟨d - 80, by omega⟩ : Fin 16) := by show (d : ℕ) = 64 + 16 + (d - 80); omega
    refine Eq.trans (congrArg (fun x : EReal => x * Cert.PrepRefIdeal.R.sc) ?_) (Cert.PrepRefIdeal.R.ref0_b _ _ _ (st t) l h d _ e).symm
    refine (three (zE_in m c t l n h ⟨64 + (16 + (d - 80)), by omega⟩ (by show (n : ℕ) = h * 128 + (64 + (16 + (d - 80))); omega)) (hA.trans ((tq0_b l d _ e).trans (congrArg Ideal.cos (ang_eq _ _)))) rfl (hB.trans (tq1_z l d (by omega))) (zE_in m c t l _ h ⟨64 + (d - 80), by omega⟩ (by show ((n : ℕ) + 512 - 16) % 512 = h * 128 + (64 + (d - 80)); omega)) (hC.trans ((tq2_b l d _ e).trans (congrArg Ideal.sin (ang_eq _ _))))).trans ?_
    rw [mul_zero, add_zero, add_comm]
  · refine Eq.trans ?_ (Cert.PrepRefIdeal.R.ref0_z _ _ _ (st t) l h d h1).symm
    refine (congrArg (fun x : EReal => x * Cert.PrepRefIdeal.R.sc) (three (zE_out m c t l n (by omega)) rfl rfl (hB.trans (tq1_z l d (by omega))) rfl (hC.trans (tq2_z l d (by omega))))).trans ?_
    simp only [mul_zero, zero_mul, add_zero]

/-- The kernel's normed key latent is the reference's. -/
theorem cnE (l : Fin 32) (k : Fin 128) : (show EReal from k0_pay27 (F := Ideal) (iblk m c 0 t) (iblk m c 1 t) (iblk m c 2 t) (iblk m c 3 t) (iblk m c 4 t) (iblk m c 5 t) (iblk m c 6 t) (iblk m c 7 t) (ix2 l k)) = Cert.PrepRefIdeal.R.cn (arg0 m c) (arg2 m c) (ix3 (st t) l k) :=
  have hx : ∀ k : Fin 512, (show EReal from k0_pay2 (F := Ideal) (View.ld (iblk m c 0 t) r0_0) (ix2 l k)) = arg0 m c (ix3 (st t) l k) := fun k => (pay2_at _ l k).trans (xE m c t l k)
  (pay5_at _ _ l k).trans ((Ideal.mul_congr (Ideal.mul_congr (hx _) (congrArg (fun s : EReal => Ideal.rsqrt (Ideal.div s (Ideal.ofBits FTy.f32 1124073472#32) + Ideal.ofBits FTy.f32 897988541#32)) (Finset.sum_congr rfl fun x _ => Ideal.mul_congr (hx _) (hx _)))) ((ld6_at _ k).trans (b4 m c t k))).trans (Cert.PrepRefIdeal.R.cn_at _ _ (st t) l k).symm)

/-- The kernel's shared key: the reference's on its lanes, -/
theorem krE_in (l : Fin 32) (k : Fin 128) (j : Fin 32) (hk : (k : ℕ) = j) : (show EReal from k0_pay28 (F := Ideal) (iblk m c 0 t) (iblk m c 1 t) (iblk m c 2 t) (iblk m c 3 t) (iblk m c 4 t) (iblk m c 5 t) (iblk m c 6 t) (iblk m c 7 t) (ix2 l k)) = Cert.PrepRefIdeal.R.kr (arg0 m c) (ix4 (st t) l 0 j) := by
  have hx : ∀ k : Fin 512, (show EReal from k0_pay2 (F := Ideal) (View.ld (iblk m c 0 t) r0_0) (ix2 l k)) = arg0 m c (ix3 (st t) l k) := fun k => (pay2_at _ l k).trans (xE m c t l k)
  have hx' : ∀ k k' : Fin 512, (k : ℕ) = k' → (show EReal from k0_pay2 (F := Ideal) (View.ld (iblk m c 0 t) r0_0) (ix2 l k)) = arg0 m c (ix3 (st t) l k') := fun k k' e => by obtain rfl := Fin.ext e; exact hx k
  have hA := (ld3_at (iblk m c 2 t) l k).trans (b2 m c t 0 l k)
  have hB := (ld4_at (iblk m c 2 t) l k).trans (b2 m c t 1 l k)
  have hC := (ld5_at (iblk m c 2 t) l k).trans (b2 m c t 2 l k)
  have hj : (j : ℕ) < 32 := j.isLt
  refine (pay7_at _ _ _ _ l k).trans ?_
  rcases (by omega : (j : ℕ) < 16 ∨ 16 ≤ (j : ℕ)) with h1 | h1
  · have e : (j : ℕ) = (⟨j, h1⟩ : Fin 16) := rfl
    refine Eq.trans ?_ (Cert.PrepRefIdeal.R.kr_lo _ (st t) l j _ e).symm
    refine (three (hx' _ ⟨384 + j, by omega⟩ (by show 384 + (k : ℕ) = 384 + j; omega)) (hA.trans ((tk0_a l k ⟨j, h1⟩ hk).trans (congrArg Ideal.cos (ang_eq _ _)))) (hx' _ ⟨384 + (16 + j), by omega⟩ (by show 384 + ((k : ℕ) + 128 - 112) % 128 = 384 + (16 + j); omega)) (hB.trans ((tk1_a l k ⟨j, h1⟩ hk).trans (congrArg (fun x => -Ideal.sin x) (ang_eq _ _)))) rfl (hC.trans (tk2_z l k (by omega)))).trans ?_
    rw [mul_zero, add_zero, sub_eq_add_neg, mul_neg]
  · have e : (j : ℕ) = 16 + (⟨j - 16, by omega⟩ : Fin 16) := by show (j : ℕ) = 16 + (j - 16); omega
    refine Eq.trans ?_ (Cert.PrepRefIdeal.R.kr_hi _ (st t) l j _ e).symm
    refine (three (hx' _ ⟨384 + (16 + (j - 16)), by omega⟩ (by show 384 + (k : ℕ) = 384 + (16 + (j - 16)); omega)) (hA.trans ((tk0_b l k _ (hk.trans e)).trans (congrArg Ideal.cos (ang_eq _ _)))) rfl (hB.trans (tk1_z l k (by omega))) (hx' _ ⟨384 + (j - 16), by omega⟩ (by show 384 + ((k : ℕ) + 128 - 16) % 128 = 384 + (j - 16); omega)) (hC.trans ((tk2_b l k _ (hk.trans e)).trans (congrArg Ideal.sin (ang_eq _ _))))).trans ?_
    rw [mul_zero, add_zero, add_comm]

/-- zero past them. -/
theorem krE_out (l : Fin 32) (k : Fin 128) (hk : 32 ≤ (k : ℕ)) : (show EReal from k0_pay28 (F := Ideal) (iblk m c 0 t) (iblk m c 1 t) (iblk m c 2 t) (iblk m c 3 t) (iblk m c 4 t) (iblk m c 5 t) (iblk m c 6 t) (iblk m c 7 t) (ix2 l k)) = 0 := by
  have hA := (ld3_at (iblk m c 2 t) l k).trans (b2 m c t 0 l k)
  have hB := (ld4_at (iblk m c 2 t) l k).trans (b2 m c t 1 l k)
  have hC := (ld5_at (iblk m c 2 t) l k).trans (b2 m c t 2 l k)
  refine (pay7_at _ _ _ _ l k).trans ((three rfl (hA.trans (tk0_z l k hk)) rfl (hB.trans (tk1_z l k (by omega))) rfl (hC.trans (tk2_z l k (by omega)))).trans ?_)
  simp only [mul_zero, add_zero]

/-- The kernel's keys are the reference's. -/
theorem kE (l : Fin 32) (h : Fin 4) (d : Fin 128) (n : Fin 512) (hn : (n : ℕ) = h * 128 + d) :
    (show EReal from k0_pay29 (F := Ideal) (iblk m c 0 t) (iblk m c 1 t) (iblk m c 2 t) (iblk m c 3 t) (iblk m c 4 t) (iblk m c 5 t) (iblk m c 6 t) (iblk m c 7 t) (ix2 l n)) = Cert.PrepRefIdeal.R.ref1 (arg0 m c) (arg2 m c) (arg4 m c) (ix4 (st t) h l d) := by
  have hd : (d : ℕ) < 128 := d.isLt
  have hh : (h : ℕ) < 4 := h.isLt
  refine (pay10_at _ _ _ l h d n hn).trans ?_
  have hout : 64 ≤ (d : ℕ) → ∑ x : Fin 128, (show EReal from k0_pay27 (F := Ideal) (iblk m c 0 t) (iblk m c 1 t) (iblk m c 2 t) (iblk m c 3 t) (iblk m c 4 t) (iblk m c 5 t) (iblk m c 6 t) (iblk m c 7 t) (ix2 l x)) * View.ld (iblk m c 6 t) r0_9 (ix2 x n) = 0 := fun h1 =>
    Finset.sum_eq_zero fun x _ => (Ideal.mul_congr rfl ((ld9_at _ x n).trans ((b6 m c t x n).trans (wk_out m c x n (by omega))))).trans (mul_zero _)
  rcases (by omega : (d : ℕ) < 64 ∨ (64 ≤ (d : ℕ) ∧ (d : ℕ) < 96) ∨ 96 ≤ (d : ℕ)) with h1 | h1 | h1
  · refine Eq.trans (congrArg₂ (fun a b : EReal => a + b) (Finset.sum_congr rfl fun x _ => Ideal.mul_congr (cnE m c t l x) ((ld9_at _ x n).trans ((b6 m c t x n).trans (wk_in m c x n (by omega))))) (krE_out m c t l _ (by show 32 ≤ ((d : ℕ) + 128 - 64) % 128; omega))) ?_
    refine (add_zero _).trans (Eq.trans ?_ ((Cert.PrepRefIdeal.R.ref1_lo _ _ _ (st t) l h d h1).trans (Cert.PrepRefIdeal.R.kv_at _ _ _ (st t) l h d)).symm)
    exact Finset.sum_congr rfl fun x _ => Ideal.mul_congr rfl (congrArg (fun y => arg4 m c (ix2 x y)) (Fin.ext hn))
  · refine Eq.trans (congrArg₂ (fun a b : EReal => a + b) (hout h1.1) (krE_in m c t l _ ⟨d - 64, by omega⟩ (by show ((d : ℕ) + 128 - 64) % 128 = d - 64; omega))) ?_
    exact (zero_add _).trans (Cert.PrepRefIdeal.R.ref1_hi _ _ _ (st t) l h d ⟨d - 64, by omega⟩ (by show (d : ℕ) = 64 + (d - 64); omega)).symm
  · refine Eq.trans (congrArg₂ (fun a b : EReal => a + b) (hout (by omega)) (krE_out m c t l _ (by show 32 ≤ ((d : ℕ) + 128 - 64) % 128; omega))) ?_
    exact (zero_add _).trans (Cert.PrepRefIdeal.R.ref1_z _ _ _ (st t) l h d h1).symm

/-- The kernel's values are the reference's. -/
theorem vE (l : Fin 32) (h : Fin 4) (d : Fin 128) (n : Fin 512) (hn : (n : ℕ) = h * 128 + d) :
    (show EReal from k0_pay11 (F := Ideal) (k0_pay27 (F := Ideal) (iblk m c 0 t) (iblk m c 1 t) (iblk m c 2 t) (iblk m c 3 t) (iblk m c 4 t) (iblk m c 5 t) (iblk m c 6 t) (iblk m c 7 t)) (View.ld (iblk m c 7 t) r0_9) (ix2 l n)) = Cert.PrepRefIdeal.R.ref2 (arg0 m c) (arg2 m c) (arg4 m c) (ix4 (st t) h l d) := by
  have hd : (d : ℕ) < 128 := d.isLt
  refine (pay11_at _ _ l n).trans ?_
  rcases (by omega : (d : ℕ) < 64 ∨ 64 ≤ (d : ℕ)) with h1 | h1
  · refine (Finset.sum_congr rfl fun x _ => Ideal.mul_congr (cnE m c t l x) ((ld9_at _ x n).trans ((b7 m c t x n).trans (wv_in m c x n h ⟨d, h1⟩ hn)))).trans ?_
    exact ((Cert.PrepRefIdeal.R.ref2_lo _ _ _ (st t) l h d h1).trans (Cert.PrepRefIdeal.R.kv_at _ _ _ (st t) l h _)).symm
  · refine (Finset.sum_eq_zero fun x _ => (Ideal.mul_congr rfl ((ld9_at _ x n).trans ((b7 m c t x n).trans (wv_out m c x n (by omega))))).trans (mul_zero _)).trans ?_
    exact (Cert.PrepRefIdeal.R.ref2_z _ _ _ (st t) l h d h1).symm

/-- Four pieces, one per head, are an array when each is the array's head. -/
theorem canon4 (P3 P2 P1 P0 : FVec Ideal S1x1x32x128 .f32) (G : S1x4x32x128.Idx → EReal)
    (h0 : ∀ (l : Fin 32) (d : Fin 128), (show EReal from P0 (ix4 0 0 l d)) = G (ix4 0 0 l d)) (h1 : ∀ (l : Fin 32) (d : Fin 128), (show EReal from P1 (ix4 0 0 l d)) = G (ix4 0 1 l d))
    (h2 : ∀ (l : Fin 32) (d : Fin 128), (show EReal from P2 (ix4 0 0 l d)) = G (ix4 0 2 l d)) (h3 : ∀ (l : Fin 32) (d : Fin 128), (show EReal from P3 (ix4 0 0 l d)) = G (ix4 0 3 l d)) (y : S1x4x32x128.Idx) :
    View.canon (Val := Elt Ideal) (s := S1x4x32x128) (e := .f32) [⟨r0_13, P3⟩, ⟨r0_12, P2⟩, ⟨r0_11, P1⟩, ⟨r0_10, P0⟩] y = G y := by
  have hc := cover0_8 (F := Ideal) P3 P2 P1 P0 y
  suffices hL : ∀ p ∈ ([⟨r0_13, P3⟩, ⟨r0_12, P2⟩, ⟨r0_11, P1⟩, ⟨r0_10, P0⟩] : List (View.Piece (Elt Ideal) S1x4x32x128 .f32)), ∀ x : p.1.shape.Idx, p.2 x = G (p.1.emb x) by
    exact View.canon_apply_of_pieces G _ hL y hc
  intro p hp
  simp only [List.mem_cons, List.not_mem_nil, or_false] at hp
  rcases hp with rfl | rfl | rfl | rfl
  all_goals
    intro x
    idx_vars x
    obtain rfl : x0 = 0 := Subsingleton.elim _ _
    obtain rfl : x1 = 0 := Subsingleton.elim _ _
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- The head a piece stores. -/
theorem pay12_at (v : FVec Ideal S32x512 .f32) (l : Fin 32) (d : Fin 128) : (show EReal from k0_pay12 (F := Ideal) v (ix4 0 0 l d)) = v (ix2 l ⟨d, by omega⟩) := by
  pointwise [k0_pay12]

/-- The head a piece stores. -/
theorem pay15_at (v : FVec Ideal S32x512 .f32) (l : Fin 32) (d : Fin 128) : (show EReal from k0_pay15 (F := Ideal) v (ix4 0 0 l d)) = v (ix2 l ⟨128 + d, by omega⟩) := by
  pointwise [k0_pay15]

/-- The head a piece stores. -/
theorem pay19_at (v : FVec Ideal S32x512 .f32) (l : Fin 32) (d : Fin 128) : (show EReal from k0_pay19 (F := Ideal) v (ix4 0 0 l d)) = v (ix2 l ⟨256 + d, by omega⟩) := by
  pointwise [k0_pay19]

/-- The head a piece stores. -/
theorem pay22_at (v : FVec Ideal S32x512 .f32) (l : Fin 32) (d : Fin 128) : (show EReal from k0_pay22 (F := Ideal) v (ix4 0 0 l d)) = v (ix2 l ⟨384 + d, by omega⟩) := by
  pointwise [k0_pay22]

/-- The head a piece stores. -/
theorem pay20_at (v : FVec Ideal S32x512 .f32) (l : Fin 32) (d : Fin 128) : (show EReal from k0_pay20 (F := Ideal) v (ix4 0 0 l d)) = v (ix2 l ⟨256 + d, by omega⟩) := by
  pointwise [k0_pay20]

/-- The head a piece stores. -/
theorem pay23_at (v : FVec Ideal S32x512 .f32) (l : Fin 32) (d : Fin 128) : (show EReal from k0_pay23 (F := Ideal) v (ix4 0 0 l d)) = v (ix2 l ⟨384 + d, by omega⟩) := by
  pointwise [k0_pay23]

/-- The head a piece stores. -/
theorem pay18_at (v : FVec Ideal S32x512 .f32) (l : Fin 32) (d : Fin 128) : (show EReal from k0_pay18 (F := Ideal) v (ix4 0 0 l d)) = v (ix2 l ⟨128 + d, by omega⟩) := by
  pointwise [k0_pay18]

/-- The head a piece stores. -/
theorem pay21_at (v : FVec Ideal S32x512 .f32) (l : Fin 32) (d : Fin 128) : (show EReal from k0_pay21 (F := Ideal) v (ix4 0 0 l d)) = v (ix2 l ⟨256 + d, by omega⟩) := by
  pointwise [k0_pay21]

/-- The same for the first head of the keys, -/
theorem pay13_at (z r : FVec Ideal S32x128 .f32) (w : Vec Ideal S128x512 .f32) (l : Fin 32) (d : Fin 128) : (show EReal from k0_pay13 (F := Ideal) z r w (ix4 0 0 l d)) = k0_pay10 (F := Ideal) z r w (ix2 l ⟨d, by omega⟩) := by
  unfold k0_pay13
  generalize k0_pay10 (F := Ideal) z r w = v
  pointwise

/-- the second, -/
theorem pay17_at (z r : FVec Ideal S32x128 .f32) (w : Vec Ideal S128x512 .f32) (l : Fin 32) (d : Fin 128) : (show EReal from k0_pay17 (F := Ideal) (k0_pay16 (F := Ideal) z r w) (ix4 0 0 l d)) = k0_pay10 (F := Ideal) z r w (ix2 l ⟨128 + d, by omega⟩) := by
  unfold k0_pay17 k0_pay16
  generalize k0_pay10 (F := Ideal) z r w = v
  pointwise

/-- the first head of the values -/
theorem pay14_at (z : FVec Ideal S32x128 .f32) (w : Vec Ideal S128x512 .f32) (l : Fin 32) (d : Fin 128) : (show EReal from k0_pay14 (F := Ideal) z w (ix4 0 0 l d)) = k0_pay11 (F := Ideal) z w (ix2 l ⟨d, by omega⟩) := by
  unfold k0_pay14
  generalize k0_pay11 (F := Ideal) z w = v
  pointwise

/-- and the last. -/
theorem pay1_at (v : FVec Ideal S32x512 .f32) (l : Fin 32) (d : Fin 128) : (show EReal from k0_pay1 (F := Ideal) (k0_pay24 (F := Ideal) v) (ix4 0 0 l d)) = v (ix2 l ⟨384 + d, by omega⟩) := by
  pointwise [k0_pay1, k0_pay24]

/-- The normed latent as stored. -/
theorem pay6_at (x0 : FVec Ideal S32x512 .f32) (x3 : Vec Ideal S1x128 .f32) (l : Fin 32) (k : Fin 128) : (show EReal from k0_pay6 (F := Ideal) x0 x3 (ix3 0 l k)) = k0_pay5 (F := Ideal) x0 x3 (ix2 l k) := by
  unfold k0_pay6
  generalize k0_pay5 (F := Ideal) x0 x3 = v
  pointwise

/-- The shared key as stored. -/
theorem pay9_at (z : FVec Ideal S32x512 .f32) (a b c : Vec Ideal S1x32x128 .f32) (l : Fin 32) (k : Fin 32) : (show EReal from k0_pay9 (F := Ideal) (k0_pay8 (F := Ideal) z a b c) (ix3 0 l k)) = k0_pay7 (F := Ideal) z a b c (ix2 l ⟨k, by omega⟩) := by
  unfold k0_pay9 k0_pay8
  generalize k0_pay7 (F := Ideal) z a b c = v
  pointwise

/-- What a grid point leaves of the queries is the reference's. -/
theorem point8 (y : S1x4x32x128.Idx) : out0_8 (F := Ideal) (iblk m c 0 t) (iblk m c 1 t) (iblk m c 2 t) (iblk m c 3 t) (iblk m c 4 t) (iblk m c 5 t) (iblk m c 6 t) (iblk m c 7 t) y = Cert.PrepRefIdeal.R.ref0 (arg0 m c) (arg1 m c) (arg3 m c) (((cfg0.win 8).blk t).view.emb y) := by
  have e : ∀ (h : Fin 4) (l : Fin 32) (d : Fin 128), ((cfg0.win 8).blk t).view.emb (ix4 0 h l d) = ix4 (st t) h l d := fun h l d => by blk_ext [idx t]
  unfold out0_8
  refine canon4 _ _ _ _ (fun y => Cert.PrepRefIdeal.R.ref0 (arg0 m c) (arg1 m c) (arg3 m c) (((cfg0.win 8).blk t).view.emb y)) ?_ ?_ ?_ ?_ y
  · exact fun l d => (pay12_at _ l d).trans ((qE m c t l 0 d _ (by show (d : ℕ) = 0 * 128 + (d : ℕ); omega)).trans (congrArg (Cert.PrepRefIdeal.R.ref0 (arg0 m c) (arg1 m c) (arg3 m c)) (e 0 l d).symm))
  · exact fun l d => (pay15_at _ l d).trans ((qE m c t l 1 d _ (by show 128 + (d : ℕ) = 1 * 128 + (d : ℕ); omega)).trans (congrArg (Cert.PrepRefIdeal.R.ref0 (arg0 m c) (arg1 m c) (arg3 m c)) (e 1 l d).symm))
  · exact fun l d => (pay19_at _ l d).trans ((qE m c t l 2 d _ (by show 256 + (d : ℕ) = 2 * 128 + (d : ℕ); omega)).trans (congrArg (Cert.PrepRefIdeal.R.ref0 (arg0 m c) (arg1 m c) (arg3 m c)) (e 2 l d).symm))
  · exact fun l d => (pay22_at _ l d).trans ((qE m c t l 3 d _ (by show 384 + (d : ℕ) = 3 * 128 + (d : ℕ); omega)).trans (congrArg (Cert.PrepRefIdeal.R.ref0 (arg0 m c) (arg1 m c) (arg3 m c)) (e 3 l d).symm))

/-- The queries after the run are the reference's. -/
theorem final8 : (dats m 0 c).arrAt 8 (cfgs 0).N = Cert.PrepRefIdeal.R.ref0 (arg0 m c) (arg1 m c) (arg3 m c) := by
  refine (dats m 0 c).arrAt_eq_of_covers 8 _ (by decide +kernel) fun t _ y => ?_
  blk_simp
  rw [after0_8]
  exact point8 m c t y

/-- What a grid point leaves of the keys is the reference's. -/
theorem point9 (y : S1x4x32x128.Idx) : out0_9 (F := Ideal) (iblk m c 0 t) (iblk m c 1 t) (iblk m c 2 t) (iblk m c 3 t) (iblk m c 4 t) (iblk m c 5 t) (iblk m c 6 t) (iblk m c 7 t) y = Cert.PrepRefIdeal.R.ref1 (arg0 m c) (arg2 m c) (arg4 m c) (((cfg0.win 9).blk t).view.emb y) := by
  have e : ∀ (h : Fin 4) (l : Fin 32) (d : Fin 128), ((cfg0.win 9).blk t).view.emb (ix4 0 h l d) = ix4 (st t) h l d := fun h l d => by blk_ext [idx t]
  unfold out0_9
  refine canon4 _ _ _ _ (fun y => Cert.PrepRefIdeal.R.ref1 (arg0 m c) (arg2 m c) (arg4 m c) (((cfg0.win 9).blk t).view.emb y)) ?_ ?_ ?_ ?_ y
  · exact fun l d => (pay13_at _ _ _ l d).trans ((kE m c t l 0 d _ (by show (d : ℕ) = 0 * 128 + (d : ℕ); omega)).trans (congrArg (Cert.PrepRefIdeal.R.ref1 (arg0 m c) (arg2 m c) (arg4 m c)) (e 0 l d).symm))
  · exact fun l d => (pay17_at _ _ _ l d).trans ((kE m c t l 1 d _ (by show 128 + (d : ℕ) = 1 * 128 + (d : ℕ); omega)).trans (congrArg (Cert.PrepRefIdeal.R.ref1 (arg0 m c) (arg2 m c) (arg4 m c)) (e 1 l d).symm))
  · exact fun l d => (pay20_at _ l d).trans ((kE m c t l 2 d _ (by show 256 + (d : ℕ) = 2 * 128 + (d : ℕ); omega)).trans (congrArg (Cert.PrepRefIdeal.R.ref1 (arg0 m c) (arg2 m c) (arg4 m c)) (e 2 l d).symm))
  · exact fun l d => (pay23_at _ l d).trans ((kE m c t l 3 d _ (by show 384 + (d : ℕ) = 3 * 128 + (d : ℕ); omega)).trans (congrArg (Cert.PrepRefIdeal.R.ref1 (arg0 m c) (arg2 m c) (arg4 m c)) (e 3 l d).symm))

/-- The keys after the run are the reference's. -/
theorem final9 : (dats m 0 c).arrAt 9 (cfgs 0).N = Cert.PrepRefIdeal.R.ref1 (arg0 m c) (arg2 m c) (arg4 m c) := by
  refine (dats m 0 c).arrAt_eq_of_covers 9 _ (by decide +kernel) fun t _ y => ?_
  blk_simp
  rw [after0_9]
  exact point9 m c t y

/-- What a grid point leaves of the values is the reference's. -/
theorem point10 (y : S1x4x32x128.Idx) : out0_10 (F := Ideal) (iblk m c 0 t) (iblk m c 1 t) (iblk m c 2 t) (iblk m c 3 t) (iblk m c 4 t) (iblk m c 5 t) (iblk m c 6 t) (iblk m c 7 t) y = Cert.PrepRefIdeal.R.ref2 (arg0 m c) (arg2 m c) (arg4 m c) (((cfg0.win 10).blk t).view.emb y) := by
  have e : ∀ (h : Fin 4) (l : Fin 32) (d : Fin 128), ((cfg0.win 10).blk t).view.emb (ix4 0 h l d) = ix4 (st t) h l d := fun h l d => by blk_ext [idx t]
  unfold out0_10
  refine canon4 _ _ _ _ (fun y => Cert.PrepRefIdeal.R.ref2 (arg0 m c) (arg2 m c) (arg4 m c) (((cfg0.win 10).blk t).view.emb y)) ?_ ?_ ?_ ?_ y
  · exact fun l d => (pay14_at _ _ l d).trans ((vE m c t l 0 d _ (by show (d : ℕ) = 0 * 128 + (d : ℕ); omega)).trans (congrArg (Cert.PrepRefIdeal.R.ref2 (arg0 m c) (arg2 m c) (arg4 m c)) (e 0 l d).symm))
  · exact fun l d => (pay18_at _ l d).trans ((vE m c t l 1 d _ (by show 128 + (d : ℕ) = 1 * 128 + (d : ℕ); omega)).trans (congrArg (Cert.PrepRefIdeal.R.ref2 (arg0 m c) (arg2 m c) (arg4 m c)) (e 1 l d).symm))
  · exact fun l d => (pay21_at _ l d).trans ((vE m c t l 2 d _ (by show 256 + (d : ℕ) = 2 * 128 + (d : ℕ); omega)).trans (congrArg (Cert.PrepRefIdeal.R.ref2 (arg0 m c) (arg2 m c) (arg4 m c)) (e 2 l d).symm))
  · exact fun l d => (pay1_at _ l d).trans ((vE m c t l 3 d _ (by show 384 + (d : ℕ) = 3 * 128 + (d : ℕ); omega)).trans (congrArg (Cert.PrepRefIdeal.R.ref2 (arg0 m c) (arg2 m c) (arg4 m c)) (e 3 l d).symm))

/-- The values after the run are the reference's. -/
theorem final10 : (dats m 0 c).arrAt 10 (cfgs 0).N = Cert.PrepRefIdeal.R.ref2 (arg0 m c) (arg2 m c) (arg4 m c) := by
  refine (dats m 0 c).arrAt_eq_of_covers 10 _ (by decide +kernel) fun t _ y => ?_
  blk_simp
  rw [after0_10]
  exact point10 m c t y

/-- One piece over a whole block is the block. -/
theorem canonA (P : FVec Ideal S1x32x128 .f32) : View.canon (Val := Elt Ideal) (s := S1x32x128) (e := .f32) [⟨r0_7, P⟩] = P :=
  View.canon_unit_zero (by funext a; fin_cases a <;> rfl) _ _

/-- The same at the other shape. -/
theorem canonB (P : FVec Ideal S1x32x32 .f32) : View.canon (Val := Elt Ideal) (s := S1x32x32) (e := .f32) [⟨r0_8, P⟩] = P :=
  View.canon_unit_zero (by funext a; fin_cases a <;> rfl) _ _

/-- What a grid point leaves of the normed key latent is the reference's. -/
theorem point11 (y : S1x32x128.Idx) : out0_11 (F := Ideal) (iblk m c 0 t) (iblk m c 1 t) (iblk m c 2 t) (iblk m c 3 t) (iblk m c 4 t) (iblk m c 5 t) (iblk m c 6 t) (iblk m c 7 t) y = Cert.PrepRefIdeal.R.cn (arg0 m c) (arg2 m c) (((cfg0.win 11).blk t).view.emb y) := by
  idx_vars y
  obtain rfl : y0 = 0 := Subsingleton.elim _ _
  have e : ((cfg0.win 11).blk t).view.emb (ix3 0 y1 y2) = ix3 (st t) y1 y2 := by blk_ext [idx t]
  unfold out0_11
  refine (congrFun (canonA _) _).trans ?_
  exact (pay6_at _ _ y1 y2).trans ((cnE m c t y1 y2).trans (congrArg (Cert.PrepRefIdeal.R.cn (arg0 m c) (arg2 m c)) e.symm))

/-- The normed key latent after the run is the reference's. -/
theorem final11 : (dats m 0 c).arrAt 11 (cfgs 0).N = Cert.PrepRefIdeal.R.cn (arg0 m c) (arg2 m c) := by
  refine (dats m 0 c).arrAt_eq_of_covers 11 _ (by decide +kernel) fun t _ y => ?_
  blk_simp
  rw [after0_11]
  exact point11 m c t y

/-- What a grid point leaves of the rotated shared key is the reference's. -/
theorem point12 (y : S1x32x32.Idx) : out0_12 (F := Ideal) (iblk m c 0 t) (iblk m c 1 t) (iblk m c 2 t) (iblk m c 3 t) (iblk m c 4 t) (iblk m c 5 t) (iblk m c 6 t) (iblk m c 7 t) y = Cert.PrepRefIdeal.R.ref4 (arg0 m c) (((cfg0.win 12).blk t).view.emb y) := by
  idx_vars y
  obtain rfl : y0 = 0 := Subsingleton.elim _ _
  have e : ((cfg0.win 12).blk t).view.emb (ix3 0 y1 y2) = ix3 (st t) y1 y2 := by blk_ext [idx t]
  unfold out0_12
  refine (congrFun (canonB _) _).trans ?_
  exact (pay9_at _ _ _ _ y1 y2).trans ((krE_in m c t y1 _ y2 rfl).trans ((Cert.PrepRefIdeal.R.ref4_at _ (st t) y1 y2).symm.trans (congrArg (Cert.PrepRefIdeal.R.ref4 (arg0 m c)) e.symm)))

/-- The rotated shared key after the run is the reference's. -/
theorem final12 : (dats m 0 c).arrAt 12 (cfgs 0).N = Cert.PrepRefIdeal.R.ref4 (arg0 m c) := by
  refine (dats m 0 c).arrAt_eq_of_covers 12 _ (by decide +kernel) fun t _ y => ?_
  blk_simp
  rw [after0_12]
  exact point12 m c t y

end Cert.PrepIdeal.Value
-- ==== Proof.PastV.lean ====
/- The cached keys and values of the latent attention: the two arrays the call writes are the reference's. -/
module

public import proofs.«01_k».proof.Proof.Gen.PastIdeal.Frame
public import proofs.«01_k».proof.Proof.Gen.PastRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PastRefIdeal.R

open Cert.PastRefIdeal Cert.PastRefIdeal.Gen

variable (X : FVec Ideal S16x4096x128 .f32) (K : FVec Ideal S16x4096x32 .f32) (w2 : FVec Ideal S128x512 .f32)

/-- Keys and values by head. -/
def kv (X : FVec Ideal S16x4096x128 .f32) (w2 : FVec Ideal S128x512 .f32) : FVec Ideal S16x4096x4x128 .f32 := (shapeCast _ (Host.dotGeneral dot_S16x4096x128_S128x512_S16x4096x512_2_0_01_1_n_n none X w2) shapeCasts_S16x4096x512_S16x4096x4x128)

/-- The keys the reference gives. -/
def ref0 (X : FVec Ideal S16x4096x128 .f32) (K : FVec Ideal S16x4096x32 .f32) (w2 : FVec Ideal S128x512 .f32) : FVec Ideal S16x4x4096x128 .f32 := (pad S16x4x4096x128 ![0, 0, 0, 0] ![0, 0, 0, 32] ![0, 0, 0, 0] (transpose S16x4x4096x96 [0, 2, 1, 3] (concatenate S16x4096x4x96 3 [⟨S16x4096x4x64, (extractStridedSlice S16x4096x4x64 ![0, 0, 0, 0] (kv X w2) slices_S16x4096x4x128_S16x4096x4x64_0_0_0_0)⟩, ⟨S16x4096x4x32, (broadcastInDim S16x4096x4x32 ![0, 1, 2, 3] bcast_S16x4096x1x32_S16x4096x4x32_0_1_2_3 (broadcastInDim S16x4096x1x32 ![0, 1, 3] bcast_S16x4096x32_S16x4096x1x32_0_1_3 K))⟩] concatenates_S16x4096x4x64_S16x4096x4x32_S16x4096x4x96_d3) transposes_S16x4096x4x96_S16x4x4096x96_0_2_1_3) (sitofp .f32 (constantI S_ 32 0#32)) pads_S16x4x4096x96_S16x4x4096x128_000_000_000_0320 h_S_)

/-- The values the reference gives. -/
def ref1 (X : FVec Ideal S16x4096x128 .f32) (w2 : FVec Ideal S128x512 .f32) : FVec Ideal S16x4x4096x128 .f32 := (pad S16x4x4096x128 ![0, 0, 0, 0] ![0, 0, 0, 64] ![0, 0, 0, 0] (transpose S16x4x4096x64 [0, 2, 1, 3] (extractStridedSlice S16x4096x4x64 ![0, 0, 0, 64] (kv X w2) slices_S16x4096x4x128_S16x4096x4x64_0_0_0_64) transposes_S16x4096x4x64_S16x4x4096x64_0_2_1_3) (sitofp .f32 (constantI S_ 32 0#32)) pads_S16x4x4096x64_S16x4x4096x128_000_000_000_0640 h_S_)

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- A key or value lane: a dot product with a column of its head. -/
theorem kv_at (b : Fin 16) (l : Fin 4096) (h : Fin 4) (k : Fin 128) : (show EReal from kv X w2 (ix4 b l h k)) = ∑ x : Fin 128, X (ix3 b l x) * w2 (ix2 x ⟨(h : ℕ) * 128 + k, by omega⟩) := by
  pointwise [kv]

/-- An unrotated key lane. -/
theorem ref0_lo (b : Fin 16) (l : Fin 4096) (h : Fin 4) (k : Fin 128) (hk : (k : ℕ) < 64) : (show EReal from ref0 X K w2 (ix4 b h l k)) = kv X w2 (ix4 b l h k) := by
  pointwise [ref0]
  rw [dif_pos (by omega), dif_pos hk]

/-- A lane of the shared rotated key. -/
theorem ref0_hi (b : Fin 16) (l : Fin 4096) (h : Fin 4) (k : Fin 128) (e : Fin 32) (hk : (k : ℕ) = 64 + e) : (show EReal from ref0 X K w2 (ix4 b h l k)) = K (ix3 b l e) := by
  pointwise [ref0]
  rw [dif_pos (by omega), dif_neg (by omega)]
  exact congrArg (fun x => K (ix3 b l x)) (Fin.ext (show (k : ℕ) - 64 = e by omega))

/-- The lanes past the key's. -/
theorem ref0_z (b : Fin 16) (l : Fin 4096) (h : Fin 4) (k : Fin 128) (hk : 96 ≤ (k : ℕ)) : (show EReal from ref0 X K w2 (ix4 b h l k)) = 0 := by
  pointwise [ref0]
  rw [dif_neg (by omega)]
  exact sitofp_zero

/-- A value lane. -/
theorem ref1_lo (b : Fin 16) (l : Fin 4096) (h : Fin 4) (k : Fin 128) (hk : (k : ℕ) < 64) : (show EReal from ref1 X w2 (ix4 b h l k)) = kv X w2 (ix4 b l h ⟨64 + k, by omega⟩) := by
  pointwise [ref1]
  rw [dif_pos (by omega)]

/-- The lanes past the value's. -/
theorem ref1_z (b : Fin 16) (l : Fin 4096) (h : Fin 4) (k : Fin 128) (hk : 64 ≤ (k : ℕ)) : (show EReal from ref1 X w2 (ix4 b h l k)) = 0 := by
  pointwise [ref1]
  rw [dif_neg (by omega)]
  exact sitofp_zero

end Cert.PastRefIdeal.R

namespace Cert.PastIdeal.Value

open Cert.PastIdeal Cert.PastIdeal.Gen

variable (m : (ℓ : Loc nD τ sig) → Buf (Elt Ideal) ℓ)

/-- The run: every result array as the grid points left it, every argument as launched. -/
theorem run_blocks (g : Dev nD → PrngReg) : θ_run defs (onTc (τ := τ) (main (F := Ideal))) ⟨m, fun _ => 0, g⟩ fun r => ∀ c : Dev nD,
    r.2.mem ((c : Thread nD τ).loc main_v8_0) = (dats m 0 c).arrAt 4 cfg0.N
    ∧ r.2.mem ((c : Thread nD τ).loc main_v8_1) = (dats m 0 c).arrAt 5 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h.1 c).1 4, (h.1 c).1 5, h.2 c⟩) (θ_run_and (run_main m g) (unchanged m g))

/-- Argument 0 as launched. -/
abbrev arg0 (c : Dev nD) : FVec Ideal S16x4096x128 .f32 := m ((c : Thread nD τ).loc main_arg0)

/-- Argument 1 as launched. -/
abbrev arg1 (c : Dev nD) : FVec Ideal S16x4096x32 .f32 := m ((c : Thread nD τ).loc main_arg1)

/-- Argument 2 as launched. -/
abbrev arg2 (c : Dev nD) : FVec Ideal S128x512 .f32 := m ((c : Thread nD τ).loc main_arg2)

/-- The cached shared keys the call reads. -/
theorem kr_eq (c : Dev nD) : V m c main_v1 = (pad S16x4096x128 ![0, 0, 0] ![0, 0, 96] ![0, 0, 0] (arg1 m c) (sitofp .f32 (constantI S_ 32 0#32)) pads_S16x4096x32_S16x4096x128_000_000_0960 h_S_) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The key weights the call reads. -/
theorem wk_eq (c : Dev nD) : V m c main_v4 = (shapeCast _ (pad S128x4x128 ![0, 0, 0] ![0, 0, 64] ![0, 0, 0] (extractStridedSlice S128x4x64 ![0, 0, 0] (shapeCast _ (arg2 m c) shapeCasts_S128x512_S128x4x128) slices_S128x4x128_S128x4x64_0_0_0) (sitofp .f32 (constantI S_ 32 0#32)) pads_S128x4x64_S128x4x128_000_000_0640 h_S_) shapeCasts_S128x4x128_S128x512) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The value weights the call reads. -/
theorem wv_eq (c : Dev nD) : V m c main_v7 = (shapeCast _ (pad S128x4x128 ![0, 0, 0] ![0, 0, 64] ![0, 0, 0] (extractStridedSlice S128x4x64 ![0, 0, 64] (shapeCast _ (arg2 m c) shapeCasts_S128x512_S128x4x128) slices_S128x4x128_S128x4x64_0_0_64) (sitofp .f32 (constantI S_ 32 0#32)) pads_S128x4x64_S128x4x128_000_000_0640 h_S_) shapeCasts_S128x4x128_S128x512) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The padded shared keys: the key's lanes, -/
theorem kr_in (c : Dev nD) (b : Fin 16) (l : Fin 4096) (n : Fin 128) (j : Fin 32) (hn : (n : ℕ) = j) : (show EReal from V m c main_v1 (ix3 b l n)) = arg1 m c (ix3 b l j) := by
  rw [kr_eq]
  pointwise
  rw [dif_pos (by omega)]
  exact congrArg (fun x => arg1 m c (ix3 b l x)) (Fin.ext hn)

/-- zero past them. -/
theorem kr_out (c : Dev nD) (b : Fin 16) (l : Fin 4096) (n : Fin 128) (hn : 32 ≤ (n : ℕ)) : (show EReal from V m c main_v1 (ix3 b l n)) = 0 := by
  rw [kr_eq]
  pointwise
  rw [dif_neg (by omega)]; exact sitofp_zero

/-- The padded key weights: the column of a head, -/
theorem wk_in (c : Dev nD) (k : Fin 128) (n : Fin 512) (hn : (n : ℕ) % 128 < 64) : (show EReal from V m c main_v4 (ix2 k n)) = arg2 m c (ix2 k n) := by
  rw [wk_eq]
  pointwise
  rw [dif_pos (by omega)]

/-- or zero past its lanes. -/
theorem wk_out (c : Dev nD) (k : Fin 128) (n : Fin 512) (hn : 64 ≤ (n : ℕ) % 128) : (show EReal from V m c main_v4 (ix2 k n)) = 0 := by
  rw [wk_eq]
  pointwise
  rw [dif_neg (by omega)]; exact sitofp_zero

/-- The padded value weights: the column of a head, -/
theorem wv_in (c : Dev nD) (k : Fin 128) (n : Fin 512) (h : Fin 4) (j : Fin 64) (hn : (n : ℕ) = h * 128 + j) : (show EReal from V m c main_v7 (ix2 k n)) = arg2 m c (ix2 k ⟨(h : ℕ) * 128 + (64 + j), by omega⟩) := by
  rw [wv_eq]
  pointwise
  rw [dif_pos (by omega)]
  exact congrArg (fun x => arg2 m c (ix2 k x)) (Fin.ext (show (n : ℕ) / 128 * 128 + (64 + (n : ℕ) % 128) = h * 128 + (64 + j) by omega))

/-- or zero past its lanes. -/
theorem wv_out (c : Dev nD) (k : Fin 128) (n : Fin 512) (hn : 64 ≤ (n : ℕ) % 128) : (show EReal from V m c main_v7 (ix2 k n)) = 0 := by
  rw [wv_eq]
  pointwise
  rw [dif_neg (by omega)]; exact sitofp_zero

/-- Four copies side by side. -/
def cat4 (r : FVec Ideal S512x128 .f32) : FVec Ideal S512x512 .f32 :=
  concatenate S512x512 1 [⟨S512x128, r⟩, ⟨S512x128, r⟩, ⟨S512x128, r⟩, ⟨S512x128, r⟩] concatenates_S512x128_S512x128_S512x128_S512x128_S512x512_d1

/-- Their entry at a lane of one of them. -/
theorem cat4_at (r : FVec Ideal S512x128 .f32) (l : Fin 512) (h : Fin 4) (d : Fin 128) (k : Fin 512) (hk : (k : ℕ) = h * 128 + d) : (show EReal from cat4 r (ix2 l k)) = r (ix2 l d) := by
  pointwise [cat4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The keys: the product plus four copies of the shared key. -/
theorem pay7_eq (v0 : Vec Ideal S1x512x128 .f32) (w : Vec Ideal S128x512 .f32) (r : Vec Ideal S1x512x128 .f32) : k0_pay7 (F := Ideal) v0 w r = addf (k0_pay8 (F := Ideal) v0 w) (cat4 (dynamicRotate 1 64#32 none (shapeCast S512x128 r shapeCasts_S1x512x128_S512x128 : FVec Ideal S512x128 .f32) rotates_S512x128_d1)) := rfl

/-- The rotation of the shared key. -/
theorem rot_at (r : Vec Ideal S1x512x128 .f32) (l : Fin 512) (d : Fin 128) : (show EReal from dynamicRotate 1 64#32 none (shapeCast S512x128 r shapeCasts_S1x512x128_S512x128 : FVec Ideal S512x128 .f32) rotates_S512x128_d1 (ix2 l d)) = r (ix3 0 l ⟨((d : ℕ) + 128 - 64) % 128, by omega⟩) := by
  pointwise

/-- The product at a lane. -/
theorem pay8_at (v0 : Vec Ideal S1x512x128 .f32) (w : Vec Ideal S128x512 .f32) (l : Fin 512) (k : Fin 512) : (show EReal from k0_pay8 (F := Ideal) v0 w (ix2 l k)) = ∑ x : Fin 128, v0 (ix3 0 l x) * w (ix2 x k) := by
  pointwise [k0_pay8, k0_pay6]

/-- The keys of a head at a lane. -/
theorem pay7_at (v0 : Vec Ideal S1x512x128 .f32) (w : Vec Ideal S128x512 .f32) (r : Vec Ideal S1x512x128 .f32) (l : Fin 512) (h : Fin 4) (d : Fin 128) (k : Fin 512) (hk : (k : ℕ) = h * 128 + d) : (show EReal from k0_pay7 (F := Ideal) v0 w r (ix2 l k)) = (∑ x : Fin 128, v0 (ix3 0 l x) * w (ix2 x k)) + r (ix3 0 l ⟨((d : ℕ) + 128 - 64) % 128, by omega⟩) := by
  rw [pay7_eq]
  exact congrArg₂ (fun a b : EReal => a + b) (pay8_at v0 w l k) ((cat4_at _ l h d k hk).trans (rot_at r l d))

/-- The loads at an index. -/
theorem ld0_at (x : Vec Ideal S1x512x128 .f32) (l : Fin 512) (k : Fin 128) : (show EReal from View.ld x r0_0 (ix3 0 l k)) = x (ix3 0 l k) := by
  have e : r0_0.emb (ix3 0 l k) = ix3 0 l k := by blk_ext
  exact congrArg x e

/-- The same of the weights. -/
theorem ld1_at (x : Vec Ideal S128x512 .f32) (l : Fin 128) (k : Fin 512) : (show EReal from View.ld x r0_1 (ix2 l k)) = x (ix2 l k) := by
  have e : r0_1.emb (ix2 l k) = ix2 l k := by blk_ext
  exact congrArg x e

variable (c : Dev nD) (t : Fin cfg0.N)

/-- Which block of its array each window has at a grid point. -/
theorem idx : ∀ t : Fin cfg0.N, win0_0.index t = ![t.val / 8, t.val % 8, 0] ∧ win0_1.index t = ![t.val / 8, t.val % 8, 0] ∧ win0_2.index t = ![0, 0]
    ∧ win0_3.index t = ![0, 0] ∧ win0_4.index t = ![t.val / 8, 0, t.val % 8, 0] ∧ win0_5.index t = ![t.val / 8, 0, t.val % 8, 0] :=
  (by decide +kernel : ∀ t : Fin grid0.N, _)

/-- A grid point is below the grid's size. -/
theorem lt_N (t : Fin cfg0.N) : t.val < 128 := lt_of_lt_of_eq t.isLt N_0

/-- The stream a grid point works on, -/
abbrev st (t : Fin cfg0.N) : Fin 16 := ⟨t.val / 8, by have := lt_N t; omega⟩

/-- and its position of a row of the block. -/
abbrev po (t : Fin cfg0.N) (l : Fin 512) : Fin 4096 := ⟨t.val % 8 * 512 + l, by omega⟩

/-- The cached latents as a block. -/
theorem b0 (l : Fin 512) (k : Fin 128) : (show EReal from iblk m c 0 t (ix3 0 l k)) = arg0 m c (ix3 (st t) (po t l) k) := by
  blk_ext [iblk, V, idx t]
/-- The cached shared keys as a block. -/
theorem b1 (l : Fin 512) (k : Fin 128) : (show EReal from iblk m c 1 t (ix3 0 l k)) = V m c main_v1 (ix3 (st t) (po t l) k) := by
  blk_ext [iblk, idx t]
/-- The key weights as a block. -/
theorem b2 (l : Fin 128) (k : Fin 512) : (show EReal from iblk m c 2 t (ix2 l k)) = V m c main_v4 (ix2 l k) := by
  blk_ext [iblk, idx t]
/-- The value weights as a block. -/
theorem b3 (l : Fin 128) (k : Fin 512) : (show EReal from iblk m c 3 t (ix2 l k)) = V m c main_v7 (ix2 l k) := by
  blk_ext [iblk, idx t]

/-- The latents a grid point loads. -/
theorem xE (l : Fin 512) (k : Fin 128) : (show EReal from View.ld (iblk m c 0 t) r0_0 (ix3 0 l k)) = arg0 m c (ix3 (st t) (po t l) k) :=
  (ld0_at _ l k).trans (b0 m c t l k)

/-- The kernel's keys are the reference's. -/
theorem kE (l : Fin 512) (h : Fin 4) (d : Fin 128) (n : Fin 512) (hn : (n : ℕ) = h * 128 + d) :
    (show EReal from k0_pay7 (F := Ideal) (View.ld (iblk m c 0 t) r0_0) (View.ld (iblk m c 2 t) r0_1) (View.ld (iblk m c 1 t) r0_0) (ix2 l n)) = Cert.PastRefIdeal.R.ref0 (arg0 m c) (arg1 m c) (arg2 m c) (ix4 (st t) h (po t l) d) := by
  have hd : (d : ℕ) < 128 := d.isLt
  have hh : (h : ℕ) < 4 := h.isLt
  refine (pay7_at _ _ _ l h d n hn).trans ?_
  have hout : 64 ≤ (d : ℕ) → ∑ x : Fin 128, (show EReal from View.ld (iblk m c 0 t) r0_0 (ix3 0 l x)) * View.ld (iblk m c 2 t) r0_1 (ix2 x n) = 0 := fun h1 =>
    Finset.sum_eq_zero fun x _ => (Ideal.mul_congr rfl ((ld1_at _ x n).trans ((b2 m c t x n).trans (wk_out m c x n (by omega))))).trans (mul_zero _)
  have hk : ∀ k : Fin 128, (show EReal from View.ld (iblk m c 1 t) r0_0 (ix3 0 l k)) = V m c main_v1 (ix3 (st t) (po t l) k) := fun k => (ld0_at _ l k).trans (b1 m c t l k)
  rcases (by omega : (d : ℕ) < 64 ∨ (64 ≤ (d : ℕ) ∧ (d : ℕ) < 96) ∨ 96 ≤ (d : ℕ)) with h1 | h1 | h1
  · refine Eq.trans (congrArg₂ (fun a b : EReal => a + b) (Finset.sum_congr rfl fun x _ => Ideal.mul_congr (xE m c t l x) ((ld1_at _ x n).trans ((b2 m c t x n).trans (wk_in m c x n (by omega))))) ((hk _).trans (kr_out m c (st t) (po t l) _ (by show 32 ≤ ((d : ℕ) + 128 - 64) % 128; omega)))) ?_
    refine (add_zero _).trans (Eq.trans ?_ ((Cert.PastRefIdeal.R.ref0_lo _ _ _ (st t) (po t l) h d h1).trans (Cert.PastRefIdeal.R.kv_at _ _ (st t) (po t l) h d)).symm)
    exact Finset.sum_congr rfl fun x _ => Ideal.mul_congr rfl (congrArg (fun y => arg2 m c (ix2 x y)) (Fin.ext hn))
  · refine Eq.trans (congrArg₂ (fun a b : EReal => a + b) (hout h1.1) ((hk _).trans (kr_in m c (st t) (po t l) _ ⟨d - 64, by omega⟩ (by show ((d : ℕ) + 128 - 64) % 128 = d - 64; omega)))) ?_
    exact (zero_add _).trans (Cert.PastRefIdeal.R.ref0_hi _ _ _ (st t) (po t l) h d ⟨d - 64, by omega⟩ (by show (d : ℕ) = 64 + (d - 64); omega)).symm
  · refine Eq.trans (congrArg₂ (fun a b : EReal => a + b) (hout (by omega)) ((hk _).trans (kr_out m c (st t) (po t l) _ (by show 32 ≤ ((d : ℕ) + 128 - 64) % 128; omega)))) ?_
    exact (zero_add _).trans (Cert.PastRefIdeal.R.ref0_z _ _ _ (st t) (po t l) h d h1).symm

/-- The kernel's values are the reference's. -/
theorem vE (l : Fin 512) (h : Fin 4) (d : Fin 128) (n : Fin 512) (hn : (n : ℕ) = h * 128 + d) :
    (show EReal from k0_pay8 (F := Ideal) (View.ld (iblk m c 0 t) r0_0) (View.ld (iblk m c 3 t) r0_1) (ix2 l n)) = Cert.PastRefIdeal.R.ref1 (arg0 m c) (arg2 m c) (ix4 (st t) h (po t l) d) := by
  have hd : (d : ℕ) < 128 := d.isLt
  refine (pay8_at _ _ l n).trans ?_
  rcases (by omega : (d : ℕ) < 64 ∨ 64 ≤ (d : ℕ)) with h1 | h1
  · refine (Finset.sum_congr rfl fun x _ => Ideal.mul_congr (xE m c t l x) ((ld1_at _ x n).trans ((b3 m c t x n).trans (wv_in m c x n h ⟨d, h1⟩ hn)))).trans ?_
    exact ((Cert.PastRefIdeal.R.ref1_lo _ _ (st t) (po t l) h d h1).trans (Cert.PastRefIdeal.R.kv_at _ _ (st t) (po t l) h _)).symm
  · refine (Finset.sum_eq_zero fun x _ => (Ideal.mul_congr rfl ((ld1_at _ x n).trans ((b3 m c t x n).trans (wv_out m c x n (by omega))))).trans (mul_zero _)).trans ?_
    exact (Cert.PastRefIdeal.R.ref1_z _ _ (st t) (po t l) h d h1).symm

/-- Four pieces, one per head, are an array when each is the array's head. -/
theorem canon4 (P3 P2 P1 P0 : FVec Ideal S1x1x512x128 .f32) (G : S1x4x512x128.Idx → EReal)
    (h0 : ∀ (l : Fin 512) (d : Fin 128), (show EReal from P0 (ix4 0 0 l d)) = G (ix4 0 0 l d)) (h1 : ∀ (l : Fin 512) (d : Fin 128), (show EReal from P1 (ix4 0 0 l d)) = G (ix4 0 1 l d))
    (h2 : ∀ (l : Fin 512) (d : Fin 128), (show EReal from P2 (ix4 0 0 l d)) = G (ix4 0 2 l d)) (h3 : ∀ (l : Fin 512) (d : Fin 128), (show EReal from P3 (ix4 0 0 l d)) = G (ix4 0 3 l d)) (y : S1x4x512x128.Idx) :
    View.canon (Val := Elt Ideal) (s := S1x4x512x128) (e := .f32) [⟨r0_5, P3⟩, ⟨r0_4, P2⟩, ⟨r0_3, P1⟩, ⟨r0_2, P0⟩] y = G y := by
  have hc := cover0_4 (F := Ideal) P3 P2 P1 P0 y
  suffices hL : ∀ p ∈ ([⟨r0_5, P3⟩, ⟨r0_4, P2⟩, ⟨r0_3, P1⟩, ⟨r0_2, P0⟩] : List (View.Piece (Elt Ideal) S1x4x512x128 .f32)), ∀ x : p.1.shape.Idx, p.2 x = G (p.1.emb x) by
    exact View.canon_apply_of_pieces G _ hL y hc
  intro p hp
  simp only [List.mem_cons, List.not_mem_nil, or_false] at hp
  rcases hp with rfl | rfl | rfl | rfl
  all_goals
    intro x
    idx_vars x
    obtain rfl : x0 = 0 := Subsingleton.elim _ _
    obtain rfl : x1 = 0 := Subsingleton.elim _ _
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- The head a piece stores. -/
theorem pay2_at (v : FVec Ideal S512x512 .f32) (l : Fin 512) (d : Fin 128) : (show EReal from k0_pay2 (F := Ideal) v (ix4 0 0 l d)) = v (ix2 l ⟨256 + d, by omega⟩) := by
  pointwise [k0_pay2]

/-- The head a piece stores. -/
theorem pay3_at (v : FVec Ideal S512x512 .f32) (l : Fin 512) (d : Fin 128) : (show EReal from k0_pay3 (F := Ideal) v (ix4 0 0 l d)) = v (ix2 l ⟨256 + d, by omega⟩) := by
  pointwise [k0_pay3]

/-- The head a piece stores. -/
theorem pay4_at (v : FVec Ideal S512x512 .f32) (l : Fin 512) (d : Fin 128) : (show EReal from k0_pay4 (F := Ideal) v (ix4 0 0 l d)) = v (ix2 l ⟨384 + d, by omega⟩) := by
  pointwise [k0_pay4]

/-- The head a piece stores. -/
theorem pay5_at (v : FVec Ideal S512x512 .f32) (l : Fin 512) (d : Fin 128) : (show EReal from k0_pay5 (F := Ideal) v (ix4 0 0 l d)) = v (ix2 l ⟨384 + d, by omega⟩) := by
  pointwise [k0_pay5]

/-- The head a piece stores. -/
theorem pay9_at (z : Vec Ideal S1x512x128 .f32) (w : Vec Ideal S128x512 .f32) (r : Vec Ideal S1x512x128 .f32) (l : Fin 512) (d : Fin 128) : (show EReal from k0_pay9 (F := Ideal) z w r (ix4 0 0 l d)) = k0_pay7 (F := Ideal) z w r (ix2 l ⟨d, by omega⟩) := by
  unfold k0_pay9
  generalize k0_pay7 (F := Ideal) z w r = v
  pointwise

/-- The head a piece stores. -/
theorem pay11_at (z : Vec Ideal S1x512x128 .f32) (w : Vec Ideal S128x512 .f32) (r : Vec Ideal S1x512x128 .f32) (l : Fin 512) (d : Fin 128) : (show EReal from k0_pay11 (F := Ideal) z w r (ix4 0 0 l d)) = k0_pay7 (F := Ideal) z w r (ix2 l ⟨128 + d, by omega⟩) := by
  unfold k0_pay11
  generalize k0_pay7 (F := Ideal) z w r = v
  pointwise

/-- The head a piece stores. -/
theorem pay10_at (z : Vec Ideal S1x512x128 .f32) (w : Vec Ideal S128x512 .f32) (l : Fin 512) (d : Fin 128) : (show EReal from k0_pay10 (F := Ideal) z w (ix4 0 0 l d)) = k0_pay8 (F := Ideal) z w (ix2 l ⟨d, by omega⟩) := by
  unfold k0_pay10
  generalize k0_pay8 (F := Ideal) z w = v
  pointwise

/-- The head a piece stores. -/
theorem pay12_at (z : Vec Ideal S1x512x128 .f32) (w : Vec Ideal S128x512 .f32) (l : Fin 512) (d : Fin 128) : (show EReal from k0_pay1 (F := Ideal) (k0_pay12 (F := Ideal) z w) (ix4 0 0 l d)) = k0_pay8 (F := Ideal) z w (ix2 l ⟨128 + d, by omega⟩) := by
  unfold k0_pay1 k0_pay12
  generalize k0_pay8 (F := Ideal) z w = v
  pointwise

/-- What a grid point leaves of the keys is the reference's. -/
theorem point4 (y : S1x4x512x128.Idx) : out0_4 (F := Ideal) (iblk m c 0 t) (iblk m c 1 t) (iblk m c 2 t) (iblk m c 3 t) y = Cert.PastRefIdeal.R.ref0 (arg0 m c) (arg1 m c) (arg2 m c) (((cfg0.win 4).blk t).view.emb y) := by
  have e : ∀ (h : Fin 4) (l : Fin 512) (d : Fin 128), ((cfg0.win 4).blk t).view.emb (ix4 0 h l d) = ix4 (st t) h (po t l) d := fun h l d => by blk_ext [idx t]
  unfold out0_4
  refine canon4 _ _ _ _ (fun y => Cert.PastRefIdeal.R.ref0 (arg0 m c) (arg1 m c) (arg2 m c) (((cfg0.win 4).blk t).view.emb y)) ?_ ?_ ?_ ?_ y
  · exact fun l d => (pay9_at _ _ _ l d).trans ((kE m c t l 0 d _ (by show (d : ℕ) = 0 * 128 + (d : ℕ); omega)).trans (congrArg (Cert.PastRefIdeal.R.ref0 (arg0 m c) (arg1 m c) (arg2 m c)) (e 0 l d).symm))
  · exact fun l d => (pay11_at _ _ _ l d).trans ((kE m c t l 1 d _ (by show 128 + (d : ℕ) = 1 * 128 + (d : ℕ); omega)).trans (congrArg (Cert.PastRefIdeal.R.ref0 (arg0 m c) (arg1 m c) (arg2 m c)) (e 1 l d).symm))
  · exact fun l d => (pay2_at _ l d).trans ((kE m c t l 2 d _ (by show 256 + (d : ℕ) = 2 * 128 + (d : ℕ); omega)).trans (congrArg (Cert.PastRefIdeal.R.ref0 (arg0 m c) (arg1 m c) (arg2 m c)) (e 2 l d).symm))
  · exact fun l d => (pay4_at _ l d).trans ((kE m c t l 3 d _ (by show 384 + (d : ℕ) = 3 * 128 + (d : ℕ); omega)).trans (congrArg (Cert.PastRefIdeal.R.ref0 (arg0 m c) (arg1 m c) (arg2 m c)) (e 3 l d).symm))

/-- The keys after the run are the reference's. -/
theorem final4 : (dats m 0 c).arrAt 4 (cfgs 0).N = Cert.PastRefIdeal.R.ref0 (arg0 m c) (arg1 m c) (arg2 m c) := by
  refine (dats m 0 c).arrAt_eq_of_covers 4 _ (by decide +kernel) fun t _ y => ?_
  blk_simp
  rw [after0_4]
  exact point4 m c t y

/-- What a grid point leaves of the values is the reference's. -/
theorem point5 (y : S1x4x512x128.Idx) : out0_5 (F := Ideal) (iblk m c 0 t) (iblk m c 1 t) (iblk m c 2 t) (iblk m c 3 t) y = Cert.PastRefIdeal.R.ref1 (arg0 m c) (arg2 m c) (((cfg0.win 5).blk t).view.emb y) := by
  have e : ∀ (h : Fin 4) (l : Fin 512) (d : Fin 128), ((cfg0.win 5).blk t).view.emb (ix4 0 h l d) = ix4 (st t) h (po t l) d := fun h l d => by blk_ext [idx t]
  unfold out0_5
  refine canon4 _ _ _ _ (fun y => Cert.PastRefIdeal.R.ref1 (arg0 m c) (arg2 m c) (((cfg0.win 5).blk t).view.emb y)) ?_ ?_ ?_ ?_ y
  · exact fun l d => (pay10_at _ _ l d).trans ((vE m c t l 0 d _ (by show (d : ℕ) = 0 * 128 + (d : ℕ); omega)).trans (congrArg (Cert.PastRefIdeal.R.ref1 (arg0 m c) (arg2 m c)) (e 0 l d).symm))
  · exact fun l d => (pay12_at _ _ l d).trans ((vE m c t l 1 d _ (by show 128 + (d : ℕ) = 1 * 128 + (d : ℕ); omega)).trans (congrArg (Cert.PastRefIdeal.R.ref1 (arg0 m c) (arg2 m c)) (e 1 l d).symm))
  · exact fun l d => (pay3_at _ l d).trans ((vE m c t l 2 d _ (by show 256 + (d : ℕ) = 2 * 128 + (d : ℕ); omega)).trans (congrArg (Cert.PastRefIdeal.R.ref1 (arg0 m c) (arg2 m c)) (e 2 l d).symm))
  · exact fun l d => (pay5_at _ l d).trans ((vE m c t l 3 d _ (by show 384 + (d : ℕ) = 3 * 128 + (d : ℕ); omega)).trans (congrArg (Cert.PastRefIdeal.R.ref1 (arg0 m c) (arg2 m c)) (e 3 l d).symm))

/-- The values after the run are the reference's. -/
theorem final5 : (dats m 0 c).arrAt 5 (cfgs 0).N = Cert.PastRefIdeal.R.ref1 (arg0 m c) (arg2 m c) := by
  refine (dats m 0 c).arrAt_eq_of_covers 5 _ (by decide +kernel) fun t _ y => ?_
  blk_simp
  rw [after0_5]
  exact point5 m c t y

end Cert.PastIdeal.Value
-- ==== Proof.DsaT.lean ====
/- The preparation of the sparse attention, the arrays the call reads: the three tables of the rotation, at an index. -/
module

public import proofs.«01_k».proof.Proof.Gen.DsaIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaIdeal.Value

open Cert.DsaIdeal Cert.DsaIdeal.Gen

variable (m : (ℓ : Loc nD τ sig) → Buf (Elt Ideal) ℓ)

/-- The run: every result array as the grid points left it, every argument as launched. -/
theorem run_blocks (g : Dev nD → PrngReg) : θ_run defs (onTc (τ := τ) (main (F := Ideal))) ⟨m, fun _ => 0, g⟩ fun r => ∀ c : Dev nD,
    r.2.mem ((c : Thread nD τ).loc main_v120_0) = (dats m 0 c).arrAt 4 cfg0.N
    ∧ r.2.mem ((c : Thread nD τ).loc main_v120_1) = (dats m 0 c).arrAt 5 cfg0.N
    ∧ r.2.mem ((c : Thread nD τ).loc main_v120_2) = (dats m 0 c).arrAt 6 cfg0.N
    ∧ r.2.mem ((c : Thread nD τ).loc main_v120_3) = (dats m 0 c).arrAt 7 cfg0.N
    ∧ r.2.mem ((c : Thread nD τ).loc main_v120_4) = (dats m 0 c).arrAt 8 cfg0.N
    ∧ r.2.mem ((c : Thread nD τ).loc main_v120_5) = (dats m 0 c).arrAt 9 cfg0.N
    ∧ r.2.mem ((c : Thread nD τ).loc main_v120_6) = (dats m 0 c).arrAt 10 cfg0.N
    ∧ r.2.mem ((c : Thread nD τ).loc main_v120_7) = (dats m 0 c).arrAt 11 cfg0.N
    ∧ r.2.mem ((c : Thread nD τ).loc main_v120_8) = (dats m 0 c).arrAt 12 cfg0.N
    ∧ r.2.mem ((c : Thread nD τ).loc main_arg0) = m ((c : Thread nD τ).loc main_arg0) :=
  (θ_run defs _ _).mono (fun r h c => ⟨(h.1 c).1 4, (h.1 c).1 5, (h.1 c).1 6, (h.1 c).1 7, (h.1 c).1 8, (h.1 c).1 9, (h.1 c).1 10, (h.1 c).1 11, (h.1 c).1 12, h.2 c⟩) (θ_run_and (run_main m g) (unchanged m g))

/-- The argument as launched. -/
abbrev arg0 (c : Dev nD) : FVec Ideal S16x32x1920 .f32 := m ((c : Thread nD τ).loc main_arg0)

/-- The angles of the narrow rotation: position times frequency. -/
def angA : FVec Ideal S32x16 .f32 := (mulf (broadcastInDim S32x16 ![0, 1] bcast_S32x1_S32x16_0_1 (broadcastInDim S32x1 ![0] bcast_S32_S32x1_0 (sitofp .f32 (addi (broadcastInDim S32 ![] bcast_S_S32 ((constantI S_ 32 4096#32))) ((iotaInDim S32 32 0)))))) (broadcastInDim S32x16 ![0, 1] bcast_S1x16_S32x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- The angles of the wide rotation. -/
def angB : FVec Ideal S32x32 .f32 := (mulf (broadcastInDim S32x32 ![0, 1] bcast_S32x1_S32x32_0_1 (broadcastInDim S32x1 ![0] bcast_S32_S32x1_0 (sitofp .f32 (addi (broadcastInDim S32 ![] bcast_S_S32 ((constantI S_ 32 4096#32))) ((iotaInDim S32 32 0)))))) (broadcastInDim S32x32 ![0, 1] bcast_S1x32_S32x32_0_1 (broadcastInDim S1x32 ![1] bcast_S32_S1x32_1 (Host.powf (broadcastInDim S32 ![] bcast_S_S32 ((constant S_ .f32 0x461C4000#32))) (Host.divf (Host.negf ((sitofp .f32 (iotaInDim S32 32 0)))) (broadcastInDim S32 ![] bcast_S_S32 ((constant S_ .f32 0x42000000#32))))))))

/-- Row 0 of the table of the queries and keys. -/
def tabB0 : FVec Ideal S32x128 .f32 := (concatenate S32x128 1 [⟨S32x32, (Host.cos angB)⟩, ⟨S32x32, (Host.cos angB)⟩, ⟨S32x64, (broadcastInDim S32x64 ![] bcast_S_S32x64 ((constant S_ .f32 0x00000000#32)))⟩] concatenates_S32x32_S32x32_S32x64_S32x128_d1)

/-- Row 1 of the table of the queries and keys. -/
def tabB1 : FVec Ideal S32x128 .f32 := (concatenate S32x128 1 [⟨S32x32, (Host.negf (Host.sin angB))⟩, ⟨S32x32, (broadcastInDim S32x32 ![] bcast_S_S32x32 ((constant S_ .f32 0x00000000#32)))⟩, ⟨S32x64, (broadcastInDim S32x64 ![] bcast_S_S32x64 ((constant S_ .f32 0x00000000#32)))⟩] concatenates_S32x32_S32x32_S32x64_S32x128_d1)

/-- Row 2 of the table of the queries and keys. -/
def tabB2 : FVec Ideal S32x128 .f32 := (concatenate S32x128 1 [⟨S32x32, (broadcastInDim S32x32 ![] bcast_S_S32x32 ((constant S_ .f32 0x00000000#32)))⟩, ⟨S32x32, (Host.sin angB)⟩, ⟨S32x64, (broadcastInDim S32x64 ![] bcast_S_S32x64 ((constant S_ .f32 0x00000000#32)))⟩] concatenates_S32x32_S32x32_S32x64_S32x128_d1)

/-- The table of the queries and keys: cosines, negated sines, sines. -/
def tabB : FVec Ideal S3x32x128 .f32 := (concatenate S3x32x128 0 [⟨S1x32x128, (broadcastInDim S1x32x128 ![1, 2] bcast_S32x128_S1x32x128_1_2 tabB0)⟩, ⟨S1x32x128, (broadcastInDim S1x32x128 ![1, 2] bcast_S32x128_S1x32x128_1_2 tabB1)⟩, ⟨S1x32x128, (broadcastInDim S1x32x128 ![1, 2] bcast_S32x128_S1x32x128_1_2 tabB2)⟩] concatenates_S1x32x128_S1x32x128_S1x32x128_S3x32x128_d0)

/-- Row 0 of the table of the indexer queries. -/
def tabI0 : FVec Ideal S32x128 .f32 := (concatenate S32x128 1 [⟨S32x16, (Host.cos angA)⟩, ⟨S32x16, (Host.cos angA)⟩, ⟨S32x16, (Host.cos angA)⟩, ⟨S32x16, (Host.cos angA)⟩, ⟨S32x16, (Host.cos angA)⟩, ⟨S32x16, (Host.cos angA)⟩, ⟨S32x16, (Host.cos angA)⟩, ⟨S32x16, (Host.cos angA)⟩] concatenates_S32x16_S32x16_S32x16_S32x16_S32x16_S32x16_S32x16_S32x16_S32x128_d1)

/-- Row 1 of the table of the indexer queries. -/
def tabI1 : FVec Ideal S32x128 .f32 := (concatenate S32x128 1 [⟨S32x16, (Host.negf (Host.sin angA))⟩, ⟨S32x16, (broadcastInDim S32x16 ![] bcast_S_S32x16 ((constant S_ .f32 0x00000000#32)))⟩, ⟨S32x16, (Host.negf (Host.sin angA))⟩, ⟨S32x16, (broadcastInDim S32x16 ![] bcast_S_S32x16 ((constant S_ .f32 0x00000000#32)))⟩, ⟨S32x16, (Host.negf (Host.sin angA))⟩, ⟨S32x16, (broadcastInDim S32x16 ![] bcast_S_S32x16 ((constant S_ .f32 0x00000000#32)))⟩, ⟨S32x16, (Host.negf (Host.sin angA))⟩, ⟨S32x16, (broadcastInDim S32x16 ![] bcast_S_S32x16 ((constant S_ .f32 0x00000000#32)))⟩] concatenates_S32x16_S32x16_S32x16_S32x16_S32x16_S32x16_S32x16_S32x16_S32x128_d1)

/-- Row 2 of the table of the indexer queries. -/
def tabI2 : FVec Ideal S32x128 .f32 := (concatenate S32x128 1 [⟨S32x16, (broadcastInDim S32x16 ![] bcast_S_S32x16 ((constant S_ .f32 0x00000000#32)))⟩, ⟨S32x16, (Host.sin angA)⟩, ⟨S32x16, (broadcastInDim S32x16 ![] bcast_S_S32x16 ((constant S_ .f32 0x00000000#32)))⟩, ⟨S32x16, (Host.sin angA)⟩, ⟨S32x16, (broadcastInDim S32x16 ![] bcast_S_S32x16 ((constant S_ .f32 0x00000000#32)))⟩, ⟨S32x16, (Host.sin angA)⟩, ⟨S32x16, (broadcastInDim S32x16 ![] bcast_S_S32x16 ((constant S_ .f32 0x00000000#32)))⟩, ⟨S32x16, (Host.sin angA)⟩] concatenates_S32x16_S32x16_S32x16_S32x16_S32x16_S32x16_S32x16_S32x16_S32x128_d1)

/-- The table of the indexer queries: cosines, negated sines, sines. -/
def tabI : FVec Ideal S3x32x128 .f32 := (concatenate S3x32x128 0 [⟨S1x32x128, (broadcastInDim S1x32x128 ![1, 2] bcast_S32x128_S1x32x128_1_2 tabI0)⟩, ⟨S1x32x128, (broadcastInDim S1x32x128 ![1, 2] bcast_S32x128_S1x32x128_1_2 tabI1)⟩, ⟨S1x32x128, (broadcastInDim S1x32x128 ![1, 2] bcast_S32x128_S1x32x128_1_2 tabI2)⟩] concatenates_S1x32x128_S1x32x128_S1x32x128_S3x32x128_d0)

/-- Row 0 of the table of the indexer keys. -/
def tabW0 : FVec Ideal S32x128 .f32 := (concatenate S32x128 1 [⟨S32x16, (Host.cos angA)⟩, ⟨S32x16, (Host.cos angA)⟩, ⟨S32x8, (broadcastInDim S32x8 ![] bcast_S_S32x8 ((constant S_ .f32 0x3F800000#32)))⟩, ⟨S32x88, (broadcastInDim S32x88 ![] bcast_S_S32x88 ((constant S_ .f32 0x00000000#32)))⟩] concatenates_S32x16_S32x16_S32x8_S32x88_S32x128_d1)

/-- Row 1 of the table of the indexer keys. -/
def tabW1 : FVec Ideal S32x128 .f32 := (concatenate S32x128 1 [⟨S32x16, (Host.negf (Host.sin angA))⟩, ⟨S32x16, (broadcastInDim S32x16 ![] bcast_S_S32x16 ((constant S_ .f32 0x00000000#32)))⟩, ⟨S32x8, (broadcastInDim S32x8 ![] bcast_S_S32x8 ((constant S_ .f32 0x00000000#32)))⟩, ⟨S32x88, (broadcastInDim S32x88 ![] bcast_S_S32x88 ((constant S_ .f32 0x00000000#32)))⟩] concatenates_S32x16_S32x16_S32x8_S32x88_S32x128_d1)

/-- Row 2 of the table of the indexer keys. -/
def tabW2 : FVec Ideal S32x128 .f32 := (concatenate S32x128 1 [⟨S32x16, (broadcastInDim S32x16 ![] bcast_S_S32x16 ((constant S_ .f32 0x00000000#32)))⟩, ⟨S32x16, (Host.sin angA)⟩, ⟨S32x8, (broadcastInDim S32x8 ![] bcast_S_S32x8 ((constant S_ .f32 0x00000000#32)))⟩, ⟨S32x88, (broadcastInDim S32x88 ![] bcast_S_S32x88 ((constant S_ .f32 0x00000000#32)))⟩] concatenates_S32x16_S32x16_S32x8_S32x88_S32x128_d1)

/-- The table of the indexer keys: cosines, negated sines, sines. -/
def tabW : FVec Ideal S3x32x128 .f32 := (concatenate S3x32x128 0 [⟨S1x32x128, (broadcastInDim S1x32x128 ![1, 2] bcast_S32x128_S1x32x128_1_2 tabW0)⟩, ⟨S1x32x128, (broadcastInDim S1x32x128 ![1, 2] bcast_S32x128_S1x32x128_1_2 tabW1)⟩, ⟨S1x32x128, (broadcastInDim S1x32x128 ![1, 2] bcast_S32x128_S1x32x128_1_2 tabW2)⟩] concatenates_S1x32x128_S1x32x128_S1x32x128_S3x32x128_d0)

/-- A table the call reads. -/
theorem tb_eq (c : Dev nD) : V m c main_v27 = tabB := by
  unfold V
  simp only [hostOps0, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- A table the call reads. -/
theorem ti_eq (c : Dev nD) : V m c main_v92 = tabI := by
  unfold V
  simp only [hostOps0, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- A table the call reads. -/
theorem tw_eq (c : Dev nD) : V m c main_v119 = tabW := by
  unfold V
  simp only [hostOps0, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The cosine on the first half, -/
theorem tb0_a (l : Fin 32) (d : Fin 128) (e : Fin 32) (hd : (d : ℕ) = e) : (show EReal from tabB (ix3 0 l d)) = Ideal.cos (angB (ix2 l e)) := by
  pointwise [tabB]
  pointwise [tabB0]
  split_ifs <;> first
    | rfl
    | (exfalso; omega)
    | exact congrArg (fun x => Ideal.cos (angB (ix2 l x))) (Fin.ext (by dsimp only; omega))

/-- the cosine on the second -/
theorem tb0_b (l : Fin 32) (d : Fin 128) (e : Fin 32) (hd : (d : ℕ) = 32 + e) : (show EReal from tabB (ix3 0 l d)) = Ideal.cos (angB (ix2 l e)) := by
  pointwise [tabB]
  pointwise [tabB0]
  split_ifs <;> first
    | rfl
    | (exfalso; omega)
    | exact congrArg (fun x => Ideal.cos (angB (ix2 l x))) (Fin.ext (by dsimp only; omega))

/-- and zero past it. -/
theorem tb0_z (l : Fin 32) (d : Fin 128) (hd : 64 ≤ (d : ℕ)) : (show EReal from tabB (ix3 0 l d)) = 0 := by
  pointwise [tabB]
  pointwise [tabB0]
  split_ifs <;> first
    | rfl
    | (exfalso; omega)

/-- Minus the sine on the first half -/
theorem tb1_a (l : Fin 32) (d : Fin 128) (e : Fin 32) (hd : (d : ℕ) = e) : (show EReal from tabB (ix3 1 l d)) = -Ideal.sin (angB (ix2 l e)) := by
  pointwise [tabB]
  pointwise [tabB1]
  split_ifs <;> first
    | rfl
    | (exfalso; omega)
    | exact congrArg (fun x => -Ideal.sin (angB (ix2 l x))) (Fin.ext (by dsimp only; omega))

/-- and zero elsewhere. -/
theorem tb1_z (l : Fin 32) (d : Fin 128) (hd : 32 ≤ (d : ℕ)) : (show EReal from tabB (ix3 1 l d)) = 0 := by
  pointwise [tabB]
  pointwise [tabB1]
  split_ifs <;> first
    | rfl
    | (exfalso; omega)

/-- The sine on the second half -/
theorem tb2_b (l : Fin 32) (d : Fin 128) (e : Fin 32) (hd : (d : ℕ) = 32 + e) : (show EReal from tabB (ix3 2 l d)) = Ideal.sin (angB (ix2 l e)) := by
  pointwise [tabB]
  pointwise [tabB2]
  split_ifs <;> first
    | rfl
    | (exfalso; omega)
    | exact congrArg (fun x => Ideal.sin (angB (ix2 l x))) (Fin.ext (by dsimp only; omega))

/-- and zero elsewhere. -/
theorem tb2_z (l : Fin 32) (d : Fin 128) (hd : (d : ℕ) < 32 ∨ 64 ≤ (d : ℕ)) : (show EReal from tabB (ix3 2 l d)) = 0 := by
  pointwise [tabB]
  pointwise [tabB2]
  split_ifs <;> first
    | rfl
    | (exfalso; omega)

/-- The cosine on the first half of a head, -/
theorem ti0_a (l : Fin 32) (d : Fin 128) (g : Fin 4) (e : Fin 16) (hd : (d : ℕ) = 32 * g + e) : (show EReal from tabI (ix3 0 l d)) = Ideal.cos (angA (ix2 l e)) := by
  pointwise [tabI]
  pointwise [tabI0]
  split_ifs <;> first
    | rfl
    | (exfalso; omega)
    | exact congrArg (fun x => Ideal.cos (angA (ix2 l x))) (Fin.ext (by dsimp only; omega))

/-- and on the second. -/
theorem ti0_b (l : Fin 32) (d : Fin 128) (g : Fin 4) (e : Fin 16) (hd : (d : ℕ) = 32 * g + 16 + e) : (show EReal from tabI (ix3 0 l d)) = Ideal.cos (angA (ix2 l e)) := by
  pointwise [tabI]
  pointwise [tabI0]
  split_ifs <;> first
    | rfl
    | (exfalso; omega)
    | exact congrArg (fun x => Ideal.cos (angA (ix2 l x))) (Fin.ext (by dsimp only; omega))

/-- Minus the sine on the first half of a head -/
theorem ti1_a (l : Fin 32) (d : Fin 128) (g : Fin 4) (e : Fin 16) (hd : (d : ℕ) = 32 * g + e) : (show EReal from tabI (ix3 1 l d)) = -Ideal.sin (angA (ix2 l e)) := by
  pointwise [tabI]
  pointwise [tabI1]
  split_ifs <;> first
    | rfl
    | (exfalso; omega)
    | exact congrArg (fun x => -Ideal.sin (angA (ix2 l x))) (Fin.ext (by dsimp only; omega))

/-- and zero on the second. -/
theorem ti1_z (l : Fin 32) (d : Fin 128) (hd : 16 ≤ (d : ℕ) % 32) : (show EReal from tabI (ix3 1 l d)) = 0 := by
  pointwise [tabI]
  pointwise [tabI1]
  split_ifs <;> first
    | rfl
    | (exfalso; omega)

/-- The sine on the second half of a head -/
theorem ti2_b (l : Fin 32) (d : Fin 128) (g : Fin 4) (e : Fin 16) (hd : (d : ℕ) = 32 * g + 16 + e) : (show EReal from tabI (ix3 2 l d)) = Ideal.sin (angA (ix2 l e)) := by
  pointwise [tabI]
  pointwise [tabI2]
  split_ifs <;> first
    | rfl
    | (exfalso; omega)
    | exact congrArg (fun x => Ideal.sin (angA (ix2 l x))) (Fin.ext (by dsimp only; omega))

/-- and zero on the first. -/
theorem ti2_z (l : Fin 32) (d : Fin 128) (hd : (d : ℕ) % 32 < 16) : (show EReal from tabI (ix3 2 l d)) = 0 := by
  pointwise [tabI]
  pointwise [tabI2]
  split_ifs <;> first
    | rfl
    | (exfalso; omega)

/-- The cosine on the first half, -/
theorem tw0_a (l : Fin 32) (d : Fin 128) (e : Fin 16) (hd : (d : ℕ) = e) : (show EReal from tabW (ix3 0 l d)) = Ideal.cos (angA (ix2 l e)) := by
  pointwise [tabW]
  pointwise [tabW0]
  split_ifs <;> first
    | rfl
    | (exfalso; omega)
    | exact congrArg (fun x => Ideal.cos (angA (ix2 l x))) (Fin.ext (by dsimp only; omega))

/-- on the second half, -/
theorem tw0_b (l : Fin 32) (d : Fin 128) (e : Fin 16) (hd : (d : ℕ) = 16 + e) : (show EReal from tabW (ix3 0 l d)) = Ideal.cos (angA (ix2 l e)) := by
  pointwise [tabW]
  pointwise [tabW0]
  split_ifs <;> first
    | rfl
    | (exfalso; omega)
    | exact congrArg (fun x => Ideal.cos (angA (ix2 l x))) (Fin.ext (by dsimp only; omega))

/-- one on the weights -/
theorem tw0_o (l : Fin 32) (d : Fin 128) (hd : 32 ≤ (d : ℕ) ∧ (d : ℕ) < 40) : (show EReal from tabW (ix3 0 l d)) = 1 := by
  pointwise [tabW]
  pointwise [tabW0]
  split_ifs <;> first
    | rfl
    | (exfalso; omega)

/-- and zero past them. -/
theorem tw0_z (l : Fin 32) (d : Fin 128) (hd : 40 ≤ (d : ℕ)) : (show EReal from tabW (ix3 0 l d)) = 0 := by
  pointwise [tabW]
  pointwise [tabW0]
  split_ifs <;> first
    | rfl
    | (exfalso; omega)

/-- Minus the sine on the first half -/
theorem tw1_a (l : Fin 32) (d : Fin 128) (e : Fin 16) (hd : (d : ℕ) = e) : (show EReal from tabW (ix3 1 l d)) = -Ideal.sin (angA (ix2 l e)) := by
  pointwise [tabW]
  pointwise [tabW1]
  split_ifs <;> first
    | rfl
    | (exfalso; omega)
    | exact congrArg (fun x => -Ideal.sin (angA (ix2 l x))) (Fin.ext (by dsimp only; omega))

/-- and zero elsewhere. -/
theorem tw1_z (l : Fin 32) (d : Fin 128) (hd : 16 ≤ (d : ℕ)) : (show EReal from tabW (ix3 1 l d)) = 0 := by
  pointwise [tabW]
  pointwise [tabW1]
  split_ifs <;> first
    | rfl
    | (exfalso; omega)

/-- The sine on the second half -/
theorem tw2_b (l : Fin 32) (d : Fin 128) (e : Fin 16) (hd : (d : ℕ) = 16 + e) : (show EReal from tabW (ix3 2 l d)) = Ideal.sin (angA (ix2 l e)) := by
  pointwise [tabW]
  pointwise [tabW2]
  split_ifs <;> first
    | rfl
    | (exfalso; omega)
    | exact congrArg (fun x => Ideal.sin (angA (ix2 l x))) (Fin.ext (by dsimp only; omega))

/-- and zero elsewhere. -/
theorem tw2_z (l : Fin 32) (d : Fin 128) (hd : (d : ℕ) < 16 ∨ 32 ≤ (d : ℕ)) : (show EReal from tabW (ix3 2 l d)) = 0 := by
  pointwise [tabW]
  pointwise [tabW2]
  split_ifs <;> first
    | rfl
    | (exfalso; omega)

end Cert.DsaIdeal.Value
-- ==== Proof.DsaR.lean ====
/- The preparation of the sparse attention, the reference: its arrays at an index. -/
module

public import proofs.«01_k».proof.Proof.Gen.DsaRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaRefIdeal.R

open Cert.DsaRefIdeal Cert.DsaRefIdeal.Gen

variable (X : FVec Ideal S16x32x1920 .f32)

/-- The angles of the wide rotation: position times frequency. -/
def angB : FVec Ideal S32x32 .f32 := (mulf (broadcastInDim S32x32 ![0, 1] bcast_S32x1_S32x32_0_1 (broadcastInDim S32x1 ![0] bcast_S32_S32x1_0 (sitofp .f32 (addi (broadcastInDim S32 ![] bcast_S_S32 ((constantI S_ 32 4096#32))) ((iotaInDim S32 32 0)))))) (broadcastInDim S32x32 ![0, 1] bcast_S1x32_S32x32_0_1 (broadcastInDim S1x32 ![1] bcast_S32_S1x32_1 (Host.powf (broadcastInDim S32 ![] bcast_S_S32 ((constant S_ .f32 0x461C4000#32))) (Host.divf (Host.negf ((sitofp .f32 (iotaInDim S32 32 0)))) (broadcastInDim S32 ![] bcast_S_S32 ((constant S_ .f32 0x42000000#32))))))))

/-- The angles of the narrow rotation. -/
def angA : FVec Ideal S32x16 .f32 := (mulf (broadcastInDim S32x16 ![0, 1] bcast_S32x1_S32x16_0_1 (broadcastInDim S32x1 ![0] bcast_S32_S32x1_0 (sitofp .f32 (addi (broadcastInDim S32 ![] bcast_S_S32 ((constantI S_ 32 4096#32))) ((iotaInDim S32 32 0)))))) (broadcastInDim S32x16 ![0, 1] bcast_S1x16_S32x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- The queries by head, rotated and scaled. -/
def q0 (X : FVec Ideal S16x32x1920 .f32) : FVec Ideal S16x32x4x64 .f32 := (mulf (concatenate S16x32x4x64 3 [⟨S16x32x4x32, (subf (mulf (extractStridedSlice S16x32x4x32 ![0, 0, 0, 0] (extractStridedSlice S16x32x4x64 ![0, 0, 0, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_0_0) slices_S16x32x4x64_S16x32x4x32_0_0_0_0) (broadcastInDim S16x32x4x32 ![0, 1, 2, 3] bcast_S1x32x1x32_S16x32x4x32_0_1_2_3 (broadcastInDim S1x32x1x32 ![1, 3] bcast_S32x32_S1x32x1x32_1_3 (Host.cos angB)))) (mulf (extractStridedSlice S16x32x4x32 ![0, 0, 0, 32] (extractStridedSlice S16x32x4x64 ![0, 0, 0, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_0_0) slices_S16x32x4x64_S16x32x4x32_0_0_0_32) (broadcastInDim S16x32x4x32 ![0, 1, 2, 3] bcast_S1x32x1x32_S16x32x4x32_0_1_2_3 (broadcastInDim S1x32x1x32 ![1, 3] bcast_S32x32_S1x32x1x32_1_3 (Host.sin angB)))))⟩, ⟨S16x32x4x32, (addf (mulf (extractStridedSlice S16x32x4x32 ![0, 0, 0, 0] (extractStridedSlice S16x32x4x64 ![0, 0, 0, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_0_0) slices_S16x32x4x64_S16x32x4x32_0_0_0_0) (broadcastInDim S16x32x4x32 ![0, 1, 2, 3] bcast_S1x32x1x32_S16x32x4x32_0_1_2_3 (broadcastInDim S1x32x1x32 ![1, 3] bcast_S32x32_S1x32x1x32_1_3 (Host.sin angB)))) (mulf (extractStridedSlice S16x32x4x32 ![0, 0, 0, 32] (extractStridedSlice S16x32x4x64 ![0, 0, 0, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_0_0) slices_S16x32x4x64_S16x32x4x32_0_0_0_32) (broadcastInDim S16x32x4x32 ![0, 1, 2, 3] bcast_S1x32x1x32_S16x32x4x32_0_1_2_3 (broadcastInDim S1x32x1x32 ![1, 3] bcast_S32x32_S1x32x1x32_1_3 (Host.cos angB)))))⟩] concatenates_S16x32x4x32_S16x32x4x32_S16x32x4x64_d3) (broadcastInDim S16x32x4x64 ![] bcast_S_S16x32x4x64 ((constant S_ .f32 0x3E000000#32))))

/-- The keys by head, rotated. -/
def k0 (X : FVec Ideal S16x32x1920 .f32) : FVec Ideal S16x32x4x64 .f32 := (concatenate S16x32x4x64 3 [⟨S16x32x4x32, (subf (mulf (extractStridedSlice S16x32x4x32 ![0, 0, 0, 0] (extractStridedSlice S16x32x4x64 ![0, 0, 4, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_4_0) slices_S16x32x4x64_S16x32x4x32_0_0_0_0) (broadcastInDim S16x32x4x32 ![0, 1, 2, 3] bcast_S1x32x1x32_S16x32x4x32_0_1_2_3 (broadcastInDim S1x32x1x32 ![1, 3] bcast_S32x32_S1x32x1x32_1_3 (Host.cos angB)))) (mulf (extractStridedSlice S16x32x4x32 ![0, 0, 0, 32] (extractStridedSlice S16x32x4x64 ![0, 0, 4, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_4_0) slices_S16x32x4x64_S16x32x4x32_0_0_0_32) (broadcastInDim S16x32x4x32 ![0, 1, 2, 3] bcast_S1x32x1x32_S16x32x4x32_0_1_2_3 (broadcastInDim S1x32x1x32 ![1, 3] bcast_S32x32_S1x32x1x32_1_3 (Host.sin angB)))))⟩, ⟨S16x32x4x32, (addf (mulf (extractStridedSlice S16x32x4x32 ![0, 0, 0, 0] (extractStridedSlice S16x32x4x64 ![0, 0, 4, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_4_0) slices_S16x32x4x64_S16x32x4x32_0_0_0_0) (broadcastInDim S16x32x4x32 ![0, 1, 2, 3] bcast_S1x32x1x32_S16x32x4x32_0_1_2_3 (broadcastInDim S1x32x1x32 ![1, 3] bcast_S32x32_S1x32x1x32_1_3 (Host.sin angB)))) (mulf (extractStridedSlice S16x32x4x32 ![0, 0, 0, 32] (extractStridedSlice S16x32x4x64 ![0, 0, 4, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_4_0) slices_S16x32x4x64_S16x32x4x32_0_0_0_32) (broadcastInDim S16x32x4x32 ![0, 1, 2, 3] bcast_S1x32x1x32_S16x32x4x32_0_1_2_3 (broadcastInDim S1x32x1x32 ![1, 3] bcast_S32x32_S1x32x1x32_1_3 (Host.cos angB)))))⟩] concatenates_S16x32x4x32_S16x32x4x32_S16x32x4x64_d3)

/-- The values by head. -/
def v0 (X : FVec Ideal S16x32x1920 .f32) : FVec Ideal S16x32x4x64 .f32 := (extractStridedSlice S16x32x4x64 ![0, 0, 8, 0] (extractStridedSlice S16x32x12x64 ![0, 0, 0, 0] (shapeCast _ (extractStridedSlice S16x32x1536 ![0, 0, 0] X slices_S16x32x1920_S16x32x1536_0_0_0) shapeCasts_S16x32x1536_S16x32x12x128) slices_S16x32x12x128_S16x32x12x64_0_0_0_0) slices_S16x32x12x64_S16x32x4x64_0_0_8_0)

/-- The indexer queries by head, rotated. -/
def i0 (X : FVec Ideal S16x32x1920 .f32) : FVec Ideal S16x32x8x32 .f32 := (concatenate S16x32x8x32 3 [⟨S16x32x8x16, (subf (mulf (extractStridedSlice S16x32x8x16 ![0, 0, 0, 0] (shapeCast _ (extractStridedSlice S16x32x256 ![0, 0, 1536] X slices_S16x32x1920_S16x32x256_0_0_1536) shapeCasts_S16x32x256_S16x32x8x32) slices_S16x32x8x32_S16x32x8x16_0_0_0_0) (broadcastInDim S16x32x8x16 ![0, 1, 2, 3] bcast_S1x32x1x16_S16x32x8x16_0_1_2_3 (broadcastInDim S1x32x1x16 ![1, 3] bcast_S32x16_S1x32x1x16_1_3 (Host.cos angA)))) (mulf (extractStridedSlice S16x32x8x16 ![0, 0, 0, 16] (shapeCast _ (extractStridedSlice S16x32x256 ![0, 0, 1536] X slices_S16x32x1920_S16x32x256_0_0_1536) shapeCasts_S16x32x256_S16x32x8x32) slices_S16x32x8x32_S16x32x8x16_0_0_0_16) (broadcastInDim S16x32x8x16 ![0, 1, 2, 3] bcast_S1x32x1x16_S16x32x8x16_0_1_2_3 (broadcastInDim S1x32x1x16 ![1, 3] bcast_S32x16_S1x32x1x16_1_3 (Host.sin angA)))))⟩, ⟨S16x32x8x16, (addf (mulf (extractStridedSlice S16x32x8x16 ![0, 0, 0, 0] (shapeCast _ (extractStridedSlice S16x32x256 ![0, 0, 1536] X slices_S16x32x1920_S16x32x256_0_0_1536) shapeCasts_S16x32x256_S16x32x8x32) slices_S16x32x8x32_S16x32x8x16_0_0_0_0) (broadcastInDim S16x32x8x16 ![0, 1, 2, 3] bcast_S1x32x1x16_S16x32x8x16_0_1_2_3 (broadcastInDim S1x32x1x16 ![1, 3] bcast_S32x16_S1x32x1x16_1_3 (Host.sin angA)))) (mulf (extractStridedSlice S16x32x8x16 ![0, 0, 0, 16] (shapeCast _ (extractStridedSlice S16x32x256 ![0, 0, 1536] X slices_S16x32x1920_S16x32x256_0_0_1536) shapeCasts_S16x32x256_S16x32x8x32) slices_S16x32x8x32_S16x32x8x16_0_0_0_16) (broadcastInDim S16x32x8x16 ![0, 1, 2, 3] bcast_S1x32x1x16_S16x32x8x16_0_1_2_3 (broadcastInDim S1x32x1x16 ![1, 3] bcast_S32x16_S1x32x1x16_1_3 (Host.cos angA)))))⟩] concatenates_S16x32x8x16_S16x32x8x16_S16x32x8x32_d3)

/-- The indexer keys, rotated. -/
def rki (X : FVec Ideal S16x32x1920 .f32) : FVec Ideal S16x32x32 .f32 := (shapeCast _ (concatenate S16x32x1x32 3 [⟨S16x32x1x16, (subf (mulf (extractStridedSlice S16x32x1x16 ![0, 0, 0, 0] (broadcastInDim S16x32x1x32 ![0, 1, 3] bcast_S16x32x32_S16x32x1x32_0_1_3 (extractStridedSlice S16x32x32 ![0, 0, 1792] X slices_S16x32x1920_S16x32x32_0_0_1792)) slices_S16x32x1x32_S16x32x1x16_0_0_0_0) (broadcastInDim S16x32x1x16 ![0, 1, 2, 3] bcast_S1x32x1x16_S16x32x1x16_0_1_2_3 (broadcastInDim S1x32x1x16 ![1, 3] bcast_S32x16_S1x32x1x16_1_3 (Host.cos angA)))) (mulf (extractStridedSlice S16x32x1x16 ![0, 0, 0, 16] (broadcastInDim S16x32x1x32 ![0, 1, 3] bcast_S16x32x32_S16x32x1x32_0_1_3 (extractStridedSlice S16x32x32 ![0, 0, 1792] X slices_S16x32x1920_S16x32x32_0_0_1792)) slices_S16x32x1x32_S16x32x1x16_0_0_0_16) (broadcastInDim S16x32x1x16 ![0, 1, 2, 3] bcast_S1x32x1x16_S16x32x1x16_0_1_2_3 (broadcastInDim S1x32x1x16 ![1, 3] bcast_S32x16_S1x32x1x16_1_3 (Host.sin angA)))))⟩, ⟨S16x32x1x16, (addf (mulf (extractStridedSlice S16x32x1x16 ![0, 0, 0, 0] (broadcastInDim S16x32x1x32 ![0, 1, 3] bcast_S16x32x32_S16x32x1x32_0_1_3 (extractStridedSlice S16x32x32 ![0, 0, 1792] X slices_S16x32x1920_S16x32x32_0_0_1792)) slices_S16x32x1x32_S16x32x1x16_0_0_0_0) (broadcastInDim S16x32x1x16 ![0, 1, 2, 3] bcast_S1x32x1x16_S16x32x1x16_0_1_2_3 (broadcastInDim S1x32x1x16 ![1, 3] bcast_S32x16_S1x32x1x16_1_3 (Host.sin angA)))) (mulf (extractStridedSlice S16x32x1x16 ![0, 0, 0, 16] (broadcastInDim S16x32x1x32 ![0, 1, 3] bcast_S16x32x32_S16x32x1x32_0_1_3 (extractStridedSlice S16x32x32 ![0, 0, 1792] X slices_S16x32x1920_S16x32x32_0_0_1792)) slices_S16x32x1x32_S16x32x1x16_0_0_0_16) (broadcastInDim S16x32x1x16 ![0, 1, 2, 3] bcast_S1x32x1x16_S16x32x1x16_0_1_2_3 (broadcastInDim S1x32x1x16 ![1, 3] bcast_S32x16_S1x32x1x16_1_3 (Host.cos angA)))))⟩] concatenates_S16x32x1x16_S16x32x1x16_S16x32x1x32_d3) shapeCasts_S16x32x1x32_S16x32x32)

/-- The queries the reference gives. -/
def rq (X : FVec Ideal S16x32x1920 .f32) : FVec Ideal S16x4x32x128 .f32 := (pad S16x4x32x128 ![0, 0, 0, 0] ![0, 0, 0, 64] ![0, 0, 0, 0] (transpose S16x4x32x64 [0, 2, 1, 3] (q0 X) transposes_S16x32x4x64_S16x4x32x64_0_2_1_3) (sitofp .f32 (constantI S_ 32 0#32)) pads_S16x4x32x64_S16x4x32x128_000_000_000_0640 h_S_)

/-- The keys the reference gives. -/
def rk (X : FVec Ideal S16x32x1920 .f32) : FVec Ideal S16x4x32x128 .f32 := (pad S16x4x32x128 ![0, 0, 0, 0] ![0, 0, 0, 64] ![0, 0, 0, 0] (transpose S16x4x32x64 [0, 2, 1, 3] (k0 X) transposes_S16x32x4x64_S16x4x32x64_0_2_1_3) (sitofp .f32 (constantI S_ 32 0#32)) pads_S16x4x32x64_S16x4x32x128_000_000_000_0640 h_S_)

/-- The values the reference gives. -/
def rv (X : FVec Ideal S16x32x1920 .f32) : FVec Ideal S16x4x32x128 .f32 := (pad S16x4x32x128 ![0, 0, 0, 0] ![0, 0, 0, 64] ![0, 0, 0, 0] (transpose S16x4x32x64 [0, 2, 1, 3] (v0 X) transposes_S16x32x4x64_S16x4x32x64_0_2_1_3) (sitofp .f32 (constantI S_ 32 0#32)) pads_S16x4x32x64_S16x4x32x128_000_000_000_0640 h_S_)

/-- The indexer queries the reference gives. -/
def rqi (X : FVec Ideal S16x32x1920 .f32) : FVec Ideal S16x8x32x32 .f32 := (transpose S16x8x32x32 [0, 2, 1, 3] (i0 X) transposes_S16x32x8x32_S16x8x32x32_0_2_1_3)

/-- The indexer weights the reference gives. -/
def rwi (X : FVec Ideal S16x32x1920 .f32) : FVec Ideal S16x32x128 .f32 := (mulf (pad S16x32x128 ![0, 0, 0] ![0, 0, 88] ![0, 0, 0] (concatenate S16x32x40 2 [⟨S16x32x32, (rki X)⟩, ⟨S16x32x8, (extractStridedSlice S16x32x8 ![0, 0, 1824] X slices_S16x32x1920_S16x32x8_0_0_1824)⟩] concatenates_S16x32x32_S16x32x8_S16x32x40_d2) (sitofp .f32 (constantI S_ 32 0#32)) pads_S16x32x40_S16x32x128_000_000_0880 h_S_) (broadcastInDim S16x32x128 ![] bcast_S_S16x32x128 ((constant S_ .f32 0x3D800000#32))))

/-- The keys for the cache. -/
def rkf (X : FVec Ideal S16x32x1920 .f32) : FVec Ideal S16x32x256 .f32 := (shapeCast _ (k0 X) shapeCasts_S16x32x4x64_S16x32x256)

/-- The values for the cache. -/
def rvf (X : FVec Ideal S16x32x1920 .f32) : FVec Ideal S16x32x256 .f32 := (shapeCast _ (v0 X) shapeCasts_S16x32x4x64_S16x32x256)

/-- The scale of the queries. -/
abbrev sq : EReal := Ideal.ofBits FTy.f32 0x3E000000#32

/-- The scale of the indexer weights. -/
abbrev sw : EReal := Ideal.ofBits FTy.f32 0x3D800000#32

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The first half of a query head. -/
theorem q0_a (b : Fin 16) (l : Fin 32) (h : Fin 4) (k : Fin 64) (e : Fin 32) (hk : (k : ℕ) = e) : (show EReal from q0 X (ix4 b l h k)) = (X (ix3 b l ⟨(h : ℕ) * 128 + e, by omega⟩) * Ideal.cos (angB (ix2 l e)) - X (ix3 b l ⟨(h : ℕ) * 128 + (32 + e), by omega⟩) * Ideal.sin (angB (ix2 l e))) * sq := by
  pointwise [q0]
  rw [dif_pos (by omega)]
  simp only [hk, Fin.eta]

/-- The second half of a query head. -/
theorem q0_b (b : Fin 16) (l : Fin 32) (h : Fin 4) (k : Fin 64) (e : Fin 32) (hk : (k : ℕ) = 32 + e) : (show EReal from q0 X (ix4 b l h k)) = (X (ix3 b l ⟨(h : ℕ) * 128 + e, by omega⟩) * Ideal.sin (angB (ix2 l e)) + X (ix3 b l ⟨(h : ℕ) * 128 + (32 + e), by omega⟩) * Ideal.cos (angB (ix2 l e))) * sq := by
  pointwise [q0]
  rw [dif_neg (by omega)]
  have hs : (k : ℕ) - 32 = e := by omega
  simp only [hs, Fin.eta]

/-- The first half of a key head. -/
theorem k0_a (b : Fin 16) (l : Fin 32) (h : Fin 4) (k : Fin 64) (e : Fin 32) (hk : (k : ℕ) = e) : (show EReal from k0 X (ix4 b l h k)) = X (ix3 b l ⟨(4 + (h : ℕ)) * 128 + e, by omega⟩) * Ideal.cos (angB (ix2 l e)) - X (ix3 b l ⟨(4 + (h : ℕ)) * 128 + (32 + e), by omega⟩) * Ideal.sin (angB (ix2 l e)) := by
  pointwise [k0]
  rw [dif_pos (by omega)]
  simp only [hk, Fin.eta]

/-- The second half of a key head. -/
theorem k0_b (b : Fin 16) (l : Fin 32) (h : Fin 4) (k : Fin 64) (e : Fin 32) (hk : (k : ℕ) = 32 + e) : (show EReal from k0 X (ix4 b l h k)) = X (ix3 b l ⟨(4 + (h : ℕ)) * 128 + e, by omega⟩) * Ideal.sin (angB (ix2 l e)) + X (ix3 b l ⟨(4 + (h : ℕ)) * 128 + (32 + e), by omega⟩) * Ideal.cos (angB (ix2 l e)) := by
  pointwise [k0]
  rw [dif_neg (by omega)]
  have hs : (k : ℕ) - 32 = e := by omega
  simp only [hs, Fin.eta]

/-- A value lane. -/
theorem v0_at (b : Fin 16) (l : Fin 32) (h : Fin 4) (k : Fin 64) : (show EReal from v0 X (ix4 b l h k)) = X (ix3 b l ⟨(8 + (h : ℕ)) * 128 + k, by omega⟩) := by
  pointwise [v0]

/-- The first half of an indexer query head. -/
theorem i0_a (b : Fin 16) (l : Fin 32) (h : Fin 8) (k : Fin 32) (e : Fin 16) (hk : (k : ℕ) = e) : (show EReal from i0 X (ix4 b l h k)) = X (ix3 b l ⟨1536 + ((h : ℕ) * 32 + e), by omega⟩) * Ideal.cos (angA (ix2 l e)) - X (ix3 b l ⟨1536 + ((h : ℕ) * 32 + (16 + e)), by omega⟩) * Ideal.sin (angA (ix2 l e)) := by
  pointwise [i0]
  rw [dif_pos (by omega)]
  simp only [hk, Fin.eta]

/-- The second half of an indexer query head. -/
theorem i0_b (b : Fin 16) (l : Fin 32) (h : Fin 8) (k : Fin 32) (e : Fin 16) (hk : (k : ℕ) = 16 + e) : (show EReal from i0 X (ix4 b l h k)) = X (ix3 b l ⟨1536 + ((h : ℕ) * 32 + e), by omega⟩) * Ideal.sin (angA (ix2 l e)) + X (ix3 b l ⟨1536 + ((h : ℕ) * 32 + (16 + e)), by omega⟩) * Ideal.cos (angA (ix2 l e)) := by
  pointwise [i0]
  rw [dif_neg (by omega)]
  have hs : (k : ℕ) - 16 = e := by omega
  simp only [hs, Fin.eta]

/-- The first half of an indexer key. -/
theorem rki_a (b : Fin 16) (l : Fin 32) (k : Fin 32) (e : Fin 16) (hk : (k : ℕ) = e) : (show EReal from rki X (ix3 b l k)) = X (ix3 b l ⟨1792 + e, by omega⟩) * Ideal.cos (angA (ix2 l e)) - X (ix3 b l ⟨1792 + (16 + e), by omega⟩) * Ideal.sin (angA (ix2 l e)) := by
  pointwise [rki]
  rw [dif_pos (by omega)]
  simp only [hk, Fin.eta]

/-- The second half of an indexer key. -/
theorem rki_b (b : Fin 16) (l : Fin 32) (k : Fin 32) (e : Fin 16) (hk : (k : ℕ) = 16 + e) : (show EReal from rki X (ix3 b l k)) = X (ix3 b l ⟨1792 + e, by omega⟩) * Ideal.sin (angA (ix2 l e)) + X (ix3 b l ⟨1792 + (16 + e), by omega⟩) * Ideal.cos (angA (ix2 l e)) := by
  pointwise [rki]
  rw [dif_neg (by omega)]
  have hs : (k : ℕ) - 16 = e := by omega
  simp only [hs, Fin.eta]

/-- A lane of a query head. -/
theorem rq_lo (b : Fin 16) (l : Fin 32) (h : Fin 4) (k : Fin 128) (j : Fin 64) (hk : (k : ℕ) = j) : (show EReal from rq X (ix4 b h l k)) = q0 X (ix4 b l h j) := by
  pointwise [rq]
  rw [dif_pos (by omega)]
  simp only [hk, Fin.eta]

/-- The lanes past it. -/
theorem rq_z (b : Fin 16) (l : Fin 32) (h : Fin 4) (k : Fin 128) (hk : 64 ≤ (k : ℕ)) : (show EReal from rq X (ix4 b h l k)) = 0 := by
  pointwise [rq]
  rw [dif_neg (by omega)]
  exact sitofp_zero

/-- A lane of a key head. -/
theorem rk_lo (b : Fin 16) (l : Fin 32) (h : Fin 4) (k : Fin 128) (j : Fin 64) (hk : (k : ℕ) = j) : (show EReal from rk X (ix4 b h l k)) = k0 X (ix4 b l h j) := by
  pointwise [rk]
  rw [dif_pos (by omega)]
  simp only [hk, Fin.eta]

/-- The lanes past it. -/
theorem rk_z (b : Fin 16) (l : Fin 32) (h : Fin 4) (k : Fin 128) (hk : 64 ≤ (k : ℕ)) : (show EReal from rk X (ix4 b h l k)) = 0 := by
  pointwise [rk]
  rw [dif_neg (by omega)]
  exact sitofp_zero

/-- A lane of a value head. -/
theorem rv_lo (b : Fin 16) (l : Fin 32) (h : Fin 4) (k : Fin 128) (j : Fin 64) (hk : (k : ℕ) = j) : (show EReal from rv X (ix4 b h l k)) = v0 X (ix4 b l h j) := by
  pointwise [rv]
  rw [dif_pos (by omega)]
  simp only [hk, Fin.eta]

/-- The lanes past it. -/
theorem rv_z (b : Fin 16) (l : Fin 32) (h : Fin 4) (k : Fin 128) (hk : 64 ≤ (k : ℕ)) : (show EReal from rv X (ix4 b h l k)) = 0 := by
  pointwise [rv]
  rw [dif_neg (by omega)]
  exact sitofp_zero

/-- An indexer query lane. -/
theorem rqi_at (b : Fin 16) (l : Fin 32) (h : Fin 8) (k : Fin 32)  : (show EReal from rqi X (ix4 b h l k)) = i0 X (ix4 b l h k) := by
  pointwise [rqi]

/-- The indexer key lanes, scaled, -/
theorem rwi_a (b : Fin 16) (l : Fin 32) (k : Fin 128) (j : Fin 32) (hk : (k : ℕ) = j) : (show EReal from rwi X (ix3 b l k)) = rki X (ix3 b l j) * sw := by
  pointwise [rwi]
  rw [dif_pos (by omega), dif_pos (by omega)]
  simp only [hk, Fin.eta]

/-- the weights, scaled, -/
theorem rwi_b (b : Fin 16) (l : Fin 32) (k : Fin 128) (h1 : 32 ≤ (k : ℕ)) (h2 : (k : ℕ) < 40) : (show EReal from rwi X (ix3 b l k)) = X (ix3 b l ⟨1792 + k, by omega⟩) * sw := by
  pointwise [rwi]
  rw [dif_pos (by omega), dif_neg (by omega)]
  exact congrArg (fun n => X (ix3 b l n) * sw) (Fin.ext (by dsimp only; omega))

/-- and zero past them. -/
theorem rwi_z (b : Fin 16) (l : Fin 32) (k : Fin 128) (hk : 40 ≤ (k : ℕ)) : (show EReal from rwi X (ix3 b l k)) = 0 := by
  pointwise [rwi]
  rw [dif_neg (by omega)]
  exact (congrArg (fun x : EReal => x * sw) sitofp_zero).trans (zero_mul _)

/-- A lane for the cache. -/
theorem rkf_at (b : Fin 16) (l : Fin 32) (n : Fin 256) (h : Fin 4) (j : Fin 64) (hn : (n : ℕ) = 64 * h + j) : (show EReal from rkf X (ix3 b l n)) = k0 X (ix4 b l h j) := by
  pointwise [rkf]
  exact congrArg₂ (fun x y => k0 X (ix4 b l x y)) (Fin.ext (by dsimp only; omega)) (Fin.ext (by dsimp only; omega))

/-- A lane for the cache. -/
theorem rvf_at (b : Fin 16) (l : Fin 32) (n : Fin 256) (h : Fin 4) (j : Fin 64) (hn : (n : ℕ) = 64 * h + j) : (show EReal from rvf X (ix3 b l n)) = v0 X (ix4 b l h j) := by
  pointwise [rvf]
  exact congrArg₂ (fun x y => v0 X (ix4 b l x y)) (Fin.ext (by dsimp only; omega)) (Fin.ext (by dsimp only; omega))

/-- The angles: a position (from the past's length) times a frequency. -/
theorem angB_at (l : Fin 32) (d : Fin 32) : (show EReal from angB (ix2 l d)) = FloatOps.sitofp (F := Ideal) .f32 (IntOp.addi 4096#32 (BitVec.ofNat 32 l)) * Ideal.pow (Ideal.ofBits FTy.f32 1176256512#32) (Ideal.div (-FloatOps.sitofp (F := Ideal) .f32 (BitVec.ofNat 32 d)) (Ideal.ofBits FTy.f32 0x42000000#32)) := by
  pointwise [angB]

/-- The angles: a position (from the past's length) times a frequency. -/
theorem angA_at (l : Fin 32) (d : Fin 16) : (show EReal from angA (ix2 l d)) = FloatOps.sitofp (F := Ideal) .f32 (IntOp.addi 4096#32 (BitVec.ofNat 32 l)) * Ideal.pow (Ideal.ofBits FTy.f32 1176256512#32) (Ideal.div (-FloatOps.sitofp (F := Ideal) .f32 (BitVec.ofNat 32 d)) (Ideal.ofBits FTy.f32 0x41800000#32)) := by
  pointwise [angA]

end Cert.DsaRefIdeal.R
-- ==== Proof.DsaP.lean ====
/- The preparation of the sparse attention: the arrays the kernel computes on the way, at an index. -/
module

public import proofs.«01_k».proof.Proof.DsaT
public import proofs.«01_k».proof.Proof.DsaR
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaIdeal.Value

open Cert.DsaIdeal Cert.DsaIdeal.Gen

/-- Copies of a table's row side by side: four, -/
def cat4 (a : FVec Ideal S1x32x128 .f32) : FVec Ideal S32x512 .f32 :=
  have r : FVec Ideal S32x128 .f32 := shapeCast S32x128 a shapeCasts_S1x32x128_S32x128
  concatenate S32x512 1 [⟨S32x128, r⟩, ⟨S32x128, r⟩, ⟨S32x128, r⟩, ⟨S32x128, r⟩] concatenates_S32x128_S32x128_S32x128_S32x128_S32x512_d1

/-- and two. -/
def cat2 (a : FVec Ideal S1x32x128 .f32) : FVec Ideal S32x256 .f32 :=
  have r : FVec Ideal S32x128 .f32 := shapeCast S32x128 a shapeCasts_S1x32x128_S32x128
  concatenate S32x256 1 [⟨S32x128, r⟩, ⟨S32x128, r⟩] concatenates_S32x128_S32x128_S32x256_d1

/-- A rotation of four heads: the lanes times the first row of a table, the lanes 32 on times the second, the lanes 32 back times the third. -/
def R4 (z : FVec Ideal S32x512 .f32) (a b c : FVec Ideal S1x32x128 .f32) : FVec Ideal S32x512 .f32 :=
  addf (addf (mulf z (cat4 a)) (mulf (dynamicRotate 1 480#32 none z rotates_S32x512_d1) (cat4 b))) (mulf (dynamicRotate 1 32#32 none z rotates_S32x512_d1) (cat4 c))

/-- The same of the eight narrow heads, by 16 lanes. -/
def R2 (z : FVec Ideal S32x256 .f32) (a b c : FVec Ideal S1x32x128 .f32) : FVec Ideal S32x256 .f32 :=
  addf (addf (mulf z (cat2 a)) (mulf (dynamicRotate 1 240#32 none z rotates_S32x256_d1) (cat2 b))) (mulf (dynamicRotate 1 16#32 none z rotates_S32x256_d1) (cat2 c))

/-- The lanes of the queries, -/
def zq (v : Vec Ideal S1x32x1920 .f32) : FVec Ideal S32x512 .f32 := extractStridedSlice S32x512 ![0, 0] (k0_pay2 (F := Ideal) v) slices_S32x1920_o0_0_S32x512

/-- and of the indexer queries. -/
def zi (v : FVec Ideal S32x1920 .f32) : FVec Ideal S32x256 .f32 := extractStridedSlice S32x256 ![0, 1536] v slices_S32x1920_o0_1536_S32x256

/-- The queries are the scaled rotation, -/
theorem pay3_eq (v : Vec Ideal S1x32x1920 .f32) (a b c : Vec Ideal S1x32x128 .f32) : k0_pay3 (F := Ideal) v a b c = mulf (R4 (zq v) a b c) (broadcast S32x512 (Scalar.ofBits .f32 0x3E000000#32)) := rfl

/-- the keys the rotation, -/
theorem pay9_eq (v : Vec Ideal S1x32x1920 .f32) (a b c : Vec Ideal S1x32x128 .f32) : k0_pay9 (F := Ideal) (k0_pay4 v) (k0_pay5 b) (k0_pay6 c) (k0_pay7 v a) (k0_pay8 v) = R4 (k0_pay4 (F := Ideal) v) a b c := rfl

/-- the indexer queries the narrow one. -/
theorem pay11_eq (v : FVec Ideal S32x1920 .f32) (a b c : Vec Ideal S1x32x128 .f32) : k0_pay11 (F := Ideal) v a b c = R2 (zi v) a b c := rfl

/-- The paired heads of the values are paired as the keys are. -/
theorem pay47_eq (v : FVec Ideal S32x512 .f32) : k0_pay47 (F := Ideal) (k0_pay17 v) (k0_pay22 v) (k0_pay28 v) (k0_pay33 v) = k0_pay46 (F := Ideal) (k0_pay16 v) (k0_pay21 v) (k0_pay27 v) (k0_pay32 v) := rfl

/-- The four copies at a lane of one of them. -/
theorem cat4_at (a : FVec Ideal S1x32x128 .f32) (l : Fin 32) (h : Fin 4) (d : Fin 128) (k : Fin 512) (hk : (k : ℕ) = h * 128 + d) : (show EReal from cat4 a (ix2 l k)) = a (ix3 0 l d) := by
  pointwise [cat4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The two copies at a lane of one of them. -/
theorem cat2_at (a : FVec Ideal S1x32x128 .f32) (l : Fin 32) (d : Fin 128) (k : Fin 256) (hk : (k : ℕ) % 128 = d) : (show EReal from cat2 a (ix2 l k)) = a (ix3 0 l d) := by
  pointwise [cat2]
  rcases (by omega : (k : ℕ) < 128 ∨ 128 ≤ (k : ℕ)) with h1 | h1
  · have hs : (k : ℕ) = d := by omega
    simp only [dif_pos h1]
    simp only [hs, Fin.eta]
  · have hs : (k : ℕ) - 128 = d := by omega
    simp only [dif_neg (show ¬ (k : ℕ) < 128 by omega)]
    simp only [hs, Fin.eta]

/-- Lanes moved by 32 from the right, -/
theorem rotA (z : FVec Ideal S32x512 .f32) (l : Fin 32) (k : Fin 512) : (show EReal from dynamicRotate 1 480#32 none z rotates_S32x512_d1 (ix2 l k)) = z (ix2 l ⟨((k : ℕ) + 512 - 480) % 512, by omega⟩) := by
  pointwise

/-- from the left, -/
theorem rotB (z : FVec Ideal S32x512 .f32) (l : Fin 32) (k : Fin 512) : (show EReal from dynamicRotate 1 32#32 none z rotates_S32x512_d1 (ix2 l k)) = z (ix2 l ⟨((k : ℕ) + 512 - 32) % 512, by omega⟩) := by
  pointwise

/-- by 16 from the right, -/
theorem rotC (z : FVec Ideal S32x256 .f32) (l : Fin 32) (k : Fin 256) : (show EReal from dynamicRotate 1 240#32 none z rotates_S32x256_d1 (ix2 l k)) = z (ix2 l ⟨((k : ℕ) + 256 - 240) % 256, by omega⟩) := by
  pointwise

/-- from the left. -/
theorem rotD (z : FVec Ideal S32x256 .f32) (l : Fin 32) (k : Fin 256) : (show EReal from dynamicRotate 1 16#32 none z rotates_S32x256_d1 (ix2 l k)) = z (ix2 l ⟨((k : ℕ) + 256 - 16) % 256, by omega⟩) := by
  pointwise

/-- Equal factors give equal sums of three products. -/
theorem three {a a' b b' d d' x x' y y' z z' : EReal} (h1 : a = a') (h2 : x = x') (h3 : b = b') (h4 : y = y') (h5 : d = d') (h6 : z = z') : a * x + b * y + d * z = a' * x' + b' * y' + d' * z' := by
  rw [h1, h2, h3, h4, h5, h6]

/-- The rotation at a lane of a head. -/
theorem R4_at (z : FVec Ideal S32x512 .f32) (a b c : FVec Ideal S1x32x128 .f32) (l : Fin 32) (h : Fin 4) (d : Fin 128) (k : Fin 512) (hk : (k : ℕ) = h * 128 + d) : (show EReal from R4 z a b c (ix2 l k)) = z (ix2 l k) * a (ix3 0 l d) + z (ix2 l ⟨((k : ℕ) + 512 - 480) % 512, by omega⟩) * b (ix3 0 l d) + z (ix2 l ⟨((k : ℕ) + 512 - 32) % 512, by omega⟩) * c (ix3 0 l d) :=
  three rfl (cat4_at a l h d k hk) (rotA z l k) (cat4_at b l h d k hk) (rotB z l k) (cat4_at c l h d k hk)

/-- The narrow rotation at a lane. -/
theorem R2_at (z : FVec Ideal S32x256 .f32) (a b c : FVec Ideal S1x32x128 .f32) (l : Fin 32) (d : Fin 128) (k : Fin 256) (hk : (k : ℕ) % 128 = d) : (show EReal from R2 z a b c (ix2 l k)) = z (ix2 l k) * a (ix3 0 l d) + z (ix2 l ⟨((k : ℕ) + 256 - 240) % 256, by omega⟩) * b (ix3 0 l d) + z (ix2 l ⟨((k : ℕ) + 256 - 16) % 256, by omega⟩) * c (ix3 0 l d) :=
  three rfl (cat2_at a l d k hk) (rotC z l k) (cat2_at b l d k hk) (rotD z l k) (cat2_at c l d k hk)

/-- The argument's block without its first axis. -/
theorem pay2_at (v : Vec Ideal S1x32x1920 .f32) (l : Fin 32) (k : Fin 1920) : (show EReal from k0_pay2 (F := Ideal) v (ix2 l k)) = v (ix3 0 l k) := by
  pointwise [k0_pay2]

/-- The query lanes, -/
theorem zq_at (v : Vec Ideal S1x32x1920 .f32) (l : Fin 32) (k : Fin 512) : (show EReal from zq v (ix2 l k)) = v (ix3 0 l ⟨k, by omega⟩) := by
  pointwise [zq, k0_pay2]

/-- the key lanes, -/
theorem pay4_at (v : Vec Ideal S1x32x1920 .f32) (l : Fin 32) (k : Fin 512) : (show EReal from k0_pay4 (F := Ideal) v (ix2 l k)) = v (ix3 0 l ⟨512 + k, by omega⟩) := by
  pointwise [k0_pay4, k0_pay2]

/-- the value lanes, -/
theorem pay10_at (v : FVec Ideal S32x1920 .f32) (l : Fin 32) (k : Fin 512) : (show EReal from k0_pay10 (F := Ideal) v (ix2 l k)) = v (ix2 l ⟨1024 + k, by omega⟩) := by
  pointwise [k0_pay10]

/-- the indexer query lanes, -/
theorem zi_at (v : FVec Ideal S32x1920 .f32) (l : Fin 32) (k : Fin 256) : (show EReal from zi v (ix2 l k)) = v (ix2 l ⟨1536 + k, by omega⟩) := by
  pointwise [zi]

/-- the indexer keys and weights, rotated. -/
theorem pay12_at (v : FVec Ideal S32x1920 .f32) (a b c : Vec Ideal S1x32x128 .f32) (l : Fin 32) (k : Fin 128) : (show EReal from k0_pay12 (F := Ideal) v a b c (ix2 l k)) = v (ix2 l ⟨1792 + k, by omega⟩) * a (ix3 0 l k) + v (ix2 l ⟨1792 + ((k : ℕ) + 128 - 112) % 128, by omega⟩) * b (ix3 0 l k) + v (ix2 l ⟨1792 + ((k : ℕ) + 128 - 16) % 128, by omega⟩) * c (ix3 0 l k) := by
  pointwise [k0_pay12]

/-- The head a piece stores. -/
theorem pay13_at (v : FVec Ideal S32x512 .f32) (l : Fin 32) (d : Fin 128) : (show EReal from k0_pay13 (F := Ideal) v (ix4 0 0 l d)) = v (ix2 l ⟨d, by omega⟩) := by
  pointwise [k0_pay13]

/-- The head a piece stores. -/
theorem pay14_at (v : FVec Ideal S32x512 .f32) (l : Fin 32) (d : Fin 128) : (show EReal from k0_pay14 (F := Ideal) v (ix4 0 0 l d)) = v (ix2 l ⟨d, by omega⟩) := by
  pointwise [k0_pay14]

/-- The head a piece stores. -/
theorem pay15_at (v : FVec Ideal S32x512 .f32) (l : Fin 32) (d : Fin 128) : (show EReal from k0_pay15 (F := Ideal) v (ix4 0 0 l d)) = v (ix2 l ⟨d, by omega⟩) := by
  pointwise [k0_pay15]

/-- The head a piece stores. -/
theorem pay18_at (v : FVec Ideal S32x512 .f32) (l : Fin 32) (d : Fin 128) : (show EReal from k0_pay18 (F := Ideal) v (ix4 0 0 l d)) = v (ix2 l ⟨128 + d, by omega⟩) := by
  pointwise [k0_pay18]

/-- The head a piece stores. -/
theorem pay19_at (v : FVec Ideal S32x512 .f32) (l : Fin 32) (d : Fin 128) : (show EReal from k0_pay19 (F := Ideal) v (ix4 0 0 l d)) = v (ix2 l ⟨128 + d, by omega⟩) := by
  pointwise [k0_pay19]

/-- The head a piece stores. -/
theorem pay20_at (v : FVec Ideal S32x512 .f32) (l : Fin 32) (d : Fin 128) : (show EReal from k0_pay20 (F := Ideal) v (ix4 0 0 l d)) = v (ix2 l ⟨128 + d, by omega⟩) := by
  pointwise [k0_pay20]

/-- The head a piece stores. -/
theorem pay24_at (v : FVec Ideal S32x512 .f32) (l : Fin 32) (d : Fin 128) : (show EReal from k0_pay24 (F := Ideal) (k0_pay23 v) (ix4 0 0 l d)) = v (ix2 l ⟨256 + d, by omega⟩) := by
  pointwise [k0_pay24, k0_pay23]

/-- The head a piece stores. -/
theorem pay25_at (v : FVec Ideal S32x512 .f32) (l : Fin 32) (d : Fin 128) : (show EReal from k0_pay25 (F := Ideal) v (ix4 0 0 l d)) = v (ix2 l ⟨256 + d, by omega⟩) := by
  pointwise [k0_pay25]

/-- The head a piece stores. -/
theorem pay26_at (v : FVec Ideal S32x512 .f32) (l : Fin 32) (d : Fin 128) : (show EReal from k0_pay26 (F := Ideal) v (ix4 0 0 l d)) = v (ix2 l ⟨256 + d, by omega⟩) := by
  pointwise [k0_pay26]

/-- The head a piece stores. -/
theorem pay29_at (v : FVec Ideal S32x512 .f32) (l : Fin 32) (d : Fin 128) : (show EReal from k0_pay29 (F := Ideal) v (ix4 0 0 l d)) = v (ix2 l ⟨384 + d, by omega⟩) := by
  pointwise [k0_pay29]

/-- The head a piece stores. -/
theorem pay30_at (v : FVec Ideal S32x512 .f32) (l : Fin 32) (d : Fin 128) : (show EReal from k0_pay30 (F := Ideal) v (ix4 0 0 l d)) = v (ix2 l ⟨384 + d, by omega⟩) := by
  pointwise [k0_pay30]

/-- The head a piece stores. -/
theorem pay31_at (v : FVec Ideal S32x512 .f32) (l : Fin 32) (d : Fin 128) : (show EReal from k0_pay31 (F := Ideal) v (ix4 0 0 l d)) = v (ix2 l ⟨384 + d, by omega⟩) := by
  pointwise [k0_pay31]

/-- The narrow head a piece stores. -/
theorem pay35_at (v : FVec Ideal S32x256 .f32) (l : Fin 32) (d : Fin 32) : (show EReal from k0_pay35 (F := Ideal) (k0_pay34 v) (ix4 0 0 l d)) = v (ix2 l ⟨d, by omega⟩) := by
  pointwise [k0_pay35, k0_pay34]

/-- The narrow head a piece stores. -/
theorem pay36_at (v : FVec Ideal S32x256 .f32) (l : Fin 32) (d : Fin 32) : (show EReal from k0_pay36 (F := Ideal) v (ix4 0 0 l d)) = v (ix2 l ⟨32 + d, by omega⟩) := by
  pointwise [k0_pay36]

/-- The narrow head a piece stores. -/
theorem pay37_at (v : FVec Ideal S32x256 .f32) (l : Fin 32) (d : Fin 32) : (show EReal from k0_pay37 (F := Ideal) v (ix4 0 0 l d)) = v (ix2 l ⟨64 + d, by omega⟩) := by
  pointwise [k0_pay37]

/-- The narrow head a piece stores. -/
theorem pay38_at (v : FVec Ideal S32x256 .f32) (l : Fin 32) (d : Fin 32) : (show EReal from k0_pay38 (F := Ideal) v (ix4 0 0 l d)) = v (ix2 l ⟨96 + d, by omega⟩) := by
  pointwise [k0_pay38]

/-- The narrow head a piece stores. -/
theorem pay39_at (v : FVec Ideal S32x256 .f32) (l : Fin 32) (d : Fin 32) : (show EReal from k0_pay39 (F := Ideal) v (ix4 0 0 l d)) = v (ix2 l ⟨128 + d, by omega⟩) := by
  pointwise [k0_pay39]

/-- The narrow head a piece stores. -/
theorem pay40_at (v : FVec Ideal S32x256 .f32) (l : Fin 32) (d : Fin 32) : (show EReal from k0_pay40 (F := Ideal) v (ix4 0 0 l d)) = v (ix2 l ⟨160 + d, by omega⟩) := by
  pointwise [k0_pay40]

/-- The narrow head a piece stores. -/
theorem pay41_at (v : FVec Ideal S32x256 .f32) (l : Fin 32) (d : Fin 32) : (show EReal from k0_pay41 (F := Ideal) v (ix4 0 0 l d)) = v (ix2 l ⟨192 + d, by omega⟩) := by
  pointwise [k0_pay41]

/-- The narrow head a piece stores. -/
theorem pay43_at (v : FVec Ideal S32x256 .f32) (l : Fin 32) (d : Fin 32) : (show EReal from k0_pay43 (F := Ideal) (k0_pay42 v) (ix4 0 0 l d)) = v (ix2 l ⟨224 + d, by omega⟩) := by
  pointwise [k0_pay43, k0_pay42]

/-- The indexer keys stored, -/
theorem pay44_at (v : FVec Ideal S32x128 .f32) (l : Fin 32) (d : Fin 32) : (show EReal from k0_pay44 (F := Ideal) v (ix3 0 l d)) = v (ix2 l ⟨d, by omega⟩) := by
  pointwise [k0_pay44]

/-- for the cache too, -/
theorem pay1_at (v : FVec Ideal S32x128 .f32) (l : Fin 32) (d : Fin 32) : (show EReal from k0_pay1 (F := Ideal) (k0_pay48 v) (ix3 0 l d)) = v (ix2 l ⟨d, by omega⟩) := by
  pointwise [k0_pay1, k0_pay48]

/-- with the weights, scaled. -/
theorem pay45_at (v : FVec Ideal S32x128 .f32) (l : Fin 32) (d : Fin 128) : (show EReal from k0_pay45 (F := Ideal) v (ix3 0 l d)) = v (ix2 l d) * Cert.DsaRefIdeal.R.sw := by
  pointwise [k0_pay45]

/-- Two heads in one row of lanes: the lower lanes of the one, then the lower lanes of the other, if the upper lanes of both are zero. -/
theorem pair_at (v : FVec Ideal S32x512 .f32) (l : Fin 32) (hz : ∀ n : Fin 512, 64 ≤ (n : ℕ) % 128 → (show EReal from v (ix2 l n)) = 0) (n : Fin 256) (h : Fin 4) (j : Fin 64) (hn : (n : ℕ) = 64 * h + j) :
    (show EReal from k0_pay46 (F := Ideal) (k0_pay16 v) (k0_pay21 v) (k0_pay27 v) (k0_pay32 v) (ix3 0 l n)) = v (ix2 l ⟨(h : ℕ) * 128 + j, by omega⟩) := by
  pointwise [k0_pay46, k0_pay16, k0_pay21, k0_pay27, k0_pay32]
  have hj : (j : ℕ) < 64 := j.isLt
  obtain ⟨h, hh⟩ := h
  replace hn : (n : ℕ) = 64 * h + j := hn
  have hv : ∀ x y : Fin 512, (x : ℕ) = y → (show EReal from v (ix2 l x)) = v (ix2 l y) := fun x y e => by rw [Fin.ext e]
  rcases (by omega : h = 0 ∨ h = 1 ∨ h = 2 ∨ h = 3) with rfl | rfl | rfl | rfl
  · rw [dif_pos (by omega)]
    exact (congrArg₂ (fun a b : EReal => a + b) (hv _ _ (by dsimp only; omega)) (hz _ (by dsimp only; omega))).trans (add_zero _)
  · rw [dif_pos (by omega)]
    exact (congrArg₂ (fun a b : EReal => a + b) (hz _ (by dsimp only; omega)) (hv _ _ (by dsimp only; omega))).trans (zero_add _)
  · rw [dif_neg (by omega)]
    exact (congrArg₂ (fun a b : EReal => a + b) (hv _ _ (by dsimp only; omega)) (hz _ (by dsimp only; omega))).trans (add_zero _)
  · rw [dif_neg (by omega)]
    exact (congrArg₂ (fun a b : EReal => a + b) (hz _ (by dsimp only; omega)) (hv _ _ (by dsimp only; omega))).trans (zero_add _)

/-- The argument as loaded, -/
theorem ld0_at (x : Vec Ideal S1x32x1920 .f32) (l : Fin 32) (k : Fin 1920) : (show EReal from View.ld x r0_0 (ix3 0 l k)) = x (ix3 0 l k) := by
  have e : r0_0.emb (ix3 0 l k) = ix3 0 l k := by blk_ext
  exact congrArg x e

/-- row 0 of a table as loaded. -/
theorem ld1_at (x : Vec Ideal S3x32x128 .f32) (l : Fin 32) (k : Fin 128) : (show EReal from View.ld x r0_1 (ix3 0 l k)) = x (ix3 0 l k) := by
  have e : r0_1.emb (ix3 0 l k) = ix3 0 l k := by blk_ext
  exact congrArg x e

/-- row 1 of a table as loaded. -/
theorem ld2_at (x : Vec Ideal S3x32x128 .f32) (l : Fin 32) (k : Fin 128) : (show EReal from View.ld x r0_2 (ix3 0 l k)) = x (ix3 1 l k) := by
  have e : r0_2.emb (ix3 0 l k) = ix3 1 l k := by blk_ext
  exact congrArg x e

/-- row 2 of a table as loaded. -/
theorem ld3_at (x : Vec Ideal S3x32x128 .f32) (l : Fin 32) (k : Fin 128) : (show EReal from View.ld x r0_3 (ix3 0 l k)) = x (ix3 2 l k) := by
  have e : r0_3.emb (ix3 0 l k) = ix3 2 l k := by blk_ext
  exact congrArg x e

variable (m : (ℓ : Loc nD τ sig) → Buf (Elt Ideal) ℓ) (c : Dev nD) (t : Fin cfg0.N)

/-- Which block of its array each window has at a grid point. -/
theorem idx : ∀ t : Fin cfg0.N, win0_0.index t = ![t.val, 0, 0] ∧ win0_1.index t = ![0, 0, 0] ∧ win0_2.index t = ![0, 0, 0] ∧ win0_3.index t = ![0, 0, 0]
    ∧ win0_4.index t = ![t.val, 0, 0, 0] ∧ win0_5.index t = ![t.val, 0, 0, 0] ∧ win0_6.index t = ![t.val, 0, 0, 0] ∧ win0_7.index t = ![t.val, 0, 0, 0]
    ∧ win0_8.index t = ![t.val, 0, 0] ∧ win0_9.index t = ![t.val, 0, 0] ∧ win0_10.index t = ![t.val, 0, 0] ∧ win0_11.index t = ![t.val, 0, 0] ∧ win0_12.index t = ![t.val, 0, 0] :=
  (by decide +kernel : ∀ t : Fin grid0.N, _)

/-- The stream a grid point works on. -/
abbrev st (t : Fin cfg0.N) : Fin 16 := ⟨t.val, lt_of_lt_of_eq t.isLt N_0⟩

/-- The argument as a block. -/
theorem b0 (l : Fin 32) (k : Fin 1920) : (show EReal from iblk m c 0 t (ix3 0 l k)) = arg0 m c (ix3 (st t) l k) := by
  blk_ext [iblk, V, idx t]

/-- A table as a block. -/
theorem b1 (r : Fin 3) (l : Fin 32) (k : Fin 128) : (show EReal from iblk m c 1 t (ix3 r l k)) = tabB (ix3 r l k) := by
  rw [← tb_eq m c]
  blk_ext [iblk, idx t]

/-- A table as a block. -/
theorem b2 (r : Fin 3) (l : Fin 32) (k : Fin 128) : (show EReal from iblk m c 2 t (ix3 r l k)) = tabI (ix3 r l k) := by
  rw [← ti_eq m c]
  blk_ext [iblk, idx t]

/-- A table as a block. -/
theorem b3 (r : Fin 3) (l : Fin 32) (k : Fin 128) : (show EReal from iblk m c 3 t (ix3 r l k)) = tabW (ix3 r l k) := by
  rw [← tw_eq m c]
  blk_ext [iblk, idx t]

end Cert.DsaIdeal.Value
-- ==== Proof.DsaV.lean ====
/- The preparation of the sparse attention: the arrays the call leaves are the reference's. -/
module

public import proofs.«01_k».proof.Proof.DsaP
public import proofs.«01_k».proof.Proof.Gen.Pre_dsa_ok
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaIdeal.Value

open Cert.DsaIdeal Cert.DsaIdeal.Gen

/-- The precondition: the upper lanes of each head's values are zero. -/
theorem ok (X : FVec Ideal S16x32x1920 .f32) [Cert.Pre_dsa_ok.Facts] (h : Cert.Pre_dsa_ok.fn (F := Ideal) X = fun _ => 1#1) :
    ∀ (b : Fin 16) (l : Fin 32) (n : Fin 1920), 1024 ≤ (n : ℕ) → (n : ℕ) < 1536 → 64 ≤ (n : ℕ) % 128 → (show EReal from X (ix3 b l n)) = 0 := by
  intro b l n h1 h2 h3
  have h' := congrFun h ix0
  unfold Cert.Pre_dsa_ok.fn at h'
  have e := Host.reduce_andi_all _ _ _ _ _ h' (ix4 b l ⟨(n - 1024) / 128, by omega⟩ ⟨(n : ℕ) % 128 - 64, by omega⟩)
  have e' : Ideal.cmp .oeq (X (ix3 b l n)) (Ideal.ofBits .f32 0x00000000#32) = 1 := by
    have hn : n = ⟨1024 + (((n : ℕ) - 1024) / 128 * 128 + (64 + ((n : ℕ) % 128 - 64))), by omega⟩ := Fin.ext (by dsimp only; omega)
    refine Eq.trans ?_ e
    refine (congrArg (fun x => Ideal.cmp .oeq (X (ix3 b l x)) (Ideal.ofBits .f32 0x00000000#32)) hn).trans ?_
    pointwise
  rw [Ideal.cmp_oeq_eq_one, Ideal.ofBits_zero_f32] at e'
  exact e'

/-- The kernel's angles are the reference's: the wide rotation's, -/
theorem angB_eq (l : Fin 32) (e : Fin 32) : (show EReal from angB (ix2 l e)) = Cert.DsaRefIdeal.R.angB (ix2 l e) :=
  Eq.trans (by pointwise [angB]) (Cert.DsaRefIdeal.R.angB_at l e).symm

/-- and the narrow one's. -/
theorem angA_eq (l : Fin 32) (e : Fin 16) : (show EReal from angA (ix2 l e)) = Cert.DsaRefIdeal.R.angA (ix2 l e) :=
  Eq.trans (by pointwise [angA]) (Cert.DsaRefIdeal.R.angA_at l e).symm

/-- The scale of the queries at a lane. -/
theorem sc_at (v : FVec Ideal S32x512 .f32) (l : Fin 32) (k : Fin 512) : (show EReal from mulf v (broadcast S32x512 (Scalar.ofBits .f32 0x3E000000#32)) (ix2 l k)) = v (ix2 l k) * Cert.DsaRefIdeal.R.sq := by
  pointwise

variable (m : (ℓ : Loc nD τ sig) → Buf (Elt Ideal) ℓ) (c : Dev nD) (t : Fin cfg0.N)

/-- The argument as a grid point loads it, -/
theorem xE (l : Fin 32) (k : Fin 1920) : (show EReal from View.ld (iblk m c 0 t) r0_0 (ix3 0 l k)) = arg0 m c (ix3 (st t) l k) :=
  (ld0_at _ l k).trans (b0 m c t l k)

/-- and without its first axis. -/
theorem xE2 (l : Fin 32) (k n : Fin 1920) (h : (k : ℕ) = n) : (show EReal from k0_pay49 (F := Ideal) (iblk m c 0 t) (iblk m c 1 t) (iblk m c 2 t) (iblk m c 3 t) (ix2 l k)) = arg0 m c (ix3 (st t) l n) := by
  obtain rfl := Fin.ext h
  exact (pay2_at _ l k).trans (xE m c t l k)

/-- The rotation of lanes of the argument: the first half of a head, -/
theorem rot_a (z : FVec Ideal S32x512 .f32) (o : ℕ) (l : Fin 32) (hz : ∀ (k : Fin 512) (n : Fin 1920), (n : ℕ) = o + k → (show EReal from z (ix2 l k)) = arg0 m c (ix3 (st t) l n)) (h : Fin 4) (d : Fin 128) (n : Fin 512) (hn : (n : ℕ) = h * 128 + d) (e : Fin 32) (hd : (d : ℕ) = e) (p q : Fin 1920) (hp : (p : ℕ) = o + (h * 128 + e)) (hq : (q : ℕ) = o + (h * 128 + (32 + e))) :
    (show EReal from R4 z (View.ld (iblk m c 1 t) r0_1) (View.ld (iblk m c 1 t) r0_2) (View.ld (iblk m c 1 t) r0_3) (ix2 l n)) = arg0 m c (ix3 (st t) l p) * Ideal.cos (Cert.DsaRefIdeal.R.angB (ix2 l e)) - arg0 m c (ix3 (st t) l q) * Ideal.sin (Cert.DsaRefIdeal.R.angB (ix2 l e)) := by
  have hA := (ld1_at (iblk m c 1 t) l d).trans (b1 m c t 0 l d)
  have hB := (ld2_at (iblk m c 1 t) l d).trans (b1 m c t 1 l d)
  have hC := (ld3_at (iblk m c 1 t) l d).trans (b1 m c t 2 l d)
  have hh : (h : ℕ) < 4 := h.isLt
  refine (R4_at z _ _ _ l h d n hn).trans ((three (hz _ p (by omega)) (hA.trans ((tb0_a l d e hd).trans (congrArg Ideal.cos (angB_eq _ _)))) (hz _ q (by dsimp only; omega)) (hB.trans ((tb1_a l d e hd).trans (congrArg (fun x => -Ideal.sin x) (angB_eq _ _)))) rfl (hC.trans (tb2_z l d (by omega)))).trans ?_)
  rw [mul_zero, add_zero, sub_eq_add_neg, mul_neg]

/-- the second, -/
theorem rot_b (z : FVec Ideal S32x512 .f32) (o : ℕ) (l : Fin 32) (hz : ∀ (k : Fin 512) (n : Fin 1920), (n : ℕ) = o + k → (show EReal from z (ix2 l k)) = arg0 m c (ix3 (st t) l n)) (h : Fin 4) (d : Fin 128) (n : Fin 512) (hn : (n : ℕ) = h * 128 + d) (e : Fin 32) (hd : (d : ℕ) = 32 + e) (p q : Fin 1920) (hp : (p : ℕ) = o + (h * 128 + e)) (hq : (q : ℕ) = o + (h * 128 + (32 + e))) :
    (show EReal from R4 z (View.ld (iblk m c 1 t) r0_1) (View.ld (iblk m c 1 t) r0_2) (View.ld (iblk m c 1 t) r0_3) (ix2 l n)) = arg0 m c (ix3 (st t) l p) * Ideal.sin (Cert.DsaRefIdeal.R.angB (ix2 l e)) + arg0 m c (ix3 (st t) l q) * Ideal.cos (Cert.DsaRefIdeal.R.angB (ix2 l e)) := by
  have hA := (ld1_at (iblk m c 1 t) l d).trans (b1 m c t 0 l d)
  have hB := (ld2_at (iblk m c 1 t) l d).trans (b1 m c t 1 l d)
  have hC := (ld3_at (iblk m c 1 t) l d).trans (b1 m c t 2 l d)
  have hh : (h : ℕ) < 4 := h.isLt
  refine (R4_at z _ _ _ l h d n hn).trans ((three (hz _ q (by omega)) (hA.trans ((tb0_b l d e hd).trans (congrArg Ideal.cos (angB_eq _ _)))) rfl (hB.trans (tb1_z l d (by omega))) (hz _ p (by dsimp only; omega)) (hC.trans ((tb2_b l d e hd).trans (congrArg Ideal.sin (angB_eq _ _))))).trans ?_)
  rw [mul_zero, add_zero, add_comm]

/-- and zero past them. -/
theorem rot_z (z : FVec Ideal S32x512 .f32) (l : Fin 32) (h : Fin 4) (d : Fin 128) (n : Fin 512) (hn : (n : ℕ) = h * 128 + d) (hd : 64 ≤ (d : ℕ)) :
    (show EReal from R4 z (View.ld (iblk m c 1 t) r0_1) (View.ld (iblk m c 1 t) r0_2) (View.ld (iblk m c 1 t) r0_3) (ix2 l n)) = 0 := by
  have hA := (ld1_at (iblk m c 1 t) l d).trans (b1 m c t 0 l d)
  have hB := (ld2_at (iblk m c 1 t) l d).trans (b1 m c t 1 l d)
  have hC := (ld3_at (iblk m c 1 t) l d).trans (b1 m c t 2 l d)
  refine (R4_at z _ _ _ l h d n hn).trans ((three rfl (hA.trans (tb0_z l d hd)) rfl (hB.trans (tb1_z l d (by omega))) rfl (hC.trans (tb2_z l d (by omega)))).trans ?_)
  simp only [mul_zero, add_zero]

/-- The query lanes of the argument, -/
theorem zqE (l : Fin 32) (k : Fin 512) (n : Fin 1920) (h : (n : ℕ) = 0 + k) : (show EReal from zq (View.ld (iblk m c 0 t) r0_0) (ix2 l k)) = arg0 m c (ix3 (st t) l n) :=
  (zq_at _ l k).trans ((xE m c t l _).trans (congrArg (fun x => arg0 m c (ix3 (st t) l x)) (Fin.ext (by dsimp only; omega))))

/-- and the key lanes. -/
theorem zkE (l : Fin 32) (k : Fin 512) (n : Fin 1920) (h : (n : ℕ) = 512 + k) : (show EReal from k0_pay4 (F := Ideal) (View.ld (iblk m c 0 t) r0_0) (ix2 l k)) = arg0 m c (ix3 (st t) l n) :=
  (pay4_at _ l k).trans ((xE m c t l _).trans (congrArg (fun x => arg0 m c (ix3 (st t) l x)) (Fin.ext (by dsimp only; omega))))

/-- The kernel's queries are the reference's. -/
theorem qE (l : Fin 32) (h : Fin 4) (d : Fin 128) (n : Fin 512) (hn : (n : ℕ) = h * 128 + d) :
    (show EReal from k0_pay50 (F := Ideal) (iblk m c 0 t) (iblk m c 1 t) (iblk m c 2 t) (iblk m c 3 t) (ix2 l n)) = Cert.DsaRefIdeal.R.rq (arg0 m c) (ix4 (st t) h l d) := by
  have hd : (d : ℕ) < 128 := d.isLt
  have hh : (h : ℕ) < 4 := h.isLt
  refine (sc_at (R4 (zq (View.ld (iblk m c 0 t) r0_0)) (View.ld (iblk m c 1 t) r0_1) (View.ld (iblk m c 1 t) r0_2) (View.ld (iblk m c 1 t) r0_3)) l n).trans ?_
  rcases (by omega : (d : ℕ) < 32 ∨ (32 ≤ (d : ℕ) ∧ (d : ℕ) < 64) ∨ 64 ≤ (d : ℕ)) with h1 | h1 | h1
  · refine Eq.trans (congrArg (fun x : EReal => x * Cert.DsaRefIdeal.R.sq) ?_) ((Cert.DsaRefIdeal.R.rq_lo _ (st t) l h d ⟨d, by omega⟩ rfl).trans (Cert.DsaRefIdeal.R.q0_a _ (st t) l h _ ⟨d, h1⟩ rfl)).symm
    exact rot_a m c t (zq (View.ld (iblk m c 0 t) r0_0)) 0 l (zqE m c t l) h d n hn ⟨d, h1⟩ rfl _ _ (by dsimp only; omega) (by dsimp only; omega)
  · have e : (d : ℕ) = 32 + (⟨d - 32, by omega⟩ : Fin 32) := by dsimp only; omega
    refine Eq.trans (congrArg (fun x : EReal => x * Cert.DsaRefIdeal.R.sq) ?_) ((Cert.DsaRefIdeal.R.rq_lo _ (st t) l h d ⟨d, by omega⟩ rfl).trans (Cert.DsaRefIdeal.R.q0_b _ (st t) l h _ _ e)).symm
    exact rot_b m c t (zq (View.ld (iblk m c 0 t) r0_0)) 0 l (zqE m c t l) h d n hn _ e _ _ (by dsimp only; omega) (by dsimp only; omega)
  · refine Eq.trans ?_ (Cert.DsaRefIdeal.R.rq_z _ (st t) l h d h1).symm
    exact (congrArg (fun x : EReal => x * Cert.DsaRefIdeal.R.sq) (rot_z m c t _ l h d n hn h1)).trans (zero_mul _)

/-- The kernel's keys are the reference's. -/
theorem kE (l : Fin 32) (h : Fin 4) (d : Fin 128) (n : Fin 512) (hn : (n : ℕ) = h * 128 + d) :
    (show EReal from k0_pay51 (F := Ideal) (iblk m c 0 t) (iblk m c 1 t) (iblk m c 2 t) (iblk m c 3 t) (ix2 l n)) = Cert.DsaRefIdeal.R.rk (arg0 m c) (ix4 (st t) h l d) := by
  have hd : (d : ℕ) < 128 := d.isLt
  have hh : (h : ℕ) < 4 := h.isLt
  show (show EReal from R4 (k0_pay4 (F := Ideal) (View.ld (iblk m c 0 t) r0_0)) (View.ld (iblk m c 1 t) r0_1) (View.ld (iblk m c 1 t) r0_2) (View.ld (iblk m c 1 t) r0_3) (ix2 l n)) = _
  rcases (by omega : (d : ℕ) < 32 ∨ (32 ≤ (d : ℕ) ∧ (d : ℕ) < 64) ∨ 64 ≤ (d : ℕ)) with h1 | h1 | h1
  · refine Eq.trans ?_ ((Cert.DsaRefIdeal.R.rk_lo _ (st t) l h d ⟨d, by omega⟩ rfl).trans (Cert.DsaRefIdeal.R.k0_a _ (st t) l h _ ⟨d, h1⟩ rfl)).symm
    exact rot_a m c t (k0_pay4 (F := Ideal) (View.ld (iblk m c 0 t) r0_0)) 512 l (zkE m c t l) h d n hn ⟨d, h1⟩ rfl _ _ (by dsimp only; omega) (by dsimp only; omega)
  · have e : (d : ℕ) = 32 + (⟨d - 32, by omega⟩ : Fin 32) := by dsimp only; omega
    refine Eq.trans ?_ ((Cert.DsaRefIdeal.R.rk_lo _ (st t) l h d ⟨d, by omega⟩ rfl).trans (Cert.DsaRefIdeal.R.k0_b _ (st t) l h _ _ e)).symm
    exact rot_b m c t (k0_pay4 (F := Ideal) (View.ld (iblk m c 0 t) r0_0)) 512 l (zkE m c t l) h d n hn _ e _ _ (by dsimp only; omega) (by dsimp only; omega)
  · refine Eq.trans ?_ (Cert.DsaRefIdeal.R.rk_z _ (st t) l h d h1).symm
    exact rot_z m c t _ l h d n hn h1

/-- The kernel's values: the reference's on a head's lower lanes, -/
theorem vE_lo (l : Fin 32) (h : Fin 4) (j : Fin 64) (n : Fin 512) (hn : (n : ℕ) = h * 128 + j) :
    (show EReal from k0_pay52 (F := Ideal) (iblk m c 0 t) (iblk m c 1 t) (iblk m c 2 t) (iblk m c 3 t) (ix2 l n)) = Cert.DsaRefIdeal.R.v0 (arg0 m c) (ix4 (st t) l h j) :=
  (pay10_at _ l n).trans ((xE2 m c t l _ _ (by dsimp only; omega)).trans (Cert.DsaRefIdeal.R.v0_at _ (st t) l h j).symm)

/-- zero on the upper ones, -/
theorem vE_z [Cert.Pre_dsa_ok.Facts] (hpre : Cert.Pre_dsa_ok.fn (F := Ideal) (arg0 m c) = fun _ => 1#1) (l : Fin 32) (n : Fin 512) (hn : 64 ≤ (n : ℕ) % 128) :
    (show EReal from k0_pay52 (F := Ideal) (iblk m c 0 t) (iblk m c 1 t) (iblk m c 2 t) (iblk m c 3 t) (ix2 l n)) = 0 :=
  (pay10_at _ l n).trans ((xE2 m c t l _ ⟨1024 + n, by omega⟩ rfl).trans (ok _ hpre _ _ _ (by dsimp only; omega) (by dsimp only; omega) (by dsimp only; omega)))

/-- so the reference's. -/
theorem vE [Cert.Pre_dsa_ok.Facts] (hpre : Cert.Pre_dsa_ok.fn (F := Ideal) (arg0 m c) = fun _ => 1#1) (l : Fin 32) (h : Fin 4) (d : Fin 128) (n : Fin 512) (hn : (n : ℕ) = h * 128 + d) :
    (show EReal from k0_pay52 (F := Ideal) (iblk m c 0 t) (iblk m c 1 t) (iblk m c 2 t) (iblk m c 3 t) (ix2 l n)) = Cert.DsaRefIdeal.R.rv (arg0 m c) (ix4 (st t) h l d) := by
  have hd : (d : ℕ) < 128 := d.isLt
  rcases (by omega : (d : ℕ) < 64 ∨ 64 ≤ (d : ℕ)) with h1 | h1
  · exact (vE_lo m c t l h ⟨d, h1⟩ n hn).trans (Cert.DsaRefIdeal.R.rv_lo _ (st t) l h d ⟨d, h1⟩ rfl).symm
  · exact (vE_z m c t hpre l n (by omega)).trans (Cert.DsaRefIdeal.R.rv_z _ (st t) l h d h1).symm

/-- The kernel's indexer queries are the reference's. -/
theorem iE (l : Fin 32) (h : Fin 8) (k : Fin 32) (n : Fin 256) (hn : (n : ℕ) = h * 32 + k) :
    (show EReal from k0_pay53 (F := Ideal) (iblk m c 0 t) (iblk m c 1 t) (iblk m c 2 t) (iblk m c 3 t) (ix2 l n)) = Cert.DsaRefIdeal.R.rqi (arg0 m c) (ix4 (st t) h l k) := by
  have hk : (k : ℕ) < 32 := k.isLt
  have hh : (h : ℕ) < 8 := h.isLt
  obtain ⟨d, hd⟩ : ∃ d : Fin 128, (n : ℕ) % 128 = d := ⟨⟨(n : ℕ) % 128, by omega⟩, rfl⟩
  obtain ⟨g, hg⟩ : ∃ g : Fin 4, (h : ℕ) % 4 = g := ⟨⟨(h : ℕ) % 4, by omega⟩, rfl⟩
  have hA := (ld1_at (iblk m c 2 t) l d).trans (b2 m c t 0 l d)
  have hB := (ld2_at (iblk m c 2 t) l d).trans (b2 m c t 1 l d)
  have hC := (ld3_at (iblk m c 2 t) l d).trans (b2 m c t 2 l d)
  have hz : ∀ (a : Fin 256) (p : Fin 1920), (p : ℕ) = 1536 + a → (show EReal from zi (k0_pay49 (F := Ideal) (iblk m c 0 t) (iblk m c 1 t) (iblk m c 2 t) (iblk m c 3 t)) (ix2 l a)) = arg0 m c (ix3 (st t) l p) := fun a p e => (zi_at _ l a).trans (xE2 m c t l _ p e.symm)
  refine (R2_at (zi (k0_pay49 (F := Ideal) (iblk m c 0 t) (iblk m c 1 t) (iblk m c 2 t) (iblk m c 3 t))) (View.ld (iblk m c 2 t) r0_1) (View.ld (iblk m c 2 t) r0_2) (View.ld (iblk m c 2 t) r0_3) l d n hd).trans (Eq.trans ?_ (Cert.DsaRefIdeal.R.rqi_at _ (st t) l h k).symm)
  rcases (by omega : (k : ℕ) < 16 ∨ 16 ≤ (k : ℕ)) with h1 | h1
  · have e : (d : ℕ) = 32 * g + (⟨k, h1⟩ : Fin 16) := by dsimp only; omega
    refine Eq.trans ?_ (Cert.DsaRefIdeal.R.i0_a _ (st t) l h k ⟨k, h1⟩ rfl).symm
    refine (three (hz _ ⟨1536 + ((h : ℕ) * 32 + k), by omega⟩ (by dsimp only; omega)) (hA.trans ((ti0_a l d g _ e).trans (congrArg Ideal.cos (angA_eq _ _)))) (hz _ ⟨1536 + ((h : ℕ) * 32 + (16 + k)), by omega⟩ (by dsimp only; omega)) (hB.trans ((ti1_a l d g _ e).trans (congrArg (fun x => -Ideal.sin x) (angA_eq _ _)))) rfl (hC.trans (ti2_z l d (by omega)))).trans ?_
    rw [mul_zero, add_zero, sub_eq_add_neg, mul_neg]
  · have e : (d : ℕ) = 32 * g + 16 + (⟨k - 16, by omega⟩ : Fin 16) := by dsimp only; omega
    refine Eq.trans ?_ (Cert.DsaRefIdeal.R.i0_b _ (st t) l h k ⟨k - 16, by omega⟩ (by dsimp only; omega)).symm
    refine (three (hz _ ⟨1536 + ((h : ℕ) * 32 + (16 + (k - 16))), by omega⟩ (by dsimp only; omega)) (hA.trans ((ti0_b l d g _ e).trans (congrArg Ideal.cos (angA_eq _ _)))) rfl (hB.trans (ti1_z l d (by omega))) (hz _ ⟨1536 + ((h : ℕ) * 32 + (k - 16)), by omega⟩ (by dsimp only; omega)) (hC.trans ((ti2_b l d g _ e).trans (congrArg Ideal.sin (angA_eq _ _))))).trans ?_
    rw [mul_zero, add_zero, add_comm]

/-- The kernel's indexer keys are the reference's on their lanes, -/
theorem wE_k (l : Fin 32) (d : Fin 128) (k : Fin 32) (hd : (d : ℕ) = k) :
    (show EReal from k0_pay54 (F := Ideal) (iblk m c 0 t) (iblk m c 1 t) (iblk m c 2 t) (iblk m c 3 t) (ix2 l d)) = Cert.DsaRefIdeal.R.rki (arg0 m c) (ix3 (st t) l k) := by
  have hk : (k : ℕ) < 32 := k.isLt
  have hA := (ld1_at (iblk m c 3 t) l d).trans (b3 m c t 0 l d)
  have hB := (ld2_at (iblk m c 3 t) l d).trans (b3 m c t 1 l d)
  have hC := (ld3_at (iblk m c 3 t) l d).trans (b3 m c t 2 l d)
  refine (pay12_at _ _ _ _ l d).trans ?_
  rcases (by omega : (k : ℕ) < 16 ∨ 16 ≤ (k : ℕ)) with h1 | h1
  · have e : (d : ℕ) = (⟨k, h1⟩ : Fin 16) := hd
    refine Eq.trans ?_ (Cert.DsaRefIdeal.R.rki_a _ (st t) l k ⟨k, h1⟩ rfl).symm
    refine (three (xE2 m c t l _ ⟨1792 + k, by omega⟩ (by dsimp only; omega)) (hA.trans ((tw0_a l d _ e).trans (congrArg Ideal.cos (angA_eq _ _)))) (xE2 m c t l _ ⟨1792 + (16 + k), by omega⟩ (by dsimp only; omega)) (hB.trans ((tw1_a l d _ e).trans (congrArg (fun x => -Ideal.sin x) (angA_eq _ _)))) rfl (hC.trans (tw2_z l d (by omega)))).trans ?_
    rw [mul_zero, add_zero, sub_eq_add_neg, mul_neg]
  · have e : (d : ℕ) = 16 + (⟨k - 16, by omega⟩ : Fin 16) := by dsimp only; omega
    refine Eq.trans ?_ (Cert.DsaRefIdeal.R.rki_b _ (st t) l k ⟨k - 16, by omega⟩ (by dsimp only; omega)).symm
    refine (three (xE2 m c t l _ ⟨1792 + (16 + (k - 16)), by omega⟩ (by dsimp only; omega)) (hA.trans ((tw0_b l d _ e).trans (congrArg Ideal.cos (angA_eq _ _)))) rfl (hB.trans (tw1_z l d (by omega))) (xE2 m c t l _ ⟨1792 + (k - 16), by omega⟩ (by dsimp only; omega)) (hC.trans ((tw2_b l d _ e).trans (congrArg Ideal.sin (angA_eq _ _))))).trans ?_
    rw [mul_zero, add_zero, add_comm]

/-- and with the weights, scaled, everywhere. -/
theorem wE (l : Fin 32) (d : Fin 128) :
    (show EReal from k0_pay54 (F := Ideal) (iblk m c 0 t) (iblk m c 1 t) (iblk m c 2 t) (iblk m c 3 t) (ix2 l d)) * Cert.DsaRefIdeal.R.sw = Cert.DsaRefIdeal.R.rwi (arg0 m c) (ix3 (st t) l d) := by
  have hd : (d : ℕ) < 128 := d.isLt
  have hA := (ld1_at (iblk m c 3 t) l d).trans (b3 m c t 0 l d)
  have hB := (ld2_at (iblk m c 3 t) l d).trans (b3 m c t 1 l d)
  have hC := (ld3_at (iblk m c 3 t) l d).trans (b3 m c t 2 l d)
  rcases (by omega : (d : ℕ) < 32 ∨ (32 ≤ (d : ℕ) ∧ (d : ℕ) < 40) ∨ 40 ≤ (d : ℕ)) with h1 | h1 | h1
  · exact (congrArg (fun x : EReal => x * Cert.DsaRefIdeal.R.sw) (wE_k m c t l d ⟨d, h1⟩ rfl)).trans (Cert.DsaRefIdeal.R.rwi_a _ (st t) l d ⟨d, h1⟩ rfl).symm
  · refine Eq.trans (congrArg (fun x : EReal => x * Cert.DsaRefIdeal.R.sw) ?_) (Cert.DsaRefIdeal.R.rwi_b _ (st t) l d h1.1 h1.2).symm
    refine (pay12_at _ _ _ _ l d).trans ((three (xE2 m c t l _ ⟨1792 + d, by omega⟩ rfl) (hA.trans (tw0_o l d h1)) rfl (hB.trans (tw1_z l d (by omega))) rfl (hC.trans (tw2_z l d (by omega)))).trans ?_)
    simp only [mul_zero, add_zero, mul_one]
  · refine Eq.trans ?_ (Cert.DsaRefIdeal.R.rwi_z _ (st t) l d h1).symm
    refine (congrArg (fun x : EReal => x * Cert.DsaRefIdeal.R.sw) ((pay12_at _ _ _ _ l d).trans (three rfl (hA.trans (tw0_z l d h1)) rfl (hB.trans (tw1_z l d (by omega))) rfl (hC.trans (tw2_z l d (by omega)))))).trans ?_
    simp only [mul_zero, add_zero, zero_mul]

/-- The keys for the cache, two heads in a row of lanes, are the reference's, -/
theorem kfE (l : Fin 32) (n : Fin 256) :
    (show EReal from k0_pay46 (F := Ideal) (k0_pay16 (k0_pay51 (F := Ideal) (iblk m c 0 t) (iblk m c 1 t) (iblk m c 2 t) (iblk m c 3 t))) (k0_pay21 (k0_pay51 (F := Ideal) (iblk m c 0 t) (iblk m c 1 t) (iblk m c 2 t) (iblk m c 3 t))) (k0_pay27 (k0_pay51 (F := Ideal) (iblk m c 0 t) (iblk m c 1 t) (iblk m c 2 t) (iblk m c 3 t))) (k0_pay32 (k0_pay51 (F := Ideal) (iblk m c 0 t) (iblk m c 1 t) (iblk m c 2 t) (iblk m c 3 t))) (ix3 0 l n)) = Cert.DsaRefIdeal.R.rkf (arg0 m c) (ix3 (st t) l n) := by
  have hn : (n : ℕ) = 64 * (⟨n / 64, by omega⟩ : Fin 4) + (⟨n % 64, by omega⟩ : Fin 64) := by dsimp only; omega
  refine (pair_at _ l (fun q hq => ?_) n _ _ hn).trans (Eq.trans ?_ (Cert.DsaRefIdeal.R.rkf_at _ (st t) l n _ _ hn).symm)
  · exact (kE m c t l ⟨q / 128, by omega⟩ ⟨q % 128, by omega⟩ q (by dsimp only; omega)).trans (Cert.DsaRefIdeal.R.rk_z _ (st t) l _ _ hq)
  · exact (kE m c t l ⟨n / 64, by omega⟩ ⟨n % 64, by omega⟩ _ rfl).trans (Cert.DsaRefIdeal.R.rk_lo _ (st t) l _ _ _ rfl)

/-- and so are the values. -/
theorem vfE [Cert.Pre_dsa_ok.Facts] (hpre : Cert.Pre_dsa_ok.fn (F := Ideal) (arg0 m c) = fun _ => 1#1) (l : Fin 32) (n : Fin 256) :
    (show EReal from k0_pay47 (F := Ideal) (k0_pay17 (k0_pay52 (F := Ideal) (iblk m c 0 t) (iblk m c 1 t) (iblk m c 2 t) (iblk m c 3 t))) (k0_pay22 (k0_pay52 (F := Ideal) (iblk m c 0 t) (iblk m c 1 t) (iblk m c 2 t) (iblk m c 3 t))) (k0_pay28 (k0_pay52 (F := Ideal) (iblk m c 0 t) (iblk m c 1 t) (iblk m c 2 t) (iblk m c 3 t))) (k0_pay33 (k0_pay52 (F := Ideal) (iblk m c 0 t) (iblk m c 1 t) (iblk m c 2 t) (iblk m c 3 t))) (ix3 0 l n)) = Cert.DsaRefIdeal.R.rvf (arg0 m c) (ix3 (st t) l n) := by
  have hn : (n : ℕ) = 64 * (⟨n / 64, by omega⟩ : Fin 4) + (⟨n % 64, by omega⟩ : Fin 64) := by dsimp only; omega
  refine (congrFun (pay47_eq _) _).trans ((pair_at _ l (vE_z m c t hpre l) n _ _ hn).trans (Eq.trans ?_ (Cert.DsaRefIdeal.R.rvf_at _ (st t) l n _ _ hn).symm))
  exact vE_lo m c t l _ _ _ rfl

/-- Four pieces, one per head, are an array when each is the array's head. -/
theorem canon4 (P3 P2 P1 P0 : FVec Ideal S1x1x32x128 .f32) (G : S1x4x32x128.Idx → EReal)
    (h0 : ∀ (l : Fin 32) (d : Fin 128), (show EReal from P0 (ix4 0 0 l d)) = G (ix4 0 0 l d))
    (h1 : ∀ (l : Fin 32) (d : Fin 128), (show EReal from P1 (ix4 0 0 l d)) = G (ix4 0 1 l d))
    (h2 : ∀ (l : Fin 32) (d : Fin 128), (show EReal from P2 (ix4 0 0 l d)) = G (ix4 0 2 l d))
    (h3 : ∀ (l : Fin 32) (d : Fin 128), (show EReal from P3 (ix4 0 0 l d)) = G (ix4 0 3 l d)) (y : S1x4x32x128.Idx) :
    View.canon (Val := Elt Ideal) (s := S1x4x32x128) (e := .f32) [⟨r0_7, P3⟩, ⟨r0_6, P2⟩, ⟨r0_5, P1⟩, ⟨r0_4, P0⟩] y = G y := by
  have hc := cover0_4 (F := Ideal) P3 P2 P1 P0 y
  suffices hL : ∀ p ∈ ([⟨r0_7, P3⟩, ⟨r0_6, P2⟩, ⟨r0_5, P1⟩, ⟨r0_4, P0⟩] : List (View.Piece (Elt Ideal) S1x4x32x128 .f32)), ∀ x : p.1.shape.Idx, p.2 x = G (p.1.emb x) by
    exact View.canon_apply_of_pieces G _ hL y hc
  intro p hp
  simp only [List.mem_cons, List.not_mem_nil, or_false] at hp
  rcases hp with rfl | rfl | rfl | rfl
  all_goals
    intro x
    idx_vars x
    obtain rfl : x0 = 0 := Subsingleton.elim _ _
    obtain rfl : x1 = 0 := Subsingleton.elim _ _
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- The same of eight narrow heads. -/
theorem canon8 (P7 P6 P5 P4 P3 P2 P1 P0 : FVec Ideal S1x1x32x32 .f32) (G : S1x8x32x32.Idx → EReal)
    (h0 : ∀ (l : Fin 32) (d : Fin 32), (show EReal from P0 (ix4 0 0 l d)) = G (ix4 0 0 l d))
    (h1 : ∀ (l : Fin 32) (d : Fin 32), (show EReal from P1 (ix4 0 0 l d)) = G (ix4 0 1 l d))
    (h2 : ∀ (l : Fin 32) (d : Fin 32), (show EReal from P2 (ix4 0 0 l d)) = G (ix4 0 2 l d))
    (h3 : ∀ (l : Fin 32) (d : Fin 32), (show EReal from P3 (ix4 0 0 l d)) = G (ix4 0 3 l d))
    (h4 : ∀ (l : Fin 32) (d : Fin 32), (show EReal from P4 (ix4 0 0 l d)) = G (ix4 0 4 l d))
    (h5 : ∀ (l : Fin 32) (d : Fin 32), (show EReal from P5 (ix4 0 0 l d)) = G (ix4 0 5 l d))
    (h6 : ∀ (l : Fin 32) (d : Fin 32), (show EReal from P6 (ix4 0 0 l d)) = G (ix4 0 6 l d))
    (h7 : ∀ (l : Fin 32) (d : Fin 32), (show EReal from P7 (ix4 0 0 l d)) = G (ix4 0 7 l d)) (y : S1x8x32x32.Idx) :
    View.canon (Val := Elt Ideal) (s := S1x8x32x32) (e := .f32) [⟨r0_15, P7⟩, ⟨r0_14, P6⟩, ⟨r0_13, P5⟩, ⟨r0_12, P4⟩, ⟨r0_11, P3⟩, ⟨r0_10, P2⟩, ⟨r0_9, P1⟩, ⟨r0_8, P0⟩] y = G y := by
  have hc := cover0_7 (F := Ideal) P7 P6 P5 P4 P3 P2 P1 P0 y
  suffices hL : ∀ p ∈ ([⟨r0_15, P7⟩, ⟨r0_14, P6⟩, ⟨r0_13, P5⟩, ⟨r0_12, P4⟩, ⟨r0_11, P3⟩, ⟨r0_10, P2⟩, ⟨r0_9, P1⟩, ⟨r0_8, P0⟩] : List (View.Piece (Elt Ideal) S1x8x32x32 .f32)), ∀ x : p.1.shape.Idx, p.2 x = G (p.1.emb x) by
    exact View.canon_apply_of_pieces G _ hL y hc
  intro p hp
  simp only [List.mem_cons, List.not_mem_nil, or_false] at hp
  rcases hp with rfl | rfl | rfl | rfl | rfl | rfl | rfl | rfl
  all_goals
    intro x
    idx_vars x
    obtain rfl : x0 = 0 := Subsingleton.elim _ _
    obtain rfl : x1 = 0 := Subsingleton.elim _ _
  · exact (h7 x2 x3).trans (congrArg G (Eq.symm (by blk_ext)))
  · exact (h6 x2 x3).trans (congrArg G (Eq.symm (by blk_ext)))
  · exact (h5 x2 x3).trans (congrArg G (Eq.symm (by blk_ext)))
  · exact (h4 x2 x3).trans (congrArg G (Eq.symm (by blk_ext)))
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- One piece over a whole block is the block. -/
theorem canonA (P : FVec Ideal S1x32x32 .f32) : View.canon (Val := Elt Ideal) (s := S1x32x32) (e := .f32) [⟨r0_16, P⟩] = P :=
  View.canon_unit_zero (by funext a; fin_cases a <;> rfl) _ _

/-- One piece over a whole block is the block. -/
theorem canonB (P : FVec Ideal S1x32x128 .f32) : View.canon (Val := Elt Ideal) (s := S1x32x128) (e := .f32) [⟨r0_17, P⟩] = P :=
  View.canon_unit_zero (by funext a; fin_cases a <;> rfl) _ _

/-- One piece over a whole block is the block. -/
theorem canonC (P : FVec Ideal S1x32x256 .f32) : View.canon (Val := Elt Ideal) (s := S1x32x256) (e := .f32) [⟨r0_18, P⟩] = P :=
  View.canon_unit_zero (by funext a; fin_cases a <;> rfl) _ _

/-- What a grid point leaves of the queries is the reference's. -/
theorem point4 (y : S1x4x32x128.Idx) : out0_4 (F := Ideal) (iblk m c 0 t) (iblk m c 1 t) (iblk m c 2 t) (iblk m c 3 t) y = Cert.DsaRefIdeal.R.rq (arg0 m c) (((cfg0.win 4).blk t).view.emb y) := by
  have e : ∀ (h : Fin 4) (l : Fin 32) (d : Fin 128), ((cfg0.win 4).blk t).view.emb (ix4 0 h l d) = ix4 (st t) h l d := fun h l d => by blk_ext [idx t]
  unfold out0_4
  refine canon4 _ _ _ _ (fun y => Cert.DsaRefIdeal.R.rq (arg0 m c) (((cfg0.win 4).blk t).view.emb y)) ?_ ?_ ?_ ?_ y
  · exact fun l d => (pay13_at _ l d).trans ((qE m c t l 0 d _ (by show (d : ℕ) = 0 * 128 + (d : ℕ); omega)).trans (congrArg (Cert.DsaRefIdeal.R.rq (arg0 m c)) (e 0 l d).symm))
  · exact fun l d => (pay18_at _ l d).trans ((qE m c t l 1 d _ (by show 128 + (d : ℕ) = 1 * 128 + (d : ℕ); omega)).trans (congrArg (Cert.DsaRefIdeal.R.rq (arg0 m c)) (e 1 l d).symm))
  · exact fun l d => (pay24_at _ l d).trans ((qE m c t l 2 d _ (by show 256 + (d : ℕ) = 2 * 128 + (d : ℕ); omega)).trans (congrArg (Cert.DsaRefIdeal.R.rq (arg0 m c)) (e 2 l d).symm))
  · exact fun l d => (pay29_at _ l d).trans ((qE m c t l 3 d _ (by show 384 + (d : ℕ) = 3 * 128 + (d : ℕ); omega)).trans (congrArg (Cert.DsaRefIdeal.R.rq (arg0 m c)) (e 3 l d).symm))

/-- After the run the queries are the reference's. -/
theorem final4 : (dats m 0 c).arrAt 4 (cfgs 0).N = Cert.DsaRefIdeal.R.rq (arg0 m c) := by
  refine (dats m 0 c).arrAt_eq_of_covers 4 _ (by decide +kernel) fun t _ y => ?_
  blk_simp
  rw [after0_4]
  exact point4 m c t y

/-- What a grid point leaves of the keys is the reference's. -/
theorem point5 (y : S1x4x32x128.Idx) : out0_5 (F := Ideal) (iblk m c 0 t) (iblk m c 1 t) (iblk m c 2 t) (iblk m c 3 t) y = Cert.DsaRefIdeal.R.rk (arg0 m c) (((cfg0.win 5).blk t).view.emb y) := by
  have e : ∀ (h : Fin 4) (l : Fin 32) (d : Fin 128), ((cfg0.win 5).blk t).view.emb (ix4 0 h l d) = ix4 (st t) h l d := fun h l d => by blk_ext [idx t]
  unfold out0_5
  refine canon4 _ _ _ _ (fun y => Cert.DsaRefIdeal.R.rk (arg0 m c) (((cfg0.win 5).blk t).view.emb y)) ?_ ?_ ?_ ?_ y
  · exact fun l d => (pay14_at _ l d).trans ((kE m c t l 0 d _ (by show (d : ℕ) = 0 * 128 + (d : ℕ); omega)).trans (congrArg (Cert.DsaRefIdeal.R.rk (arg0 m c)) (e 0 l d).symm))
  · exact fun l d => (pay19_at _ l d).trans ((kE m c t l 1 d _ (by show 128 + (d : ℕ) = 1 * 128 + (d : ℕ); omega)).trans (congrArg (Cert.DsaRefIdeal.R.rk (arg0 m c)) (e 1 l d).symm))
  · exact fun l d => (pay25_at _ l d).trans ((kE m c t l 2 d _ (by show 256 + (d : ℕ) = 2 * 128 + (d : ℕ); omega)).trans (congrArg (Cert.DsaRefIdeal.R.rk (arg0 m c)) (e 2 l d).symm))
  · exact fun l d => (pay30_at _ l d).trans ((kE m c t l 3 d _ (by show 384 + (d : ℕ) = 3 * 128 + (d : ℕ); omega)).trans (congrArg (Cert.DsaRefIdeal.R.rk (arg0 m c)) (e 3 l d).symm))

/-- After the run the keys are the reference's. -/
theorem final5 : (dats m 0 c).arrAt 5 (cfgs 0).N = Cert.DsaRefIdeal.R.rk (arg0 m c) := by
  refine (dats m 0 c).arrAt_eq_of_covers 5 _ (by decide +kernel) fun t _ y => ?_
  blk_simp
  rw [after0_5]
  exact point5 m c t y

/-- What a grid point leaves of the values is the reference's. -/
theorem point6 [Cert.Pre_dsa_ok.Facts] (hpre : Cert.Pre_dsa_ok.fn (F := Ideal) (arg0 m c) = fun _ => 1#1) (y : S1x4x32x128.Idx) : out0_6 (F := Ideal) (iblk m c 0 t) (iblk m c 1 t) (iblk m c 2 t) (iblk m c 3 t) y = Cert.DsaRefIdeal.R.rv (arg0 m c) (((cfg0.win 6).blk t).view.emb y) := by
  have e : ∀ (h : Fin 4) (l : Fin 32) (d : Fin 128), ((cfg0.win 6).blk t).view.emb (ix4 0 h l d) = ix4 (st t) h l d := fun h l d => by blk_ext [idx t]
  unfold out0_6
  refine canon4 _ _ _ _ (fun y => Cert.DsaRefIdeal.R.rv (arg0 m c) (((cfg0.win 6).blk t).view.emb y)) ?_ ?_ ?_ ?_ y
  · exact fun l d => (pay15_at _ l d).trans ((vE m c t hpre l 0 d _ (by show (d : ℕ) = 0 * 128 + (d : ℕ); omega)).trans (congrArg (Cert.DsaRefIdeal.R.rv (arg0 m c)) (e 0 l d).symm))
  · exact fun l d => (pay20_at _ l d).trans ((vE m c t hpre l 1 d _ (by show 128 + (d : ℕ) = 1 * 128 + (d : ℕ); omega)).trans (congrArg (Cert.DsaRefIdeal.R.rv (arg0 m c)) (e 1 l d).symm))
  · exact fun l d => (pay26_at _ l d).trans ((vE m c t hpre l 2 d _ (by show 256 + (d : ℕ) = 2 * 128 + (d : ℕ); omega)).trans (congrArg (Cert.DsaRefIdeal.R.rv (arg0 m c)) (e 2 l d).symm))
  · exact fun l d => (pay31_at _ l d).trans ((vE m c t hpre l 3 d _ (by show 384 + (d : ℕ) = 3 * 128 + (d : ℕ); omega)).trans (congrArg (Cert.DsaRefIdeal.R.rv (arg0 m c)) (e 3 l d).symm))

/-- After the run the values are the reference's. -/
theorem final6 [Cert.Pre_dsa_ok.Facts] (hpre : Cert.Pre_dsa_ok.fn (F := Ideal) (arg0 m c) = fun _ => 1#1) : (dats m 0 c).arrAt 6 (cfgs 0).N = Cert.DsaRefIdeal.R.rv (arg0 m c) := by
  refine (dats m 0 c).arrAt_eq_of_covers 6 _ (by decide +kernel) fun t _ y => ?_
  blk_simp
  rw [after0_6]
  exact point6 m c t hpre y

/-- What a grid point leaves of the indexer queries is the reference's. -/
theorem point7 (y : S1x8x32x32.Idx) : out0_7 (F := Ideal) (iblk m c 0 t) (iblk m c 1 t) (iblk m c 2 t) (iblk m c 3 t) y = Cert.DsaRefIdeal.R.rqi (arg0 m c) (((cfg0.win 7).blk t).view.emb y) := by
  have e : ∀ (h : Fin 8) (l : Fin 32) (d : Fin 32), ((cfg0.win 7).blk t).view.emb (ix4 0 h l d) = ix4 (st t) h l d := fun h l d => by blk_ext [idx t]
  unfold out0_7
  refine canon8 _ _ _ _ _ _ _ _ (fun y => Cert.DsaRefIdeal.R.rqi (arg0 m c) (((cfg0.win 7).blk t).view.emb y)) ?_ ?_ ?_ ?_ ?_ ?_ ?_ ?_ y
  · exact fun l d => (pay35_at _ l d).trans ((iE m c t l 0 d _ (by show (d : ℕ) = 0 * 32 + (d : ℕ); omega)).trans (congrArg (Cert.DsaRefIdeal.R.rqi (arg0 m c)) (e 0 l d).symm))
  · exact fun l d => (pay36_at _ l d).trans ((iE m c t l 1 d _ (by show 32 + (d : ℕ) = 1 * 32 + (d : ℕ); omega)).trans (congrArg (Cert.DsaRefIdeal.R.rqi (arg0 m c)) (e 1 l d).symm))
  · exact fun l d => (pay37_at _ l d).trans ((iE m c t l 2 d _ (by show 64 + (d : ℕ) = 2 * 32 + (d : ℕ); omega)).trans (congrArg (Cert.DsaRefIdeal.R.rqi (arg0 m c)) (e 2 l d).symm))
  · exact fun l d => (pay38_at _ l d).trans ((iE m c t l 3 d _ (by show 96 + (d : ℕ) = 3 * 32 + (d : ℕ); omega)).trans (congrArg (Cert.DsaRefIdeal.R.rqi (arg0 m c)) (e 3 l d).symm))
  · exact fun l d => (pay39_at _ l d).trans ((iE m c t l 4 d _ (by show 128 + (d : ℕ) = 4 * 32 + (d : ℕ); omega)).trans (congrArg (Cert.DsaRefIdeal.R.rqi (arg0 m c)) (e 4 l d).symm))
  · exact fun l d => (pay40_at _ l d).trans ((iE m c t l 5 d _ (by show 160 + (d : ℕ) = 5 * 32 + (d : ℕ); omega)).trans (congrArg (Cert.DsaRefIdeal.R.rqi (arg0 m c)) (e 5 l d).symm))
  · exact fun l d => (pay41_at _ l d).trans ((iE m c t l 6 d _ (by show 192 + (d : ℕ) = 6 * 32 + (d : ℕ); omega)).trans (congrArg (Cert.DsaRefIdeal.R.rqi (arg0 m c)) (e 6 l d).symm))
  · exact fun l d => (pay43_at _ l d).trans ((iE m c t l 7 d _ (by show 224 + (d : ℕ) = 7 * 32 + (d : ℕ); omega)).trans (congrArg (Cert.DsaRefIdeal.R.rqi (arg0 m c)) (e 7 l d).symm))

/-- After the run the indexer queries are the reference's. -/
theorem final7 : (dats m 0 c).arrAt 7 (cfgs 0).N = Cert.DsaRefIdeal.R.rqi (arg0 m c) := by
  refine (dats m 0 c).arrAt_eq_of_covers 7 _ (by decide +kernel) fun t _ y => ?_
  blk_simp
  rw [after0_7]
  exact point7 m c t y

/-- What a grid point leaves of the indexer keys is the reference's. -/
theorem point8 (y : S1x32x32.Idx) : out0_8 (F := Ideal) (iblk m c 0 t) (iblk m c 1 t) (iblk m c 2 t) (iblk m c 3 t) y = Cert.DsaRefIdeal.R.rki (arg0 m c) (((cfg0.win 8).blk t).view.emb y) := by
  idx_vars y
  obtain rfl : y0 = 0 := Subsingleton.elim _ _
  have e : ((cfg0.win 8).blk t).view.emb (ix3 0 y1 y2) = ix3 (st t) y1 y2 := by blk_ext [idx t]
  unfold out0_8
  refine (congrFun (canonA _) _).trans ?_
  exact ((pay44_at _ y1 y2).trans (wE_k m c t y1 _ y2 rfl)).trans (congrArg (Cert.DsaRefIdeal.R.rki (arg0 m c)) e.symm)

/-- After the run the indexer keys are the reference's. -/
theorem final8 : (dats m 0 c).arrAt 8 (cfgs 0).N = Cert.DsaRefIdeal.R.rki (arg0 m c) := by
  refine (dats m 0 c).arrAt_eq_of_covers 8 _ (by decide +kernel) fun t _ y => ?_
  blk_simp
  rw [after0_8]
  exact point8 m c t y

/-- What a grid point leaves of the indexer weights is the reference's. -/
theorem point9 (y : S1x32x128.Idx) : out0_9 (F := Ideal) (iblk m c 0 t) (iblk m c 1 t) (iblk m c 2 t) (iblk m c 3 t) y = Cert.DsaRefIdeal.R.rwi (arg0 m c) (((cfg0.win 9).blk t).view.emb y) := by
  idx_vars y
  obtain rfl : y0 = 0 := Subsingleton.elim _ _
  have e : ((cfg0.win 9).blk t).view.emb (ix3 0 y1 y2) = ix3 (st t) y1 y2 := by blk_ext [idx t]
  unfold out0_9
  refine (congrFun (canonB _) _).trans ?_
  exact ((pay45_at (k0_pay54 (F := Ideal) (iblk m c 0 t) (iblk m c 1 t) (iblk m c 2 t) (iblk m c 3 t)) y1 y2).trans (wE m c t y1 y2)).trans (congrArg (Cert.DsaRefIdeal.R.rwi (arg0 m c)) e.symm)

/-- After the run the indexer weights are the reference's. -/
theorem final9 : (dats m 0 c).arrAt 9 (cfgs 0).N = Cert.DsaRefIdeal.R.rwi (arg0 m c) := by
  refine (dats m 0 c).arrAt_eq_of_covers 9 _ (by decide +kernel) fun t _ y => ?_
  blk_simp
  rw [after0_9]
  exact point9 m c t y

/-- What a grid point leaves of the keys for the cache is the reference's. -/
theorem point10 (y : S1x32x256.Idx) : out0_10 (F := Ideal) (iblk m c 0 t) (iblk m c 1 t) (iblk m c 2 t) (iblk m c 3 t) y = Cert.DsaRefIdeal.R.rkf (arg0 m c) (((cfg0.win 10).blk t).view.emb y) := by
  idx_vars y
  obtain rfl : y0 = 0 := Subsingleton.elim _ _
  have e : ((cfg0.win 10).blk t).view.emb (ix3 0 y1 y2) = ix3 (st t) y1 y2 := by blk_ext [idx t]
  unfold out0_10
  refine (congrFun (canonC _) _).trans ?_
  exact (kfE m c t y1 y2).trans (congrArg (Cert.DsaRefIdeal.R.rkf (arg0 m c)) e.symm)

/-- After the run the keys for the cache are the reference's. -/
theorem final10 : (dats m 0 c).arrAt 10 (cfgs 0).N = Cert.DsaRefIdeal.R.rkf (arg0 m c) := by
  refine (dats m 0 c).arrAt_eq_of_covers 10 _ (by decide +kernel) fun t _ y => ?_
  blk_simp
  rw [after0_10]
  exact point10 m c t y

/-- What a grid point leaves of the values for the cache is the reference's. -/
theorem point11 [Cert.Pre_dsa_ok.Facts] (hpre : Cert.Pre_dsa_ok.fn (F := Ideal) (arg0 m c) = fun _ => 1#1) (y : S1x32x256.Idx) : out0_11 (F := Ideal) (iblk m c 0 t) (iblk m c 1 t) (iblk m c 2 t) (iblk m c 3 t) y = Cert.DsaRefIdeal.R.rvf (arg0 m c) (((cfg0.win 11).blk t).view.emb y) := by
  idx_vars y
  obtain rfl : y0 = 0 := Subsingleton.elim _ _
  have e : ((cfg0.win 11).blk t).view.emb (ix3 0 y1 y2) = ix3 (st t) y1 y2 := by blk_ext [idx t]
  unfold out0_11
  refine (congrFun (canonC _) _).trans ?_
  exact (vfE m c t hpre y1 y2).trans (congrArg (Cert.DsaRefIdeal.R.rvf (arg0 m c)) e.symm)

/-- After the run the values for the cache are the reference's. -/
theorem final11 [Cert.Pre_dsa_ok.Facts] (hpre : Cert.Pre_dsa_ok.fn (F := Ideal) (arg0 m c) = fun _ => 1#1) : (dats m 0 c).arrAt 11 (cfgs 0).N = Cert.DsaRefIdeal.R.rvf (arg0 m c) := by
  refine (dats m 0 c).arrAt_eq_of_covers 11 _ (by decide +kernel) fun t _ y => ?_
  blk_simp
  rw [after0_11]
  exact point11 m c t hpre y

/-- What a grid point leaves of the indexer keys for the cache is the reference's. -/
theorem point12 (y : S1x32x32.Idx) : out0_12 (F := Ideal) (iblk m c 0 t) (iblk m c 1 t) (iblk m c 2 t) (iblk m c 3 t) y = Cert.DsaRefIdeal.R.rki (arg0 m c) (((cfg0.win 12).blk t).view.emb y) := by
  idx_vars y
  obtain rfl : y0 = 0 := Subsingleton.elim _ _
  have e : ((cfg0.win 12).blk t).view.emb (ix3 0 y1 y2) = ix3 (st t) y1 y2 := by blk_ext [idx t]
  unfold out0_12
  refine (congrFun (canonA _) _).trans ?_
  exact ((pay1_at _ y1 y2).trans (wE_k m c t y1 _ y2 rfl)).trans (congrArg (Cert.DsaRefIdeal.R.rki (arg0 m c)) e.symm)

/-- After the run the indexer keys for the cache are the reference's. -/
theorem final12 : (dats m 0 c).arrAt 12 (cfgs 0).N = Cert.DsaRefIdeal.R.rki (arg0 m c) := by
  refine (dats m 0 c).arrAt_eq_of_covers 12 _ (by decide +kernel) fun t _ y => ?_
  blk_simp
  rw [after0_12]
  exact point12 m c t y

end Cert.DsaIdeal.Value
-- ==== Proof.DsaPromptT.lean ====
/- The preparation of the sparse attention, for the prompts, the arrays the call reads: the three tables of the rotation, at an index. -/
module

public import proofs.«01_k».proof.Proof.Gen.DsaPromptIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaPromptIdeal.Value

open Cert.DsaPromptIdeal Cert.DsaPromptIdeal.Gen

variable (m : (ℓ : Loc nD τ sig) → Buf (Elt Ideal) ℓ)

/-- The run: every result array as the grid points left it, every argument as launched. -/
theorem run_blocks (g : Dev nD → PrngReg) : θ_run defs (onTc (τ := τ) (main (F := Ideal))) ⟨m, fun _ => 0, g⟩ fun r => ∀ c : Dev nD,
    r.2.mem ((c : Thread nD τ).loc main_v120_0) = (dats m 0 c).arrAt 4 cfg0.N
    ∧ r.2.mem ((c : Thread nD τ).loc main_v120_1) = (dats m 0 c).arrAt 5 cfg0.N
    ∧ r.2.mem ((c : Thread nD τ).loc main_v120_2) = (dats m 0 c).arrAt 6 cfg0.N
    ∧ r.2.mem ((c : Thread nD τ).loc main_v120_3) = (dats m 0 c).arrAt 7 cfg0.N
    ∧ r.2.mem ((c : Thread nD τ).loc main_v120_4) = (dats m 0 c).arrAt 8 cfg0.N
    ∧ r.2.mem ((c : Thread nD τ).loc main_v120_5) = (dats m 0 c).arrAt 9 cfg0.N
    ∧ r.2.mem ((c : Thread nD τ).loc main_v120_6) = (dats m 0 c).arrAt 10 cfg0.N
    ∧ r.2.mem ((c : Thread nD τ).loc main_v120_7) = (dats m 0 c).arrAt 11 cfg0.N
    ∧ r.2.mem ((c : Thread nD τ).loc main_v120_8) = (dats m 0 c).arrAt 12 cfg0.N
    ∧ r.2.mem ((c : Thread nD τ).loc main_arg0) = m ((c : Thread nD τ).loc main_arg0) :=
  (θ_run defs _ _).mono (fun r h c => ⟨(h.1 c).1 4, (h.1 c).1 5, (h.1 c).1 6, (h.1 c).1 7, (h.1 c).1 8, (h.1 c).1 9, (h.1 c).1 10, (h.1 c).1 11, (h.1 c).1 12, h.2 c⟩) (θ_run_and (run_main m g) (unchanged m g))

/-- The argument as launched. -/
abbrev arg0 (c : Dev nD) : FVec Ideal S16x4352x1920 .f32 := m ((c : Thread nD τ).loc main_arg0)

/-- The angles of the narrow rotation: position times frequency. -/
def angA : FVec Ideal S4352x16 .f32 := (mulf (broadcastInDim S4352x16 ![0, 1] bcast_S4352x1_S4352x16_0_1 (broadcastInDim S4352x1 ![0] bcast_S4352_S4352x1_0 (sitofp .f32 (subi ((iotaInDim S4352 32 0)) (broadcastInDim S4352 ![] bcast_S_S4352 ((constantI S_ 32 48#32))))))) (broadcastInDim S4352x16 ![0, 1] bcast_S1x16_S4352x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- The angles of the wide rotation. -/
def angB : FVec Ideal S4352x32 .f32 := (mulf (broadcastInDim S4352x32 ![0, 1] bcast_S4352x1_S4352x32_0_1 (broadcastInDim S4352x1 ![0] bcast_S4352_S4352x1_0 (sitofp .f32 (subi ((iotaInDim S4352 32 0)) (broadcastInDim S4352 ![] bcast_S_S4352 ((constantI S_ 32 48#32))))))) (broadcastInDim S4352x32 ![0, 1] bcast_S1x32_S4352x32_0_1 (broadcastInDim S1x32 ![1] bcast_S32_S1x32_1 (Host.powf (broadcastInDim S32 ![] bcast_S_S32 ((constant S_ .f32 0x461C4000#32))) (Host.divf (Host.negf ((sitofp .f32 (iotaInDim S32 32 0)))) (broadcastInDim S32 ![] bcast_S_S32 ((constant S_ .f32 0x42000000#32))))))))

/-- Row 0 of the table of the queries and keys. -/
def tabB0 : FVec Ideal S4352x128 .f32 := (concatenate S4352x128 1 [⟨S4352x32, (Host.cos angB)⟩, ⟨S4352x32, (Host.cos angB)⟩, ⟨S4352x64, (broadcastInDim S4352x64 ![] bcast_S_S4352x64 ((constant S_ .f32 0x00000000#32)))⟩] concatenates_S4352x32_S4352x32_S4352x64_S4352x128_d1)

/-- Row 1 of the table of the queries and keys. -/
def tabB1 : FVec Ideal S4352x128 .f32 := (concatenate S4352x128 1 [⟨S4352x32, (Host.negf (Host.sin angB))⟩, ⟨S4352x32, (broadcastInDim S4352x32 ![] bcast_S_S4352x32 ((constant S_ .f32 0x00000000#32)))⟩, ⟨S4352x64, (broadcastInDim S4352x64 ![] bcast_S_S4352x64 ((constant S_ .f32 0x00000000#32)))⟩] concatenates_S4352x32_S4352x32_S4352x64_S4352x128_d1)

/-- Row 2 of the table of the queries and keys. -/
def tabB2 : FVec Ideal S4352x128 .f32 := (concatenate S4352x128 1 [⟨S4352x32, (broadcastInDim S4352x32 ![] bcast_S_S4352x32 ((constant S_ .f32 0x00000000#32)))⟩, ⟨S4352x32, (Host.sin angB)⟩, ⟨S4352x64, (broadcastInDim S4352x64 ![] bcast_S_S4352x64 ((constant S_ .f32 0x00000000#32)))⟩] concatenates_S4352x32_S4352x32_S4352x64_S4352x128_d1)

/-- The table of the queries and keys: cosines, negated sines, sines. -/
def tabB : FVec Ideal S3x4352x128 .f32 := (concatenate S3x4352x128 0 [⟨S1x4352x128, (broadcastInDim S1x4352x128 ![1, 2] bcast_S4352x128_S1x4352x128_1_2 tabB0)⟩, ⟨S1x4352x128, (broadcastInDim S1x4352x128 ![1, 2] bcast_S4352x128_S1x4352x128_1_2 tabB1)⟩, ⟨S1x4352x128, (broadcastInDim S1x4352x128 ![1, 2] bcast_S4352x128_S1x4352x128_1_2 tabB2)⟩] concatenates_S1x4352x128_S1x4352x128_S1x4352x128_S3x4352x128_d0)

/-- Row 0 of the table of the indexer queries. -/
def tabI0 : FVec Ideal S4352x128 .f32 := (concatenate S4352x128 1 [⟨S4352x16, (Host.cos angA)⟩, ⟨S4352x16, (Host.cos angA)⟩, ⟨S4352x16, (Host.cos angA)⟩, ⟨S4352x16, (Host.cos angA)⟩, ⟨S4352x16, (Host.cos angA)⟩, ⟨S4352x16, (Host.cos angA)⟩, ⟨S4352x16, (Host.cos angA)⟩, ⟨S4352x16, (Host.cos angA)⟩] concatenates_S4352x16_S4352x16_S4352x16_S4352x16_S4352x16_S4352x16_S4352x16_S4352x16_S4352x128_d1)

/-- Row 1 of the table of the indexer queries. -/
def tabI1 : FVec Ideal S4352x128 .f32 := (concatenate S4352x128 1 [⟨S4352x16, (Host.negf (Host.sin angA))⟩, ⟨S4352x16, (broadcastInDim S4352x16 ![] bcast_S_S4352x16 ((constant S_ .f32 0x00000000#32)))⟩, ⟨S4352x16, (Host.negf (Host.sin angA))⟩, ⟨S4352x16, (broadcastInDim S4352x16 ![] bcast_S_S4352x16 ((constant S_ .f32 0x00000000#32)))⟩, ⟨S4352x16, (Host.negf (Host.sin angA))⟩, ⟨S4352x16, (broadcastInDim S4352x16 ![] bcast_S_S4352x16 ((constant S_ .f32 0x00000000#32)))⟩, ⟨S4352x16, (Host.negf (Host.sin angA))⟩, ⟨S4352x16, (broadcastInDim S4352x16 ![] bcast_S_S4352x16 ((constant S_ .f32 0x00000000#32)))⟩] concatenates_S4352x16_S4352x16_S4352x16_S4352x16_S4352x16_S4352x16_S4352x16_S4352x16_S4352x128_d1)

/-- Row 2 of the table of the indexer queries. -/
def tabI2 : FVec Ideal S4352x128 .f32 := (concatenate S4352x128 1 [⟨S4352x16, (broadcastInDim S4352x16 ![] bcast_S_S4352x16 ((constant S_ .f32 0x00000000#32)))⟩, ⟨S4352x16, (Host.sin angA)⟩, ⟨S4352x16, (broadcastInDim S4352x16 ![] bcast_S_S4352x16 ((constant S_ .f32 0x00000000#32)))⟩, ⟨S4352x16, (Host.sin angA)⟩, ⟨S4352x16, (broadcastInDim S4352x16 ![] bcast_S_S4352x16 ((constant S_ .f32 0x00000000#32)))⟩, ⟨S4352x16, (Host.sin angA)⟩, ⟨S4352x16, (broadcastInDim S4352x16 ![] bcast_S_S4352x16 ((constant S_ .f32 0x00000000#32)))⟩, ⟨S4352x16, (Host.sin angA)⟩] concatenates_S4352x16_S4352x16_S4352x16_S4352x16_S4352x16_S4352x16_S4352x16_S4352x16_S4352x128_d1)

/-- The table of the indexer queries: cosines, negated sines, sines. -/
def tabI : FVec Ideal S3x4352x128 .f32 := (concatenate S3x4352x128 0 [⟨S1x4352x128, (broadcastInDim S1x4352x128 ![1, 2] bcast_S4352x128_S1x4352x128_1_2 tabI0)⟩, ⟨S1x4352x128, (broadcastInDim S1x4352x128 ![1, 2] bcast_S4352x128_S1x4352x128_1_2 tabI1)⟩, ⟨S1x4352x128, (broadcastInDim S1x4352x128 ![1, 2] bcast_S4352x128_S1x4352x128_1_2 tabI2)⟩] concatenates_S1x4352x128_S1x4352x128_S1x4352x128_S3x4352x128_d0)

/-- Row 0 of the table of the indexer keys. -/
def tabW0 : FVec Ideal S4352x128 .f32 := (concatenate S4352x128 1 [⟨S4352x16, (Host.cos angA)⟩, ⟨S4352x16, (Host.cos angA)⟩, ⟨S4352x8, (broadcastInDim S4352x8 ![] bcast_S_S4352x8 ((constant S_ .f32 0x3F800000#32)))⟩, ⟨S4352x88, (broadcastInDim S4352x88 ![] bcast_S_S4352x88 ((constant S_ .f32 0x00000000#32)))⟩] concatenates_S4352x16_S4352x16_S4352x8_S4352x88_S4352x128_d1)

/-- Row 1 of the table of the indexer keys. -/
def tabW1 : FVec Ideal S4352x128 .f32 := (concatenate S4352x128 1 [⟨S4352x16, (Host.negf (Host.sin angA))⟩, ⟨S4352x16, (broadcastInDim S4352x16 ![] bcast_S_S4352x16 ((constant S_ .f32 0x00000000#32)))⟩, ⟨S4352x8, (broadcastInDim S4352x8 ![] bcast_S_S4352x8 ((constant S_ .f32 0x00000000#32)))⟩, ⟨S4352x88, (broadcastInDim S4352x88 ![] bcast_S_S4352x88 ((constant S_ .f32 0x00000000#32)))⟩] concatenates_S4352x16_S4352x16_S4352x8_S4352x88_S4352x128_d1)

/-- Row 2 of the table of the indexer keys. -/
def tabW2 : FVec Ideal S4352x128 .f32 := (concatenate S4352x128 1 [⟨S4352x16, (broadcastInDim S4352x16 ![] bcast_S_S4352x16 ((constant S_ .f32 0x00000000#32)))⟩, ⟨S4352x16, (Host.sin angA)⟩, ⟨S4352x8, (broadcastInDim S4352x8 ![] bcast_S_S4352x8 ((constant S_ .f32 0x00000000#32)))⟩, ⟨S4352x88, (broadcastInDim S4352x88 ![] bcast_S_S4352x88 ((constant S_ .f32 0x00000000#32)))⟩] concatenates_S4352x16_S4352x16_S4352x8_S4352x88_S4352x128_d1)

/-- The table of the indexer keys: cosines, negated sines, sines. -/
def tabW : FVec Ideal S3x4352x128 .f32 := (concatenate S3x4352x128 0 [⟨S1x4352x128, (broadcastInDim S1x4352x128 ![1, 2] bcast_S4352x128_S1x4352x128_1_2 tabW0)⟩, ⟨S1x4352x128, (broadcastInDim S1x4352x128 ![1, 2] bcast_S4352x128_S1x4352x128_1_2 tabW1)⟩, ⟨S1x4352x128, (broadcastInDim S1x4352x128 ![1, 2] bcast_S4352x128_S1x4352x128_1_2 tabW2)⟩] concatenates_S1x4352x128_S1x4352x128_S1x4352x128_S3x4352x128_d0)

/-- A table the call reads. -/
theorem tb_eq (c : Dev nD) : V m c main_v27 = tabB := by
  unfold V
  simp only [hostOps0, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- A table the call reads. -/
theorem ti_eq (c : Dev nD) : V m c main_v92 = tabI := by
  unfold V
  simp only [hostOps0, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- A table the call reads. -/
theorem tw_eq (c : Dev nD) : V m c main_v119 = tabW := by
  unfold V
  simp only [hostOps0, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The cosine on the first half, -/
theorem tb0_a (l : Fin 4352) (d : Fin 128) (e : Fin 32) (hd : (d : ℕ) = e) : (show EReal from tabB (ix3 0 l d)) = Ideal.cos (angB (ix2 l e)) := by
  pointwise [tabB]
  pointwise [tabB0]
  split_ifs <;> first
    | rfl
    | (exfalso; omega)
    | exact congrArg (fun x => Ideal.cos (angB (ix2 l x))) (Fin.ext (by dsimp only; omega))

/-- the cosine on the second -/
theorem tb0_b (l : Fin 4352) (d : Fin 128) (e : Fin 32) (hd : (d : ℕ) = 32 + e) : (show EReal from tabB (ix3 0 l d)) = Ideal.cos (angB (ix2 l e)) := by
  pointwise [tabB]
  pointwise [tabB0]
  split_ifs <;> first
    | rfl
    | (exfalso; omega)
    | exact congrArg (fun x => Ideal.cos (angB (ix2 l x))) (Fin.ext (by dsimp only; omega))

/-- and zero past it. -/
theorem tb0_z (l : Fin 4352) (d : Fin 128) (hd : 64 ≤ (d : ℕ)) : (show EReal from tabB (ix3 0 l d)) = 0 := by
  pointwise [tabB]
  pointwise [tabB0]
  split_ifs <;> first
    | rfl
    | (exfalso; omega)

/-- Minus the sine on the first half -/
theorem tb1_a (l : Fin 4352) (d : Fin 128) (e : Fin 32) (hd : (d : ℕ) = e) : (show EReal from tabB (ix3 1 l d)) = -Ideal.sin (angB (ix2 l e)) := by
  pointwise [tabB]
  pointwise [tabB1]
  split_ifs <;> first
    | rfl
    | (exfalso; omega)
    | exact congrArg (fun x => -Ideal.sin (angB (ix2 l x))) (Fin.ext (by dsimp only; omega))

/-- and zero elsewhere. -/
theorem tb1_z (l : Fin 4352) (d : Fin 128) (hd : 32 ≤ (d : ℕ)) : (show EReal from tabB (ix3 1 l d)) = 0 := by
  pointwise [tabB]
  pointwise [tabB1]
  split_ifs <;> first
    | rfl
    | (exfalso; omega)

/-- The sine on the second half -/
theorem tb2_b (l : Fin 4352) (d : Fin 128) (e : Fin 32) (hd : (d : ℕ) = 32 + e) : (show EReal from tabB (ix3 2 l d)) = Ideal.sin (angB (ix2 l e)) := by
  pointwise [tabB]
  pointwise [tabB2]
  split_ifs <;> first
    | rfl
    | (exfalso; omega)
    | exact congrArg (fun x => Ideal.sin (angB (ix2 l x))) (Fin.ext (by dsimp only; omega))

/-- and zero elsewhere. -/
theorem tb2_z (l : Fin 4352) (d : Fin 128) (hd : (d : ℕ) < 32 ∨ 64 ≤ (d : ℕ)) : (show EReal from tabB (ix3 2 l d)) = 0 := by
  pointwise [tabB]
  pointwise [tabB2]
  split_ifs <;> first
    | rfl
    | (exfalso; omega)

/-- The cosine on the first half of a head, -/
theorem ti0_a (l : Fin 4352) (d : Fin 128) (g : Fin 4) (e : Fin 16) (hd : (d : ℕ) = 32 * g + e) : (show EReal from tabI (ix3 0 l d)) = Ideal.cos (angA (ix2 l e)) := by
  pointwise [tabI]
  pointwise [tabI0]
  split_ifs <;> first
    | rfl
    | (exfalso; omega)
    | exact congrArg (fun x => Ideal.cos (angA (ix2 l x))) (Fin.ext (by dsimp only; omega))

/-- and on the second. -/
theorem ti0_b (l : Fin 4352) (d : Fin 128) (g : Fin 4) (e : Fin 16) (hd : (d : ℕ) = 32 * g + 16 + e) : (show EReal from tabI (ix3 0 l d)) = Ideal.cos (angA (ix2 l e)) := by
  pointwise [tabI]
  pointwise [tabI0]
  split_ifs <;> first
    | rfl
    | (exfalso; omega)
    | exact congrArg (fun x => Ideal.cos (angA (ix2 l x))) (Fin.ext (by dsimp only; omega))

/-- Minus the sine on the first half of a head -/
theorem ti1_a (l : Fin 4352) (d : Fin 128) (g : Fin 4) (e : Fin 16) (hd : (d : ℕ) = 32 * g + e) : (show EReal from tabI (ix3 1 l d)) = -Ideal.sin (angA (ix2 l e)) := by
  pointwise [tabI]
  pointwise [tabI1]
  split_ifs <;> first
    | rfl
    | (exfalso; omega)
    | exact congrArg (fun x => -Ideal.sin (angA (ix2 l x))) (Fin.ext (by dsimp only; omega))

/-- and zero on the second. -/
theorem ti1_z (l : Fin 4352) (d : Fin 128) (hd : 16 ≤ (d : ℕ) % 32) : (show EReal from tabI (ix3 1 l d)) = 0 := by
  pointwise [tabI]
  pointwise [tabI1]
  split_ifs <;> first
    | rfl
    | (exfalso; omega)

/-- The sine on the second half of a head -/
theorem ti2_b (l : Fin 4352) (d : Fin 128) (g : Fin 4) (e : Fin 16) (hd : (d : ℕ) = 32 * g + 16 + e) : (show EReal from tabI (ix3 2 l d)) = Ideal.sin (angA (ix2 l e)) := by
  pointwise [tabI]
  pointwise [tabI2]
  split_ifs <;> first
    | rfl
    | (exfalso; omega)
    | exact congrArg (fun x => Ideal.sin (angA (ix2 l x))) (Fin.ext (by dsimp only; omega))

/-- and zero on the first. -/
theorem ti2_z (l : Fin 4352) (d : Fin 128) (hd : (d : ℕ) % 32 < 16) : (show EReal from tabI (ix3 2 l d)) = 0 := by
  pointwise [tabI]
  pointwise [tabI2]
  split_ifs <;> first
    | rfl
    | (exfalso; omega)

/-- The cosine on the first half, -/
theorem tw0_a (l : Fin 4352) (d : Fin 128) (e : Fin 16) (hd : (d : ℕ) = e) : (show EReal from tabW (ix3 0 l d)) = Ideal.cos (angA (ix2 l e)) := by
  pointwise [tabW]
  pointwise [tabW0]
  split_ifs <;> first
    | rfl
    | (exfalso; omega)
    | exact congrArg (fun x => Ideal.cos (angA (ix2 l x))) (Fin.ext (by dsimp only; omega))

/-- on the second half, -/
theorem tw0_b (l : Fin 4352) (d : Fin 128) (e : Fin 16) (hd : (d : ℕ) = 16 + e) : (show EReal from tabW (ix3 0 l d)) = Ideal.cos (angA (ix2 l e)) := by
  pointwise [tabW]
  pointwise [tabW0]
  split_ifs <;> first
    | rfl
    | (exfalso; omega)
    | exact congrArg (fun x => Ideal.cos (angA (ix2 l x))) (Fin.ext (by dsimp only; omega))

/-- one on the weights -/
theorem tw0_o (l : Fin 4352) (d : Fin 128) (hd : 32 ≤ (d : ℕ) ∧ (d : ℕ) < 40) : (show EReal from tabW (ix3 0 l d)) = 1 := by
  pointwise [tabW]
  pointwise [tabW0]
  split_ifs <;> first
    | rfl
    | (exfalso; omega)

/-- and zero past them. -/
theorem tw0_z (l : Fin 4352) (d : Fin 128) (hd : 40 ≤ (d : ℕ)) : (show EReal from tabW (ix3 0 l d)) = 0 := by
  pointwise [tabW]
  pointwise [tabW0]
  split_ifs <;> first
    | rfl
    | (exfalso; omega)

/-- Minus the sine on the first half -/
theorem tw1_a (l : Fin 4352) (d : Fin 128) (e : Fin 16) (hd : (d : ℕ) = e) : (show EReal from tabW (ix3 1 l d)) = -Ideal.sin (angA (ix2 l e)) := by
  pointwise [tabW]
  pointwise [tabW1]
  split_ifs <;> first
    | rfl
    | (exfalso; omega)
    | exact congrArg (fun x => -Ideal.sin (angA (ix2 l x))) (Fin.ext (by dsimp only; omega))

/-- and zero elsewhere. -/
theorem tw1_z (l : Fin 4352) (d : Fin 128) (hd : 16 ≤ (d : ℕ)) : (show EReal from tabW (ix3 1 l d)) = 0 := by
  pointwise [tabW]
  pointwise [tabW1]
  split_ifs <;> first
    | rfl
    | (exfalso; omega)

/-- The sine on the second half -/
theorem tw2_b (l : Fin 4352) (d : Fin 128) (e : Fin 16) (hd : (d : ℕ) = 16 + e) : (show EReal from tabW (ix3 2 l d)) = Ideal.sin (angA (ix2 l e)) := by
  pointwise [tabW]
  pointwise [tabW2]
  split_ifs <;> first
    | rfl
    | (exfalso; omega)
    | exact congrArg (fun x => Ideal.sin (angA (ix2 l x))) (Fin.ext (by dsimp only; omega))

/-- and zero elsewhere. -/
theorem tw2_z (l : Fin 4352) (d : Fin 128) (hd : (d : ℕ) < 16 ∨ 32 ≤ (d : ℕ)) : (show EReal from tabW (ix3 2 l d)) = 0 := by
  pointwise [tabW]
  pointwise [tabW2]
  split_ifs <;> first
    | rfl
    | (exfalso; omega)

end Cert.DsaPromptIdeal.Value
-- ==== Proof.DsaPromptR.lean ====
/- The preparation of the sparse attention, for the prompts, the reference: its arrays at an index. -/
module

public import proofs.«01_k».proof.Proof.Gen.DsaPromptRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaPromptRefIdeal.R

open Cert.DsaPromptRefIdeal Cert.DsaPromptRefIdeal.Gen

variable (X : FVec Ideal S16x4352x1920 .f32)

/-- The angles of the wide rotation: position times frequency. -/
def angB : FVec Ideal S4352x32 .f32 := (mulf (broadcastInDim S4352x32 ![0, 1] bcast_S4352x1_S4352x32_0_1 (broadcastInDim S4352x1 ![0] bcast_S4352_S4352x1_0 (sitofp .f32 (addi (broadcastInDim S4352 ![] bcast_S_S4352 ((constantI S_ 32 4294967248#32))) ((iotaInDim S4352 32 0)))))) (broadcastInDim S4352x32 ![0, 1] bcast_S1x32_S4352x32_0_1 (broadcastInDim S1x32 ![1] bcast_S32_S1x32_1 (Host.powf (broadcastInDim S32 ![] bcast_S_S32 ((constant S_ .f32 0x461C4000#32))) (Host.divf (Host.negf ((sitofp .f32 (iotaInDim S32 32 0)))) (broadcastInDim S32 ![] bcast_S_S32 ((constant S_ .f32 0x42000000#32))))))))

/-- The angles of the narrow rotation. -/
def angA : FVec Ideal S4352x16 .f32 := (mulf (broadcastInDim S4352x16 ![0, 1] bcast_S4352x1_S4352x16_0_1 (broadcastInDim S4352x1 ![0] bcast_S4352_S4352x1_0 (sitofp .f32 (addi (broadcastInDim S4352 ![] bcast_S_S4352 ((constantI S_ 32 4294967248#32))) ((iotaInDim S4352 32 0)))))) (broadcastInDim S4352x16 ![0, 1] bcast_S1x16_S4352x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- The queries by head, rotated and scaled. -/
def q0 (X : FVec Ideal S16x4352x1920 .f32) : FVec Ideal S16x4352x4x64 .f32 := (mulf (concatenate S16x4352x4x64 3 [⟨S16x4352x4x32, (subf (mulf (extractStridedSlice S16x4352x4x32 ![0, 0, 0, 0] (extractStridedSlice S16x4352x4x64 ![0, 0, 0, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_0_0) slices_S16x4352x4x64_S16x4352x4x32_0_0_0_0) (broadcastInDim S16x4352x4x32 ![0, 1, 2, 3] bcast_S1x4352x1x32_S16x4352x4x32_0_1_2_3 (broadcastInDim S1x4352x1x32 ![1, 3] bcast_S4352x32_S1x4352x1x32_1_3 (Host.cos angB)))) (mulf (extractStridedSlice S16x4352x4x32 ![0, 0, 0, 32] (extractStridedSlice S16x4352x4x64 ![0, 0, 0, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_0_0) slices_S16x4352x4x64_S16x4352x4x32_0_0_0_32) (broadcastInDim S16x4352x4x32 ![0, 1, 2, 3] bcast_S1x4352x1x32_S16x4352x4x32_0_1_2_3 (broadcastInDim S1x4352x1x32 ![1, 3] bcast_S4352x32_S1x4352x1x32_1_3 (Host.sin angB)))))⟩, ⟨S16x4352x4x32, (addf (mulf (extractStridedSlice S16x4352x4x32 ![0, 0, 0, 0] (extractStridedSlice S16x4352x4x64 ![0, 0, 0, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_0_0) slices_S16x4352x4x64_S16x4352x4x32_0_0_0_0) (broadcastInDim S16x4352x4x32 ![0, 1, 2, 3] bcast_S1x4352x1x32_S16x4352x4x32_0_1_2_3 (broadcastInDim S1x4352x1x32 ![1, 3] bcast_S4352x32_S1x4352x1x32_1_3 (Host.sin angB)))) (mulf (extractStridedSlice S16x4352x4x32 ![0, 0, 0, 32] (extractStridedSlice S16x4352x4x64 ![0, 0, 0, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_0_0) slices_S16x4352x4x64_S16x4352x4x32_0_0_0_32) (broadcastInDim S16x4352x4x32 ![0, 1, 2, 3] bcast_S1x4352x1x32_S16x4352x4x32_0_1_2_3 (broadcastInDim S1x4352x1x32 ![1, 3] bcast_S4352x32_S1x4352x1x32_1_3 (Host.cos angB)))))⟩] concatenates_S16x4352x4x32_S16x4352x4x32_S16x4352x4x64_d3) (broadcastInDim S16x4352x4x64 ![] bcast_S_S16x4352x4x64 ((constant S_ .f32 0x3E000000#32))))

/-- The keys by head, rotated. -/
def k0 (X : FVec Ideal S16x4352x1920 .f32) : FVec Ideal S16x4352x4x64 .f32 := (concatenate S16x4352x4x64 3 [⟨S16x4352x4x32, (subf (mulf (extractStridedSlice S16x4352x4x32 ![0, 0, 0, 0] (extractStridedSlice S16x4352x4x64 ![0, 0, 4, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_4_0) slices_S16x4352x4x64_S16x4352x4x32_0_0_0_0) (broadcastInDim S16x4352x4x32 ![0, 1, 2, 3] bcast_S1x4352x1x32_S16x4352x4x32_0_1_2_3 (broadcastInDim S1x4352x1x32 ![1, 3] bcast_S4352x32_S1x4352x1x32_1_3 (Host.cos angB)))) (mulf (extractStridedSlice S16x4352x4x32 ![0, 0, 0, 32] (extractStridedSlice S16x4352x4x64 ![0, 0, 4, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_4_0) slices_S16x4352x4x64_S16x4352x4x32_0_0_0_32) (broadcastInDim S16x4352x4x32 ![0, 1, 2, 3] bcast_S1x4352x1x32_S16x4352x4x32_0_1_2_3 (broadcastInDim S1x4352x1x32 ![1, 3] bcast_S4352x32_S1x4352x1x32_1_3 (Host.sin angB)))))⟩, ⟨S16x4352x4x32, (addf (mulf (extractStridedSlice S16x4352x4x32 ![0, 0, 0, 0] (extractStridedSlice S16x4352x4x64 ![0, 0, 4, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_4_0) slices_S16x4352x4x64_S16x4352x4x32_0_0_0_0) (broadcastInDim S16x4352x4x32 ![0, 1, 2, 3] bcast_S1x4352x1x32_S16x4352x4x32_0_1_2_3 (broadcastInDim S1x4352x1x32 ![1, 3] bcast_S4352x32_S1x4352x1x32_1_3 (Host.sin angB)))) (mulf (extractStridedSlice S16x4352x4x32 ![0, 0, 0, 32] (extractStridedSlice S16x4352x4x64 ![0, 0, 4, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_4_0) slices_S16x4352x4x64_S16x4352x4x32_0_0_0_32) (broadcastInDim S16x4352x4x32 ![0, 1, 2, 3] bcast_S1x4352x1x32_S16x4352x4x32_0_1_2_3 (broadcastInDim S1x4352x1x32 ![1, 3] bcast_S4352x32_S1x4352x1x32_1_3 (Host.cos angB)))))⟩] concatenates_S16x4352x4x32_S16x4352x4x32_S16x4352x4x64_d3)

/-- The values by head. -/
def v0 (X : FVec Ideal S16x4352x1920 .f32) : FVec Ideal S16x4352x4x64 .f32 := (extractStridedSlice S16x4352x4x64 ![0, 0, 8, 0] (extractStridedSlice S16x4352x12x64 ![0, 0, 0, 0] (shapeCast _ (extractStridedSlice S16x4352x1536 ![0, 0, 0] X slices_S16x4352x1920_S16x4352x1536_0_0_0) shapeCasts_S16x4352x1536_S16x4352x12x128) slices_S16x4352x12x128_S16x4352x12x64_0_0_0_0) slices_S16x4352x12x64_S16x4352x4x64_0_0_8_0)

/-- The indexer queries by head, rotated. -/
def i0 (X : FVec Ideal S16x4352x1920 .f32) : FVec Ideal S16x4352x8x32 .f32 := (concatenate S16x4352x8x32 3 [⟨S16x4352x8x16, (subf (mulf (extractStridedSlice S16x4352x8x16 ![0, 0, 0, 0] (shapeCast _ (extractStridedSlice S16x4352x256 ![0, 0, 1536] X slices_S16x4352x1920_S16x4352x256_0_0_1536) shapeCasts_S16x4352x256_S16x4352x8x32) slices_S16x4352x8x32_S16x4352x8x16_0_0_0_0) (broadcastInDim S16x4352x8x16 ![0, 1, 2, 3] bcast_S1x4352x1x16_S16x4352x8x16_0_1_2_3 (broadcastInDim S1x4352x1x16 ![1, 3] bcast_S4352x16_S1x4352x1x16_1_3 (Host.cos angA)))) (mulf (extractStridedSlice S16x4352x8x16 ![0, 0, 0, 16] (shapeCast _ (extractStridedSlice S16x4352x256 ![0, 0, 1536] X slices_S16x4352x1920_S16x4352x256_0_0_1536) shapeCasts_S16x4352x256_S16x4352x8x32) slices_S16x4352x8x32_S16x4352x8x16_0_0_0_16) (broadcastInDim S16x4352x8x16 ![0, 1, 2, 3] bcast_S1x4352x1x16_S16x4352x8x16_0_1_2_3 (broadcastInDim S1x4352x1x16 ![1, 3] bcast_S4352x16_S1x4352x1x16_1_3 (Host.sin angA)))))⟩, ⟨S16x4352x8x16, (addf (mulf (extractStridedSlice S16x4352x8x16 ![0, 0, 0, 0] (shapeCast _ (extractStridedSlice S16x4352x256 ![0, 0, 1536] X slices_S16x4352x1920_S16x4352x256_0_0_1536) shapeCasts_S16x4352x256_S16x4352x8x32) slices_S16x4352x8x32_S16x4352x8x16_0_0_0_0) (broadcastInDim S16x4352x8x16 ![0, 1, 2, 3] bcast_S1x4352x1x16_S16x4352x8x16_0_1_2_3 (broadcastInDim S1x4352x1x16 ![1, 3] bcast_S4352x16_S1x4352x1x16_1_3 (Host.sin angA)))) (mulf (extractStridedSlice S16x4352x8x16 ![0, 0, 0, 16] (shapeCast _ (extractStridedSlice S16x4352x256 ![0, 0, 1536] X slices_S16x4352x1920_S16x4352x256_0_0_1536) shapeCasts_S16x4352x256_S16x4352x8x32) slices_S16x4352x8x32_S16x4352x8x16_0_0_0_16) (broadcastInDim S16x4352x8x16 ![0, 1, 2, 3] bcast_S1x4352x1x16_S16x4352x8x16_0_1_2_3 (broadcastInDim S1x4352x1x16 ![1, 3] bcast_S4352x16_S1x4352x1x16_1_3 (Host.cos angA)))))⟩] concatenates_S16x4352x8x16_S16x4352x8x16_S16x4352x8x32_d3)

/-- The indexer keys, rotated. -/
def rki (X : FVec Ideal S16x4352x1920 .f32) : FVec Ideal S16x4352x32 .f32 := (shapeCast _ (concatenate S16x4352x1x32 3 [⟨S16x4352x1x16, (subf (mulf (extractStridedSlice S16x4352x1x16 ![0, 0, 0, 0] (broadcastInDim S16x4352x1x32 ![0, 1, 3] bcast_S16x4352x32_S16x4352x1x32_0_1_3 (extractStridedSlice S16x4352x32 ![0, 0, 1792] X slices_S16x4352x1920_S16x4352x32_0_0_1792)) slices_S16x4352x1x32_S16x4352x1x16_0_0_0_0) (broadcastInDim S16x4352x1x16 ![0, 1, 2, 3] bcast_S1x4352x1x16_S16x4352x1x16_0_1_2_3 (broadcastInDim S1x4352x1x16 ![1, 3] bcast_S4352x16_S1x4352x1x16_1_3 (Host.cos angA)))) (mulf (extractStridedSlice S16x4352x1x16 ![0, 0, 0, 16] (broadcastInDim S16x4352x1x32 ![0, 1, 3] bcast_S16x4352x32_S16x4352x1x32_0_1_3 (extractStridedSlice S16x4352x32 ![0, 0, 1792] X slices_S16x4352x1920_S16x4352x32_0_0_1792)) slices_S16x4352x1x32_S16x4352x1x16_0_0_0_16) (broadcastInDim S16x4352x1x16 ![0, 1, 2, 3] bcast_S1x4352x1x16_S16x4352x1x16_0_1_2_3 (broadcastInDim S1x4352x1x16 ![1, 3] bcast_S4352x16_S1x4352x1x16_1_3 (Host.sin angA)))))⟩, ⟨S16x4352x1x16, (addf (mulf (extractStridedSlice S16x4352x1x16 ![0, 0, 0, 0] (broadcastInDim S16x4352x1x32 ![0, 1, 3] bcast_S16x4352x32_S16x4352x1x32_0_1_3 (extractStridedSlice S16x4352x32 ![0, 0, 1792] X slices_S16x4352x1920_S16x4352x32_0_0_1792)) slices_S16x4352x1x32_S16x4352x1x16_0_0_0_0) (broadcastInDim S16x4352x1x16 ![0, 1, 2, 3] bcast_S1x4352x1x16_S16x4352x1x16_0_1_2_3 (broadcastInDim S1x4352x1x16 ![1, 3] bcast_S4352x16_S1x4352x1x16_1_3 (Host.sin angA)))) (mulf (extractStridedSlice S16x4352x1x16 ![0, 0, 0, 16] (broadcastInDim S16x4352x1x32 ![0, 1, 3] bcast_S16x4352x32_S16x4352x1x32_0_1_3 (extractStridedSlice S16x4352x32 ![0, 0, 1792] X slices_S16x4352x1920_S16x4352x32_0_0_1792)) slices_S16x4352x1x32_S16x4352x1x16_0_0_0_16) (broadcastInDim S16x4352x1x16 ![0, 1, 2, 3] bcast_S1x4352x1x16_S16x4352x1x16_0_1_2_3 (broadcastInDim S1x4352x1x16 ![1, 3] bcast_S4352x16_S1x4352x1x16_1_3 (Host.cos angA)))))⟩] concatenates_S16x4352x1x16_S16x4352x1x16_S16x4352x1x32_d3) shapeCasts_S16x4352x1x32_S16x4352x32)

/-- The queries the reference gives. -/
def rq (X : FVec Ideal S16x4352x1920 .f32) : FVec Ideal S16x4x4352x128 .bf16 := (truncf .bf16 (pad S16x4x4352x128 ![0, 0, 0, 0] ![0, 0, 0, 64] ![0, 0, 0, 0] (transpose S16x4x4352x64 [0, 2, 1, 3] (q0 X) transposes_S16x4352x4x64_S16x4x4352x64_0_2_1_3) (sitofp .f32 (constantI S_ 32 0#32)) pads_S16x4x4352x64_S16x4x4352x128_000_000_000_0640 h_S_) bitsLt_bf16_f32)

/-- The keys the reference gives. -/
def rk (X : FVec Ideal S16x4352x1920 .f32) : FVec Ideal S16x4x4352x128 .bf16 := (truncf .bf16 (pad S16x4x4352x128 ![0, 0, 0, 0] ![0, 0, 0, 64] ![0, 0, 0, 0] (transpose S16x4x4352x64 [0, 2, 1, 3] (k0 X) transposes_S16x4352x4x64_S16x4x4352x64_0_2_1_3) (sitofp .f32 (constantI S_ 32 0#32)) pads_S16x4x4352x64_S16x4x4352x128_000_000_000_0640 h_S_) bitsLt_bf16_f32)

/-- The values the reference gives. -/
def rv (X : FVec Ideal S16x4352x1920 .f32) : FVec Ideal S16x4x4352x128 .bf16 := (truncf .bf16 (pad S16x4x4352x128 ![0, 0, 0, 0] ![0, 0, 0, 64] ![0, 0, 0, 0] (transpose S16x4x4352x64 [0, 2, 1, 3] (v0 X) transposes_S16x4352x4x64_S16x4x4352x64_0_2_1_3) (sitofp .f32 (constantI S_ 32 0#32)) pads_S16x4x4352x64_S16x4x4352x128_000_000_000_0640 h_S_) bitsLt_bf16_f32)

/-- The indexer queries the reference gives. -/
def rqi (X : FVec Ideal S16x4352x1920 .f32) : FVec Ideal S16x8x4352x32 .bf16 := (truncf .bf16 (transpose S16x8x4352x32 [0, 2, 1, 3] (i0 X) transposes_S16x4352x8x32_S16x8x4352x32_0_2_1_3) bitsLt_bf16_f32)

/-- The indexer keys the reference gives. -/
def rkb (X : FVec Ideal S16x4352x1920 .f32) : FVec Ideal S16x4352x32 .bf16 := (truncf .bf16 (rki X) bitsLt_bf16_f32)

/-- The indexer weights the reference gives. -/
def rwi (X : FVec Ideal S16x4352x1920 .f32) : FVec Ideal S16x4352x128 .f32 := (mulf (pad S16x4352x128 ![0, 0, 0] ![0, 0, 88] ![0, 0, 0] (concatenate S16x4352x40 2 [⟨S16x4352x32, (rki X)⟩, ⟨S16x4352x8, (extractStridedSlice S16x4352x8 ![0, 0, 1824] X slices_S16x4352x1920_S16x4352x8_0_0_1824)⟩] concatenates_S16x4352x32_S16x4352x8_S16x4352x40_d2) (sitofp .f32 (constantI S_ 32 0#32)) pads_S16x4352x40_S16x4352x128_000_000_0880 h_S_) (broadcastInDim S16x4352x128 ![] bcast_S_S16x4352x128 ((constant S_ .f32 0x3D800000#32))))

/-- The keys for the cache. -/
def rkf (X : FVec Ideal S16x4352x1920 .f32) : FVec Ideal S16x4352x256 .f32 := (shapeCast _ (k0 X) shapeCasts_S16x4352x4x64_S16x4352x256)

/-- The values for the cache. -/
def rvf (X : FVec Ideal S16x4352x1920 .f32) : FVec Ideal S16x4352x256 .f32 := (shapeCast _ (v0 X) shapeCasts_S16x4352x4x64_S16x4352x256)

/-- The scale of the queries. -/
abbrev sq : EReal := Ideal.ofBits FTy.f32 0x3E000000#32

/-- The scale of the indexer weights. -/
abbrev sw : EReal := Ideal.ofBits FTy.f32 0x3D800000#32

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The first half of a query head. -/
theorem q0_a (b : Fin 16) (l : Fin 4352) (h : Fin 4) (k : Fin 64) (e : Fin 32) (hk : (k : ℕ) = e) : (show EReal from q0 X (ix4 b l h k)) = (X (ix3 b l ⟨(h : ℕ) * 128 + e, by omega⟩) * Ideal.cos (angB (ix2 l e)) - X (ix3 b l ⟨(h : ℕ) * 128 + (32 + e), by omega⟩) * Ideal.sin (angB (ix2 l e))) * sq := by
  pointwise [q0]
  rw [dif_pos (by omega)]
  simp only [hk, Fin.eta]

/-- The second half of a query head. -/
theorem q0_b (b : Fin 16) (l : Fin 4352) (h : Fin 4) (k : Fin 64) (e : Fin 32) (hk : (k : ℕ) = 32 + e) : (show EReal from q0 X (ix4 b l h k)) = (X (ix3 b l ⟨(h : ℕ) * 128 + e, by omega⟩) * Ideal.sin (angB (ix2 l e)) + X (ix3 b l ⟨(h : ℕ) * 128 + (32 + e), by omega⟩) * Ideal.cos (angB (ix2 l e))) * sq := by
  pointwise [q0]
  rw [dif_neg (by omega)]
  have hs : (k : ℕ) - 32 = e := by omega
  simp only [hs, Fin.eta]

/-- The first half of a key head. -/
theorem k0_a (b : Fin 16) (l : Fin 4352) (h : Fin 4) (k : Fin 64) (e : Fin 32) (hk : (k : ℕ) = e) : (show EReal from k0 X (ix4 b l h k)) = X (ix3 b l ⟨(4 + (h : ℕ)) * 128 + e, by omega⟩) * Ideal.cos (angB (ix2 l e)) - X (ix3 b l ⟨(4 + (h : ℕ)) * 128 + (32 + e), by omega⟩) * Ideal.sin (angB (ix2 l e)) := by
  pointwise [k0]
  rw [dif_pos (by omega)]
  simp only [hk, Fin.eta]

/-- The second half of a key head. -/
theorem k0_b (b : Fin 16) (l : Fin 4352) (h : Fin 4) (k : Fin 64) (e : Fin 32) (hk : (k : ℕ) = 32 + e) : (show EReal from k0 X (ix4 b l h k)) = X (ix3 b l ⟨(4 + (h : ℕ)) * 128 + e, by omega⟩) * Ideal.sin (angB (ix2 l e)) + X (ix3 b l ⟨(4 + (h : ℕ)) * 128 + (32 + e), by omega⟩) * Ideal.cos (angB (ix2 l e)) := by
  pointwise [k0]
  rw [dif_neg (by omega)]
  have hs : (k : ℕ) - 32 = e := by omega
  simp only [hs, Fin.eta]

/-- A value lane. -/
theorem v0_at (b : Fin 16) (l : Fin 4352) (h : Fin 4) (k : Fin 64) : (show EReal from v0 X (ix4 b l h k)) = X (ix3 b l ⟨(8 + (h : ℕ)) * 128 + k, by omega⟩) := by
  pointwise [v0]

/-- The first half of an indexer query head. -/
theorem i0_a (b : Fin 16) (l : Fin 4352) (h : Fin 8) (k : Fin 32) (e : Fin 16) (hk : (k : ℕ) = e) : (show EReal from i0 X (ix4 b l h k)) = X (ix3 b l ⟨1536 + ((h : ℕ) * 32 + e), by omega⟩) * Ideal.cos (angA (ix2 l e)) - X (ix3 b l ⟨1536 + ((h : ℕ) * 32 + (16 + e)), by omega⟩) * Ideal.sin (angA (ix2 l e)) := by
  pointwise [i0]
  rw [dif_pos (by omega)]
  simp only [hk, Fin.eta]

/-- The second half of an indexer query head. -/
theorem i0_b (b : Fin 16) (l : Fin 4352) (h : Fin 8) (k : Fin 32) (e : Fin 16) (hk : (k : ℕ) = 16 + e) : (show EReal from i0 X (ix4 b l h k)) = X (ix3 b l ⟨1536 + ((h : ℕ) * 32 + e), by omega⟩) * Ideal.sin (angA (ix2 l e)) + X (ix3 b l ⟨1536 + ((h : ℕ) * 32 + (16 + e)), by omega⟩) * Ideal.cos (angA (ix2 l e)) := by
  pointwise [i0]
  rw [dif_neg (by omega)]
  have hs : (k : ℕ) - 16 = e := by omega
  simp only [hs, Fin.eta]

/-- The first half of an indexer key. -/
theorem rki_a (b : Fin 16) (l : Fin 4352) (k : Fin 32) (e : Fin 16) (hk : (k : ℕ) = e) : (show EReal from rki X (ix3 b l k)) = X (ix3 b l ⟨1792 + e, by omega⟩) * Ideal.cos (angA (ix2 l e)) - X (ix3 b l ⟨1792 + (16 + e), by omega⟩) * Ideal.sin (angA (ix2 l e)) := by
  pointwise [rki]
  rw [dif_pos (by omega)]
  simp only [hk, Fin.eta]

/-- The second half of an indexer key. -/
theorem rki_b (b : Fin 16) (l : Fin 4352) (k : Fin 32) (e : Fin 16) (hk : (k : ℕ) = 16 + e) : (show EReal from rki X (ix3 b l k)) = X (ix3 b l ⟨1792 + e, by omega⟩) * Ideal.sin (angA (ix2 l e)) + X (ix3 b l ⟨1792 + (16 + e), by omega⟩) * Ideal.cos (angA (ix2 l e)) := by
  pointwise [rki]
  rw [dif_neg (by omega)]
  have hs : (k : ℕ) - 16 = e := by omega
  simp only [hs, Fin.eta]

/-- A lane of a query head. -/
theorem rq_lo (b : Fin 16) (l : Fin 4352) (h : Fin 4) (k : Fin 128) (j : Fin 64) (hk : (k : ℕ) = j) : (show EReal from rq X (ix4 b h l k)) = q0 X (ix4 b l h j) := by
  pointwise [rq]
  rw [dif_pos (by omega)]
  simp only [hk, Fin.eta]

/-- The lanes past it. -/
theorem rq_z (b : Fin 16) (l : Fin 4352) (h : Fin 4) (k : Fin 128) (hk : 64 ≤ (k : ℕ)) : (show EReal from rq X (ix4 b h l k)) = 0 := by
  pointwise [rq]
  rw [dif_neg (by omega)]
  exact sitofp_zero

/-- A lane of a key head. -/
theorem rk_lo (b : Fin 16) (l : Fin 4352) (h : Fin 4) (k : Fin 128) (j : Fin 64) (hk : (k : ℕ) = j) : (show EReal from rk X (ix4 b h l k)) = k0 X (ix4 b l h j) := by
  pointwise [rk]
  rw [dif_pos (by omega)]
  simp only [hk, Fin.eta]

/-- The lanes past it. -/
theorem rk_z (b : Fin 16) (l : Fin 4352) (h : Fin 4) (k : Fin 128) (hk : 64 ≤ (k : ℕ)) : (show EReal from rk X (ix4 b h l k)) = 0 := by
  pointwise [rk]
  rw [dif_neg (by omega)]
  exact sitofp_zero

/-- A lane of a value head. -/
theorem rv_lo (b : Fin 16) (l : Fin 4352) (h : Fin 4) (k : Fin 128) (j : Fin 64) (hk : (k : ℕ) = j) : (show EReal from rv X (ix4 b h l k)) = v0 X (ix4 b l h j) := by
  pointwise [rv]
  rw [dif_pos (by omega)]
  simp only [hk, Fin.eta]

/-- The lanes past it. -/
theorem rv_z (b : Fin 16) (l : Fin 4352) (h : Fin 4) (k : Fin 128) (hk : 64 ≤ (k : ℕ)) : (show EReal from rv X (ix4 b h l k)) = 0 := by
  pointwise [rv]
  rw [dif_neg (by omega)]
  exact sitofp_zero

/-- An indexer key lane. -/
theorem rkb_at (b : Fin 16) (l : Fin 4352) (k : Fin 32)  : (show EReal from rkb X (ix3 b l k)) = rki X (ix3 b l k) := by
  pointwise [rkb]

/-- An indexer query lane. -/
theorem rqi_at (b : Fin 16) (l : Fin 4352) (h : Fin 8) (k : Fin 32)  : (show EReal from rqi X (ix4 b h l k)) = i0 X (ix4 b l h k) := by
  pointwise [rqi]

/-- The indexer key lanes, scaled, -/
theorem rwi_a (b : Fin 16) (l : Fin 4352) (k : Fin 128) (j : Fin 32) (hk : (k : ℕ) = j) : (show EReal from rwi X (ix3 b l k)) = rki X (ix3 b l j) * sw := by
  pointwise [rwi]
  rw [dif_pos (by omega), dif_pos (by omega)]
  simp only [hk, Fin.eta]

/-- the weights, scaled, -/
theorem rwi_b (b : Fin 16) (l : Fin 4352) (k : Fin 128) (h1 : 32 ≤ (k : ℕ)) (h2 : (k : ℕ) < 40) : (show EReal from rwi X (ix3 b l k)) = X (ix3 b l ⟨1792 + k, by omega⟩) * sw := by
  pointwise [rwi]
  rw [dif_pos (by omega), dif_neg (by omega)]
  exact congrArg (fun n => X (ix3 b l n) * sw) (Fin.ext (by dsimp only; omega))

/-- and zero past them. -/
theorem rwi_z (b : Fin 16) (l : Fin 4352) (k : Fin 128) (hk : 40 ≤ (k : ℕ)) : (show EReal from rwi X (ix3 b l k)) = 0 := by
  pointwise [rwi]
  rw [dif_neg (by omega)]
  exact (congrArg (fun x : EReal => x * sw) sitofp_zero).trans (zero_mul _)

/-- A lane for the cache. -/
theorem rkf_at (b : Fin 16) (l : Fin 4352) (n : Fin 256) (h : Fin 4) (j : Fin 64) (hn : (n : ℕ) = 64 * h + j) : (show EReal from rkf X (ix3 b l n)) = k0 X (ix4 b l h j) := by
  pointwise [rkf]
  exact congrArg₂ (fun x y => k0 X (ix4 b l x y)) (Fin.ext (by dsimp only; omega)) (Fin.ext (by dsimp only; omega))

/-- A lane for the cache. -/
theorem rvf_at (b : Fin 16) (l : Fin 4352) (n : Fin 256) (h : Fin 4) (j : Fin 64) (hn : (n : ℕ) = 64 * h + j) : (show EReal from rvf X (ix3 b l n)) = v0 X (ix4 b l h j) := by
  pointwise [rvf]
  exact congrArg₂ (fun x y => v0 X (ix4 b l x y)) (Fin.ext (by dsimp only; omega)) (Fin.ext (by dsimp only; omega))

/-- The angles: a position (from the front's padding) times a frequency. -/
theorem angB_at (l : Fin 4352) (d : Fin 32) : (show EReal from angB (ix2 l d)) = FloatOps.sitofp (F := Ideal) .f32 (IntOp.addi 4294967248#32 (BitVec.ofNat 32 l)) * Ideal.pow (Ideal.ofBits FTy.f32 1176256512#32) (Ideal.div (-FloatOps.sitofp (F := Ideal) .f32 (BitVec.ofNat 32 d)) (Ideal.ofBits FTy.f32 0x42000000#32)) := by
  pointwise [angB]

/-- The angles: a position (from the front's padding) times a frequency. -/
theorem angA_at (l : Fin 4352) (d : Fin 16) : (show EReal from angA (ix2 l d)) = FloatOps.sitofp (F := Ideal) .f32 (IntOp.addi 4294967248#32 (BitVec.ofNat 32 l)) * Ideal.pow (Ideal.ofBits FTy.f32 1176256512#32) (Ideal.div (-FloatOps.sitofp (F := Ideal) .f32 (BitVec.ofNat 32 d)) (Ideal.ofBits FTy.f32 0x41800000#32)) := by
  pointwise [angA]

end Cert.DsaPromptRefIdeal.R
-- ==== Proof.DsaPromptP.lean ====
/- The preparation of the sparse attention, for the prompts: the arrays the kernel computes on the way, at an index. -/
module

public import proofs.«01_k».proof.Proof.DsaPromptT
public import proofs.«01_k».proof.Proof.DsaPromptR
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaPromptIdeal.Value

open Cert.DsaPromptIdeal Cert.DsaPromptIdeal.Gen

/-- Copies of a table's row side by side: four, -/
def cat4 (a : FVec Ideal S1x256x128 .f32) : FVec Ideal S256x512 .f32 :=
  have r : FVec Ideal S256x128 .f32 := shapeCast S256x128 a shapeCasts_S1x256x128_S256x128
  concatenate S256x512 1 [⟨S256x128, r⟩, ⟨S256x128, r⟩, ⟨S256x128, r⟩, ⟨S256x128, r⟩] concatenates_S256x128_S256x128_S256x128_S256x128_S256x512_d1

/-- and two. -/
def cat2 (a : FVec Ideal S1x256x128 .f32) : FVec Ideal S256x256 .f32 :=
  have r : FVec Ideal S256x128 .f32 := shapeCast S256x128 a shapeCasts_S1x256x128_S256x128
  concatenate S256x256 1 [⟨S256x128, r⟩, ⟨S256x128, r⟩] concatenates_S256x128_S256x128_S256x256_d1

/-- A rotation of four heads: the lanes times the first row of a table, the lanes 32 on times the second, the lanes 32 back times the third. -/
def R4 (z : FVec Ideal S256x512 .f32) (a b c : FVec Ideal S1x256x128 .f32) : FVec Ideal S256x512 .f32 :=
  addf (addf (mulf z (cat4 a)) (mulf (dynamicRotate 1 480#32 none z rotates_S256x512_d1) (cat4 b))) (mulf (dynamicRotate 1 32#32 none z rotates_S256x512_d1) (cat4 c))

/-- The same of the eight narrow heads, by 16 lanes. -/
def R2 (z : FVec Ideal S256x256 .f32) (a b c : FVec Ideal S1x256x128 .f32) : FVec Ideal S256x256 .f32 :=
  addf (addf (mulf z (cat2 a)) (mulf (dynamicRotate 1 240#32 none z rotates_S256x256_d1) (cat2 b))) (mulf (dynamicRotate 1 16#32 none z rotates_S256x256_d1) (cat2 c))

/-- The lanes of the queries, -/
def zq (v : Vec Ideal S1x256x1920 .f32) : FVec Ideal S256x512 .f32 := extractStridedSlice S256x512 ![0, 0] (k0_pay3 (F := Ideal) v) slices_S256x1920_o0_0_S256x512

/-- and of the indexer queries. -/
def zi (v : FVec Ideal S256x1920 .f32) : FVec Ideal S256x256 .f32 := extractStridedSlice S256x256 ![0, 1536] v slices_S256x1920_o0_1536_S256x256

/-- The queries are the scaled rotation, -/
theorem pay4_eq (v : Vec Ideal S1x256x1920 .f32) (a b c : Vec Ideal S1x256x128 .f32) : k0_pay4 (F := Ideal) v a b c = mulf (R4 (zq v) a b c) (broadcast S256x512 (Scalar.ofBits .f32 0x3E000000#32)) := rfl

/-- the keys the rotation, -/
theorem pay10_eq (v : Vec Ideal S1x256x1920 .f32) (a b c : Vec Ideal S1x256x128 .f32) : k0_pay10 (F := Ideal) (k0_pay5 v) (k0_pay6 b) (k0_pay7 c) (k0_pay8 v a) (k0_pay9 v) = R4 (k0_pay5 (F := Ideal) v) a b c := rfl

/-- the indexer queries the narrow one. -/
theorem pay12_eq (v : FVec Ideal S256x1920 .f32) (a b c : Vec Ideal S1x256x128 .f32) : k0_pay12 (F := Ideal) v a b c = R2 (zi v) a b c := rfl

/-- The paired heads of the values are paired as the keys are. -/
theorem pay1_eq (v : FVec Ideal S256x512 .f32) : k0_pay1 (F := Ideal) (k0_pay18 v) (k0_pay24 v) (k0_pay29 v) (k0_pay35 v) = k0_pay47 (F := Ideal) (k0_pay17 v) (k0_pay23 v) (k0_pay28 v) (k0_pay34 v) := rfl

/-- The four copies at a lane of one of them. -/
theorem cat4_at (a : FVec Ideal S1x256x128 .f32) (l : Fin 256) (h : Fin 4) (d : Fin 128) (k : Fin 512) (hk : (k : ℕ) = h * 128 + d) : (show EReal from cat4 a (ix2 l k)) = a (ix3 0 l d) := by
  pointwise [cat4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The two copies at a lane of one of them. -/
theorem cat2_at (a : FVec Ideal S1x256x128 .f32) (l : Fin 256) (d : Fin 128) (k : Fin 256) (hk : (k : ℕ) % 128 = d) : (show EReal from cat2 a (ix2 l k)) = a (ix3 0 l d) := by
  pointwise [cat2]
  rcases (by omega : (k : ℕ) < 128 ∨ 128 ≤ (k : ℕ)) with h1 | h1
  · have hs : (k : ℕ) = d := by omega
    simp only [dif_pos h1]
    simp only [hs, Fin.eta]
  · have hs : (k : ℕ) - 128 = d := by omega
    simp only [dif_neg (show ¬ (k : ℕ) < 128 by omega)]
    simp only [hs, Fin.eta]

/-- Lanes moved by 32 from the right, -/
theorem rotA (z : FVec Ideal S256x512 .f32) (l : Fin 256) (k : Fin 512) : (show EReal from dynamicRotate 1 480#32 none z rotates_S256x512_d1 (ix2 l k)) = z (ix2 l ⟨((k : ℕ) + 512 - 480) % 512, by omega⟩) := by
  pointwise

/-- from the left, -/
theorem rotB (z : FVec Ideal S256x512 .f32) (l : Fin 256) (k : Fin 512) : (show EReal from dynamicRotate 1 32#32 none z rotates_S256x512_d1 (ix2 l k)) = z (ix2 l ⟨((k : ℕ) + 512 - 32) % 512, by omega⟩) := by
  pointwise

/-- by 16 from the right, -/
theorem rotC (z : FVec Ideal S256x256 .f32) (l : Fin 256) (k : Fin 256) : (show EReal from dynamicRotate 1 240#32 none z rotates_S256x256_d1 (ix2 l k)) = z (ix2 l ⟨((k : ℕ) + 256 - 240) % 256, by omega⟩) := by
  pointwise

/-- from the left. -/
theorem rotD (z : FVec Ideal S256x256 .f32) (l : Fin 256) (k : Fin 256) : (show EReal from dynamicRotate 1 16#32 none z rotates_S256x256_d1 (ix2 l k)) = z (ix2 l ⟨((k : ℕ) + 256 - 16) % 256, by omega⟩) := by
  pointwise

/-- Equal factors give equal sums of three products. -/
theorem three {a a' b b' d d' x x' y y' z z' : EReal} (h1 : a = a') (h2 : x = x') (h3 : b = b') (h4 : y = y') (h5 : d = d') (h6 : z = z') : a * x + b * y + d * z = a' * x' + b' * y' + d' * z' := by
  rw [h1, h2, h3, h4, h5, h6]

/-- The rotation at a lane of a head. -/
theorem R4_at (z : FVec Ideal S256x512 .f32) (a b c : FVec Ideal S1x256x128 .f32) (l : Fin 256) (h : Fin 4) (d : Fin 128) (k : Fin 512) (hk : (k : ℕ) = h * 128 + d) : (show EReal from R4 z a b c (ix2 l k)) = z (ix2 l k) * a (ix3 0 l d) + z (ix2 l ⟨((k : ℕ) + 512 - 480) % 512, by omega⟩) * b (ix3 0 l d) + z (ix2 l ⟨((k : ℕ) + 512 - 32) % 512, by omega⟩) * c (ix3 0 l d) :=
  three rfl (cat4_at a l h d k hk) (rotA z l k) (cat4_at b l h d k hk) (rotB z l k) (cat4_at c l h d k hk)

/-- The narrow rotation at a lane. -/
theorem R2_at (z : FVec Ideal S256x256 .f32) (a b c : FVec Ideal S1x256x128 .f32) (l : Fin 256) (d : Fin 128) (k : Fin 256) (hk : (k : ℕ) % 128 = d) : (show EReal from R2 z a b c (ix2 l k)) = z (ix2 l k) * a (ix3 0 l d) + z (ix2 l ⟨((k : ℕ) + 256 - 240) % 256, by omega⟩) * b (ix3 0 l d) + z (ix2 l ⟨((k : ℕ) + 256 - 16) % 256, by omega⟩) * c (ix3 0 l d) :=
  three rfl (cat2_at a l d k hk) (rotC z l k) (cat2_at b l d k hk) (rotD z l k) (cat2_at c l d k hk)

/-- The argument's block without its first axis. -/
theorem pay3_at (v : Vec Ideal S1x256x1920 .f32) (l : Fin 256) (k : Fin 1920) : (show EReal from k0_pay3 (F := Ideal) v (ix2 l k)) = v (ix3 0 l k) := by
  pointwise [k0_pay3]

/-- The query lanes, -/
theorem zq_at (v : Vec Ideal S1x256x1920 .f32) (l : Fin 256) (k : Fin 512) : (show EReal from zq v (ix2 l k)) = v (ix3 0 l ⟨k, by omega⟩) := by
  pointwise [zq, k0_pay3]

/-- the key lanes, -/
theorem pay5_at (v : Vec Ideal S1x256x1920 .f32) (l : Fin 256) (k : Fin 512) : (show EReal from k0_pay5 (F := Ideal) v (ix2 l k)) = v (ix3 0 l ⟨512 + k, by omega⟩) := by
  pointwise [k0_pay5, k0_pay3]

/-- the value lanes, -/
theorem pay11_at (v : FVec Ideal S256x1920 .f32) (l : Fin 256) (k : Fin 512) : (show EReal from k0_pay11 (F := Ideal) v (ix2 l k)) = v (ix2 l ⟨1024 + k, by omega⟩) := by
  pointwise [k0_pay11]

/-- the indexer query lanes, -/
theorem zi_at (v : FVec Ideal S256x1920 .f32) (l : Fin 256) (k : Fin 256) : (show EReal from zi v (ix2 l k)) = v (ix2 l ⟨1536 + k, by omega⟩) := by
  pointwise [zi]

/-- the indexer keys and weights, rotated. -/
theorem pay13_at (v : FVec Ideal S256x1920 .f32) (a b c : Vec Ideal S1x256x128 .f32) (l : Fin 256) (k : Fin 128) : (show EReal from k0_pay13 (F := Ideal) v a b c (ix2 l k)) = v (ix2 l ⟨1792 + k, by omega⟩) * a (ix3 0 l k) + v (ix2 l ⟨1792 + ((k : ℕ) + 128 - 112) % 128, by omega⟩) * b (ix3 0 l k) + v (ix2 l ⟨1792 + ((k : ℕ) + 128 - 16) % 128, by omega⟩) * c (ix3 0 l k) := by
  pointwise [k0_pay13]

/-- The head a piece stores. -/
theorem pay14_at (v : FVec Ideal S256x512 .f32) (l : Fin 256) (d : Fin 128) : (show EReal from k0_pay14 (F := Ideal) v (ix4 0 0 l d)) = v (ix2 l ⟨d, by omega⟩) := by
  pointwise [k0_pay14]

/-- The head a piece stores. -/
theorem pay15_at (v : FVec Ideal S256x512 .f32) (l : Fin 256) (d : Fin 128) : (show EReal from k0_pay15 (F := Ideal) v (ix4 0 0 l d)) = v (ix2 l ⟨d, by omega⟩) := by
  pointwise [k0_pay15]

/-- The head a piece stores. -/
theorem pay16_at (v : FVec Ideal S256x512 .f32) (l : Fin 256) (d : Fin 128) : (show EReal from k0_pay16 (F := Ideal) v (ix4 0 0 l d)) = v (ix2 l ⟨d, by omega⟩) := by
  pointwise [k0_pay16]

/-- The head a piece stores. -/
theorem pay19_at (v : FVec Ideal S256x512 .f32) (l : Fin 256) (d : Fin 128) : (show EReal from k0_pay19 (F := Ideal) v (ix4 0 0 l d)) = v (ix2 l ⟨128 + d, by omega⟩) := by
  pointwise [k0_pay19]

/-- The head a piece stores. -/
theorem pay20_at (v : FVec Ideal S256x512 .f32) (l : Fin 256) (d : Fin 128) : (show EReal from k0_pay20 (F := Ideal) v (ix4 0 0 l d)) = v (ix2 l ⟨128 + d, by omega⟩) := by
  pointwise [k0_pay20]

/-- The head a piece stores. -/
theorem pay22_at (v : FVec Ideal S256x512 .f32) (l : Fin 256) (d : Fin 128) : (show EReal from k0_pay22 (F := Ideal) (k0_pay21 v) (ix4 0 0 l d)) = v (ix2 l ⟨128 + d, by omega⟩) := by
  pointwise [k0_pay22, k0_pay21]

/-- The head a piece stores. -/
theorem pay25_at (v : FVec Ideal S256x512 .f32) (l : Fin 256) (d : Fin 128) : (show EReal from k0_pay25 (F := Ideal) v (ix4 0 0 l d)) = v (ix2 l ⟨256 + d, by omega⟩) := by
  pointwise [k0_pay25]

/-- The head a piece stores. -/
theorem pay26_at (v : FVec Ideal S256x512 .f32) (l : Fin 256) (d : Fin 128) : (show EReal from k0_pay26 (F := Ideal) v (ix4 0 0 l d)) = v (ix2 l ⟨256 + d, by omega⟩) := by
  pointwise [k0_pay26]

/-- The head a piece stores. -/
theorem pay27_at (v : FVec Ideal S256x512 .f32) (l : Fin 256) (d : Fin 128) : (show EReal from k0_pay27 (F := Ideal) v (ix4 0 0 l d)) = v (ix2 l ⟨256 + d, by omega⟩) := by
  pointwise [k0_pay27]

/-- The head a piece stores. -/
theorem pay30_at (v : FVec Ideal S256x512 .f32) (l : Fin 256) (d : Fin 128) : (show EReal from k0_pay30 (F := Ideal) v (ix4 0 0 l d)) = v (ix2 l ⟨384 + d, by omega⟩) := by
  pointwise [k0_pay30]

/-- The head a piece stores. -/
theorem pay31_at (v : FVec Ideal S256x512 .f32) (l : Fin 256) (d : Fin 128) : (show EReal from k0_pay31 (F := Ideal) v (ix4 0 0 l d)) = v (ix2 l ⟨384 + d, by omega⟩) := by
  pointwise [k0_pay31]

/-- The head a piece stores. -/
theorem pay33_at (v : FVec Ideal S256x512 .f32) (l : Fin 256) (d : Fin 128) : (show EReal from k0_pay33 (F := Ideal) (k0_pay32 v) (ix4 0 0 l d)) = v (ix2 l ⟨384 + d, by omega⟩) := by
  pointwise [k0_pay33, k0_pay32]

/-- The narrow head a piece stores. -/
theorem pay36_at (v : FVec Ideal S256x256 .f32) (l : Fin 256) (d : Fin 32) : (show EReal from k0_pay36 (F := Ideal) v (ix4 0 0 l d)) = v (ix2 l ⟨d, by omega⟩) := by
  pointwise [k0_pay36]

/-- The narrow head a piece stores. -/
theorem pay37_at (v : FVec Ideal S256x256 .f32) (l : Fin 256) (d : Fin 32) : (show EReal from k0_pay37 (F := Ideal) v (ix4 0 0 l d)) = v (ix2 l ⟨32 + d, by omega⟩) := by
  pointwise [k0_pay37]

/-- The narrow head a piece stores. -/
theorem pay38_at (v : FVec Ideal S256x256 .f32) (l : Fin 256) (d : Fin 32) : (show EReal from k0_pay38 (F := Ideal) v (ix4 0 0 l d)) = v (ix2 l ⟨64 + d, by omega⟩) := by
  pointwise [k0_pay38]

/-- The narrow head a piece stores. -/
theorem pay39_at (v : FVec Ideal S256x256 .f32) (l : Fin 256) (d : Fin 32) : (show EReal from k0_pay39 (F := Ideal) v (ix4 0 0 l d)) = v (ix2 l ⟨96 + d, by omega⟩) := by
  pointwise [k0_pay39]

/-- The narrow head a piece stores. -/
theorem pay40_at (v : FVec Ideal S256x256 .f32) (l : Fin 256) (d : Fin 32) : (show EReal from k0_pay40 (F := Ideal) v (ix4 0 0 l d)) = v (ix2 l ⟨128 + d, by omega⟩) := by
  pointwise [k0_pay40]

/-- The narrow head a piece stores. -/
theorem pay42_at (v : FVec Ideal S256x256 .f32) (l : Fin 256) (d : Fin 32) : (show EReal from k0_pay42 (F := Ideal) (k0_pay41 v) (ix4 0 0 l d)) = v (ix2 l ⟨160 + d, by omega⟩) := by
  pointwise [k0_pay42, k0_pay41]

/-- The narrow head a piece stores. -/
theorem pay43_at (v : FVec Ideal S256x256 .f32) (l : Fin 256) (d : Fin 32) : (show EReal from k0_pay43 (F := Ideal) v (ix4 0 0 l d)) = v (ix2 l ⟨192 + d, by omega⟩) := by
  pointwise [k0_pay43]

/-- The narrow head a piece stores. -/
theorem pay44_at (v : FVec Ideal S256x256 .f32) (l : Fin 256) (d : Fin 32) : (show EReal from k0_pay44 (F := Ideal) v (ix4 0 0 l d)) = v (ix2 l ⟨224 + d, by omega⟩) := by
  pointwise [k0_pay44]

/-- The indexer keys stored, -/
theorem pay45_at (v : FVec Ideal S256x128 .f32) (l : Fin 256) (d : Fin 32) : (show EReal from k0_pay45 (F := Ideal) v (ix3 0 l d)) = v (ix2 l ⟨d, by omega⟩) := by
  pointwise [k0_pay45]

/-- for the cache too, -/
theorem pay2_at (v : FVec Ideal S256x128 .f32) (l : Fin 256) (d : Fin 32) : (show EReal from k0_pay2 (F := Ideal) v (ix3 0 l d)) = v (ix2 l ⟨d, by omega⟩) := by
  pointwise [k0_pay2]

/-- with the weights, scaled. -/
theorem pay46_at (v : FVec Ideal S256x128 .f32) (l : Fin 256) (d : Fin 128) : (show EReal from k0_pay46 (F := Ideal) v (ix3 0 l d)) = v (ix2 l d) * Cert.DsaPromptRefIdeal.R.sw := by
  pointwise [k0_pay46]

/-- Two heads in one row of lanes: the lower lanes of the one, then the lower lanes of the other, if the upper lanes of both are zero. -/
theorem pair_at (v : FVec Ideal S256x512 .f32) (l : Fin 256) (hz : ∀ n : Fin 512, 64 ≤ (n : ℕ) % 128 → (show EReal from v (ix2 l n)) = 0) (n : Fin 256) (h : Fin 4) (j : Fin 64) (hn : (n : ℕ) = 64 * h + j) :
    (show EReal from k0_pay47 (F := Ideal) (k0_pay17 v) (k0_pay23 v) (k0_pay28 v) (k0_pay34 v) (ix3 0 l n)) = v (ix2 l ⟨(h : ℕ) * 128 + j, by omega⟩) := by
  pointwise [k0_pay47, k0_pay17, k0_pay23, k0_pay28, k0_pay34]
  have hj : (j : ℕ) < 64 := j.isLt
  obtain ⟨h, hh⟩ := h
  replace hn : (n : ℕ) = 64 * h + j := hn
  have hv : ∀ x y : Fin 512, (x : ℕ) = y → (show EReal from v (ix2 l x)) = v (ix2 l y) := fun x y e => by rw [Fin.ext e]
  rcases (by omega : h = 0 ∨ h = 1 ∨ h = 2 ∨ h = 3) with rfl | rfl | rfl | rfl
  · rw [dif_pos (by omega)]
    exact (congrArg₂ (fun a b : EReal => a + b) (hv _ _ (by dsimp only; omega)) (hz _ (by dsimp only; omega))).trans (add_zero _)
  · rw [dif_pos (by omega)]
    exact (congrArg₂ (fun a b : EReal => a + b) (hz _ (by dsimp only; omega)) (hv _ _ (by dsimp only; omega))).trans (zero_add _)
  · rw [dif_neg (by omega)]
    exact (congrArg₂ (fun a b : EReal => a + b) (hv _ _ (by dsimp only; omega)) (hz _ (by dsimp only; omega))).trans (add_zero _)
  · rw [dif_neg (by omega)]
    exact (congrArg₂ (fun a b : EReal => a + b) (hz _ (by dsimp only; omega)) (hv _ _ (by dsimp only; omega))).trans (zero_add _)

/-- The argument as loaded, -/
theorem ld0_at (x : Vec Ideal S1x256x1920 .f32) (l : Fin 256) (k : Fin 1920) : (show EReal from View.ld x r0_0 (ix3 0 l k)) = x (ix3 0 l k) := by
  have e : r0_0.emb (ix3 0 l k) = ix3 0 l k := by blk_ext
  exact congrArg x e

/-- row 0 of a table as loaded. -/
theorem ld1_at (x : Vec Ideal S3x256x128 .f32) (l : Fin 256) (k : Fin 128) : (show EReal from View.ld x r0_1 (ix3 0 l k)) = x (ix3 0 l k) := by
  have e : r0_1.emb (ix3 0 l k) = ix3 0 l k := by blk_ext
  exact congrArg x e

/-- row 1 of a table as loaded. -/
theorem ld2_at (x : Vec Ideal S3x256x128 .f32) (l : Fin 256) (k : Fin 128) : (show EReal from View.ld x r0_2 (ix3 0 l k)) = x (ix3 1 l k) := by
  have e : r0_2.emb (ix3 0 l k) = ix3 1 l k := by blk_ext
  exact congrArg x e

/-- row 2 of a table as loaded. -/
theorem ld3_at (x : Vec Ideal S3x256x128 .f32) (l : Fin 256) (k : Fin 128) : (show EReal from View.ld x r0_3 (ix3 0 l k)) = x (ix3 2 l k) := by
  have e : r0_3.emb (ix3 0 l k) = ix3 2 l k := by blk_ext
  exact congrArg x e

variable (m : (ℓ : Loc nD τ sig) → Buf (Elt Ideal) ℓ) (c : Dev nD) (t : Fin cfg0.N)

/-- Which block of its array each window has at a grid point. -/
theorem idx : ∀ t : Fin cfg0.N, win0_0.index t = ![t.val / 17, t.val % 17, 0] ∧ win0_1.index t = ![0, t.val % 17, 0] ∧ win0_2.index t = ![0, t.val % 17, 0] ∧ win0_3.index t = ![0, t.val % 17, 0]
    ∧ win0_4.index t = ![t.val / 17, 0, t.val % 17, 0] ∧ win0_5.index t = ![t.val / 17, 0, t.val % 17, 0] ∧ win0_6.index t = ![t.val / 17, 0, t.val % 17, 0] ∧ win0_7.index t = ![t.val / 17, 0, t.val % 17, 0]
    ∧ win0_8.index t = ![t.val / 17, t.val % 17, 0] ∧ win0_9.index t = ![t.val / 17, t.val % 17, 0] ∧ win0_10.index t = ![t.val / 17, t.val % 17, 0] ∧ win0_11.index t = ![t.val / 17, t.val % 17, 0] ∧ win0_12.index t = ![t.val / 17, t.val % 17, 0] :=
  (by decide +kernel : ∀ t : Fin grid0.N, _)

/-- There are as many grid points as blocks. -/
theorem lt_N (t : Fin cfg0.N) : t.val < 272 := lt_of_lt_of_eq t.isLt N_0

/-- The stream a grid point works on. -/
abbrev st (t : Fin cfg0.N) : Fin 16 := ⟨t.val / 17, by have := lt_N t; omega⟩

/-- The position a row of its block has. -/
abbrev po (t : Fin cfg0.N) (l : Fin 256) : Fin 4352 := ⟨t.val % 17 * 256 + l, by omega⟩

/-- The argument as a block. -/
theorem b0 (l : Fin 256) (k : Fin 1920) : (show EReal from iblk m c 0 t (ix3 0 l k)) = arg0 m c (ix3 (st t) (po t l) k) := by
  blk_ext [iblk, V, idx t]

/-- A table as a block. -/
theorem b1 (r : Fin 3) (l : Fin 256) (k : Fin 128) : (show EReal from iblk m c 1 t (ix3 r l k)) = tabB (ix3 r (po t l) k) := by
  rw [← tb_eq m c]
  blk_ext [iblk, idx t]

/-- A table as a block. -/
theorem b2 (r : Fin 3) (l : Fin 256) (k : Fin 128) : (show EReal from iblk m c 2 t (ix3 r l k)) = tabI (ix3 r (po t l) k) := by
  rw [← ti_eq m c]
  blk_ext [iblk, idx t]

/-- A table as a block. -/
theorem b3 (r : Fin 3) (l : Fin 256) (k : Fin 128) : (show EReal from iblk m c 3 t (ix3 r l k)) = tabW (ix3 r (po t l) k) := by
  rw [← tw_eq m c]
  blk_ext [iblk, idx t]

end Cert.DsaPromptIdeal.Value
-- ==== Proof.DsaPromptV.lean ====
/- The preparation of the sparse attention, for the prompts: the arrays the call leaves are the reference's. -/
module

public import proofs.«01_k».proof.Proof.DsaPromptP
public import proofs.«01_k».proof.Proof.Gen.Pre_dsa_prompt_ok
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DsaPromptIdeal.Value

open Cert.DsaPromptIdeal Cert.DsaPromptIdeal.Gen

/-- The precondition: the upper lanes of each head's values are zero. -/
theorem ok (X : FVec Ideal S16x4352x1920 .f32) [Cert.Pre_dsa_prompt_ok.Facts] (h : Cert.Pre_dsa_prompt_ok.fn (F := Ideal) X = fun _ => 1#1) :
    ∀ (b : Fin 16) (l : Fin 4352) (n : Fin 1920), 1024 ≤ (n : ℕ) → (n : ℕ) < 1536 → 64 ≤ (n : ℕ) % 128 → (show EReal from X (ix3 b l n)) = 0 := by
  intro b l n h1 h2 h3
  have h' := congrFun h ix0
  unfold Cert.Pre_dsa_prompt_ok.fn at h'
  have e := Host.reduce_andi_all _ _ _ _ _ h' (ix4 b l ⟨(n - 1024) / 128, by omega⟩ ⟨(n : ℕ) % 128 - 64, by omega⟩)
  have e' : Ideal.cmp .oeq (X (ix3 b l n)) (Ideal.ofBits .f32 0x00000000#32) = 1 := by
    have hn : n = ⟨1024 + (((n : ℕ) - 1024) / 128 * 128 + (64 + ((n : ℕ) % 128 - 64))), by omega⟩ := Fin.ext (by dsimp only; omega)
    refine Eq.trans ?_ e
    refine (congrArg (fun x => Ideal.cmp .oeq (X (ix3 b l x)) (Ideal.ofBits .f32 0x00000000#32)) hn).trans ?_
    pointwise
  rw [Ideal.cmp_oeq_eq_one, Ideal.ofBits_zero_f32] at e'
  exact e'

/-- The kernel takes the front's padding off a position, the reference adds its negative. -/
theorem pos_eq (l : ℕ) : IntOp.subi (BitVec.ofNat 32 l) 48#32 = IntOp.addi 4294967248#32 (BitVec.ofNat 32 l) := by
  show BitVec.ofNat 32 l - 48#32 = 4294967248#32 + BitVec.ofNat 32 l
  rw [BitVec.sub_eq_add_neg, BitVec.add_comm]
  rfl

/-- The kernel's angles are the reference's: the wide rotation's, -/
theorem angB_eq (l : Fin 4352) (e : Fin 32) : (show EReal from angB (ix2 l e)) = Cert.DsaPromptRefIdeal.R.angB (ix2 l e) :=
  Eq.trans (b := (show EReal from FloatOps.sitofp (F := Ideal) .f32 (IntOp.subi (BitVec.ofNat 32 l) 48#32)) * _) (by pointwise [angB]) ((congrArg (fun p => (show EReal from FloatOps.sitofp (F := Ideal) .f32 p) * _) (pos_eq l)).trans (Cert.DsaPromptRefIdeal.R.angB_at l e).symm)

/-- and the narrow one's. -/
theorem angA_eq (l : Fin 4352) (e : Fin 16) : (show EReal from angA (ix2 l e)) = Cert.DsaPromptRefIdeal.R.angA (ix2 l e) :=
  Eq.trans (b := (show EReal from FloatOps.sitofp (F := Ideal) .f32 (IntOp.subi (BitVec.ofNat 32 l) 48#32)) * _) (by pointwise [angA]) ((congrArg (fun p => (show EReal from FloatOps.sitofp (F := Ideal) .f32 p) * _) (pos_eq l)).trans (Cert.DsaPromptRefIdeal.R.angA_at l e).symm)

/-- The scale of the queries at a lane. -/
theorem sc_at (v : FVec Ideal S256x512 .f32) (l : Fin 256) (k : Fin 512) : (show EReal from mulf v (broadcast S256x512 (Scalar.ofBits .f32 0x3E000000#32)) (ix2 l k)) = v (ix2 l k) * Cert.DsaPromptRefIdeal.R.sq := by
  pointwise

variable (m : (ℓ : Loc nD τ sig) → Buf (Elt Ideal) ℓ) (c : Dev nD) (t : Fin cfg0.N)

/-- The argument as a grid point loads it, -/
theorem xE (l : Fin 256) (k : Fin 1920) : (show EReal from View.ld (iblk m c 0 t) r0_0 (ix3 0 l k)) = arg0 m c (ix3 (st t) (po t l) k) :=
  (ld0_at _ l k).trans (b0 m c t l k)

/-- and without its first axis. -/
theorem xE2 (l : Fin 256) (k n : Fin 1920) (h : (k : ℕ) = n) : (show EReal from k0_pay48 (F := Ideal) (iblk m c 0 t) (iblk m c 1 t) (iblk m c 2 t) (iblk m c 3 t) (ix2 l k)) = arg0 m c (ix3 (st t) (po t l) n) := by
  obtain rfl := Fin.ext h
  exact (pay3_at _ l k).trans (xE m c t l k)

/-- The rotation of lanes of the argument: the first half of a head, -/
theorem rot_a (z : FVec Ideal S256x512 .f32) (o : ℕ) (l : Fin 256) (hz : ∀ (k : Fin 512) (n : Fin 1920), (n : ℕ) = o + k → (show EReal from z (ix2 l k)) = arg0 m c (ix3 (st t) (po t l) n)) (h : Fin 4) (d : Fin 128) (n : Fin 512) (hn : (n : ℕ) = h * 128 + d) (e : Fin 32) (hd : (d : ℕ) = e) (p q : Fin 1920) (hp : (p : ℕ) = o + (h * 128 + e)) (hq : (q : ℕ) = o + (h * 128 + (32 + e))) :
    (show EReal from R4 z (View.ld (iblk m c 1 t) r0_1) (View.ld (iblk m c 1 t) r0_2) (View.ld (iblk m c 1 t) r0_3) (ix2 l n)) = arg0 m c (ix3 (st t) (po t l) p) * Ideal.cos (Cert.DsaPromptRefIdeal.R.angB (ix2 (po t l) e)) - arg0 m c (ix3 (st t) (po t l) q) * Ideal.sin (Cert.DsaPromptRefIdeal.R.angB (ix2 (po t l) e)) := by
  have hA := (ld1_at (iblk m c 1 t) l d).trans (b1 m c t 0 l d)
  have hB := (ld2_at (iblk m c 1 t) l d).trans (b1 m c t 1 l d)
  have hC := (ld3_at (iblk m c 1 t) l d).trans (b1 m c t 2 l d)
  have hh : (h : ℕ) < 4 := h.isLt
  refine (R4_at z _ _ _ l h d n hn).trans ((three (hz _ p (by omega)) (hA.trans ((tb0_a (po t l) d e hd).trans (congrArg Ideal.cos (angB_eq _ _)))) (hz _ q (by dsimp only; omega)) (hB.trans ((tb1_a (po t l) d e hd).trans (congrArg (fun x => -Ideal.sin x) (angB_eq _ _)))) rfl (hC.trans (tb2_z (po t l) d (by omega)))).trans ?_)
  rw [mul_zero, add_zero, sub_eq_add_neg, mul_neg]

/-- the second, -/
theorem rot_b (z : FVec Ideal S256x512 .f32) (o : ℕ) (l : Fin 256) (hz : ∀ (k : Fin 512) (n : Fin 1920), (n : ℕ) = o + k → (show EReal from z (ix2 l k)) = arg0 m c (ix3 (st t) (po t l) n)) (h : Fin 4) (d : Fin 128) (n : Fin 512) (hn : (n : ℕ) = h * 128 + d) (e : Fin 32) (hd : (d : ℕ) = 32 + e) (p q : Fin 1920) (hp : (p : ℕ) = o + (h * 128 + e)) (hq : (q : ℕ) = o + (h * 128 + (32 + e))) :
    (show EReal from R4 z (View.ld (iblk m c 1 t) r0_1) (View.ld (iblk m c 1 t) r0_2) (View.ld (iblk m c 1 t) r0_3) (ix2 l n)) = arg0 m c (ix3 (st t) (po t l) p) * Ideal.sin (Cert.DsaPromptRefIdeal.R.angB (ix2 (po t l) e)) + arg0 m c (ix3 (st t) (po t l) q) * Ideal.cos (Cert.DsaPromptRefIdeal.R.angB (ix2 (po t l) e)) := by
  have hA := (ld1_at (iblk m c 1 t) l d).trans (b1 m c t 0 l d)
  have hB := (ld2_at (iblk m c 1 t) l d).trans (b1 m c t 1 l d)
  have hC := (ld3_at (iblk m c 1 t) l d).trans (b1 m c t 2 l d)
  have hh : (h : ℕ) < 4 := h.isLt
  refine (R4_at z _ _ _ l h d n hn).trans ((three (hz _ q (by omega)) (hA.trans ((tb0_b (po t l) d e hd).trans (congrArg Ideal.cos (angB_eq _ _)))) rfl (hB.trans (tb1_z (po t l) d (by omega))) (hz _ p (by dsimp only; omega)) (hC.trans ((tb2_b (po t l) d e hd).trans (congrArg Ideal.sin (angB_eq _ _))))).trans ?_)
  rw [mul_zero, add_zero, add_comm]

/-- and zero past them. -/
theorem rot_z (z : FVec Ideal S256x512 .f32) (l : Fin 256) (h : Fin 4) (d : Fin 128) (n : Fin 512) (hn : (n : ℕ) = h * 128 + d) (hd : 64 ≤ (d : ℕ)) :
    (show EReal from R4 z (View.ld (iblk m c 1 t) r0_1) (View.ld (iblk m c 1 t) r0_2) (View.ld (iblk m c 1 t) r0_3) (ix2 l n)) = 0 := by
  have hA := (ld1_at (iblk m c 1 t) l d).trans (b1 m c t 0 l d)
  have hB := (ld2_at (iblk m c 1 t) l d).trans (b1 m c t 1 l d)
  have hC := (ld3_at (iblk m c 1 t) l d).trans (b1 m c t 2 l d)
  refine (R4_at z _ _ _ l h d n hn).trans ((three rfl (hA.trans (tb0_z (po t l) d hd)) rfl (hB.trans (tb1_z (po t l) d (by omega))) rfl (hC.trans (tb2_z (po t l) d (by omega)))).trans ?_)
  simp only [mul_zero, add_zero]

/-- The query lanes of the argument, -/
theorem zqE (l : Fin 256) (k : Fin 512) (n : Fin 1920) (h : (n : ℕ) = 0 + k) : (show EReal from zq (View.ld (iblk m c 0 t) r0_0) (ix2 l k)) = arg0 m c (ix3 (st t) (po t l) n) :=
  (zq_at _ l k).trans ((xE m c t l _).trans (congrArg (fun x => arg0 m c (ix3 (st t) (po t l) x)) (Fin.ext (by dsimp only; omega))))

/-- and the key lanes. -/
theorem zkE (l : Fin 256) (k : Fin 512) (n : Fin 1920) (h : (n : ℕ) = 512 + k) : (show EReal from k0_pay5 (F := Ideal) (View.ld (iblk m c 0 t) r0_0) (ix2 l k)) = arg0 m c (ix3 (st t) (po t l) n) :=
  (pay5_at _ l k).trans ((xE m c t l _).trans (congrArg (fun x => arg0 m c (ix3 (st t) (po t l) x)) (Fin.ext (by dsimp only; omega))))

/-- The kernel's queries are the reference's. -/
theorem qE (l : Fin 256) (h : Fin 4) (d : Fin 128) (n : Fin 512) (hn : (n : ℕ) = h * 128 + d) :
    (show EReal from k0_pay49 (F := Ideal) (iblk m c 0 t) (iblk m c 1 t) (iblk m c 2 t) (iblk m c 3 t) (ix2 l n)) = Cert.DsaPromptRefIdeal.R.rq (arg0 m c) (ix4 (st t) h (po t l) d) := by
  have hd : (d : ℕ) < 128 := d.isLt
  have hh : (h : ℕ) < 4 := h.isLt
  refine (sc_at (R4 (zq (View.ld (iblk m c 0 t) r0_0)) (View.ld (iblk m c 1 t) r0_1) (View.ld (iblk m c 1 t) r0_2) (View.ld (iblk m c 1 t) r0_3)) l n).trans ?_
  rcases (by omega : (d : ℕ) < 32 ∨ (32 ≤ (d : ℕ) ∧ (d : ℕ) < 64) ∨ 64 ≤ (d : ℕ)) with h1 | h1 | h1
  · refine Eq.trans (congrArg (fun x : EReal => x * Cert.DsaPromptRefIdeal.R.sq) ?_) ((Cert.DsaPromptRefIdeal.R.rq_lo _ (st t) (po t l) h d ⟨d, by omega⟩ rfl).trans (Cert.DsaPromptRefIdeal.R.q0_a _ (st t) (po t l) h _ ⟨d, h1⟩ rfl)).symm
    exact rot_a m c t (zq (View.ld (iblk m c 0 t) r0_0)) 0 l (zqE m c t l) h d n hn ⟨d, h1⟩ rfl _ _ (by dsimp only; omega) (by dsimp only; omega)
  · have e : (d : ℕ) = 32 + (⟨d - 32, by omega⟩ : Fin 32) := by dsimp only; omega
    refine Eq.trans (congrArg (fun x : EReal => x * Cert.DsaPromptRefIdeal.R.sq) ?_) ((Cert.DsaPromptRefIdeal.R.rq_lo _ (st t) (po t l) h d ⟨d, by omega⟩ rfl).trans (Cert.DsaPromptRefIdeal.R.q0_b _ (st t) (po t l) h _ _ e)).symm
    exact rot_b m c t (zq (View.ld (iblk m c 0 t) r0_0)) 0 l (zqE m c t l) h d n hn _ e _ _ (by dsimp only; omega) (by dsimp only; omega)
  · refine Eq.trans ?_ (Cert.DsaPromptRefIdeal.R.rq_z _ (st t) (po t l) h d h1).symm
    exact (congrArg (fun x : EReal => x * Cert.DsaPromptRefIdeal.R.sq) (rot_z m c t _ l h d n hn h1)).trans (zero_mul _)

/-- The kernel's keys are the reference's. -/
theorem kE (l : Fin 256) (h : Fin 4) (d : Fin 128) (n : Fin 512) (hn : (n : ℕ) = h * 128 + d) :
    (show EReal from k0_pay50 (F := Ideal) (iblk m c 0 t) (iblk m c 1 t) (iblk m c 2 t) (iblk m c 3 t) (ix2 l n)) = Cert.DsaPromptRefIdeal.R.rk (arg0 m c) (ix4 (st t) h (po t l) d) := by
  have hd : (d : ℕ) < 128 := d.isLt
  have hh : (h : ℕ) < 4 := h.isLt
  show (show EReal from R4 (k0_pay5 (F := Ideal) (View.ld (iblk m c 0 t) r0_0)) (View.ld (iblk m c 1 t) r0_1) (View.ld (iblk m c 1 t) r0_2) (View.ld (iblk m c 1 t) r0_3) (ix2 l n)) = _
  rcases (by omega : (d : ℕ) < 32 ∨ (32 ≤ (d : ℕ) ∧ (d : ℕ) < 64) ∨ 64 ≤ (d : ℕ)) with h1 | h1 | h1
  · refine Eq.trans ?_ ((Cert.DsaPromptRefIdeal.R.rk_lo _ (st t) (po t l) h d ⟨d, by omega⟩ rfl).trans (Cert.DsaPromptRefIdeal.R.k0_a _ (st t) (po t l) h _ ⟨d, h1⟩ rfl)).symm
    exact rot_a m c t (k0_pay5 (F := Ideal) (View.ld (iblk m c 0 t) r0_0)) 512 l (zkE m c t l) h d n hn ⟨d, h1⟩ rfl _ _ (by dsimp only; omega) (by dsimp only; omega)
  · have e : (d : ℕ) = 32 + (⟨d - 32, by omega⟩ : Fin 32) := by dsimp only; omega
    refine Eq.trans ?_ ((Cert.DsaPromptRefIdeal.R.rk_lo _ (st t) (po t l) h d ⟨d, by omega⟩ rfl).trans (Cert.DsaPromptRefIdeal.R.k0_b _ (st t) (po t l) h _ _ e)).symm
    exact rot_b m c t (k0_pay5 (F := Ideal) (View.ld (iblk m c 0 t) r0_0)) 512 l (zkE m c t l) h d n hn _ e _ _ (by dsimp only; omega) (by dsimp only; omega)
  · refine Eq.trans ?_ (Cert.DsaPromptRefIdeal.R.rk_z _ (st t) (po t l) h d h1).symm
    exact rot_z m c t _ l h d n hn h1

/-- The kernel's values: the reference's on a head's lower lanes, -/
theorem vE_lo (l : Fin 256) (h : Fin 4) (j : Fin 64) (n : Fin 512) (hn : (n : ℕ) = h * 128 + j) :
    (show EReal from k0_pay51 (F := Ideal) (iblk m c 0 t) (iblk m c 1 t) (iblk m c 2 t) (iblk m c 3 t) (ix2 l n)) = Cert.DsaPromptRefIdeal.R.v0 (arg0 m c) (ix4 (st t) (po t l) h j) :=
  (pay11_at _ l n).trans ((xE2 m c t l _ _ (by dsimp only; omega)).trans (Cert.DsaPromptRefIdeal.R.v0_at _ (st t) (po t l) h j).symm)

/-- zero on the upper ones, -/
theorem vE_z [Cert.Pre_dsa_prompt_ok.Facts] (hpre : Cert.Pre_dsa_prompt_ok.fn (F := Ideal) (arg0 m c) = fun _ => 1#1) (l : Fin 256) (n : Fin 512) (hn : 64 ≤ (n : ℕ) % 128) :
    (show EReal from k0_pay51 (F := Ideal) (iblk m c 0 t) (iblk m c 1 t) (iblk m c 2 t) (iblk m c 3 t) (ix2 l n)) = 0 :=
  (pay11_at _ l n).trans ((xE2 m c t l _ ⟨1024 + n, by omega⟩ rfl).trans (ok _ hpre _ _ _ (by dsimp only; omega) (by dsimp only; omega) (by dsimp only; omega)))

/-- so the reference's. -/
theorem vE [Cert.Pre_dsa_prompt_ok.Facts] (hpre : Cert.Pre_dsa_prompt_ok.fn (F := Ideal) (arg0 m c) = fun _ => 1#1) (l : Fin 256) (h : Fin 4) (d : Fin 128) (n : Fin 512) (hn : (n : ℕ) = h * 128 + d) :
    (show EReal from k0_pay51 (F := Ideal) (iblk m c 0 t) (iblk m c 1 t) (iblk m c 2 t) (iblk m c 3 t) (ix2 l n)) = Cert.DsaPromptRefIdeal.R.rv (arg0 m c) (ix4 (st t) h (po t l) d) := by
  have hd : (d : ℕ) < 128 := d.isLt
  rcases (by omega : (d : ℕ) < 64 ∨ 64 ≤ (d : ℕ)) with h1 | h1
  · exact (vE_lo m c t l h ⟨d, h1⟩ n hn).trans (Cert.DsaPromptRefIdeal.R.rv_lo _ (st t) (po t l) h d ⟨d, h1⟩ rfl).symm
  · exact (vE_z m c t hpre l n (by omega)).trans (Cert.DsaPromptRefIdeal.R.rv_z _ (st t) (po t l) h d h1).symm

/-- The kernel's indexer queries are the reference's. -/
theorem iE (l : Fin 256) (h : Fin 8) (k : Fin 32) (n : Fin 256) (hn : (n : ℕ) = h * 32 + k) :
    (show EReal from k0_pay52 (F := Ideal) (iblk m c 0 t) (iblk m c 1 t) (iblk m c 2 t) (iblk m c 3 t) (ix2 l n)) = Cert.DsaPromptRefIdeal.R.rqi (arg0 m c) (ix4 (st t) h (po t l) k) := by
  have hk : (k : ℕ) < 32 := k.isLt
  have hh : (h : ℕ) < 8 := h.isLt
  obtain ⟨d, hd⟩ : ∃ d : Fin 128, (n : ℕ) % 128 = d := ⟨⟨(n : ℕ) % 128, by omega⟩, rfl⟩
  obtain ⟨g, hg⟩ : ∃ g : Fin 4, (h : ℕ) % 4 = g := ⟨⟨(h : ℕ) % 4, by omega⟩, rfl⟩
  have hA := (ld1_at (iblk m c 2 t) l d).trans (b2 m c t 0 l d)
  have hB := (ld2_at (iblk m c 2 t) l d).trans (b2 m c t 1 l d)
  have hC := (ld3_at (iblk m c 2 t) l d).trans (b2 m c t 2 l d)
  have hz : ∀ (a : Fin 256) (p : Fin 1920), (p : ℕ) = 1536 + a → (show EReal from zi (k0_pay48 (F := Ideal) (iblk m c 0 t) (iblk m c 1 t) (iblk m c 2 t) (iblk m c 3 t)) (ix2 l a)) = arg0 m c (ix3 (st t) (po t l) p) := fun a p e => (zi_at _ l a).trans (xE2 m c t l _ p e.symm)
  refine (R2_at (zi (k0_pay48 (F := Ideal) (iblk m c 0 t) (iblk m c 1 t) (iblk m c 2 t) (iblk m c 3 t))) (View.ld (iblk m c 2 t) r0_1) (View.ld (iblk m c 2 t) r0_2) (View.ld (iblk m c 2 t) r0_3) l d n hd).trans (Eq.trans ?_ (Cert.DsaPromptRefIdeal.R.rqi_at _ (st t) (po t l) h k).symm)
  rcases (by omega : (k : ℕ) < 16 ∨ 16 ≤ (k : ℕ)) with h1 | h1
  · have e : (d : ℕ) = 32 * g + (⟨k, h1⟩ : Fin 16) := by dsimp only; omega
    refine Eq.trans ?_ (Cert.DsaPromptRefIdeal.R.i0_a _ (st t) (po t l) h k ⟨k, h1⟩ rfl).symm
    refine (three (hz _ ⟨1536 + ((h : ℕ) * 32 + k), by omega⟩ (by dsimp only; omega)) (hA.trans ((ti0_a (po t l) d g _ e).trans (congrArg Ideal.cos (angA_eq _ _)))) (hz _ ⟨1536 + ((h : ℕ) * 32 + (16 + k)), by omega⟩ (by dsimp only; omega)) (hB.trans ((ti1_a (po t l) d g _ e).trans (congrArg (fun x => -Ideal.sin x) (angA_eq _ _)))) rfl (hC.trans (ti2_z (po t l) d (by omega)))).trans ?_
    rw [mul_zero, add_zero, sub_eq_add_neg, mul_neg]
  · have e : (d : ℕ) = 32 * g + 16 + (⟨k - 16, by omega⟩ : Fin 16) := by dsimp only; omega
    refine Eq.trans ?_ (Cert.DsaPromptRefIdeal.R.i0_b _ (st t) (po t l) h k ⟨k - 16, by omega⟩ (by dsimp only; omega)).symm
    refine (three (hz _ ⟨1536 + ((h : ℕ) * 32 + (16 + (k - 16))), by omega⟩ (by dsimp only; omega)) (hA.trans ((ti0_b (po t l) d g _ e).trans (congrArg Ideal.cos (angA_eq _ _)))) rfl (hB.trans (ti1_z (po t l) d (by omega))) (hz _ ⟨1536 + ((h : ℕ) * 32 + (k - 16)), by omega⟩ (by dsimp only; omega)) (hC.trans ((ti2_b (po t l) d g _ e).trans (congrArg Ideal.sin (angA_eq _ _))))).trans ?_
    rw [mul_zero, add_zero, add_comm]

/-- The kernel's indexer keys are the reference's on their lanes, -/
theorem wE_k (l : Fin 256) (d : Fin 128) (k : Fin 32) (hd : (d : ℕ) = k) :
    (show EReal from k0_pay53 (F := Ideal) (iblk m c 0 t) (iblk m c 1 t) (iblk m c 2 t) (iblk m c 3 t) (ix2 l d)) = Cert.DsaPromptRefIdeal.R.rki (arg0 m c) (ix3 (st t) (po t l) k) := by
  have hk : (k : ℕ) < 32 := k.isLt
  have hA := (ld1_at (iblk m c 3 t) l d).trans (b3 m c t 0 l d)
  have hB := (ld2_at (iblk m c 3 t) l d).trans (b3 m c t 1 l d)
  have hC := (ld3_at (iblk m c 3 t) l d).trans (b3 m c t 2 l d)
  refine (pay13_at _ _ _ _ l d).trans ?_
  rcases (by omega : (k : ℕ) < 16 ∨ 16 ≤ (k : ℕ)) with h1 | h1
  · have e : (d : ℕ) = (⟨k, h1⟩ : Fin 16) := hd
    refine Eq.trans ?_ (Cert.DsaPromptRefIdeal.R.rki_a _ (st t) (po t l) k ⟨k, h1⟩ rfl).symm
    refine (three (xE2 m c t l _ ⟨1792 + k, by omega⟩ (by dsimp only; omega)) (hA.trans ((tw0_a (po t l) d _ e).trans (congrArg Ideal.cos (angA_eq _ _)))) (xE2 m c t l _ ⟨1792 + (16 + k), by omega⟩ (by dsimp only; omega)) (hB.trans ((tw1_a (po t l) d _ e).trans (congrArg (fun x => -Ideal.sin x) (angA_eq _ _)))) rfl (hC.trans (tw2_z (po t l) d (by omega)))).trans ?_
    rw [mul_zero, add_zero, sub_eq_add_neg, mul_neg]
  · have e : (d : ℕ) = 16 + (⟨k - 16, by omega⟩ : Fin 16) := by dsimp only; omega
    refine Eq.trans ?_ (Cert.DsaPromptRefIdeal.R.rki_b _ (st t) (po t l) k ⟨k - 16, by omega⟩ (by dsimp only; omega)).symm
    refine (three (xE2 m c t l _ ⟨1792 + (16 + (k - 16)), by omega⟩ (by dsimp only; omega)) (hA.trans ((tw0_b (po t l) d _ e).trans (congrArg Ideal.cos (angA_eq _ _)))) rfl (hB.trans (tw1_z (po t l) d (by omega))) (xE2 m c t l _ ⟨1792 + (k - 16), by omega⟩ (by dsimp only; omega)) (hC.trans ((tw2_b (po t l) d _ e).trans (congrArg Ideal.sin (angA_eq _ _))))).trans ?_
    rw [mul_zero, add_zero, add_comm]

/-- and with the weights, scaled, everywhere. -/
theorem wE (l : Fin 256) (d : Fin 128) :
    (show EReal from k0_pay53 (F := Ideal) (iblk m c 0 t) (iblk m c 1 t) (iblk m c 2 t) (iblk m c 3 t) (ix2 l d)) * Cert.DsaPromptRefIdeal.R.sw = Cert.DsaPromptRefIdeal.R.rwi (arg0 m c) (ix3 (st t) (po t l) d) := by
  have hd : (d : ℕ) < 128 := d.isLt
  have hA := (ld1_at (iblk m c 3 t) l d).trans (b3 m c t 0 l d)
  have hB := (ld2_at (iblk m c 3 t) l d).trans (b3 m c t 1 l d)
  have hC := (ld3_at (iblk m c 3 t) l d).trans (b3 m c t 2 l d)
  rcases (by omega : (d : ℕ) < 32 ∨ (32 ≤ (d : ℕ) ∧ (d : ℕ) < 40) ∨ 40 ≤ (d : ℕ)) with h1 | h1 | h1
  · exact (congrArg (fun x : EReal => x * Cert.DsaPromptRefIdeal.R.sw) (wE_k m c t l d ⟨d, h1⟩ rfl)).trans (Cert.DsaPromptRefIdeal.R.rwi_a _ (st t) (po t l) d ⟨d, h1⟩ rfl).symm
  · refine Eq.trans (congrArg (fun x : EReal => x * Cert.DsaPromptRefIdeal.R.sw) ?_) (Cert.DsaPromptRefIdeal.R.rwi_b _ (st t) (po t l) d h1.1 h1.2).symm
    refine (pay13_at _ _ _ _ l d).trans ?_
    refine (three (xE2 m c t l _ ⟨1792 + d, by omega⟩ (by dsimp only)) (hA.trans (tw0_o (po t l) d h1)) rfl (hB.trans (tw1_z (po t l) d (by omega))) rfl (hC.trans (tw2_z (po t l) d (by omega)))).trans ?_
    simp only [mul_zero, add_zero, mul_one]
  · have hz : (show EReal from k0_pay53 (F := Ideal) (iblk m c 0 t) (iblk m c 1 t) (iblk m c 2 t) (iblk m c 3 t) (ix2 l d)) = 0 := by
      refine (pay13_at _ _ _ _ l d).trans ?_
      refine (three rfl (hA.trans (tw0_z (po t l) d h1)) rfl (hB.trans (tw1_z (po t l) d (by omega))) rfl (hC.trans (tw2_z (po t l) d (by omega)))).trans ?_
      simp only [mul_zero, add_zero]
    exact (congrArg (fun x : EReal => x * Cert.DsaPromptRefIdeal.R.sw) hz).trans ((zero_mul _).trans (Cert.DsaPromptRefIdeal.R.rwi_z _ (st t) (po t l) d h1).symm)

/-- The keys for the cache, two heads in a row of lanes, are the reference's, -/
theorem kfE (l : Fin 256) (n : Fin 256) :
    (show EReal from k0_pay47 (F := Ideal) (k0_pay17 (k0_pay50 (F := Ideal) (iblk m c 0 t) (iblk m c 1 t) (iblk m c 2 t) (iblk m c 3 t))) (k0_pay23 (k0_pay50 (F := Ideal) (iblk m c 0 t) (iblk m c 1 t) (iblk m c 2 t) (iblk m c 3 t))) (k0_pay28 (k0_pay50 (F := Ideal) (iblk m c 0 t) (iblk m c 1 t) (iblk m c 2 t) (iblk m c 3 t))) (k0_pay34 (k0_pay50 (F := Ideal) (iblk m c 0 t) (iblk m c 1 t) (iblk m c 2 t) (iblk m c 3 t))) (ix3 0 l n)) = Cert.DsaPromptRefIdeal.R.rkf (arg0 m c) (ix3 (st t) (po t l) n) := by
  have hn : (n : ℕ) = 64 * (⟨n / 64, by omega⟩ : Fin 4) + (⟨n % 64, by omega⟩ : Fin 64) := by dsimp only; omega
  refine (pair_at _ l (fun q hq => ?_) n _ _ hn).trans (Eq.trans ?_ (Cert.DsaPromptRefIdeal.R.rkf_at _ (st t) (po t l) n _ _ hn).symm)
  · exact (kE m c t l ⟨q / 128, by omega⟩ ⟨q % 128, by omega⟩ q (by dsimp only; omega)).trans (Cert.DsaPromptRefIdeal.R.rk_z _ (st t) (po t l) _ _ hq)
  · exact (kE m c t l ⟨n / 64, by omega⟩ ⟨n % 64, by omega⟩ _ rfl).trans (Cert.DsaPromptRefIdeal.R.rk_lo _ (st t) (po t l) _ _ _ rfl)

/-- and so are the values. -/
theorem vfE [Cert.Pre_dsa_prompt_ok.Facts] (hpre : Cert.Pre_dsa_prompt_ok.fn (F := Ideal) (arg0 m c) = fun _ => 1#1) (l : Fin 256) (n : Fin 256) :
    (show EReal from k0_pay1 (F := Ideal) (k0_pay18 (k0_pay51 (F := Ideal) (iblk m c 0 t) (iblk m c 1 t) (iblk m c 2 t) (iblk m c 3 t))) (k0_pay24 (k0_pay51 (F := Ideal) (iblk m c 0 t) (iblk m c 1 t) (iblk m c 2 t) (iblk m c 3 t))) (k0_pay29 (k0_pay51 (F := Ideal) (iblk m c 0 t) (iblk m c 1 t) (iblk m c 2 t) (iblk m c 3 t))) (k0_pay35 (k0_pay51 (F := Ideal) (iblk m c 0 t) (iblk m c 1 t) (iblk m c 2 t) (iblk m c 3 t))) (ix3 0 l n)) = Cert.DsaPromptRefIdeal.R.rvf (arg0 m c) (ix3 (st t) (po t l) n) := by
  have hn : (n : ℕ) = 64 * (⟨n / 64, by omega⟩ : Fin 4) + (⟨n % 64, by omega⟩ : Fin 64) := by dsimp only; omega
  refine (congrFun (pay1_eq _) _).trans ((pair_at _ l (vE_z m c t hpre l) n _ _ hn).trans (Eq.trans ?_ (Cert.DsaPromptRefIdeal.R.rvf_at _ (st t) (po t l) n _ _ hn).symm))
  exact vE_lo m c t l _ _ _ rfl

/-- Four pieces, one per head, are an array when each is the array's head. -/
theorem canon4 (P3 P2 P1 P0 : FVec Ideal S1x1x256x128 .bf16) (G : S1x4x256x128.Idx → EReal)
    (h0 : ∀ (l : Fin 256) (d : Fin 128), (show EReal from P0 (ix4 0 0 l d)) = G (ix4 0 0 l d))
    (h1 : ∀ (l : Fin 256) (d : Fin 128), (show EReal from P1 (ix4 0 0 l d)) = G (ix4 0 1 l d))
    (h2 : ∀ (l : Fin 256) (d : Fin 128), (show EReal from P2 (ix4 0 0 l d)) = G (ix4 0 2 l d))
    (h3 : ∀ (l : Fin 256) (d : Fin 128), (show EReal from P3 (ix4 0 0 l d)) = G (ix4 0 3 l d)) (y : S1x4x256x128.Idx) :
    View.canon (Val := Elt Ideal) (s := S1x4x256x128) (e := .bf16) [⟨r0_7, P3⟩, ⟨r0_6, P2⟩, ⟨r0_5, P1⟩, ⟨r0_4, P0⟩] y = G y := by
  have hc := cover0_4 (F := Ideal) P3 P2 P1 P0 y
  suffices hL : ∀ p ∈ ([⟨r0_7, P3⟩, ⟨r0_6, P2⟩, ⟨r0_5, P1⟩, ⟨r0_4, P0⟩] : List (View.Piece (Elt Ideal) S1x4x256x128 .bf16)), ∀ x : p.1.shape.Idx, p.2 x = G (p.1.emb x) by
    exact View.canon_apply_of_pieces G _ hL y hc
  intro p hp
  simp only [List.mem_cons, List.not_mem_nil, or_false] at hp
  rcases hp with rfl | rfl | rfl | rfl
  all_goals
    intro x
    idx_vars x
    obtain rfl : x0 = 0 := Subsingleton.elim _ _
    obtain rfl : x1 = 0 := Subsingleton.elim _ _
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- The same of eight narrow heads. -/
theorem canon8 (P7 P6 P5 P4 P3 P2 P1 P0 : FVec Ideal S1x1x256x32 .bf16) (G : S1x8x256x32.Idx → EReal)
    (h0 : ∀ (l : Fin 256) (d : Fin 32), (show EReal from P0 (ix4 0 0 l d)) = G (ix4 0 0 l d))
    (h1 : ∀ (l : Fin 256) (d : Fin 32), (show EReal from P1 (ix4 0 0 l d)) = G (ix4 0 1 l d))
    (h2 : ∀ (l : Fin 256) (d : Fin 32), (show EReal from P2 (ix4 0 0 l d)) = G (ix4 0 2 l d))
    (h3 : ∀ (l : Fin 256) (d : Fin 32), (show EReal from P3 (ix4 0 0 l d)) = G (ix4 0 3 l d))
    (h4 : ∀ (l : Fin 256) (d : Fin 32), (show EReal from P4 (ix4 0 0 l d)) = G (ix4 0 4 l d))
    (h5 : ∀ (l : Fin 256) (d : Fin 32), (show EReal from P5 (ix4 0 0 l d)) = G (ix4 0 5 l d))
    (h6 : ∀ (l : Fin 256) (d : Fin 32), (show EReal from P6 (ix4 0 0 l d)) = G (ix4 0 6 l d))
    (h7 : ∀ (l : Fin 256) (d : Fin 32), (show EReal from P7 (ix4 0 0 l d)) = G (ix4 0 7 l d)) (y : S1x8x256x32.Idx) :
    View.canon (Val := Elt Ideal) (s := S1x8x256x32) (e := .bf16) [⟨r0_15, P7⟩, ⟨r0_14, P6⟩, ⟨r0_13, P5⟩, ⟨r0_12, P4⟩, ⟨r0_11, P3⟩, ⟨r0_10, P2⟩, ⟨r0_9, P1⟩, ⟨r0_8, P0⟩] y = G y := by
  have hc := cover0_7 (F := Ideal) P7 P6 P5 P4 P3 P2 P1 P0 y
  suffices hL : ∀ p ∈ ([⟨r0_15, P7⟩, ⟨r0_14, P6⟩, ⟨r0_13, P5⟩, ⟨r0_12, P4⟩, ⟨r0_11, P3⟩, ⟨r0_10, P2⟩, ⟨r0_9, P1⟩, ⟨r0_8, P0⟩] : List (View.Piece (Elt Ideal) S1x8x256x32 .bf16)), ∀ x : p.1.shape.Idx, p.2 x = G (p.1.emb x) by
    exact View.canon_apply_of_pieces G _ hL y hc
  intro p hp
  simp only [List.mem_cons, List.not_mem_nil, or_false] at hp
  rcases hp with rfl | rfl | rfl | rfl | rfl | rfl | rfl | rfl
  all_goals
    intro x
    idx_vars x
    obtain rfl : x0 = 0 := Subsingleton.elim _ _
    obtain rfl : x1 = 0 := Subsingleton.elim _ _
  · exact (h7 x2 x3).trans (congrArg G (Eq.symm (by blk_ext)))
  · exact (h6 x2 x3).trans (congrArg G (Eq.symm (by blk_ext)))
  · exact (h5 x2 x3).trans (congrArg G (Eq.symm (by blk_ext)))
  · exact (h4 x2 x3).trans (congrArg G (Eq.symm (by blk_ext)))
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- One piece over a whole block is the block. -/
theorem canonA (P : FVec Ideal S1x256x32 .bf16) : View.canon (Val := Elt Ideal) (s := S1x256x32) (e := .bf16) [⟨r0_16, P⟩] = P :=
  View.canon_unit_zero (by funext a; fin_cases a <;> rfl) _ _

/-- One piece over a whole block is the block. -/
theorem canonD (P : FVec Ideal S1x256x32 .f32) : View.canon (Val := Elt Ideal) (s := S1x256x32) (e := .f32) [⟨r0_16, P⟩] = P :=
  View.canon_unit_zero (by funext a; fin_cases a <;> rfl) _ _

/-- One piece over a whole block is the block. -/
theorem canonB (P : FVec Ideal S1x256x128 .f32) : View.canon (Val := Elt Ideal) (s := S1x256x128) (e := .f32) [⟨r0_17, P⟩] = P :=
  View.canon_unit_zero (by funext a; fin_cases a <;> rfl) _ _

/-- One piece over a whole block is the block. -/
theorem canonC (P : FVec Ideal S1x256x256 .f32) : View.canon (Val := Elt Ideal) (s := S1x256x256) (e := .f32) [⟨r0_18, P⟩] = P :=
  View.canon_unit_zero (by funext a; fin_cases a <;> rfl) _ _

/-- What a grid point leaves of the queries is the reference's. -/
theorem point4 (y : S1x4x256x128.Idx) : out0_4 (F := Ideal) (iblk m c 0 t) (iblk m c 1 t) (iblk m c 2 t) (iblk m c 3 t) y = Cert.DsaPromptRefIdeal.R.rq (arg0 m c) (((cfg0.win 4).blk t).view.emb y) := by
  have e : ∀ (h : Fin 4) (l : Fin 256) (d : Fin 128), ((cfg0.win 4).blk t).view.emb (ix4 0 h l d) = ix4 (st t) h (po t l) d := fun h l d => by blk_ext [idx t]
  unfold out0_4
  refine canon4 _ _ _ _ (fun y => Cert.DsaPromptRefIdeal.R.rq (arg0 m c) (((cfg0.win 4).blk t).view.emb y)) ?_ ?_ ?_ ?_ y
  · exact fun l d => (pay14_at _ l d).trans ((qE m c t l 0 d _ (by show (d : ℕ) = 0 * 128 + (d : ℕ); omega)).trans (congrArg (Cert.DsaPromptRefIdeal.R.rq (arg0 m c)) (e 0 l d).symm))
  · exact fun l d => (pay19_at _ l d).trans ((qE m c t l 1 d _ (by show 128 + (d : ℕ) = 1 * 128 + (d : ℕ); omega)).trans (congrArg (Cert.DsaPromptRefIdeal.R.rq (arg0 m c)) (e 1 l d).symm))
  · exact fun l d => (pay25_at _ l d).trans ((qE m c t l 2 d _ (by show 256 + (d : ℕ) = 2 * 128 + (d : ℕ); omega)).trans (congrArg (Cert.DsaPromptRefIdeal.R.rq (arg0 m c)) (e 2 l d).symm))
  · exact fun l d => (pay30_at _ l d).trans ((qE m c t l 3 d _ (by show 384 + (d : ℕ) = 3 * 128 + (d : ℕ); omega)).trans (congrArg (Cert.DsaPromptRefIdeal.R.rq (arg0 m c)) (e 3 l d).symm))

/-- After the run the queries are the reference's. -/
theorem final4 : (dats m 0 c).arrAt 4 (cfgs 0).N = Cert.DsaPromptRefIdeal.R.rq (arg0 m c) := by
  refine (dats m 0 c).arrAt_eq_of_covers 4 _ (by decide +kernel) fun t _ y => ?_
  blk_simp
  rw [after0_4]
  exact point4 m c t y

/-- What a grid point leaves of the keys is the reference's. -/
theorem point5 (y : S1x4x256x128.Idx) : out0_5 (F := Ideal) (iblk m c 0 t) (iblk m c 1 t) (iblk m c 2 t) (iblk m c 3 t) y = Cert.DsaPromptRefIdeal.R.rk (arg0 m c) (((cfg0.win 5).blk t).view.emb y) := by
  have e : ∀ (h : Fin 4) (l : Fin 256) (d : Fin 128), ((cfg0.win 5).blk t).view.emb (ix4 0 h l d) = ix4 (st t) h (po t l) d := fun h l d => by blk_ext [idx t]
  unfold out0_5
  refine canon4 _ _ _ _ (fun y => Cert.DsaPromptRefIdeal.R.rk (arg0 m c) (((cfg0.win 5).blk t).view.emb y)) ?_ ?_ ?_ ?_ y
  · exact fun l d => (pay15_at _ l d).trans ((kE m c t l 0 d _ (by show (d : ℕ) = 0 * 128 + (d : ℕ); omega)).trans (congrArg (Cert.DsaPromptRefIdeal.R.rk (arg0 m c)) (e 0 l d).symm))
  · exact fun l d => (pay20_at _ l d).trans ((kE m c t l 1 d _ (by show 128 + (d : ℕ) = 1 * 128 + (d : ℕ); omega)).trans (congrArg (Cert.DsaPromptRefIdeal.R.rk (arg0 m c)) (e 1 l d).symm))
  · exact fun l d => (pay26_at _ l d).trans ((kE m c t l 2 d _ (by show 256 + (d : ℕ) = 2 * 128 + (d : ℕ); omega)).trans (congrArg (Cert.DsaPromptRefIdeal.R.rk (arg0 m c)) (e 2 l d).symm))
  · exact fun l d => (pay31_at _ l d).trans ((kE m c t l 3 d _ (by show 384 + (d : ℕ) = 3 * 128 + (d : ℕ); omega)).trans (congrArg (Cert.DsaPromptRefIdeal.R.rk (arg0 m c)) (e 3 l d).symm))

/-- After the run the keys are the reference's. -/
theorem final5 : (dats m 0 c).arrAt 5 (cfgs 0).N = Cert.DsaPromptRefIdeal.R.rk (arg0 m c) := by
  refine (dats m 0 c).arrAt_eq_of_covers 5 _ (by decide +kernel) fun t _ y => ?_
  blk_simp
  rw [after0_5]
  exact point5 m c t y

/-- What a grid point leaves of the values is the reference's. -/
theorem point6 [Cert.Pre_dsa_prompt_ok.Facts] (hpre : Cert.Pre_dsa_prompt_ok.fn (F := Ideal) (arg0 m c) = fun _ => 1#1) (y : S1x4x256x128.Idx) : out0_6 (F := Ideal) (iblk m c 0 t) (iblk m c 1 t) (iblk m c 2 t) (iblk m c 3 t) y = Cert.DsaPromptRefIdeal.R.rv (arg0 m c) (((cfg0.win 6).blk t).view.emb y) := by
  have e : ∀ (h : Fin 4) (l : Fin 256) (d : Fin 128), ((cfg0.win 6).blk t).view.emb (ix4 0 h l d) = ix4 (st t) h (po t l) d := fun h l d => by blk_ext [idx t]
  unfold out0_6
  refine canon4 _ _ _ _ (fun y => Cert.DsaPromptRefIdeal.R.rv (arg0 m c) (((cfg0.win 6).blk t).view.emb y)) ?_ ?_ ?_ ?_ y
  · exact fun l d => (pay16_at _ l d).trans ((vE m c t hpre l 0 d _ (by show (d : ℕ) = 0 * 128 + (d : ℕ); omega)).trans (congrArg (Cert.DsaPromptRefIdeal.R.rv (arg0 m c)) (e 0 l d).symm))
  · exact fun l d => (pay22_at _ l d).trans ((vE m c t hpre l 1 d _ (by show 128 + (d : ℕ) = 1 * 128 + (d : ℕ); omega)).trans (congrArg (Cert.DsaPromptRefIdeal.R.rv (arg0 m c)) (e 1 l d).symm))
  · exact fun l d => (pay27_at _ l d).trans ((vE m c t hpre l 2 d _ (by show 256 + (d : ℕ) = 2 * 128 + (d : ℕ); omega)).trans (congrArg (Cert.DsaPromptRefIdeal.R.rv (arg0 m c)) (e 2 l d).symm))
  · exact fun l d => (pay33_at _ l d).trans ((vE m c t hpre l 3 d _ (by show 384 + (d : ℕ) = 3 * 128 + (d : ℕ); omega)).trans (congrArg (Cert.DsaPromptRefIdeal.R.rv (arg0 m c)) (e 3 l d).symm))

/-- After the run the values are the reference's. -/
theorem final6 [Cert.Pre_dsa_prompt_ok.Facts] (hpre : Cert.Pre_dsa_prompt_ok.fn (F := Ideal) (arg0 m c) = fun _ => 1#1) : (dats m 0 c).arrAt 6 (cfgs 0).N = Cert.DsaPromptRefIdeal.R.rv (arg0 m c) := by
  refine (dats m 0 c).arrAt_eq_of_covers 6 _ (by decide +kernel) fun t _ y => ?_
  blk_simp
  rw [after0_6]
  exact point6 m c t hpre y

/-- What a grid point leaves of the indexer queries is the reference's. -/
theorem point7 (y : S1x8x256x32.Idx) : out0_7 (F := Ideal) (iblk m c 0 t) (iblk m c 1 t) (iblk m c 2 t) (iblk m c 3 t) y = Cert.DsaPromptRefIdeal.R.rqi (arg0 m c) (((cfg0.win 7).blk t).view.emb y) := by
  have e : ∀ (h : Fin 8) (l : Fin 256) (d : Fin 32), ((cfg0.win 7).blk t).view.emb (ix4 0 h l d) = ix4 (st t) h (po t l) d := fun h l d => by blk_ext [idx t]
  unfold out0_7
  refine canon8 _ _ _ _ _ _ _ _ (fun y => Cert.DsaPromptRefIdeal.R.rqi (arg0 m c) (((cfg0.win 7).blk t).view.emb y)) ?_ ?_ ?_ ?_ ?_ ?_ ?_ ?_ y
  · exact fun l d => (pay36_at _ l d).trans ((iE m c t l 0 d _ (by show (d : ℕ) = 0 * 32 + (d : ℕ); omega)).trans (congrArg (Cert.DsaPromptRefIdeal.R.rqi (arg0 m c)) (e 0 l d).symm))
  · exact fun l d => (pay37_at _ l d).trans ((iE m c t l 1 d _ (by show 32 + (d : ℕ) = 1 * 32 + (d : ℕ); omega)).trans (congrArg (Cert.DsaPromptRefIdeal.R.rqi (arg0 m c)) (e 1 l d).symm))
  · exact fun l d => (pay38_at _ l d).trans ((iE m c t l 2 d _ (by show 64 + (d : ℕ) = 2 * 32 + (d : ℕ); omega)).trans (congrArg (Cert.DsaPromptRefIdeal.R.rqi (arg0 m c)) (e 2 l d).symm))
  · exact fun l d => (pay39_at _ l d).trans ((iE m c t l 3 d _ (by show 96 + (d : ℕ) = 3 * 32 + (d : ℕ); omega)).trans (congrArg (Cert.DsaPromptRefIdeal.R.rqi (arg0 m c)) (e 3 l d).symm))
  · exact fun l d => (pay40_at _ l d).trans ((iE m c t l 4 d _ (by show 128 + (d : ℕ) = 4 * 32 + (d : ℕ); omega)).trans (congrArg (Cert.DsaPromptRefIdeal.R.rqi (arg0 m c)) (e 4 l d).symm))
  · exact fun l d => (pay42_at _ l d).trans ((iE m c t l 5 d _ (by show 160 + (d : ℕ) = 5 * 32 + (d : ℕ); omega)).trans (congrArg (Cert.DsaPromptRefIdeal.R.rqi (arg0 m c)) (e 5 l d).symm))
  · exact fun l d => (pay43_at _ l d).trans ((iE m c t l 6 d _ (by show 192 + (d : ℕ) = 6 * 32 + (d : ℕ); omega)).trans (congrArg (Cert.DsaPromptRefIdeal.R.rqi (arg0 m c)) (e 6 l d).symm))
  · exact fun l d => (pay44_at _ l d).trans ((iE m c t l 7 d _ (by show 224 + (d : ℕ) = 7 * 32 + (d : ℕ); omega)).trans (congrArg (Cert.DsaPromptRefIdeal.R.rqi (arg0 m c)) (e 7 l d).symm))

/-- After the run the indexer queries are the reference's. -/
theorem final7 : (dats m 0 c).arrAt 7 (cfgs 0).N = Cert.DsaPromptRefIdeal.R.rqi (arg0 m c) := by
  refine (dats m 0 c).arrAt_eq_of_covers 7 _ (by decide +kernel) fun t _ y => ?_
  blk_simp
  rw [after0_7]
  exact point7 m c t y

/-- What a grid point leaves of the indexer keys is the reference's. -/
theorem point8 (y : S1x256x32.Idx) : out0_8 (F := Ideal) (iblk m c 0 t) (iblk m c 1 t) (iblk m c 2 t) (iblk m c 3 t) y = Cert.DsaPromptRefIdeal.R.rkb (arg0 m c) (((cfg0.win 8).blk t).view.emb y) := by
  idx_vars y
  obtain rfl : y0 = 0 := Subsingleton.elim _ _
  have e : ((cfg0.win 8).blk t).view.emb (ix3 0 y1 y2) = ix3 (st t) (po t y1) y2 := by blk_ext [idx t]
  unfold out0_8
  refine (congrFun (canonA _) _).trans ?_
  exact ((pay45_at _ y1 y2).trans ((wE_k m c t y1 _ y2 rfl).trans (Cert.DsaPromptRefIdeal.R.rkb_at _ (st t) (po t y1) y2).symm)).trans (congrArg (Cert.DsaPromptRefIdeal.R.rkb (arg0 m c)) e.symm)

/-- After the run the indexer keys are the reference's. -/
theorem final8 : (dats m 0 c).arrAt 8 (cfgs 0).N = Cert.DsaPromptRefIdeal.R.rkb (arg0 m c) := by
  refine (dats m 0 c).arrAt_eq_of_covers 8 _ (by decide +kernel) fun t _ y => ?_
  blk_simp
  rw [after0_8]
  exact point8 m c t y

/-- What a grid point leaves of the indexer weights is the reference's. -/
theorem point9 (y : S1x256x128.Idx) : out0_9 (F := Ideal) (iblk m c 0 t) (iblk m c 1 t) (iblk m c 2 t) (iblk m c 3 t) y = Cert.DsaPromptRefIdeal.R.rwi (arg0 m c) (((cfg0.win 9).blk t).view.emb y) := by
  idx_vars y
  obtain rfl : y0 = 0 := Subsingleton.elim _ _
  have e : ((cfg0.win 9).blk t).view.emb (ix3 0 y1 y2) = ix3 (st t) (po t y1) y2 := by blk_ext [idx t]
  unfold out0_9
  refine (congrFun (canonB _) _).trans ?_
  exact ((pay46_at (k0_pay53 (F := Ideal) (iblk m c 0 t) (iblk m c 1 t) (iblk m c 2 t) (iblk m c 3 t)) y1 y2).trans (wE m c t y1 y2)).trans (congrArg (Cert.DsaPromptRefIdeal.R.rwi (arg0 m c)) e.symm)

/-- After the run the indexer weights are the reference's. -/
theorem final9 : (dats m 0 c).arrAt 9 (cfgs 0).N = Cert.DsaPromptRefIdeal.R.rwi (arg0 m c) := by
  refine (dats m 0 c).arrAt_eq_of_covers 9 _ (by decide +kernel) fun t _ y => ?_
  blk_simp
  rw [after0_9]
  exact point9 m c t y

/-- What a grid point leaves of the keys for the cache is the reference's. -/
theorem point10 (y : S1x256x256.Idx) : out0_10 (F := Ideal) (iblk m c 0 t) (iblk m c 1 t) (iblk m c 2 t) (iblk m c 3 t) y = Cert.DsaPromptRefIdeal.R.rkf (arg0 m c) (((cfg0.win 10).blk t).view.emb y) := by
  idx_vars y
  obtain rfl : y0 = 0 := Subsingleton.elim _ _
  have e : ((cfg0.win 10).blk t).view.emb (ix3 0 y1 y2) = ix3 (st t) (po t y1) y2 := by blk_ext [idx t]
  unfold out0_10
  refine (congrFun (canonC _) _).trans ?_
  exact (kfE m c t y1 y2).trans (congrArg (Cert.DsaPromptRefIdeal.R.rkf (arg0 m c)) e.symm)

/-- After the run the keys for the cache are the reference's. -/
theorem final10 : (dats m 0 c).arrAt 10 (cfgs 0).N = Cert.DsaPromptRefIdeal.R.rkf (arg0 m c) := by
  refine (dats m 0 c).arrAt_eq_of_covers 10 _ (by decide +kernel) fun t _ y => ?_
  blk_simp
  rw [after0_10]
  exact point10 m c t y

/-- What a grid point leaves of the values for the cache is the reference's. -/
theorem point11 [Cert.Pre_dsa_prompt_ok.Facts] (hpre : Cert.Pre_dsa_prompt_ok.fn (F := Ideal) (arg0 m c) = fun _ => 1#1) (y : S1x256x256.Idx) : out0_11 (F := Ideal) (iblk m c 0 t) (iblk m c 1 t) (iblk m c 2 t) (iblk m c 3 t) y = Cert.DsaPromptRefIdeal.R.rvf (arg0 m c) (((cfg0.win 11).blk t).view.emb y) := by
  idx_vars y
  obtain rfl : y0 = 0 := Subsingleton.elim _ _
  have e : ((cfg0.win 11).blk t).view.emb (ix3 0 y1 y2) = ix3 (st t) (po t y1) y2 := by blk_ext [idx t]
  unfold out0_11
  refine (congrFun (canonC _) _).trans ?_
  exact (vfE m c t hpre y1 y2).trans (congrArg (Cert.DsaPromptRefIdeal.R.rvf (arg0 m c)) e.symm)

/-- After the run the values for the cache are the reference's. -/
theorem final11 [Cert.Pre_dsa_prompt_ok.Facts] (hpre : Cert.Pre_dsa_prompt_ok.fn (F := Ideal) (arg0 m c) = fun _ => 1#1) : (dats m 0 c).arrAt 11 (cfgs 0).N = Cert.DsaPromptRefIdeal.R.rvf (arg0 m c) := by
  refine (dats m 0 c).arrAt_eq_of_covers 11 _ (by decide +kernel) fun t _ y => ?_
  blk_simp
  rw [after0_11]
  exact point11 m c t hpre y

/-- What a grid point leaves of the indexer keys for the cache is the reference's. -/
theorem point12 (y : S1x256x32.Idx) : out0_12 (F := Ideal) (iblk m c 0 t) (iblk m c 1 t) (iblk m c 2 t) (iblk m c 3 t) y = Cert.DsaPromptRefIdeal.R.rki (arg0 m c) (((cfg0.win 12).blk t).view.emb y) := by
  idx_vars y
  obtain rfl : y0 = 0 := Subsingleton.elim _ _
  have e : ((cfg0.win 12).blk t).view.emb (ix3 0 y1 y2) = ix3 (st t) (po t y1) y2 := by blk_ext [idx t]
  unfold out0_12
  refine (congrFun (canonD _) _).trans ?_
  exact ((pay2_at _ y1 y2).trans (wE_k m c t y1 _ y2 rfl)).trans (congrArg (Cert.DsaPromptRefIdeal.R.rki (arg0 m c)) e.symm)

/-- After the run the indexer keys for the cache are the reference's. -/
theorem final12 : (dats m 0 c).arrAt 12 (cfgs 0).N = Cert.DsaPromptRefIdeal.R.rki (arg0 m c) := by
  refine (dats m 0 c).arrAt_eq_of_covers 12 _ (by decide +kernel) fun t _ y => ?_
  blk_simp
  rw [after0_12]
  exact point12 m c t y

end Cert.DsaPromptIdeal.Value
-- ==== Proof.PrepPromptT.lean ====
/- The preparation of the latent attention, for the prompts, the arrays the call reads: the tables of the rotation and the padded weights, at an index. -/
module

public import proofs.«01_k».proof.Proof.Gen.PrepPromptIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepPromptIdeal.Value

open Cert.PrepPromptIdeal Cert.PrepPromptIdeal.Gen

variable (m : (ℓ : Loc nD τ sig) → Buf (Elt Ideal) ℓ)

/-- The run: every result array as the grid points left it, every argument as launched. -/
theorem run_blocks (g : Dev nD → PrngReg) : θ_run defs (onTc (τ := τ) (main (F := Ideal))) ⟨m, fun _ => 0, g⟩ fun r => ∀ c : Dev nD,
    r.2.mem ((c : Thread nD τ).loc main_v70_0) = (dats m 0 c).arrAt 8 cfg0.N
    ∧ r.2.mem ((c : Thread nD τ).loc main_v70_1) = (dats m 0 c).arrAt 9 cfg0.N
    ∧ r.2.mem ((c : Thread nD τ).loc main_v70_2) = (dats m 0 c).arrAt 10 cfg0.N
    ∧ r.2.mem ((c : Thread nD τ).loc main_v70_3) = (dats m 0 c).arrAt 11 cfg0.N
    ∧ r.2.mem ((c : Thread nD τ).loc main_v70_4) = (dats m 0 c).arrAt 12 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h.1 c).1 8, (h.1 c).1 9, (h.1 c).1 10, (h.1 c).1 11, (h.1 c).1 12, h.2 c⟩) (θ_run_and (run_main m g) (unchanged m g))

/-- Argument 0 as launched. -/
abbrev arg0 (c : Dev nD) : FVec Ideal S16x4352x512 .f32 := m ((c : Thread nD τ).loc main_arg0)

/-- Argument 1 as launched. -/
abbrev arg1 (c : Dev nD) : FVec Ideal S256 .f32 := m ((c : Thread nD τ).loc main_arg1)

/-- Argument 2 as launched. -/
abbrev arg2 (c : Dev nD) : FVec Ideal S128 .f32 := m ((c : Thread nD τ).loc main_arg2)

/-- Argument 3 as launched. -/
abbrev arg3 (c : Dev nD) : FVec Ideal S256x384 .f32 := m ((c : Thread nD τ).loc main_arg3)

/-- Argument 4 as launched. -/
abbrev arg4 (c : Dev nD) : FVec Ideal S128x512 .f32 := m ((c : Thread nD τ).loc main_arg4)

/-- The angles: position times frequency. -/
def angA : FVec Ideal S4352x16 .f32 := (mulf (broadcastInDim S4352x16 ![0, 1] bcast_S4352x1_S4352x16_0_1 (broadcastInDim S4352x1 ![0] bcast_S4352_S4352x1_0 (sitofp .f32 (subi ((iotaInDim S4352 32 0)) (broadcastInDim S4352 ![] bcast_S_S4352 ((constantI S_ 32 48#32))))))) (broadcastInDim S4352x16 ![0, 1] bcast_S1x16_S4352x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- Row 0 of the table of the queries. -/
def tabQ0 : FVec Ideal S4352x128 .f32 := (concatenate S4352x128 1 [⟨S4352x64, (broadcastInDim S4352x64 ![] bcast_S_S4352x64 ((constant S_ .f32 0x3F800000#32)))⟩, ⟨S4352x16, (Host.cos angA)⟩, ⟨S4352x16, (Host.cos angA)⟩, ⟨S4352x32, (broadcastInDim S4352x32 ![] bcast_S_S4352x32 ((constant S_ .f32 0x00000000#32)))⟩] concatenates_S4352x64_S4352x16_S4352x16_S4352x32_S4352x128_d1)

/-- Row 1 of the table of the queries. -/
def tabQ1 : FVec Ideal S4352x128 .f32 := (concatenate S4352x128 1 [⟨S4352x64, (broadcastInDim S4352x64 ![] bcast_S_S4352x64 ((constant S_ .f32 0x00000000#32)))⟩, ⟨S4352x16, (Host.negf (Host.sin angA))⟩, ⟨S4352x16, (broadcastInDim S4352x16 ![] bcast_S_S4352x16 ((constant S_ .f32 0x00000000#32)))⟩, ⟨S4352x32, (broadcastInDim S4352x32 ![] bcast_S_S4352x32 ((constant S_ .f32 0x00000000#32)))⟩] concatenates_S4352x64_S4352x16_S4352x16_S4352x32_S4352x128_d1)

/-- Row 2 of the table of the queries. -/
def tabQ2 : FVec Ideal S4352x128 .f32 := (concatenate S4352x128 1 [⟨S4352x64, (broadcastInDim S4352x64 ![] bcast_S_S4352x64 ((constant S_ .f32 0x00000000#32)))⟩, ⟨S4352x16, (broadcastInDim S4352x16 ![] bcast_S_S4352x16 ((constant S_ .f32 0x00000000#32)))⟩, ⟨S4352x16, (Host.sin angA)⟩, ⟨S4352x32, (broadcastInDim S4352x32 ![] bcast_S_S4352x32 ((constant S_ .f32 0x00000000#32)))⟩] concatenates_S4352x64_S4352x16_S4352x16_S4352x32_S4352x128_d1)

/-- The table of the queries: cosines, negated sines, sines. -/
def tabQ : FVec Ideal S3x4352x128 .f32 := (concatenate S3x4352x128 0 [⟨S1x4352x128, (broadcastInDim S1x4352x128 ![1, 2] bcast_S4352x128_S1x4352x128_1_2 tabQ0)⟩, ⟨S1x4352x128, (broadcastInDim S1x4352x128 ![1, 2] bcast_S4352x128_S1x4352x128_1_2 tabQ1)⟩, ⟨S1x4352x128, (broadcastInDim S1x4352x128 ![1, 2] bcast_S4352x128_S1x4352x128_1_2 tabQ2)⟩] concatenates_S1x4352x128_S1x4352x128_S1x4352x128_S3x4352x128_d0)

/-- Row 0 of the table of the shared key. -/
def tabK0 : FVec Ideal S4352x128 .f32 := (concatenate S4352x128 1 [⟨S4352x16, (Host.cos angA)⟩, ⟨S4352x16, (Host.cos angA)⟩, ⟨S4352x96, (broadcastInDim S4352x96 ![] bcast_S_S4352x96 ((constant S_ .f32 0x00000000#32)))⟩] concatenates_S4352x16_S4352x16_S4352x96_S4352x128_d1)

/-- Row 1 of the table of the shared key. -/
def tabK1 : FVec Ideal S4352x128 .f32 := (concatenate S4352x128 1 [⟨S4352x16, (Host.negf (Host.sin angA))⟩, ⟨S4352x16, (broadcastInDim S4352x16 ![] bcast_S_S4352x16 ((constant S_ .f32 0x00000000#32)))⟩, ⟨S4352x96, (broadcastInDim S4352x96 ![] bcast_S_S4352x96 ((constant S_ .f32 0x00000000#32)))⟩] concatenates_S4352x16_S4352x16_S4352x96_S4352x128_d1)

/-- Row 2 of the table of the shared key. -/
def tabK2 : FVec Ideal S4352x128 .f32 := (concatenate S4352x128 1 [⟨S4352x16, (broadcastInDim S4352x16 ![] bcast_S_S4352x16 ((constant S_ .f32 0x00000000#32)))⟩, ⟨S4352x16, (Host.sin angA)⟩, ⟨S4352x96, (broadcastInDim S4352x96 ![] bcast_S_S4352x96 ((constant S_ .f32 0x00000000#32)))⟩] concatenates_S4352x16_S4352x16_S4352x96_S4352x128_d1)

/-- The table of the shared key: cosines, negated sines, sines. -/
def tabK : FVec Ideal S3x4352x128 .f32 := (concatenate S3x4352x128 0 [⟨S1x4352x128, (broadcastInDim S1x4352x128 ![1, 2] bcast_S4352x128_S1x4352x128_1_2 tabK0)⟩, ⟨S1x4352x128, (broadcastInDim S1x4352x128 ![1, 2] bcast_S4352x128_S1x4352x128_1_2 tabK1)⟩, ⟨S1x4352x128, (broadcastInDim S1x4352x128 ![1, 2] bcast_S4352x128_S1x4352x128_1_2 tabK2)⟩] concatenates_S1x4352x128_S1x4352x128_S1x4352x128_S3x4352x128_d0)

/-- The first table the call reads. -/
theorem tq_eq (c : Dev nD) : V m c main_v29 = tabQ := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The second table the call reads. -/
theorem tk_eq (c : Dev nD) : V m c main_v54 = tabK := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The norm weights of the queries the call reads. -/
theorem g1_eq (c : Dev nD) : V m c main_v57 = (shapeCast _ (arg1 m c) shapeCasts_S256_S1x256) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The norm weights of the keys the call reads. -/
theorem g2_eq (c : Dev nD) : V m c main_v58 = (shapeCast _ (arg2 m c) shapeCasts_S128_S1x128) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The query weights the call reads. -/
theorem wq_eq (c : Dev nD) : V m c main_v61 = (truncf .bf16 (shapeCast _ (pad S256x4x128 ![0, 0, 0] ![0, 0, 32] ![0, 0, 0] (shapeCast _ (arg3 m c) shapeCasts_S256x384_S256x4x96) (sitofp .f32 (constantI S_ 32 0#32)) pads_S256x4x96_S256x4x128_000_000_0320 h_S_) shapeCasts_S256x4x128_S256x512) bitsLt_bf16_f32) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The key weights the call reads. -/
theorem wk_eq (c : Dev nD) : V m c main_v65 = (truncf .bf16 (shapeCast _ (pad S128x4x128 ![0, 0, 0] ![0, 0, 64] ![0, 0, 0] (extractStridedSlice S128x4x64 ![0, 0, 0] (shapeCast _ (arg4 m c) shapeCasts_S128x512_S128x4x128) slices_S128x4x128_S128x4x64_0_0_0) (sitofp .f32 (constantI S_ 32 0#32)) pads_S128x4x64_S128x4x128_000_000_0640 h_S_) shapeCasts_S128x4x128_S128x512) bitsLt_bf16_f32) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The value weights the call reads. -/
theorem wv_eq (c : Dev nD) : V m c main_v69 = (truncf .bf16 (shapeCast _ (pad S128x4x128 ![0, 0, 0] ![0, 0, 64] ![0, 0, 0] (extractStridedSlice S128x4x64 ![0, 0, 64] (shapeCast _ (arg4 m c) shapeCasts_S128x512_S128x4x128) slices_S128x4x128_S128x4x64_0_0_64) (sitofp .f32 (constantI S_ 32 0#32)) pads_S128x4x64_S128x4x128_000_000_0640 h_S_) shapeCasts_S128x4x128_S128x512) bitsLt_bf16_f32) := by
  unfold V
  simp only [hostOps0, hostOps0_1, hostOps0_2, hostOps0_3, hostOps0_4, hostOps0_5, hostOps0_6, StableHlo.reshape, List.flatten_cons, List.flatten_nil, List.cons_append, List.nil_append, List.append_nil, StableHlo.TRef.binary, StableHlo.TRef.unary, StableHlo.TRef.toBuf, StableHlo.TRef.ofBuf, cast_eq]
  after_results <;> rfl

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The first row of the query table is one on the unrotated lanes. -/
theorem tq0_lo (l : Fin 4352) (d : Fin 128) (hd : (d : ℕ) < 64) : (show EReal from tabQ (ix3 0 l d)) = 1 := by
  pointwise [tabQ]
  pointwise [tabQ0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- It is the cosine on the first rotated half, -/
theorem tq0_a (l : Fin 4352) (d : Fin 128) (e : Fin 16) (hd : (d : ℕ) = 64 + e) : (show EReal from tabQ (ix3 0 l d)) = Ideal.cos (angA (ix2 l e)) := by
  pointwise [tabQ]
  pointwise [tabQ0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and on the second. -/
theorem tq0_b (l : Fin 4352) (d : Fin 128) (e : Fin 16) (hd : (d : ℕ) = 64 + 16 + e) : (show EReal from tabQ (ix3 0 l d)) = Ideal.cos (angA (ix2 l e)) := by
  pointwise [tabQ]
  pointwise [tabQ0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The second row is minus the sine on the first half -/
theorem tq1_a (l : Fin 4352) (d : Fin 128) (e : Fin 16) (hd : (d : ℕ) = 64 + e) : (show EReal from tabQ (ix3 1 l d)) = -Ideal.sin (angA (ix2 l e)) := by
  pointwise [tabQ]
  pointwise [tabQ1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tq1_z (l : Fin 4352) (d : Fin 128) (hd : (d : ℕ) < 64 ∨ 80 ≤ (d : ℕ)) : (show EReal from tabQ (ix3 1 l d)) = 0 := by
  pointwise [tabQ]
  pointwise [tabQ1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The third row is the sine on the second half -/
theorem tq2_b (l : Fin 4352) (d : Fin 128) (e : Fin 16) (hd : (d : ℕ) = 64 + 16 + e) : (show EReal from tabQ (ix3 2 l d)) = Ideal.sin (angA (ix2 l e)) := by
  pointwise [tabQ]
  pointwise [tabQ2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tq2_z (l : Fin 4352) (d : Fin 128) (hd : (d : ℕ) < 80 ∨ 96 ≤ (d : ℕ)) : (show EReal from tabQ (ix3 2 l d)) = 0 := by
  pointwise [tabQ]
  pointwise [tabQ2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The first row of the key table is the cosine on the first half, -/
theorem tk0_a (l : Fin 4352) (d : Fin 128) (e : Fin 16) (hd : (d : ℕ) = e) : (show EReal from tabK (ix3 0 l d)) = Ideal.cos (angA (ix2 l e)) := by
  pointwise [tabK]
  pointwise [tabK0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- on the second half -/
theorem tk0_b (l : Fin 4352) (d : Fin 128) (e : Fin 16) (hd : (d : ℕ) = 16 + e) : (show EReal from tabK (ix3 0 l d)) = Ideal.cos (angA (ix2 l e)) := by
  pointwise [tabK]
  pointwise [tabK0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero past it. -/
theorem tk0_z (l : Fin 4352) (d : Fin 128) (hd : 32 ≤ (d : ℕ)) : (show EReal from tabK (ix3 0 l d)) = 0 := by
  pointwise [tabK]
  pointwise [tabK0]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The second row is minus the sine on the first half -/
theorem tk1_a (l : Fin 4352) (d : Fin 128) (e : Fin 16) (hd : (d : ℕ) = e) : (show EReal from tabK (ix3 1 l d)) = -Ideal.sin (angA (ix2 l e)) := by
  pointwise [tabK]
  pointwise [tabK1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tk1_z (l : Fin 4352) (d : Fin 128) (hd : 16 ≤ (d : ℕ)) : (show EReal from tabK (ix3 1 l d)) = 0 := by
  pointwise [tabK]
  pointwise [tabK1]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The third row is the sine on the second half -/
theorem tk2_b (l : Fin 4352) (d : Fin 128) (e : Fin 16) (hd : (d : ℕ) = 16 + e) : (show EReal from tabK (ix3 2 l d)) = Ideal.sin (angA (ix2 l e)) := by
  pointwise [tabK]
  pointwise [tabK2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- and zero elsewhere. -/
theorem tk2_z (l : Fin 4352) (d : Fin 128) (hd : (d : ℕ) < 16 ∨ 32 ≤ (d : ℕ)) : (show EReal from tabK (ix3 2 l d)) = 0 := by
  pointwise [tabK]
  pointwise [tabK2]
  split_ifs <;> first
    | rfl
    | (exfalso; omega)
    | exact congrArg (fun x => Ideal.cos (angA (ix2 l x))) (Fin.ext (by first | (show (d : ℕ) - 64 - 16 = e; omega) | (show (d : ℕ) - 64 = e; omega) | (show (d : ℕ) - 16 = e; omega) | (show (d : ℕ) = e; omega)))
    | exact congrArg (fun x => Ideal.sin (angA (ix2 l x))) (Fin.ext (by first | (show (d : ℕ) - 64 - 16 = e; omega) | (show (d : ℕ) - 16 = e; omega)))
    | exact congrArg (fun x => -Ideal.sin (angA (ix2 l x))) (Fin.ext (by first | (show (d : ℕ) - 64 = e; omega) | (show (d : ℕ) = e; omega)))

/-- The padded query weights: the column of a head, -/
theorem wq_in (c : Dev nD) (k : Fin 256) (n : Fin 512) (h : Fin 4) (j : Fin 96) (hn : (n : ℕ) = h * 128 + j) : (show EReal from V m c main_v61 (ix2 k n)) = arg3 m c (ix2 k ⟨(h : ℕ) * 96 + j, by omega⟩) := by
  rw [wq_eq]
  pointwise
  rw [dif_pos (by omega)]
  exact congrArg (fun x => arg3 m c (ix2 k x)) (Fin.ext (show (n : ℕ) / 128 * 96 + (n : ℕ) % 128 = h * 96 + j by omega))

/-- or zero past its lanes. -/
theorem wq_out (c : Dev nD) (k : Fin 256) (n : Fin 512) (hn : 96 ≤ (n : ℕ) % 128) : (show EReal from V m c main_v61 (ix2 k n)) = 0 := by
  rw [wq_eq]
  pointwise
  rw [dif_neg (by omega)]; exact sitofp_zero

/-- The padded key weights: the column of a head, -/
theorem wk_in (c : Dev nD) (k : Fin 128) (n : Fin 512) (hn : (n : ℕ) % 128 < 64) : (show EReal from V m c main_v65 (ix2 k n)) = arg4 m c (ix2 k n) := by
  rw [wk_eq]
  pointwise
  rw [dif_pos (by omega)]

/-- or zero past its lanes. -/
theorem wk_out (c : Dev nD) (k : Fin 128) (n : Fin 512) (hn : 64 ≤ (n : ℕ) % 128) : (show EReal from V m c main_v65 (ix2 k n)) = 0 := by
  rw [wk_eq]
  pointwise
  rw [dif_neg (by omega)]; exact sitofp_zero

/-- The padded value weights: the column of a head, -/
theorem wv_in (c : Dev nD) (k : Fin 128) (n : Fin 512) (h : Fin 4) (j : Fin 64) (hn : (n : ℕ) = h * 128 + j) : (show EReal from V m c main_v69 (ix2 k n)) = arg4 m c (ix2 k ⟨(h : ℕ) * 128 + (64 + j), by omega⟩) := by
  rw [wv_eq]
  pointwise
  rw [dif_pos (by omega)]
  exact congrArg (fun x => arg4 m c (ix2 k x)) (Fin.ext (show (n : ℕ) / 128 * 128 + (64 + (n : ℕ) % 128) = h * 128 + (64 + j) by omega))

/-- or zero past its lanes. -/
theorem wv_out (c : Dev nD) (k : Fin 128) (n : Fin 512) (hn : 64 ≤ (n : ℕ) % 128) : (show EReal from V m c main_v69 (ix2 k n)) = 0 := by
  rw [wv_eq]
  pointwise
  rw [dif_neg (by omega)]; exact sitofp_zero

/-- The norm weights as the call reads them. -/
theorem g1_at (c : Dev nD) (n : Fin 256) : V m c main_v57 (ix2 0 n) = arg1 m c (ix1 n) := by
  rw [g1_eq]
  pointwise

/-- The norm weights as the call reads them. -/
theorem g2_at (c : Dev nD) (n : Fin 128) : V m c main_v58 (ix2 0 n) = arg2 m c (ix1 n) := by
  rw [g2_eq]
  pointwise

end Cert.PrepPromptIdeal.Value
-- ==== Proof.PrepPromptR.lean ====
/- The preparation of the latent attention, for the prompts, the reference: its arrays at an index. -/
module

public import proofs.«01_k».proof.Proof.Gen.PrepPromptRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepPromptRefIdeal.R

open Cert.PrepPromptRefIdeal Cert.PrepPromptRefIdeal.Gen

variable (X : FVec Ideal S16x4352x512 .f32) (g1 : FVec Ideal S256 .f32) (g2 : FVec Ideal S128 .f32) (w1 : FVec Ideal S256x384 .f32) (w2 : FVec Ideal S128x512 .f32)

/-- The angles: position times frequency. -/
def ang  : FVec Ideal S4352x16 .f32 := (mulf (broadcastInDim S4352x16 ![0, 1] bcast_S4352x1_S4352x16_0_1 (broadcastInDim S4352x1 ![0] bcast_S4352_S4352x1_0 (sitofp .f32 (addi (broadcastInDim S4352 ![] bcast_S_S4352 ((constantI S_ 32 4294967248#32))) ((iotaInDim S4352 32 0)))))) (broadcastInDim S4352x16 ![0, 1] bcast_S1x16_S4352x16_0_1 (broadcastInDim S1x16 ![1] bcast_S16_S1x16_1 (Host.powf (broadcastInDim S16 ![] bcast_S_S16 ((constant S_ .f32 0x461C4000#32))) (Host.divf (Host.negf ((sitofp .f32 (iotaInDim S16 32 0)))) (broadcastInDim S16 ![] bcast_S_S16 ((constant S_ .f32 0x41800000#32))))))))

/-- The normed query latent. -/
def qn (X : FVec Ideal S16x4352x512 .f32) (g1 : FVec Ideal S256 .f32) : FVec Ideal S16x4352x256 .f32 := (mulf (mulf (extractStridedSlice S16x4352x256 ![0, 0, 0] X slices_S16x4352x512_S16x4352x256_0_0_0) (broadcastInDim S16x4352x256 ![0, 1, 2] bcast_S16x4352x1_S16x4352x256_0_1_2 (Host.rsqrt (addf (Host.divf (broadcastInDim S16x4352x1 ![0, 1] bcast_S16x4352_S16x4352x1_0_1 (Host.reduceAdd (mulf (extractStridedSlice S16x4352x256 ![0, 0, 0] X slices_S16x4352x512_S16x4352x256_0_0_0) (extractStridedSlice S16x4352x256 ![0, 0, 0] X slices_S16x4352x512_S16x4352x256_0_0_0)) ((constant S_ .f32 0x00000000#32)) reducesTo_S16x4352x256_S16x4352_d2 h_S_)) (broadcastInDim S16x4352x1 ![] bcast_S_S16x4352x1 ((constant S_ .f32 0x43800000#32)))) (broadcastInDim S16x4352x1 ![] bcast_S_S16x4352x1 ((constant S_ .f32 0x358637BD#32))))))) (broadcastInDim S16x4352x256 ![0, 1, 2] bcast_S1x1x256_S16x4352x256_0_1_2 (broadcastInDim S1x1x256 ![2] bcast_S256_S1x1x256_2 g1)))

/-- The queries by head, before the rotation. -/
def qh (X : FVec Ideal S16x4352x512 .f32) (g1 : FVec Ideal S256 .f32) (w1 : FVec Ideal S256x384 .f32) : FVec Ideal S16x4352x4x96 .f32 := (shapeCast _ (Host.dotGeneral dot_S16x4352x256_S256x384_S16x4352x384_2_0_01_1_n_n none (qn X g1) w1) shapeCasts_S16x4352x384_S16x4352x4x96)

/-- The normed key latent. -/
def cn (X : FVec Ideal S16x4352x512 .f32) (g2 : FVec Ideal S128 .f32) : FVec Ideal S16x4352x128 .f32 := (mulf (mulf (extractStridedSlice S16x4352x128 ![0, 0, 256] X slices_S16x4352x512_S16x4352x128_0_0_256) (broadcastInDim S16x4352x128 ![0, 1, 2] bcast_S16x4352x1_S16x4352x128_0_1_2 (Host.rsqrt (addf (Host.divf (broadcastInDim S16x4352x1 ![0, 1] bcast_S16x4352_S16x4352x1_0_1 (Host.reduceAdd (mulf (extractStridedSlice S16x4352x128 ![0, 0, 256] X slices_S16x4352x512_S16x4352x128_0_0_256) (extractStridedSlice S16x4352x128 ![0, 0, 256] X slices_S16x4352x512_S16x4352x128_0_0_256)) ((constant S_ .f32 0x00000000#32)) reducesTo_S16x4352x128_S16x4352_d2 h_S_)) (broadcastInDim S16x4352x1 ![] bcast_S_S16x4352x1 ((constant S_ .f32 0x43000000#32)))) (broadcastInDim S16x4352x1 ![] bcast_S_S16x4352x1 ((constant S_ .f32 0x358637BD#32))))))) (broadcastInDim S16x4352x128 ![0, 1, 2] bcast_S1x1x128_S16x4352x128_0_1_2 (broadcastInDim S1x1x128 ![2] bcast_S128_S1x1x128_2 g2)))

/-- The rotated shared key. -/
def kr (X : FVec Ideal S16x4352x512 .f32) : FVec Ideal S16x4352x1x32 .f32 := (concatenate S16x4352x1x32 3 [⟨S16x4352x1x16, (subf (mulf (extractStridedSlice S16x4352x1x16 ![0, 0, 0, 0] (broadcastInDim S16x4352x1x32 ![0, 1, 3] bcast_S16x4352x32_S16x4352x1x32_0_1_3 (extractStridedSlice S16x4352x32 ![0, 0, 384] X slices_S16x4352x512_S16x4352x32_0_0_384)) slices_S16x4352x1x32_S16x4352x1x16_0_0_0_0) (broadcastInDim S16x4352x1x16 ![0, 1, 2, 3] bcast_S1x4352x1x16_S16x4352x1x16_0_1_2_3 (broadcastInDim S1x4352x1x16 ![1, 3] bcast_S4352x16_S1x4352x1x16_1_3 (Host.cos ang)))) (mulf (extractStridedSlice S16x4352x1x16 ![0, 0, 0, 16] (broadcastInDim S16x4352x1x32 ![0, 1, 3] bcast_S16x4352x32_S16x4352x1x32_0_1_3 (extractStridedSlice S16x4352x32 ![0, 0, 384] X slices_S16x4352x512_S16x4352x32_0_0_384)) slices_S16x4352x1x32_S16x4352x1x16_0_0_0_16) (broadcastInDim S16x4352x1x16 ![0, 1, 2, 3] bcast_S1x4352x1x16_S16x4352x1x16_0_1_2_3 (broadcastInDim S1x4352x1x16 ![1, 3] bcast_S4352x16_S1x4352x1x16_1_3 (Host.sin ang)))))⟩, ⟨S16x4352x1x16, (addf (mulf (extractStridedSlice S16x4352x1x16 ![0, 0, 0, 0] (broadcastInDim S16x4352x1x32 ![0, 1, 3] bcast_S16x4352x32_S16x4352x1x32_0_1_3 (extractStridedSlice S16x4352x32 ![0, 0, 384] X slices_S16x4352x512_S16x4352x32_0_0_384)) slices_S16x4352x1x32_S16x4352x1x16_0_0_0_0) (broadcastInDim S16x4352x1x16 ![0, 1, 2, 3] bcast_S1x4352x1x16_S16x4352x1x16_0_1_2_3 (broadcastInDim S1x4352x1x16 ![1, 3] bcast_S4352x16_S1x4352x1x16_1_3 (Host.sin ang)))) (mulf (extractStridedSlice S16x4352x1x16 ![0, 0, 0, 16] (broadcastInDim S16x4352x1x32 ![0, 1, 3] bcast_S16x4352x32_S16x4352x1x32_0_1_3 (extractStridedSlice S16x4352x32 ![0, 0, 384] X slices_S16x4352x512_S16x4352x32_0_0_384)) slices_S16x4352x1x32_S16x4352x1x16_0_0_0_16) (broadcastInDim S16x4352x1x16 ![0, 1, 2, 3] bcast_S1x4352x1x16_S16x4352x1x16_0_1_2_3 (broadcastInDim S1x4352x1x16 ![1, 3] bcast_S4352x16_S1x4352x1x16_1_3 (Host.cos ang)))))⟩] concatenates_S16x4352x1x16_S16x4352x1x16_S16x4352x1x32_d3)

/-- Keys and values by head. -/
def kv (X : FVec Ideal S16x4352x512 .f32) (g2 : FVec Ideal S128 .f32) (w2 : FVec Ideal S128x512 .f32) : FVec Ideal S16x4352x4x128 .f32 := (shapeCast _ (Host.dotGeneral dot_S16x4352x128_S128x512_S16x4352x512_2_0_01_1_n_n none (cn X g2) w2) shapeCasts_S16x4352x512_S16x4352x4x128)

/-- The queries the reference gives. -/
def ref0 (X : FVec Ideal S16x4352x512 .f32) (g1 : FVec Ideal S256 .f32) (w1 : FVec Ideal S256x384 .f32) : FVec Ideal S16x4x4352x128 .bf16 := (truncf .bf16 (pad S16x4x4352x128 ![0, 0, 0, 0] ![0, 0, 0, 32] ![0, 0, 0, 0] (transpose S16x4x4352x96 [0, 2, 1, 3] (mulf (concatenate S16x4352x4x96 3 [⟨S16x4352x4x64, (extractStridedSlice S16x4352x4x64 ![0, 0, 0, 0] (qh X g1 w1) slices_S16x4352x4x96_S16x4352x4x64_0_0_0_0)⟩, ⟨S16x4352x4x32, (concatenate S16x4352x4x32 3 [⟨S16x4352x4x16, (subf (mulf (extractStridedSlice S16x4352x4x16 ![0, 0, 0, 0] (extractStridedSlice S16x4352x4x32 ![0, 0, 0, 64] (qh X g1 w1) slices_S16x4352x4x96_S16x4352x4x32_0_0_0_64) slices_S16x4352x4x32_S16x4352x4x16_0_0_0_0) (broadcastInDim S16x4352x4x16 ![0, 1, 2, 3] bcast_S1x4352x1x16_S16x4352x4x16_0_1_2_3 (broadcastInDim S1x4352x1x16 ![1, 3] bcast_S4352x16_S1x4352x1x16_1_3 (Host.cos ang)))) (mulf (extractStridedSlice S16x4352x4x16 ![0, 0, 0, 16] (extractStridedSlice S16x4352x4x32 ![0, 0, 0, 64] (qh X g1 w1) slices_S16x4352x4x96_S16x4352x4x32_0_0_0_64) slices_S16x4352x4x32_S16x4352x4x16_0_0_0_16) (broadcastInDim S16x4352x4x16 ![0, 1, 2, 3] bcast_S1x4352x1x16_S16x4352x4x16_0_1_2_3 (broadcastInDim S1x4352x1x16 ![1, 3] bcast_S4352x16_S1x4352x1x16_1_3 (Host.sin ang)))))⟩, ⟨S16x4352x4x16, (addf (mulf (extractStridedSlice S16x4352x4x16 ![0, 0, 0, 0] (extractStridedSlice S16x4352x4x32 ![0, 0, 0, 64] (qh X g1 w1) slices_S16x4352x4x96_S16x4352x4x32_0_0_0_64) slices_S16x4352x4x32_S16x4352x4x16_0_0_0_0) (broadcastInDim S16x4352x4x16 ![0, 1, 2, 3] bcast_S1x4352x1x16_S16x4352x4x16_0_1_2_3 (broadcastInDim S1x4352x1x16 ![1, 3] bcast_S4352x16_S1x4352x1x16_1_3 (Host.sin ang)))) (mulf (extractStridedSlice S16x4352x4x16 ![0, 0, 0, 16] (extractStridedSlice S16x4352x4x32 ![0, 0, 0, 64] (qh X g1 w1) slices_S16x4352x4x96_S16x4352x4x32_0_0_0_64) slices_S16x4352x4x32_S16x4352x4x16_0_0_0_16) (broadcastInDim S16x4352x4x16 ![0, 1, 2, 3] bcast_S1x4352x1x16_S16x4352x4x16_0_1_2_3 (broadcastInDim S1x4352x1x16 ![1, 3] bcast_S4352x16_S1x4352x1x16_1_3 (Host.cos ang)))))⟩] concatenates_S16x4352x4x16_S16x4352x4x16_S16x4352x4x32_d3)⟩] concatenates_S16x4352x4x64_S16x4352x4x32_S16x4352x4x96_d3) (broadcastInDim S16x4352x4x96 ![] bcast_S_S16x4352x4x96 ((constant S_ .f32 0x3DD105EC#32)))) transposes_S16x4352x4x96_S16x4x4352x96_0_2_1_3) (sitofp .f32 (constantI S_ 32 0#32)) pads_S16x4x4352x96_S16x4x4352x128_000_000_000_0320 h_S_) bitsLt_bf16_f32)

/-- The keys the reference gives. -/
def ref1 (X : FVec Ideal S16x4352x512 .f32) (g2 : FVec Ideal S128 .f32) (w2 : FVec Ideal S128x512 .f32) : FVec Ideal S16x4x4352x128 .bf16 := (truncf .bf16 (pad S16x4x4352x128 ![0, 0, 0, 0] ![0, 0, 0, 32] ![0, 0, 0, 0] (transpose S16x4x4352x96 [0, 2, 1, 3] (concatenate S16x4352x4x96 3 [⟨S16x4352x4x64, (extractStridedSlice S16x4352x4x64 ![0, 0, 0, 0] (kv X g2 w2) slices_S16x4352x4x128_S16x4352x4x64_0_0_0_0)⟩, ⟨S16x4352x4x32, (broadcastInDim S16x4352x4x32 ![0, 1, 2, 3] bcast_S16x4352x1x32_S16x4352x4x32_0_1_2_3 (kr X))⟩] concatenates_S16x4352x4x64_S16x4352x4x32_S16x4352x4x96_d3) transposes_S16x4352x4x96_S16x4x4352x96_0_2_1_3) (sitofp .f32 (constantI S_ 32 0#32)) pads_S16x4x4352x96_S16x4x4352x128_000_000_000_0320 h_S_) bitsLt_bf16_f32)

/-- The values the reference gives. -/
def ref2 (X : FVec Ideal S16x4352x512 .f32) (g2 : FVec Ideal S128 .f32) (w2 : FVec Ideal S128x512 .f32) : FVec Ideal S16x4x4352x128 .bf16 := (truncf .bf16 (pad S16x4x4352x128 ![0, 0, 0, 0] ![0, 0, 0, 64] ![0, 0, 0, 0] (transpose S16x4x4352x64 [0, 2, 1, 3] (extractStridedSlice S16x4352x4x64 ![0, 0, 0, 64] (kv X g2 w2) slices_S16x4352x4x128_S16x4352x4x64_0_0_0_64) transposes_S16x4352x4x64_S16x4x4352x64_0_2_1_3) (sitofp .f32 (constantI S_ 32 0#32)) pads_S16x4x4352x64_S16x4x4352x128_000_000_000_0640 h_S_) bitsLt_bf16_f32)

/-- The shared key the reference gives. -/
def ref4 (X : FVec Ideal S16x4352x512 .f32) : FVec Ideal S16x4352x32 .f32 := (shapeCast _ (kr X) shapeCasts_S16x4352x1x32_S16x4352x32)

/-- The scale of the queries. -/
abbrev sc : EReal := Ideal.ofBits FTy.f32 1037108716#32

/-- The integer zero is the real zero. -/
theorem sitofp_zero : (FloatOps.sitofp (F := Ideal) .f32 (0#32 : BitVec 32)) = (0 : EReal) := by
  show ((((0#32 : BitVec 32).toInt : ℤ) : ℝ) : EReal) = 0
  simp

/-- The normed query latent. -/
theorem qn_at (b : Fin 16) (l : Fin 4352) (k : Fin 256) : (show EReal from qn X g1 (ix3 b l k)) = X (ix3 b l ⟨k, by omega⟩) * Ideal.rsqrt (Ideal.div (∑ x : Fin 256, X (ix3 b l ⟨x, by omega⟩) * X (ix3 b l ⟨x, by omega⟩)) (Ideal.ofBits FTy.f32 1132462080#32) + Ideal.ofBits FTy.f32 897988541#32) * g1 (ix1 k) := by
  pointwise [qn]

/-- A query lane: a dot product with a column of its head. -/
theorem qh_at (b : Fin 16) (l : Fin 4352) (h : Fin 4) (k : Fin 96) : (show EReal from qh X g1 w1 (ix4 b l h k)) = ∑ x : Fin 256, qn X g1 (ix3 b l x) * w1 (ix2 x ⟨(h : ℕ) * 96 + k, by omega⟩) := by
  pointwise [qh]

/-- The normed key latent. -/
theorem cn_at (b : Fin 16) (l : Fin 4352) (k : Fin 128) : (show EReal from cn X g2 (ix3 b l k)) = X (ix3 b l ⟨256 + k, by omega⟩) * Ideal.rsqrt (Ideal.div (∑ x : Fin 128, X (ix3 b l ⟨256 + x, by omega⟩) * X (ix3 b l ⟨256 + x, by omega⟩)) (Ideal.ofBits FTy.f32 1124073472#32) + Ideal.ofBits FTy.f32 897988541#32) * g2 (ix1 k) := by
  pointwise [cn]

/-- The first half of the rotated shared key. -/
theorem kr_lo (b : Fin 16) (l : Fin 4352) (k : Fin 32) (e : Fin 16) (hk : (k : ℕ) = e) : (show EReal from kr X (ix4 b l 0 k)) = X (ix3 b l ⟨384 + e, by omega⟩) * Ideal.cos (ang (ix2 l e)) - X (ix3 b l ⟨384 + (16 + e), by omega⟩) * Ideal.sin (ang (ix2 l e)) := by
  pointwise [kr]
  rw [dif_pos (by omega)]
  simp only [hk, Fin.eta]

/-- The second half of the rotated shared key. -/
theorem kr_hi (b : Fin 16) (l : Fin 4352) (k : Fin 32) (e : Fin 16) (hk : (k : ℕ) = 16 + e) : (show EReal from kr X (ix4 b l 0 k)) = X (ix3 b l ⟨384 + e, by omega⟩) * Ideal.sin (ang (ix2 l e)) + X (ix3 b l ⟨384 + (16 + e), by omega⟩) * Ideal.cos (ang (ix2 l e)) := by
  pointwise [kr]
  rw [dif_neg (by omega)]
  have hs : (k : ℕ) - 16 = e := by omega
  simp only [hs, Fin.eta]

/-- A key or value lane: a dot product with a column of its head. -/
theorem kv_at (b : Fin 16) (l : Fin 4352) (h : Fin 4) (k : Fin 128) : (show EReal from kv X g2 w2 (ix4 b l h k)) = ∑ x : Fin 128, cn X g2 (ix3 b l x) * w2 (ix2 x ⟨(h : ℕ) * 128 + k, by omega⟩) := by
  pointwise [kv]

/-- An unrotated query lane. -/
theorem ref0_lo (b : Fin 16) (l : Fin 4352) (h : Fin 4) (k : Fin 128) (hk : (k : ℕ) < 64) : (show EReal from ref0 X g1 w1 (ix4 b h l k)) = qh X g1 w1 (ix4 b l h ⟨k, by omega⟩) * sc := by
  pointwise [ref0]
  rw [dif_pos (by omega), dif_pos hk]

/-- The first half of the rotated query lanes. -/
theorem ref0_a (b : Fin 16) (l : Fin 4352) (h : Fin 4) (k : Fin 128) (e : Fin 16) (hk : (k : ℕ) = 64 + e) : (show EReal from ref0 X g1 w1 (ix4 b h l k)) = (qh X g1 w1 (ix4 b l h ⟨64 + e, by omega⟩) * Ideal.cos (ang (ix2 l e)) - qh X g1 w1 (ix4 b l h ⟨64 + (16 + e), by omega⟩) * Ideal.sin (ang (ix2 l e))) * sc := by
  pointwise [ref0]
  rw [dif_pos (by omega), dif_neg (by omega), dif_pos (by omega)]
  have hs : (k : ℕ) - 64 = e := by omega
  simp only [hs, Fin.eta]

/-- The second half of the rotated query lanes. -/
theorem ref0_b (b : Fin 16) (l : Fin 4352) (h : Fin 4) (k : Fin 128) (e : Fin 16) (hk : (k : ℕ) = 64 + 16 + e) : (show EReal from ref0 X g1 w1 (ix4 b h l k)) = (qh X g1 w1 (ix4 b l h ⟨64 + e, by omega⟩) * Ideal.sin (ang (ix2 l e)) + qh X g1 w1 (ix4 b l h ⟨64 + (16 + e), by omega⟩) * Ideal.cos (ang (ix2 l e))) * sc := by
  pointwise [ref0]
  rw [dif_pos (by omega), dif_neg (by omega), dif_neg (by omega)]
  have hs : (k : ℕ) - 64 - 16 = e := by omega
  simp only [hs, Fin.eta]

/-- The lanes past the query's. -/
theorem ref0_z (b : Fin 16) (l : Fin 4352) (h : Fin 4) (k : Fin 128) (hk : 96 ≤ (k : ℕ)) : (show EReal from ref0 X g1 w1 (ix4 b h l k)) = 0 := by
  pointwise [ref0]
  rw [dif_neg (by omega)]
  exact sitofp_zero

/-- An unrotated key lane. -/
theorem ref1_lo (b : Fin 16) (l : Fin 4352) (h : Fin 4) (k : Fin 128) (hk : (k : ℕ) < 64) : (show EReal from ref1 X g2 w2 (ix4 b h l k)) = kv X g2 w2 (ix4 b l h k) := by
  pointwise [ref1]
  rw [dif_pos (by omega), dif_pos hk]

/-- A lane of the shared rotated key. -/
theorem ref1_hi (b : Fin 16) (l : Fin 4352) (h : Fin 4) (k : Fin 128) (e : Fin 32) (hk : (k : ℕ) = 64 + e) : (show EReal from ref1 X g2 w2 (ix4 b h l k)) = kr X (ix4 b l 0 e) := by
  pointwise [ref1]
  rw [dif_pos (by omega), dif_neg (by omega)]
  exact congrArg (fun x => kr X (ix4 b l 0 x)) (Fin.ext (show (k : ℕ) - 64 = e by omega))

/-- The lanes past the key's. -/
theorem ref1_z (b : Fin 16) (l : Fin 4352) (h : Fin 4) (k : Fin 128) (hk : 96 ≤ (k : ℕ)) : (show EReal from ref1 X g2 w2 (ix4 b h l k)) = 0 := by
  pointwise [ref1]
  rw [dif_neg (by omega)]
  exact sitofp_zero

/-- A value lane. -/
theorem ref2_lo (b : Fin 16) (l : Fin 4352) (h : Fin 4) (k : Fin 128) (hk : (k : ℕ) < 64) : (show EReal from ref2 X g2 w2 (ix4 b h l k)) = kv X g2 w2 (ix4 b l h ⟨64 + k, by omega⟩) := by
  pointwise [ref2]
  rw [dif_pos (by omega)]

/-- The lanes past the value's. -/
theorem ref2_z (b : Fin 16) (l : Fin 4352) (h : Fin 4) (k : Fin 128) (hk : 64 ≤ (k : ℕ)) : (show EReal from ref2 X g2 w2 (ix4 b h l k)) = 0 := by
  pointwise [ref2]
  rw [dif_neg (by omega)]
  exact sitofp_zero

/-- The shared key given. -/
theorem ref4_at (b : Fin 16) (l : Fin 4352) (k : Fin 32) : (show EReal from ref4 X (ix3 b l k)) = kr X (ix4 b l 0 k) := by
  pointwise [ref4]

/-- The angles: a position (from the front's padding) times a frequency. -/
theorem ang_at (l : Fin 4352) (d : Fin 16) : (show EReal from ang (ix2 l d)) = FloatOps.sitofp (F := Ideal) .f32 (IntOp.addi 4294967248#32 (BitVec.ofNat 32 l)) * Ideal.pow (Ideal.ofBits FTy.f32 1176256512#32) (Ideal.div (-FloatOps.sitofp (F := Ideal) .f32 (BitVec.ofNat 32 d)) (Ideal.ofBits FTy.f32 1098907648#32)) := by
  pointwise [ang]

end Cert.PrepPromptRefIdeal.R
-- ==== Proof.PrepPromptP.lean ====
/- The preparation of the latent attention, for the prompts: the arrays the kernel computes on the way, at an index. -/
module

public import proofs.«01_k».proof.Proof.PrepPromptT
public import proofs.«01_k».proof.Proof.PrepPromptR
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepPromptIdeal.Value

open Cert.PrepPromptIdeal Cert.PrepPromptIdeal.Gen

/-- A rotation of four heads: the lanes times the first row of a table, the lanes sixteen on times the second, the lanes sixteen back times the third. -/
def R4 (z : FVec Ideal S256x512 .f32) (a b c : FVec Ideal S1x256x128 .f32) : FVec Ideal S256x512 .f32 :=
  addf (addf (mulf z (concatenate S256x512 1 [⟨S256x128, shapeCast S256x128 a shapeCasts_S1x256x128_S256x128⟩, ⟨S256x128, shapeCast S256x128 a shapeCasts_S1x256x128_S256x128⟩, ⟨S256x128, shapeCast S256x128 a shapeCasts_S1x256x128_S256x128⟩, ⟨S256x128, shapeCast S256x128 a shapeCasts_S1x256x128_S256x128⟩] concatenates_S256x128_S256x128_S256x128_S256x128_S256x512_d1)) (mulf (dynamicRotate 1 496#32 none z rotates_S256x512_d1) (concatenate S256x512 1 [⟨S256x128, shapeCast S256x128 b shapeCasts_S1x256x128_S256x128⟩, ⟨S256x128, shapeCast S256x128 b shapeCasts_S1x256x128_S256x128⟩, ⟨S256x128, shapeCast S256x128 b shapeCasts_S1x256x128_S256x128⟩, ⟨S256x128, shapeCast S256x128 b shapeCasts_S1x256x128_S256x128⟩] concatenates_S256x128_S256x128_S256x128_S256x128_S256x512_d1))) (mulf (dynamicRotate 1 16#32 none z rotates_S256x512_d1) (concatenate S256x512 1 [⟨S256x128, shapeCast S256x128 c shapeCasts_S1x256x128_S256x128⟩, ⟨S256x128, shapeCast S256x128 c shapeCasts_S1x256x128_S256x128⟩, ⟨S256x128, shapeCast S256x128 c shapeCasts_S1x256x128_S256x128⟩, ⟨S256x128, shapeCast S256x128 c shapeCasts_S1x256x128_S256x128⟩] concatenates_S256x128_S256x128_S256x128_S256x128_S256x512_d1))

/-- The kernel's normed query latent. -/
def zq (x0 : Vec Ideal S1x256x512 .f32) (x3 : Vec Ideal S1x256 .f32) : FVec Ideal S256x256 .f32 :=
  have v2 : FVec Ideal S256x256 .f32 := extractStridedSlice S256x256 ![0, 0] (k0_pay4 (F := Ideal) x0) slices_S256x512_o0_0_S256x256
  mulf (mulf v2 (broadcastTo S256x256 (rsqrt (addf (divf (shapeCast S256x1 (multiReduction .add [1] S256 (mulf v2 v2) 0x00000000#32 reduces_S256x256_S256 (.inl rfl) rfl) shapeCasts_S256_S256x1) (broadcast S256x1 (Scalar.ofBits .f32 0x43800000#32))) (broadcast S256x1 (Scalar.ofBits .f32 0x358637BD#32)))) broadcasts_S256x1_S256x256)) (broadcastTo S256x256 (shapeCast S1x256 x3 shapeCasts_S1x256_S1x256) broadcasts_S1x256_S256x256)

/-- Its product with the padded query weights. -/
def mq (z : FVec Ideal S256x256 .f32) (w : Vec Ideal S256x512 .bf16) : FVec Ideal S256x512 .f32 :=
  matmul dot_S256x256_S256x512_S256x512_1_0_0_1_n_n none (truncf .bf16 z bitsLt_bf16_f32) (shapeCast S256x512 w shapeCasts_S256x512_S256x512 : FVec Ideal S256x512 .bf16) (constant S256x512 .f32 0x00000000#32)

/-- The two parts of the rotated queries add to the rotation of the product. -/
theorem rot_eq (v0 : Vec Ideal S1x256x512 .f32) (v3 : Vec Ideal S1x256 .f32) (v17 : Vec Ideal S256x512 .bf16) (v20 v23 v26 : Vec Ideal S1x256x128 .f32) : addf (k0_pay6 (F := Ideal) v0 v3 v17 v20 v23) (k0_pay7 (F := Ideal) v0 v3 v17 v26) = R4 (mq (zq v0 v3) v17) v20 v23 v26 := rfl

/-- The normed query latent at a lane. -/
theorem zq_at (x0 : Vec Ideal S1x256x512 .f32) (x3 : Vec Ideal S1x256 .f32) (l : Fin 256) (k : Fin 256) : (show EReal from zq x0 x3 (ix2 l k)) = x0 (ix3 0 l ⟨k, by omega⟩) * Ideal.rsqrt (Ideal.div (∑ x : Fin 256, x0 (ix3 0 l ⟨x, by omega⟩) * x0 (ix3 0 l ⟨x, by omega⟩)) (Ideal.ofBits FTy.f32 1132462080#32) + Ideal.ofBits FTy.f32 897988541#32) * x3 (ix2 0 k) := by
  pointwise [zq, k0_pay4]

/-- The product at a lane. -/
theorem mq_at (z : FVec Ideal S256x256 .f32) (w : Vec Ideal S256x512 .bf16) (l : Fin 256) (k : Fin 512) : (show EReal from mq z w (ix2 l k)) = ∑ x : Fin 256, z (ix2 l x) * w (ix2 x k) := by
  pointwise [mq]

/-- The rotation at a lane of a head. -/
theorem R4_at (z : FVec Ideal S256x512 .f32) (a b c : FVec Ideal S1x256x128 .f32) (l : Fin 256) (h : Fin 4) (d : Fin 128) (k : Fin 512) (hk : (k : ℕ) = h * 128 + d) : (show EReal from R4 z a b c (ix2 l k)) = z (ix2 l k) * a (ix3 0 l d) + z (ix2 l ⟨((k : ℕ) + 512 - 496) % 512, by omega⟩) * b (ix3 0 l d) + z (ix2 l ⟨((k : ℕ) + 512 - 16) % 512, by omega⟩) * c (ix3 0 l d) := by
  pointwise [R4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The normed key latent at a lane. -/
theorem pay9_at (x0 : FVec Ideal S256x512 .f32) (x3 : Vec Ideal S1x128 .f32) (l : Fin 256) (k : Fin 128) : (show EReal from k0_pay9 (F := Ideal) x0 x3 (ix2 l k)) = x0 (ix2 l ⟨256 + k, by omega⟩) * Ideal.rsqrt (Ideal.div (∑ x : Fin 128, x0 (ix2 l ⟨256 + x, by omega⟩) * x0 (ix2 l ⟨256 + x, by omega⟩)) (Ideal.ofBits FTy.f32 1124073472#32) + Ideal.ofBits FTy.f32 897988541#32) * x3 (ix2 0 k) := by
  pointwise [k0_pay9]

/-- The rotated shared key at a lane. -/
theorem pay11_at (z : FVec Ideal S256x512 .f32) (a b c : Vec Ideal S1x256x128 .f32) (l : Fin 256) (k : Fin 128) : (show EReal from k0_pay11 (F := Ideal) z a b c (ix2 l k)) = z (ix2 l ⟨384 + k, by omega⟩) * a (ix3 0 l k) + z (ix2 l ⟨384 + ((k : ℕ) + 128 - 112) % 128, by omega⟩) * b (ix3 0 l k) + z (ix2 l ⟨384 + ((k : ℕ) + 128 - 16) % 128, by omega⟩) * c (ix3 0 l k) := by
  pointwise [k0_pay11]

/-- The values of a head at a lane. -/
theorem pay15_at (z : FVec Ideal S256x128 .f32) (w : Vec Ideal S128x512 .bf16) (l : Fin 256) (k : Fin 512) : (show EReal from k0_pay15 (F := Ideal) z w (ix2 l k)) = ∑ x : Fin 128, z (ix2 l x) * w (ix2 x k) := by
  pointwise [k0_pay15]

/-- Four copies side by side. -/
def cat4 (r : FVec Ideal S256x128 .f32) : FVec Ideal S256x512 .f32 :=
  concatenate S256x512 1 [⟨S256x128, r⟩, ⟨S256x128, r⟩, ⟨S256x128, r⟩, ⟨S256x128, r⟩] concatenates_S256x128_S256x128_S256x128_S256x128_S256x512_d1

/-- Their entry at a lane of one of them. -/
theorem cat4_at (r : FVec Ideal S256x128 .f32) (l : Fin 256) (h : Fin 4) (d : Fin 128) (k : Fin 512) (hk : (k : ℕ) = h * 128 + d) : (show EReal from cat4 r (ix2 l k)) = r (ix2 l d) := by
  pointwise [cat4]
  have hd : (d : ℕ) < 128 := d.isLt
  obtain ⟨h, hh⟩ := h
  replace hk : (k : ℕ) = h * 128 + d := hk
  rcases (by omega : h = 0 ∨ h = 1 ∨ h = 2 ∨ h = 3) with rfl | rfl | rfl | rfl
  · have hs : (k : ℕ) = d := by omega
    simp only [dif_pos (show (k : ℕ) < 128 by omega)]
    simp only [hs, Fin.eta]
  · have hs : (k : ℕ) - 128 = d := by omega
    simp only [dif_neg (show ¬ (k : ℕ) < 128 by omega), dif_pos (show (k : ℕ) - 128 < 128 by omega)]
    simp only [hs, Fin.eta]
  · have hs : (k : ℕ) - 128 - 128 = d := by omega
    simp only [dif_neg (show ¬ (k : ℕ) < 128 by omega), dif_neg (show ¬ (k : ℕ) - 128 < 128 by omega), dif_pos (show (k : ℕ) - 128 - 128 < 128 by omega)]
    simp only [hs, Fin.eta]
  · have hs : (k : ℕ) - 128 - 128 - 128 = d := by omega
    simp only [dif_neg (show ¬ (k : ℕ) < 128 by omega), dif_neg (show ¬ (k : ℕ) - 128 < 128 by omega), dif_neg (show ¬ (k : ℕ) - 128 - 128 < 128 by omega)]
    simp only [hs, Fin.eta]

/-- The keys: the product plus four copies of the shared key. -/
theorem pay14_eq (z r : FVec Ideal S256x128 .f32) (w : Vec Ideal S128x512 .bf16) : k0_pay14 (F := Ideal) z r w = addf (k0_pay15 (F := Ideal) z w) (cat4 (dynamicRotate 1 64#32 none r rotates_S256x128_d1)) := rfl

/-- The rotation of the shared key. -/
theorem rot_at (r : FVec Ideal S256x128 .f32) (l : Fin 256) (d : Fin 128) : (show EReal from dynamicRotate 1 64#32 none r rotates_S256x128_d1 (ix2 l d)) = r (ix2 l ⟨((d : ℕ) + 128 - 64) % 128, by omega⟩) := by
  pointwise

/-- The keys of a head at a lane: the product, plus the shared key sixty-four lanes on. -/
theorem pay14_at (z r : FVec Ideal S256x128 .f32) (w : Vec Ideal S128x512 .bf16) (l : Fin 256) (h : Fin 4) (d : Fin 128) (k : Fin 512) (hk : (k : ℕ) = h * 128 + d) : (show EReal from k0_pay14 (F := Ideal) z r w (ix2 l k)) = (∑ x : Fin 128, z (ix2 l x) * w (ix2 x k)) + r (ix2 l ⟨((d : ℕ) + 128 - 64) % 128, by omega⟩) := by
  rw [pay14_eq]
  exact congrArg₂ (fun a b : EReal => a + b) (pay15_at z w l k) ((cat4_at _ l h d k hk).trans (rot_at r l d))

/-- The loads at an index. -/
theorem ld0_at (x : Vec Ideal S1x256x512 .f32) (l : Fin 256) (k : Fin 512) : (show EReal from View.ld x r0_0 (ix3 0 l k)) = x (ix3 0 l k) := by
  have e : r0_0.emb (ix3 0 l k) = ix3 0 l k := by blk_ext
  exact congrArg x e

/-- The same of the query norm weights. -/
theorem ld1_at (x : Vec Ideal S1x256 .f32) (k : Fin 256) : (show EReal from View.ld x r0_1 (ix2 0 k)) = x (ix2 0 k) := by
  have e : r0_1.emb (ix2 0 k) = ix2 0 k := by blk_ext
  exact congrArg x e

/-- The same of the query weights. -/
theorem ld2_at (x : Vec Ideal S256x512 .bf16) (l : Fin 256) (k : Fin 512) : (show EReal from View.ld x r0_2 (ix2 l k)) = x (ix2 l k) := by
  have e : r0_2.emb (ix2 l k) = ix2 l k := by blk_ext
  exact congrArg x e

/-- The first row of a table. -/
theorem ld3_at (x : Vec Ideal S3x256x128 .f32) (l : Fin 256) (k : Fin 128) : (show EReal from View.ld x r0_3 (ix3 0 l k)) = x (ix3 0 l k) := by
  have e : r0_3.emb (ix3 0 l k) = ix3 0 l k := by blk_ext
  exact congrArg x e

/-- The second row of a table. -/
theorem ld4_at (x : Vec Ideal S3x256x128 .f32) (l : Fin 256) (k : Fin 128) : (show EReal from View.ld x r0_4 (ix3 0 l k)) = x (ix3 1 l k) := by
  have e : r0_4.emb (ix3 0 l k) = ix3 1 l k := by blk_ext
  exact congrArg x e

/-- The third row of a table. -/
theorem ld5_at (x : Vec Ideal S3x256x128 .f32) (l : Fin 256) (k : Fin 128) : (show EReal from View.ld x r0_5 (ix3 0 l k)) = x (ix3 2 l k) := by
  have e : r0_5.emb (ix3 0 l k) = ix3 2 l k := by blk_ext
  exact congrArg x e

/-- The key norm weights. -/
theorem ld6_at (x : Vec Ideal S1x128 .f32) (k : Fin 128) : (show EReal from View.ld x r0_6 (ix2 0 k)) = x (ix2 0 k) := by
  have e : r0_6.emb (ix2 0 k) = ix2 0 k := by blk_ext
  exact congrArg x e

/-- The key and value weights. -/
theorem ld9_at (x : Vec Ideal S128x512 .bf16) (l : Fin 128) (k : Fin 512) : (show EReal from View.ld x r0_9 (ix2 l k)) = x (ix2 l k) := by
  have e : r0_9.emb (ix2 l k) = ix2 l k := by blk_ext
  exact congrArg x e

variable (m : (ℓ : Loc nD τ sig) → Buf (Elt Ideal) ℓ) (c : Dev nD) (t : Fin cfg0.N)

/-- Which block of its array each window has at a grid point. -/
theorem idx : ∀ t : Fin cfg0.N, win0_0.index t = ![t.val / 17, t.val % 17, 0] ∧ win0_1.index t = ![0, t.val % 17, 0] ∧ win0_2.index t = ![0, t.val % 17, 0]
    ∧ win0_3.index t = ![0, 0] ∧ win0_4.index t = ![0, 0] ∧ win0_5.index t = ![0, 0] ∧ win0_6.index t = ![0, 0] ∧ win0_7.index t = ![0, 0]
    ∧ win0_8.index t = ![t.val / 17, 0, t.val % 17, 0] ∧ win0_9.index t = ![t.val / 17, 0, t.val % 17, 0] ∧ win0_10.index t = ![t.val / 17, 0, t.val % 17, 0]
    ∧ win0_11.index t = ![t.val / 17, t.val % 17, 0] ∧ win0_12.index t = ![t.val / 17, t.val % 17, 0] :=
  (by decide +kernel : ∀ t : Fin grid0.N, _)

/-- There are as many grid points as blocks. -/
theorem lt_N (t : Fin cfg0.N) : t.val < 272 := lt_of_lt_of_eq t.isLt N_0

/-- The stream a grid point works on. -/
abbrev st (t : Fin cfg0.N) : Fin 16 := ⟨t.val / 17, by have := lt_N t; omega⟩

/-- The position a row of its block has. -/
abbrev po (t : Fin cfg0.N) (l : Fin 256) : Fin 4352 := ⟨t.val % 17 * 256 + l, by omega⟩

/-- The input block at an index. -/
theorem b0 (l : Fin 256) (k : Fin 512) : (show EReal from iblk m c 0 t (ix3 0 l k)) = arg0 m c (ix3 (st t) (po t l) k) := by
  blk_ext [iblk, V, idx t]
/-- The query table as a block. -/
theorem b1 (r : Fin 3) (l : Fin 256) (k : Fin 128) : (show EReal from iblk m c 1 t (ix3 r l k)) = tabQ (ix3 r (po t l) k) := by
  rw [← tq_eq m c]; blk_ext [iblk, idx t]
/-- The key table as a block. -/
theorem b2 (r : Fin 3) (l : Fin 256) (k : Fin 128) : (show EReal from iblk m c 2 t (ix3 r l k)) = tabK (ix3 r (po t l) k) := by
  rw [← tk_eq m c]; blk_ext [iblk, idx t]
/-- The query norm weights as a block. -/
theorem b3 (k : Fin 256) : (show EReal from iblk m c 3 t (ix2 0 k)) = arg1 m c (ix1 k) := by
  rw [← g1_at m c]; blk_ext [iblk, idx t]
/-- The key norm weights as a block. -/
theorem b4 (k : Fin 128) : (show EReal from iblk m c 4 t (ix2 0 k)) = arg2 m c (ix1 k) := by
  rw [← g2_at m c]; blk_ext [iblk, idx t]
/-- The query weights as a block. -/
theorem b5 (l : Fin 256) (k : Fin 512) : (show EReal from iblk m c 5 t (ix2 l k)) = V m c main_v61 (ix2 l k) := by
  blk_ext [iblk, idx t]
/-- The key weights as a block. -/
theorem b6 (l : Fin 128) (k : Fin 512) : (show EReal from iblk m c 6 t (ix2 l k)) = V m c main_v65 (ix2 l k) := by
  blk_ext [iblk, idx t]
/-- The value weights as a block. -/
theorem b7 (l : Fin 128) (k : Fin 512) : (show EReal from iblk m c 7 t (ix2 l k)) = V m c main_v69 (ix2 l k) := by
  blk_ext [iblk, idx t]

end Cert.PrepPromptIdeal.Value
-- ==== Proof.PrepPromptV.lean ====
/- The preparation of the latent attention, for the prompts: the five arrays the call writes are the reference's. -/
module

public import proofs.«01_k».proof.Proof.PrepPromptP
public import proofs.«01_k».proof.Proof.PrepPromptR
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepPromptIdeal.Value

open Cert.PrepPromptIdeal Cert.PrepPromptIdeal.Gen

/-- The kernel takes the front's padding off a position, the reference adds its negative. -/
theorem pos_eq (l : ℕ) : IntOp.subi (BitVec.ofNat 32 l) 48#32 = IntOp.addi 4294967248#32 (BitVec.ofNat 32 l) := by
  show BitVec.ofNat 32 l - 48#32 = 4294967248#32 + BitVec.ofNat 32 l
  rw [BitVec.sub_eq_add_neg, BitVec.add_comm]
  rfl

/-- The reference's angles are the kernel's. -/
theorem ang_eq (l : Fin 4352) (e : Fin 16) : (show EReal from angA (ix2 l e)) = Cert.PrepPromptRefIdeal.R.ang (ix2 l e) :=
  Eq.trans (b := (show EReal from FloatOps.sitofp (F := Ideal) .f32 (IntOp.subi (BitVec.ofNat 32 l) 48#32)) * _) (by pointwise [angA]) ((congrArg (fun p => (show EReal from FloatOps.sitofp (F := Ideal) .f32 p) * _) (pos_eq l)).trans (Cert.PrepPromptRefIdeal.R.ang_at l e).symm)

/-- The input block without its leading axis. -/
theorem pay4_at (v : Vec Ideal S1x256x512 .f32) (l : Fin 256) (k : Fin 512) : (show EReal from k0_pay4 (F := Ideal) v (ix2 l k)) = v (ix3 0 l k) := by
  pointwise [k0_pay4]

/-- The queries scaled. -/
theorem pay8_at (a b r : FVec Ideal S256x512 .f32) (h : addf a b = r) (l : Fin 256) (k : Fin 512) : (show EReal from k0_pay8 (F := Ideal) a b (ix2 l k)) = r (ix2 l k) * Cert.PrepPromptRefIdeal.R.sc := by
  subst h
  pointwise [k0_pay8]

variable (m : (ℓ : Loc nD τ sig) → Buf (Elt Ideal) ℓ) (c : Dev nD) (t : Fin cfg0.N)

/-- The input a grid point loads. -/
theorem xE (l : Fin 256) (k : Fin 512) : (show EReal from View.ld (iblk m c 0 t) r0_0 (ix3 0 l k)) = arg0 m c (ix3 (st t) (po t l) k) :=
  (ld0_at _ l k).trans (b0 m c t l k)

/-- The kernel's normed query latent is the reference's. -/
theorem qnE (l : Fin 256) (k : Fin 256) : (show EReal from zq (View.ld (iblk m c 0 t) r0_0) (View.ld (iblk m c 3 t) r0_1) (ix2 l k)) = Cert.PrepPromptRefIdeal.R.qn (arg0 m c) (arg1 m c) (ix3 (st t) (po t l) k) :=
  (zq_at _ _ l k).trans ((Ideal.mul_congr (Ideal.mul_congr (xE m c t l _) (congrArg (fun s : EReal => Ideal.rsqrt (Ideal.div s (Ideal.ofBits FTy.f32 1132462080#32) + Ideal.ofBits FTy.f32 897988541#32)) (Finset.sum_congr rfl fun x _ => Ideal.mul_congr (xE m c t l _) (xE m c t l _)))) ((ld1_at _ k).trans (b3 m c t k))).trans (Cert.PrepPromptRefIdeal.R.qn_at _ _ (st t) (po t l) k).symm)

/-- The kernel's queries before the rotation. -/
abbrev zz : FVec Ideal S256x512 .f32 := mq (zq (View.ld (iblk m c 0 t) r0_0) (View.ld (iblk m c 3 t) r0_1)) (View.ld (iblk m c 5 t) r0_2)

/-- On the lanes of a head they are the reference's, -/
theorem zE_in (l : Fin 256) (n : Fin 512) (h : Fin 4) (j : Fin 96) (hn : (n : ℕ) = h * 128 + j) : (show EReal from zz m c t (ix2 l n)) = Cert.PrepPromptRefIdeal.R.qh (arg0 m c) (arg1 m c) (arg3 m c) (ix4 (st t) (po t l) h j) :=
  (mq_at _ _ l n).trans ((Finset.sum_congr rfl fun x _ => Ideal.mul_congr (qnE m c t l x) ((ld2_at _ x n).trans ((b5 m c t x n).trans (wq_in m c x n h j hn)))).trans (Cert.PrepPromptRefIdeal.R.qh_at _ _ _ (st t) (po t l) h j).symm)

/-- and past them zero. -/
theorem zE_out (l : Fin 256) (n : Fin 512) (hn : 96 ≤ (n : ℕ) % 128) : (show EReal from zz m c t (ix2 l n)) = 0 :=
  (mq_at _ _ l n).trans (Finset.sum_eq_zero fun x _ => (Ideal.mul_congr rfl ((ld2_at _ x n).trans ((b5 m c t x n).trans (wq_out m c x n hn)))).trans (mul_zero _))

/-- A sum of three products, term by term. -/
theorem three {a a' b b' d d' x x' y y' z z' : EReal} (h1 : a = a') (h2 : x = x') (h3 : b = b') (h4 : y = y') (h5 : d = d') (h6 : z = z') : a * x + b * y + d * z = a' * x' + b' * y' + d' * z' := by
  subst h1 h2 h3 h4 h5 h6; rfl

/-- The kernel's queries are the reference's. -/
theorem qE (l : Fin 256) (h : Fin 4) (d : Fin 128) (n : Fin 512) (hn : (n : ℕ) = h * 128 + d) :
    (show EReal from k0_pay28 (F := Ideal) (iblk m c 0 t) (iblk m c 1 t) (iblk m c 2 t) (iblk m c 3 t) (iblk m c 4 t) (iblk m c 5 t) (iblk m c 6 t) (iblk m c 7 t) (ix2 l n)) = Cert.PrepPromptRefIdeal.R.ref0 (arg0 m c) (arg1 m c) (arg3 m c) (ix4 (st t) h (po t l) d) := by
  refine (pay8_at _ _ _ (rot_eq (View.ld (iblk m c 0 t) r0_0) (View.ld (iblk m c 3 t) r0_1) (View.ld (iblk m c 5 t) r0_2) (View.ld (iblk m c 1 t) r0_3) (View.ld (iblk m c 1 t) r0_4) (View.ld (iblk m c 1 t) r0_5)) l n).trans (Eq.trans (congrArg (fun x : EReal => x * Cert.PrepPromptRefIdeal.R.sc) (R4_at (zz m c t) (View.ld (iblk m c 1 t) r0_3) (View.ld (iblk m c 1 t) r0_4) (View.ld (iblk m c 1 t) r0_5) l h d n hn)) ?_)
  have hA := (ld3_at (iblk m c 1 t) l d).trans (b1 m c t 0 l d)
  have hB := (ld4_at (iblk m c 1 t) l d).trans (b1 m c t 1 l d)
  have hC := (ld5_at (iblk m c 1 t) l d).trans (b1 m c t 2 l d)
  have hd : (d : ℕ) < 128 := d.isLt
  have hh : (h : ℕ) < 4 := h.isLt
  rcases (by omega : (d : ℕ) < 64 ∨ (64 ≤ (d : ℕ) ∧ (d : ℕ) < 80) ∨ (80 ≤ (d : ℕ) ∧ (d : ℕ) < 96) ∨ 96 ≤ (d : ℕ)) with h1 | h1 | h1 | h1
  · refine Eq.trans (congrArg (fun x : EReal => x * Cert.PrepPromptRefIdeal.R.sc) ?_) (Cert.PrepPromptRefIdeal.R.ref0_lo _ _ _ (st t) (po t l) h d h1).symm
    refine (three (zE_in m c t l n h ⟨d, by omega⟩ hn) (hA.trans (tq0_lo (po t l) d h1)) rfl (hB.trans (tq1_z (po t l) d (by omega))) rfl (hC.trans (tq2_z (po t l) d (by omega)))).trans ?_
    simp only [mul_one, mul_zero, add_zero]
  · have e : (d : ℕ) = 64 + (⟨d - 64, by omega⟩ : Fin 16) := by show (d : ℕ) = 64 + (d - 64); omega
    refine Eq.trans (congrArg (fun x : EReal => x * Cert.PrepPromptRefIdeal.R.sc) ?_) (Cert.PrepPromptRefIdeal.R.ref0_a _ _ _ (st t) (po t l) h d _ e).symm
    refine (three (zE_in m c t l n h ⟨64 + (d - 64), by omega⟩ (by show (n : ℕ) = h * 128 + (64 + (d - 64)); omega)) (hA.trans ((tq0_a (po t l) d _ e).trans (congrArg Ideal.cos (ang_eq _ _)))) (zE_in m c t l _ h ⟨64 + (16 + (d - 64)), by omega⟩ (by show ((n : ℕ) + 512 - 496) % 512 = h * 128 + (64 + (16 + (d - 64))); omega)) (hB.trans ((tq1_a (po t l) d _ e).trans (congrArg (fun x => -Ideal.sin x) (ang_eq _ _)))) rfl (hC.trans (tq2_z (po t l) d (by omega)))).trans ?_
    rw [mul_zero, add_zero, sub_eq_add_neg, mul_neg]
  · have e : (d : ℕ) = 64 + 16 + (⟨d - 80, by omega⟩ : Fin 16) := by show (d : ℕ) = 64 + 16 + (d - 80); omega
    refine Eq.trans (congrArg (fun x : EReal => x * Cert.PrepPromptRefIdeal.R.sc) ?_) (Cert.PrepPromptRefIdeal.R.ref0_b _ _ _ (st t) (po t l) h d _ e).symm
    refine (three (zE_in m c t l n h ⟨64 + (16 + (d - 80)), by omega⟩ (by show (n : ℕ) = h * 128 + (64 + (16 + (d - 80))); omega)) (hA.trans ((tq0_b (po t l) d _ e).trans (congrArg Ideal.cos (ang_eq _ _)))) rfl (hB.trans (tq1_z (po t l) d (by omega))) (zE_in m c t l _ h ⟨64 + (d - 80), by omega⟩ (by show ((n : ℕ) + 512 - 16) % 512 = h * 128 + (64 + (d - 80)); omega)) (hC.trans ((tq2_b (po t l) d _ e).trans (congrArg Ideal.sin (ang_eq _ _))))).trans ?_
    rw [mul_zero, add_zero, add_comm]
  · refine Eq.trans ?_ (Cert.PrepPromptRefIdeal.R.ref0_z _ _ _ (st t) (po t l) h d h1).symm
    refine (congrArg (fun x : EReal => x * Cert.PrepPromptRefIdeal.R.sc) (three (zE_out m c t l n (by omega)) rfl rfl (hB.trans (tq1_z (po t l) d (by omega))) rfl (hC.trans (tq2_z (po t l) d (by omega))))).trans ?_
    simp only [mul_zero, zero_mul, add_zero]

/-- The kernel's normed key latent is the reference's. -/
theorem cnE (l : Fin 256) (k : Fin 128) : (show EReal from k0_pay29 (F := Ideal) (iblk m c 0 t) (iblk m c 1 t) (iblk m c 2 t) (iblk m c 3 t) (iblk m c 4 t) (iblk m c 5 t) (iblk m c 6 t) (iblk m c 7 t) (ix2 l k)) = Cert.PrepPromptRefIdeal.R.cn (arg0 m c) (arg2 m c) (ix3 (st t) (po t l) k) :=
  have hx : ∀ k : Fin 512, (show EReal from k0_pay4 (F := Ideal) (View.ld (iblk m c 0 t) r0_0) (ix2 l k)) = arg0 m c (ix3 (st t) (po t l) k) := fun k => (pay4_at _ l k).trans (xE m c t l k)
  (pay9_at _ _ l k).trans ((Ideal.mul_congr (Ideal.mul_congr (hx _) (congrArg (fun s : EReal => Ideal.rsqrt (Ideal.div s (Ideal.ofBits FTy.f32 1124073472#32) + Ideal.ofBits FTy.f32 897988541#32)) (Finset.sum_congr rfl fun x _ => Ideal.mul_congr (hx _) (hx _)))) ((ld6_at _ k).trans (b4 m c t k))).trans (Cert.PrepPromptRefIdeal.R.cn_at _ _ (st t) (po t l) k).symm)

/-- The kernel's shared key: the reference's on its lanes, -/
theorem krE_in (l : Fin 256) (k : Fin 128) (j : Fin 32) (hk : (k : ℕ) = j) : (show EReal from k0_pay30 (F := Ideal) (iblk m c 0 t) (iblk m c 1 t) (iblk m c 2 t) (iblk m c 3 t) (iblk m c 4 t) (iblk m c 5 t) (iblk m c 6 t) (iblk m c 7 t) (ix2 l k)) = Cert.PrepPromptRefIdeal.R.kr (arg0 m c) (ix4 (st t) (po t l) 0 j) := by
  have hx : ∀ k : Fin 512, (show EReal from k0_pay4 (F := Ideal) (View.ld (iblk m c 0 t) r0_0) (ix2 l k)) = arg0 m c (ix3 (st t) (po t l) k) := fun k => (pay4_at _ l k).trans (xE m c t l k)
  have hx' : ∀ k k' : Fin 512, (k : ℕ) = k' → (show EReal from k0_pay4 (F := Ideal) (View.ld (iblk m c 0 t) r0_0) (ix2 l k)) = arg0 m c (ix3 (st t) (po t l) k') := fun k k' e => by obtain rfl := Fin.ext e; exact hx k
  have hA := (ld3_at (iblk m c 2 t) l k).trans (b2 m c t 0 l k)
  have hB := (ld4_at (iblk m c 2 t) l k).trans (b2 m c t 1 l k)
  have hC := (ld5_at (iblk m c 2 t) l k).trans (b2 m c t 2 l k)
  have hj : (j : ℕ) < 32 := j.isLt
  refine (pay11_at _ _ _ _ l k).trans ?_
  rcases (by omega : (j : ℕ) < 16 ∨ 16 ≤ (j : ℕ)) with h1 | h1
  · have e : (j : ℕ) = (⟨j, h1⟩ : Fin 16) := rfl
    refine Eq.trans ?_ (Cert.PrepPromptRefIdeal.R.kr_lo _ (st t) (po t l) j _ e).symm
    refine (three (hx' _ ⟨384 + j, by omega⟩ (by show 384 + (k : ℕ) = 384 + j; omega)) (hA.trans ((tk0_a (po t l) k ⟨j, h1⟩ hk).trans (congrArg Ideal.cos (ang_eq _ _)))) (hx' _ ⟨384 + (16 + j), by omega⟩ (by show 384 + ((k : ℕ) + 128 - 112) % 128 = 384 + (16 + j); omega)) (hB.trans ((tk1_a (po t l) k ⟨j, h1⟩ hk).trans (congrArg (fun x => -Ideal.sin x) (ang_eq _ _)))) rfl (hC.trans (tk2_z (po t l) k (by omega)))).trans ?_
    rw [mul_zero, add_zero, sub_eq_add_neg, mul_neg]
  · have e : (j : ℕ) = 16 + (⟨j - 16, by omega⟩ : Fin 16) := by show (j : ℕ) = 16 + (j - 16); omega
    refine Eq.trans ?_ (Cert.PrepPromptRefIdeal.R.kr_hi _ (st t) (po t l) j _ e).symm
    refine (three (hx' _ ⟨384 + (16 + (j - 16)), by omega⟩ (by show 384 + (k : ℕ) = 384 + (16 + (j - 16)); omega)) (hA.trans ((tk0_b (po t l) k _ (hk.trans e)).trans (congrArg Ideal.cos (ang_eq _ _)))) rfl (hB.trans (tk1_z (po t l) k (by omega))) (hx' _ ⟨384 + (j - 16), by omega⟩ (by show 384 + ((k : ℕ) + 128 - 16) % 128 = 384 + (j - 16); omega)) (hC.trans ((tk2_b (po t l) k _ (hk.trans e)).trans (congrArg Ideal.sin (ang_eq _ _))))).trans ?_
    rw [mul_zero, add_zero, add_comm]

/-- zero past them. -/
theorem krE_out (l : Fin 256) (k : Fin 128) (hk : 32 ≤ (k : ℕ)) : (show EReal from k0_pay30 (F := Ideal) (iblk m c 0 t) (iblk m c 1 t) (iblk m c 2 t) (iblk m c 3 t) (iblk m c 4 t) (iblk m c 5 t) (iblk m c 6 t) (iblk m c 7 t) (ix2 l k)) = 0 := by
  have hA := (ld3_at (iblk m c 2 t) l k).trans (b2 m c t 0 l k)
  have hB := (ld4_at (iblk m c 2 t) l k).trans (b2 m c t 1 l k)
  have hC := (ld5_at (iblk m c 2 t) l k).trans (b2 m c t 2 l k)
  refine (pay11_at _ _ _ _ l k).trans ((three rfl (hA.trans (tk0_z (po t l) k hk)) rfl (hB.trans (tk1_z (po t l) k (by omega))) rfl (hC.trans (tk2_z (po t l) k (by omega)))).trans ?_)
  simp only [mul_zero, add_zero]

/-- The kernel's keys are the reference's. -/
theorem kE (l : Fin 256) (h : Fin 4) (d : Fin 128) (n : Fin 512) (hn : (n : ℕ) = h * 128 + d) :
    (show EReal from k0_pay31 (F := Ideal) (iblk m c 0 t) (iblk m c 1 t) (iblk m c 2 t) (iblk m c 3 t) (iblk m c 4 t) (iblk m c 5 t) (iblk m c 6 t) (iblk m c 7 t) (ix2 l n)) = Cert.PrepPromptRefIdeal.R.ref1 (arg0 m c) (arg2 m c) (arg4 m c) (ix4 (st t) h (po t l) d) := by
  have hd : (d : ℕ) < 128 := d.isLt
  have hh : (h : ℕ) < 4 := h.isLt
  refine (pay14_at _ _ _ l h d n hn).trans ?_
  have hout : 64 ≤ (d : ℕ) → ∑ x : Fin 128, (show EReal from k0_pay29 (F := Ideal) (iblk m c 0 t) (iblk m c 1 t) (iblk m c 2 t) (iblk m c 3 t) (iblk m c 4 t) (iblk m c 5 t) (iblk m c 6 t) (iblk m c 7 t) (ix2 l x)) * View.ld (iblk m c 6 t) r0_9 (ix2 x n) = 0 := fun h1 =>
    Finset.sum_eq_zero fun x _ => (Ideal.mul_congr rfl ((ld9_at _ x n).trans ((b6 m c t x n).trans (wk_out m c x n (by omega))))).trans (mul_zero _)
  rcases (by omega : (d : ℕ) < 64 ∨ (64 ≤ (d : ℕ) ∧ (d : ℕ) < 96) ∨ 96 ≤ (d : ℕ)) with h1 | h1 | h1
  · refine Eq.trans (congrArg₂ (fun a b : EReal => a + b) (Finset.sum_congr rfl fun x _ => Ideal.mul_congr (cnE m c t l x) ((ld9_at _ x n).trans ((b6 m c t x n).trans (wk_in m c x n (by omega))))) (krE_out m c t l _ (by show 32 ≤ ((d : ℕ) + 128 - 64) % 128; omega))) ?_
    refine (add_zero _).trans (Eq.trans ?_ ((Cert.PrepPromptRefIdeal.R.ref1_lo _ _ _ (st t) (po t l) h d h1).trans (Cert.PrepPromptRefIdeal.R.kv_at _ _ _ (st t) (po t l) h d)).symm)
    exact Finset.sum_congr rfl fun x _ => Ideal.mul_congr rfl (congrArg (fun y => arg4 m c (ix2 x y)) (Fin.ext hn))
  · refine Eq.trans (congrArg₂ (fun a b : EReal => a + b) (hout h1.1) (krE_in m c t l _ ⟨d - 64, by omega⟩ (by show ((d : ℕ) + 128 - 64) % 128 = d - 64; omega))) ?_
    exact (zero_add _).trans (Cert.PrepPromptRefIdeal.R.ref1_hi _ _ _ (st t) (po t l) h d ⟨d - 64, by omega⟩ (by show (d : ℕ) = 64 + (d - 64); omega)).symm
  · refine Eq.trans (congrArg₂ (fun a b : EReal => a + b) (hout (by omega)) (krE_out m c t l _ (by show 32 ≤ ((d : ℕ) + 128 - 64) % 128; omega))) ?_
    exact (zero_add _).trans (Cert.PrepPromptRefIdeal.R.ref1_z _ _ _ (st t) (po t l) h d h1).symm

/-- The kernel's values are the reference's. -/
theorem vE (l : Fin 256) (h : Fin 4) (d : Fin 128) (n : Fin 512) (hn : (n : ℕ) = h * 128 + d) :
    (show EReal from k0_pay15 (F := Ideal) (k0_pay29 (F := Ideal) (iblk m c 0 t) (iblk m c 1 t) (iblk m c 2 t) (iblk m c 3 t) (iblk m c 4 t) (iblk m c 5 t) (iblk m c 6 t) (iblk m c 7 t)) (View.ld (iblk m c 7 t) r0_9) (ix2 l n)) = Cert.PrepPromptRefIdeal.R.ref2 (arg0 m c) (arg2 m c) (arg4 m c) (ix4 (st t) h (po t l) d) := by
  have hd : (d : ℕ) < 128 := d.isLt
  refine (pay15_at _ _ l n).trans ?_
  rcases (by omega : (d : ℕ) < 64 ∨ 64 ≤ (d : ℕ)) with h1 | h1
  · refine (Finset.sum_congr rfl fun x _ => Ideal.mul_congr (cnE m c t l x) ((ld9_at _ x n).trans ((b7 m c t x n).trans (wv_in m c x n h ⟨d, h1⟩ hn)))).trans ?_
    exact ((Cert.PrepPromptRefIdeal.R.ref2_lo _ _ _ (st t) (po t l) h d h1).trans (Cert.PrepPromptRefIdeal.R.kv_at _ _ _ (st t) (po t l) h _)).symm
  · refine (Finset.sum_eq_zero fun x _ => (Ideal.mul_congr rfl ((ld9_at _ x n).trans ((b7 m c t x n).trans (wv_out m c x n (by omega))))).trans (mul_zero _)).trans ?_
    exact (Cert.PrepPromptRefIdeal.R.ref2_z _ _ _ (st t) (po t l) h d h1).symm

/-- Four pieces, one per head, are an array when each is the array's head. -/
theorem canon4 (P3 P2 P1 P0 : FVec Ideal S1x1x256x128 .bf16) (G : S1x4x256x128.Idx → EReal)
    (h0 : ∀ (l : Fin 256) (d : Fin 128), (show EReal from P0 (ix4 0 0 l d)) = G (ix4 0 0 l d)) (h1 : ∀ (l : Fin 256) (d : Fin 128), (show EReal from P1 (ix4 0 0 l d)) = G (ix4 0 1 l d))
    (h2 : ∀ (l : Fin 256) (d : Fin 128), (show EReal from P2 (ix4 0 0 l d)) = G (ix4 0 2 l d)) (h3 : ∀ (l : Fin 256) (d : Fin 128), (show EReal from P3 (ix4 0 0 l d)) = G (ix4 0 3 l d)) (y : S1x4x256x128.Idx) :
    View.canon (Val := Elt Ideal) (s := S1x4x256x128) (e := .bf16) [⟨r0_13, P3⟩, ⟨r0_12, P2⟩, ⟨r0_11, P1⟩, ⟨r0_10, P0⟩] y = G y := by
  have hc := cover0_8 (F := Ideal) P3 P2 P1 P0 y
  suffices hL : ∀ p ∈ ([⟨r0_13, P3⟩, ⟨r0_12, P2⟩, ⟨r0_11, P1⟩, ⟨r0_10, P0⟩] : List (View.Piece (Elt Ideal) S1x4x256x128 .bf16)), ∀ x : p.1.shape.Idx, p.2 x = G (p.1.emb x) by
    exact View.canon_apply_of_pieces G _ hL y hc
  intro p hp
  simp only [List.mem_cons, List.not_mem_nil, or_false] at hp
  rcases hp with rfl | rfl | rfl | rfl
  all_goals
    intro x
    idx_vars x
    obtain rfl : x0 = 0 := Subsingleton.elim _ _
    obtain rfl : x1 = 0 := Subsingleton.elim _ _
  · exact (h3 x2 x3).trans (congrArg G (Eq.symm (by blk_ext)))
  · exact (h2 x2 x3).trans (congrArg G (Eq.symm (by blk_ext)))
  · exact (h1 x2 x3).trans (congrArg G (Eq.symm (by blk_ext)))
  · exact (h0 x2 x3).trans (congrArg G (Eq.symm (by blk_ext)))

/-- The head a piece stores. -/
theorem pay16_at (v : FVec Ideal S256x512 .f32) (l : Fin 256) (d : Fin 128) : (show EReal from k0_pay16 (F := Ideal) v (ix4 0 0 l d)) = v (ix2 l ⟨d, by omega⟩) := by
  pointwise [k0_pay16]

/-- The head a piece stores. -/
theorem pay20_at (v : FVec Ideal S256x512 .f32) (l : Fin 256) (d : Fin 128) : (show EReal from k0_pay20 (F := Ideal) (k0_pay19 (F := Ideal) v) (ix4 0 0 l d)) = v (ix2 l ⟨128 + d, by omega⟩) := by
  pointwise [k0_pay20, k0_pay19]

/-- The head a piece stores. -/
theorem pay23_at (v : FVec Ideal S256x512 .f32) (l : Fin 256) (d : Fin 128) : (show EReal from k0_pay23 (F := Ideal) v (ix4 0 0 l d)) = v (ix2 l ⟨256 + d, by omega⟩) := by
  pointwise [k0_pay23]

/-- The head a piece stores. -/
theorem pay1_at (v : FVec Ideal S256x512 .f32) (l : Fin 256) (d : Fin 128) : (show EReal from k0_pay1 (F := Ideal) (k0_pay26 (F := Ideal) v) (ix4 0 0 l d)) = v (ix2 l ⟨384 + d, by omega⟩) := by
  pointwise [k0_pay1, k0_pay26]

/-- The head a piece stores. -/
theorem pay24_at (v : FVec Ideal S256x512 .f32) (l : Fin 256) (d : Fin 128) : (show EReal from k0_pay24 (F := Ideal) v (ix4 0 0 l d)) = v (ix2 l ⟨256 + d, by omega⟩) := by
  pointwise [k0_pay24]

/-- The head a piece stores. -/
theorem pay2_at (v : FVec Ideal S256x512 .f32) (l : Fin 256) (d : Fin 128) : (show EReal from k0_pay2 (F := Ideal) v (ix4 0 0 l d)) = v (ix2 l ⟨384 + d, by omega⟩) := by
  pointwise [k0_pay2]

/-- The head a piece stores. -/
theorem pay22_at (v : FVec Ideal S256x512 .f32) (l : Fin 256) (d : Fin 128) : (show EReal from k0_pay22 (F := Ideal) v (ix4 0 0 l d)) = v (ix2 l ⟨128 + d, by omega⟩) := by
  pointwise [k0_pay22]

/-- The head a piece stores. -/
theorem pay25_at (v : FVec Ideal S256x512 .f32) (l : Fin 256) (d : Fin 128) : (show EReal from k0_pay25 (F := Ideal) v (ix4 0 0 l d)) = v (ix2 l ⟨256 + d, by omega⟩) := by
  pointwise [k0_pay25]

/-- The same for the first head of the keys, -/
theorem pay17_at (z r : FVec Ideal S256x128 .f32) (w : Vec Ideal S128x512 .bf16) (l : Fin 256) (d : Fin 128) : (show EReal from k0_pay17 (F := Ideal) z r w (ix4 0 0 l d)) = k0_pay14 (F := Ideal) z r w (ix2 l ⟨d, by omega⟩) := by
  unfold k0_pay17
  generalize k0_pay14 (F := Ideal) z r w = v
  pointwise

/-- the second, -/
theorem pay21_at (v : FVec Ideal S256x512 .f32) (l : Fin 256) (d : Fin 128) : (show EReal from k0_pay21 (F := Ideal) v (ix4 0 0 l d)) = v (ix2 l ⟨128 + d, by omega⟩) := by
  pointwise [k0_pay21]

/-- the first head of the values -/
theorem pay18_at (z : FVec Ideal S256x128 .f32) (w : Vec Ideal S128x512 .bf16) (l : Fin 256) (d : Fin 128) : (show EReal from k0_pay18 (F := Ideal) z w (ix4 0 0 l d)) = k0_pay15 (F := Ideal) z w (ix2 l ⟨d, by omega⟩) := by
  unfold k0_pay18
  generalize k0_pay15 (F := Ideal) z w = v
  pointwise

/-- and the last. -/
theorem pay3_at (v : FVec Ideal S256x512 .f32) (l : Fin 256) (d : Fin 128) : (show EReal from k0_pay3 (F := Ideal) v (ix4 0 0 l d)) = v (ix2 l ⟨384 + d, by omega⟩) := by
  pointwise [k0_pay3]

/-- The normed latent as stored. -/
theorem pay10_at (x0 : FVec Ideal S256x512 .f32) (x3 : Vec Ideal S1x128 .f32) (l : Fin 256) (k : Fin 128) : (show EReal from k0_pay10 (F := Ideal) x0 x3 (ix3 0 l k)) = k0_pay9 (F := Ideal) x0 x3 (ix2 l k) := by
  unfold k0_pay10
  generalize k0_pay9 (F := Ideal) x0 x3 = v
  pointwise

/-- The shared key as stored. -/
theorem pay13_at (z : FVec Ideal S256x512 .f32) (a b c : Vec Ideal S1x256x128 .f32) (l : Fin 256) (k : Fin 32) : (show EReal from k0_pay13 (F := Ideal) (k0_pay12 (F := Ideal) z a b c) (ix3 0 l k)) = k0_pay11 (F := Ideal) z a b c (ix2 l ⟨k, by omega⟩) := by
  unfold k0_pay13 k0_pay12
  generalize k0_pay11 (F := Ideal) z a b c = v
  pointwise

/-- What a grid point leaves of the queries is the reference's. -/
theorem point8 (y : S1x4x256x128.Idx) : out0_8 (F := Ideal) (iblk m c 0 t) (iblk m c 1 t) (iblk m c 2 t) (iblk m c 3 t) (iblk m c 4 t) (iblk m c 5 t) (iblk m c 6 t) (iblk m c 7 t) y = Cert.PrepPromptRefIdeal.R.ref0 (arg0 m c) (arg1 m c) (arg3 m c) (((cfg0.win 8).blk t).view.emb y) := by
  have e : ∀ (h : Fin 4) (l : Fin 256) (d : Fin 128), ((cfg0.win 8).blk t).view.emb (ix4 0 h l d) = ix4 (st t) h (po t l) d := fun h l d => by blk_ext [idx t]
  unfold out0_8
  refine canon4 _ _ _ _ (fun y => Cert.PrepPromptRefIdeal.R.ref0 (arg0 m c) (arg1 m c) (arg3 m c) (((cfg0.win 8).blk t).view.emb y)) ?_ ?_ ?_ ?_ y
  · exact fun l d => (pay16_at _ l d).trans ((qE m c t l 0 d _ (by show (d : ℕ) = 0 * 128 + (d : ℕ); omega)).trans (congrArg (Cert.PrepPromptRefIdeal.R.ref0 (arg0 m c) (arg1 m c) (arg3 m c)) (e 0 l d).symm))
  · exact fun l d => (pay20_at _ l d).trans ((qE m c t l 1 d _ (by show 128 + (d : ℕ) = 1 * 128 + (d : ℕ); omega)).trans (congrArg (Cert.PrepPromptRefIdeal.R.ref0 (arg0 m c) (arg1 m c) (arg3 m c)) (e 1 l d).symm))
  · exact fun l d => (pay23_at _ l d).trans ((qE m c t l 2 d _ (by show 256 + (d : ℕ) = 2 * 128 + (d : ℕ); omega)).trans (congrArg (Cert.PrepPromptRefIdeal.R.ref0 (arg0 m c) (arg1 m c) (arg3 m c)) (e 2 l d).symm))
  · exact fun l d => (pay1_at _ l d).trans ((qE m c t l 3 d _ (by show 384 + (d : ℕ) = 3 * 128 + (d : ℕ); omega)).trans (congrArg (Cert.PrepPromptRefIdeal.R.ref0 (arg0 m c) (arg1 m c) (arg3 m c)) (e 3 l d).symm))

/-- The queries after the run are the reference's. -/
theorem final8 : (dats m 0 c).arrAt 8 (cfgs 0).N = Cert.PrepPromptRefIdeal.R.ref0 (arg0 m c) (arg1 m c) (arg3 m c) := by
  refine (dats m 0 c).arrAt_eq_of_covers 8 _ (by decide +kernel) fun t _ y => ?_
  blk_simp
  rw [after0_8]
  exact point8 m c t y

/-- What a grid point leaves of the keys is the reference's. -/
theorem point9 (y : S1x4x256x128.Idx) : out0_9 (F := Ideal) (iblk m c 0 t) (iblk m c 1 t) (iblk m c 2 t) (iblk m c 3 t) (iblk m c 4 t) (iblk m c 5 t) (iblk m c 6 t) (iblk m c 7 t) y = Cert.PrepPromptRefIdeal.R.ref1 (arg0 m c) (arg2 m c) (arg4 m c) (((cfg0.win 9).blk t).view.emb y) := by
  have e : ∀ (h : Fin 4) (l : Fin 256) (d : Fin 128), ((cfg0.win 9).blk t).view.emb (ix4 0 h l d) = ix4 (st t) h (po t l) d := fun h l d => by blk_ext [idx t]
  unfold out0_9
  refine canon4 _ _ _ _ (fun y => Cert.PrepPromptRefIdeal.R.ref1 (arg0 m c) (arg2 m c) (arg4 m c) (((cfg0.win 9).blk t).view.emb y)) ?_ ?_ ?_ ?_ y
  · exact fun l d => (pay17_at _ _ _ l d).trans ((kE m c t l 0 d _ (by show (d : ℕ) = 0 * 128 + (d : ℕ); omega)).trans (congrArg (Cert.PrepPromptRefIdeal.R.ref1 (arg0 m c) (arg2 m c) (arg4 m c)) (e 0 l d).symm))
  · exact fun l d => (pay21_at _ l d).trans ((kE m c t l 1 d _ (by show 128 + (d : ℕ) = 1 * 128 + (d : ℕ); omega)).trans (congrArg (Cert.PrepPromptRefIdeal.R.ref1 (arg0 m c) (arg2 m c) (arg4 m c)) (e 1 l d).symm))
  · exact fun l d => (pay24_at _ l d).trans ((kE m c t l 2 d _ (by show 256 + (d : ℕ) = 2 * 128 + (d : ℕ); omega)).trans (congrArg (Cert.PrepPromptRefIdeal.R.ref1 (arg0 m c) (arg2 m c) (arg4 m c)) (e 2 l d).symm))
  · exact fun l d => (pay2_at _ l d).trans ((kE m c t l 3 d _ (by show 384 + (d : ℕ) = 3 * 128 + (d : ℕ); omega)).trans (congrArg (Cert.PrepPromptRefIdeal.R.ref1 (arg0 m c) (arg2 m c) (arg4 m c)) (e 3 l d).symm))

/-- The keys after the run are the reference's. -/
theorem final9 : (dats m 0 c).arrAt 9 (cfgs 0).N = Cert.PrepPromptRefIdeal.R.ref1 (arg0 m c) (arg2 m c) (arg4 m c) := by
  refine (dats m 0 c).arrAt_eq_of_covers 9 _ (by decide +kernel) fun t _ y => ?_
  blk_simp
  rw [after0_9]
  exact point9 m c t y

/-- What a grid point leaves of the values is the reference's. -/
theorem point10 (y : S1x4x256x128.Idx) : out0_10 (F := Ideal) (iblk m c 0 t) (iblk m c 1 t) (iblk m c 2 t) (iblk m c 3 t) (iblk m c 4 t) (iblk m c 5 t) (iblk m c 6 t) (iblk m c 7 t) y = Cert.PrepPromptRefIdeal.R.ref2 (arg0 m c) (arg2 m c) (arg4 m c) (((cfg0.win 10).blk t).view.emb y) := by
  have e : ∀ (h : Fin 4) (l : Fin 256) (d : Fin 128), ((cfg0.win 10).blk t).view.emb (ix4 0 h l d) = ix4 (st t) h (po t l) d := fun h l d => by blk_ext [idx t]
  unfold out0_10
  refine canon4 _ _ _ _ (fun y => Cert.PrepPromptRefIdeal.R.ref2 (arg0 m c) (arg2 m c) (arg4 m c) (((cfg0.win 10).blk t).view.emb y)) ?_ ?_ ?_ ?_ y
  · exact fun l d => (pay18_at _ _ l d).trans ((vE m c t l 0 d _ (by show (d : ℕ) = 0 * 128 + (d : ℕ); omega)).trans (congrArg (Cert.PrepPromptRefIdeal.R.ref2 (arg0 m c) (arg2 m c) (arg4 m c)) (e 0 l d).symm))
  · exact fun l d => (pay22_at _ l d).trans ((vE m c t l 1 d _ (by show 128 + (d : ℕ) = 1 * 128 + (d : ℕ); omega)).trans (congrArg (Cert.PrepPromptRefIdeal.R.ref2 (arg0 m c) (arg2 m c) (arg4 m c)) (e 1 l d).symm))
  · exact fun l d => (pay25_at _ l d).trans ((vE m c t l 2 d _ (by show 256 + (d : ℕ) = 2 * 128 + (d : ℕ); omega)).trans (congrArg (Cert.PrepPromptRefIdeal.R.ref2 (arg0 m c) (arg2 m c) (arg4 m c)) (e 2 l d).symm))
  · exact fun l d => (pay3_at _ l d).trans ((vE m c t l 3 d _ (by show 384 + (d : ℕ) = 3 * 128 + (d : ℕ); omega)).trans (congrArg (Cert.PrepPromptRefIdeal.R.ref2 (arg0 m c) (arg2 m c) (arg4 m c)) (e 3 l d).symm))

/-- The values after the run are the reference's. -/
theorem final10 : (dats m 0 c).arrAt 10 (cfgs 0).N = Cert.PrepPromptRefIdeal.R.ref2 (arg0 m c) (arg2 m c) (arg4 m c) := by
  refine (dats m 0 c).arrAt_eq_of_covers 10 _ (by decide +kernel) fun t _ y => ?_
  blk_simp
  rw [after0_10]
  exact point10 m c t y

/-- One piece over a whole block is the block. -/
theorem canonA (P : FVec Ideal S1x256x128 .f32) : View.canon (Val := Elt Ideal) (s := S1x256x128) (e := .f32) [⟨r0_7, P⟩] = P :=
  View.canon_unit_zero (by funext a; fin_cases a <;> rfl) _ _

/-- The same at the other shape. -/
theorem canonB (P : FVec Ideal S1x256x32 .f32) : View.canon (Val := Elt Ideal) (s := S1x256x32) (e := .f32) [⟨r0_8, P⟩] = P :=
  View.canon_unit_zero (by funext a; fin_cases a <;> rfl) _ _

/-- What a grid point leaves of the normed key latent is the reference's. -/
theorem point11 (y : S1x256x128.Idx) : out0_11 (F := Ideal) (iblk m c 0 t) (iblk m c 1 t) (iblk m c 2 t) (iblk m c 3 t) (iblk m c 4 t) (iblk m c 5 t) (iblk m c 6 t) (iblk m c 7 t) y = Cert.PrepPromptRefIdeal.R.cn (arg0 m c) (arg2 m c) (((cfg0.win 11).blk t).view.emb y) := by
  idx_vars y
  obtain rfl : y0 = 0 := Subsingleton.elim _ _
  have e : ((cfg0.win 11).blk t).view.emb (ix3 0 y1 y2) = ix3 (st t) (po t y1) y2 := by blk_ext [idx t]
  unfold out0_11
  refine (congrFun (canonA _) _).trans ?_
  exact (pay10_at _ _ y1 y2).trans ((cnE m c t y1 y2).trans (congrArg (Cert.PrepPromptRefIdeal.R.cn (arg0 m c) (arg2 m c)) e.symm))

/-- The normed key latent after the run is the reference's. -/
theorem final11 : (dats m 0 c).arrAt 11 (cfgs 0).N = Cert.PrepPromptRefIdeal.R.cn (arg0 m c) (arg2 m c) := by
  refine (dats m 0 c).arrAt_eq_of_covers 11 _ (by decide +kernel) fun t _ y => ?_
  blk_simp
  rw [after0_11]
  exact point11 m c t y

/-- What a grid point leaves of the rotated shared key is the reference's. -/
theorem point12 (y : S1x256x32.Idx) : out0_12 (F := Ideal) (iblk m c 0 t) (iblk m c 1 t) (iblk m c 2 t) (iblk m c 3 t) (iblk m c 4 t) (iblk m c 5 t) (iblk m c 6 t) (iblk m c 7 t) y = Cert.PrepPromptRefIdeal.R.ref4 (arg0 m c) (((cfg0.win 12).blk t).view.emb y) := by
  idx_vars y
  obtain rfl : y0 = 0 := Subsingleton.elim _ _
  have e : ((cfg0.win 12).blk t).view.emb (ix3 0 y1 y2) = ix3 (st t) (po t y1) y2 := by blk_ext [idx t]
  unfold out0_12
  refine (congrFun (canonB _) _).trans ?_
  exact (pay13_at _ _ _ _ y1 y2).trans ((krE_in m c t y1 _ y2 rfl).trans ((Cert.PrepPromptRefIdeal.R.ref4_at _ (st t) (po t y1) y2).symm.trans (congrArg (Cert.PrepPromptRefIdeal.R.ref4 (arg0 m c)) e.symm)))

/-- The rotated shared key after the run is the reference's. -/
theorem final12 : (dats m 0 c).arrAt 12 (cfgs 0).N = Cert.PrepPromptRefIdeal.R.ref4 (arg0 m c) := by
  refine (dats m 0 c).arrAt_eq_of_covers 12 _ (by decide +kernel) fun t _ y => ?_
  blk_simp
  rw [after0_12]
  exact point12 m c t y

end Cert.PrepPromptIdeal.Value
-- ==== Proof.ProjPromptV.lean ====
/- The input projection, for the prompts: each of the three column groups the call writes is the group of the one product `x @ w_in`. -/
module

public import proofs.«01_k».proof.Proof.Gen.ProjPromptIdeal.Frame
public import proofs.«01_k».proof.Proof.Gen.ProjPromptRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjPromptIdeal.Value

open Cert.ProjPromptIdeal Cert.ProjPromptIdeal.Gen

variable (m : (ℓ : Loc nD τ sig) → Buf (Elt Ideal) ℓ)

/-- The run: every result array as the grid points left it, every argument as launched. -/
theorem run_blocks (g : Dev nD → PrngReg) : θ_run defs (onTc (τ := τ) (main (F := Ideal))) ⟨m, fun _ => 0, g⟩ fun r => ∀ c : Dev nD,
    r.2.mem ((c : Thread nD τ).loc main_v23_0) = (dats m 0 c).arrAt 4 cfg0.N
    ∧ r.2.mem ((c : Thread nD τ).loc main_v23_1) = (dats m 0 c).arrAt 5 cfg0.N
    ∧ r.2.mem ((c : Thread nD τ).loc main_v23_2) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨(h.1 c).1 4, (h.1 c).1 5, (h.1 c).1 6, h.2 c⟩) (θ_run_and (run_main m g) (unchanged m g))

/-- The first column group of the reference's product, padded to 512 columns. -/
def refA (X : FVec Ideal S69632x1024 .f32) (W : FVec Ideal S1024x3144 .f32) : FVec Ideal S69632x512 .f32 :=
  pad Cert.ProjPromptRefIdeal.S69632x512 ![0, 0] ![0, 96] ![0, 0] (extractStridedSlice Cert.ProjPromptRefIdeal.S69632x416 ![0, 0] (Host.dotGeneral Cert.ProjPromptRefIdeal.dot_S69632x1024_S1024x3144_S69632x3144_1_0_0_1_n_n none X W) Cert.ProjPromptRefIdeal.Gen.slices_S69632x3144_S69632x416_0_0) (sitofp .f32 (constantI Cert.ProjPromptRefIdeal.S_ 32 0#32)) Cert.ProjPromptRefIdeal.Gen.pads_S69632x416_S69632x512_000_0960 Cert.ProjPromptRefIdeal.Gen.h_S_

/-- The second column group of the reference's product: its heads padded to 128 columns each, the rest to 384. -/
def refB (X : FVec Ideal S69632x1024 .f32) (W : FVec Ideal S1024x3144 .f32) : FVec Ideal S69632x1920 .f32 :=
  concatenate Cert.ProjPromptRefIdeal.S69632x1920 1 [⟨Cert.ProjPromptRefIdeal.S69632x1536, (shapeCast _ (pad Cert.ProjPromptRefIdeal.S69632x12x128 ![0, 0, 0] ![0, 0, 64] ![0, 0, 0] (shapeCast _ (extractStridedSlice Cert.ProjPromptRefIdeal.S69632x768 ![0, 0] (extractStridedSlice Cert.ProjPromptRefIdeal.S69632x1064 ![0, 416] (Host.dotGeneral Cert.ProjPromptRefIdeal.dot_S69632x1024_S1024x3144_S69632x3144_1_0_0_1_n_n none X W) Cert.ProjPromptRefIdeal.Gen.slices_S69632x3144_S69632x1064_0_416) Cert.ProjPromptRefIdeal.Gen.slices_S69632x1064_S69632x768_0_0) Cert.ProjPromptRefIdeal.Gen.shapeCasts_S69632x768_S69632x12x64) (sitofp .f32 (constantI Cert.ProjPromptRefIdeal.S_ 32 0#32)) Cert.ProjPromptRefIdeal.Gen.pads_S69632x12x64_S69632x12x128_000_000_0640 Cert.ProjPromptRefIdeal.Gen.h_S_) Cert.ProjPromptRefIdeal.Gen.shapeCasts_S69632x12x128_S69632x1536)⟩, ⟨Cert.ProjPromptRefIdeal.S69632x384, (pad Cert.ProjPromptRefIdeal.S69632x384 ![0, 0] ![0, 88] ![0, 0] (extractStridedSlice Cert.ProjPromptRefIdeal.S69632x296 ![0, 768] (extractStridedSlice Cert.ProjPromptRefIdeal.S69632x1064 ![0, 416] (Host.dotGeneral Cert.ProjPromptRefIdeal.dot_S69632x1024_S1024x3144_S69632x3144_1_0_0_1_n_n none X W) Cert.ProjPromptRefIdeal.Gen.slices_S69632x3144_S69632x1064_0_416) Cert.ProjPromptRefIdeal.Gen.slices_S69632x1064_S69632x296_0_768) (sitofp .f32 (constantI Cert.ProjPromptRefIdeal.S_ 32 0#32)) Cert.ProjPromptRefIdeal.Gen.pads_S69632x296_S69632x384_000_0880 Cert.ProjPromptRefIdeal.Gen.h_S_)⟩] Cert.ProjPromptRefIdeal.Gen.concatenates_S69632x1536_S69632x384_S69632x1920_d1

/-- The third column group of the reference's product. -/
def refC (X : FVec Ideal S69632x1024 .f32) (W : FVec Ideal S1024x3144 .f32) : FVec Ideal S69632x1664 .f32 :=
  extractStridedSlice Cert.ProjPromptRefIdeal.S69632x1664 ![0, 1480] (Host.dotGeneral Cert.ProjPromptRefIdeal.dot_S69632x1024_S1024x3144_S69632x3144_1_0_0_1_n_n none X W) Cert.ProjPromptRefIdeal.Gen.slices_S69632x3144_S69632x1664_0_1480

/-- The index maps: a row block of the tokens, the whole of each weight. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The ideal value of the integer zero is zero. -/
theorem sitofp_zero : (FloatOps.sitofp FTy.f32 (0#32) : Ideal .f32) = (0 : EReal) := by
  show ((((0#32 : BitVec 32).toInt : ℤ) : ℝ) : EReal) = 0
  simp

/-- `w_in` as launched. -/
abbrev argW (c : Dev nD) : FVec Ideal S1024x3144 .f32 := m ((c : Thread nD τ).loc main_arg1)

/-- The tokens as launched. -/
abbrev argX (c : Dev nD) : FVec Ideal S69632x1024 .f32 := m ((c : Thread nD τ).loc main_arg0)

/-- One 256-column group of the second segment of `w_in`, as four heads of 64 columns padded to 128. -/
def heads (o : ℕ) (h : S1024x1064.Slices ![0, o] S1024x256) (W : FVec Ideal S1024x3144 .f32) : FVec Ideal S1024x512 .f32 :=
  shapeCast S1024x512 (pad S1024x4x128 ![0, 0, 0] ![0, 0, 64] ![0, 0, 0] (shapeCast S1024x4x64 (extractStridedSlice S1024x256 ![0, o] (extractStridedSlice S1024x1064 ![0, 416] W slices_S1024x3144_S1024x1064_0_416) h) shapeCasts_S1024x256_S1024x4x64) (sitofp .f32 (constantI S_ 32 0#32)) pads_S1024x4x64_S1024x4x128_000_000_0640 h_S_) shapeCasts_S1024x4x128_S1024x512

/-- The first weight as the call finds it. -/
theorem wA_eq (c : Dev nD) : V m c main_v20 = truncf .bf16 (pad S1024x512 ![0, 0] ![0, 96] ![0, 0] (extractStridedSlice S1024x416 ![0, 0] (argW m c) slices_S1024x3144_S1024x416_0_0) (sitofp .f32 (constantI S_ 32 0#32)) pads_S1024x416_S1024x512_000_0960 h_S_) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.unary, StableHlo.TRef.toBuf, StableHlo.TRef.ofBuf, cast_eq]
  after_results <;> rfl

/-- The third weight as the call finds it: the last columns of `w_in`. -/
theorem wC_eq (c : Dev nD) : V m c main_v22 = truncf .bf16 (extractStridedSlice S1024x1664 ![0, 1480] (argW m c) slices_S1024x3144_S1024x1664_0_1480) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.unary, StableHlo.TRef.toBuf, StableHlo.TRef.ofBuf, cast_eq]
  after_results <;> rfl

/-- The second weight as the call finds it. -/
theorem wB_eq (c : Dev nD) : V m c main_v21 = truncf .bf16 (concatenate S1024x1920 1 [⟨S1024x512, heads 0 slices_S1024x1064_S1024x256_0_0 (argW m c)⟩, ⟨S1024x512, heads 256 slices_S1024x1064_S1024x256_0_256 (argW m c)⟩, ⟨S1024x512, heads 512 slices_S1024x1064_S1024x256_0_512 (argW m c)⟩,
      ⟨S1024x256, extractStridedSlice S1024x256 ![0, 768] (extractStridedSlice S1024x1064 ![0, 416] (argW m c) slices_S1024x3144_S1024x1064_0_416) slices_S1024x1064_S1024x256_0_768⟩,
      ⟨S1024x128, pad S1024x128 ![0, 0] ![0, 88] ![0, 0] (extractStridedSlice S1024x40 ![0, 1024] (extractStridedSlice S1024x1064 ![0, 416] (argW m c) slices_S1024x3144_S1024x1064_0_416) slices_S1024x1064_S1024x40_0_1024) (sitofp .f32 (constantI S_ 32 0#32)) pads_S1024x40_S1024x128_000_0880 h_S_⟩]
      concatenates_S1024x512_S1024x512_S1024x512_S1024x256_S1024x128_S1024x1920_d1) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.unary, StableHlo.TRef.toBuf, StableHlo.TRef.ofBuf, cast_eq]
  after_results <;> rfl

/-- The first weight the call reads is the first 416 columns of `w_in`, padded with zeros. -/
theorem wA_at (c : Dev nD) (k : Fin 1024) (b : Fin 512) : (show EReal from V m c main_v20 (ix2 k b))
    = if h : (b : ℕ) < 416 then (argW m c (ix2 k ⟨b, by omega⟩)) else 0 := by
  rw [wA_eq]
  pointwise [sitofp_zero]

/-- The second weight the call reads: twelve heads of 64 columns, each padded to 128, then 296 columns padded to 384. -/
theorem wB_at (c : Dev nD) (k : Fin 1024) (b : Fin 1920) : (show EReal from V m c main_v21 (ix2 k b))
    = if h : (b : ℕ) < 1536 then (if h' : (b : ℕ) % 128 < 64 then (argW m c (ix2 k ⟨416 + (b / 128 * 64 + b % 128), by omega⟩)) else 0)
      else if h' : (b : ℕ) < 1832 then (argW m c (ix2 k ⟨b - 1536 + 1184, by omega⟩)) else 0 := by
  rw [wB_eq]
  pointwise [heads, sitofp_zero]
  (repeat' split) <;> first | rfl | (exfalso; omega) | (refine congrArg (fun z => argW m c (ix2 k z)) (Fin.ext ?_); simp only []; omega)

/-- The third weight the call reads is the last columns of `w_in`. -/
theorem wC_at (c : Dev nD) (k : Fin 1024) (b : Fin 1664) : (show EReal from V m c main_v22 (ix2 k b))
    = argW m c (ix2 k ⟨1480 + b, by omega⟩) := by
  rw [wC_eq]
  pointwise

/-- What a point writes of group A is the reference's group there. -/
theorem pointA (c : Dev nD) (t : Fin cfg0.N) (y) : k0_pay2 (iblk m c 0 t) (iblk m c 1 t) y
    = refA (argX m c) (argW m c) (((cfg0.win 4).blk t).view.emb y) := by
  have ht : t.val < 256 := lt_of_lt_of_eq t.isLt N_0
  idx_vars y
  have e : ((cfg0.win 4).blk t).view.emb (ix2 y0 y1) = ix2 ⟨t.val * 272 + y0, by omega⟩ y1 := by blk_ext [idx t]
  rw [e]
  pointwise [k0_pay2, k0_pay1, refA]
  have hw : ∀ k : Fin 1024, (show EReal from iblk m c 1 t (ix2 k y1)) = V m c main_v20 (ix2 k y1) := fun k => by
    blk_ext [iblk, idx t]
  have hx : ∀ k : Fin 1024, (show EReal from iblk m c 0 t (ix2 y0 k)) = argX m c (ix2 ⟨t.val * 272 + y0, by omega⟩ k) := fun k => by
    blk_ext [iblk, V, idx t]
  have h0 : (t.val * 272 + (y0 : ℕ)) < 69632 := by omega
  refine (Finset.sum_congr rfl fun k _ => Ideal.mul_congr (hx k) ((hw k).trans (wA_at m c k y1))).trans ?_
  by_cases h : (y1 : ℕ) < 416
  · simp only [dif_pos h, dif_pos (And.intro h0 h)]
  · simp only [dif_neg h, dif_neg (fun h' : _ ∧ _ => h h'.2), mul_zero, Finset.sum_const_zero, sitofp_zero]

/-- Group A after the run is the reference's. -/
theorem finalA (c : Dev nD) : (dats m 0 c).arrAt 4 (cfgs 0).N = refA (argX m c) (argW m c) := by
  refine (dats m 0 c).arrAt_eq_of_covers 4 _ (by decide +kernel) fun t _ y => ?_
  blk_simp
  rw [after0_4]; frame_out
  exact pointA m c t y

/-- What a point writes of group B is the reference's group there. -/
theorem pointB (c : Dev nD) (t : Fin cfg0.N) (y) : k0_pay3 (iblk m c 0 t) (iblk m c 2 t) y
    = refB (argX m c) (argW m c) (((cfg0.win 5).blk t).view.emb y) := by
  have ht : t.val < 256 := lt_of_lt_of_eq t.isLt N_0
  idx_vars y
  have e : ((cfg0.win 5).blk t).view.emb (ix2 y0 y1) = ix2 ⟨t.val * 272 + y0, by omega⟩ y1 := by blk_ext [idx t]
  rw [e]
  pointwise [k0_pay3, k0_pay1, refB]
  have hw : ∀ k : Fin 1024, (show EReal from iblk m c 2 t (ix2 k y1)) = V m c main_v21 (ix2 k y1) := fun k => by
    blk_ext [iblk, idx t]
  have hx : ∀ k : Fin 1024, (show EReal from iblk m c 0 t (ix2 y0 k)) = argX m c (ix2 ⟨t.val * 272 + y0, by omega⟩ k) := fun k => by
    blk_ext [iblk, V, idx t]
  have h0 : (t.val * 272 + (y0 : ℕ)) < 69632 := by omega
  refine (Finset.sum_congr rfl fun k _ => Ideal.mul_congr (hx k) ((hw k).trans (wB_at m c k y1))).trans ?_
  by_cases h : (y1 : ℕ) < 1536
  · have hd : (y1 : ℕ) / 128 < 12 := by omega
    by_cases h' : (y1 : ℕ) % 128 < 64
    · simp only [dif_pos h, dif_pos h', dif_pos (And.intro h0 (And.intro hd h'))]
    · simp only [dif_pos h, dif_neg h', dif_neg (fun q : _ ∧ _ ∧ _ => h' q.2.2), mul_zero, Finset.sum_const_zero, sitofp_zero]
  · by_cases h' : (y1 : ℕ) < 1832
    · have h2 : (y1 : ℕ) - 1536 < 296 := by omega
      simp only [dif_neg h, dif_pos h', dif_pos (And.intro h0 h2)]
      refine Finset.sum_congr rfl fun k _ => congrArg (fun z => _ * argW m c (ix2 k z)) (Fin.ext ?_)
      simp only []; omega
    · have h2 : ¬ (y1 : ℕ) - 1536 < 296 := by omega
      simp only [dif_neg h, dif_neg h', dif_neg (fun q : _ ∧ _ => h2 q.2), mul_zero, Finset.sum_const_zero, sitofp_zero]

/-- Group B after the run is the reference's. -/
theorem finalB (c : Dev nD) : (dats m 0 c).arrAt 5 (cfgs 0).N = refB (argX m c) (argW m c) := by
  refine (dats m 0 c).arrAt_eq_of_covers 5 _ (by decide +kernel) fun t _ y => ?_
  blk_simp
  rw [after0_5]; frame_out
  exact pointB m c t y

/-- What a point writes of group C is the reference's group there. -/
theorem pointC (c : Dev nD) (t : Fin cfg0.N) (y) : k0_pay4 (iblk m c 0 t) (iblk m c 3 t) y
    = refC (argX m c) (argW m c) (((cfg0.win 6).blk t).view.emb y) := by
  have ht : t.val < 256 := lt_of_lt_of_eq t.isLt N_0
  idx_vars y
  have e : ((cfg0.win 6).blk t).view.emb (ix2 y0 y1) = ix2 ⟨t.val * 272 + y0, by omega⟩ y1 := by blk_ext [idx t]
  rw [e]
  pointwise [k0_pay4, k0_pay1, refC]
  have hw : ∀ k : Fin 1024, (show EReal from iblk m c 3 t (ix2 k y1)) = V m c main_v22 (ix2 k y1) := fun k => by
    blk_ext [iblk, idx t]
  have hx : ∀ k : Fin 1024, (show EReal from iblk m c 0 t (ix2 y0 k)) = argX m c (ix2 ⟨t.val * 272 + y0, by omega⟩ k) := fun k => by
    blk_ext [iblk, V, idx t]
  have h0 : (t.val * 272 + (y0 : ℕ)) < 69632 := by omega
  refine (Finset.sum_congr rfl fun k _ => Ideal.mul_congr (hx k) ((hw k).trans (wC_at m c k y1))).trans ?_
  rfl

/-- Group C after the run is the reference's. -/
theorem finalC (c : Dev nD) : (dats m 0 c).arrAt 6 (cfgs 0).N = refC (argX m c) (argW m c) := by
  refine (dats m 0 c).arrAt_eq_of_covers 6 _ (by decide +kernel) fun t _ y => ?_
  blk_simp
  rw [after0_6]; frame_out
  exact pointC m c t y

end Cert.ProjPromptIdeal.Value
-- ==== Proof.MoePromptV.lean ====
/- The mixture of experts and its layer norm, for the prompts: at each tile of rows the accumulator sums the experts one by one, and the last expert's point normalizes and zeroes the rows outside the stream. -/
module

public import proofs.«01_k».proof.Proof.Gen.MoePromptIdeal.Value
public import proofs.«01_k».proof.Proof.Gen.MoePromptRefIdeal.Run
public import proofs.«01_k».proof.Pre_moe_prompt_ok
public import Idealize.ShloMosaic.Lib.ReduceAll
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoePromptIdeal.Value

open Cert.MoePromptIdeal Cert.MoePromptIdeal.Gen

variable (m : (ℓ : Loc nD τ sig) → Buf (Elt Ideal) ℓ)

/-- The hidden projections of every token by every expert, by expert, token and lane. -/
def refU (U : FVec Ideal S16x1024x256 .f32) (X : FVec Ideal S69632x1024 .f32) : FVec Ideal Cert.MoePromptRefIdeal.S16x69632x256 .f32 :=
  transpose Cert.MoePromptRefIdeal.S16x69632x256 [0, 2, 1] (Host.dotGeneral Cert.MoePromptRefIdeal.dot_S16x1024x256_S69632x1024_S16x256x69632_1_1_02_0_n_n none U X) Cert.MoePromptRefIdeal.Gen.transposes_S16x256x69632_S16x69632x256_0_2_1

/-- The logistic of an array, as the reference computes it. -/
def refS (H : FVec Ideal Cert.MoePromptRefIdeal.S16x69632x256 .f32) : FVec Ideal Cert.MoePromptRefIdeal.S16x69632x256 .f32 :=
  Host.divf (broadcastInDim Cert.MoePromptRefIdeal.S16x69632x256 ![] Cert.MoePromptRefIdeal.Gen.bcast_S_S16x69632x256 (constant Cert.MoePromptRefIdeal.S_ .f32 0x3F800000#32)) (addf (broadcastInDim Cert.MoePromptRefIdeal.S16x69632x256 ![] Cert.MoePromptRefIdeal.Gen.bcast_S_S16x69632x256 (constant Cert.MoePromptRefIdeal.S_ .f32 0x3F800000#32)) (Host.exp (Host.negf H)))

/-- The sum over the experts of the gated outputs. -/
def refY (X : FVec Ideal S69632x1024 .f32) (D : FVec Ideal S69632x128 .f32) (A B : FVec Ideal S16x1024x256 .f32) (W : FVec Ideal S16x256x1024 .f32) : FVec Ideal S69632x1024 .f32 :=
  Host.reduceAdd (mulf (broadcastInDim Cert.MoePromptRefIdeal.S16x69632x1024 ![0, 1, 2] Cert.MoePromptRefIdeal.Gen.bcast_S16x69632x1_S16x69632x1024_0_1_2 (broadcastInDim Cert.MoePromptRefIdeal.S16x69632x1 ![0, 1] Cert.MoePromptRefIdeal.Gen.bcast_S16x69632_S16x69632x1_0_1 (transpose Cert.MoePromptRefIdeal.S16x69632 [1, 0] (extractStridedSlice Cert.MoePromptRefIdeal.S69632x16 ![0, 0] D Cert.MoePromptRefIdeal.Gen.slices_S69632x128_S69632x16_0_0) Cert.MoePromptRefIdeal.Gen.transposes_S69632x16_S16x69632_1_0))) (Host.dotGeneral Cert.MoePromptRefIdeal.dot_S16x69632x256_S16x256x1024_S16x69632x1024_2_1_1_2_0_0 none (mulf (mulf (refU A X) (refS (refU A X))) (refU B X)) W)) (constant Cert.MoePromptRefIdeal.S_ .f32 0x00000000#32) Cert.MoePromptRefIdeal.Gen.reducesTo_S16x69632x1024_S69632x1024_d0 Cert.MoePromptRefIdeal.Gen.h_S_

/-- What the reference normalizes. -/
def refZ (X Y : FVec Ideal S69632x1024 .f32) : FVec Ideal S69632x1024 .f32 :=
  addf (mulf (broadcastInDim Cert.MoePromptRefIdeal.S69632x1024 ![] Cert.MoePromptRefIdeal.Gen.bcast_S_S69632x1024 (constant Cert.MoePromptRefIdeal.S_ .f32 0x3FD744FD#32)) X) Y

/-- An array less its row means, as the reference computes it. -/
def refD (Z : FVec Ideal S69632x1024 .f32) : FVec Ideal S69632x1024 .f32 :=
  subf Z (broadcastInDim Cert.MoePromptRefIdeal.S69632x1024 ![0, 1] Cert.MoePromptRefIdeal.Gen.bcast_S69632x1_S69632x1024_0_1 (Host.divf (broadcastInDim Cert.MoePromptRefIdeal.S69632x1 ![0] Cert.MoePromptRefIdeal.Gen.bcast_S69632_S69632x1_0 (Host.reduceAdd Z (constant Cert.MoePromptRefIdeal.S_ .f32 0x00000000#32) Cert.MoePromptRefIdeal.Gen.reducesTo_S69632x1024_S69632_d1 Cert.MoePromptRefIdeal.Gen.h_S_)) (broadcastInDim Cert.MoePromptRefIdeal.S69632x1 ![] Cert.MoePromptRefIdeal.Gen.bcast_S_S69632x1 (constant Cert.MoePromptRefIdeal.S_ .f32 0x44800000#32))))

/-- The layer norm of centred rows `D`, as the reference computes it. -/
def refN (D : FVec Ideal S69632x1024 .f32) (S B : FVec Ideal S1024 .f32) : FVec Ideal S69632x1024 .f32 :=
  addf (mulf (mulf D (broadcastInDim Cert.MoePromptRefIdeal.S69632x1024 ![0, 1] Cert.MoePromptRefIdeal.Gen.bcast_S69632x1_S69632x1024_0_1 (Host.rsqrt (addf (Host.divf (broadcastInDim Cert.MoePromptRefIdeal.S69632x1 ![0] Cert.MoePromptRefIdeal.Gen.bcast_S69632_S69632x1_0 (Host.reduceAdd (mulf D D) (constant Cert.MoePromptRefIdeal.S_ .f32 0x00000000#32) Cert.MoePromptRefIdeal.Gen.reducesTo_S69632x1024_S69632_d1 Cert.MoePromptRefIdeal.Gen.h_S_)) (broadcastInDim Cert.MoePromptRefIdeal.S69632x1 ![] Cert.MoePromptRefIdeal.Gen.bcast_S_S69632x1 (constant Cert.MoePromptRefIdeal.S_ .f32 0x44800000#32))) (broadcastInDim Cert.MoePromptRefIdeal.S69632x1 ![] Cert.MoePromptRefIdeal.Gen.bcast_S_S69632x1 (constant Cert.MoePromptRefIdeal.S_ .f32 0x3727C5AC#32)))))) (broadcastInDim Cert.MoePromptRefIdeal.S69632x1024 ![0, 1] Cert.MoePromptRefIdeal.Gen.bcast_S1x1024_S69632x1024_0_1 (broadcastInDim Cert.MoePromptRefIdeal.S1x1024 ![1] Cert.MoePromptRefIdeal.Gen.bcast_S1024_S1x1024_1 S))) (broadcastInDim Cert.MoePromptRefIdeal.S69632x1024 ![0, 1] Cert.MoePromptRefIdeal.Gen.bcast_S1x1024_S69632x1024_0_1 (broadcastInDim Cert.MoePromptRefIdeal.S1x1024 ![1] Cert.MoePromptRefIdeal.Gen.bcast_S1024_S1x1024_1 B))

/-- The mask of the rows: an array where the row of its stream is a token, zero elsewhere, as the reference computes it. -/
def refM (N : FVec Ideal S69632x1024 .f32) : FVec Ideal S69632x1024 .f32 :=
  shapeCast _ (select (broadcastInDim Cert.MoePromptRefIdeal.S16x4352x1024 ![0, 1, 2] Cert.MoePromptRefIdeal.Gen.bcast_S1x4352x1_S16x4352x1024_0_1_2 (broadcastInDim Cert.MoePromptRefIdeal.S1x4352x1 ![1] Cert.MoePromptRefIdeal.Gen.bcast_S4352_S1x4352x1_1 (andi (cmpi .sge (iotaInDim Cert.MoePromptRefIdeal.S4352 32 0) (broadcastInDim Cert.MoePromptRefIdeal.S4352 ![] Cert.MoePromptRefIdeal.Gen.bcast_S_S4352 (constantI Cert.MoePromptRefIdeal.S_ 32 48#32))) (cmpi .slt (iotaInDim Cert.MoePromptRefIdeal.S4352 32 0) (broadcastInDim Cert.MoePromptRefIdeal.S4352 ![] Cert.MoePromptRefIdeal.Gen.bcast_S_S4352 (constantI Cert.MoePromptRefIdeal.S_ 32 4160#32)))))) (shapeCast Cert.MoePromptRefIdeal.S16x4352x1024 N Cert.MoePromptRefIdeal.Gen.shapeCasts_S69632x1024_S16x4352x1024) (broadcastInDim Cert.MoePromptRefIdeal.S16x4352x1024 ![] Cert.MoePromptRefIdeal.Gen.bcast_S_S16x4352x1024 (constant Cert.MoePromptRefIdeal.S_ .f32 0x00000000#32))) Cert.MoePromptRefIdeal.Gen.shapeCasts_S16x4352x1024_S69632x1024

/-- The named result of the reference is these pieces. -/
theorem ref_eq (m' : (ℓ : Loc Cert.MoePromptRefIdeal.nD Cert.MoePromptRefIdeal.τ Cert.MoePromptRefIdeal.sig) → Buf (Elt Ideal) ℓ) (c : Dev Cert.MoePromptRefIdeal.nD) :
    Cert.MoePromptRefIdeal.Value.res_main_v49 m' c = refM (refN (refD (refZ (m' ((c.tc : Thread Cert.MoePromptRefIdeal.nD Cert.MoePromptRefIdeal.τ).loc Cert.MoePromptRefIdeal.main_arg0)) (refY (m' ((c.tc : Thread Cert.MoePromptRefIdeal.nD Cert.MoePromptRefIdeal.τ).loc Cert.MoePromptRefIdeal.main_arg0)) (m' ((c.tc : Thread Cert.MoePromptRefIdeal.nD Cert.MoePromptRefIdeal.τ).loc Cert.MoePromptRefIdeal.main_arg1)) (m' ((c.tc : Thread Cert.MoePromptRefIdeal.nD Cert.MoePromptRefIdeal.τ).loc Cert.MoePromptRefIdeal.main_arg2)) (m' ((c.tc : Thread Cert.MoePromptRefIdeal.nD Cert.MoePromptRefIdeal.τ).loc Cert.MoePromptRefIdeal.main_arg3)) (m' ((c.tc : Thread Cert.MoePromptRefIdeal.nD Cert.MoePromptRefIdeal.τ).loc Cert.MoePromptRefIdeal.main_arg4))))) (m' ((c.tc : Thread Cert.MoePromptRefIdeal.nD Cert.MoePromptRefIdeal.τ).loc Cert.MoePromptRefIdeal.main_arg5)) (m' ((c.tc : Thread Cert.MoePromptRefIdeal.nD Cert.MoePromptRefIdeal.τ).loc Cert.MoePromptRefIdeal.main_arg6))) := rfl

/-- Whether row `p` of a stream is a token: the bit both programs select by. -/
def bit (p : ℕ) : BitVec 1 := IntOp.andi (IntOp.cmpi .sge (BitVec.ofNat 32 p) 48#32) (IntOp.cmpi .slt (BitVec.ofNat 32 p) 4160#32)

/-- The reference's mask of one entry. -/
theorem refM_at (N : FVec Ideal S69632x1024 .f32) (p : Fin 69632) (k : Fin 1024) : (refM N (ix2 p k) : EReal) = Scalar.select (bit (p % 4352)) (N (ix2 p k) : EReal) 0 := by
  pointwise [refM, bit]

/-- What the kernel normalizes, of its blocks. -/
def kerZ (X Y : FVec Ideal S1088x1024 .f32) : FVec Ideal S1088x1024 .f32 :=
  addf (mulf (broadcast S1088x1024 (Scalar.ofBits .f32 0x3FD744FD#32 : Ideal .f32)) X) Y

/-- An array less its row means, as the kernel computes it. -/
def kerD (Z : FVec Ideal S1088x1024 .f32) : FVec Ideal S1088x1024 .f32 :=
  subf Z (broadcastTo S1088x1024 (divf (shapeCast S1088x1 (multiReduction .add [1] S1088 Z 0x00000000#32 reduces_S1088x1024_S1088 (.inl rfl) rfl) shapeCasts_S1088_S1088x1) (broadcast S1088x1 (Scalar.ofBits .f32 0x44800000#32 : Ideal .f32))) broadcasts_S1088x1_S1088x1024)

/-- The layer norm of centred rows `D`, as the kernel computes it. -/
def kerN (D : FVec Ideal S1088x1024 .f32) (s b : FVec Ideal S1x1024 .f32) : FVec Ideal S1088x1024 .f32 :=
  addf (mulf (mulf D (broadcastTo S1088x1024 (rsqrt (addf (divf (shapeCast S1088x1 (multiReduction .add [1] S1088 (mulf D D) 0x00000000#32 reduces_S1088x1024_S1088 (.inl rfl) rfl) shapeCasts_S1088_S1088x1) (broadcast S1088x1 (Scalar.ofBits .f32 0x44800000#32 : Ideal .f32))) (broadcast S1088x1 (Scalar.ofBits .f32 0x3727C5AC#32 : Ideal .f32)))) broadcasts_S1088x1_S1088x1024)) (broadcastTo S1088x1024 (shapeCast S1x1024 s shapeCasts_S1x1024_S1x1024) broadcasts_S1x1024_S1088x1024)) (broadcastTo S1088x1024 (shapeCast S1x1024 b shapeCasts_S1x1024_S1x1024) broadcasts_S1x1024_S1088x1024)

/-- The kernel's last payload is these pieces. -/
theorem pay2_eq (X Y : FVec Ideal S1088x1024 .f32) (s b : FVec Ideal S1x1024 .f32) : k0_pay2 X Y s b = kerN (kerD (kerZ X Y)) s b := rfl

/-- The tile of a stream that a tile of all rows is, as the kernel computes it. -/
def tile (a : BitVec 32) : BitVec 32 :=
  Scalar.select (Scalar.andi (Scalar.xori (Scalar.cmpi .slt (Scalar.remsi a 4#32) 0#32) 0#1) (Scalar.cmpi .ne (Scalar.remsi a 4#32) 0#32)) (Scalar.addi (Scalar.remsi a 4#32) 4#32) (Scalar.remsi a 4#32)

/-- The first row of a tile in its stream. -/
theorem tile_at : ∀ i : Fin 64, Scalar.muli (tile (BitVec.ofNat 32 i)) 1088#32 = BitVec.ofNat 32 (i % 4 * 1088) := by decide +kernel

/-- The kernel's mask of one entry. -/
theorem pay1_at (v : FVec Ideal S1088x1024 .f32) (i : Fin 64) (r : Fin 1088) (k : Fin 1024) :
    (k0_pay1 v (tile (BitVec.ofNat 32 i)) 1088#32 (ix2 r k) : EReal) = Scalar.select (bit (i % 4 * 1088 + r)) (v (ix2 r k) : EReal) 0 := by
  have e : IntOp.addi (Scalar.muli (tile (BitVec.ofNat 32 i)) 1088#32) (BitVec.ofNat 32 r) = BitVec.ofNat 32 (i % 4 * 1088 + r) := by
    rw [tile_at]; exact (BitVec.ofNat_add ..).symm
  rw [bit, ← e]
  pointwise [k0_pay1]

/-- Centring a row is the same on both sides, where the rows agree. -/
theorem centred (Z : FVec Ideal S1088x1024 .f32) (Z' : FVec Ideal S69632x1024 .f32) (r : Fin 1088) (q : Fin 69632)
    (h : ∀ j, (Z (ix2 r j) : EReal) = Z' (ix2 q j)) (k : Fin 1024) : (kerD Z (ix2 r k) : EReal) = refD Z' (ix2 q k) := by
  pointwise [kerD, refD]
  simp only [h]

/-- The layer norm of a row is the same on both sides, where the centred rows and the parameters agree. -/
theorem normed (D : FVec Ideal S1088x1024 .f32) (D' : FVec Ideal S69632x1024 .f32) (s b : FVec Ideal S1x1024 .f32) (s' b' : FVec Ideal S1024 .f32) (r : Fin 1088) (q : Fin 69632)
    (h : ∀ j, (D (ix2 r j) : EReal) = D' (ix2 q j)) (hs : ∀ j : Fin 1024, (s (ix2 0 j) : EReal) = s' (ix1 j)) (hb : ∀ j : Fin 1024, (b (ix2 0 j) : EReal) = b' (ix1 j)) (k : Fin 1024) :
    (kerN D s b (ix2 r k) : EReal) = refN D' s' b' (ix2 q k) := by
  pointwise [kerN, refN]
  simp only [h, hs, hb]

/-- The index maps: one tile of the tokens and the gates, the whole of the norm's parameters; one expert's weights. -/
theorem idx : ∀ t : Fin cfg0.N, win0_0.index t = ![t.val / 16, 0] ∧ win0_1.index t = ![t.val / 16, 0] ∧ win0_2.index t = ![t.val % 16, 0, 0]
    ∧ win0_3.index t = ![t.val % 16, 0, 0] ∧ win0_4.index t = ![0, 0] ∧ win0_5.index t = ![0, 0] ∧ win0_6.index t = ![t.val / 16, 0] :=
  (by decide +kernel : ∀ t : Fin grid0.N, _)

/-- One expert's term of one entry: its hidden lanes, gated, against its down weights. -/
def part (X : FVec Ideal S69632x1024 .f32) (D : FVec Ideal S69632x128 .f32) (A B : FVec Ideal S16x1024x256 .f32) (W : FVec Ideal S16x256x1024 .f32) (q : Fin 69632) (k : Fin 1024) (e : Fin 16) : EReal :=
  ∑ f : Fin 256, (((∑ j : Fin 1024, (X (ix2 q j) : EReal) * A (ix3 e j f)) * Ideal.logistic (∑ j : Fin 1024, (X (ix2 q j) : EReal) * A (ix3 e j f)) * ∑ j : Fin 1024, (X (ix2 q j) : EReal) * B (ix3 e j f)) * D (ix2 q ⟨e, by omega⟩)) * W (ix3 e f k)

/-- A finite factor that is not negative moves into a sum. -/
theorem mul_sum_of_nonneg {n : ℕ} (g : EReal) (h0 : 0 ≤ g) (h1 : g ≠ ⊤) (f : Fin n → EReal) : g * ∑ i, f i = ∑ i, g * f i := by
  induction n with
  | zero => simp
  | succ n ih => rw [Fin.sum_univ_castSucc, Fin.sum_univ_castSucc, EReal.left_distrib_of_nonneg_of_ne_top h0 h1, ih]

/-- The reference's sum over the experts is the sum of these terms, where the gates are finite and not negative. -/
theorem refY_at (X : FVec Ideal S69632x1024 .f32) (D : FVec Ideal S69632x128 .f32) (A B : FVec Ideal S16x1024x256 .f32) (W : FVec Ideal S16x256x1024 .f32)
    (h0 : ∀ i j, (0 : EReal) ≤ D (ix2 i j)) (h1 : ∀ i j, (D (ix2 i j) : EReal) ≠ ⊤) (q : Fin 69632) (k : Fin 1024) :
    (refY X D A B W (ix2 q k) : EReal) = ∑ e : Fin 16, part X D A B W q k e := by
  pointwise [refY, refU, refS]
  refine Finset.sum_congr rfl fun e _ => ?_
  rw [mul_sum_of_nonneg _ (h0 _ _) (h1 _ _)]
  unfold part
  refine Finset.sum_congr rfl fun f _ => ?_
  have ha : ∑ j : Fin 1024, (A (ix3 e j f) : EReal) * X (ix2 q j) = ∑ j : Fin 1024, (X (ix2 q j) : EReal) * A (ix3 e j f) :=
    Finset.sum_congr rfl fun j _ => mul_comm _ _
  have hb : ∑ j : Fin 1024, (B (ix3 e j f) : EReal) * X (ix2 q j) = ∑ j : Fin 1024, (X (ix2 q j) : EReal) * B (ix3 e j f) :=
    Finset.sum_congr rfl fun j _ => mul_comm _ _
  rw [ha, hb]
  show _ * (_ * Ideal.logistic _ * _ * _) = _
  rw [← mul_assoc]
  refine congrArg (· * _) (mul_comm _ _)

/-- Summing the gates' lanes with all but one masked leaves that lane. -/
theorem gate (e : ℕ) (he : e < 16) (f : Fin 128 → EReal) :
    (∑ l : Fin 128, (Scalar.select (IntOp.cmpi CmpIPredicate.eq (BitVec.ofNat 32 (l : ℕ)) (BitVec.ofNat 32 e)) (f l) 0 : EReal)) = f ⟨e, by omega⟩ := by
  rw [Finset.sum_eq_single (⟨e, by omega⟩ : Fin 128)]
  · simp [Scalar.select, IntOp.cmpi]
  · intro l _ hl
    have hne : BitVec.ofNat 32 (l : ℕ) ≠ BitVec.ofNat 32 e := by
      intro h
      have h' := congrArg BitVec.toNat h
      simp only [BitVec.toNat_ofNat] at h'
      exact hl (Fin.ext (by simp only []; omega))
    have hb : (BitVec.ofNat 32 (l : ℕ) == BitVec.ofNat 32 e) = false := beq_eq_false_iff_ne.2 hne
    simp [Scalar.select, IntOp.cmpi, hb]
  · intro h; exact absurd (Finset.mem_univ _) h

/-- The accumulating payload adds one expert's term. -/
theorem pay5_at (i : grid0.Coords) (X : FVec Ideal S1088x1024 .bf16) (ACC : FVec Ideal S1088x1024 .f32) (GU : FVec Ideal S1x1024x512 .bf16) (DG : FVec Ideal S1088x128 .f32) (WD : FVec Ideal S1x256x1024 .bf16)
    (X' : FVec Ideal S69632x1024 .f32) (D : FVec Ideal S69632x128 .f32) (A B : FVec Ideal S16x1024x256 .f32) (W : FVec Ideal S16x256x1024 .f32) (e : Fin 16) (he : (i 1).val = e) (q : Fin 1088) (p : Fin 69632)
    (hX : ∀ j, (X (ix2 q j) : EReal) = X' (ix2 p j)) (hD : ∀ j, (DG (ix2 q j) : EReal) = D (ix2 p j))
    (hA : ∀ (j : Fin 1024) (f : Fin 256), (GU (ix3 0 j ⟨f, by omega⟩) : EReal) = A (ix3 e j f)) (hB : ∀ (j : Fin 1024) (f : Fin 256), (GU (ix3 0 j ⟨256 + f, by omega⟩) : EReal) = B (ix3 e j f))
    (hW : ∀ f k, (WD (ix3 0 f k) : EReal) = W (ix3 e f k)) (k : Fin 1024) :
    (k0_pay5 (F := Ideal) i X GU DG ACC WD (ix2 q k) : EReal) = ACC (ix2 q k) + part X' D A B W p k e := by
  pointwise [k0_pay5]
  refine Ideal.add_congr rfl ?_
  unfold part
  refine Finset.sum_congr rfl fun f _ => ?_
  simp only [hX, hA, hB, hW, he]
  rw [gate e.val e.isLt fun l => DG (ix2 q l)]
  simp only [hD]

/-- The tile and the expert of a point. -/
theorem coord : ∀ t : Fin cfg0.N, ((grid0.coords t) 0).val = t.val / 16 ∧ ((grid0.coords t) 1).val = t.val % 16 := (by decide +kernel : ∀ t : Fin grid0.N, _)

/-- The tokens, as launched. -/
abbrev argX (c : Dev nD) : FVec Ideal S69632x1024 .f32 := m ((c : Thread nD τ).loc main_arg0)

/-- The gates, as launched. -/
abbrev argD (c : Dev nD) : FVec Ideal S69632x128 .f32 := m ((c : Thread nD τ).loc main_arg1)

/-- The gate weights, as launched. -/
abbrev argA (c : Dev nD) : FVec Ideal S16x1024x256 .f32 := m ((c : Thread nD τ).loc main_arg2)

/-- The up weights, as launched. -/
abbrev argB (c : Dev nD) : FVec Ideal S16x1024x256 .f32 := m ((c : Thread nD τ).loc main_arg3)

/-- The down weights, as launched. -/
abbrev argW (c : Dev nD) : FVec Ideal S16x256x1024 .f32 := m ((c : Thread nD τ).loc main_arg4)

/-- The norm's scale, as launched. -/
abbrev argS (c : Dev nD) : FVec Ideal S1024 .f32 := m ((c : Thread nD τ).loc main_arg5)

/-- The norm's shift, as launched. -/
abbrev argG (c : Dev nD) : FVec Ideal S1024 .f32 := m ((c : Thread nD τ).loc main_arg6)

/-- The gate and up weights as the call finds them, joined. -/
theorem w1_eq (c : Dev nD) : V m c main_v1 = truncf .bf16 (concatenate S16x1024x512 2 [⟨S16x1024x256, argA m c⟩, ⟨S16x1024x256, argB m c⟩] concatenates_S16x1024x256_S16x1024x256_S16x1024x512_d2) bitsLt_bf16_f32 := by
  unfold V
  simp only [hostOps0, StableHlo.reshape]
  after_results <;> rfl

/-- The down weights as the call finds them. -/
theorem w2_eq (c : Dev nD) : V m c main_v2 = truncf .bf16 (argW m c) bitsLt_bf16_f32 := by
  unfold V
  simp only [hostOps0, StableHlo.reshape]
  after_results <;> rfl

/-- A parameter of the norm as one row, as the call finds it. -/
theorem w3_eq (c : Dev nD) : V m c main_v3 = shapeCast S1x1024 (argS m c) shapeCasts_S1024_S1x1024 := by
  unfold V
  simp only [hostOps0, StableHlo.reshape]
  after_results <;> rfl

/-- A parameter of the norm as one row, as the call finds it. -/
theorem w4_eq (c : Dev nD) : V m c main_v4 = shapeCast S1x1024 (argG m c) shapeCasts_S1024_S1x1024 := by
  unfold V
  simp only [hostOps0, StableHlo.reshape]
  after_results <;> rfl

/-- The row of all rows that row `q` of point `n`'s tile is. -/
abbrev row (n : ℕ) (h : n < cfg0.N) (q : Fin 1088) : Fin 69632 := ⟨n / 16 * 1088 + q, by have := lt_of_lt_of_eq h N_0; omega⟩

/-- A point's block of the tokens. -/
theorem blkX (c : Dev nD) (t : Fin cfg0.N) (q : Fin 1088) (j : Fin 1024) : (iblk m c 0 t (ix2 q j) : EReal) = argX m c (ix2 (row t.val t.isLt q) j) := by
  blk_ext [iblk, V, idx t]

/-- A point's block of the gates. -/
theorem blkD (c : Dev nD) (t : Fin cfg0.N) (q : Fin 1088) (j : Fin 128) : (iblk m c 1 t (ix2 q j) : EReal) = argD m c (ix2 (row t.val t.isLt q) j) := by
  blk_ext [iblk, V, idx t]

/-- The term of expert number `e`, zero past the last. -/
def term (c : Dev nD) (p : Fin 69632) (k : Fin 1024) (e : ℕ) : EReal :=
  if h : e < 16 then part (argX m c) (argD m c) (argA m c) (argB m c) (argW m c) p k ⟨e, h⟩ else 0

/-- The payload at a point's blocks adds that point's expert. -/
theorem step (c : Dev nD) (t : Fin cfg0.N) (X : FVec Ideal S1088x1024 .bf16) (ACC : FVec Ideal S1088x1024 .f32) (q : Fin 1088) (hX : ∀ j, (X (ix2 q j) : EReal) = argX m c (ix2 (row t.val t.isLt q) j)) (k : Fin 1024) :
    (k0_pay5 (F := Ideal) (grid0.coords t) X (iblk m c 2 t) (iblk m c 1 t) ACC (iblk m c 3 t) (ix2 q k) : EReal)
      = ACC (ix2 q k) + term m c (row t.val t.isLt q) k (t.val % 16) := by
  have ht : t.val % 16 < 16 := Nat.mod_lt _ (by decide)
  unfold term
  rw [dif_pos ht]
  refine pay5_at _ _ _ _ _ _ _ _ _ _ _ ⟨t.val % 16, ht⟩ (coord t).2 q _ hX (blkD m c t q) ?_ ?_ ?_ k
  · intro j f
    have e : (iblk m c 2 t (ix3 0 j ⟨f, by omega⟩) : EReal) = V m c main_v1 (ix3 ⟨t.val % 16, ht⟩ j ⟨f, by omega⟩) := by blk_ext [iblk, idx t]
    rw [e, w1_eq]; pointwise
  · intro j f
    have e : (iblk m c 2 t (ix3 0 j ⟨256 + f, by omega⟩) : EReal) = V m c main_v1 (ix3 ⟨t.val % 16, ht⟩ j ⟨256 + f, by omega⟩) := by blk_ext [iblk, idx t]
    rw [e, w1_eq]; pointwise
  · intro f k
    have e : (iblk m c 3 t (ix3 0 f k) : EReal) = V m c main_v2 (ix3 ⟨t.val % 16, ht⟩ f k) := by blk_ext [iblk, idx t]
    rw [e, w2_eq]; pointwise

/-- After the first point of a tile the second scratch holds the tile's tokens. -/
theorem copy_first (c : Dev nD) (t : Fin cfg0.N) (h : t.val % 16 = 0) (q : Fin 1088) (j : Fin 1024) : ((outsAt0 m c t.val t.isLt).2.2 (ix2 q j) : EReal) = argX m c (ix2 (row t.val t.isLt q) j) := by
  refine Eq.trans (b := (k0_pay3 (F := Ideal) (iblk m c 0 t) (ix2 q j) : EReal)) ?_ ?_
  · rw [outsAt0_A m c t h (by omega)]; frame_out
  · pointwise [k0_pay3]
    exact blkX m c t q j

/-- After every point the second scratch holds the tile's tokens. -/
theorem copy (c : Dev nD) : ∀ (n : ℕ) (h : n < cfg0.N) (q : Fin 1088) (j : Fin 1024), ((outsAt0 m c n h).2.2 (ix2 q j) : EReal) = argX m c (ix2 (row n h q) j) := by
  intro n
  induction n with
  | zero =>
    intro h q j
    exact copy_first m c ⟨0, h⟩ rfl q j
  | succ n ih =>
    intro h q j
    by_cases h0 : (n + 1) % 16 = 0
    · exact copy_first m c ⟨n + 1, h⟩ h0 q j
    · have hr : row (n + 1) h q = row n (by omega) q := Fin.ext (by simp only []; omega)
      rw [hr]
      refine Eq.trans ?_ (ih (by omega) q j)
      by_cases h1 : (n + 1) % 16 = 15
      · rw [outsAt0_C m c ⟨n + 1, h⟩ h0 h1]; rfl
      · rw [outsAt0_B m c ⟨n + 1, h⟩ h0 h1]; rfl

/-- After the first point of a tile the accumulator holds the first expert's terms. -/
theorem accum_first (c : Dev nD) (t : Fin cfg0.N) (h : t.val % 16 = 0) (q : Fin 1088) (k : Fin 1024) : ((outsAt0 m c t.val t.isLt).2.1 (ix2 q k) : EReal)
    = ∑ e ∈ Finset.range (t.val % 16 + 1), term m c (row t.val t.isLt q) k e := by
  refine Eq.trans (b := (k0_pay5 (F := Ideal) (grid0.coords t) (k0_pay3 (iblk m c 0 t)) (iblk m c 2 t) (iblk m c 1 t) (k0_pay4 (F := Ideal)) (iblk m c 3 t) (ix2 q k) : EReal)) ?_ ?_
  · rw [outsAt0_A m c t h (by omega)]; frame_out
  · rw [step m c t _ _ q (fun j => by pointwise [k0_pay3]; exact blkX m c t q j) k]
    have hz : (k0_pay4 (F := Ideal) (ix2 q k) : EReal) = 0 := by pointwise [k0_pay4]
    rw [hz, zero_add, h, Finset.sum_range_one]

/-- After a point the accumulator holds the terms of the experts so far. -/
theorem accum (c : Dev nD) : ∀ (n : ℕ) (h : n < cfg0.N) (q : Fin 1088) (k : Fin 1024), ((outsAt0 m c n h).2.1 (ix2 q k) : EReal)
    = ∑ e ∈ Finset.range (n % 16 + 1), term m c (row n h q) k e := by
  intro n
  induction n with
  | zero =>
    intro h q k
    exact accum_first m c ⟨0, h⟩ rfl q k
  | succ n ih =>
    intro h q k
    by_cases h0 : (n + 1) % 16 = 0
    · exact accum_first m c ⟨n + 1, h⟩ h0 q k
    have hn : n < cfg0.N := by omega
    have hr : row (n + 1) h q = row n hn q := Fin.ext (by simp only []; omega)
    have hm : (n + 1) % 16 = n % 16 + 1 := by omega
    refine Eq.trans (b := (k0_pay5 (F := Ideal) (grid0.coords ⟨n + 1, h⟩) (outsAt0 m c n hn).2.2 (iblk m c 2 ⟨n + 1, h⟩) (iblk m c 1 ⟨n + 1, h⟩) (outsAt0 m c n hn).2.1 (iblk m c 3 ⟨n + 1, h⟩) (ix2 q k) : EReal)) ?_ ?_
    · by_cases h1 : (n + 1) % 16 = 15
      · rw [outsAt0_C m c ⟨n + 1, h⟩ h0 h1]; frame_out
        simp only [read_unread_whole]; rfl
      · rw [outsAt0_B m c ⟨n + 1, h⟩ h0 h1]; frame_out
        simp only [read_unread_whole]; rfl
    · refine (step m c ⟨n + 1, h⟩ _ _ q (fun j => (copy m c n hn q j).trans (congrArg (fun z => argX m c (ix2 z j)) hr.symm)) k).trans ?_
      show _ + term m c (row (n + 1) h q) k ((n + 1) % 16) = _
      rw [ih hn q k, hr, hm, ← Finset.sum_range_succ]

/-- The reference's result of the launched arguments. -/
def ref (c : Dev nD) : FVec Ideal S69632x1024 .f32 :=
  refM (refN (refD (refZ (argX m c) (refY (argX m c) (argD m c) (argA m c) (argB m c) (argW m c)))) (argS m c) (argG m c))

/-- After the last point of a tile the accumulator holds the reference's sum over the experts. -/
theorem summed (c : Dev nD) (t : Fin cfg0.N) (h15 : t.val % 16 = 15) (h0 : ∀ i j, (0 : EReal) ≤ argD m c (ix2 i j)) (h1 : ∀ i j, (argD m c (ix2 i j) : EReal) ≠ ⊤) (q : Fin 1088) (k : Fin 1024) :
    ((outsAt0 m c t.val t.isLt).2.1 (ix2 q k) : EReal) = refY (argX m c) (argD m c) (argA m c) (argB m c) (argW m c) (ix2 (row t.val t.isLt q) k) := by
  rw [accum m c t.val t.isLt q k, refY_at _ _ _ _ _ h0 h1, h15, Finset.sum_range]
  refine Finset.sum_congr rfl fun e _ => ?_
  unfold term
  exact dif_pos e.isLt

/-- What the last point of a tile writes is the reference, where the gates are finite and not negative. -/
theorem point (c : Dev nD) (t : Fin cfg0.N) (h15 : t.val % 16 = 15) (h0 : ∀ i j, (0 : EReal) ≤ argD m c (ix2 i j)) (h1 : ∀ i j, (argD m c (ix2 i j) : EReal) ≠ ⊤) (q : Fin 1088) (k : Fin 1024) :
    ((outsAt0 m c t.val t.isLt).1 (ix2 q k) : EReal) = ref m c (ix2 (row t.val t.isLt q) k) := by
  have ht : t.val < 1024 := lt_of_lt_of_eq t.isLt N_0
  have hs : ((outsAt0 m c t.val t.isLt).1 (ix2 q k) : EReal) = k0_pay1 (k0_pay2 (iblk m c 0 t) (outsAt0 m c t.val t.isLt).2.1 (iblk m c 4 t) (iblk m c 5 t)) (tile (BitVec.ofNat 32 ((grid0.coords t) 0).val)) 1088#32 (ix2 q k) := by
    rw [outsAt0_C m c t (by omega) h15]; frame_out
    rfl
  rw [hs, (coord t).1]
  refine (pay1_at _ ⟨t.val / 16, by omega⟩ q k).trans ?_
  unfold ref
  rw [refM_at, pay2_eq]
  have hb : ((⟨t.val / 16, by omega⟩ : Fin 64) : ℕ) % 4 * 1088 + q = (row t.val t.isLt q : ℕ) % 4352 := by simp only []; omega
  rw [hb]
  refine congrArg (fun z : EReal => Scalar.select (bit _) z 0) ?_
  refine normed _ _ _ _ _ _ _ _ (fun j => centred _ _ _ _ (fun j => ?_) j) ?_ ?_ _
  · pointwise [kerZ, refZ]
    exact Ideal.add_congr (Ideal.mul_congr rfl (blkX m c t q j)) (summed m c t h15 h0 h1 q j)
  · intro j
    have e : (iblk m c 4 t (ix2 0 j) : EReal) = V m c main_v3 (ix2 0 j) := by blk_ext [iblk, idx t]
    rw [e, w3_eq]; pointwise
  · intro j
    have e : (iblk m c 5 t (ix2 0 j) : EReal) = V m c main_v4 (ix2 0 j) := by blk_ext [iblk, idx t]
    rw [e, w4_eq]; pointwise

/-- The result after the run is the reference's, where the gates are finite and not negative. -/
theorem final (c : Dev nD) (h0 : ∀ i j, (0 : EReal) ≤ argD m c (ix2 i j)) (h1 : ∀ i j, (argD m c (ix2 i j) : EReal) ≠ ⊤) : (dats m 0 c).arrAt 6 (cfgs 0).N = ref m c := by
  refine (dats m 0 c).arrAt_eq_of_covers 6 _ (by decide +kernel) fun t hf y => ?_
  blk_simp
  have ht : t.val < 1024 := lt_of_lt_of_eq t.isLt N_0
  have h15 : t.val % 16 = 15 := (flush0_6 t).mp hf
  idx_vars y
  have e : ((cfg0.win 6).blk t).view.emb (ix2 y0 y1) = ix2 (row t.val t.isLt y0) y1 := by blk_ext [idx t]
  rw [after0_6, e]
  exact point m c t h15 h0 h1 y0 y1

/-- The precondition says the gates are finite and not negative. -/
theorem gates (X : FVec Ideal S69632x1024 .f32) (D : FVec Ideal S69632x128 .f32) (A B : FVec Ideal S16x1024x256 .f32) (W : FVec Ideal S16x256x1024 .f32) (S G : FVec Ideal S1024 .f32)
    [Cert.Pre_moe_prompt_ok.Facts] (h : Cert.Pre_moe_prompt_ok.fn (F := Ideal) X D A B W S G = fun _ => 1#1) (i : Fin 69632) (j : Fin 128) : (0 : EReal) ≤ D (ix2 i j) ∧ (D (ix2 i j) : EReal) ≠ ⊤ := by
  have h' := congrFun h ix0
  unfold Cert.Pre_moe_prompt_ok.fn at h'
  have h2 := Host.reduce_andi_all _ _ _ _ _ h' (ix2 i j)
  obtain ⟨ha, hb⟩ := IntOp.andi_eq_one.1 h2
  have ha' : Ideal.cmp .oge (D (ix2 i j)) (Ideal.ofBits .f32 0x00000000#32) = 1 := ha
  have hb' : Ideal.cmp .olt (D (ix2 i j)) (Ideal.ofBits .f32 0x7F800000#32) = 1 := hb
  rw [Ideal.cmp_oge_eq_one, Ideal.ofBits_zero_f32] at ha'
  rw [Ideal.cmp_olt_eq_one] at hb'
  exact ⟨ha', ne_top_of_lt hb'⟩

end Cert.MoePromptIdeal.Value

end
-- ==== Proof.OutPromptV.lean ====
/- The output projection, for the prompts and its layer norm: each row block is the reference's rows there. -/
module

public import proofs.«01_k».proof.Proof.Gen.OutPromptIdeal.Value
public import proofs.«01_k».proof.Proof.Gen.OutPromptRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutPromptIdeal.Value

open Cert.OutPromptIdeal Cert.OutPromptIdeal.Gen

variable (m : (ℓ : Loc nD τ sig) → Buf (Elt Ideal) ℓ)

/-- What the reference normalizes: the scaled residual and the product of the joined heads with the weight. -/
def refZ (A B : FVec Ideal S69632x256 .f32) (C : FVec Ideal S69632x512 .f32) (X : FVec Ideal S69632x1024 .f32) (W : FVec Ideal S1024x1024 .f32) : FVec Ideal S69632x1024 .f32 :=
  addf (mulf (broadcastInDim Cert.OutPromptRefIdeal.S69632x1024 ![] Cert.OutPromptRefIdeal.Gen.bcast_S_S69632x1024 (constant Cert.OutPromptRefIdeal.S_ .f32 0x3FD744FD#32)) X) (Host.dotGeneral Cert.OutPromptRefIdeal.dot_S69632x1024_S1024x1024_S69632x1024_1_0_0_1_n_n none (concatenate Cert.OutPromptRefIdeal.S69632x1024 1 [⟨Cert.OutPromptRefIdeal.S69632x256, A⟩, ⟨Cert.OutPromptRefIdeal.S69632x256, B⟩, ⟨Cert.OutPromptRefIdeal.S69632x512, C⟩] Cert.OutPromptRefIdeal.Gen.concatenates_S69632x256_S69632x256_S69632x512_S69632x1024_d1) W)

/-- An array less its row means, as the reference computes it. -/
def refD (Z : FVec Ideal S69632x1024 .f32) : FVec Ideal S69632x1024 .f32 :=
  subf Z (broadcastInDim Cert.OutPromptRefIdeal.S69632x1024 ![0, 1] Cert.OutPromptRefIdeal.Gen.bcast_S69632x1_S69632x1024_0_1 (Host.divf (broadcastInDim Cert.OutPromptRefIdeal.S69632x1 ![0] Cert.OutPromptRefIdeal.Gen.bcast_S69632_S69632x1_0 (Host.reduceAdd Z (constant Cert.OutPromptRefIdeal.S_ .f32 0x00000000#32) Cert.OutPromptRefIdeal.Gen.reducesTo_S69632x1024_S69632_d1 Cert.OutPromptRefIdeal.Gen.h_S_)) (broadcastInDim Cert.OutPromptRefIdeal.S69632x1 ![] Cert.OutPromptRefIdeal.Gen.bcast_S_S69632x1 (constant Cert.OutPromptRefIdeal.S_ .f32 0x44800000#32))))

/-- The layer norm of centred rows `D`, as the reference computes it. -/
def refN (D : FVec Ideal S69632x1024 .f32) (S B : FVec Ideal S1024 .f32) : FVec Ideal S69632x1024 .f32 :=
  addf (mulf (mulf D (broadcastInDim Cert.OutPromptRefIdeal.S69632x1024 ![0, 1] Cert.OutPromptRefIdeal.Gen.bcast_S69632x1_S69632x1024_0_1 (Host.rsqrt (addf (Host.divf (broadcastInDim Cert.OutPromptRefIdeal.S69632x1 ![0] Cert.OutPromptRefIdeal.Gen.bcast_S69632_S69632x1_0 (Host.reduceAdd (mulf D D) (constant Cert.OutPromptRefIdeal.S_ .f32 0x00000000#32) Cert.OutPromptRefIdeal.Gen.reducesTo_S69632x1024_S69632_d1 Cert.OutPromptRefIdeal.Gen.h_S_)) (broadcastInDim Cert.OutPromptRefIdeal.S69632x1 ![] Cert.OutPromptRefIdeal.Gen.bcast_S_S69632x1 (constant Cert.OutPromptRefIdeal.S_ .f32 0x44800000#32))) (broadcastInDim Cert.OutPromptRefIdeal.S69632x1 ![] Cert.OutPromptRefIdeal.Gen.bcast_S_S69632x1 (constant Cert.OutPromptRefIdeal.S_ .f32 0x3727C5AC#32)))))) (broadcastInDim Cert.OutPromptRefIdeal.S69632x1024 ![0, 1] Cert.OutPromptRefIdeal.Gen.bcast_S1x1024_S69632x1024_0_1 (broadcastInDim Cert.OutPromptRefIdeal.S1x1024 ![1] Cert.OutPromptRefIdeal.Gen.bcast_S1024_S1x1024_1 S))) (broadcastInDim Cert.OutPromptRefIdeal.S69632x1024 ![0, 1] Cert.OutPromptRefIdeal.Gen.bcast_S1x1024_S69632x1024_0_1 (broadcastInDim Cert.OutPromptRefIdeal.S1x1024 ![1] Cert.OutPromptRefIdeal.Gen.bcast_S1024_S1x1024_1 B))

/-- What the kernel normalizes, of its blocks. -/
def kerZ (P0 : FVec Ideal S272x256 .f32) (P1 : FVec Ideal S256x1024 .bf16) (P2 : FVec Ideal S272x256 .f32) (P3 : FVec Ideal S256x1024 .bf16) (P4 : FVec Ideal S272x512 .f32) (P5 : FVec Ideal S512x1024 .bf16) (P6 : FVec Ideal S272x1024 .f32) : FVec Ideal S272x1024 .f32 :=
  addf (mulf (broadcast S272x1024 (Scalar.ofBits .f32 0x3FD744FD#32 : Ideal .f32)) P6) (addf (addf (matmul dot_S272x256_S256x1024_S272x1024_1_0_0_1_n_n none (truncf .bf16 P0 bitsLt_bf16_f32) (shapeCast S256x1024 P1 shapeCasts_S256x1024_S256x1024) (constant S272x1024 .f32 0x00000000#32)) (matmul dot_S272x256_S256x1024_S272x1024_1_0_0_1_n_n none (truncf .bf16 P2 bitsLt_bf16_f32) (shapeCast S256x1024 P3 shapeCasts_S256x1024_S256x1024) (constant S272x1024 .f32 0x00000000#32))) (matmul dot_S272x512_S512x1024_S272x1024_1_0_0_1_n_n none (truncf .bf16 P4 bitsLt_bf16_f32) (shapeCast S512x1024 P5 shapeCasts_S512x1024_S512x1024) (constant S272x1024 .f32 0x00000000#32)))

/-- An array less its row means, as the kernel computes it. -/
def kerD (Z : FVec Ideal S272x1024 .f32) : FVec Ideal S272x1024 .f32 :=
  subf Z (broadcastTo S272x1024 (divf (shapeCast S272x1 (multiReduction .add [1] S272 Z 0x00000000#32 reduces_S272x1024_S272 (.inl rfl) rfl) shapeCasts_S272_S272x1) (broadcast S272x1 (Scalar.ofBits .f32 0x44800000#32 : Ideal .f32))) broadcasts_S272x1_S272x1024)

/-- The sum of the squares of each row, as the kernel computes it. -/
def kerV (D : FVec Ideal S272x1024 .f32) : FVec Ideal S272x1 .f32 :=
  shapeCast S272x1 (multiReduction .add [1] S272 (mulf D D) 0x00000000#32 reduces_S272x1024_S272 (.inl rfl) rfl) shapeCasts_S272_S272x1

/-- The mask of the rows: an array where the row of its stream is a token, zero elsewhere, as the reference computes it. -/
def refM (N : FVec Ideal S69632x1024 .f32) : FVec Ideal S69632x1024 .f32 :=
  shapeCast _ (select (broadcastInDim Cert.OutPromptRefIdeal.S16x4352x1024 ![0, 1, 2] Cert.OutPromptRefIdeal.Gen.bcast_S1x4352x1_S16x4352x1024_0_1_2 (broadcastInDim Cert.OutPromptRefIdeal.S1x4352x1 ![1] Cert.OutPromptRefIdeal.Gen.bcast_S4352_S1x4352x1_1 (andi (cmpi .sge (iotaInDim Cert.OutPromptRefIdeal.S4352 32 0) (broadcastInDim Cert.OutPromptRefIdeal.S4352 ![] Cert.OutPromptRefIdeal.Gen.bcast_S_S4352 (constantI Cert.OutPromptRefIdeal.S_ 32 48#32))) (cmpi .slt (iotaInDim Cert.OutPromptRefIdeal.S4352 32 0) (broadcastInDim Cert.OutPromptRefIdeal.S4352 ![] Cert.OutPromptRefIdeal.Gen.bcast_S_S4352 (constantI Cert.OutPromptRefIdeal.S_ 32 4160#32)))))) (shapeCast Cert.OutPromptRefIdeal.S16x4352x1024 N Cert.OutPromptRefIdeal.Gen.shapeCasts_S69632x1024_S16x4352x1024) (broadcastInDim Cert.OutPromptRefIdeal.S16x4352x1024 ![] Cert.OutPromptRefIdeal.Gen.bcast_S_S16x4352x1024 (constant Cert.OutPromptRefIdeal.S_ .f32 0x00000000#32))) Cert.OutPromptRefIdeal.Gen.shapeCasts_S16x4352x1024_S69632x1024

/-- Whether row `p` of a stream is a token: the bit both programs select by. -/
def bit (p : ℕ) : BitVec 1 := IntOp.andi (IntOp.cmpi .sge (BitVec.ofNat 32 p) 48#32) (IntOp.cmpi .slt (BitVec.ofNat 32 p) 4160#32)

/-- The reference's mask of one entry. -/
theorem refM_at (N : FVec Ideal S69632x1024 .f32) (p : Fin 69632) (k : Fin 1024) : (refM N (ix2 p k) : EReal) = Scalar.select (bit (p % 4352)) (N (ix2 p k) : EReal) 0 := by
  pointwise [refM, bit]

/-- The layer norm of centred rows `D` whose squares sum to `V`, as the kernel computes it. -/
def kerN (s b : FVec Ideal S1x1024 .f32) (D : FVec Ideal S272x1024 .f32) (V : FVec Ideal S272x1 .f32) : FVec Ideal S272x1024 .f32 :=
  addf (mulf (mulf D (broadcastTo S272x1024 (rsqrt (addf (divf V (broadcast S272x1 (Scalar.ofBits .f32 0x44800000#32 : Ideal .f32))) (broadcast S272x1 (Scalar.ofBits .f32 0x3727C5AC#32 : Ideal .f32)))) broadcasts_S272x1_S272x1024)) (broadcastTo S272x1024 s broadcasts_S1x1024_S272x1024)) (broadcastTo S272x1024 b broadcasts_S1x1024_S272x1024)

/-- The tile of a stream that a tile of all rows is, as the kernel computes it. -/
def tile (a : BitVec 32) : BitVec 32 :=
  Scalar.select (Scalar.andi (Scalar.xori (Scalar.cmpi .slt (Scalar.remsi a (Scalar.select (Scalar.cmpi .eq 16#32 0#32) 1#32 16#32)) 0#32) (Scalar.cmpi .slt (Scalar.select (Scalar.cmpi .eq 16#32 0#32) 1#32 16#32) 0#32)) (Scalar.cmpi .ne (Scalar.remsi a (Scalar.select (Scalar.cmpi .eq 16#32 0#32) 1#32 16#32)) 0#32))
    (Scalar.addi (Scalar.remsi a (Scalar.select (Scalar.cmpi .eq 16#32 0#32) 1#32 16#32)) (Scalar.select (Scalar.cmpi .eq 16#32 0#32) 1#32 16#32)) (Scalar.remsi a (Scalar.select (Scalar.cmpi .eq 16#32 0#32) 1#32 16#32))

/-- The first row of a tile in its stream. -/
theorem tile_at : ∀ i : Fin 256, Scalar.muli (tile (BitVec.ofNat 32 i)) 272#32 = BitVec.ofNat 32 (i % 16 * 272) := by decide +kernel

/-- The kernel's last payload at one entry: the norm where the row of its stream is a token, zero elsewhere. -/
theorem pay1_at (i : Fin 256) (s b : FVec Ideal S1x1024 .f32) (D : FVec Ideal S272x1024 .f32) (V : FVec Ideal S272x1 .f32) (r : Fin 272) (k : Fin 1024) :
    (k0_pay1 (BitVec.ofNat 32 i) s b D V (ix2 r k) : EReal) = Scalar.select (bit (i % 16 * 272 + r)) (kerN s b D V (ix2 r k) : EReal) 0 := by
  have e : IntOp.addi (Scalar.muli (tile (BitVec.ofNat 32 i)) 272#32) (BitVec.ofNat 32 r) = BitVec.ofNat 32 (i % 16 * 272 + r) := by
    rw [tile_at]; exact (BitVec.ofNat_add ..).symm
  rw [bit, ← e]
  pointwise [k0_pay1, kerN, tile]

/-- Centring a row is the same on both sides, where the rows agree. -/
theorem centred (Z : FVec Ideal S272x1024 .f32) (Z' : FVec Ideal S69632x1024 .f32) (r : Fin 272) (q : Fin 69632)
    (h : ∀ j, (Z (ix2 r j) : EReal) = Z' (ix2 q j)) (k : Fin 1024) : (kerD Z (ix2 r k) : EReal) = refD Z' (ix2 q k) := by
  pointwise [kerD, refD]
  simp only [h]

/-- The layer norm of a row is the same on both sides, where the centred rows and the parameters agree. -/
theorem normed (D : FVec Ideal S272x1024 .f32) (D' : FVec Ideal S69632x1024 .f32) (s b : FVec Ideal S1x1024 .f32) (s' b' : FVec Ideal S1024 .f32) (r : Fin 272) (q : Fin 69632)
    (h : ∀ j, (D (ix2 r j) : EReal) = D' (ix2 q j)) (hs : ∀ j : Fin 1024, (s (ix2 0 j) : EReal) = s' (ix1 j)) (hb : ∀ j : Fin 1024, (b (ix2 0 j) : EReal) = b' (ix1 j)) (k : Fin 1024) :
    (kerN (k0_pay2 s) (k0_pay3 b) D (kerV D) (ix2 r k) : EReal) = refN D' s' b' (ix2 q k) := by
  pointwise [kerN, k0_pay2, k0_pay3, kerV, refN]
  simp only [h, hs, hb]

/-- A sum over 1024 as its first 256 terms, the next 256 and the last 69632. -/
theorem sum_three (f : Fin 1024 → EReal) : ∑ x, f x = (∑ x : Fin 256, f ⟨x, by omega⟩ + ∑ x : Fin 256, f ⟨256 + x, by omega⟩) + ∑ x : Fin 512, f ⟨512 + x, by omega⟩ := by
  refine (Fin.sum_univ_add (a := 512) (b := 512) f).trans (Ideal.add_congr ?_ rfl)
  exact Fin.sum_univ_add (a := 256) (b := 256) fun i => f (Fin.castAdd 512 i)

/-- The products of a row: the three parts of the joined axis sum to the whole. -/
theorem summed (P0 : FVec Ideal S272x256 .f32) (P1 : FVec Ideal S256x1024 .bf16) (P2 : FVec Ideal S272x256 .f32) (P3 : FVec Ideal S256x1024 .bf16) (P4 : FVec Ideal S272x512 .f32) (P5 : FVec Ideal S512x1024 .bf16) (P6 : FVec Ideal S272x1024 .f32)
    (A B : FVec Ideal S69632x256 .f32) (C : FVec Ideal S69632x512 .f32) (X : FVec Ideal S69632x1024 .f32) (W : FVec Ideal S1024x1024 .f32) (r : Fin 272) (q : Fin 69632)
    (h0 : ∀ j, (P0 (ix2 r j) : EReal) = A (ix2 q j)) (h2 : ∀ j, (P2 (ix2 r j) : EReal) = B (ix2 q j)) (h4 : ∀ j, (P4 (ix2 r j) : EReal) = C (ix2 q j)) (h6 : ∀ j, (P6 (ix2 r j) : EReal) = X (ix2 q j))
    (h1 : ∀ (i : Fin 256) (j : Fin 1024), (P1 (ix2 i j) : EReal) = W (ix2 ⟨i, by omega⟩ j)) (h3 : ∀ (i : Fin 256) (j : Fin 1024), (P3 (ix2 i j) : EReal) = W (ix2 ⟨256 + i, by omega⟩ j)) (h5 : ∀ (i : Fin 512) (j : Fin 1024), (P5 (ix2 i j) : EReal) = W (ix2 ⟨512 + i, by omega⟩ j))
    (k : Fin 1024) : (kerZ P0 P1 P2 P3 P4 P5 P6 (ix2 r k) : EReal) = refZ A B C X W (ix2 q k) := by
  pointwise [kerZ, refZ]
  simp only [h0, h1, h2, h3, h4, h5, h6]
  rw [sum_three]
  refine Ideal.add_congr rfl (Ideal.add_congr (Ideal.add_congr ?_ ?_) ?_)
  · refine Finset.sum_congr rfl fun x _ => ?_
    rw [dif_pos (show ((⟨x, by omega⟩ : Fin 1024) : ℕ) < 256 from x.isLt)]
  · refine Finset.sum_congr rfl fun x _ => ?_
    have a : ¬ ((⟨256 + x, by omega⟩ : Fin 1024) : ℕ) < 256 := by simp only []; omega
    have b : ((⟨256 + x, by omega⟩ : Fin 1024) : ℕ) - 256 < 256 := by simp only []; omega
    rw [dif_neg a, dif_pos b]
    refine congrArg (fun z => (B (ix2 q z) : EReal) * _) (Fin.ext ?_)
    simp only []; omega
  · refine Finset.sum_congr rfl fun x _ => ?_
    have a : ¬ ((⟨512 + x, by omega⟩ : Fin 1024) : ℕ) < 256 := by simp only []; omega
    have b : ¬ ((⟨512 + x, by omega⟩ : Fin 1024) : ℕ) - 256 < 256 := by simp only []; omega
    rw [dif_neg a, dif_neg b]
    refine congrArg (fun z => (C (ix2 q z) : EReal) * _) (Fin.ext ?_)
    simp only []; omega

/-- The index maps: a row block of the tokens, the whole of each weight. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- The tile of a point is its number. -/
theorem coord : ∀ t : Fin cfg0.N, ((grid0.coords t) 0).val = t.val := (by decide +kernel : ∀ t : Fin grid0.N, _)

/-- The first heads, as launched. -/
abbrev argA (c : Dev nD) : FVec Ideal S69632x256 .f32 := m ((c : Thread nD τ).loc main_arg0)

/-- The second heads, as launched. -/
abbrev argB (c : Dev nD) : FVec Ideal S69632x256 .f32 := m ((c : Thread nD τ).loc main_arg1)

/-- The third heads, as launched. -/
abbrev argC (c : Dev nD) : FVec Ideal S69632x512 .f32 := m ((c : Thread nD τ).loc main_arg2)

/-- The residual, as launched. -/
abbrev argX (c : Dev nD) : FVec Ideal S69632x1024 .f32 := m ((c : Thread nD τ).loc main_arg3)

/-- The weight, as launched. -/
abbrev argW (c : Dev nD) : FVec Ideal S1024x1024 .f32 := m ((c : Thread nD τ).loc main_arg4)

/-- The norm's scale, as launched. -/
abbrev argS (c : Dev nD) : FVec Ideal S1024 .f32 := m ((c : Thread nD τ).loc main_arg5)

/-- The norm's shift, as launched. -/
abbrev argG (c : Dev nD) : FVec Ideal S1024 .f32 := m ((c : Thread nD τ).loc main_arg6)

/-- The reference's result of the launched arguments. -/
def ref (c : Dev nD) : FVec Ideal S69632x1024 .f32 :=
  refM (refN (refD (refZ (argA m c) (argB m c) (argC m c) (argX m c) (argW m c))) (argS m c) (argG m c))

/-- The reference's printed result, named. -/
theorem ref_eq (m' : (ℓ : Loc Cert.OutPromptRefIdeal.nD Cert.OutPromptRefIdeal.τ Cert.OutPromptRefIdeal.sig) → Buf (Elt Ideal) ℓ) (c : Dev Cert.OutPromptRefIdeal.nD) :
    Cert.OutPromptRefIdeal.Value.res_main_v38 m' c = refM (refN (refD (refZ (m' ((c.tc : Thread Cert.OutPromptRefIdeal.nD Cert.OutPromptRefIdeal.τ).loc Cert.OutPromptRefIdeal.main_arg0))
      (m' ((c.tc : Thread Cert.OutPromptRefIdeal.nD Cert.OutPromptRefIdeal.τ).loc Cert.OutPromptRefIdeal.main_arg1))
      (m' ((c.tc : Thread Cert.OutPromptRefIdeal.nD Cert.OutPromptRefIdeal.τ).loc Cert.OutPromptRefIdeal.main_arg2))
      (m' ((c.tc : Thread Cert.OutPromptRefIdeal.nD Cert.OutPromptRefIdeal.τ).loc Cert.OutPromptRefIdeal.main_arg3))
      (m' ((c.tc : Thread Cert.OutPromptRefIdeal.nD Cert.OutPromptRefIdeal.τ).loc Cert.OutPromptRefIdeal.main_arg4))))
      (m' ((c.tc : Thread Cert.OutPromptRefIdeal.nD Cert.OutPromptRefIdeal.τ).loc Cert.OutPromptRefIdeal.main_arg5))
      (m' ((c.tc : Thread Cert.OutPromptRefIdeal.nD Cert.OutPromptRefIdeal.τ).loc Cert.OutPromptRefIdeal.main_arg6))) := rfl

/-- The first rows of the weight, as the call finds them. -/
theorem w0_eq (c : Dev nD) : V m c main_v1 = truncf .bf16 (extractStridedSlice S256x1024 ![0, 0] (argW m c) slices_S1024x1024_S256x1024_0_0) bitsLt_bf16_f32 := by
  unfold V
  simp only [hostOps0, StableHlo.reshape]
  after_results <;> rfl

/-- The second rows of the weight, as the call finds them. -/
theorem w1_eq (c : Dev nD) : V m c main_v3 = truncf .bf16 (extractStridedSlice S256x1024 ![256, 0] (argW m c) slices_S1024x1024_S256x1024_256_0) bitsLt_bf16_f32 := by
  unfold V
  simp only [hostOps0, StableHlo.reshape]
  after_results <;> rfl

/-- The third rows of the weight, as the call finds them. -/
theorem w2_eq (c : Dev nD) : V m c main_v5 = truncf .bf16 (extractStridedSlice S512x1024 ![512, 0] (argW m c) slices_S1024x1024_S512x1024_512_0) bitsLt_bf16_f32 := by
  unfold V
  simp only [hostOps0, StableHlo.reshape]
  after_results <;> rfl

/-- A parameter of the norm as one row, as the call finds it. -/
theorem w3_eq (c : Dev nD) : V m c main_v6 = shapeCast S1x1024 (argS m c) shapeCasts_S1024_S1x1024 := by
  unfold V
  simp only [hostOps0, StableHlo.reshape]
  after_results <;> rfl

/-- A parameter of the norm as one row, as the call finds it. -/
theorem w4_eq (c : Dev nD) : V m c main_v7 = shapeCast S1x1024 (argG m c) shapeCasts_S1024_S1x1024 := by
  unfold V
  simp only [hostOps0, StableHlo.reshape]
  after_results <;> rfl

/-- What a point writes is the reference there. -/
theorem point (c : Dev nD) (t : Fin cfg0.N) (y) :
    k0_pay1 (BitVec.ofNat 32 ((grid0.coords t) 0).val) (k0_pay2 (iblk m c 7 t)) (k0_pay3 (iblk m c 8 t)) (kerD (kerZ (iblk m c 0 t) (iblk m c 4 t) (iblk m c 1 t) (iblk m c 5 t) (iblk m c 2 t) (iblk m c 6 t) (iblk m c 3 t))) (kerV (kerD (kerZ (iblk m c 0 t) (iblk m c 4 t) (iblk m c 1 t) (iblk m c 5 t) (iblk m c 2 t) (iblk m c 6 t) (iblk m c 3 t)))) y
    = ref m c (((cfg0.win 9).blk t).view.emb y) := by
  have ht : t.val < 256 := lt_of_lt_of_eq t.isLt N_0
  idx_vars y
  have e : ((cfg0.win 9).blk t).view.emb (ix2 y0 y1) = ix2 ⟨t.val * 272 + y0, by omega⟩ y1 := by blk_ext [idx t]
  rw [e, coord t]
  refine (pay1_at ⟨t.val, ht⟩ _ _ _ _ y0 y1).trans ?_
  unfold ref
  rw [refM_at]
  have hb : ((⟨t.val, ht⟩ : Fin 256) : ℕ) % 16 * 272 + y0 = ((⟨t.val * 272 + y0, by omega⟩ : Fin 69632) : ℕ) % 4352 := by simp only []; omega
  rw [hb]
  refine congrArg (fun z : EReal => Scalar.select (bit _) z 0) ?_
  refine normed _ _ _ _ _ _ _ _ (fun j => centred _ _ _ _ (fun j => summed _ _ _ _ _ _ _ _ _ _ _ _ _ _ ?_ ?_ ?_ ?_ ?_ ?_ ?_ j) j) ?_ ?_ _
  · exact fun j => by blk_ext [iblk, V, idx t]
  · exact fun j => by blk_ext [iblk, V, idx t]
  · exact fun j => by blk_ext [iblk, V, idx t]
  · exact fun j => by blk_ext [iblk, V, idx t]
  · intro i j
    have e : (iblk m c 4 t (ix2 i j) : EReal) = V m c main_v1 (ix2 i j) := by blk_ext [iblk, idx t]
    rw [e, w0_eq]; pointwise
  · intro i j
    have e : (iblk m c 5 t (ix2 i j) : EReal) = V m c main_v3 (ix2 i j) := by blk_ext [iblk, idx t]
    rw [e, w1_eq]; pointwise
  · intro i j
    have e : (iblk m c 6 t (ix2 i j) : EReal) = V m c main_v5 (ix2 i j) := by blk_ext [iblk, idx t]
    rw [e, w2_eq]; pointwise
  · intro j
    have e : (iblk m c 7 t (ix2 0 j) : EReal) = V m c main_v6 (ix2 0 j) := by blk_ext [iblk, idx t]
    rw [e, w3_eq]; pointwise
  · intro j
    have e : (iblk m c 8 t (ix2 0 j) : EReal) = V m c main_v7 (ix2 0 j) := by blk_ext [iblk, idx t]
    rw [e, w4_eq]; pointwise

/-- The result after the run is the reference's. -/
theorem final (c : Dev nD) : (dats m 0 c).arrAt 9 (cfgs 0).N = ref m c := by
  refine (dats m 0 c).arrAt_eq_of_covers 9 _ (by decide +kernel) fun t _ y => ?_
  blk_simp
  rw [after0_9]; frame_out
  exact point m c t y

end Cert.OutPromptIdeal.Value

end
-- ==== Proof.lean ====
/- The proof of the certificate: each program runs and leaves its arguments and counters as they were, and each kernel call gives what its reference gives. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.AttnV
public import proofs.«01_k».proof.Proof.Gen.Moe.Frame
public import proofs.«01_k».proof.Proof.Gen.MoeIdeal.Frame
public import proofs.«01_k».proof.Proof.Gen.MoeIdeal.Value
public import proofs.«01_k».proof.Proof.Gen.MoeRefIdeal.Run
public import proofs.«01_k».proof.Proof.MoeV
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.ProjV
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.OutV
public import proofs.«01_k».proof.Proof.Gen.Prep.Frame
public import proofs.«01_k».proof.Proof.Gen.PrepIdeal.Frame
public import proofs.«01_k».proof.Proof.Gen.PrepRefIdeal.Run
public import proofs.«01_k».proof.Proof.PrepV
public import proofs.«01_k».proof.Proof.Gen.Past.Frame
public import proofs.«01_k».proof.Proof.Gen.PastIdeal.Frame
public import proofs.«01_k».proof.Proof.Gen.PastRefIdeal.Run
public import proofs.«01_k».proof.Proof.PastV
public import proofs.«01_k».proof.Proof.Gen.Dsa.Frame
public import proofs.«01_k».proof.Proof.Gen.DsaIdeal.Frame
public import proofs.«01_k».proof.Proof.Gen.DsaRefIdeal.Run
public import proofs.«01_k».proof.Proof.DsaV
public import proofs.«01_k».proof.Proof.Gen.DsaPrompt.Frame
public import proofs.«01_k».proof.Proof.Gen.DsaPromptIdeal.Frame
public import proofs.«01_k».proof.Proof.Gen.DsaPromptRefIdeal.Run
public import proofs.«01_k».proof.Proof.DsaPromptV
public import proofs.«01_k».proof.Proof.Gen.PrepPrompt.Frame
public import proofs.«01_k».proof.Proof.Gen.PrepPromptIdeal.Frame
public import proofs.«01_k».proof.Proof.Gen.PrepPromptRefIdeal.Run
public import proofs.«01_k».proof.Proof.PrepPromptV
public import proofs.«01_k».proof.Proof.Gen.ProjPrompt.Frame
public import proofs.«01_k».proof.Proof.Gen.ProjPromptIdeal.Frame
public import proofs.«01_k».proof.Proof.Gen.ProjPromptRefIdeal.Run
public import proofs.«01_k».proof.Proof.ProjPromptV
public import proofs.«01_k».proof.Proof.Gen.MoePrompt.Frame
public import proofs.«01_k».proof.Proof.Gen.MoePromptIdeal.Frame
public import proofs.«01_k».proof.Proof.Gen.MoePromptIdeal.Value
public import proofs.«01_k».proof.Proof.Gen.MoePromptRefIdeal.Run
public import proofs.«01_k».proof.Proof.MoePromptV
public import proofs.«01_k».proof.Proof.Gen.OutPrompt.Frame
public import proofs.«01_k».proof.Proof.Gen.OutPromptIdeal.Frame
public import proofs.«01_k».proof.Proof.Gen.OutPromptIdeal.Value
public import proofs.«01_k».proof.Proof.Gen.OutPromptRefIdeal.Run
public import proofs.«01_k».proof.Proof.OutPromptV
public import proofs.«01_k».proof.Proof.Gen.Pre_attn_ok
public import proofs.«01_k».proof.Proof.Gen.Pre_moe_ok
public import proofs.«01_k».proof.Proof.Gen.Pre_dsa_ok
public import proofs.«01_k».proof.Proof.Gen.Pre_dsa_prompt_ok
public import proofs.«01_k».proof.Proof.Gen.Pre_moe_prompt_ok
public import Idealize.ShloMosaic.Adequacy
public import Idealize.ShloMosaic.Init

@[expose] public section

noncomputable section

namespace Cert.Proof

open Idealize.ShloMosaic Idealize.SL.Sem

/-- The reference of the attention runs and leaves its arguments as they were; it has no counter. -/
theorem quietAttnRefIdeal (m : (ℓ : Loc Cert.AttnRefIdeal.nD Cert.AttnRefIdeal.τ Cert.AttnRefIdeal.sig) → Buf (Elt Ideal) ℓ) (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0) :=
  (θ_run Cert.AttnRefIdeal.defs _ _).mono (fun r h => ⟨fun c => (h c).2, sem_eq_zero_of_no_sems (by decide) r.2⟩) (Cert.AttnRefIdeal.Value.run m g)

/-- The attention: the kernel and the reference end with the same result. -/
theorem sameAttn : Cert.algebraic_AttnIdeal_AttnRefIdeal_pre_attn_ok := by
  intro m g m' g' hpre hag
  refine ⟨fun c => Cert.AttnIdeal.Value.ref m c, ?_, ?_⟩
  · refine (θ_run Cert.AttnIdeal.defs _ _).mono (fun r h c => ?_) (Cert.AttnIdeal.Value.run_blocks m g)
    obtain ⟨h0, h3⟩ := h c
    exact ⟨h0.trans (Cert.AttnIdeal.Value.final m c (hpre c)), h3⟩
  · refine (θ_run Cert.AttnRefIdeal.defs _ _).mono (fun r h c => ?_) (Cert.AttnRefIdeal.Value.run m' g')
    obtain ⟨h0, h3⟩ := h c
    obtain ⟨a0, a1, a2, a3, a4⟩ := hag c
    refine ⟨h0.trans ((Cert.AttnIdeal.Value.ref_eq m' c).trans ?_), h3⟩
    rw [a0, a1, a2, a3, a4]; rfl

/-- The reference of the routed experts runs and leaves its arguments as they were; it has no counter. -/
theorem quietMoeRefIdeal (m : (ℓ : Loc Cert.MoeRefIdeal.nD Cert.MoeRefIdeal.τ Cert.MoeRefIdeal.sig) → Buf (Elt Ideal) ℓ) (g : Dev Cert.MoeRefIdeal.nD → PrngReg) :
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0) :=
  (θ_run Cert.MoeRefIdeal.defs _ _).mono (fun r h => ⟨fun c => (h c).2, sem_eq_zero_of_no_sems (by decide) r.2⟩) (Cert.MoeRefIdeal.Value.run m g)

/-- The routed experts: the kernel and the reference end with the same result. -/
theorem sameMoe : Cert.algebraic_MoeIdeal_MoeRefIdeal_pre_moe_ok := by
  intro m g m' g' hpre hag
  refine ⟨fun c => Cert.MoeIdeal.Value.ref m c, ?_, ?_⟩
  · refine (θ_run Cert.MoeIdeal.defs _ _).mono (fun r h c => ?_) (Cert.MoeIdeal.Value.run_blocks m g)
    obtain ⟨h0, h3⟩ := h c
    have hg := Cert.MoeIdeal.Value.gates _ _ _ _ _ _ _ (hpre c)
    exact ⟨h0.trans (Cert.MoeIdeal.Value.final m c (fun i j => (hg i j).1) (fun i j => (hg i j).2)), h3⟩
  · refine (θ_run Cert.MoeRefIdeal.defs _ _).mono (fun r h c => ?_) (Cert.MoeRefIdeal.Value.run m' g')
    obtain ⟨h0, h3⟩ := h c
    obtain ⟨a0, a1, a2, a3, a4, a5, a6⟩ := hag c
    refine ⟨h0.trans ((Cert.MoeIdeal.Value.ref_eq m' c).trans ?_), h3⟩
    rw [a0, a1, a2, a3, a4, a5, a6]; rfl

/-- The reference of the input projection runs and leaves its arguments as they were; it has no counter. -/
theorem quietProjRefIdeal (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0) :=
  (θ_run Cert.ProjRefIdeal.defs _ _).mono (fun r h => ⟨fun c => (h c).2.2.2, sem_eq_zero_of_no_sems (by decide) r.2⟩) (Cert.ProjRefIdeal.Value.run m g)

/-- The input projection: the kernel and the reference end with the same result. -/
theorem sameProj : Cert.algebraic_ProjIdeal_ProjRefIdeal := by
  intro m g m' g' _ hag
  refine ⟨fun c => Cert.ProjIdeal.Value.refA (Cert.ProjIdeal.Value.argX m c) (Cert.ProjIdeal.Value.argW m c), fun c => Cert.ProjIdeal.Value.refB (Cert.ProjIdeal.Value.argX m c) (Cert.ProjIdeal.Value.argW m c),
    fun c => Cert.ProjIdeal.Value.refC (Cert.ProjIdeal.Value.argX m c) (Cert.ProjIdeal.Value.argW m c), ?_, ?_⟩
  · refine (θ_run Cert.ProjIdeal.defs _ _).mono (fun r h c => ?_) (Cert.ProjIdeal.Value.run_blocks m g)
    obtain ⟨h0, h1, h2, h3⟩ := h c
    exact ⟨h0.trans (Cert.ProjIdeal.Value.finalA m c), h1.trans (Cert.ProjIdeal.Value.finalB m c), h2.trans (Cert.ProjIdeal.Value.finalC m c), h3⟩
  · refine (θ_run Cert.ProjRefIdeal.defs _ _).mono (fun r h c => ?_) (Cert.ProjRefIdeal.Value.run m' g')
    obtain ⟨h0, h1, h2, h3⟩ := h c
    obtain ⟨a0, a1⟩ := hag c
    refine ⟨h0.trans ?_, h1.trans ?_, h2.trans ?_, h3⟩
    · rw [a0, a1]; rfl
    · rw [a0, a1]; rfl
    · rw [a0, a1]; rfl

/-- The reference of the output projection runs and leaves its arguments as they were; it has no counter. -/
theorem quietOutRefIdeal (m : (ℓ : Loc Cert.OutRefIdeal.nD Cert.OutRefIdeal.τ Cert.OutRefIdeal.sig) → Buf (Elt Ideal) ℓ) (g : Dev Cert.OutRefIdeal.nD → PrngReg) :
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0) :=
  (θ_run Cert.OutRefIdeal.defs _ _).mono (fun r h => ⟨fun c => (h c).2, sem_eq_zero_of_no_sems (by decide) r.2⟩) (Cert.OutRefIdeal.Value.run m g)

/-- The output projection: the kernel and the reference end with the same result. -/
theorem sameOut : Cert.algebraic_OutIdeal_OutRefIdeal := by
  intro m g m' g' _ hag
  refine ⟨fun c => Cert.OutIdeal.Value.ref m c, ?_, ?_⟩
  · refine (θ_run Cert.OutIdeal.defs _ _).mono (fun r h c => ?_) (Cert.OutIdeal.Value.run_blocks m g)
    obtain ⟨h0, h3⟩ := h c
    exact ⟨h0.trans (Cert.OutIdeal.Value.final m c), h3⟩
  · refine (θ_run Cert.OutRefIdeal.defs _ _).mono (fun r h c => ?_) (Cert.OutRefIdeal.Value.run m' g')
    obtain ⟨h0, h3⟩ := h c
    obtain ⟨a0, a1, a2, a3, a4, a5, a6⟩ := hag c
    refine ⟨h0.trans ((Cert.OutIdeal.Value.ref_eq m' c).trans ?_), h3⟩
    rw [a0, a1, a2, a3, a4, a5, a6]; rfl

/-- The reference of the preparation of the latent attention runs and leaves its arguments as they were; it has no counter. -/
theorem quietPrepRefIdeal (m : (ℓ : Loc Cert.PrepRefIdeal.nD Cert.PrepRefIdeal.τ Cert.PrepRefIdeal.sig) → Buf (Elt Ideal) ℓ) (g : Dev Cert.PrepRefIdeal.nD → PrngReg) :
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0) :=
  (θ_run Cert.PrepRefIdeal.defs _ _).mono (fun r h => ⟨fun c => (h c).2.2.2.2.2, sem_eq_zero_of_no_sems (by decide) r.2⟩) (Cert.PrepRefIdeal.Value.run m g)

/-- The preparation of the latent attention: the kernel and the reference end with the same result. -/
theorem samePrep : Cert.algebraic_PrepIdeal_PrepRefIdeal := by
  intro m g m' g' _ hag
  refine ⟨fun c => Cert.PrepRefIdeal.R.ref0 (Cert.PrepIdeal.Value.arg0 m c) (Cert.PrepIdeal.Value.arg1 m c) (Cert.PrepIdeal.Value.arg3 m c),
    fun c => Cert.PrepRefIdeal.R.ref1 (Cert.PrepIdeal.Value.arg0 m c) (Cert.PrepIdeal.Value.arg2 m c) (Cert.PrepIdeal.Value.arg4 m c),
    fun c => Cert.PrepRefIdeal.R.ref2 (Cert.PrepIdeal.Value.arg0 m c) (Cert.PrepIdeal.Value.arg2 m c) (Cert.PrepIdeal.Value.arg4 m c),
    fun c => Cert.PrepRefIdeal.R.cn (Cert.PrepIdeal.Value.arg0 m c) (Cert.PrepIdeal.Value.arg2 m c),
    fun c => Cert.PrepRefIdeal.R.ref4 (Cert.PrepIdeal.Value.arg0 m c), ?_, ?_⟩
  · refine (θ_run Cert.PrepIdeal.defs _ _).mono (fun r h c => ?_) (Cert.PrepIdeal.Value.run_blocks m g)
    obtain ⟨h0, h1, h2, h3, h4, hz⟩ := h c
    exact ⟨h0.trans (Cert.PrepIdeal.Value.final8 m c),
      h1.trans (Cert.PrepIdeal.Value.final9 m c),
      h2.trans (Cert.PrepIdeal.Value.final10 m c),
      h3.trans (Cert.PrepIdeal.Value.final11 m c),
      h4.trans (Cert.PrepIdeal.Value.final12 m c), hz⟩
  · refine (θ_run Cert.PrepRefIdeal.defs _ _).mono (fun r h c => ?_) (Cert.PrepRefIdeal.Value.run m' g')
    obtain ⟨h0, h1, h2, h3, h4, hz⟩ := h c
    obtain ⟨a0, a1, a2, a3, a4⟩ := hag c
    refine ⟨h0.trans ?_, h1.trans ?_, h2.trans ?_, h3.trans ?_, h4.trans ?_, hz⟩
    · refine Eq.trans (b := Cert.PrepRefIdeal.R.ref0 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg1)) (m' ((c.tc : Thread Cert.PrepRefIdeal.nD Cert.PrepRefIdeal.τ).loc Cert.PrepRefIdeal.main_arg3))) rfl ?_
      rw [a0, a1, a3]
    · refine Eq.trans (b := Cert.PrepRefIdeal.R.ref1 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg2)) (m' ((c.tc : Thread Cert.PrepRefIdeal.nD Cert.PrepRefIdeal.τ).loc Cert.PrepRefIdeal.main_arg4))) rfl ?_
      rw [a0, a2, a4]
    · refine Eq.trans (b := Cert.PrepRefIdeal.R.ref2 (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg2)) (m' ((c.tc : Thread Cert.PrepRefIdeal.nD Cert.PrepRefIdeal.τ).loc Cert.PrepRefIdeal.main_arg4))) rfl ?_
      rw [a0, a2, a4]
    · refine Eq.trans (b := Cert.PrepRefIdeal.R.cn (m' ((c.tc : Thread Cert.PrepRefIdeal.nD Cert.PrepRefIdeal.τ).loc Cert.PrepRefIdeal.main_arg0)) (m' ((c.tc : Thread Cert.PrepRefIdeal.nD Cert.PrepRefIdeal.τ).loc Cert.PrepRefIdeal.main_arg2))) rfl ?_
      rw [a0, a2]
    · refine Eq.trans (b := Cert.PrepRefIdeal.R.ref4 (m' ((c.tc : Thread Cert.PrepRefIdeal.nD Cert.PrepRefIdeal.τ).loc Cert.PrepRefIdeal.main_arg0))) rfl ?_
      rw [a0]

/-- The reference of the latent attention's cached keys and values runs and leaves its arguments as they were; it has no counter. -/
theorem quietPastRefIdeal (m : (ℓ : Loc Cert.PastRefIdeal.nD Cert.PastRefIdeal.τ Cert.PastRefIdeal.sig) → Buf (Elt Ideal) ℓ) (g : Dev Cert.PastRefIdeal.nD → PrngReg) :
    θ_run (Cert.PastRefIdeal.defs (F := Ideal)) (onTc (τ := Cert.PastRefIdeal.τ) (Cert.PastRefIdeal.main (F := Ideal))) ⟨m, fun _ => 0, g⟩ (fun r => (∀ c : Dev Cert.PastRefIdeal.nD,
      r.2.mem ((c.tc : Thread Cert.PastRefIdeal.nD Cert.PastRefIdeal.τ).loc Cert.PastRefIdeal.main_arg0) = m ((c.tc : Thread Cert.PastRefIdeal.nD Cert.PastRefIdeal.τ).loc Cert.PastRefIdeal.main_arg0)
      ∧ r.2.mem ((c.tc : Thread Cert.PastRefIdeal.nD Cert.PastRefIdeal.τ).loc Cert.PastRefIdeal.main_arg1) = m ((c.tc : Thread Cert.PastRefIdeal.nD Cert.PastRefIdeal.τ).loc Cert.PastRefIdeal.main_arg1)
      ∧ r.2.mem ((c.tc : Thread Cert.PastRefIdeal.nD Cert.PastRefIdeal.τ).loc Cert.PastRefIdeal.main_arg2) = m ((c.tc : Thread Cert.PastRefIdeal.nD Cert.PastRefIdeal.τ).loc Cert.PastRefIdeal.main_arg2))
      ∧ r.2.sem = fun _ => 0) :=
  (θ_run Cert.PastRefIdeal.defs _ _).mono (fun r h => ⟨fun c => (h c).2.2, sem_eq_zero_of_no_sems (by decide) r.2⟩) (Cert.PastRefIdeal.Value.run m g)

/-- The latent attention's cached keys and values: the kernel and the reference end with the same result. -/
theorem samePast : Cert.algebraic_PastIdeal_PastRefIdeal := by
  intro m g m' g' _ hag
  refine ⟨fun c => Cert.PastRefIdeal.R.ref0 (Cert.PastIdeal.Value.arg0 m c) (Cert.PastIdeal.Value.arg1 m c) (Cert.PastIdeal.Value.arg2 m c),
    fun c => Cert.PastRefIdeal.R.ref1 (Cert.PastIdeal.Value.arg0 m c) (Cert.PastIdeal.Value.arg2 m c), ?_, ?_⟩
  · refine (θ_run Cert.PastIdeal.defs _ _).mono (fun r h c => ?_) (Cert.PastIdeal.Value.run_blocks m g)
    obtain ⟨h0, h1, hz⟩ := h c
    exact ⟨h0.trans (Cert.PastIdeal.Value.final4 m c),
      h1.trans (Cert.PastIdeal.Value.final5 m c), hz⟩
  · refine (θ_run Cert.PastRefIdeal.defs _ _).mono (fun r h c => ?_) (Cert.PastRefIdeal.Value.run m' g')
    obtain ⟨h0, h1, hz⟩ := h c
    obtain ⟨a0, a1, a2⟩ := hag c
    refine ⟨h0.trans ?_, h1.trans ?_, hz⟩
    · refine Eq.trans (b := Cert.PastRefIdeal.R.ref0 (m' ((c.tc : Thread Cert.PastRefIdeal.nD Cert.PastRefIdeal.τ).loc Cert.PastRefIdeal.main_arg0)) (m' ((c.tc : Thread Cert.PastRefIdeal.nD Cert.PastRefIdeal.τ).loc Cert.PastRefIdeal.main_arg1)) (m' ((c.tc : Thread Cert.PastRefIdeal.nD Cert.PastRefIdeal.τ).loc Cert.PastRefIdeal.main_arg2))) rfl ?_
      rw [a0, a1, a2]
    · refine Eq.trans (b := Cert.PastRefIdeal.R.ref1 (m' ((c.tc : Thread Cert.PastRefIdeal.nD Cert.PastRefIdeal.τ).loc Cert.PastRefIdeal.main_arg0)) (m' ((c.tc : Thread Cert.PastRefIdeal.nD Cert.PastRefIdeal.τ).loc Cert.PastRefIdeal.main_arg2))) rfl ?_
      rw [a0, a2]

/-- The reference of the preparation of the sparse attention runs and leaves its arguments as they were; it has no counter. -/
theorem quietDsaRefIdeal (m : (ℓ : Loc Cert.DsaRefIdeal.nD Cert.DsaRefIdeal.τ Cert.DsaRefIdeal.sig) → Buf (Elt Ideal) ℓ) (g : Dev Cert.DsaRefIdeal.nD → PrngReg) :
    θ_run (Cert.DsaRefIdeal.defs (F := Ideal)) (onTc (τ := Cert.DsaRefIdeal.τ) (Cert.DsaRefIdeal.main (F := Ideal))) ⟨m, fun _ => 0, g⟩ (fun r => (∀ c : Dev Cert.DsaRefIdeal.nD,
      r.2.mem ((c.tc : Thread Cert.DsaRefIdeal.nD Cert.DsaRefIdeal.τ).loc Cert.DsaRefIdeal.main_arg0) = m ((c.tc : Thread Cert.DsaRefIdeal.nD Cert.DsaRefIdeal.τ).loc Cert.DsaRefIdeal.main_arg0))
      ∧ r.2.sem = fun _ => 0) :=
  (θ_run Cert.DsaRefIdeal.defs _ _).mono (fun r h => ⟨fun c => (h c).2.2.2.2.2.2.2.2.2, sem_eq_zero_of_no_sems (by decide) r.2⟩) (Cert.DsaRefIdeal.Value.run m g)

/-- The preparation of the sparse attention: the kernel and the reference end with the same result. -/
theorem sameDsa : Cert.algebraic_DsaIdeal_DsaRefIdeal_pre_dsa_ok := by
  intro m g m' g' hpre hag
  refine ⟨fun c => Cert.DsaRefIdeal.R.rq (Cert.DsaIdeal.Value.arg0 m c),
    fun c => Cert.DsaRefIdeal.R.rk (Cert.DsaIdeal.Value.arg0 m c),
    fun c => Cert.DsaRefIdeal.R.rv (Cert.DsaIdeal.Value.arg0 m c),
    fun c => Cert.DsaRefIdeal.R.rqi (Cert.DsaIdeal.Value.arg0 m c),
    fun c => Cert.DsaRefIdeal.R.rki (Cert.DsaIdeal.Value.arg0 m c),
    fun c => Cert.DsaRefIdeal.R.rwi (Cert.DsaIdeal.Value.arg0 m c),
    fun c => Cert.DsaRefIdeal.R.rkf (Cert.DsaIdeal.Value.arg0 m c),
    fun c => Cert.DsaRefIdeal.R.rvf (Cert.DsaIdeal.Value.arg0 m c),
    fun c => Cert.DsaRefIdeal.R.rki (Cert.DsaIdeal.Value.arg0 m c), ?_, ?_⟩
  · refine (θ_run Cert.DsaIdeal.defs _ _).mono (fun r h c => ?_) (Cert.DsaIdeal.Value.run_blocks m g)
    obtain ⟨h0, h1, h2, h3, h4, h5, h6, h7, h8, hz⟩ := h c
    exact ⟨h0.trans (Cert.DsaIdeal.Value.final4 m c),
      h1.trans (Cert.DsaIdeal.Value.final5 m c),
      h2.trans (Cert.DsaIdeal.Value.final6 m c (hpre c)),
      h3.trans (Cert.DsaIdeal.Value.final7 m c),
      h4.trans (Cert.DsaIdeal.Value.final8 m c),
      h5.trans (Cert.DsaIdeal.Value.final9 m c),
      h6.trans (Cert.DsaIdeal.Value.final10 m c),
      h7.trans (Cert.DsaIdeal.Value.final11 m c (hpre c)),
      h8.trans (Cert.DsaIdeal.Value.final12 m c), hz⟩
  · refine (θ_run Cert.DsaRefIdeal.defs _ _).mono (fun r h c => ?_) (Cert.DsaRefIdeal.Value.run m' g')
    obtain ⟨h0, h1, h2, h3, h4, h5, h6, h7, h8, hz⟩ := h c
    have a0 := hag c
    refine ⟨h0.trans ?_, h1.trans ?_, h2.trans ?_, h3.trans ?_, h4.trans ?_, h5.trans ?_, h6.trans ?_, h7.trans ?_, h8.trans ?_, hz⟩
    · refine Eq.trans (b := Cert.DsaRefIdeal.R.rq (m' ((c.tc : Thread Cert.DsaRefIdeal.nD Cert.DsaRefIdeal.τ).loc Cert.DsaRefIdeal.main_arg0))) rfl ?_
      rw [a0]
    · refine Eq.trans (b := Cert.DsaRefIdeal.R.rk (m' ((c.tc : Thread Cert.DsaRefIdeal.nD Cert.DsaRefIdeal.τ).loc Cert.DsaRefIdeal.main_arg0))) rfl ?_
      rw [a0]
    · refine Eq.trans (b := Cert.DsaRefIdeal.R.rv (m' ((c.tc : Thread Cert.DsaRefIdeal.nD Cert.DsaRefIdeal.τ).loc Cert.DsaRefIdeal.main_arg0))) rfl ?_
      rw [a0]
    · refine Eq.trans (b := Cert.DsaRefIdeal.R.rqi (m' ((c.tc : Thread Cert.DsaRefIdeal.nD Cert.DsaRefIdeal.τ).loc Cert.DsaRefIdeal.main_arg0))) rfl ?_
      rw [a0]
    · refine Eq.trans (b := Cert.DsaRefIdeal.R.rki (m' ((c.tc : Thread Cert.DsaRefIdeal.nD Cert.DsaRefIdeal.τ).loc Cert.DsaRefIdeal.main_arg0))) rfl ?_
      rw [a0]
    · refine Eq.trans (b := Cert.DsaRefIdeal.R.rwi (m' ((c.tc : Thread Cert.DsaRefIdeal.nD Cert.DsaRefIdeal.τ).loc Cert.DsaRefIdeal.main_arg0))) rfl ?_
      rw [a0]
    · refine Eq.trans (b := Cert.DsaRefIdeal.R.rkf (m' ((c.tc : Thread Cert.DsaRefIdeal.nD Cert.DsaRefIdeal.τ).loc Cert.DsaRefIdeal.main_arg0))) rfl ?_
      rw [a0]
    · refine Eq.trans (b := Cert.DsaRefIdeal.R.rvf (m' ((c.tc : Thread Cert.DsaRefIdeal.nD Cert.DsaRefIdeal.τ).loc Cert.DsaRefIdeal.main_arg0))) rfl ?_
      rw [a0]
    · refine Eq.trans (b := Cert.DsaRefIdeal.R.rki (m' ((c.tc : Thread Cert.DsaRefIdeal.nD Cert.DsaRefIdeal.τ).loc Cert.DsaRefIdeal.main_arg0))) rfl ?_
      rw [a0]

/-- The reference of the preparation of the sparse attention for the prompts runs and leaves its arguments as they were; it has no counter. -/
theorem quietDsaPromptRefIdeal (m : (ℓ : Loc Cert.DsaPromptRefIdeal.nD Cert.DsaPromptRefIdeal.τ Cert.DsaPromptRefIdeal.sig) → Buf (Elt Ideal) ℓ) (g : Dev Cert.DsaPromptRefIdeal.nD → PrngReg) :
    θ_run (Cert.DsaPromptRefIdeal.defs (F := Ideal)) (onTc (τ := Cert.DsaPromptRefIdeal.τ) (Cert.DsaPromptRefIdeal.main (F := Ideal))) ⟨m, fun _ => 0, g⟩ (fun r => (∀ c : Dev Cert.DsaPromptRefIdeal.nD,
      r.2.mem ((c.tc : Thread Cert.DsaPromptRefIdeal.nD Cert.DsaPromptRefIdeal.τ).loc Cert.DsaPromptRefIdeal.main_arg0) = m ((c.tc : Thread Cert.DsaPromptRefIdeal.nD Cert.DsaPromptRefIdeal.τ).loc Cert.DsaPromptRefIdeal.main_arg0))
      ∧ r.2.sem = fun _ => 0) :=
  (θ_run Cert.DsaPromptRefIdeal.defs _ _).mono (fun r h => ⟨fun c => (h c).2.2.2.2.2.2.2.2.2, sem_eq_zero_of_no_sems (by decide) r.2⟩) (Cert.DsaPromptRefIdeal.Value.run m g)

/-- The preparation of the sparse attention for the prompts: the kernel and the reference end with the same result. -/
theorem sameDsaPrompt : Cert.algebraic_DsaPromptIdeal_DsaPromptRefIdeal_pre_dsa_prompt_ok := by
  intro m g m' g' hpre hag
  refine ⟨fun c => Cert.DsaPromptRefIdeal.R.rq (Cert.DsaPromptIdeal.Value.arg0 m c),
    fun c => Cert.DsaPromptRefIdeal.R.rk (Cert.DsaPromptIdeal.Value.arg0 m c),
    fun c => Cert.DsaPromptRefIdeal.R.rv (Cert.DsaPromptIdeal.Value.arg0 m c),
    fun c => Cert.DsaPromptRefIdeal.R.rqi (Cert.DsaPromptIdeal.Value.arg0 m c),
    fun c => Cert.DsaPromptRefIdeal.R.rkb (Cert.DsaPromptIdeal.Value.arg0 m c),
    fun c => Cert.DsaPromptRefIdeal.R.rwi (Cert.DsaPromptIdeal.Value.arg0 m c),
    fun c => Cert.DsaPromptRefIdeal.R.rkf (Cert.DsaPromptIdeal.Value.arg0 m c),
    fun c => Cert.DsaPromptRefIdeal.R.rvf (Cert.DsaPromptIdeal.Value.arg0 m c),
    fun c => Cert.DsaPromptRefIdeal.R.rki (Cert.DsaPromptIdeal.Value.arg0 m c), ?_, ?_⟩
  · refine (θ_run Cert.DsaPromptIdeal.defs _ _).mono (fun r h c => ?_) (Cert.DsaPromptIdeal.Value.run_blocks m g)
    obtain ⟨h0, h1, h2, h3, h4, h5, h6, h7, h8, hz⟩ := h c
    exact ⟨h0.trans (Cert.DsaPromptIdeal.Value.final4 m c),
      h1.trans (Cert.DsaPromptIdeal.Value.final5 m c),
      h2.trans (Cert.DsaPromptIdeal.Value.final6 m c (hpre c)),
      h3.trans (Cert.DsaPromptIdeal.Value.final7 m c),
      h4.trans (Cert.DsaPromptIdeal.Value.final8 m c),
      h5.trans (Cert.DsaPromptIdeal.Value.final9 m c),
      h6.trans (Cert.DsaPromptIdeal.Value.final10 m c),
      h7.trans (Cert.DsaPromptIdeal.Value.final11 m c (hpre c)),
      h8.trans (Cert.DsaPromptIdeal.Value.final12 m c), hz⟩
  · refine (θ_run Cert.DsaPromptRefIdeal.defs _ _).mono (fun r h c => ?_) (Cert.DsaPromptRefIdeal.Value.run m' g')
    obtain ⟨h0, h1, h2, h3, h4, h5, h6, h7, h8, hz⟩ := h c
    have a0 := hag c
    refine ⟨h0.trans ?_, h1.trans ?_, h2.trans ?_, h3.trans ?_, h4.trans ?_, h5.trans ?_, h6.trans ?_, h7.trans ?_, h8.trans ?_, hz⟩
    · refine Eq.trans (b := Cert.DsaPromptRefIdeal.R.rq (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rk (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rv (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rqi (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rkb (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rwi (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rkf (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rvf (m' ((c.tc : Thread Cert.DsaPromptRefIdeal.nD Cert.DsaPromptRefIdeal.τ).loc Cert.DsaPromptRefIdeal.main_arg0))) rfl ?_
      rw [a0]
    · refine Eq.trans (b := Cert.DsaPromptRefIdeal.R.rki (m' ((c.tc : Thread Cert.DsaPromptRefIdeal.nD Cert.DsaPromptRefIdeal.τ).loc Cert.DsaPromptRefIdeal.main_arg0))) rfl ?_
      rw [a0]

/-- The reference of the preparation of the latent attention for the prompts runs and leaves its arguments as they were; it has no counter. -/
theorem quietPrepPromptRefIdeal (m : (ℓ : Loc Cert.PrepPromptRefIdeal.nD Cert.PrepPromptRefIdeal.τ Cert.PrepPromptRefIdeal.sig) → Buf (Elt Ideal) ℓ) (g : Dev Cert.PrepPromptRefIdeal.nD → PrngReg) :
    θ_run (Cert.PrepPromptRefIdeal.defs (F := Ideal)) (onTc (τ := Cert.PrepPromptRefIdeal.τ) (Cert.PrepPromptRefIdeal.main (F := Ideal))) ⟨m, fun _ => 0, g⟩ (fun r => (∀ c : Dev Cert.PrepPromptRefIdeal.nD,
      r.2.mem ((c.tc : Thread Cert.PrepPromptRefIdeal.nD Cert.PrepPromptRefIdeal.τ).loc Cert.PrepPromptRefIdeal.main_arg0) = m ((c.tc : Thread Cert.PrepPromptRefIdeal.nD Cert.PrepPromptRefIdeal.τ).loc Cert.PrepPromptRefIdeal.main_arg0)
      ∧ r.2.mem ((c.tc : Thread Cert.PrepPromptRefIdeal.nD Cert.PrepPromptRefIdeal.τ).loc Cert.PrepPromptRefIdeal.main_arg1) = m ((c.tc : Thread Cert.PrepPromptRefIdeal.nD Cert.PrepPromptRefIdeal.τ).loc Cert.PrepPromptRefIdeal.main_arg1)
      ∧ r.2.mem ((c.tc : Thread Cert.PrepPromptRefIdeal.nD Cert.PrepPromptRefIdeal.τ).loc Cert.PrepPromptRefIdeal.main_arg2) = m ((c.tc : Thread Cert.PrepPromptRefIdeal.nD Cert.PrepPromptRefIdeal.τ).loc Cert.PrepPromptRefIdeal.main_arg2)
      ∧ r.2.mem ((c.tc : Thread Cert.PrepPromptRefIdeal.nD Cert.PrepPromptRefIdeal.τ).loc Cert.PrepPromptRefIdeal.main_arg3) = m ((c.tc : Thread Cert.PrepPromptRefIdeal.nD Cert.PrepPromptRefIdeal.τ).loc Cert.PrepPromptRefIdeal.main_arg3)
      ∧ r.2.mem ((c.tc : Thread Cert.PrepPromptRefIdeal.nD Cert.PrepPromptRefIdeal.τ).loc Cert.PrepPromptRefIdeal.main_arg4) = m ((c.tc : Thread Cert.PrepPromptRefIdeal.nD Cert.PrepPromptRefIdeal.τ).loc Cert.PrepPromptRefIdeal.main_arg4))
      ∧ r.2.sem = fun _ => 0) :=
  (θ_run Cert.PrepPromptRefIdeal.defs _ _).mono (fun r h => ⟨fun c => (h c).2.2.2.2.2, sem_eq_zero_of_no_sems (by decide) r.2⟩) (Cert.PrepPromptRefIdeal.Value.run m g)

/-- The preparation of the latent attention for the prompts: the kernel and the reference end with the same result. -/
theorem samePrepPrompt : Cert.algebraic_PrepPromptIdeal_PrepPromptRefIdeal := by
  intro m g m' g' _ hag
  refine ⟨fun c => Cert.PrepPromptRefIdeal.R.ref0 (Cert.PrepPromptIdeal.Value.arg0 m c) (Cert.PrepPromptIdeal.Value.arg1 m c) (Cert.PrepPromptIdeal.Value.arg3 m c),
    fun c => Cert.PrepPromptRefIdeal.R.ref1 (Cert.PrepPromptIdeal.Value.arg0 m c) (Cert.PrepPromptIdeal.Value.arg2 m c) (Cert.PrepPromptIdeal.Value.arg4 m c),
    fun c => Cert.PrepPromptRefIdeal.R.ref2 (Cert.PrepPromptIdeal.Value.arg0 m c) (Cert.PrepPromptIdeal.Value.arg2 m c) (Cert.PrepPromptIdeal.Value.arg4 m c),
    fun c => Cert.PrepPromptRefIdeal.R.cn (Cert.PrepPromptIdeal.Value.arg0 m c) (Cert.PrepPromptIdeal.Value.arg2 m c),
    fun c => Cert.PrepPromptRefIdeal.R.ref4 (Cert.PrepPromptIdeal.Value.arg0 m c), ?_, ?_⟩
  · refine (θ_run Cert.PrepPromptIdeal.defs _ _).mono (fun r h c => ?_) (Cert.PrepPromptIdeal.Value.run_blocks m g)
    obtain ⟨h0, h1, h2, h3, h4, hz⟩ := h c
    exact ⟨h0.trans (Cert.PrepPromptIdeal.Value.final8 m c),
      h1.trans (Cert.PrepPromptIdeal.Value.final9 m c),
      h2.trans (Cert.PrepPromptIdeal.Value.final10 m c),
      h3.trans (Cert.PrepPromptIdeal.Value.final11 m c),
      h4.trans (Cert.PrepPromptIdeal.Value.final12 m c), hz⟩
  · refine (θ_run Cert.PrepPromptRefIdeal.defs _ _).mono (fun r h c => ?_) (Cert.PrepPromptRefIdeal.Value.run m' g')
    obtain ⟨h0, h1, h2, h3, h4, hz⟩ := h c
    obtain ⟨a0, a1, a2, a3, a4⟩ := hag c
    refine ⟨h0.trans ?_, h1.trans ?_, h2.trans ?_, h3.trans ?_, h4.trans ?_, hz⟩
    · refine Eq.trans (b := Cert.PrepPromptRefIdeal.R.ref0 (m' ((c.tc : Thread Cert.PrepPromptRefIdeal.nD Cert.PrepPromptRefIdeal.τ).loc Cert.PrepPromptRefIdeal.main_arg0)) (m' ((c.tc : Thread Cert.PrepPromptRefIdeal.nD Cert.PrepPromptRefIdeal.τ).loc Cert.PrepPromptRefIdeal.main_arg1)) (m' ((c.tc : Thread Cert.PrepPromptRefIdeal.nD Cert.PrepPromptRefIdeal.τ).loc Cert.PrepPromptRefIdeal.main_arg3))) rfl ?_
      rw [a0, a1, a3]
    · refine Eq.trans (b := Cert.PrepPromptRefIdeal.R.ref1 (m' ((c.tc : Thread Cert.PrepPromptRefIdeal.nD Cert.PrepPromptRefIdeal.τ).loc Cert.PrepPromptRefIdeal.main_arg0)) (m' ((c.tc : Thread Cert.PrepPromptRefIdeal.nD Cert.PrepPromptRefIdeal.τ).loc Cert.PrepPromptRefIdeal.main_arg2)) (m' ((c.tc : Thread Cert.PrepPromptRefIdeal.nD Cert.PrepPromptRefIdeal.τ).loc Cert.PrepPromptRefIdeal.main_arg4))) rfl ?_
      rw [a0, a2, a4]
    · refine Eq.trans (b := Cert.PrepPromptRefIdeal.R.ref2 (m' ((c.tc : Thread Cert.PrepPromptRefIdeal.nD Cert.PrepPromptRefIdeal.τ).loc Cert.PrepPromptRefIdeal.main_arg0)) (m' ((c.tc : Thread Cert.PrepPromptRefIdeal.nD Cert.PrepPromptRefIdeal.τ).loc Cert.PrepPromptRefIdeal.main_arg2)) (m' ((c.tc : Thread Cert.PrepPromptRefIdeal.nD Cert.PrepPromptRefIdeal.τ).loc Cert.PrepPromptRefIdeal.main_arg4))) rfl ?_
      rw [a0, a2, a4]
    · refine Eq.trans (b := Cert.PrepPromptRefIdeal.R.cn (m' ((c.tc : Thread Cert.PrepPromptRefIdeal.nD Cert.PrepPromptRefIdeal.τ).loc Cert.PrepPromptRefIdeal.main_arg0)) (m' ((c.tc : Thread Cert.PrepPromptRefIdeal.nD Cert.PrepPromptRefIdeal.τ).loc Cert.PrepPromptRefIdeal.main_arg2))) rfl ?_
      rw [a0, a2]
    · refine Eq.trans (b := Cert.PrepPromptRefIdeal.R.ref4 (m' ((c.tc : Thread Cert.PrepPromptRefIdeal.nD Cert.PrepPromptRefIdeal.τ).loc Cert.PrepPromptRefIdeal.main_arg0))) rfl ?_
      rw [a0]

/-- The reference of the input projection for the prompts runs and leaves its arguments as they were; it has no counter. -/
theorem quietProjPromptRefIdeal (m : (ℓ : Loc Cert.ProjPromptRefIdeal.nD Cert.ProjPromptRefIdeal.τ Cert.ProjPromptRefIdeal.sig) → Buf (Elt Ideal) ℓ) (g : Dev Cert.ProjPromptRefIdeal.nD → PrngReg) :
    θ_run (Cert.ProjPromptRefIdeal.defs (F := Ideal)) (onTc (τ := Cert.ProjPromptRefIdeal.τ) (Cert.ProjPromptRefIdeal.main (F := Ideal))) ⟨m, fun _ => 0, g⟩ (fun r => (∀ c : Dev Cert.ProjPromptRefIdeal.nD,
      r.2.mem ((c.tc : Thread Cert.ProjPromptRefIdeal.nD Cert.ProjPromptRefIdeal.τ).loc Cert.ProjPromptRefIdeal.main_arg0) = m ((c.tc : Thread Cert.ProjPromptRefIdeal.nD Cert.ProjPromptRefIdeal.τ).loc Cert.ProjPromptRefIdeal.main_arg0)
      ∧ r.2.mem ((c.tc : Thread Cert.ProjPromptRefIdeal.nD Cert.ProjPromptRefIdeal.τ).loc Cert.ProjPromptRefIdeal.main_arg1) = m ((c.tc : Thread Cert.ProjPromptRefIdeal.nD Cert.ProjPromptRefIdeal.τ).loc Cert.ProjPromptRefIdeal.main_arg1))
      ∧ r.2.sem = fun _ => 0) :=
  (θ_run Cert.ProjPromptRefIdeal.defs _ _).mono (fun r h => ⟨fun c => (h c).2.2.2, sem_eq_zero_of_no_sems (by decide) r.2⟩) (Cert.ProjPromptRefIdeal.Value.run m g)

/-- The input projection for the prompts: the kernel and the reference end with the same result. -/
theorem sameProjPrompt : Cert.algebraic_ProjPromptIdeal_ProjPromptRefIdeal := by
  intro m g m' g' _ hag
  refine ⟨fun c => Cert.ProjPromptIdeal.Value.refA (Cert.ProjPromptIdeal.Value.argX m c) (Cert.ProjPromptIdeal.Value.argW m c), fun c => Cert.ProjPromptIdeal.Value.refB (Cert.ProjPromptIdeal.Value.argX m c) (Cert.ProjPromptIdeal.Value.argW m c),
    fun c => Cert.ProjPromptIdeal.Value.refC (Cert.ProjPromptIdeal.Value.argX m c) (Cert.ProjPromptIdeal.Value.argW m c), ?_, ?_⟩
  · refine (θ_run Cert.ProjPromptIdeal.defs _ _).mono (fun r h c => ?_) (Cert.ProjPromptIdeal.Value.run_blocks m g)
    obtain ⟨h0, h1, h2, h3⟩ := h c
    exact ⟨h0.trans (Cert.ProjPromptIdeal.Value.finalA m c), h1.trans (Cert.ProjPromptIdeal.Value.finalB m c), h2.trans (Cert.ProjPromptIdeal.Value.finalC m c), h3⟩
  · refine (θ_run Cert.ProjPromptRefIdeal.defs _ _).mono (fun r h c => ?_) (Cert.ProjPromptRefIdeal.Value.run m' g')
    obtain ⟨h0, h1, h2, h3⟩ := h c
    obtain ⟨a0, a1⟩ := hag c
    refine ⟨h0.trans ?_, h1.trans ?_, h2.trans ?_, h3⟩
    · rw [a0, a1]; rfl
    · rw [a0, a1]; rfl
    · rw [a0, a1]; rfl

/-- The reference of the routed experts for the prompts runs and leaves its arguments as they were; it has no counter. -/
theorem quietMoePromptRefIdeal (m : (ℓ : Loc Cert.MoePromptRefIdeal.nD Cert.MoePromptRefIdeal.τ Cert.MoePromptRefIdeal.sig) → Buf (Elt Ideal) ℓ) (g : Dev Cert.MoePromptRefIdeal.nD → PrngReg) :
    θ_run (Cert.MoePromptRefIdeal.defs (F := Ideal)) (onTc (τ := Cert.MoePromptRefIdeal.τ) (Cert.MoePromptRefIdeal.main (F := Ideal))) ⟨m, fun _ => 0, g⟩ (fun r => (∀ c : Dev Cert.MoePromptRefIdeal.nD,
      r.2.mem ((c.tc : Thread Cert.MoePromptRefIdeal.nD Cert.MoePromptRefIdeal.τ).loc Cert.MoePromptRefIdeal.main_arg0) = m ((c.tc : Thread Cert.MoePromptRefIdeal.nD Cert.MoePromptRefIdeal.τ).loc Cert.MoePromptRefIdeal.main_arg0)
      ∧ r.2.mem ((c.tc : Thread Cert.MoePromptRefIdeal.nD Cert.MoePromptRefIdeal.τ).loc Cert.MoePromptRefIdeal.main_arg1) = m ((c.tc : Thread Cert.MoePromptRefIdeal.nD Cert.MoePromptRefIdeal.τ).loc Cert.MoePromptRefIdeal.main_arg1)
      ∧ r.2.mem ((c.tc : Thread Cert.MoePromptRefIdeal.nD Cert.MoePromptRefIdeal.τ).loc Cert.MoePromptRefIdeal.main_arg2) = m ((c.tc : Thread Cert.MoePromptRefIdeal.nD Cert.MoePromptRefIdeal.τ).loc Cert.MoePromptRefIdeal.main_arg2)
      ∧ r.2.mem ((c.tc : Thread Cert.MoePromptRefIdeal.nD Cert.MoePromptRefIdeal.τ).loc Cert.MoePromptRefIdeal.main_arg3) = m ((c.tc : Thread Cert.MoePromptRefIdeal.nD Cert.MoePromptRefIdeal.τ).loc Cert.MoePromptRefIdeal.main_arg3)
      ∧ r.2.mem ((c.tc : Thread Cert.MoePromptRefIdeal.nD Cert.MoePromptRefIdeal.τ).loc Cert.MoePromptRefIdeal.main_arg4) = m ((c.tc : Thread Cert.MoePromptRefIdeal.nD Cert.MoePromptRefIdeal.τ).loc Cert.MoePromptRefIdeal.main_arg4)
      ∧ r.2.mem ((c.tc : Thread Cert.MoePromptRefIdeal.nD Cert.MoePromptRefIdeal.τ).loc Cert.MoePromptRefIdeal.main_arg5) = m ((c.tc : Thread Cert.MoePromptRefIdeal.nD Cert.MoePromptRefIdeal.τ).loc Cert.MoePromptRefIdeal.main_arg5)
      ∧ r.2.mem ((c.tc : Thread Cert.MoePromptRefIdeal.nD Cert.MoePromptRefIdeal.τ).loc Cert.MoePromptRefIdeal.main_arg6) = m ((c.tc : Thread Cert.MoePromptRefIdeal.nD Cert.MoePromptRefIdeal.τ).loc Cert.MoePromptRefIdeal.main_arg6))
      ∧ r.2.sem = fun _ => 0) :=
  (θ_run Cert.MoePromptRefIdeal.defs _ _).mono (fun r h => ⟨fun c => (h c).2, sem_eq_zero_of_no_sems (by decide) r.2⟩) (Cert.MoePromptRefIdeal.Value.run m g)

/-- The routed experts for the prompts: the kernel and the reference end with the same result. -/
theorem sameMoePrompt : Cert.algebraic_MoePromptIdeal_MoePromptRefIdeal_pre_moe_prompt_ok := by
  intro m g m' g' hpre hag
  refine ⟨fun c => Cert.MoePromptIdeal.Value.ref m c, ?_, ?_⟩
  · refine (θ_run Cert.MoePromptIdeal.defs _ _).mono (fun r h c => ?_) (Cert.MoePromptIdeal.Value.run_blocks m g)
    obtain ⟨h0, h3⟩ := h c
    have hg := Cert.MoePromptIdeal.Value.gates _ _ _ _ _ _ _ (hpre c)
    exact ⟨h0.trans (Cert.MoePromptIdeal.Value.final m c (fun i j => (hg i j).1) (fun i j => (hg i j).2)), h3⟩
  · refine (θ_run Cert.MoePromptRefIdeal.defs _ _).mono (fun r h c => ?_) (Cert.MoePromptRefIdeal.Value.run m' g')
    obtain ⟨h0, h3⟩ := h c
    obtain ⟨a0, a1, a2, a3, a4, a5, a6⟩ := hag c
    refine ⟨h0.trans ((Cert.MoePromptIdeal.Value.ref_eq m' c).trans ?_), h3⟩
    rw [a0, a1, a2, a3, a4, a5, a6]; rfl

/-- The reference of the output projection for the prompts runs and leaves its arguments as they were; it has no counter. -/
theorem quietOutPromptRefIdeal (m : (ℓ : Loc Cert.OutPromptRefIdeal.nD Cert.OutPromptRefIdeal.τ Cert.OutPromptRefIdeal.sig) → Buf (Elt Ideal) ℓ) (g : Dev Cert.OutPromptRefIdeal.nD → PrngReg) :
    θ_run (Cert.OutPromptRefIdeal.defs (F := Ideal)) (onTc (τ := Cert.OutPromptRefIdeal.τ) (Cert.OutPromptRefIdeal.main (F := Ideal))) ⟨m, fun _ => 0, g⟩ (fun r => (∀ c : Dev Cert.OutPromptRefIdeal.nD,
      r.2.mem ((c.tc : Thread Cert.OutPromptRefIdeal.nD Cert.OutPromptRefIdeal.τ).loc Cert.OutPromptRefIdeal.main_arg0) = m ((c.tc : Thread Cert.OutPromptRefIdeal.nD Cert.OutPromptRefIdeal.τ).loc Cert.OutPromptRefIdeal.main_arg0)
      ∧ r.2.mem ((c.tc : Thread Cert.OutPromptRefIdeal.nD Cert.OutPromptRefIdeal.τ).loc Cert.OutPromptRefIdeal.main_arg1) = m ((c.tc : Thread Cert.OutPromptRefIdeal.nD Cert.OutPromptRefIdeal.τ).loc Cert.OutPromptRefIdeal.main_arg1)
      ∧ r.2.mem ((c.tc : Thread Cert.OutPromptRefIdeal.nD Cert.OutPromptRefIdeal.τ).loc Cert.OutPromptRefIdeal.main_arg2) = m ((c.tc : Thread Cert.OutPromptRefIdeal.nD Cert.OutPromptRefIdeal.τ).loc Cert.OutPromptRefIdeal.main_arg2)
      ∧ r.2.mem ((c.tc : Thread Cert.OutPromptRefIdeal.nD Cert.OutPromptRefIdeal.τ).loc Cert.OutPromptRefIdeal.main_arg3) = m ((c.tc : Thread Cert.OutPromptRefIdeal.nD Cert.OutPromptRefIdeal.τ).loc Cert.OutPromptRefIdeal.main_arg3)
      ∧ r.2.mem ((c.tc : Thread Cert.OutPromptRefIdeal.nD Cert.OutPromptRefIdeal.τ).loc Cert.OutPromptRefIdeal.main_arg4) = m ((c.tc : Thread Cert.OutPromptRefIdeal.nD Cert.OutPromptRefIdeal.τ).loc Cert.OutPromptRefIdeal.main_arg4)
      ∧ r.2.mem ((c.tc : Thread Cert.OutPromptRefIdeal.nD Cert.OutPromptRefIdeal.τ).loc Cert.OutPromptRefIdeal.main_arg5) = m ((c.tc : Thread Cert.OutPromptRefIdeal.nD Cert.OutPromptRefIdeal.τ).loc Cert.OutPromptRefIdeal.main_arg5)
      ∧ r.2.mem ((c.tc : Thread Cert.OutPromptRefIdeal.nD Cert.OutPromptRefIdeal.τ).loc Cert.OutPromptRefIdeal.main_arg6) = m ((c.tc : Thread Cert.OutPromptRefIdeal.nD Cert.OutPromptRefIdeal.τ).loc Cert.OutPromptRefIdeal.main_arg6))
      ∧ r.2.sem = fun _ => 0) :=
  (θ_run Cert.OutPromptRefIdeal.defs _ _).mono (fun r h => ⟨fun c => (h c).2, sem_eq_zero_of_no_sems (by decide) r.2⟩) (Cert.OutPromptRefIdeal.Value.run m g)

/-- The output projection for the prompts: the kernel and the reference end with the same result. -/
theorem sameOutPrompt : Cert.algebraic_OutPromptIdeal_OutPromptRefIdeal := by
  intro m g m' g' _ hag
  refine ⟨fun c => Cert.OutPromptIdeal.Value.ref m c, ?_, ?_⟩
  · refine (θ_run Cert.OutPromptIdeal.defs _ _).mono (fun r h c => ?_) (Cert.OutPromptIdeal.Value.run_blocks m g)
    obtain ⟨h0, h3⟩ := h c
    exact ⟨h0.trans (Cert.OutPromptIdeal.Value.final m c), h3⟩
  · refine (θ_run Cert.OutPromptRefIdeal.defs _ _).mono (fun r h c => ?_) (Cert.OutPromptRefIdeal.Value.run m' g')
    obtain ⟨h0, h3⟩ := h c
    obtain ⟨a0, a1, a2, a3, a4, a5, a6⟩ := hag c
    refine ⟨h0.trans ((Cert.OutPromptIdeal.Value.ref_eq m' c).trans ?_), h3⟩
    rw [a0, a1, a2, a3, a4, a5, a6]; rfl

/-- The whole claim: the frames, then what the idealized programs rewrite (nothing), then the values. -/
theorem claim : Cert.Claim := ⟨Cert.Attn.Gen.facts, Cert.AttnIdeal.Gen.facts, Cert.AttnRefIdeal.Gen.facts, Cert.Moe.Gen.facts, Cert.MoeIdeal.Gen.facts, Cert.MoeRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Prep.Gen.facts, Cert.PrepIdeal.Gen.facts, Cert.PrepRefIdeal.Gen.facts, Cert.Past.Gen.facts, Cert.PastIdeal.Gen.facts, Cert.PastRefIdeal.Gen.facts, Cert.Dsa.Gen.facts, Cert.DsaIdeal.Gen.facts, Cert.DsaRefIdeal.Gen.facts, Cert.DsaPrompt.Gen.facts, Cert.DsaPromptIdeal.Gen.facts, Cert.DsaPromptRefIdeal.Gen.facts, Cert.PrepPrompt.Gen.facts, Cert.PrepPromptIdeal.Gen.facts, Cert.PrepPromptRefIdeal.Gen.facts, Cert.ProjPrompt.Gen.facts, Cert.ProjPromptIdeal.Gen.facts, Cert.ProjPromptRefIdeal.Gen.facts, Cert.MoePrompt.Gen.facts, Cert.MoePromptIdeal.Gen.facts, Cert.MoePromptRefIdeal.Gen.facts, Cert.OutPrompt.Gen.facts, Cert.OutPromptIdeal.Gen.facts, Cert.OutPromptRefIdeal.Gen.facts, Cert.Pre_attn_ok.Gen.facts, Cert.Pre_moe_ok.Gen.facts, Cert.Pre_dsa_ok.Gen.facts, Cert.Pre_dsa_prompt_ok.Gen.facts, Cert.Pre_moe_prompt_ok.Gen.facts,
  fun m g _ => Cert.Attn.Gen.frame m g,
  fun m g _ => Cert.AttnIdeal.Gen.frame m g,
  fun m g _ => Cert.AttnIdeal.Gen.frame m g,
  fun m g _ => quietAttnRefIdeal m g,
  fun m g _ => quietAttnRefIdeal m g,
  fun m g _ => Cert.Moe.Gen.frame m g,
  fun m g _ => Cert.MoeIdeal.Gen.frame m g,
  fun m g _ => Cert.MoeIdeal.Gen.frame m g,
  fun m g _ => quietMoeRefIdeal m g,
  fun m g _ => quietMoeRefIdeal m g,
  fun m g _ => Cert.Proj.Gen.frame m g,
  fun m g _ => Cert.ProjIdeal.Gen.frame m g,
  fun m g _ => quietProjRefIdeal m g,
  fun m g _ => Cert.Out.Gen.frame m g,
  fun m g _ => Cert.OutIdeal.Gen.frame m g,
  fun m g _ => quietOutRefIdeal m g,
  fun m g _ => Cert.Prep.Gen.frame m g,
  fun m g _ => Cert.PrepIdeal.Gen.frame m g,
  fun m g _ => quietPrepRefIdeal m g,
  fun m g _ => Cert.Past.Gen.frame m g,
  fun m g _ => Cert.PastIdeal.Gen.frame m g,
  fun m g _ => quietPastRefIdeal m g,
  fun m g _ => Cert.Dsa.Gen.frame m g,
  fun m g _ => Cert.DsaIdeal.Gen.frame m g,
  fun m g _ => Cert.DsaIdeal.Gen.frame m g,
  fun m g _ => quietDsaRefIdeal m g,
  fun m g _ => quietDsaRefIdeal m g,
  fun m g _ => Cert.DsaPrompt.Gen.frame m g,
  fun m g _ => Cert.DsaPromptIdeal.Gen.frame m g,
  fun m g _ => Cert.DsaPromptIdeal.Gen.frame m g,
  fun m g _ => quietDsaPromptRefIdeal m g,
  fun m g _ => quietDsaPromptRefIdeal m g,
  fun m g _ => Cert.PrepPrompt.Gen.frame m g,
  fun m g _ => Cert.PrepPromptIdeal.Gen.frame m g,
  fun m g _ => quietPrepPromptRefIdeal m g,
  fun m g _ => Cert.ProjPrompt.Gen.frame m g,
  fun m g _ => Cert.ProjPromptIdeal.Gen.frame m g,
  fun m g _ => quietProjPromptRefIdeal m g,
  fun m g _ => Cert.MoePrompt.Gen.frame m g,
  fun m g _ => Cert.MoePromptIdeal.Gen.frame m g,
  fun m g _ => Cert.MoePromptIdeal.Gen.frame m g,
  fun m g _ => quietMoePromptRefIdeal m g,
  fun m g _ => quietMoePromptRefIdeal m g,
  fun m g _ => Cert.OutPrompt.Gen.frame m g,
  fun m g _ => Cert.OutPromptIdeal.Gen.frame m g,
  fun m g _ => quietOutPromptRefIdeal m g,
  trivial,
  sameAttn,
  trivial,
  sameMoe,
  trivial,
  sameProj,
  trivial,
  sameOut,
  trivial,
  samePrep,
  trivial,
  samePast,
  trivial,
  sameDsa,
  trivial,
  sameDsaPrompt,
  trivial,
  samePrepPrompt,
  trivial,
  sameProjPrompt,
  trivial,
  sameMoePrompt,
  trivial,
  sameOutPrompt⟩

end Cert.Proof

end
